-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dff (m : (ℓ : Loc Cert.Dff.nD Cert.Dff.τ Cert.Dff.sig) → Buf (Elt Bits) ℓ) : Prop :=
  True

def Pre_DffIdeal (m : (ℓ : Loc Cert.DffIdeal.nD Cert.DffIdeal.τ Cert.DffIdeal.sig) → Buf (Elt Ideal) ℓ) : Prop :=
  True

def Pre_DffRefIdeal (m : (ℓ : Loc Cert.DffRefIdeal.nD Cert.DffRefIdeal.τ Cert.DffRefIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_DhMlp (m : (ℓ : Loc Cert.DhMlp.nD Cert.DhMlp.τ Cert.DhMlp.sig) → Buf (Elt Bits) ℓ) : Prop :=
  True

def Pre_DhMlpIdeal (m : (ℓ : Loc Cert.DhMlpIdeal.nD Cert.DhMlpIdeal.τ Cert.DhMlpIdeal.sig) → Buf (Elt Ideal) ℓ) : Prop :=
  True

def Pre_DhMlpRefIdeal (m : (ℓ : Loc Cert.DhMlpRefIdeal.nD Cert.DhMlpRefIdeal.τ Cert.DhMlpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DhMix (m : (ℓ : Loc Cert.DhMix.nD Cert.DhMix.τ Cert.DhMix.sig) → Buf (Elt Bits) ℓ) : Prop :=
  True

def Pre_DhMixIdeal (m : (ℓ : Loc Cert.DhMixIdeal.nD Cert.DhMixIdeal.τ Cert.DhMixIdeal.sig) → Buf (Elt Ideal) ℓ) : Prop :=
  True

def Pre_DhMixRefIdeal (m : (ℓ : Loc Cert.DhMixRefIdeal.nD Cert.DhMixRefIdeal.τ Cert.DhMixRefIdeal.sig) → Buf (Elt Ideal) ℓ) : Prop :=
  True

def Pre_MmU (m : (ℓ : Loc Cert.MmU.nD Cert.MmU.τ Cert.MmU.sig) → Buf (Elt Bits) ℓ) : Prop :=
  True

def Pre_MmUIdeal (m : (ℓ : Loc Cert.MmUIdeal.nD Cert.MmUIdeal.τ Cert.MmUIdeal.sig) → Buf (Elt Ideal) ℓ) : Prop :=
  True

def Pre_MmURefIdeal (m : (ℓ : Loc Cert.MmURefIdeal.nD Cert.MmURefIdeal.τ Cert.MmURefIdeal.sig) → Buf (Elt Ideal) ℓ) : Prop :=
  True

def Pre_MmF (m : (ℓ : Loc Cert.MmF.nD Cert.MmF.τ Cert.MmF.sig) → Buf (Elt Bits) ℓ) : Prop :=
  True

def Pre_MmFIdeal (m : (ℓ : Loc Cert.MmFIdeal.nD Cert.MmFIdeal.τ Cert.MmFIdeal.sig) → Buf (Elt Ideal) ℓ) : Prop :=
  True

def Pre_MmFRefIdeal (m : (ℓ : Loc Cert.MmFRefIdeal.nD Cert.MmFRefIdeal.τ Cert.MmFRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallRefIdeal (m : (ℓ : Loc Cert.AdSmallRefIdeal.nD Cert.AdSmallRefIdeal.τ Cert.AdSmallRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_AdIn0 (m : (ℓ : Loc Cert.AdIn0.nD Cert.AdIn0.τ Cert.AdIn0.sig) → Buf (Elt Bits) ℓ) : Prop :=
  True

def Pre_AdIn0Ideal (m : (ℓ : Loc Cert.AdIn0Ideal.nD Cert.AdIn0Ideal.τ Cert.AdIn0Ideal.sig) → Buf (Elt Ideal) ℓ) : Prop :=
  True

def Pre_AdIn0RefIdeal (m : (ℓ : Loc Cert.AdIn0RefIdeal.nD Cert.AdIn0RefIdeal.τ Cert.AdIn0RefIdeal.sig) → Buf (Elt Ideal) ℓ) : Prop :=
  True

def Pre_AdIn1 (m : (ℓ : Loc Cert.AdIn1.nD Cert.AdIn1.τ Cert.AdIn1.sig) → Buf (Elt Bits) ℓ) : Prop :=
  True

def Pre_AdIn1Ideal (m : (ℓ : Loc Cert.AdIn1Ideal.nD Cert.AdIn1Ideal.τ Cert.AdIn1Ideal.sig) → Buf (Elt Ideal) ℓ) : Prop :=
  True

def Pre_AdIn1RefIdeal (m : (ℓ : Loc Cert.AdIn1RefIdeal.nD Cert.AdIn1RefIdeal.τ Cert.AdIn1RefIdeal.sig) → Buf (Elt Ideal) ℓ) : Prop :=
  True

def Pre_AdIn2 (m : (ℓ : Loc Cert.AdIn2.nD Cert.AdIn2.τ Cert.AdIn2.sig) → Buf (Elt Bits) ℓ) : Prop :=
  True

def Pre_AdIn2Ideal (m : (ℓ : Loc Cert.AdIn2Ideal.nD Cert.AdIn2Ideal.τ Cert.AdIn2Ideal.sig) → Buf (Elt Ideal) ℓ) : Prop :=
  True

def Pre_AdIn2RefIdeal (m : (ℓ : Loc Cert.AdIn2RefIdeal.nD Cert.AdIn2RefIdeal.τ Cert.AdIn2RefIdeal.sig) → Buf (Elt Ideal) ℓ) : Prop :=
  True

def Pre_AdIn3 (m : (ℓ : Loc Cert.AdIn3.nD Cert.AdIn3.τ Cert.AdIn3.sig) → Buf (Elt Bits) ℓ) : Prop :=
  True

def Pre_AdIn3Ideal (m : (ℓ : Loc Cert.AdIn3Ideal.nD Cert.AdIn3Ideal.τ Cert.AdIn3Ideal.sig) → Buf (Elt Ideal) ℓ) : Prop :=
  True

def Pre_AdIn3RefIdeal (m : (ℓ : Loc Cert.AdIn3RefIdeal.nD Cert.AdIn3RefIdeal.τ Cert.AdIn3RefIdeal.sig) → Buf (Elt Ideal) ℓ) : Prop :=
  True

def Pre_AdCo0 (m : (ℓ : Loc Cert.AdCo0.nD Cert.AdCo0.τ Cert.AdCo0.sig) → Buf (Elt Bits) ℓ) : Prop :=
  True

def Pre_AdCo0Ideal (m : (ℓ : Loc Cert.AdCo0Ideal.nD Cert.AdCo0Ideal.τ Cert.AdCo0Ideal.sig) → Buf (Elt Ideal) ℓ) : Prop :=
  True

def Pre_AdCo0RefIdeal (m : (ℓ : Loc Cert.AdCo0RefIdeal.nD Cert.AdCo0RefIdeal.τ Cert.AdCo0RefIdeal.sig) → Buf (Elt Ideal) ℓ) : Prop :=
  True

def Pre_AdCo1 (m : (ℓ : Loc Cert.AdCo1.nD Cert.AdCo1.τ Cert.AdCo1.sig) → Buf (Elt Bits) ℓ) : Prop :=
  True

def Pre_AdCo1Ideal (m : (ℓ : Loc Cert.AdCo1Ideal.nD Cert.AdCo1Ideal.τ Cert.AdCo1Ideal.sig) → Buf (Elt Ideal) ℓ) : Prop :=
  True

def Pre_AdCo1RefIdeal (m : (ℓ : Loc Cert.AdCo1RefIdeal.nD Cert.AdCo1RefIdeal.τ Cert.AdCo1RefIdeal.sig) → Buf (Elt Ideal) ℓ) : Prop :=
  True

def Pre_AdCo2 (m : (ℓ : Loc Cert.AdCo2.nD Cert.AdCo2.τ Cert.AdCo2.sig) → Buf (Elt Bits) ℓ) : Prop :=
  True

def Pre_AdCo2Ideal (m : (ℓ : Loc Cert.AdCo2Ideal.nD Cert.AdCo2Ideal.τ Cert.AdCo2Ideal.sig) → Buf (Elt Ideal) ℓ) : Prop :=
  True

def Pre_AdCo2RefIdeal (m : (ℓ : Loc Cert.AdCo2RefIdeal.nD Cert.AdCo2RefIdeal.τ Cert.AdCo2RefIdeal.sig) → Buf (Elt Ideal) ℓ) : Prop :=
  True

def Pre_AdCo3 (m : (ℓ : Loc Cert.AdCo3.nD Cert.AdCo3.τ Cert.AdCo3.sig) → Buf (Elt Bits) ℓ) : Prop :=
  True

def Pre_AdCo3Ideal (m : (ℓ : Loc Cert.AdCo3Ideal.nD Cert.AdCo3Ideal.τ Cert.AdCo3Ideal.sig) → Buf (Elt Ideal) ℓ) : Prop :=
  True

def Pre_AdCo3RefIdeal (m : (ℓ : Loc Cert.AdCo3RefIdeal.nD Cert.AdCo3RefIdeal.τ Cert.AdCo3RefIdeal.sig) → Buf (Elt Ideal) ℓ) : Prop :=
  True

def Pre_AdOut0 (m : (ℓ : Loc Cert.AdOut0.nD Cert.AdOut0.τ Cert.AdOut0.sig) → Buf (Elt Bits) ℓ) : Prop :=
  True

def Pre_AdOut0Ideal (m : (ℓ : Loc Cert.AdOut0Ideal.nD Cert.AdOut0Ideal.τ Cert.AdOut0Ideal.sig) → Buf (Elt Ideal) ℓ) : Prop :=
  True

def Pre_AdOut0RefIdeal (m : (ℓ : Loc Cert.AdOut0RefIdeal.nD Cert.AdOut0RefIdeal.τ Cert.AdOut0RefIdeal.sig) → Buf (Elt Ideal) ℓ) : Prop :=
  True

def Pre_AdOut1 (m : (ℓ : Loc Cert.AdOut1.nD Cert.AdOut1.τ Cert.AdOut1.sig) → Buf (Elt Bits) ℓ) : Prop :=
  True

def Pre_AdOut1Ideal (m : (ℓ : Loc Cert.AdOut1Ideal.nD Cert.AdOut1Ideal.τ Cert.AdOut1Ideal.sig) → Buf (Elt Ideal) ℓ) : Prop :=
  True

def Pre_AdOut1RefIdeal (m : (ℓ : Loc Cert.AdOut1RefIdeal.nD Cert.AdOut1RefIdeal.τ Cert.AdOut1RefIdeal.sig) → Buf (Elt Ideal) ℓ) : Prop :=
  True

def Pre_AdOut2 (m : (ℓ : Loc Cert.AdOut2.nD Cert.AdOut2.τ Cert.AdOut2.sig) → Buf (Elt Bits) ℓ) : Prop :=
  True

def Pre_AdOut2Ideal (m : (ℓ : Loc Cert.AdOut2Ideal.nD Cert.AdOut2Ideal.τ Cert.AdOut2Ideal.sig) → Buf (Elt Ideal) ℓ) : Prop :=
  True

def Pre_AdOut2RefIdeal (m : (ℓ : Loc Cert.AdOut2RefIdeal.nD Cert.AdOut2RefIdeal.τ Cert.AdOut2RefIdeal.sig) → Buf (Elt Ideal) ℓ) : Prop :=
  True

def Pre_AdOut3 (m : (ℓ : Loc Cert.AdOut3.nD Cert.AdOut3.τ Cert.AdOut3.sig) → Buf (Elt Bits) ℓ) : Prop :=
  True

def Pre_AdOut3Ideal (m : (ℓ : Loc Cert.AdOut3Ideal.nD Cert.AdOut3Ideal.τ Cert.AdOut3Ideal.sig) → Buf (Elt Ideal) ℓ) : Prop :=
  True

def Pre_AdOut3RefIdeal (m : (ℓ : Loc Cert.AdOut3RefIdeal.nD Cert.AdOut3RefIdeal.τ Cert.AdOut3RefIdeal.sig) → Buf (Elt Ideal) ℓ) : Prop :=
  True

def Pre_AdFf0 (m : (ℓ : Loc Cert.AdFf0.nD Cert.AdFf0.τ Cert.AdFf0.sig) → Buf (Elt Bits) ℓ) : Prop :=
  True

def Pre_AdFf0Ideal (m : (ℓ : Loc Cert.AdFf0Ideal.nD Cert.AdFf0Ideal.τ Cert.AdFf0Ideal.sig) → Buf (Elt Ideal) ℓ) : Prop :=
  True

def Pre_AdFf0RefIdeal (m : (ℓ : Loc Cert.AdFf0RefIdeal.nD Cert.AdFf0RefIdeal.τ Cert.AdFf0RefIdeal.sig) → Buf (Elt Ideal) ℓ) : Prop :=
  True

def Pre_AdFf1 (m : (ℓ : Loc Cert.AdFf1.nD Cert.AdFf1.τ Cert.AdFf1.sig) → Buf (Elt Bits) ℓ) : Prop :=
  True

def Pre_AdFf1Ideal (m : (ℓ : Loc Cert.AdFf1Ideal.nD Cert.AdFf1Ideal.τ Cert.AdFf1Ideal.sig) → Buf (Elt Ideal) ℓ) : Prop :=
  True

def Pre_AdFf1RefIdeal (m : (ℓ : Loc Cert.AdFf1RefIdeal.nD Cert.AdFf1RefIdeal.τ Cert.AdFf1RefIdeal.sig) → Buf (Elt Ideal) ℓ) : Prop :=
  True

def Pre_AdFf2 (m : (ℓ : Loc Cert.AdFf2.nD Cert.AdFf2.τ Cert.AdFf2.sig) → Buf (Elt Bits) ℓ) : Prop :=
  True

def Pre_AdFf2Ideal (m : (ℓ : Loc Cert.AdFf2Ideal.nD Cert.AdFf2Ideal.τ Cert.AdFf2Ideal.sig) → Buf (Elt Ideal) ℓ) : Prop :=
  True

def Pre_AdFf2RefIdeal (m : (ℓ : Loc Cert.AdFf2RefIdeal.nD Cert.AdFf2RefIdeal.τ Cert.AdFf2RefIdeal.sig) → Buf (Elt Ideal) ℓ) : Prop :=
  True

def Pre_AdFf3 (m : (ℓ : Loc Cert.AdFf3.nD Cert.AdFf3.τ Cert.AdFf3.sig) → Buf (Elt Bits) ℓ) : Prop :=
  True

def Pre_AdFf3Ideal (m : (ℓ : Loc Cert.AdFf3Ideal.nD Cert.AdFf3Ideal.τ Cert.AdFf3Ideal.sig) → Buf (Elt Ideal) ℓ) : Prop :=
  True

def Pre_AdFf3RefIdeal (m : (ℓ : Loc Cert.AdFf3RefIdeal.nD Cert.AdFf3RefIdeal.τ Cert.AdFf3RefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_RecvIn (m : (ℓ : Loc Cert.RecvIn.nD Cert.RecvIn.τ Cert.RecvIn.sig) → Buf (Elt Bits) ℓ) : Prop :=
  True

def Pre_RecvInIdeal (m : (ℓ : Loc Cert.RecvInIdeal.nD Cert.RecvInIdeal.τ Cert.RecvInIdeal.sig) → Buf (Elt Ideal) ℓ) : Prop :=
  True

def Pre_RecvInRefIdeal (m : (ℓ : Loc Cert.RecvInRefIdeal.nD Cert.RecvInRefIdeal.τ Cert.RecvInRefIdeal.sig) → Buf (Elt Ideal) ℓ) : Prop :=
  True

def Pre_RecvCo (m : (ℓ : Loc Cert.RecvCo.nD Cert.RecvCo.τ Cert.RecvCo.sig) → Buf (Elt Bits) ℓ) : Prop :=
  True

def Pre_RecvCoIdeal (m : (ℓ : Loc Cert.RecvCoIdeal.nD Cert.RecvCoIdeal.τ Cert.RecvCoIdeal.sig) → Buf (Elt Ideal) ℓ) : Prop :=
  True

def Pre_RecvCoRefIdeal (m : (ℓ : Loc Cert.RecvCoRefIdeal.nD Cert.RecvCoRefIdeal.τ Cert.RecvCoRefIdeal.sig) → Buf (Elt Ideal) ℓ) : Prop :=
  True

def Pre_RecvOut (m : (ℓ : Loc Cert.RecvOut.nD Cert.RecvOut.τ Cert.RecvOut.sig) → Buf (Elt Bits) ℓ) : Prop :=
  True

def Pre_RecvOutIdeal (m : (ℓ : Loc Cert.RecvOutIdeal.nD Cert.RecvOutIdeal.τ Cert.RecvOutIdeal.sig) → Buf (Elt Ideal) ℓ) : Prop :=
  True

def Pre_RecvOutRefIdeal (m : (ℓ : Loc Cert.RecvOutRefIdeal.nD Cert.RecvOutRefIdeal.τ Cert.RecvOutRefIdeal.sig) → Buf (Elt Ideal) ℓ) : Prop :=
  True

def Pre_RecvFf (m : (ℓ : Loc Cert.RecvFf.nD Cert.RecvFf.τ Cert.RecvFf.sig) → Buf (Elt Bits) ℓ) : Prop :=
  True

def Pre_RecvFfIdeal (m : (ℓ : Loc Cert.RecvFfIdeal.nD Cert.RecvFfIdeal.τ Cert.RecvFfIdeal.sig) → Buf (Elt Ideal) ℓ) : Prop :=
  True

def Pre_RecvFfRefIdeal (m : (ℓ : Loc Cert.RecvFfRefIdeal.nD Cert.RecvFfRefIdeal.τ Cert.RecvFfRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dff [hDff : Cert.Dff.Facts] : Prop :=
  ∀ (m : (ℓ : Loc Cert.Dff.nD Cert.Dff.τ Cert.Dff.sig) → Buf (Elt Bits) ℓ) (g : Dev Cert.Dff.nD → PrngReg), Pre_Dff m →
    θ_run (Cert.Dff.defs (F := Bits)) (onTc (τ := Cert.Dff.τ) (Cert.Dff.main (F := Bits))) ⟨m, fun _ => 0, g⟩ (fun r => (∀ c : Dev Cert.Dff.nD,
      r.2.mem ((c.tc : Thread Cert.Dff.nD Cert.Dff.τ).loc Cert.Dff.main_arg0) = m ((c.tc : Thread Cert.Dff.nD Cert.Dff.τ).loc Cert.Dff.main_arg0)
      ∧ r.2.mem ((c.tc : Thread Cert.Dff.nD Cert.Dff.τ).loc Cert.Dff.main_arg1) = m ((c.tc : Thread Cert.Dff.nD Cert.Dff.τ).loc Cert.Dff.main_arg1)
      ∧ r.2.mem ((c.tc : Thread Cert.Dff.nD Cert.Dff.τ).loc Cert.Dff.main_arg2) = m ((c.tc : Thread Cert.Dff.nD Cert.Dff.τ).loc Cert.Dff.main_arg2))
      ∧ r.2.sem = fun _ => 0)

def quiescent_DffIdeal [hDffIdeal : Cert.DffIdeal.Facts] : Prop :=
  ∀ (m : (ℓ : Loc Cert.DffIdeal.nD Cert.DffIdeal.τ Cert.DffIdeal.sig) → Buf (Elt Ideal) ℓ) (g : Dev Cert.DffIdeal.nD → PrngReg), Pre_DffIdeal m →
    θ_run (Cert.DffIdeal.defs (F := Ideal)) (onTc (τ := Cert.DffIdeal.τ) (Cert.DffIdeal.main (F := Ideal))) ⟨m, fun _ => 0, g⟩ (fun r => (∀ c : Dev Cert.DffIdeal.nD,
      r.2.mem ((c.tc : Thread Cert.DffIdeal.nD Cert.DffIdeal.τ).loc Cert.DffIdeal.main_arg0) = m ((c.tc : Thread Cert.DffIdeal.nD Cert.DffIdeal.τ).loc Cert.DffIdeal.main_arg0)
      ∧ r.2.mem ((c.tc : Thread Cert.DffIdeal.nD Cert.DffIdeal.τ).loc Cert.DffIdeal.main_arg1) = m ((c.tc : Thread Cert.DffIdeal.nD Cert.DffIdeal.τ).loc Cert.DffIdeal.main_arg1)
      ∧ r.2.mem ((c.tc : Thread Cert.DffIdeal.nD Cert.DffIdeal.τ).loc Cert.DffIdeal.main_arg2) = m ((c.tc : Thread Cert.DffIdeal.nD Cert.DffIdeal.τ).loc Cert.DffIdeal.main_arg2))
      ∧ r.2.sem = fun _ => 0)

def quiescent_DffRefIdeal [hDffRefIdeal : Cert.DffRefIdeal.Facts] : Prop :=
  ∀ (m : (ℓ : Loc Cert.DffRefIdeal.nD Cert.DffRefIdeal.τ Cert.DffRefIdeal.sig) → Buf (Elt Ideal) ℓ) (g : Dev Cert.DffRefIdeal.nD → PrngReg), Pre_DffRefIdeal m →
    θ_run (Cert.DffRefIdeal.defs (F := Ideal)) (onTc (τ := Cert.DffRefIdeal.τ) (Cert.DffRefIdeal.main (F := Ideal))) ⟨m, fun _ => 0, g⟩ (fun r => (∀ c : Dev Cert.DffRefIdeal.nD,
      r.2.mem ((c.tc : Thread Cert.DffRefIdeal.nD Cert.DffRefIdeal.τ).loc Cert.DffRefIdeal.main_arg0) = m ((c.tc : Thread Cert.DffRefIdeal.nD Cert.DffRefIdeal.τ).loc Cert.DffRefIdeal.main_arg0)
      ∧ r.2.mem ((c.tc : Thread Cert.DffRefIdeal.nD Cert.DffRefIdeal.τ).loc Cert.DffRefIdeal.main_arg1) = m ((c.tc : Thread Cert.DffRefIdeal.nD Cert.DffRefIdeal.τ).loc Cert.DffRefIdeal.main_arg1)
      ∧ r.2.mem ((c.tc : Thread Cert.DffRefIdeal.nD Cert.DffRefIdeal.τ).loc Cert.DffRefIdeal.main_arg2) = m ((c.tc : Thread Cert.DffRefIdeal.nD Cert.DffRefIdeal.τ).loc Cert.DffRefIdeal.main_arg2))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1))
      ∧ r.2.sem = fun _ => 0)

def quiescent_DhMlp [hDhMlp : Cert.DhMlp.Facts] : Prop :=
  ∀ (m : (ℓ : Loc Cert.DhMlp.nD Cert.DhMlp.τ Cert.DhMlp.sig) → Buf (Elt Bits) ℓ) (g : Dev Cert.DhMlp.nD → PrngReg), Pre_DhMlp m →
    θ_run (Cert.DhMlp.defs (F := Bits)) (onTc (τ := Cert.DhMlp.τ) (Cert.DhMlp.main (F := Bits))) ⟨m, fun _ => 0, g⟩ (fun r => (∀ c : Dev Cert.DhMlp.nD,
      r.2.mem ((c.tc : Thread Cert.DhMlp.nD Cert.DhMlp.τ).loc Cert.DhMlp.main_arg0) = m ((c.tc : Thread Cert.DhMlp.nD Cert.DhMlp.τ).loc Cert.DhMlp.main_arg0)
      ∧ r.2.mem ((c.tc : Thread Cert.DhMlp.nD Cert.DhMlp.τ).loc Cert.DhMlp.main_arg1) = m ((c.tc : Thread Cert.DhMlp.nD Cert.DhMlp.τ).loc Cert.DhMlp.main_arg1))
      ∧ r.2.sem = fun _ => 0)

def quiescent_DhMlpIdeal [hDhMlpIdeal : Cert.DhMlpIdeal.Facts] : Prop :=
  ∀ (m : (ℓ : Loc Cert.DhMlpIdeal.nD Cert.DhMlpIdeal.τ Cert.DhMlpIdeal.sig) → Buf (Elt Ideal) ℓ) (g : Dev Cert.DhMlpIdeal.nD → PrngReg), Pre_DhMlpIdeal m →
    θ_run (Cert.DhMlpIdeal.defs (F := Ideal)) (onTc (τ := Cert.DhMlpIdeal.τ) (Cert.DhMlpIdeal.main (F := Ideal))) ⟨m, fun _ => 0, g⟩ (fun r => (∀ c : Dev Cert.DhMlpIdeal.nD,
      r.2.mem ((c.tc : Thread Cert.DhMlpIdeal.nD Cert.DhMlpIdeal.τ).loc Cert.DhMlpIdeal.main_arg0) = m ((c.tc : Thread Cert.DhMlpIdeal.nD Cert.DhMlpIdeal.τ).loc Cert.DhMlpIdeal.main_arg0)
      ∧ r.2.mem ((c.tc : Thread Cert.DhMlpIdeal.nD Cert.DhMlpIdeal.τ).loc Cert.DhMlpIdeal.main_arg1) = m ((c.tc : Thread Cert.DhMlpIdeal.nD Cert.DhMlpIdeal.τ).loc Cert.DhMlpIdeal.main_arg1))
      ∧ r.2.sem = fun _ => 0)

def quiescent_DhMlpRefIdeal [hDhMlpRefIdeal : Cert.DhMlpRefIdeal.Facts] : Prop :=
  ∀ (m : (ℓ : Loc Cert.DhMlpRefIdeal.nD Cert.DhMlpRefIdeal.τ Cert.DhMlpRefIdeal.sig) → Buf (Elt Ideal) ℓ) (g : Dev Cert.DhMlpRefIdeal.nD → PrngReg), Pre_DhMlpRefIdeal m →
    θ_run (Cert.DhMlpRefIdeal.defs (F := Ideal)) (onTc (τ := Cert.DhMlpRefIdeal.τ) (Cert.DhMlpRefIdeal.main (F := Ideal))) ⟨m, fun _ => 0, g⟩ (fun r => (∀ c : Dev Cert.DhMlpRefIdeal.nD,
      r.2.mem ((c.tc : Thread Cert.DhMlpRefIdeal.nD Cert.DhMlpRefIdeal.τ).loc Cert.DhMlpRefIdeal.main_arg0) = m ((c.tc : Thread Cert.DhMlpRefIdeal.nD Cert.DhMlpRefIdeal.τ).loc Cert.DhMlpRefIdeal.main_arg0)
      ∧ r.2.mem ((c.tc : Thread Cert.DhMlpRefIdeal.nD Cert.DhMlpRefIdeal.τ).loc Cert.DhMlpRefIdeal.main_arg1) = m ((c.tc : Thread Cert.DhMlpRefIdeal.nD Cert.DhMlpRefIdeal.τ).loc Cert.DhMlpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DhMix [hDhMix : Cert.DhMix.Facts] : Prop :=
  ∀ (m : (ℓ : Loc Cert.DhMix.nD Cert.DhMix.τ Cert.DhMix.sig) → Buf (Elt Bits) ℓ) (g : Dev Cert.DhMix.nD → PrngReg), Pre_DhMix m →
    θ_run (Cert.DhMix.defs (F := Bits)) (onTc (τ := Cert.DhMix.τ) (Cert.DhMix.main (F := Bits))) ⟨m, fun _ => 0, g⟩ (fun r => (∀ c : Dev Cert.DhMix.nD,
      r.2.mem ((c.tc : Thread Cert.DhMix.nD Cert.DhMix.τ).loc Cert.DhMix.main_arg0) = m ((c.tc : Thread Cert.DhMix.nD Cert.DhMix.τ).loc Cert.DhMix.main_arg0)
      ∧ r.2.mem ((c.tc : Thread Cert.DhMix.nD Cert.DhMix.τ).loc Cert.DhMix.main_arg1) = m ((c.tc : Thread Cert.DhMix.nD Cert.DhMix.τ).loc Cert.DhMix.main_arg1))
      ∧ r.2.sem = fun _ => 0)

def quiescent_DhMixIdeal [hDhMixIdeal : Cert.DhMixIdeal.Facts] : Prop :=
  ∀ (m : (ℓ : Loc Cert.DhMixIdeal.nD Cert.DhMixIdeal.τ Cert.DhMixIdeal.sig) → Buf (Elt Ideal) ℓ) (g : Dev Cert.DhMixIdeal.nD → PrngReg), Pre_DhMixIdeal m →
    θ_run (Cert.DhMixIdeal.defs (F := Ideal)) (onTc (τ := Cert.DhMixIdeal.τ) (Cert.DhMixIdeal.main (F := Ideal))) ⟨m, fun _ => 0, g⟩ (fun r => (∀ c : Dev Cert.DhMixIdeal.nD,
      r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
      ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1))
      ∧ r.2.sem = fun _ => 0)

def quiescent_DhMixRefIdeal [hDhMixRefIdeal : Cert.DhMixRefIdeal.Facts] : Prop :=
  ∀ (m : (ℓ : Loc Cert.DhMixRefIdeal.nD Cert.DhMixRefIdeal.τ Cert.DhMixRefIdeal.sig) → Buf (Elt Ideal) ℓ) (g : Dev Cert.DhMixRefIdeal.nD → PrngReg), Pre_DhMixRefIdeal m →
    θ_run (Cert.DhMixRefIdeal.defs (F := Ideal)) (onTc (τ := Cert.DhMixRefIdeal.τ) (Cert.DhMixRefIdeal.main (F := Ideal))) ⟨m, fun _ => 0, g⟩ (fun r => (∀ c : Dev Cert.DhMixRefIdeal.nD,
      r.2.mem ((c.tc : Thread Cert.DhMixRefIdeal.nD Cert.DhMixRefIdeal.τ).loc Cert.DhMixRefIdeal.main_arg0) = m ((c.tc : Thread Cert.DhMixRefIdeal.nD Cert.DhMixRefIdeal.τ).loc Cert.DhMixRefIdeal.main_arg0)
      ∧ r.2.mem ((c.tc : Thread Cert.DhMixRefIdeal.nD Cert.DhMixRefIdeal.τ).loc Cert.DhMixRefIdeal.main_arg1) = m ((c.tc : Thread Cert.DhMixRefIdeal.nD Cert.DhMixRefIdeal.τ).loc Cert.DhMixRefIdeal.main_arg1))
      ∧ r.2.sem = fun _ => 0)

def quiescent_MmU [hMmU : Cert.MmU.Facts] : Prop :=
  ∀ (m : (ℓ : Loc Cert.MmU.nD Cert.MmU.τ Cert.MmU.sig) → Buf (Elt Bits) ℓ) (g : Dev Cert.MmU.nD → PrngReg), Pre_MmU m →
    θ_run (Cert.MmU.defs (F := Bits)) (onTc (τ := Cert.MmU.τ) (Cert.MmU.main (F := Bits))) ⟨m, fun _ => 0, g⟩ (fun r => (∀ c : Dev Cert.MmU.nD,
      r.2.mem ((c.tc : Thread Cert.MmU.nD Cert.MmU.τ).loc Cert.MmU.main_arg0) = m ((c.tc : Thread Cert.MmU.nD Cert.MmU.τ).loc Cert.MmU.main_arg0)
      ∧ r.2.mem ((c.tc : Thread Cert.MmU.nD Cert.MmU.τ).loc Cert.MmU.main_arg1) = m ((c.tc : Thread Cert.MmU.nD Cert.MmU.τ).loc Cert.MmU.main_arg1))
      ∧ r.2.sem = fun _ => 0)

def quiescent_MmUIdeal [hMmUIdeal : Cert.MmUIdeal.Facts] : Prop :=
  ∀ (m : (ℓ : Loc Cert.MmUIdeal.nD Cert.MmUIdeal.τ Cert.MmUIdeal.sig) → Buf (Elt Ideal) ℓ) (g : Dev Cert.MmUIdeal.nD → PrngReg), Pre_MmUIdeal m →
    θ_run (Cert.MmUIdeal.defs (F := Ideal)) (onTc (τ := Cert.MmUIdeal.τ) (Cert.MmUIdeal.main (F := Ideal))) ⟨m, fun _ => 0, g⟩ (fun r => (∀ c : Dev Cert.MmUIdeal.nD,
      r.2.mem ((c.tc : Thread Cert.MmUIdeal.nD Cert.MmUIdeal.τ).loc Cert.MmUIdeal.main_arg0) = m ((c.tc : Thread Cert.MmUIdeal.nD Cert.MmUIdeal.τ).loc Cert.MmUIdeal.main_arg0)
      ∧ r.2.mem ((c.tc : Thread Cert.MmUIdeal.nD Cert.MmUIdeal.τ).loc Cert.MmUIdeal.main_arg1) = m ((c.tc : Thread Cert.MmUIdeal.nD Cert.MmUIdeal.τ).loc Cert.MmUIdeal.main_arg1))
      ∧ r.2.sem = fun _ => 0)

def quiescent_MmURefIdeal [hMmURefIdeal : Cert.MmURefIdeal.Facts] : Prop :=
  ∀ (m : (ℓ : Loc Cert.MmURefIdeal.nD Cert.MmURefIdeal.τ Cert.MmURefIdeal.sig) → Buf (Elt Ideal) ℓ) (g : Dev Cert.MmURefIdeal.nD → PrngReg), Pre_MmURefIdeal m →
    θ_run (Cert.MmURefIdeal.defs (F := Ideal)) (onTc (τ := Cert.MmURefIdeal.τ) (Cert.MmURefIdeal.main (F := Ideal))) ⟨m, fun _ => 0, g⟩ (fun r => (∀ c : Dev Cert.MmURefIdeal.nD,
      r.2.mem ((c.tc : Thread Cert.MmURefIdeal.nD Cert.MmURefIdeal.τ).loc Cert.MmURefIdeal.main_arg0) = m ((c.tc : Thread Cert.MmURefIdeal.nD Cert.MmURefIdeal.τ).loc Cert.MmURefIdeal.main_arg0)
      ∧ r.2.mem ((c.tc : Thread Cert.MmURefIdeal.nD Cert.MmURefIdeal.τ).loc Cert.MmURefIdeal.main_arg1) = m ((c.tc : Thread Cert.MmURefIdeal.nD Cert.MmURefIdeal.τ).loc Cert.MmURefIdeal.main_arg1))
      ∧ r.2.sem = fun _ => 0)

def quiescent_MmF [hMmF : Cert.MmF.Facts] : Prop :=
  ∀ (m : (ℓ : Loc Cert.MmF.nD Cert.MmF.τ Cert.MmF.sig) → Buf (Elt Bits) ℓ) (g : Dev Cert.MmF.nD → PrngReg), Pre_MmF m →
    θ_run (Cert.MmF.defs (F := Bits)) (onTc (τ := Cert.MmF.τ) (Cert.MmF.main (F := Bits))) ⟨m, fun _ => 0, g⟩ (fun r => (∀ c : Dev Cert.MmF.nD,
      r.2.mem ((c.tc : Thread Cert.MmF.nD Cert.MmF.τ).loc Cert.MmF.main_arg0) = m ((c.tc : Thread Cert.MmF.nD Cert.MmF.τ).loc Cert.MmF.main_arg0)
      ∧ r.2.mem ((c.tc : Thread Cert.MmF.nD Cert.MmF.τ).loc Cert.MmF.main_arg1) = m ((c.tc : Thread Cert.MmF.nD Cert.MmF.τ).loc Cert.MmF.main_arg1))
      ∧ r.2.sem = fun _ => 0)

def quiescent_MmFIdeal [hMmFIdeal : Cert.MmFIdeal.Facts] : Prop :=
  ∀ (m : (ℓ : Loc Cert.MmFIdeal.nD Cert.MmFIdeal.τ Cert.MmFIdeal.sig) → Buf (Elt Ideal) ℓ) (g : Dev Cert.MmFIdeal.nD → PrngReg), Pre_MmFIdeal m →
    θ_run (Cert.MmFIdeal.defs (F := Ideal)) (onTc (τ := Cert.MmFIdeal.τ) (Cert.MmFIdeal.main (F := Ideal))) ⟨m, fun _ => 0, g⟩ (fun r => (∀ c : Dev Cert.MmFIdeal.nD,
      r.2.mem ((c.tc : Thread Cert.MmFIdeal.nD Cert.MmFIdeal.τ).loc Cert.MmFIdeal.main_arg0) = m ((c.tc : Thread Cert.MmFIdeal.nD Cert.MmFIdeal.τ).loc Cert.MmFIdeal.main_arg0)
      ∧ r.2.mem ((c.tc : Thread Cert.MmFIdeal.nD Cert.MmFIdeal.τ).loc Cert.MmFIdeal.main_arg1) = m ((c.tc : Thread Cert.MmFIdeal.nD Cert.MmFIdeal.τ).loc Cert.MmFIdeal.main_arg1))
      ∧ r.2.sem = fun _ => 0)

def quiescent_MmFRefIdeal [hMmFRefIdeal : Cert.MmFRefIdeal.Facts] : Prop :=
  ∀ (m : (ℓ : Loc Cert.MmFRefIdeal.nD Cert.MmFRefIdeal.τ Cert.MmFRefIdeal.sig) → Buf (Elt Ideal) ℓ) (g : Dev Cert.MmFRefIdeal.nD → PrngReg), Pre_MmFRefIdeal m →
    θ_run (Cert.MmFRefIdeal.defs (F := Ideal)) (onTc (τ := Cert.MmFRefIdeal.τ) (Cert.MmFRefIdeal.main (F := Ideal))) ⟨m, fun _ => 0, g⟩ (fun r => (∀ c : Dev Cert.MmFRefIdeal.nD,
      r.2.mem ((c.tc : Thread Cert.MmFRefIdeal.nD Cert.MmFRefIdeal.τ).loc Cert.MmFRefIdeal.main_arg0) = m ((c.tc : Thread Cert.MmFRefIdeal.nD Cert.MmFRefIdeal.τ).loc Cert.MmFRefIdeal.main_arg0)
      ∧ r.2.mem ((c.tc : Thread Cert.MmFRefIdeal.nD Cert.MmFRefIdeal.τ).loc Cert.MmFRefIdeal.main_arg1) = m ((c.tc : Thread Cert.MmFRefIdeal.nD Cert.MmFRefIdeal.τ).loc Cert.MmFRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3)
      ∧ r.2.mem ((c.tc : Thread Cert.AdSmall.nD Cert.AdSmall.τ).loc Cert.AdSmall.main_arg4) = m ((c.tc : Thread Cert.AdSmall.nD Cert.AdSmall.τ).loc Cert.AdSmall.main_arg4)
      ∧ r.2.mem ((c.tc : Thread Cert.AdSmall.nD Cert.AdSmall.τ).loc Cert.AdSmall.main_arg5) = m ((c.tc : Thread Cert.AdSmall.nD Cert.AdSmall.τ).loc Cert.AdSmall.main_arg5)
      ∧ r.2.mem ((c.tc : Thread Cert.AdSmall.nD Cert.AdSmall.τ).loc Cert.AdSmall.main_arg6) = m ((c.tc : Thread Cert.AdSmall.nD Cert.AdSmall.τ).loc Cert.AdSmall.main_arg6)
      ∧ r.2.mem ((c.tc : Thread Cert.AdSmall.nD Cert.AdSmall.τ).loc Cert.AdSmall.main_arg7) = m ((c.tc : Thread Cert.AdSmall.nD Cert.AdSmall.τ).loc Cert.AdSmall.main_arg7)
      ∧ r.2.mem ((c.tc : Thread Cert.AdSmall.nD Cert.AdSmall.τ).loc Cert.AdSmall.main_arg8) = m ((c.tc : Thread Cert.AdSmall.nD Cert.AdSmall.τ).loc Cert.AdSmall.main_arg8)
      ∧ r.2.mem ((c.tc : Thread Cert.AdSmall.nD Cert.AdSmall.τ).loc Cert.AdSmall.main_arg9) = m ((c.tc : Thread Cert.AdSmall.nD Cert.AdSmall.τ).loc Cert.AdSmall.main_arg9)
      ∧ r.2.mem ((c.tc : Thread Cert.AdSmall.nD Cert.AdSmall.τ).loc Cert.AdSmall.main_arg10) = m ((c.tc : Thread Cert.AdSmall.nD Cert.AdSmall.τ).loc Cert.AdSmall.main_arg10)
      ∧ r.2.mem ((c.tc : Thread Cert.AdSmall.nD Cert.AdSmall.τ).loc Cert.AdSmall.main_arg11) = m ((c.tc : Thread Cert.AdSmall.nD Cert.AdSmall.τ).loc Cert.AdSmall.main_arg11)
      ∧ r.2.mem ((c.tc : Thread Cert.AdSmall.nD Cert.AdSmall.τ).loc Cert.AdSmall.main_arg12) = m ((c.tc : Thread Cert.AdSmall.nD Cert.AdSmall.τ).loc Cert.AdSmall.main_arg12)
      ∧ r.2.mem ((c.tc : Thread Cert.AdSmall.nD Cert.AdSmall.τ).loc Cert.AdSmall.main_arg13) = m ((c.tc : Thread Cert.AdSmall.nD Cert.AdSmall.τ).loc Cert.AdSmall.main_arg13)
      ∧ r.2.mem ((c.tc : Thread Cert.AdSmall.nD Cert.AdSmall.τ).loc Cert.AdSmall.main_arg14) = m ((c.tc : Thread Cert.AdSmall.nD Cert.AdSmall.τ).loc Cert.AdSmall.main_arg14)
      ∧ r.2.mem ((c.tc : Thread Cert.AdSmall.nD Cert.AdSmall.τ).loc Cert.AdSmall.main_arg15) = m ((c.tc : Thread Cert.AdSmall.nD Cert.AdSmall.τ).loc Cert.AdSmall.main_arg15)
      ∧ r.2.mem ((c.tc : Thread Cert.AdSmall.nD Cert.AdSmall.τ).loc Cert.AdSmall.main_arg16) = m ((c.tc : Thread Cert.AdSmall.nD Cert.AdSmall.τ).loc Cert.AdSmall.main_arg16)
      ∧ r.2.mem ((c.tc : Thread Cert.AdSmall.nD Cert.AdSmall.τ).loc Cert.AdSmall.main_arg17) = m ((c.tc : Thread Cert.AdSmall.nD Cert.AdSmall.τ).loc Cert.AdSmall.main_arg17)
      ∧ r.2.mem ((c.tc : Thread Cert.AdSmall.nD Cert.AdSmall.τ).loc Cert.AdSmall.main_arg18) = m ((c.tc : Thread Cert.AdSmall.nD Cert.AdSmall.τ).loc Cert.AdSmall.main_arg18)
      ∧ r.2.mem ((c.tc : Thread Cert.AdSmall.nD Cert.AdSmall.τ).loc Cert.AdSmall.main_arg19) = m ((c.tc : Thread Cert.AdSmall.nD Cert.AdSmall.τ).loc Cert.AdSmall.main_arg19)
      ∧ r.2.mem ((c.tc : Thread Cert.AdSmall.nD Cert.AdSmall.τ).loc Cert.AdSmall.main_arg20) = m ((c.tc : Thread Cert.AdSmall.nD Cert.AdSmall.τ).loc Cert.AdSmall.main_arg20)
      ∧ r.2.mem ((c.tc : Thread Cert.AdSmall.nD Cert.AdSmall.τ).loc Cert.AdSmall.main_arg21) = m ((c.tc : Thread Cert.AdSmall.nD Cert.AdSmall.τ).loc Cert.AdSmall.main_arg21)
      ∧ r.2.mem ((c.tc : Thread Cert.AdSmall.nD Cert.AdSmall.τ).loc Cert.AdSmall.main_arg22) = m ((c.tc : Thread Cert.AdSmall.nD Cert.AdSmall.τ).loc Cert.AdSmall.main_arg22)
      ∧ r.2.mem ((c.tc : Thread Cert.AdSmall.nD Cert.AdSmall.τ).loc Cert.AdSmall.main_arg23) = m ((c.tc : Thread Cert.AdSmall.nD Cert.AdSmall.τ).loc Cert.AdSmall.main_arg23)
      ∧ r.2.mem ((c.tc : Thread Cert.AdSmall.nD Cert.AdSmall.τ).loc Cert.AdSmall.main_arg24) = m ((c.tc : Thread Cert.AdSmall.nD Cert.AdSmall.τ).loc Cert.AdSmall.main_arg24)
      ∧ r.2.mem ((c.tc : Thread Cert.AdSmall.nD Cert.AdSmall.τ).loc Cert.AdSmall.main_arg25) = m ((c.tc : Thread Cert.AdSmall.nD Cert.AdSmall.τ).loc Cert.AdSmall.main_arg25)
      ∧ r.2.mem ((c.tc : Thread Cert.AdSmall.nD Cert.AdSmall.τ).loc Cert.AdSmall.main_arg26) = m ((c.tc : Thread Cert.AdSmall.nD Cert.AdSmall.τ).loc Cert.AdSmall.main_arg26)
      ∧ r.2.mem ((c.tc : Thread Cert.AdSmall.nD Cert.AdSmall.τ).loc Cert.AdSmall.main_arg27) = m ((c.tc : Thread Cert.AdSmall.nD Cert.AdSmall.τ).loc Cert.AdSmall.main_arg27)
      ∧ r.2.mem ((c.tc : Thread Cert.AdSmall.nD Cert.AdSmall.τ).loc Cert.AdSmall.main_arg28) = m ((c.tc : Thread Cert.AdSmall.nD Cert.AdSmall.τ).loc Cert.AdSmall.main_arg28)
      ∧ r.2.mem ((c.tc : Thread Cert.AdSmall.nD Cert.AdSmall.τ).loc Cert.AdSmall.main_arg29) = m ((c.tc : Thread Cert.AdSmall.nD Cert.AdSmall.τ).loc Cert.AdSmall.main_arg29)
      ∧ r.2.mem ((c.tc : Thread Cert.AdSmall.nD Cert.AdSmall.τ).loc Cert.AdSmall.main_arg30) = m ((c.tc : Thread Cert.AdSmall.nD Cert.AdSmall.τ).loc Cert.AdSmall.main_arg30)
      ∧ r.2.mem ((c.tc : Thread Cert.AdSmall.nD Cert.AdSmall.τ).loc Cert.AdSmall.main_arg31) = m ((c.tc : Thread Cert.AdSmall.nD Cert.AdSmall.τ).loc Cert.AdSmall.main_arg31)
      ∧ r.2.mem ((c.tc : Thread Cert.AdSmall.nD Cert.AdSmall.τ).loc Cert.AdSmall.main_arg32) = m ((c.tc : Thread Cert.AdSmall.nD Cert.AdSmall.τ).loc Cert.AdSmall.main_arg32)
      ∧ r.2.mem ((c.tc : Thread Cert.AdSmall.nD Cert.AdSmall.τ).loc Cert.AdSmall.main_arg33) = m ((c.tc : Thread Cert.AdSmall.nD Cert.AdSmall.τ).loc Cert.AdSmall.main_arg33)
      ∧ r.2.mem ((c.tc : Thread Cert.AdSmall.nD Cert.AdSmall.τ).loc Cert.AdSmall.main_arg34) = m ((c.tc : Thread Cert.AdSmall.nD Cert.AdSmall.τ).loc Cert.AdSmall.main_arg34)
      ∧ r.2.mem ((c.tc : Thread Cert.AdSmall.nD Cert.AdSmall.τ).loc Cert.AdSmall.main_arg35) = m ((c.tc : Thread Cert.AdSmall.nD Cert.AdSmall.τ).loc Cert.AdSmall.main_arg35))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3)
      ∧ r.2.mem ((c.tc : Thread Cert.AdSmallIdeal.nD Cert.AdSmallIdeal.τ).loc Cert.AdSmallIdeal.main_arg4) = m ((c.tc : Thread Cert.AdSmallIdeal.nD Cert.AdSmallIdeal.τ).loc Cert.AdSmallIdeal.main_arg4)
      ∧ r.2.mem ((c.tc : Thread Cert.AdSmallIdeal.nD Cert.AdSmallIdeal.τ).loc Cert.AdSmallIdeal.main_arg5) = m ((c.tc : Thread Cert.AdSmallIdeal.nD Cert.AdSmallIdeal.τ).loc Cert.AdSmallIdeal.main_arg5)
      ∧ r.2.mem ((c.tc : Thread Cert.AdSmallIdeal.nD Cert.AdSmallIdeal.τ).loc Cert.AdSmallIdeal.main_arg6) = m ((c.tc : Thread Cert.AdSmallIdeal.nD Cert.AdSmallIdeal.τ).loc Cert.AdSmallIdeal.main_arg6)
      ∧ r.2.mem ((c.tc : Thread Cert.AdSmallIdeal.nD Cert.AdSmallIdeal.τ).loc Cert.AdSmallIdeal.main_arg7) = m ((c.tc : Thread Cert.AdSmallIdeal.nD Cert.AdSmallIdeal.τ).loc Cert.AdSmallIdeal.main_arg7)
      ∧ r.2.mem ((c.tc : Thread Cert.AdSmallIdeal.nD Cert.AdSmallIdeal.τ).loc Cert.AdSmallIdeal.main_arg8) = m ((c.tc : Thread Cert.AdSmallIdeal.nD Cert.AdSmallIdeal.τ).loc Cert.AdSmallIdeal.main_arg8)
      ∧ r.2.mem ((c.tc : Thread Cert.AdSmallIdeal.nD Cert.AdSmallIdeal.τ).loc Cert.AdSmallIdeal.main_arg9) = m ((c.tc : Thread Cert.AdSmallIdeal.nD Cert.AdSmallIdeal.τ).loc Cert.AdSmallIdeal.main_arg9)
      ∧ r.2.mem ((c.tc : Thread Cert.AdSmallIdeal.nD Cert.AdSmallIdeal.τ).loc Cert.AdSmallIdeal.main_arg10) = m ((c.tc : Thread Cert.AdSmallIdeal.nD Cert.AdSmallIdeal.τ).loc Cert.AdSmallIdeal.main_arg10)
      ∧ r.2.mem ((c.tc : Thread Cert.AdSmallIdeal.nD Cert.AdSmallIdeal.τ).loc Cert.AdSmallIdeal.main_arg11) = m ((c.tc : Thread Cert.AdSmallIdeal.nD Cert.AdSmallIdeal.τ).loc Cert.AdSmallIdeal.main_arg11)
      ∧ r.2.mem ((c.tc : Thread Cert.AdSmallIdeal.nD Cert.AdSmallIdeal.τ).loc Cert.AdSmallIdeal.main_arg12) = m ((c.tc : Thread Cert.AdSmallIdeal.nD Cert.AdSmallIdeal.τ).loc Cert.AdSmallIdeal.main_arg12)
      ∧ r.2.mem ((c.tc : Thread Cert.AdSmallIdeal.nD Cert.AdSmallIdeal.τ).loc Cert.AdSmallIdeal.main_arg13) = m ((c.tc : Thread Cert.AdSmallIdeal.nD Cert.AdSmallIdeal.τ).loc Cert.AdSmallIdeal.main_arg13)
      ∧ r.2.mem ((c.tc : Thread Cert.AdSmallIdeal.nD Cert.AdSmallIdeal.τ).loc Cert.AdSmallIdeal.main_arg14) = m ((c.tc : Thread Cert.AdSmallIdeal.nD Cert.AdSmallIdeal.τ).loc Cert.AdSmallIdeal.main_arg14)
      ∧ r.2.mem ((c.tc : Thread Cert.AdSmallIdeal.nD Cert.AdSmallIdeal.τ).loc Cert.AdSmallIdeal.main_arg15) = m ((c.tc : Thread Cert.AdSmallIdeal.nD Cert.AdSmallIdeal.τ).loc Cert.AdSmallIdeal.main_arg15)
      ∧ r.2.mem ((c.tc : Thread Cert.AdSmallIdeal.nD Cert.AdSmallIdeal.τ).loc Cert.AdSmallIdeal.main_arg16) = m ((c.tc : Thread Cert.AdSmallIdeal.nD Cert.AdSmallIdeal.τ).loc Cert.AdSmallIdeal.main_arg16)
      ∧ r.2.mem ((c.tc : Thread Cert.AdSmallIdeal.nD Cert.AdSmallIdeal.τ).loc Cert.AdSmallIdeal.main_arg17) = m ((c.tc : Thread Cert.AdSmallIdeal.nD Cert.AdSmallIdeal.τ).loc Cert.AdSmallIdeal.main_arg17)
      ∧ r.2.mem ((c.tc : Thread Cert.AdSmallIdeal.nD Cert.AdSmallIdeal.τ).loc Cert.AdSmallIdeal.main_arg18) = m ((c.tc : Thread Cert.AdSmallIdeal.nD Cert.AdSmallIdeal.τ).loc Cert.AdSmallIdeal.main_arg18)
      ∧ r.2.mem ((c.tc : Thread Cert.AdSmallIdeal.nD Cert.AdSmallIdeal.τ).loc Cert.AdSmallIdeal.main_arg19) = m ((c.tc : Thread Cert.AdSmallIdeal.nD Cert.AdSmallIdeal.τ).loc Cert.AdSmallIdeal.main_arg19)
      ∧ r.2.mem ((c.tc : Thread Cert.AdSmallIdeal.nD Cert.AdSmallIdeal.τ).loc Cert.AdSmallIdeal.main_arg20) = m ((c.tc : Thread Cert.AdSmallIdeal.nD Cert.AdSmallIdeal.τ).loc Cert.AdSmallIdeal.main_arg20)
      ∧ r.2.mem ((c.tc : Thread Cert.AdSmallIdeal.nD Cert.AdSmallIdeal.τ).loc Cert.AdSmallIdeal.main_arg21) = m ((c.tc : Thread Cert.AdSmallIdeal.nD Cert.AdSmallIdeal.τ).loc Cert.AdSmallIdeal.main_arg21)
      ∧ r.2.mem ((c.tc : Thread Cert.AdSmallIdeal.nD Cert.AdSmallIdeal.τ).loc Cert.AdSmallIdeal.main_arg22) = m ((c.tc : Thread Cert.AdSmallIdeal.nD Cert.AdSmallIdeal.τ).loc Cert.AdSmallIdeal.main_arg22)
      ∧ r.2.mem ((c.tc : Thread Cert.AdSmallIdeal.nD Cert.AdSmallIdeal.τ).loc Cert.AdSmallIdeal.main_arg23) = m ((c.tc : Thread Cert.AdSmallIdeal.nD Cert.AdSmallIdeal.τ).loc Cert.AdSmallIdeal.main_arg23)
      ∧ r.2.mem ((c.tc : Thread Cert.AdSmallIdeal.nD Cert.AdSmallIdeal.τ).loc Cert.AdSmallIdeal.main_arg24) = m ((c.tc : Thread Cert.AdSmallIdeal.nD Cert.AdSmallIdeal.τ).loc Cert.AdSmallIdeal.main_arg24)
      ∧ r.2.mem ((c.tc : Thread Cert.AdSmallIdeal.nD Cert.AdSmallIdeal.τ).loc Cert.AdSmallIdeal.main_arg25) = m ((c.tc : Thread Cert.AdSmallIdeal.nD Cert.AdSmallIdeal.τ).loc Cert.AdSmallIdeal.main_arg25)
      ∧ r.2.mem ((c.tc : Thread Cert.AdSmallIdeal.nD Cert.AdSmallIdeal.τ).loc Cert.AdSmallIdeal.main_arg26) = m ((c.tc : Thread Cert.AdSmallIdeal.nD Cert.AdSmallIdeal.τ).loc Cert.AdSmallIdeal.main_arg26)
      ∧ r.2.mem ((c.tc : Thread Cert.AdSmallIdeal.nD Cert.AdSmallIdeal.τ).loc Cert.AdSmallIdeal.main_arg27) = m ((c.tc : Thread Cert.AdSmallIdeal.nD Cert.AdSmallIdeal.τ).loc Cert.AdSmallIdeal.main_arg27)
      ∧ r.2.mem ((c.tc : Thread Cert.AdSmallIdeal.nD Cert.AdSmallIdeal.τ).loc Cert.AdSmallIdeal.main_arg28) = m ((c.tc : Thread Cert.AdSmallIdeal.nD Cert.AdSmallIdeal.τ).loc Cert.AdSmallIdeal.main_arg28)
      ∧ r.2.mem ((c.tc : Thread Cert.AdSmallIdeal.nD Cert.AdSmallIdeal.τ).loc Cert.AdSmallIdeal.main_arg29) = m ((c.tc : Thread Cert.AdSmallIdeal.nD Cert.AdSmallIdeal.τ).loc Cert.AdSmallIdeal.main_arg29)
      ∧ r.2.mem ((c.tc : Thread Cert.AdSmallIdeal.nD Cert.AdSmallIdeal.τ).loc Cert.AdSmallIdeal.main_arg30) = m ((c.tc : Thread Cert.AdSmallIdeal.nD Cert.AdSmallIdeal.τ).loc Cert.AdSmallIdeal.main_arg30)
      ∧ r.2.mem ((c.tc : Thread Cert.AdSmallIdeal.nD Cert.AdSmallIdeal.τ).loc Cert.AdSmallIdeal.main_arg31) = m ((c.tc : Thread Cert.AdSmallIdeal.nD Cert.AdSmallIdeal.τ).loc Cert.AdSmallIdeal.main_arg31)
      ∧ r.2.mem ((c.tc : Thread Cert.AdSmallIdeal.nD Cert.AdSmallIdeal.τ).loc Cert.AdSmallIdeal.main_arg32) = m ((c.tc : Thread Cert.AdSmallIdeal.nD Cert.AdSmallIdeal.τ).loc Cert.AdSmallIdeal.main_arg32)
      ∧ r.2.mem ((c.tc : Thread Cert.AdSmallIdeal.nD Cert.AdSmallIdeal.τ).loc Cert.AdSmallIdeal.main_arg33) = m ((c.tc : Thread Cert.AdSmallIdeal.nD Cert.AdSmallIdeal.τ).loc Cert.AdSmallIdeal.main_arg33)
      ∧ r.2.mem ((c.tc : Thread Cert.AdSmallIdeal.nD Cert.AdSmallIdeal.τ).loc Cert.AdSmallIdeal.main_arg34) = m ((c.tc : Thread Cert.AdSmallIdeal.nD Cert.AdSmallIdeal.τ).loc Cert.AdSmallIdeal.main_arg34)
      ∧ r.2.mem ((c.tc : Thread Cert.AdSmallIdeal.nD Cert.AdSmallIdeal.τ).loc Cert.AdSmallIdeal.main_arg35) = m ((c.tc : Thread Cert.AdSmallIdeal.nD Cert.AdSmallIdeal.τ).loc Cert.AdSmallIdeal.main_arg35))
      ∧ r.2.sem = fun _ => 0)

def quiescent_AdSmallRefIdeal [hAdSmallRefIdeal : Cert.AdSmallRefIdeal.Facts] : Prop :=
  ∀ (m : (ℓ : Loc Cert.AdSmallRefIdeal.nD Cert.AdSmallRefIdeal.τ Cert.AdSmallRefIdeal.sig) → Buf (Elt Ideal) ℓ) (g : Dev Cert.AdSmallRefIdeal.nD → PrngReg), Pre_AdSmallRefIdeal m →
    θ_run (Cert.AdSmallRefIdeal.defs (F := Ideal)) (onTc (τ := Cert.AdSmallRefIdeal.τ) (Cert.AdSmallRefIdeal.main (F := Ideal))) ⟨m, fun _ => 0, g⟩ (fun r => (∀ c : Dev Cert.AdSmallRefIdeal.nD,
      r.2.mem ((c.tc : Thread Cert.AdSmallRefIdeal.nD Cert.AdSmallRefIdeal.τ).loc Cert.AdSmallRefIdeal.main_arg0) = m ((c.tc : Thread Cert.AdSmallRefIdeal.nD Cert.AdSmallRefIdeal.τ).loc Cert.AdSmallRefIdeal.main_arg0)
      ∧ r.2.mem ((c.tc : Thread Cert.AdSmallRefIdeal.nD Cert.AdSmallRefIdeal.τ).loc Cert.AdSmallRefIdeal.main_arg1) = m ((c.tc : Thread Cert.AdSmallRefIdeal.nD Cert.AdSmallRefIdeal.τ).loc Cert.AdSmallRefIdeal.main_arg1)
      ∧ r.2.mem ((c.tc : Thread Cert.AdSmallRefIdeal.nD Cert.AdSmallRefIdeal.τ).loc Cert.AdSmallRefIdeal.main_arg2) = m ((c.tc : Thread Cert.AdSmallRefIdeal.nD Cert.AdSmallRefIdeal.τ).loc Cert.AdSmallRefIdeal.main_arg2)
      ∧ r.2.mem ((c.tc : Thread Cert.AdSmallRefIdeal.nD Cert.AdSmallRefIdeal.τ).loc Cert.AdSmallRefIdeal.main_arg3) = m ((c.tc : Thread Cert.AdSmallRefIdeal.nD Cert.AdSmallRefIdeal.τ).loc Cert.AdSmallRefIdeal.main_arg3)
      ∧ r.2.mem ((c.tc : Thread Cert.AdSmallRefIdeal.nD Cert.AdSmallRefIdeal.τ).loc Cert.AdSmallRefIdeal.main_arg4) = m ((c.tc : Thread Cert.AdSmallRefIdeal.nD Cert.AdSmallRefIdeal.τ).loc Cert.AdSmallRefIdeal.main_arg4)
      ∧ r.2.mem ((c.tc : Thread Cert.AdSmallRefIdeal.nD Cert.AdSmallRefIdeal.τ).loc Cert.AdSmallRefIdeal.main_arg5) = m ((c.tc : Thread Cert.AdSmallRefIdeal.nD Cert.AdSmallRefIdeal.τ).loc Cert.AdSmallRefIdeal.main_arg5)
      ∧ r.2.mem ((c.tc : Thread Cert.AdSmallRefIdeal.nD Cert.AdSmallRefIdeal.τ).loc Cert.AdSmallRefIdeal.main_arg6) = m ((c.tc : Thread Cert.AdSmallRefIdeal.nD Cert.AdSmallRefIdeal.τ).loc Cert.AdSmallRefIdeal.main_arg6)
      ∧ r.2.mem ((c.tc : Thread Cert.AdSmallRefIdeal.nD Cert.AdSmallRefIdeal.τ).loc Cert.AdSmallRefIdeal.main_arg7) = m ((c.tc : Thread Cert.AdSmallRefIdeal.nD Cert.AdSmallRefIdeal.τ).loc Cert.AdSmallRefIdeal.main_arg7)
      ∧ r.2.mem ((c.tc : Thread Cert.AdSmallRefIdeal.nD Cert.AdSmallRefIdeal.τ).loc Cert.AdSmallRefIdeal.main_arg8) = m ((c.tc : Thread Cert.AdSmallRefIdeal.nD Cert.AdSmallRefIdeal.τ).loc Cert.AdSmallRefIdeal.main_arg8)
      ∧ r.2.mem ((c.tc : Thread Cert.AdSmallRefIdeal.nD Cert.AdSmallRefIdeal.τ).loc Cert.AdSmallRefIdeal.main_arg9) = m ((c.tc : Thread Cert.AdSmallRefIdeal.nD Cert.AdSmallRefIdeal.τ).loc Cert.AdSmallRefIdeal.main_arg9)
      ∧ r.2.mem ((c.tc : Thread Cert.AdSmallRefIdeal.nD Cert.AdSmallRefIdeal.τ).loc Cert.AdSmallRefIdeal.main_arg10) = m ((c.tc : Thread Cert.AdSmallRefIdeal.nD Cert.AdSmallRefIdeal.τ).loc Cert.AdSmallRefIdeal.main_arg10)
      ∧ r.2.mem ((c.tc : Thread Cert.AdSmallRefIdeal.nD Cert.AdSmallRefIdeal.τ).loc Cert.AdSmallRefIdeal.main_arg11) = m ((c.tc : Thread Cert.AdSmallRefIdeal.nD Cert.AdSmallRefIdeal.τ).loc Cert.AdSmallRefIdeal.main_arg11)
      ∧ r.2.mem ((c.tc : Thread Cert.AdSmallRefIdeal.nD Cert.AdSmallRefIdeal.τ).loc Cert.AdSmallRefIdeal.main_arg12) = m ((c.tc : Thread Cert.AdSmallRefIdeal.nD Cert.AdSmallRefIdeal.τ).loc Cert.AdSmallRefIdeal.main_arg12)
      ∧ r.2.mem ((c.tc : Thread Cert.AdSmallRefIdeal.nD Cert.AdSmallRefIdeal.τ).loc Cert.AdSmallRefIdeal.main_arg13) = m ((c.tc : Thread Cert.AdSmallRefIdeal.nD Cert.AdSmallRefIdeal.τ).loc Cert.AdSmallRefIdeal.main_arg13)
      ∧ r.2.mem ((c.tc : Thread Cert.AdSmallRefIdeal.nD Cert.AdSmallRefIdeal.τ).loc Cert.AdSmallRefIdeal.main_arg14) = m ((c.tc : Thread Cert.AdSmallRefIdeal.nD Cert.AdSmallRefIdeal.τ).loc Cert.AdSmallRefIdeal.main_arg14)
      ∧ r.2.mem ((c.tc : Thread Cert.AdSmallRefIdeal.nD Cert.AdSmallRefIdeal.τ).loc Cert.AdSmallRefIdeal.main_arg15) = m ((c.tc : Thread Cert.AdSmallRefIdeal.nD Cert.AdSmallRefIdeal.τ).loc Cert.AdSmallRefIdeal.main_arg15)
      ∧ r.2.mem ((c.tc : Thread Cert.AdSmallRefIdeal.nD Cert.AdSmallRefIdeal.τ).loc Cert.AdSmallRefIdeal.main_arg16) = m ((c.tc : Thread Cert.AdSmallRefIdeal.nD Cert.AdSmallRefIdeal.τ).loc Cert.AdSmallRefIdeal.main_arg16)
      ∧ r.2.mem ((c.tc : Thread Cert.AdSmallRefIdeal.nD Cert.AdSmallRefIdeal.τ).loc Cert.AdSmallRefIdeal.main_arg17) = m ((c.tc : Thread Cert.AdSmallRefIdeal.nD Cert.AdSmallRefIdeal.τ).loc Cert.AdSmallRefIdeal.main_arg17)
      ∧ r.2.mem ((c.tc : Thread Cert.AdSmallRefIdeal.nD Cert.AdSmallRefIdeal.τ).loc Cert.AdSmallRefIdeal.main_arg18) = m ((c.tc : Thread Cert.AdSmallRefIdeal.nD Cert.AdSmallRefIdeal.τ).loc Cert.AdSmallRefIdeal.main_arg18)
      ∧ r.2.mem ((c.tc : Thread Cert.AdSmallRefIdeal.nD Cert.AdSmallRefIdeal.τ).loc Cert.AdSmallRefIdeal.main_arg19) = m ((c.tc : Thread Cert.AdSmallRefIdeal.nD Cert.AdSmallRefIdeal.τ).loc Cert.AdSmallRefIdeal.main_arg19)
      ∧ r.2.mem ((c.tc : Thread Cert.AdSmallRefIdeal.nD Cert.AdSmallRefIdeal.τ).loc Cert.AdSmallRefIdeal.main_arg20) = m ((c.tc : Thread Cert.AdSmallRefIdeal.nD Cert.AdSmallRefIdeal.τ).loc Cert.AdSmallRefIdeal.main_arg20)
      ∧ r.2.mem ((c.tc : Thread Cert.AdSmallRefIdeal.nD Cert.AdSmallRefIdeal.τ).loc Cert.AdSmallRefIdeal.main_arg21) = m ((c.tc : Thread Cert.AdSmallRefIdeal.nD Cert.AdSmallRefIdeal.τ).loc Cert.AdSmallRefIdeal.main_arg21)
      ∧ r.2.mem ((c.tc : Thread Cert.AdSmallRefIdeal.nD Cert.AdSmallRefIdeal.τ).loc Cert.AdSmallRefIdeal.main_arg22) = m ((c.tc : Thread Cert.AdSmallRefIdeal.nD Cert.AdSmallRefIdeal.τ).loc Cert.AdSmallRefIdeal.main_arg22)
      ∧ r.2.mem ((c.tc : Thread Cert.AdSmallRefIdeal.nD Cert.AdSmallRefIdeal.τ).loc Cert.AdSmallRefIdeal.main_arg23) = m ((c.tc : Thread Cert.AdSmallRefIdeal.nD Cert.AdSmallRefIdeal.τ).loc Cert.AdSmallRefIdeal.main_arg23)
      ∧ r.2.mem ((c.tc : Thread Cert.AdSmallRefIdeal.nD Cert.AdSmallRefIdeal.τ).loc Cert.AdSmallRefIdeal.main_arg24) = m ((c.tc : Thread Cert.AdSmallRefIdeal.nD Cert.AdSmallRefIdeal.τ).loc Cert.AdSmallRefIdeal.main_arg24)
      ∧ r.2.mem ((c.tc : Thread Cert.AdSmallRefIdeal.nD Cert.AdSmallRefIdeal.τ).loc Cert.AdSmallRefIdeal.main_arg25) = m ((c.tc : Thread Cert.AdSmallRefIdeal.nD Cert.AdSmallRefIdeal.τ).loc Cert.AdSmallRefIdeal.main_arg25)
      ∧ r.2.mem ((c.tc : Thread Cert.AdSmallRefIdeal.nD Cert.AdSmallRefIdeal.τ).loc Cert.AdSmallRefIdeal.main_arg26) = m ((c.tc : Thread Cert.AdSmallRefIdeal.nD Cert.AdSmallRefIdeal.τ).loc Cert.AdSmallRefIdeal.main_arg26)
      ∧ r.2.mem ((c.tc : Thread Cert.AdSmallRefIdeal.nD Cert.AdSmallRefIdeal.τ).loc Cert.AdSmallRefIdeal.main_arg27) = m ((c.tc : Thread Cert.AdSmallRefIdeal.nD Cert.AdSmallRefIdeal.τ).loc Cert.AdSmallRefIdeal.main_arg27)
      ∧ r.2.mem ((c.tc : Thread Cert.AdSmallRefIdeal.nD Cert.AdSmallRefIdeal.τ).loc Cert.AdSmallRefIdeal.main_arg28) = m ((c.tc : Thread Cert.AdSmallRefIdeal.nD Cert.AdSmallRefIdeal.τ).loc Cert.AdSmallRefIdeal.main_arg28)
      ∧ r.2.mem ((c.tc : Thread Cert.AdSmallRefIdeal.nD Cert.AdSmallRefIdeal.τ).loc Cert.AdSmallRefIdeal.main_arg29) = m ((c.tc : Thread Cert.AdSmallRefIdeal.nD Cert.AdSmallRefIdeal.τ).loc Cert.AdSmallRefIdeal.main_arg29)
      ∧ r.2.mem ((c.tc : Thread Cert.AdSmallRefIdeal.nD Cert.AdSmallRefIdeal.τ).loc Cert.AdSmallRefIdeal.main_arg30) = m ((c.tc : Thread Cert.AdSmallRefIdeal.nD Cert.AdSmallRefIdeal.τ).loc Cert.AdSmallRefIdeal.main_arg30)
      ∧ r.2.mem ((c.tc : Thread Cert.AdSmallRefIdeal.nD Cert.AdSmallRefIdeal.τ).loc Cert.AdSmallRefIdeal.main_arg31) = m ((c.tc : Thread Cert.AdSmallRefIdeal.nD Cert.AdSmallRefIdeal.τ).loc Cert.AdSmallRefIdeal.main_arg31)
      ∧ r.2.mem ((c.tc : Thread Cert.AdSmallRefIdeal.nD Cert.AdSmallRefIdeal.τ).loc Cert.AdSmallRefIdeal.main_arg32) = m ((c.tc : Thread Cert.AdSmallRefIdeal.nD Cert.AdSmallRefIdeal.τ).loc Cert.AdSmallRefIdeal.main_arg32)
      ∧ r.2.mem ((c.tc : Thread Cert.AdSmallRefIdeal.nD Cert.AdSmallRefIdeal.τ).loc Cert.AdSmallRefIdeal.main_arg33) = m ((c.tc : Thread Cert.AdSmallRefIdeal.nD Cert.AdSmallRefIdeal.τ).loc Cert.AdSmallRefIdeal.main_arg33)
      ∧ r.2.mem ((c.tc : Thread Cert.AdSmallRefIdeal.nD Cert.AdSmallRefIdeal.τ).loc Cert.AdSmallRefIdeal.main_arg34) = m ((c.tc : Thread Cert.AdSmallRefIdeal.nD Cert.AdSmallRefIdeal.τ).loc Cert.AdSmallRefIdeal.main_arg34)
      ∧ r.2.mem ((c.tc : Thread Cert.AdSmallRefIdeal.nD Cert.AdSmallRefIdeal.τ).loc Cert.AdSmallRefIdeal.main_arg35) = m ((c.tc : Thread Cert.AdSmallRefIdeal.nD Cert.AdSmallRefIdeal.τ).loc Cert.AdSmallRefIdeal.main_arg35))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0)
      ∧ r.2.mem ((c.tc : Thread Cert.SumDev.nD Cert.SumDev.τ).loc Cert.SumDev.main_arg1) = m ((c.tc : Thread Cert.SumDev.nD Cert.SumDev.τ).loc Cert.SumDev.main_arg1)
      ∧ r.2.mem ((c.tc : Thread Cert.SumDev.nD Cert.SumDev.τ).loc Cert.SumDev.main_arg2) = m ((c.tc : Thread Cert.SumDev.nD Cert.SumDev.τ).loc Cert.SumDev.main_arg2)
      ∧ r.2.mem ((c.tc : Thread Cert.SumDev.nD Cert.SumDev.τ).loc Cert.SumDev.main_arg3) = m ((c.tc : Thread Cert.SumDev.nD Cert.SumDev.τ).loc Cert.SumDev.main_arg3)
      ∧ r.2.mem ((c.tc : Thread Cert.SumDev.nD Cert.SumDev.τ).loc Cert.SumDev.main_arg4) = m ((c.tc : Thread Cert.SumDev.nD Cert.SumDev.τ).loc Cert.SumDev.main_arg4)
      ∧ r.2.mem ((c.tc : Thread Cert.SumDev.nD Cert.SumDev.τ).loc Cert.SumDev.main_arg5) = m ((c.tc : Thread Cert.SumDev.nD Cert.SumDev.τ).loc Cert.SumDev.main_arg5)
      ∧ r.2.mem ((c.tc : Thread Cert.SumDev.nD Cert.SumDev.τ).loc Cert.SumDev.main_arg6) = m ((c.tc : Thread Cert.SumDev.nD Cert.SumDev.τ).loc Cert.SumDev.main_arg6)
      ∧ r.2.mem ((c.tc : Thread Cert.SumDev.nD Cert.SumDev.τ).loc Cert.SumDev.main_arg7) = m ((c.tc : Thread Cert.SumDev.nD Cert.SumDev.τ).loc Cert.SumDev.main_arg7)
      ∧ r.2.mem ((c.tc : Thread Cert.SumDev.nD Cert.SumDev.τ).loc Cert.SumDev.main_arg8) = m ((c.tc : Thread Cert.SumDev.nD Cert.SumDev.τ).loc Cert.SumDev.main_arg8))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
      ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
      ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2)
      ∧ r.2.mem ((c.tc : Thread Cert.SumDevIdeal.nD Cert.SumDevIdeal.τ).loc Cert.SumDevIdeal.main_arg3) = m ((c.tc : Thread Cert.SumDevIdeal.nD Cert.SumDevIdeal.τ).loc Cert.SumDevIdeal.main_arg3)
      ∧ r.2.mem ((c.tc : Thread Cert.SumDevIdeal.nD Cert.SumDevIdeal.τ).loc Cert.SumDevIdeal.main_arg4) = m ((c.tc : Thread Cert.SumDevIdeal.nD Cert.SumDevIdeal.τ).loc Cert.SumDevIdeal.main_arg4)
      ∧ r.2.mem ((c.tc : Thread Cert.SumDevIdeal.nD Cert.SumDevIdeal.τ).loc Cert.SumDevIdeal.main_arg5) = m ((c.tc : Thread Cert.SumDevIdeal.nD Cert.SumDevIdeal.τ).loc Cert.SumDevIdeal.main_arg5)
      ∧ r.2.mem ((c.tc : Thread Cert.SumDevIdeal.nD Cert.SumDevIdeal.τ).loc Cert.SumDevIdeal.main_arg6) = m ((c.tc : Thread Cert.SumDevIdeal.nD Cert.SumDevIdeal.τ).loc Cert.SumDevIdeal.main_arg6)
      ∧ r.2.mem ((c.tc : Thread Cert.SumDevIdeal.nD Cert.SumDevIdeal.τ).loc Cert.SumDevIdeal.main_arg7) = m ((c.tc : Thread Cert.SumDevIdeal.nD Cert.SumDevIdeal.τ).loc Cert.SumDevIdeal.main_arg7)
      ∧ r.2.mem ((c.tc : Thread Cert.SumDevIdeal.nD Cert.SumDevIdeal.τ).loc Cert.SumDevIdeal.main_arg8) = m ((c.tc : Thread Cert.SumDevIdeal.nD Cert.SumDevIdeal.τ).loc Cert.SumDevIdeal.main_arg8))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0)
      ∧ r.2.mem ((c.tc : Thread Cert.SumDevRefIdeal.nD Cert.SumDevRefIdeal.τ).loc Cert.SumDevRefIdeal.main_arg1) = m ((c.tc : Thread Cert.SumDevRefIdeal.nD Cert.SumDevRefIdeal.τ).loc Cert.SumDevRefIdeal.main_arg1)
      ∧ r.2.mem ((c.tc : Thread Cert.SumDevRefIdeal.nD Cert.SumDevRefIdeal.τ).loc Cert.SumDevRefIdeal.main_arg2) = m ((c.tc : Thread Cert.SumDevRefIdeal.nD Cert.SumDevRefIdeal.τ).loc Cert.SumDevRefIdeal.main_arg2)
      ∧ r.2.mem ((c.tc : Thread Cert.SumDevRefIdeal.nD Cert.SumDevRefIdeal.τ).loc Cert.SumDevRefIdeal.main_arg3) = m ((c.tc : Thread Cert.SumDevRefIdeal.nD Cert.SumDevRefIdeal.τ).loc Cert.SumDevRefIdeal.main_arg3)
      ∧ r.2.mem ((c.tc : Thread Cert.SumDevRefIdeal.nD Cert.SumDevRefIdeal.τ).loc Cert.SumDevRefIdeal.main_arg4) = m ((c.tc : Thread Cert.SumDevRefIdeal.nD Cert.SumDevRefIdeal.τ).loc Cert.SumDevRefIdeal.main_arg4)
      ∧ r.2.mem ((c.tc : Thread Cert.SumDevRefIdeal.nD Cert.SumDevRefIdeal.τ).loc Cert.SumDevRefIdeal.main_arg5) = m ((c.tc : Thread Cert.SumDevRefIdeal.nD Cert.SumDevRefIdeal.τ).loc Cert.SumDevRefIdeal.main_arg5)
      ∧ r.2.mem ((c.tc : Thread Cert.SumDevRefIdeal.nD Cert.SumDevRefIdeal.τ).loc Cert.SumDevRefIdeal.main_arg6) = m ((c.tc : Thread Cert.SumDevRefIdeal.nD Cert.SumDevRefIdeal.τ).loc Cert.SumDevRefIdeal.main_arg6)
      ∧ r.2.mem ((c.tc : Thread Cert.SumDevRefIdeal.nD Cert.SumDevRefIdeal.τ).loc Cert.SumDevRefIdeal.main_arg7) = m ((c.tc : Thread Cert.SumDevRefIdeal.nD Cert.SumDevRefIdeal.τ).loc Cert.SumDevRefIdeal.main_arg7)
      ∧ r.2.mem ((c.tc : Thread Cert.SumDevRefIdeal.nD Cert.SumDevRefIdeal.τ).loc Cert.SumDevRefIdeal.main_arg8) = m ((c.tc : Thread Cert.SumDevRefIdeal.nD Cert.SumDevRefIdeal.τ).loc Cert.SumDevRefIdeal.main_arg8))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_AdIn0 [hAdIn0 : Cert.AdIn0.Facts] : Prop :=
  ∀ (m : (ℓ : Loc Cert.AdIn0.nD Cert.AdIn0.τ Cert.AdIn0.sig) → Buf (Elt Bits) ℓ) (g : Dev Cert.AdIn0.nD → PrngReg), Pre_AdIn0 m →
    θ_run (Cert.AdIn0.defs (F := Bits)) (onTc (τ := Cert.AdIn0.τ) (Cert.AdIn0.main (F := Bits))) ⟨m, fun _ => 0, g⟩ (fun r => (∀ c : Dev Cert.AdIn0.nD,
      r.2.mem ((c.tc : Thread Cert.AdIn0.nD Cert.AdIn0.τ).loc Cert.AdIn0.main_arg0) = m ((c.tc : Thread Cert.AdIn0.nD Cert.AdIn0.τ).loc Cert.AdIn0.main_arg0)
      ∧ r.2.mem ((c.tc : Thread Cert.AdIn0.nD Cert.AdIn0.τ).loc Cert.AdIn0.main_arg1) = m ((c.tc : Thread Cert.AdIn0.nD Cert.AdIn0.τ).loc Cert.AdIn0.main_arg1)
      ∧ r.2.mem ((c.tc : Thread Cert.AdIn0.nD Cert.AdIn0.τ).loc Cert.AdIn0.main_arg2) = m ((c.tc : Thread Cert.AdIn0.nD Cert.AdIn0.τ).loc Cert.AdIn0.main_arg2)
      ∧ r.2.mem ((c.tc : Thread Cert.AdIn0.nD Cert.AdIn0.τ).loc Cert.AdIn0.main_arg3) = m ((c.tc : Thread Cert.AdIn0.nD Cert.AdIn0.τ).loc Cert.AdIn0.main_arg3)
      ∧ r.2.mem ((c.tc : Thread Cert.AdIn0.nD Cert.AdIn0.τ).loc Cert.AdIn0.main_arg4) = m ((c.tc : Thread Cert.AdIn0.nD Cert.AdIn0.τ).loc Cert.AdIn0.main_arg4)
      ∧ r.2.mem ((c.tc : Thread Cert.AdIn0.nD Cert.AdIn0.τ).loc Cert.AdIn0.main_arg5) = m ((c.tc : Thread Cert.AdIn0.nD Cert.AdIn0.τ).loc Cert.AdIn0.main_arg5)
      ∧ r.2.mem ((c.tc : Thread Cert.AdIn0.nD Cert.AdIn0.τ).loc Cert.AdIn0.main_arg6) = m ((c.tc : Thread Cert.AdIn0.nD Cert.AdIn0.τ).loc Cert.AdIn0.main_arg6)
      ∧ r.2.mem ((c.tc : Thread Cert.AdIn0.nD Cert.AdIn0.τ).loc Cert.AdIn0.main_arg7) = m ((c.tc : Thread Cert.AdIn0.nD Cert.AdIn0.τ).loc Cert.AdIn0.main_arg7))
      ∧ r.2.sem = fun _ => 0)

def quiescent_AdIn0Ideal [hAdIn0Ideal : Cert.AdIn0Ideal.Facts] : Prop :=
  ∀ (m : (ℓ : Loc Cert.AdIn0Ideal.nD Cert.AdIn0Ideal.τ Cert.AdIn0Ideal.sig) → Buf (Elt Ideal) ℓ) (g : Dev Cert.AdIn0Ideal.nD → PrngReg), Pre_AdIn0Ideal m →
    θ_run (Cert.AdIn0Ideal.defs (F := Ideal)) (onTc (τ := Cert.AdIn0Ideal.τ) (Cert.AdIn0Ideal.main (F := Ideal))) ⟨m, fun _ => 0, g⟩ (fun r => (∀ c : Dev Cert.AdIn0Ideal.nD,
      r.2.mem ((c.tc : Thread Cert.AdIn0Ideal.nD Cert.AdIn0Ideal.τ).loc Cert.AdIn0Ideal.main_arg0) = m ((c.tc : Thread Cert.AdIn0Ideal.nD Cert.AdIn0Ideal.τ).loc Cert.AdIn0Ideal.main_arg0)
      ∧ r.2.mem ((c.tc : Thread Cert.AdIn0Ideal.nD Cert.AdIn0Ideal.τ).loc Cert.AdIn0Ideal.main_arg1) = m ((c.tc : Thread Cert.AdIn0Ideal.nD Cert.AdIn0Ideal.τ).loc Cert.AdIn0Ideal.main_arg1)
      ∧ r.2.mem ((c.tc : Thread Cert.AdIn0Ideal.nD Cert.AdIn0Ideal.τ).loc Cert.AdIn0Ideal.main_arg2) = m ((c.tc : Thread Cert.AdIn0Ideal.nD Cert.AdIn0Ideal.τ).loc Cert.AdIn0Ideal.main_arg2)
      ∧ r.2.mem ((c.tc : Thread Cert.AdIn0Ideal.nD Cert.AdIn0Ideal.τ).loc Cert.AdIn0Ideal.main_arg3) = m ((c.tc : Thread Cert.AdIn0Ideal.nD Cert.AdIn0Ideal.τ).loc Cert.AdIn0Ideal.main_arg3)
      ∧ r.2.mem ((c.tc : Thread Cert.AdIn0Ideal.nD Cert.AdIn0Ideal.τ).loc Cert.AdIn0Ideal.main_arg4) = m ((c.tc : Thread Cert.AdIn0Ideal.nD Cert.AdIn0Ideal.τ).loc Cert.AdIn0Ideal.main_arg4)
      ∧ r.2.mem ((c.tc : Thread Cert.AdIn0Ideal.nD Cert.AdIn0Ideal.τ).loc Cert.AdIn0Ideal.main_arg5) = m ((c.tc : Thread Cert.AdIn0Ideal.nD Cert.AdIn0Ideal.τ).loc Cert.AdIn0Ideal.main_arg5)
      ∧ r.2.mem ((c.tc : Thread Cert.AdIn0Ideal.nD Cert.AdIn0Ideal.τ).loc Cert.AdIn0Ideal.main_arg6) = m ((c.tc : Thread Cert.AdIn0Ideal.nD Cert.AdIn0Ideal.τ).loc Cert.AdIn0Ideal.main_arg6)
      ∧ r.2.mem ((c.tc : Thread Cert.AdIn0Ideal.nD Cert.AdIn0Ideal.τ).loc Cert.AdIn0Ideal.main_arg7) = m ((c.tc : Thread Cert.AdIn0Ideal.nD Cert.AdIn0Ideal.τ).loc Cert.AdIn0Ideal.main_arg7))
      ∧ r.2.sem = fun _ => 0)

def quiescent_AdIn0RefIdeal [hAdIn0RefIdeal : Cert.AdIn0RefIdeal.Facts] : Prop :=
  ∀ (m : (ℓ : Loc Cert.AdIn0RefIdeal.nD Cert.AdIn0RefIdeal.τ Cert.AdIn0RefIdeal.sig) → Buf (Elt Ideal) ℓ) (g : Dev Cert.AdIn0RefIdeal.nD → PrngReg), Pre_AdIn0RefIdeal m →
    θ_run (Cert.AdIn0RefIdeal.defs (F := Ideal)) (onTc (τ := Cert.AdIn0RefIdeal.τ) (Cert.AdIn0RefIdeal.main (F := Ideal))) ⟨m, fun _ => 0, g⟩ (fun r => (∀ c : Dev Cert.AdIn0RefIdeal.nD,
      r.2.mem ((c.tc : Thread Cert.AdIn0RefIdeal.nD Cert.AdIn0RefIdeal.τ).loc Cert.AdIn0RefIdeal.main_arg0) = m ((c.tc : Thread Cert.AdIn0RefIdeal.nD Cert.AdIn0RefIdeal.τ).loc Cert.AdIn0RefIdeal.main_arg0)
      ∧ r.2.mem ((c.tc : Thread Cert.AdIn0RefIdeal.nD Cert.AdIn0RefIdeal.τ).loc Cert.AdIn0RefIdeal.main_arg1) = m ((c.tc : Thread Cert.AdIn0RefIdeal.nD Cert.AdIn0RefIdeal.τ).loc Cert.AdIn0RefIdeal.main_arg1)
      ∧ r.2.mem ((c.tc : Thread Cert.AdIn0RefIdeal.nD Cert.AdIn0RefIdeal.τ).loc Cert.AdIn0RefIdeal.main_arg2) = m ((c.tc : Thread Cert.AdIn0RefIdeal.nD Cert.AdIn0RefIdeal.τ).loc Cert.AdIn0RefIdeal.main_arg2)
      ∧ r.2.mem ((c.tc : Thread Cert.AdIn0RefIdeal.nD Cert.AdIn0RefIdeal.τ).loc Cert.AdIn0RefIdeal.main_arg3) = m ((c.tc : Thread Cert.AdIn0RefIdeal.nD Cert.AdIn0RefIdeal.τ).loc Cert.AdIn0RefIdeal.main_arg3)
      ∧ r.2.mem ((c.tc : Thread Cert.AdIn0RefIdeal.nD Cert.AdIn0RefIdeal.τ).loc Cert.AdIn0RefIdeal.main_arg4) = m ((c.tc : Thread Cert.AdIn0RefIdeal.nD Cert.AdIn0RefIdeal.τ).loc Cert.AdIn0RefIdeal.main_arg4)
      ∧ r.2.mem ((c.tc : Thread Cert.AdIn0RefIdeal.nD Cert.AdIn0RefIdeal.τ).loc Cert.AdIn0RefIdeal.main_arg5) = m ((c.tc : Thread Cert.AdIn0RefIdeal.nD Cert.AdIn0RefIdeal.τ).loc Cert.AdIn0RefIdeal.main_arg5)
      ∧ r.2.mem ((c.tc : Thread Cert.AdIn0RefIdeal.nD Cert.AdIn0RefIdeal.τ).loc Cert.AdIn0RefIdeal.main_arg6) = m ((c.tc : Thread Cert.AdIn0RefIdeal.nD Cert.AdIn0RefIdeal.τ).loc Cert.AdIn0RefIdeal.main_arg6)
      ∧ r.2.mem ((c.tc : Thread Cert.AdIn0RefIdeal.nD Cert.AdIn0RefIdeal.τ).loc Cert.AdIn0RefIdeal.main_arg7) = m ((c.tc : Thread Cert.AdIn0RefIdeal.nD Cert.AdIn0RefIdeal.τ).loc Cert.AdIn0RefIdeal.main_arg7))
      ∧ r.2.sem = fun _ => 0)

def quiescent_AdIn1 [hAdIn1 : Cert.AdIn1.Facts] : Prop :=
  ∀ (m : (ℓ : Loc Cert.AdIn1.nD Cert.AdIn1.τ Cert.AdIn1.sig) → Buf (Elt Bits) ℓ) (g : Dev Cert.AdIn1.nD → PrngReg), Pre_AdIn1 m →
    θ_run (Cert.AdIn1.defs (F := Bits)) (onTc (τ := Cert.AdIn1.τ) (Cert.AdIn1.main (F := Bits))) ⟨m, fun _ => 0, g⟩ (fun r => (∀ c : Dev Cert.AdIn1.nD,
      r.2.mem ((c.tc : Thread Cert.AdIn1.nD Cert.AdIn1.τ).loc Cert.AdIn1.main_arg0) = m ((c.tc : Thread Cert.AdIn1.nD Cert.AdIn1.τ).loc Cert.AdIn1.main_arg0)
      ∧ r.2.mem ((c.tc : Thread Cert.AdIn1.nD Cert.AdIn1.τ).loc Cert.AdIn1.main_arg1) = m ((c.tc : Thread Cert.AdIn1.nD Cert.AdIn1.τ).loc Cert.AdIn1.main_arg1)
      ∧ r.2.mem ((c.tc : Thread Cert.AdIn1.nD Cert.AdIn1.τ).loc Cert.AdIn1.main_arg2) = m ((c.tc : Thread Cert.AdIn1.nD Cert.AdIn1.τ).loc Cert.AdIn1.main_arg2)
      ∧ r.2.mem ((c.tc : Thread Cert.AdIn1.nD Cert.AdIn1.τ).loc Cert.AdIn1.main_arg3) = m ((c.tc : Thread Cert.AdIn1.nD Cert.AdIn1.τ).loc Cert.AdIn1.main_arg3)
      ∧ r.2.mem ((c.tc : Thread Cert.AdIn1.nD Cert.AdIn1.τ).loc Cert.AdIn1.main_arg4) = m ((c.tc : Thread Cert.AdIn1.nD Cert.AdIn1.τ).loc Cert.AdIn1.main_arg4)
      ∧ r.2.mem ((c.tc : Thread Cert.AdIn1.nD Cert.AdIn1.τ).loc Cert.AdIn1.main_arg5) = m ((c.tc : Thread Cert.AdIn1.nD Cert.AdIn1.τ).loc Cert.AdIn1.main_arg5)
      ∧ r.2.mem ((c.tc : Thread Cert.AdIn1.nD Cert.AdIn1.τ).loc Cert.AdIn1.main_arg6) = m ((c.tc : Thread Cert.AdIn1.nD Cert.AdIn1.τ).loc Cert.AdIn1.main_arg6)
      ∧ r.2.mem ((c.tc : Thread Cert.AdIn1.nD Cert.AdIn1.τ).loc Cert.AdIn1.main_arg7) = m ((c.tc : Thread Cert.AdIn1.nD Cert.AdIn1.τ).loc Cert.AdIn1.main_arg7))
      ∧ r.2.sem = fun _ => 0)

def quiescent_AdIn1Ideal [hAdIn1Ideal : Cert.AdIn1Ideal.Facts] : Prop :=
  ∀ (m : (ℓ : Loc Cert.AdIn1Ideal.nD Cert.AdIn1Ideal.τ Cert.AdIn1Ideal.sig) → Buf (Elt Ideal) ℓ) (g : Dev Cert.AdIn1Ideal.nD → PrngReg), Pre_AdIn1Ideal m →
    θ_run (Cert.AdIn1Ideal.defs (F := Ideal)) (onTc (τ := Cert.AdIn1Ideal.τ) (Cert.AdIn1Ideal.main (F := Ideal))) ⟨m, fun _ => 0, g⟩ (fun r => (∀ c : Dev Cert.AdIn1Ideal.nD,
      r.2.mem ((c.tc : Thread Cert.AdIn1Ideal.nD Cert.AdIn1Ideal.τ).loc Cert.AdIn1Ideal.main_arg0) = m ((c.tc : Thread Cert.AdIn1Ideal.nD Cert.AdIn1Ideal.τ).loc Cert.AdIn1Ideal.main_arg0)
      ∧ r.2.mem ((c.tc : Thread Cert.AdIn1Ideal.nD Cert.AdIn1Ideal.τ).loc Cert.AdIn1Ideal.main_arg1) = m ((c.tc : Thread Cert.AdIn1Ideal.nD Cert.AdIn1Ideal.τ).loc Cert.AdIn1Ideal.main_arg1)
      ∧ r.2.mem ((c.tc : Thread Cert.AdIn1Ideal.nD Cert.AdIn1Ideal.τ).loc Cert.AdIn1Ideal.main_arg2) = m ((c.tc : Thread Cert.AdIn1Ideal.nD Cert.AdIn1Ideal.τ).loc Cert.AdIn1Ideal.main_arg2)
      ∧ r.2.mem ((c.tc : Thread Cert.AdIn1Ideal.nD Cert.AdIn1Ideal.τ).loc Cert.AdIn1Ideal.main_arg3) = m ((c.tc : Thread Cert.AdIn1Ideal.nD Cert.AdIn1Ideal.τ).loc Cert.AdIn1Ideal.main_arg3)
      ∧ r.2.mem ((c.tc : Thread Cert.AdIn1Ideal.nD Cert.AdIn1Ideal.τ).loc Cert.AdIn1Ideal.main_arg4) = m ((c.tc : Thread Cert.AdIn1Ideal.nD Cert.AdIn1Ideal.τ).loc Cert.AdIn1Ideal.main_arg4)
      ∧ r.2.mem ((c.tc : Thread Cert.AdIn1Ideal.nD Cert.AdIn1Ideal.τ).loc Cert.AdIn1Ideal.main_arg5) = m ((c.tc : Thread Cert.AdIn1Ideal.nD Cert.AdIn1Ideal.τ).loc Cert.AdIn1Ideal.main_arg5)
      ∧ r.2.mem ((c.tc : Thread Cert.AdIn1Ideal.nD Cert.AdIn1Ideal.τ).loc Cert.AdIn1Ideal.main_arg6) = m ((c.tc : Thread Cert.AdIn1Ideal.nD Cert.AdIn1Ideal.τ).loc Cert.AdIn1Ideal.main_arg6)
      ∧ r.2.mem ((c.tc : Thread Cert.AdIn1Ideal.nD Cert.AdIn1Ideal.τ).loc Cert.AdIn1Ideal.main_arg7) = m ((c.tc : Thread Cert.AdIn1Ideal.nD Cert.AdIn1Ideal.τ).loc Cert.AdIn1Ideal.main_arg7))
      ∧ r.2.sem = fun _ => 0)

def quiescent_AdIn1RefIdeal [hAdIn1RefIdeal : Cert.AdIn1RefIdeal.Facts] : Prop :=
  ∀ (m : (ℓ : Loc Cert.AdIn1RefIdeal.nD Cert.AdIn1RefIdeal.τ Cert.AdIn1RefIdeal.sig) → Buf (Elt Ideal) ℓ) (g : Dev Cert.AdIn1RefIdeal.nD → PrngReg), Pre_AdIn1RefIdeal m →
    θ_run (Cert.AdIn1RefIdeal.defs (F := Ideal)) (onTc (τ := Cert.AdIn1RefIdeal.τ) (Cert.AdIn1RefIdeal.main (F := Ideal))) ⟨m, fun _ => 0, g⟩ (fun r => (∀ c : Dev Cert.AdIn1RefIdeal.nD,
      r.2.mem ((c.tc : Thread Cert.AdIn1RefIdeal.nD Cert.AdIn1RefIdeal.τ).loc Cert.AdIn1RefIdeal.main_arg0) = m ((c.tc : Thread Cert.AdIn1RefIdeal.nD Cert.AdIn1RefIdeal.τ).loc Cert.AdIn1RefIdeal.main_arg0)
      ∧ r.2.mem ((c.tc : Thread Cert.AdIn1RefIdeal.nD Cert.AdIn1RefIdeal.τ).loc Cert.AdIn1RefIdeal.main_arg1) = m ((c.tc : Thread Cert.AdIn1RefIdeal.nD Cert.AdIn1RefIdeal.τ).loc Cert.AdIn1RefIdeal.main_arg1)
      ∧ r.2.mem ((c.tc : Thread Cert.AdIn1RefIdeal.nD Cert.AdIn1RefIdeal.τ).loc Cert.AdIn1RefIdeal.main_arg2) = m ((c.tc : Thread Cert.AdIn1RefIdeal.nD Cert.AdIn1RefIdeal.τ).loc Cert.AdIn1RefIdeal.main_arg2)
      ∧ r.2.mem ((c.tc : Thread Cert.AdIn1RefIdeal.nD Cert.AdIn1RefIdeal.τ).loc Cert.AdIn1RefIdeal.main_arg3) = m ((c.tc : Thread Cert.AdIn1RefIdeal.nD Cert.AdIn1RefIdeal.τ).loc Cert.AdIn1RefIdeal.main_arg3)
      ∧ r.2.mem ((c.tc : Thread Cert.AdIn1RefIdeal.nD Cert.AdIn1RefIdeal.τ).loc Cert.AdIn1RefIdeal.main_arg4) = m ((c.tc : Thread Cert.AdIn1RefIdeal.nD Cert.AdIn1RefIdeal.τ).loc Cert.AdIn1RefIdeal.main_arg4)
      ∧ r.2.mem ((c.tc : Thread Cert.AdIn1RefIdeal.nD Cert.AdIn1RefIdeal.τ).loc Cert.AdIn1RefIdeal.main_arg5) = m ((c.tc : Thread Cert.AdIn1RefIdeal.nD Cert.AdIn1RefIdeal.τ).loc Cert.AdIn1RefIdeal.main_arg5)
      ∧ r.2.mem ((c.tc : Thread Cert.AdIn1RefIdeal.nD Cert.AdIn1RefIdeal.τ).loc Cert.AdIn1RefIdeal.main_arg6) = m ((c.tc : Thread Cert.AdIn1RefIdeal.nD Cert.AdIn1RefIdeal.τ).loc Cert.AdIn1RefIdeal.main_arg6)
      ∧ r.2.mem ((c.tc : Thread Cert.AdIn1RefIdeal.nD Cert.AdIn1RefIdeal.τ).loc Cert.AdIn1RefIdeal.main_arg7) = m ((c.tc : Thread Cert.AdIn1RefIdeal.nD Cert.AdIn1RefIdeal.τ).loc Cert.AdIn1RefIdeal.main_arg7))
      ∧ r.2.sem = fun _ => 0)

def quiescent_AdIn2 [hAdIn2 : Cert.AdIn2.Facts] : Prop :=
  ∀ (m : (ℓ : Loc Cert.AdIn2.nD Cert.AdIn2.τ Cert.AdIn2.sig) → Buf (Elt Bits) ℓ) (g : Dev Cert.AdIn2.nD → PrngReg), Pre_AdIn2 m →
    θ_run (Cert.AdIn2.defs (F := Bits)) (onTc (τ := Cert.AdIn2.τ) (Cert.AdIn2.main (F := Bits))) ⟨m, fun _ => 0, g⟩ (fun r => (∀ c : Dev Cert.AdIn2.nD,
      r.2.mem ((c.tc : Thread Cert.AdIn2.nD Cert.AdIn2.τ).loc Cert.AdIn2.main_arg0) = m ((c.tc : Thread Cert.AdIn2.nD Cert.AdIn2.τ).loc Cert.AdIn2.main_arg0)
      ∧ r.2.mem ((c.tc : Thread Cert.AdIn2.nD Cert.AdIn2.τ).loc Cert.AdIn2.main_arg1) = m ((c.tc : Thread Cert.AdIn2.nD Cert.AdIn2.τ).loc Cert.AdIn2.main_arg1)
      ∧ r.2.mem ((c.tc : Thread Cert.AdIn2.nD Cert.AdIn2.τ).loc Cert.AdIn2.main_arg2) = m ((c.tc : Thread Cert.AdIn2.nD Cert.AdIn2.τ).loc Cert.AdIn2.main_arg2)
      ∧ r.2.mem ((c.tc : Thread Cert.AdIn2.nD Cert.AdIn2.τ).loc Cert.AdIn2.main_arg3) = m ((c.tc : Thread Cert.AdIn2.nD Cert.AdIn2.τ).loc Cert.AdIn2.main_arg3)
      ∧ r.2.mem ((c.tc : Thread Cert.AdIn2.nD Cert.AdIn2.τ).loc Cert.AdIn2.main_arg4) = m ((c.tc : Thread Cert.AdIn2.nD Cert.AdIn2.τ).loc Cert.AdIn2.main_arg4)
      ∧ r.2.mem ((c.tc : Thread Cert.AdIn2.nD Cert.AdIn2.τ).loc Cert.AdIn2.main_arg5) = m ((c.tc : Thread Cert.AdIn2.nD Cert.AdIn2.τ).loc Cert.AdIn2.main_arg5)
      ∧ r.2.mem ((c.tc : Thread Cert.AdIn2.nD Cert.AdIn2.τ).loc Cert.AdIn2.main_arg6) = m ((c.tc : Thread Cert.AdIn2.nD Cert.AdIn2.τ).loc Cert.AdIn2.main_arg6)
      ∧ r.2.mem ((c.tc : Thread Cert.AdIn2.nD Cert.AdIn2.τ).loc Cert.AdIn2.main_arg7) = m ((c.tc : Thread Cert.AdIn2.nD Cert.AdIn2.τ).loc Cert.AdIn2.main_arg7))
      ∧ r.2.sem = fun _ => 0)

def quiescent_AdIn2Ideal [hAdIn2Ideal : Cert.AdIn2Ideal.Facts] : Prop :=
  ∀ (m : (ℓ : Loc Cert.AdIn2Ideal.nD Cert.AdIn2Ideal.τ Cert.AdIn2Ideal.sig) → Buf (Elt Ideal) ℓ) (g : Dev Cert.AdIn2Ideal.nD → PrngReg), Pre_AdIn2Ideal m →
    θ_run (Cert.AdIn2Ideal.defs (F := Ideal)) (onTc (τ := Cert.AdIn2Ideal.τ) (Cert.AdIn2Ideal.main (F := Ideal))) ⟨m, fun _ => 0, g⟩ (fun r => (∀ c : Dev Cert.AdIn2Ideal.nD,
      r.2.mem ((c.tc : Thread Cert.AdIn2Ideal.nD Cert.AdIn2Ideal.τ).loc Cert.AdIn2Ideal.main_arg0) = m ((c.tc : Thread Cert.AdIn2Ideal.nD Cert.AdIn2Ideal.τ).loc Cert.AdIn2Ideal.main_arg0)
      ∧ r.2.mem ((c.tc : Thread Cert.AdIn2Ideal.nD Cert.AdIn2Ideal.τ).loc Cert.AdIn2Ideal.main_arg1) = m ((c.tc : Thread Cert.AdIn2Ideal.nD Cert.AdIn2Ideal.τ).loc Cert.AdIn2Ideal.main_arg1)
      ∧ r.2.mem ((c.tc : Thread Cert.AdIn2Ideal.nD Cert.AdIn2Ideal.τ).loc Cert.AdIn2Ideal.main_arg2) = m ((c.tc : Thread Cert.AdIn2Ideal.nD Cert.AdIn2Ideal.τ).loc Cert.AdIn2Ideal.main_arg2)
      ∧ r.2.mem ((c.tc : Thread Cert.AdIn2Ideal.nD Cert.AdIn2Ideal.τ).loc Cert.AdIn2Ideal.main_arg3) = m ((c.tc : Thread Cert.AdIn2Ideal.nD Cert.AdIn2Ideal.τ).loc Cert.AdIn2Ideal.main_arg3)
      ∧ r.2.mem ((c.tc : Thread Cert.AdIn2Ideal.nD Cert.AdIn2Ideal.τ).loc Cert.AdIn2Ideal.main_arg4) = m ((c.tc : Thread Cert.AdIn2Ideal.nD Cert.AdIn2Ideal.τ).loc Cert.AdIn2Ideal.main_arg4)
      ∧ r.2.mem ((c.tc : Thread Cert.AdIn2Ideal.nD Cert.AdIn2Ideal.τ).loc Cert.AdIn2Ideal.main_arg5) = m ((c.tc : Thread Cert.AdIn2Ideal.nD Cert.AdIn2Ideal.τ).loc Cert.AdIn2Ideal.main_arg5)
      ∧ r.2.mem ((c.tc : Thread Cert.AdIn2Ideal.nD Cert.AdIn2Ideal.τ).loc Cert.AdIn2Ideal.main_arg6) = m ((c.tc : Thread Cert.AdIn2Ideal.nD Cert.AdIn2Ideal.τ).loc Cert.AdIn2Ideal.main_arg6)
      ∧ r.2.mem ((c.tc : Thread Cert.AdIn2Ideal.nD Cert.AdIn2Ideal.τ).loc Cert.AdIn2Ideal.main_arg7) = m ((c.tc : Thread Cert.AdIn2Ideal.nD Cert.AdIn2Ideal.τ).loc Cert.AdIn2Ideal.main_arg7))
      ∧ r.2.sem = fun _ => 0)

def quiescent_AdIn2RefIdeal [hAdIn2RefIdeal : Cert.AdIn2RefIdeal.Facts] : Prop :=
  ∀ (m : (ℓ : Loc Cert.AdIn2RefIdeal.nD Cert.AdIn2RefIdeal.τ Cert.AdIn2RefIdeal.sig) → Buf (Elt Ideal) ℓ) (g : Dev Cert.AdIn2RefIdeal.nD → PrngReg), Pre_AdIn2RefIdeal m →
    θ_run (Cert.AdIn2RefIdeal.defs (F := Ideal)) (onTc (τ := Cert.AdIn2RefIdeal.τ) (Cert.AdIn2RefIdeal.main (F := Ideal))) ⟨m, fun _ => 0, g⟩ (fun r => (∀ c : Dev Cert.AdIn2RefIdeal.nD,
      r.2.mem ((c.tc : Thread Cert.AdIn2RefIdeal.nD Cert.AdIn2RefIdeal.τ).loc Cert.AdIn2RefIdeal.main_arg0) = m ((c.tc : Thread Cert.AdIn2RefIdeal.nD Cert.AdIn2RefIdeal.τ).loc Cert.AdIn2RefIdeal.main_arg0)
      ∧ r.2.mem ((c.tc : Thread Cert.AdIn2RefIdeal.nD Cert.AdIn2RefIdeal.τ).loc Cert.AdIn2RefIdeal.main_arg1) = m ((c.tc : Thread Cert.AdIn2RefIdeal.nD Cert.AdIn2RefIdeal.τ).loc Cert.AdIn2RefIdeal.main_arg1)
      ∧ r.2.mem ((c.tc : Thread Cert.AdIn2RefIdeal.nD Cert.AdIn2RefIdeal.τ).loc Cert.AdIn2RefIdeal.main_arg2) = m ((c.tc : Thread Cert.AdIn2RefIdeal.nD Cert.AdIn2RefIdeal.τ).loc Cert.AdIn2RefIdeal.main_arg2)
      ∧ r.2.mem ((c.tc : Thread Cert.AdIn2RefIdeal.nD Cert.AdIn2RefIdeal.τ).loc Cert.AdIn2RefIdeal.main_arg3) = m ((c.tc : Thread Cert.AdIn2RefIdeal.nD Cert.AdIn2RefIdeal.τ).loc Cert.AdIn2RefIdeal.main_arg3)
      ∧ r.2.mem ((c.tc : Thread Cert.AdIn2RefIdeal.nD Cert.AdIn2RefIdeal.τ).loc Cert.AdIn2RefIdeal.main_arg4) = m ((c.tc : Thread Cert.AdIn2RefIdeal.nD Cert.AdIn2RefIdeal.τ).loc Cert.AdIn2RefIdeal.main_arg4)
      ∧ r.2.mem ((c.tc : Thread Cert.AdIn2RefIdeal.nD Cert.AdIn2RefIdeal.τ).loc Cert.AdIn2RefIdeal.main_arg5) = m ((c.tc : Thread Cert.AdIn2RefIdeal.nD Cert.AdIn2RefIdeal.τ).loc Cert.AdIn2RefIdeal.main_arg5)
      ∧ r.2.mem ((c.tc : Thread Cert.AdIn2RefIdeal.nD Cert.AdIn2RefIdeal.τ).loc Cert.AdIn2RefIdeal.main_arg6) = m ((c.tc : Thread Cert.AdIn2RefIdeal.nD Cert.AdIn2RefIdeal.τ).loc Cert.AdIn2RefIdeal.main_arg6)
      ∧ r.2.mem ((c.tc : Thread Cert.AdIn2RefIdeal.nD Cert.AdIn2RefIdeal.τ).loc Cert.AdIn2RefIdeal.main_arg7) = m ((c.tc : Thread Cert.AdIn2RefIdeal.nD Cert.AdIn2RefIdeal.τ).loc Cert.AdIn2RefIdeal.main_arg7))
      ∧ r.2.sem = fun _ => 0)

def quiescent_AdIn3 [hAdIn3 : Cert.AdIn3.Facts] : Prop :=
  ∀ (m : (ℓ : Loc Cert.AdIn3.nD Cert.AdIn3.τ Cert.AdIn3.sig) → Buf (Elt Bits) ℓ) (g : Dev Cert.AdIn3.nD → PrngReg), Pre_AdIn3 m →
    θ_run (Cert.AdIn3.defs (F := Bits)) (onTc (τ := Cert.AdIn3.τ) (Cert.AdIn3.main (F := Bits))) ⟨m, fun _ => 0, g⟩ (fun r => (∀ c : Dev Cert.AdIn3.nD,
      r.2.mem ((c.tc : Thread Cert.AdIn3.nD Cert.AdIn3.τ).loc Cert.AdIn3.main_arg0) = m ((c.tc : Thread Cert.AdIn3.nD Cert.AdIn3.τ).loc Cert.AdIn3.main_arg0)
      ∧ r.2.mem ((c.tc : Thread Cert.AdIn3.nD Cert.AdIn3.τ).loc Cert.AdIn3.main_arg1) = m ((c.tc : Thread Cert.AdIn3.nD Cert.AdIn3.τ).loc Cert.AdIn3.main_arg1)
      ∧ r.2.mem ((c.tc : Thread Cert.AdIn3.nD Cert.AdIn3.τ).loc Cert.AdIn3.main_arg2) = m ((c.tc : Thread Cert.AdIn3.nD Cert.AdIn3.τ).loc Cert.AdIn3.main_arg2)
      ∧ r.2.mem ((c.tc : Thread Cert.AdIn3.nD Cert.AdIn3.τ).loc Cert.AdIn3.main_arg3) = m ((c.tc : Thread Cert.AdIn3.nD Cert.AdIn3.τ).loc Cert.AdIn3.main_arg3)
      ∧ r.2.mem ((c.tc : Thread Cert.AdIn3.nD Cert.AdIn3.τ).loc Cert.AdIn3.main_arg4) = m ((c.tc : Thread Cert.AdIn3.nD Cert.AdIn3.τ).loc Cert.AdIn3.main_arg4)
      ∧ r.2.mem ((c.tc : Thread Cert.AdIn3.nD Cert.AdIn3.τ).loc Cert.AdIn3.main_arg5) = m ((c.tc : Thread Cert.AdIn3.nD Cert.AdIn3.τ).loc Cert.AdIn3.main_arg5)
      ∧ r.2.mem ((c.tc : Thread Cert.AdIn3.nD Cert.AdIn3.τ).loc Cert.AdIn3.main_arg6) = m ((c.tc : Thread Cert.AdIn3.nD Cert.AdIn3.τ).loc Cert.AdIn3.main_arg6)
      ∧ r.2.mem ((c.tc : Thread Cert.AdIn3.nD Cert.AdIn3.τ).loc Cert.AdIn3.main_arg7) = m ((c.tc : Thread Cert.AdIn3.nD Cert.AdIn3.τ).loc Cert.AdIn3.main_arg7))
      ∧ r.2.sem = fun _ => 0)

def quiescent_AdIn3Ideal [hAdIn3Ideal : Cert.AdIn3Ideal.Facts] : Prop :=
  ∀ (m : (ℓ : Loc Cert.AdIn3Ideal.nD Cert.AdIn3Ideal.τ Cert.AdIn3Ideal.sig) → Buf (Elt Ideal) ℓ) (g : Dev Cert.AdIn3Ideal.nD → PrngReg), Pre_AdIn3Ideal m →
    θ_run (Cert.AdIn3Ideal.defs (F := Ideal)) (onTc (τ := Cert.AdIn3Ideal.τ) (Cert.AdIn3Ideal.main (F := Ideal))) ⟨m, fun _ => 0, g⟩ (fun r => (∀ c : Dev Cert.AdIn3Ideal.nD,
      r.2.mem ((c.tc : Thread Cert.AdIn3Ideal.nD Cert.AdIn3Ideal.τ).loc Cert.AdIn3Ideal.main_arg0) = m ((c.tc : Thread Cert.AdIn3Ideal.nD Cert.AdIn3Ideal.τ).loc Cert.AdIn3Ideal.main_arg0)
      ∧ r.2.mem ((c.tc : Thread Cert.AdIn3Ideal.nD Cert.AdIn3Ideal.τ).loc Cert.AdIn3Ideal.main_arg1) = m ((c.tc : Thread Cert.AdIn3Ideal.nD Cert.AdIn3Ideal.τ).loc Cert.AdIn3Ideal.main_arg1)
      ∧ r.2.mem ((c.tc : Thread Cert.AdIn3Ideal.nD Cert.AdIn3Ideal.τ).loc Cert.AdIn3Ideal.main_arg2) = m ((c.tc : Thread Cert.AdIn3Ideal.nD Cert.AdIn3Ideal.τ).loc Cert.AdIn3Ideal.main_arg2)
      ∧ r.2.mem ((c.tc : Thread Cert.AdIn3Ideal.nD Cert.AdIn3Ideal.τ).loc Cert.AdIn3Ideal.main_arg3) = m ((c.tc : Thread Cert.AdIn3Ideal.nD Cert.AdIn3Ideal.τ).loc Cert.AdIn3Ideal.main_arg3)
      ∧ r.2.mem ((c.tc : Thread Cert.AdIn3Ideal.nD Cert.AdIn3Ideal.τ).loc Cert.AdIn3Ideal.main_arg4) = m ((c.tc : Thread Cert.AdIn3Ideal.nD Cert.AdIn3Ideal.τ).loc Cert.AdIn3Ideal.main_arg4)
      ∧ r.2.mem ((c.tc : Thread Cert.AdIn3Ideal.nD Cert.AdIn3Ideal.τ).loc Cert.AdIn3Ideal.main_arg5) = m ((c.tc : Thread Cert.AdIn3Ideal.nD Cert.AdIn3Ideal.τ).loc Cert.AdIn3Ideal.main_arg5)
      ∧ r.2.mem ((c.tc : Thread Cert.AdIn3Ideal.nD Cert.AdIn3Ideal.τ).loc Cert.AdIn3Ideal.main_arg6) = m ((c.tc : Thread Cert.AdIn3Ideal.nD Cert.AdIn3Ideal.τ).loc Cert.AdIn3Ideal.main_arg6)
      ∧ r.2.mem ((c.tc : Thread Cert.AdIn3Ideal.nD Cert.AdIn3Ideal.τ).loc Cert.AdIn3Ideal.main_arg7) = m ((c.tc : Thread Cert.AdIn3Ideal.nD Cert.AdIn3Ideal.τ).loc Cert.AdIn3Ideal.main_arg7))
      ∧ r.2.sem = fun _ => 0)

def quiescent_AdIn3RefIdeal [hAdIn3RefIdeal : Cert.AdIn3RefIdeal.Facts] : Prop :=
  ∀ (m : (ℓ : Loc Cert.AdIn3RefIdeal.nD Cert.AdIn3RefIdeal.τ Cert.AdIn3RefIdeal.sig) → Buf (Elt Ideal) ℓ) (g : Dev Cert.AdIn3RefIdeal.nD → PrngReg), Pre_AdIn3RefIdeal m →
    θ_run (Cert.AdIn3RefIdeal.defs (F := Ideal)) (onTc (τ := Cert.AdIn3RefIdeal.τ) (Cert.AdIn3RefIdeal.main (F := Ideal))) ⟨m, fun _ => 0, g⟩ (fun r => (∀ c : Dev Cert.AdIn3RefIdeal.nD,
      r.2.mem ((c.tc : Thread Cert.AdIn3RefIdeal.nD Cert.AdIn3RefIdeal.τ).loc Cert.AdIn3RefIdeal.main_arg0) = m ((c.tc : Thread Cert.AdIn3RefIdeal.nD Cert.AdIn3RefIdeal.τ).loc Cert.AdIn3RefIdeal.main_arg0)
      ∧ r.2.mem ((c.tc : Thread Cert.AdIn3RefIdeal.nD Cert.AdIn3RefIdeal.τ).loc Cert.AdIn3RefIdeal.main_arg1) = m ((c.tc : Thread Cert.AdIn3RefIdeal.nD Cert.AdIn3RefIdeal.τ).loc Cert.AdIn3RefIdeal.main_arg1)
      ∧ r.2.mem ((c.tc : Thread Cert.AdIn3RefIdeal.nD Cert.AdIn3RefIdeal.τ).loc Cert.AdIn3RefIdeal.main_arg2) = m ((c.tc : Thread Cert.AdIn3RefIdeal.nD Cert.AdIn3RefIdeal.τ).loc Cert.AdIn3RefIdeal.main_arg2)
      ∧ r.2.mem ((c.tc : Thread Cert.AdIn3RefIdeal.nD Cert.AdIn3RefIdeal.τ).loc Cert.AdIn3RefIdeal.main_arg3) = m ((c.tc : Thread Cert.AdIn3RefIdeal.nD Cert.AdIn3RefIdeal.τ).loc Cert.AdIn3RefIdeal.main_arg3)
      ∧ r.2.mem ((c.tc : Thread Cert.AdIn3RefIdeal.nD Cert.AdIn3RefIdeal.τ).loc Cert.AdIn3RefIdeal.main_arg4) = m ((c.tc : Thread Cert.AdIn3RefIdeal.nD Cert.AdIn3RefIdeal.τ).loc Cert.AdIn3RefIdeal.main_arg4)
      ∧ r.2.mem ((c.tc : Thread Cert.AdIn3RefIdeal.nD Cert.AdIn3RefIdeal.τ).loc Cert.AdIn3RefIdeal.main_arg5) = m ((c.tc : Thread Cert.AdIn3RefIdeal.nD Cert.AdIn3RefIdeal.τ).loc Cert.AdIn3RefIdeal.main_arg5)
      ∧ r.2.mem ((c.tc : Thread Cert.AdIn3RefIdeal.nD Cert.AdIn3RefIdeal.τ).loc Cert.AdIn3RefIdeal.main_arg6) = m ((c.tc : Thread Cert.AdIn3RefIdeal.nD Cert.AdIn3RefIdeal.τ).loc Cert.AdIn3RefIdeal.main_arg6)
      ∧ r.2.mem ((c.tc : Thread Cert.AdIn3RefIdeal.nD Cert.AdIn3RefIdeal.τ).loc Cert.AdIn3RefIdeal.main_arg7) = m ((c.tc : Thread Cert.AdIn3RefIdeal.nD Cert.AdIn3RefIdeal.τ).loc Cert.AdIn3RefIdeal.main_arg7))
      ∧ r.2.sem = fun _ => 0)

def quiescent_AdCo0 [hAdCo0 : Cert.AdCo0.Facts] : Prop :=
  ∀ (m : (ℓ : Loc Cert.AdCo0.nD Cert.AdCo0.τ Cert.AdCo0.sig) → Buf (Elt Bits) ℓ) (g : Dev Cert.AdCo0.nD → PrngReg), Pre_AdCo0 m →
    θ_run (Cert.AdCo0.defs (F := Bits)) (onTc (τ := Cert.AdCo0.τ) (Cert.AdCo0.main (F := Bits))) ⟨m, fun _ => 0, g⟩ (fun r => (∀ c : Dev Cert.AdCo0.nD,
      r.2.mem ((c.tc : Thread Cert.AdCo0.nD Cert.AdCo0.τ).loc Cert.AdCo0.main_arg0) = m ((c.tc : Thread Cert.AdCo0.nD Cert.AdCo0.τ).loc Cert.AdCo0.main_arg0)
      ∧ r.2.mem ((c.tc : Thread Cert.AdCo0.nD Cert.AdCo0.τ).loc Cert.AdCo0.main_arg1) = m ((c.tc : Thread Cert.AdCo0.nD Cert.AdCo0.τ).loc Cert.AdCo0.main_arg1)
      ∧ r.2.mem ((c.tc : Thread Cert.AdCo0.nD Cert.AdCo0.τ).loc Cert.AdCo0.main_arg2) = m ((c.tc : Thread Cert.AdCo0.nD Cert.AdCo0.τ).loc Cert.AdCo0.main_arg2)
      ∧ r.2.mem ((c.tc : Thread Cert.AdCo0.nD Cert.AdCo0.τ).loc Cert.AdCo0.main_arg3) = m ((c.tc : Thread Cert.AdCo0.nD Cert.AdCo0.τ).loc Cert.AdCo0.main_arg3)
      ∧ r.2.mem ((c.tc : Thread Cert.AdCo0.nD Cert.AdCo0.τ).loc Cert.AdCo0.main_arg4) = m ((c.tc : Thread Cert.AdCo0.nD Cert.AdCo0.τ).loc Cert.AdCo0.main_arg4)
      ∧ r.2.mem ((c.tc : Thread Cert.AdCo0.nD Cert.AdCo0.τ).loc Cert.AdCo0.main_arg5) = m ((c.tc : Thread Cert.AdCo0.nD Cert.AdCo0.τ).loc Cert.AdCo0.main_arg5)
      ∧ r.2.mem ((c.tc : Thread Cert.AdCo0.nD Cert.AdCo0.τ).loc Cert.AdCo0.main_arg6) = m ((c.tc : Thread Cert.AdCo0.nD Cert.AdCo0.τ).loc Cert.AdCo0.main_arg6)
      ∧ r.2.mem ((c.tc : Thread Cert.AdCo0.nD Cert.AdCo0.τ).loc Cert.AdCo0.main_arg7) = m ((c.tc : Thread Cert.AdCo0.nD Cert.AdCo0.τ).loc Cert.AdCo0.main_arg7))
      ∧ r.2.sem = fun _ => 0)

def quiescent_AdCo0Ideal [hAdCo0Ideal : Cert.AdCo0Ideal.Facts] : Prop :=
  ∀ (m : (ℓ : Loc Cert.AdCo0Ideal.nD Cert.AdCo0Ideal.τ Cert.AdCo0Ideal.sig) → Buf (Elt Ideal) ℓ) (g : Dev Cert.AdCo0Ideal.nD → PrngReg), Pre_AdCo0Ideal m →
    θ_run (Cert.AdCo0Ideal.defs (F := Ideal)) (onTc (τ := Cert.AdCo0Ideal.τ) (Cert.AdCo0Ideal.main (F := Ideal))) ⟨m, fun _ => 0, g⟩ (fun r => (∀ c : Dev Cert.AdCo0Ideal.nD,
      r.2.mem ((c.tc : Thread Cert.AdCo0Ideal.nD Cert.AdCo0Ideal.τ).loc Cert.AdCo0Ideal.main_arg0) = m ((c.tc : Thread Cert.AdCo0Ideal.nD Cert.AdCo0Ideal.τ).loc Cert.AdCo0Ideal.main_arg0)
      ∧ r.2.mem ((c.tc : Thread Cert.AdCo0Ideal.nD Cert.AdCo0Ideal.τ).loc Cert.AdCo0Ideal.main_arg1) = m ((c.tc : Thread Cert.AdCo0Ideal.nD Cert.AdCo0Ideal.τ).loc Cert.AdCo0Ideal.main_arg1)
      ∧ r.2.mem ((c.tc : Thread Cert.AdCo0Ideal.nD Cert.AdCo0Ideal.τ).loc Cert.AdCo0Ideal.main_arg2) = m ((c.tc : Thread Cert.AdCo0Ideal.nD Cert.AdCo0Ideal.τ).loc Cert.AdCo0Ideal.main_arg2)
      ∧ r.2.mem ((c.tc : Thread Cert.AdCo0Ideal.nD Cert.AdCo0Ideal.τ).loc Cert.AdCo0Ideal.main_arg3) = m ((c.tc : Thread Cert.AdCo0Ideal.nD Cert.AdCo0Ideal.τ).loc Cert.AdCo0Ideal.main_arg3)
      ∧ r.2.mem ((c.tc : Thread Cert.AdCo0Ideal.nD Cert.AdCo0Ideal.τ).loc Cert.AdCo0Ideal.main_arg4) = m ((c.tc : Thread Cert.AdCo0Ideal.nD Cert.AdCo0Ideal.τ).loc Cert.AdCo0Ideal.main_arg4)
      ∧ r.2.mem ((c.tc : Thread Cert.AdCo0Ideal.nD Cert.AdCo0Ideal.τ).loc Cert.AdCo0Ideal.main_arg5) = m ((c.tc : Thread Cert.AdCo0Ideal.nD Cert.AdCo0Ideal.τ).loc Cert.AdCo0Ideal.main_arg5)
      ∧ r.2.mem ((c.tc : Thread Cert.AdCo0Ideal.nD Cert.AdCo0Ideal.τ).loc Cert.AdCo0Ideal.main_arg6) = m ((c.tc : Thread Cert.AdCo0Ideal.nD Cert.AdCo0Ideal.τ).loc Cert.AdCo0Ideal.main_arg6)
      ∧ r.2.mem ((c.tc : Thread Cert.AdCo0Ideal.nD Cert.AdCo0Ideal.τ).loc Cert.AdCo0Ideal.main_arg7) = m ((c.tc : Thread Cert.AdCo0Ideal.nD Cert.AdCo0Ideal.τ).loc Cert.AdCo0Ideal.main_arg7))
      ∧ r.2.sem = fun _ => 0)

def quiescent_AdCo0RefIdeal [hAdCo0RefIdeal : Cert.AdCo0RefIdeal.Facts] : Prop :=
  ∀ (m : (ℓ : Loc Cert.AdCo0RefIdeal.nD Cert.AdCo0RefIdeal.τ Cert.AdCo0RefIdeal.sig) → Buf (Elt Ideal) ℓ) (g : Dev Cert.AdCo0RefIdeal.nD → PrngReg), Pre_AdCo0RefIdeal m →
    θ_run (Cert.AdCo0RefIdeal.defs (F := Ideal)) (onTc (τ := Cert.AdCo0RefIdeal.τ) (Cert.AdCo0RefIdeal.main (F := Ideal))) ⟨m, fun _ => 0, g⟩ (fun r => (∀ c : Dev Cert.AdCo0RefIdeal.nD,
      r.2.mem ((c.tc : Thread Cert.AdCo0RefIdeal.nD Cert.AdCo0RefIdeal.τ).loc Cert.AdCo0RefIdeal.main_arg0) = m ((c.tc : Thread Cert.AdCo0RefIdeal.nD Cert.AdCo0RefIdeal.τ).loc Cert.AdCo0RefIdeal.main_arg0)
      ∧ r.2.mem ((c.tc : Thread Cert.AdCo0RefIdeal.nD Cert.AdCo0RefIdeal.τ).loc Cert.AdCo0RefIdeal.main_arg1) = m ((c.tc : Thread Cert.AdCo0RefIdeal.nD Cert.AdCo0RefIdeal.τ).loc Cert.AdCo0RefIdeal.main_arg1)
      ∧ r.2.mem ((c.tc : Thread Cert.AdCo0RefIdeal.nD Cert.AdCo0RefIdeal.τ).loc Cert.AdCo0RefIdeal.main_arg2) = m ((c.tc : Thread Cert.AdCo0RefIdeal.nD Cert.AdCo0RefIdeal.τ).loc Cert.AdCo0RefIdeal.main_arg2)
      ∧ r.2.mem ((c.tc : Thread Cert.AdCo0RefIdeal.nD Cert.AdCo0RefIdeal.τ).loc Cert.AdCo0RefIdeal.main_arg3) = m ((c.tc : Thread Cert.AdCo0RefIdeal.nD Cert.AdCo0RefIdeal.τ).loc Cert.AdCo0RefIdeal.main_arg3)
      ∧ r.2.mem ((c.tc : Thread Cert.AdCo0RefIdeal.nD Cert.AdCo0RefIdeal.τ).loc Cert.AdCo0RefIdeal.main_arg4) = m ((c.tc : Thread Cert.AdCo0RefIdeal.nD Cert.AdCo0RefIdeal.τ).loc Cert.AdCo0RefIdeal.main_arg4)
      ∧ r.2.mem ((c.tc : Thread Cert.AdCo0RefIdeal.nD Cert.AdCo0RefIdeal.τ).loc Cert.AdCo0RefIdeal.main_arg5) = m ((c.tc : Thread Cert.AdCo0RefIdeal.nD Cert.AdCo0RefIdeal.τ).loc Cert.AdCo0RefIdeal.main_arg5)
      ∧ r.2.mem ((c.tc : Thread Cert.AdCo0RefIdeal.nD Cert.AdCo0RefIdeal.τ).loc Cert.AdCo0RefIdeal.main_arg6) = m ((c.tc : Thread Cert.AdCo0RefIdeal.nD Cert.AdCo0RefIdeal.τ).loc Cert.AdCo0RefIdeal.main_arg6)
      ∧ r.2.mem ((c.tc : Thread Cert.AdCo0RefIdeal.nD Cert.AdCo0RefIdeal.τ).loc Cert.AdCo0RefIdeal.main_arg7) = m ((c.tc : Thread Cert.AdCo0RefIdeal.nD Cert.AdCo0RefIdeal.τ).loc Cert.AdCo0RefIdeal.main_arg7))
      ∧ r.2.sem = fun _ => 0)

def quiescent_AdCo1 [hAdCo1 : Cert.AdCo1.Facts] : Prop :=
  ∀ (m : (ℓ : Loc Cert.AdCo1.nD Cert.AdCo1.τ Cert.AdCo1.sig) → Buf (Elt Bits) ℓ) (g : Dev Cert.AdCo1.nD → PrngReg), Pre_AdCo1 m →
    θ_run (Cert.AdCo1.defs (F := Bits)) (onTc (τ := Cert.AdCo1.τ) (Cert.AdCo1.main (F := Bits))) ⟨m, fun _ => 0, g⟩ (fun r => (∀ c : Dev Cert.AdCo1.nD,
      r.2.mem ((c.tc : Thread Cert.AdCo1.nD Cert.AdCo1.τ).loc Cert.AdCo1.main_arg0) = m ((c.tc : Thread Cert.AdCo1.nD Cert.AdCo1.τ).loc Cert.AdCo1.main_arg0)
      ∧ r.2.mem ((c.tc : Thread Cert.AdCo1.nD Cert.AdCo1.τ).loc Cert.AdCo1.main_arg1) = m ((c.tc : Thread Cert.AdCo1.nD Cert.AdCo1.τ).loc Cert.AdCo1.main_arg1)
      ∧ r.2.mem ((c.tc : Thread Cert.AdCo1.nD Cert.AdCo1.τ).loc Cert.AdCo1.main_arg2) = m ((c.tc : Thread Cert.AdCo1.nD Cert.AdCo1.τ).loc Cert.AdCo1.main_arg2)
      ∧ r.2.mem ((c.tc : Thread Cert.AdCo1.nD Cert.AdCo1.τ).loc Cert.AdCo1.main_arg3) = m ((c.tc : Thread Cert.AdCo1.nD Cert.AdCo1.τ).loc Cert.AdCo1.main_arg3)
      ∧ r.2.mem ((c.tc : Thread Cert.AdCo1.nD Cert.AdCo1.τ).loc Cert.AdCo1.main_arg4) = m ((c.tc : Thread Cert.AdCo1.nD Cert.AdCo1.τ).loc Cert.AdCo1.main_arg4)
      ∧ r.2.mem ((c.tc : Thread Cert.AdCo1.nD Cert.AdCo1.τ).loc Cert.AdCo1.main_arg5) = m ((c.tc : Thread Cert.AdCo1.nD Cert.AdCo1.τ).loc Cert.AdCo1.main_arg5)
      ∧ r.2.mem ((c.tc : Thread Cert.AdCo1.nD Cert.AdCo1.τ).loc Cert.AdCo1.main_arg6) = m ((c.tc : Thread Cert.AdCo1.nD Cert.AdCo1.τ).loc Cert.AdCo1.main_arg6)
      ∧ r.2.mem ((c.tc : Thread Cert.AdCo1.nD Cert.AdCo1.τ).loc Cert.AdCo1.main_arg7) = m ((c.tc : Thread Cert.AdCo1.nD Cert.AdCo1.τ).loc Cert.AdCo1.main_arg7))
      ∧ r.2.sem = fun _ => 0)

def quiescent_AdCo1Ideal [hAdCo1Ideal : Cert.AdCo1Ideal.Facts] : Prop :=
  ∀ (m : (ℓ : Loc Cert.AdCo1Ideal.nD Cert.AdCo1Ideal.τ Cert.AdCo1Ideal.sig) → Buf (Elt Ideal) ℓ) (g : Dev Cert.AdCo1Ideal.nD → PrngReg), Pre_AdCo1Ideal m →
    θ_run (Cert.AdCo1Ideal.defs (F := Ideal)) (onTc (τ := Cert.AdCo1Ideal.τ) (Cert.AdCo1Ideal.main (F := Ideal))) ⟨m, fun _ => 0, g⟩ (fun r => (∀ c : Dev Cert.AdCo1Ideal.nD,
      r.2.mem ((c.tc : Thread Cert.AdCo1Ideal.nD Cert.AdCo1Ideal.τ).loc Cert.AdCo1Ideal.main_arg0) = m ((c.tc : Thread Cert.AdCo1Ideal.nD Cert.AdCo1Ideal.τ).loc Cert.AdCo1Ideal.main_arg0)
      ∧ r.2.mem ((c.tc : Thread Cert.AdCo1Ideal.nD Cert.AdCo1Ideal.τ).loc Cert.AdCo1Ideal.main_arg1) = m ((c.tc : Thread Cert.AdCo1Ideal.nD Cert.AdCo1Ideal.τ).loc Cert.AdCo1Ideal.main_arg1)
      ∧ r.2.mem ((c.tc : Thread Cert.AdCo1Ideal.nD Cert.AdCo1Ideal.τ).loc Cert.AdCo1Ideal.main_arg2) = m ((c.tc : Thread Cert.AdCo1Ideal.nD Cert.AdCo1Ideal.τ).loc Cert.AdCo1Ideal.main_arg2)
      ∧ r.2.mem ((c.tc : Thread Cert.AdCo1Ideal.nD Cert.AdCo1Ideal.τ).loc Cert.AdCo1Ideal.main_arg3) = m ((c.tc : Thread Cert.AdCo1Ideal.nD Cert.AdCo1Ideal.τ).loc Cert.AdCo1Ideal.main_arg3)
      ∧ r.2.mem ((c.tc : Thread Cert.AdCo1Ideal.nD Cert.AdCo1Ideal.τ).loc Cert.AdCo1Ideal.main_arg4) = m ((c.tc : Thread Cert.AdCo1Ideal.nD Cert.AdCo1Ideal.τ).loc Cert.AdCo1Ideal.main_arg4)
      ∧ r.2.mem ((c.tc : Thread Cert.AdCo1Ideal.nD Cert.AdCo1Ideal.τ).loc Cert.AdCo1Ideal.main_arg5) = m ((c.tc : Thread Cert.AdCo1Ideal.nD Cert.AdCo1Ideal.τ).loc Cert.AdCo1Ideal.main_arg5)
      ∧ r.2.mem ((c.tc : Thread Cert.AdCo1Ideal.nD Cert.AdCo1Ideal.τ).loc Cert.AdCo1Ideal.main_arg6) = m ((c.tc : Thread Cert.AdCo1Ideal.nD Cert.AdCo1Ideal.τ).loc Cert.AdCo1Ideal.main_arg6)
      ∧ r.2.mem ((c.tc : Thread Cert.AdCo1Ideal.nD Cert.AdCo1Ideal.τ).loc Cert.AdCo1Ideal.main_arg7) = m ((c.tc : Thread Cert.AdCo1Ideal.nD Cert.AdCo1Ideal.τ).loc Cert.AdCo1Ideal.main_arg7))
      ∧ r.2.sem = fun _ => 0)

def quiescent_AdCo1RefIdeal [hAdCo1RefIdeal : Cert.AdCo1RefIdeal.Facts] : Prop :=
  ∀ (m : (ℓ : Loc Cert.AdCo1RefIdeal.nD Cert.AdCo1RefIdeal.τ Cert.AdCo1RefIdeal.sig) → Buf (Elt Ideal) ℓ) (g : Dev Cert.AdCo1RefIdeal.nD → PrngReg), Pre_AdCo1RefIdeal m →
    θ_run (Cert.AdCo1RefIdeal.defs (F := Ideal)) (onTc (τ := Cert.AdCo1RefIdeal.τ) (Cert.AdCo1RefIdeal.main (F := Ideal))) ⟨m, fun _ => 0, g⟩ (fun r => (∀ c : Dev Cert.AdCo1RefIdeal.nD,
      r.2.mem ((c.tc : Thread Cert.AdCo1RefIdeal.nD Cert.AdCo1RefIdeal.τ).loc Cert.AdCo1RefIdeal.main_arg0) = m ((c.tc : Thread Cert.AdCo1RefIdeal.nD Cert.AdCo1RefIdeal.τ).loc Cert.AdCo1RefIdeal.main_arg0)
      ∧ r.2.mem ((c.tc : Thread Cert.AdCo1RefIdeal.nD Cert.AdCo1RefIdeal.τ).loc Cert.AdCo1RefIdeal.main_arg1) = m ((c.tc : Thread Cert.AdCo1RefIdeal.nD Cert.AdCo1RefIdeal.τ).loc Cert.AdCo1RefIdeal.main_arg1)
      ∧ r.2.mem ((c.tc : Thread Cert.AdCo1RefIdeal.nD Cert.AdCo1RefIdeal.τ).loc Cert.AdCo1RefIdeal.main_arg2) = m ((c.tc : Thread Cert.AdCo1RefIdeal.nD Cert.AdCo1RefIdeal.τ).loc Cert.AdCo1RefIdeal.main_arg2)
      ∧ r.2.mem ((c.tc : Thread Cert.AdCo1RefIdeal.nD Cert.AdCo1RefIdeal.τ).loc Cert.AdCo1RefIdeal.main_arg3) = m ((c.tc : Thread Cert.AdCo1RefIdeal.nD Cert.AdCo1RefIdeal.τ).loc Cert.AdCo1RefIdeal.main_arg3)
      ∧ r.2.mem ((c.tc : Thread Cert.AdCo1RefIdeal.nD Cert.AdCo1RefIdeal.τ).loc Cert.AdCo1RefIdeal.main_arg4) = m ((c.tc : Thread Cert.AdCo1RefIdeal.nD Cert.AdCo1RefIdeal.τ).loc Cert.AdCo1RefIdeal.main_arg4)
      ∧ r.2.mem ((c.tc : Thread Cert.AdCo1RefIdeal.nD Cert.AdCo1RefIdeal.τ).loc Cert.AdCo1RefIdeal.main_arg5) = m ((c.tc : Thread Cert.AdCo1RefIdeal.nD Cert.AdCo1RefIdeal.τ).loc Cert.AdCo1RefIdeal.main_arg5)
      ∧ r.2.mem ((c.tc : Thread Cert.AdCo1RefIdeal.nD Cert.AdCo1RefIdeal.τ).loc Cert.AdCo1RefIdeal.main_arg6) = m ((c.tc : Thread Cert.AdCo1RefIdeal.nD Cert.AdCo1RefIdeal.τ).loc Cert.AdCo1RefIdeal.main_arg6)
      ∧ r.2.mem ((c.tc : Thread Cert.AdCo1RefIdeal.nD Cert.AdCo1RefIdeal.τ).loc Cert.AdCo1RefIdeal.main_arg7) = m ((c.tc : Thread Cert.AdCo1RefIdeal.nD Cert.AdCo1RefIdeal.τ).loc Cert.AdCo1RefIdeal.main_arg7))
      ∧ r.2.sem = fun _ => 0)

def quiescent_AdCo2 [hAdCo2 : Cert.AdCo2.Facts] : Prop :=
  ∀ (m : (ℓ : Loc Cert.AdCo2.nD Cert.AdCo2.τ Cert.AdCo2.sig) → Buf (Elt Bits) ℓ) (g : Dev Cert.AdCo2.nD → PrngReg), Pre_AdCo2 m →
    θ_run (Cert.AdCo2.defs (F := Bits)) (onTc (τ := Cert.AdCo2.τ) (Cert.AdCo2.main (F := Bits))) ⟨m, fun _ => 0, g⟩ (fun r => (∀ c : Dev Cert.AdCo2.nD,
      r.2.mem ((c.tc : Thread Cert.AdCo2.nD Cert.AdCo2.τ).loc Cert.AdCo2.main_arg0) = m ((c.tc : Thread Cert.AdCo2.nD Cert.AdCo2.τ).loc Cert.AdCo2.main_arg0)
      ∧ r.2.mem ((c.tc : Thread Cert.AdCo2.nD Cert.AdCo2.τ).loc Cert.AdCo2.main_arg1) = m ((c.tc : Thread Cert.AdCo2.nD Cert.AdCo2.τ).loc Cert.AdCo2.main_arg1)
      ∧ r.2.mem ((c.tc : Thread Cert.AdCo2.nD Cert.AdCo2.τ).loc Cert.AdCo2.main_arg2) = m ((c.tc : Thread Cert.AdCo2.nD Cert.AdCo2.τ).loc Cert.AdCo2.main_arg2)
      ∧ r.2.mem ((c.tc : Thread Cert.AdCo2.nD Cert.AdCo2.τ).loc Cert.AdCo2.main_arg3) = m ((c.tc : Thread Cert.AdCo2.nD Cert.AdCo2.τ).loc Cert.AdCo2.main_arg3)
      ∧ r.2.mem ((c.tc : Thread Cert.AdCo2.nD Cert.AdCo2.τ).loc Cert.AdCo2.main_arg4) = m ((c.tc : Thread Cert.AdCo2.nD Cert.AdCo2.τ).loc Cert.AdCo2.main_arg4)
      ∧ r.2.mem ((c.tc : Thread Cert.AdCo2.nD Cert.AdCo2.τ).loc Cert.AdCo2.main_arg5) = m ((c.tc : Thread Cert.AdCo2.nD Cert.AdCo2.τ).loc Cert.AdCo2.main_arg5)
      ∧ r.2.mem ((c.tc : Thread Cert.AdCo2.nD Cert.AdCo2.τ).loc Cert.AdCo2.main_arg6) = m ((c.tc : Thread Cert.AdCo2.nD Cert.AdCo2.τ).loc Cert.AdCo2.main_arg6)
      ∧ r.2.mem ((c.tc : Thread Cert.AdCo2.nD Cert.AdCo2.τ).loc Cert.AdCo2.main_arg7) = m ((c.tc : Thread Cert.AdCo2.nD Cert.AdCo2.τ).loc Cert.AdCo2.main_arg7))
      ∧ r.2.sem = fun _ => 0)

def quiescent_AdCo2Ideal [hAdCo2Ideal : Cert.AdCo2Ideal.Facts] : Prop :=
  ∀ (m : (ℓ : Loc Cert.AdCo2Ideal.nD Cert.AdCo2Ideal.τ Cert.AdCo2Ideal.sig) → Buf (Elt Ideal) ℓ) (g : Dev Cert.AdCo2Ideal.nD → PrngReg), Pre_AdCo2Ideal m →
    θ_run (Cert.AdCo2Ideal.defs (F := Ideal)) (onTc (τ := Cert.AdCo2Ideal.τ) (Cert.AdCo2Ideal.main (F := Ideal))) ⟨m, fun _ => 0, g⟩ (fun r => (∀ c : Dev Cert.AdCo2Ideal.nD,
      r.2.mem ((c.tc : Thread Cert.AdCo2Ideal.nD Cert.AdCo2Ideal.τ).loc Cert.AdCo2Ideal.main_arg0) = m ((c.tc : Thread Cert.AdCo2Ideal.nD Cert.AdCo2Ideal.τ).loc Cert.AdCo2Ideal.main_arg0)
      ∧ r.2.mem ((c.tc : Thread Cert.AdCo2Ideal.nD Cert.AdCo2Ideal.τ).loc Cert.AdCo2Ideal.main_arg1) = m ((c.tc : Thread Cert.AdCo2Ideal.nD Cert.AdCo2Ideal.τ).loc Cert.AdCo2Ideal.main_arg1)
      ∧ r.2.mem ((c.tc : Thread Cert.AdCo2Ideal.nD Cert.AdCo2Ideal.τ).loc Cert.AdCo2Ideal.main_arg2) = m ((c.tc : Thread Cert.AdCo2Ideal.nD Cert.AdCo2Ideal.τ).loc Cert.AdCo2Ideal.main_arg2)
      ∧ r.2.mem ((c.tc : Thread Cert.AdCo2Ideal.nD Cert.AdCo2Ideal.τ).loc Cert.AdCo2Ideal.main_arg3) = m ((c.tc : Thread Cert.AdCo2Ideal.nD Cert.AdCo2Ideal.τ).loc Cert.AdCo2Ideal.main_arg3)
      ∧ r.2.mem ((c.tc : Thread Cert.AdCo2Ideal.nD Cert.AdCo2Ideal.τ).loc Cert.AdCo2Ideal.main_arg4) = m ((c.tc : Thread Cert.AdCo2Ideal.nD Cert.AdCo2Ideal.τ).loc Cert.AdCo2Ideal.main_arg4)
      ∧ r.2.mem ((c.tc : Thread Cert.AdCo2Ideal.nD Cert.AdCo2Ideal.τ).loc Cert.AdCo2Ideal.main_arg5) = m ((c.tc : Thread Cert.AdCo2Ideal.nD Cert.AdCo2Ideal.τ).loc Cert.AdCo2Ideal.main_arg5)
      ∧ r.2.mem ((c.tc : Thread Cert.AdCo2Ideal.nD Cert.AdCo2Ideal.τ).loc Cert.AdCo2Ideal.main_arg6) = m ((c.tc : Thread Cert.AdCo2Ideal.nD Cert.AdCo2Ideal.τ).loc Cert.AdCo2Ideal.main_arg6)
      ∧ r.2.mem ((c.tc : Thread Cert.AdCo2Ideal.nD Cert.AdCo2Ideal.τ).loc Cert.AdCo2Ideal.main_arg7) = m ((c.tc : Thread Cert.AdCo2Ideal.nD Cert.AdCo2Ideal.τ).loc Cert.AdCo2Ideal.main_arg7))
      ∧ r.2.sem = fun _ => 0)

def quiescent_AdCo2RefIdeal [hAdCo2RefIdeal : Cert.AdCo2RefIdeal.Facts] : Prop :=
  ∀ (m : (ℓ : Loc Cert.AdCo2RefIdeal.nD Cert.AdCo2RefIdeal.τ Cert.AdCo2RefIdeal.sig) → Buf (Elt Ideal) ℓ) (g : Dev Cert.AdCo2RefIdeal.nD → PrngReg), Pre_AdCo2RefIdeal m →
    θ_run (Cert.AdCo2RefIdeal.defs (F := Ideal)) (onTc (τ := Cert.AdCo2RefIdeal.τ) (Cert.AdCo2RefIdeal.main (F := Ideal))) ⟨m, fun _ => 0, g⟩ (fun r => (∀ c : Dev Cert.AdCo2RefIdeal.nD,
      r.2.mem ((c.tc : Thread Cert.AdCo2RefIdeal.nD Cert.AdCo2RefIdeal.τ).loc Cert.AdCo2RefIdeal.main_arg0) = m ((c.tc : Thread Cert.AdCo2RefIdeal.nD Cert.AdCo2RefIdeal.τ).loc Cert.AdCo2RefIdeal.main_arg0)
      ∧ r.2.mem ((c.tc : Thread Cert.AdCo2RefIdeal.nD Cert.AdCo2RefIdeal.τ).loc Cert.AdCo2RefIdeal.main_arg1) = m ((c.tc : Thread Cert.AdCo2RefIdeal.nD Cert.AdCo2RefIdeal.τ).loc Cert.AdCo2RefIdeal.main_arg1)
      ∧ r.2.mem ((c.tc : Thread Cert.AdCo2RefIdeal.nD Cert.AdCo2RefIdeal.τ).loc Cert.AdCo2RefIdeal.main_arg2) = m ((c.tc : Thread Cert.AdCo2RefIdeal.nD Cert.AdCo2RefIdeal.τ).loc Cert.AdCo2RefIdeal.main_arg2)
      ∧ r.2.mem ((c.tc : Thread Cert.AdCo2RefIdeal.nD Cert.AdCo2RefIdeal.τ).loc Cert.AdCo2RefIdeal.main_arg3) = m ((c.tc : Thread Cert.AdCo2RefIdeal.nD Cert.AdCo2RefIdeal.τ).loc Cert.AdCo2RefIdeal.main_arg3)
      ∧ r.2.mem ((c.tc : Thread Cert.AdCo2RefIdeal.nD Cert.AdCo2RefIdeal.τ).loc Cert.AdCo2RefIdeal.main_arg4) = m ((c.tc : Thread Cert.AdCo2RefIdeal.nD Cert.AdCo2RefIdeal.τ).loc Cert.AdCo2RefIdeal.main_arg4)
      ∧ r.2.mem ((c.tc : Thread Cert.AdCo2RefIdeal.nD Cert.AdCo2RefIdeal.τ).loc Cert.AdCo2RefIdeal.main_arg5) = m ((c.tc : Thread Cert.AdCo2RefIdeal.nD Cert.AdCo2RefIdeal.τ).loc Cert.AdCo2RefIdeal.main_arg5)
      ∧ r.2.mem ((c.tc : Thread Cert.AdCo2RefIdeal.nD Cert.AdCo2RefIdeal.τ).loc Cert.AdCo2RefIdeal.main_arg6) = m ((c.tc : Thread Cert.AdCo2RefIdeal.nD Cert.AdCo2RefIdeal.τ).loc Cert.AdCo2RefIdeal.main_arg6)
      ∧ r.2.mem ((c.tc : Thread Cert.AdCo2RefIdeal.nD Cert.AdCo2RefIdeal.τ).loc Cert.AdCo2RefIdeal.main_arg7) = m ((c.tc : Thread Cert.AdCo2RefIdeal.nD Cert.AdCo2RefIdeal.τ).loc Cert.AdCo2RefIdeal.main_arg7))
      ∧ r.2.sem = fun _ => 0)

def quiescent_AdCo3 [hAdCo3 : Cert.AdCo3.Facts] : Prop :=
  ∀ (m : (ℓ : Loc Cert.AdCo3.nD Cert.AdCo3.τ Cert.AdCo3.sig) → Buf (Elt Bits) ℓ) (g : Dev Cert.AdCo3.nD → PrngReg), Pre_AdCo3 m →
    θ_run (Cert.AdCo3.defs (F := Bits)) (onTc (τ := Cert.AdCo3.τ) (Cert.AdCo3.main (F := Bits))) ⟨m, fun _ => 0, g⟩ (fun r => (∀ c : Dev Cert.AdCo3.nD,
      r.2.mem ((c.tc : Thread Cert.AdCo3.nD Cert.AdCo3.τ).loc Cert.AdCo3.main_arg0) = m ((c.tc : Thread Cert.AdCo3.nD Cert.AdCo3.τ).loc Cert.AdCo3.main_arg0)
      ∧ r.2.mem ((c.tc : Thread Cert.AdCo3.nD Cert.AdCo3.τ).loc Cert.AdCo3.main_arg1) = m ((c.tc : Thread Cert.AdCo3.nD Cert.AdCo3.τ).loc Cert.AdCo3.main_arg1)
      ∧ r.2.mem ((c.tc : Thread Cert.AdCo3.nD Cert.AdCo3.τ).loc Cert.AdCo3.main_arg2) = m ((c.tc : Thread Cert.AdCo3.nD Cert.AdCo3.τ).loc Cert.AdCo3.main_arg2)
      ∧ r.2.mem ((c.tc : Thread Cert.AdCo3.nD Cert.AdCo3.τ).loc Cert.AdCo3.main_arg3) = m ((c.tc : Thread Cert.AdCo3.nD Cert.AdCo3.τ).loc Cert.AdCo3.main_arg3)
      ∧ r.2.mem ((c.tc : Thread Cert.AdCo3.nD Cert.AdCo3.τ).loc Cert.AdCo3.main_arg4) = m ((c.tc : Thread Cert.AdCo3.nD Cert.AdCo3.τ).loc Cert.AdCo3.main_arg4)
      ∧ r.2.mem ((c.tc : Thread Cert.AdCo3.nD Cert.AdCo3.τ).loc Cert.AdCo3.main_arg5) = m ((c.tc : Thread Cert.AdCo3.nD Cert.AdCo3.τ).loc Cert.AdCo3.main_arg5)
      ∧ r.2.mem ((c.tc : Thread Cert.AdCo3.nD Cert.AdCo3.τ).loc Cert.AdCo3.main_arg6) = m ((c.tc : Thread Cert.AdCo3.nD Cert.AdCo3.τ).loc Cert.AdCo3.main_arg6)
      ∧ r.2.mem ((c.tc : Thread Cert.AdCo3.nD Cert.AdCo3.τ).loc Cert.AdCo3.main_arg7) = m ((c.tc : Thread Cert.AdCo3.nD Cert.AdCo3.τ).loc Cert.AdCo3.main_arg7))
      ∧ r.2.sem = fun _ => 0)

def quiescent_AdCo3Ideal [hAdCo3Ideal : Cert.AdCo3Ideal.Facts] : Prop :=
  ∀ (m : (ℓ : Loc Cert.AdCo3Ideal.nD Cert.AdCo3Ideal.τ Cert.AdCo3Ideal.sig) → Buf (Elt Ideal) ℓ) (g : Dev Cert.AdCo3Ideal.nD → PrngReg), Pre_AdCo3Ideal m →
    θ_run (Cert.AdCo3Ideal.defs (F := Ideal)) (onTc (τ := Cert.AdCo3Ideal.τ) (Cert.AdCo3Ideal.main (F := Ideal))) ⟨m, fun _ => 0, g⟩ (fun r => (∀ c : Dev Cert.AdCo3Ideal.nD,
      r.2.mem ((c.tc : Thread Cert.AdCo3Ideal.nD Cert.AdCo3Ideal.τ).loc Cert.AdCo3Ideal.main_arg0) = m ((c.tc : Thread Cert.AdCo3Ideal.nD Cert.AdCo3Ideal.τ).loc Cert.AdCo3Ideal.main_arg0)
      ∧ r.2.mem ((c.tc : Thread Cert.AdCo3Ideal.nD Cert.AdCo3Ideal.τ).loc Cert.AdCo3Ideal.main_arg1) = m ((c.tc : Thread Cert.AdCo3Ideal.nD Cert.AdCo3Ideal.τ).loc Cert.AdCo3Ideal.main_arg1)
      ∧ r.2.mem ((c.tc : Thread Cert.AdCo3Ideal.nD Cert.AdCo3Ideal.τ).loc Cert.AdCo3Ideal.main_arg2) = m ((c.tc : Thread Cert.AdCo3Ideal.nD Cert.AdCo3Ideal.τ).loc Cert.AdCo3Ideal.main_arg2)
      ∧ r.2.mem ((c.tc : Thread Cert.AdCo3Ideal.nD Cert.AdCo3Ideal.τ).loc Cert.AdCo3Ideal.main_arg3) = m ((c.tc : Thread Cert.AdCo3Ideal.nD Cert.AdCo3Ideal.τ).loc Cert.AdCo3Ideal.main_arg3)
      ∧ r.2.mem ((c.tc : Thread Cert.AdCo3Ideal.nD Cert.AdCo3Ideal.τ).loc Cert.AdCo3Ideal.main_arg4) = m ((c.tc : Thread Cert.AdCo3Ideal.nD Cert.AdCo3Ideal.τ).loc Cert.AdCo3Ideal.main_arg4)
      ∧ r.2.mem ((c.tc : Thread Cert.AdCo3Ideal.nD Cert.AdCo3Ideal.τ).loc Cert.AdCo3Ideal.main_arg5) = m ((c.tc : Thread Cert.AdCo3Ideal.nD Cert.AdCo3Ideal.τ).loc Cert.AdCo3Ideal.main_arg5)
      ∧ r.2.mem ((c.tc : Thread Cert.AdCo3Ideal.nD Cert.AdCo3Ideal.τ).loc Cert.AdCo3Ideal.main_arg6) = m ((c.tc : Thread Cert.AdCo3Ideal.nD Cert.AdCo3Ideal.τ).loc Cert.AdCo3Ideal.main_arg6)
      ∧ r.2.mem ((c.tc : Thread Cert.AdCo3Ideal.nD Cert.AdCo3Ideal.τ).loc Cert.AdCo3Ideal.main_arg7) = m ((c.tc : Thread Cert.AdCo3Ideal.nD Cert.AdCo3Ideal.τ).loc Cert.AdCo3Ideal.main_arg7))
      ∧ r.2.sem = fun _ => 0)

def quiescent_AdCo3RefIdeal [hAdCo3RefIdeal : Cert.AdCo3RefIdeal.Facts] : Prop :=
  ∀ (m : (ℓ : Loc Cert.AdCo3RefIdeal.nD Cert.AdCo3RefIdeal.τ Cert.AdCo3RefIdeal.sig) → Buf (Elt Ideal) ℓ) (g : Dev Cert.AdCo3RefIdeal.nD → PrngReg), Pre_AdCo3RefIdeal m →
    θ_run (Cert.AdCo3RefIdeal.defs (F := Ideal)) (onTc (τ := Cert.AdCo3RefIdeal.τ) (Cert.AdCo3RefIdeal.main (F := Ideal))) ⟨m, fun _ => 0, g⟩ (fun r => (∀ c : Dev Cert.AdCo3RefIdeal.nD,
      r.2.mem ((c.tc : Thread Cert.AdCo3RefIdeal.nD Cert.AdCo3RefIdeal.τ).loc Cert.AdCo3RefIdeal.main_arg0) = m ((c.tc : Thread Cert.AdCo3RefIdeal.nD Cert.AdCo3RefIdeal.τ).loc Cert.AdCo3RefIdeal.main_arg0)
      ∧ r.2.mem ((c.tc : Thread Cert.AdCo3RefIdeal.nD Cert.AdCo3RefIdeal.τ).loc Cert.AdCo3RefIdeal.main_arg1) = m ((c.tc : Thread Cert.AdCo3RefIdeal.nD Cert.AdCo3RefIdeal.τ).loc Cert.AdCo3RefIdeal.main_arg1)
      ∧ r.2.mem ((c.tc : Thread Cert.AdCo3RefIdeal.nD Cert.AdCo3RefIdeal.τ).loc Cert.AdCo3RefIdeal.main_arg2) = m ((c.tc : Thread Cert.AdCo3RefIdeal.nD Cert.AdCo3RefIdeal.τ).loc Cert.AdCo3RefIdeal.main_arg2)
      ∧ r.2.mem ((c.tc : Thread Cert.AdCo3RefIdeal.nD Cert.AdCo3RefIdeal.τ).loc Cert.AdCo3RefIdeal.main_arg3) = m ((c.tc : Thread Cert.AdCo3RefIdeal.nD Cert.AdCo3RefIdeal.τ).loc Cert.AdCo3RefIdeal.main_arg3)
      ∧ r.2.mem ((c.tc : Thread Cert.AdCo3RefIdeal.nD Cert.AdCo3RefIdeal.τ).loc Cert.AdCo3RefIdeal.main_arg4) = m ((c.tc : Thread Cert.AdCo3RefIdeal.nD Cert.AdCo3RefIdeal.τ).loc Cert.AdCo3RefIdeal.main_arg4)
      ∧ r.2.mem ((c.tc : Thread Cert.AdCo3RefIdeal.nD Cert.AdCo3RefIdeal.τ).loc Cert.AdCo3RefIdeal.main_arg5) = m ((c.tc : Thread Cert.AdCo3RefIdeal.nD Cert.AdCo3RefIdeal.τ).loc Cert.AdCo3RefIdeal.main_arg5)
      ∧ r.2.mem ((c.tc : Thread Cert.AdCo3RefIdeal.nD Cert.AdCo3RefIdeal.τ).loc Cert.AdCo3RefIdeal.main_arg6) = m ((c.tc : Thread Cert.AdCo3RefIdeal.nD Cert.AdCo3RefIdeal.τ).loc Cert.AdCo3RefIdeal.main_arg6)
      ∧ r.2.mem ((c.tc : Thread Cert.AdCo3RefIdeal.nD Cert.AdCo3RefIdeal.τ).loc Cert.AdCo3RefIdeal.main_arg7) = m ((c.tc : Thread Cert.AdCo3RefIdeal.nD Cert.AdCo3RefIdeal.τ).loc Cert.AdCo3RefIdeal.main_arg7))
      ∧ r.2.sem = fun _ => 0)

def quiescent_AdOut0 [hAdOut0 : Cert.AdOut0.Facts] : Prop :=
  ∀ (m : (ℓ : Loc Cert.AdOut0.nD Cert.AdOut0.τ Cert.AdOut0.sig) → Buf (Elt Bits) ℓ) (g : Dev Cert.AdOut0.nD → PrngReg), Pre_AdOut0 m →
    θ_run (Cert.AdOut0.defs (F := Bits)) (onTc (τ := Cert.AdOut0.τ) (Cert.AdOut0.main (F := Bits))) ⟨m, fun _ => 0, g⟩ (fun r => (∀ c : Dev Cert.AdOut0.nD,
      r.2.mem ((c.tc : Thread Cert.AdOut0.nD Cert.AdOut0.τ).loc Cert.AdOut0.main_arg0) = m ((c.tc : Thread Cert.AdOut0.nD Cert.AdOut0.τ).loc Cert.AdOut0.main_arg0)
      ∧ r.2.mem ((c.tc : Thread Cert.AdOut0.nD Cert.AdOut0.τ).loc Cert.AdOut0.main_arg1) = m ((c.tc : Thread Cert.AdOut0.nD Cert.AdOut0.τ).loc Cert.AdOut0.main_arg1)
      ∧ r.2.mem ((c.tc : Thread Cert.AdOut0.nD Cert.AdOut0.τ).loc Cert.AdOut0.main_arg2) = m ((c.tc : Thread Cert.AdOut0.nD Cert.AdOut0.τ).loc Cert.AdOut0.main_arg2)
      ∧ r.2.mem ((c.tc : Thread Cert.AdOut0.nD Cert.AdOut0.τ).loc Cert.AdOut0.main_arg3) = m ((c.tc : Thread Cert.AdOut0.nD Cert.AdOut0.τ).loc Cert.AdOut0.main_arg3)
      ∧ r.2.mem ((c.tc : Thread Cert.AdOut0.nD Cert.AdOut0.τ).loc Cert.AdOut0.main_arg4) = m ((c.tc : Thread Cert.AdOut0.nD Cert.AdOut0.τ).loc Cert.AdOut0.main_arg4)
      ∧ r.2.mem ((c.tc : Thread Cert.AdOut0.nD Cert.AdOut0.τ).loc Cert.AdOut0.main_arg5) = m ((c.tc : Thread Cert.AdOut0.nD Cert.AdOut0.τ).loc Cert.AdOut0.main_arg5)
      ∧ r.2.mem ((c.tc : Thread Cert.AdOut0.nD Cert.AdOut0.τ).loc Cert.AdOut0.main_arg6) = m ((c.tc : Thread Cert.AdOut0.nD Cert.AdOut0.τ).loc Cert.AdOut0.main_arg6)
      ∧ r.2.mem ((c.tc : Thread Cert.AdOut0.nD Cert.AdOut0.τ).loc Cert.AdOut0.main_arg7) = m ((c.tc : Thread Cert.AdOut0.nD Cert.AdOut0.τ).loc Cert.AdOut0.main_arg7))
      ∧ r.2.sem = fun _ => 0)

def quiescent_AdOut0Ideal [hAdOut0Ideal : Cert.AdOut0Ideal.Facts] : Prop :=
  ∀ (m : (ℓ : Loc Cert.AdOut0Ideal.nD Cert.AdOut0Ideal.τ Cert.AdOut0Ideal.sig) → Buf (Elt Ideal) ℓ) (g : Dev Cert.AdOut0Ideal.nD → PrngReg), Pre_AdOut0Ideal m →
    θ_run (Cert.AdOut0Ideal.defs (F := Ideal)) (onTc (τ := Cert.AdOut0Ideal.τ) (Cert.AdOut0Ideal.main (F := Ideal))) ⟨m, fun _ => 0, g⟩ (fun r => (∀ c : Dev Cert.AdOut0Ideal.nD,
      r.2.mem ((c.tc : Thread Cert.AdOut0Ideal.nD Cert.AdOut0Ideal.τ).loc Cert.AdOut0Ideal.main_arg0) = m ((c.tc : Thread Cert.AdOut0Ideal.nD Cert.AdOut0Ideal.τ).loc Cert.AdOut0Ideal.main_arg0)
      ∧ r.2.mem ((c.tc : Thread Cert.AdOut0Ideal.nD Cert.AdOut0Ideal.τ).loc Cert.AdOut0Ideal.main_arg1) = m ((c.tc : Thread Cert.AdOut0Ideal.nD Cert.AdOut0Ideal.τ).loc Cert.AdOut0Ideal.main_arg1)
      ∧ r.2.mem ((c.tc : Thread Cert.AdOut0Ideal.nD Cert.AdOut0Ideal.τ).loc Cert.AdOut0Ideal.main_arg2) = m ((c.tc : Thread Cert.AdOut0Ideal.nD Cert.AdOut0Ideal.τ).loc Cert.AdOut0Ideal.main_arg2)
      ∧ r.2.mem ((c.tc : Thread Cert.AdOut0Ideal.nD Cert.AdOut0Ideal.τ).loc Cert.AdOut0Ideal.main_arg3) = m ((c.tc : Thread Cert.AdOut0Ideal.nD Cert.AdOut0Ideal.τ).loc Cert.AdOut0Ideal.main_arg3)
      ∧ r.2.mem ((c.tc : Thread Cert.AdOut0Ideal.nD Cert.AdOut0Ideal.τ).loc Cert.AdOut0Ideal.main_arg4) = m ((c.tc : Thread Cert.AdOut0Ideal.nD Cert.AdOut0Ideal.τ).loc Cert.AdOut0Ideal.main_arg4)
      ∧ r.2.mem ((c.tc : Thread Cert.AdOut0Ideal.nD Cert.AdOut0Ideal.τ).loc Cert.AdOut0Ideal.main_arg5) = m ((c.tc : Thread Cert.AdOut0Ideal.nD Cert.AdOut0Ideal.τ).loc Cert.AdOut0Ideal.main_arg5)
      ∧ r.2.mem ((c.tc : Thread Cert.AdOut0Ideal.nD Cert.AdOut0Ideal.τ).loc Cert.AdOut0Ideal.main_arg6) = m ((c.tc : Thread Cert.AdOut0Ideal.nD Cert.AdOut0Ideal.τ).loc Cert.AdOut0Ideal.main_arg6)
      ∧ r.2.mem ((c.tc : Thread Cert.AdOut0Ideal.nD Cert.AdOut0Ideal.τ).loc Cert.AdOut0Ideal.main_arg7) = m ((c.tc : Thread Cert.AdOut0Ideal.nD Cert.AdOut0Ideal.τ).loc Cert.AdOut0Ideal.main_arg7))
      ∧ r.2.sem = fun _ => 0)

def quiescent_AdOut0RefIdeal [hAdOut0RefIdeal : Cert.AdOut0RefIdeal.Facts] : Prop :=
  ∀ (m : (ℓ : Loc Cert.AdOut0RefIdeal.nD Cert.AdOut0RefIdeal.τ Cert.AdOut0RefIdeal.sig) → Buf (Elt Ideal) ℓ) (g : Dev Cert.AdOut0RefIdeal.nD → PrngReg), Pre_AdOut0RefIdeal m →
    θ_run (Cert.AdOut0RefIdeal.defs (F := Ideal)) (onTc (τ := Cert.AdOut0RefIdeal.τ) (Cert.AdOut0RefIdeal.main (F := Ideal))) ⟨m, fun _ => 0, g⟩ (fun r => (∀ c : Dev Cert.AdOut0RefIdeal.nD,
      r.2.mem ((c.tc : Thread Cert.AdOut0RefIdeal.nD Cert.AdOut0RefIdeal.τ).loc Cert.AdOut0RefIdeal.main_arg0) = m ((c.tc : Thread Cert.AdOut0RefIdeal.nD Cert.AdOut0RefIdeal.τ).loc Cert.AdOut0RefIdeal.main_arg0)
      ∧ r.2.mem ((c.tc : Thread Cert.AdOut0RefIdeal.nD Cert.AdOut0RefIdeal.τ).loc Cert.AdOut0RefIdeal.main_arg1) = m ((c.tc : Thread Cert.AdOut0RefIdeal.nD Cert.AdOut0RefIdeal.τ).loc Cert.AdOut0RefIdeal.main_arg1)
      ∧ r.2.mem ((c.tc : Thread Cert.AdOut0RefIdeal.nD Cert.AdOut0RefIdeal.τ).loc Cert.AdOut0RefIdeal.main_arg2) = m ((c.tc : Thread Cert.AdOut0RefIdeal.nD Cert.AdOut0RefIdeal.τ).loc Cert.AdOut0RefIdeal.main_arg2)
      ∧ r.2.mem ((c.tc : Thread Cert.AdOut0RefIdeal.nD Cert.AdOut0RefIdeal.τ).loc Cert.AdOut0RefIdeal.main_arg3) = m ((c.tc : Thread Cert.AdOut0RefIdeal.nD Cert.AdOut0RefIdeal.τ).loc Cert.AdOut0RefIdeal.main_arg3)
      ∧ r.2.mem ((c.tc : Thread Cert.AdOut0RefIdeal.nD Cert.AdOut0RefIdeal.τ).loc Cert.AdOut0RefIdeal.main_arg4) = m ((c.tc : Thread Cert.AdOut0RefIdeal.nD Cert.AdOut0RefIdeal.τ).loc Cert.AdOut0RefIdeal.main_arg4)
      ∧ r.2.mem ((c.tc : Thread Cert.AdOut0RefIdeal.nD Cert.AdOut0RefIdeal.τ).loc Cert.AdOut0RefIdeal.main_arg5) = m ((c.tc : Thread Cert.AdOut0RefIdeal.nD Cert.AdOut0RefIdeal.τ).loc Cert.AdOut0RefIdeal.main_arg5)
      ∧ r.2.mem ((c.tc : Thread Cert.AdOut0RefIdeal.nD Cert.AdOut0RefIdeal.τ).loc Cert.AdOut0RefIdeal.main_arg6) = m ((c.tc : Thread Cert.AdOut0RefIdeal.nD Cert.AdOut0RefIdeal.τ).loc Cert.AdOut0RefIdeal.main_arg6)
      ∧ r.2.mem ((c.tc : Thread Cert.AdOut0RefIdeal.nD Cert.AdOut0RefIdeal.τ).loc Cert.AdOut0RefIdeal.main_arg7) = m ((c.tc : Thread Cert.AdOut0RefIdeal.nD Cert.AdOut0RefIdeal.τ).loc Cert.AdOut0RefIdeal.main_arg7))
      ∧ r.2.sem = fun _ => 0)

def quiescent_AdOut1 [hAdOut1 : Cert.AdOut1.Facts] : Prop :=
  ∀ (m : (ℓ : Loc Cert.AdOut1.nD Cert.AdOut1.τ Cert.AdOut1.sig) → Buf (Elt Bits) ℓ) (g : Dev Cert.AdOut1.nD → PrngReg), Pre_AdOut1 m →
    θ_run (Cert.AdOut1.defs (F := Bits)) (onTc (τ := Cert.AdOut1.τ) (Cert.AdOut1.main (F := Bits))) ⟨m, fun _ => 0, g⟩ (fun r => (∀ c : Dev Cert.AdOut1.nD,
      r.2.mem ((c.tc : Thread Cert.AdOut1.nD Cert.AdOut1.τ).loc Cert.AdOut1.main_arg0) = m ((c.tc : Thread Cert.AdOut1.nD Cert.AdOut1.τ).loc Cert.AdOut1.main_arg0)
      ∧ r.2.mem ((c.tc : Thread Cert.AdOut1.nD Cert.AdOut1.τ).loc Cert.AdOut1.main_arg1) = m ((c.tc : Thread Cert.AdOut1.nD Cert.AdOut1.τ).loc Cert.AdOut1.main_arg1)
      ∧ r.2.mem ((c.tc : Thread Cert.AdOut1.nD Cert.AdOut1.τ).loc Cert.AdOut1.main_arg2) = m ((c.tc : Thread Cert.AdOut1.nD Cert.AdOut1.τ).loc Cert.AdOut1.main_arg2)
      ∧ r.2.mem ((c.tc : Thread Cert.AdOut1.nD Cert.AdOut1.τ).loc Cert.AdOut1.main_arg3) = m ((c.tc : Thread Cert.AdOut1.nD Cert.AdOut1.τ).loc Cert.AdOut1.main_arg3)
      ∧ r.2.mem ((c.tc : Thread Cert.AdOut1.nD Cert.AdOut1.τ).loc Cert.AdOut1.main_arg4) = m ((c.tc : Thread Cert.AdOut1.nD Cert.AdOut1.τ).loc Cert.AdOut1.main_arg4)
      ∧ r.2.mem ((c.tc : Thread Cert.AdOut1.nD Cert.AdOut1.τ).loc Cert.AdOut1.main_arg5) = m ((c.tc : Thread Cert.AdOut1.nD Cert.AdOut1.τ).loc Cert.AdOut1.main_arg5)
      ∧ r.2.mem ((c.tc : Thread Cert.AdOut1.nD Cert.AdOut1.τ).loc Cert.AdOut1.main_arg6) = m ((c.tc : Thread Cert.AdOut1.nD Cert.AdOut1.τ).loc Cert.AdOut1.main_arg6)
      ∧ r.2.mem ((c.tc : Thread Cert.AdOut1.nD Cert.AdOut1.τ).loc Cert.AdOut1.main_arg7) = m ((c.tc : Thread Cert.AdOut1.nD Cert.AdOut1.τ).loc Cert.AdOut1.main_arg7))
      ∧ r.2.sem = fun _ => 0)

def quiescent_AdOut1Ideal [hAdOut1Ideal : Cert.AdOut1Ideal.Facts] : Prop :=
  ∀ (m : (ℓ : Loc Cert.AdOut1Ideal.nD Cert.AdOut1Ideal.τ Cert.AdOut1Ideal.sig) → Buf (Elt Ideal) ℓ) (g : Dev Cert.AdOut1Ideal.nD → PrngReg), Pre_AdOut1Ideal m →
    θ_run (Cert.AdOut1Ideal.defs (F := Ideal)) (onTc (τ := Cert.AdOut1Ideal.τ) (Cert.AdOut1Ideal.main (F := Ideal))) ⟨m, fun _ => 0, g⟩ (fun r => (∀ c : Dev Cert.AdOut1Ideal.nD,
      r.2.mem ((c.tc : Thread Cert.AdOut1Ideal.nD Cert.AdOut1Ideal.τ).loc Cert.AdOut1Ideal.main_arg0) = m ((c.tc : Thread Cert.AdOut1Ideal.nD Cert.AdOut1Ideal.τ).loc Cert.AdOut1Ideal.main_arg0)
      ∧ r.2.mem ((c.tc : Thread Cert.AdOut1Ideal.nD Cert.AdOut1Ideal.τ).loc Cert.AdOut1Ideal.main_arg1) = m ((c.tc : Thread Cert.AdOut1Ideal.nD Cert.AdOut1Ideal.τ).loc Cert.AdOut1Ideal.main_arg1)
      ∧ r.2.mem ((c.tc : Thread Cert.AdOut1Ideal.nD Cert.AdOut1Ideal.τ).loc Cert.AdOut1Ideal.main_arg2) = m ((c.tc : Thread Cert.AdOut1Ideal.nD Cert.AdOut1Ideal.τ).loc Cert.AdOut1Ideal.main_arg2)
      ∧ r.2.mem ((c.tc : Thread Cert.AdOut1Ideal.nD Cert.AdOut1Ideal.τ).loc Cert.AdOut1Ideal.main_arg3) = m ((c.tc : Thread Cert.AdOut1Ideal.nD Cert.AdOut1Ideal.τ).loc Cert.AdOut1Ideal.main_arg3)
      ∧ r.2.mem ((c.tc : Thread Cert.AdOut1Ideal.nD Cert.AdOut1Ideal.τ).loc Cert.AdOut1Ideal.main_arg4) = m ((c.tc : Thread Cert.AdOut1Ideal.nD Cert.AdOut1Ideal.τ).loc Cert.AdOut1Ideal.main_arg4)
      ∧ r.2.mem ((c.tc : Thread Cert.AdOut1Ideal.nD Cert.AdOut1Ideal.τ).loc Cert.AdOut1Ideal.main_arg5) = m ((c.tc : Thread Cert.AdOut1Ideal.nD Cert.AdOut1Ideal.τ).loc Cert.AdOut1Ideal.main_arg5)
      ∧ r.2.mem ((c.tc : Thread Cert.AdOut1Ideal.nD Cert.AdOut1Ideal.τ).loc Cert.AdOut1Ideal.main_arg6) = m ((c.tc : Thread Cert.AdOut1Ideal.nD Cert.AdOut1Ideal.τ).loc Cert.AdOut1Ideal.main_arg6)
      ∧ r.2.mem ((c.tc : Thread Cert.AdOut1Ideal.nD Cert.AdOut1Ideal.τ).loc Cert.AdOut1Ideal.main_arg7) = m ((c.tc : Thread Cert.AdOut1Ideal.nD Cert.AdOut1Ideal.τ).loc Cert.AdOut1Ideal.main_arg7))
      ∧ r.2.sem = fun _ => 0)

def quiescent_AdOut1RefIdeal [hAdOut1RefIdeal : Cert.AdOut1RefIdeal.Facts] : Prop :=
  ∀ (m : (ℓ : Loc Cert.AdOut1RefIdeal.nD Cert.AdOut1RefIdeal.τ Cert.AdOut1RefIdeal.sig) → Buf (Elt Ideal) ℓ) (g : Dev Cert.AdOut1RefIdeal.nD → PrngReg), Pre_AdOut1RefIdeal m →
    θ_run (Cert.AdOut1RefIdeal.defs (F := Ideal)) (onTc (τ := Cert.AdOut1RefIdeal.τ) (Cert.AdOut1RefIdeal.main (F := Ideal))) ⟨m, fun _ => 0, g⟩ (fun r => (∀ c : Dev Cert.AdOut1RefIdeal.nD,
      r.2.mem ((c.tc : Thread Cert.AdOut1RefIdeal.nD Cert.AdOut1RefIdeal.τ).loc Cert.AdOut1RefIdeal.main_arg0) = m ((c.tc : Thread Cert.AdOut1RefIdeal.nD Cert.AdOut1RefIdeal.τ).loc Cert.AdOut1RefIdeal.main_arg0)
      ∧ r.2.mem ((c.tc : Thread Cert.AdOut1RefIdeal.nD Cert.AdOut1RefIdeal.τ).loc Cert.AdOut1RefIdeal.main_arg1) = m ((c.tc : Thread Cert.AdOut1RefIdeal.nD Cert.AdOut1RefIdeal.τ).loc Cert.AdOut1RefIdeal.main_arg1)
      ∧ r.2.mem ((c.tc : Thread Cert.AdOut1RefIdeal.nD Cert.AdOut1RefIdeal.τ).loc Cert.AdOut1RefIdeal.main_arg2) = m ((c.tc : Thread Cert.AdOut1RefIdeal.nD Cert.AdOut1RefIdeal.τ).loc Cert.AdOut1RefIdeal.main_arg2)
      ∧ r.2.mem ((c.tc : Thread Cert.AdOut1RefIdeal.nD Cert.AdOut1RefIdeal.τ).loc Cert.AdOut1RefIdeal.main_arg3) = m ((c.tc : Thread Cert.AdOut1RefIdeal.nD Cert.AdOut1RefIdeal.τ).loc Cert.AdOut1RefIdeal.main_arg3)
      ∧ r.2.mem ((c.tc : Thread Cert.AdOut1RefIdeal.nD Cert.AdOut1RefIdeal.τ).loc Cert.AdOut1RefIdeal.main_arg4) = m ((c.tc : Thread Cert.AdOut1RefIdeal.nD Cert.AdOut1RefIdeal.τ).loc Cert.AdOut1RefIdeal.main_arg4)
      ∧ r.2.mem ((c.tc : Thread Cert.AdOut1RefIdeal.nD Cert.AdOut1RefIdeal.τ).loc Cert.AdOut1RefIdeal.main_arg5) = m ((c.tc : Thread Cert.AdOut1RefIdeal.nD Cert.AdOut1RefIdeal.τ).loc Cert.AdOut1RefIdeal.main_arg5)
      ∧ r.2.mem ((c.tc : Thread Cert.AdOut1RefIdeal.nD Cert.AdOut1RefIdeal.τ).loc Cert.AdOut1RefIdeal.main_arg6) = m ((c.tc : Thread Cert.AdOut1RefIdeal.nD Cert.AdOut1RefIdeal.τ).loc Cert.AdOut1RefIdeal.main_arg6)
      ∧ r.2.mem ((c.tc : Thread Cert.AdOut1RefIdeal.nD Cert.AdOut1RefIdeal.τ).loc Cert.AdOut1RefIdeal.main_arg7) = m ((c.tc : Thread Cert.AdOut1RefIdeal.nD Cert.AdOut1RefIdeal.τ).loc Cert.AdOut1RefIdeal.main_arg7))
      ∧ r.2.sem = fun _ => 0)

def quiescent_AdOut2 [hAdOut2 : Cert.AdOut2.Facts] : Prop :=
  ∀ (m : (ℓ : Loc Cert.AdOut2.nD Cert.AdOut2.τ Cert.AdOut2.sig) → Buf (Elt Bits) ℓ) (g : Dev Cert.AdOut2.nD → PrngReg), Pre_AdOut2 m →
    θ_run (Cert.AdOut2.defs (F := Bits)) (onTc (τ := Cert.AdOut2.τ) (Cert.AdOut2.main (F := Bits))) ⟨m, fun _ => 0, g⟩ (fun r => (∀ c : Dev Cert.AdOut2.nD,
      r.2.mem ((c.tc : Thread Cert.AdOut2.nD Cert.AdOut2.τ).loc Cert.AdOut2.main_arg0) = m ((c.tc : Thread Cert.AdOut2.nD Cert.AdOut2.τ).loc Cert.AdOut2.main_arg0)
      ∧ r.2.mem ((c.tc : Thread Cert.AdOut2.nD Cert.AdOut2.τ).loc Cert.AdOut2.main_arg1) = m ((c.tc : Thread Cert.AdOut2.nD Cert.AdOut2.τ).loc Cert.AdOut2.main_arg1)
      ∧ r.2.mem ((c.tc : Thread Cert.AdOut2.nD Cert.AdOut2.τ).loc Cert.AdOut2.main_arg2) = m ((c.tc : Thread Cert.AdOut2.nD Cert.AdOut2.τ).loc Cert.AdOut2.main_arg2)
      ∧ r.2.mem ((c.tc : Thread Cert.AdOut2.nD Cert.AdOut2.τ).loc Cert.AdOut2.main_arg3) = m ((c.tc : Thread Cert.AdOut2.nD Cert.AdOut2.τ).loc Cert.AdOut2.main_arg3)
      ∧ r.2.mem ((c.tc : Thread Cert.AdOut2.nD Cert.AdOut2.τ).loc Cert.AdOut2.main_arg4) = m ((c.tc : Thread Cert.AdOut2.nD Cert.AdOut2.τ).loc Cert.AdOut2.main_arg4)
      ∧ r.2.mem ((c.tc : Thread Cert.AdOut2.nD Cert.AdOut2.τ).loc Cert.AdOut2.main_arg5) = m ((c.tc : Thread Cert.AdOut2.nD Cert.AdOut2.τ).loc Cert.AdOut2.main_arg5)
      ∧ r.2.mem ((c.tc : Thread Cert.AdOut2.nD Cert.AdOut2.τ).loc Cert.AdOut2.main_arg6) = m ((c.tc : Thread Cert.AdOut2.nD Cert.AdOut2.τ).loc Cert.AdOut2.main_arg6)
      ∧ r.2.mem ((c.tc : Thread Cert.AdOut2.nD Cert.AdOut2.τ).loc Cert.AdOut2.main_arg7) = m ((c.tc : Thread Cert.AdOut2.nD Cert.AdOut2.τ).loc Cert.AdOut2.main_arg7))
      ∧ r.2.sem = fun _ => 0)

def quiescent_AdOut2Ideal [hAdOut2Ideal : Cert.AdOut2Ideal.Facts] : Prop :=
  ∀ (m : (ℓ : Loc Cert.AdOut2Ideal.nD Cert.AdOut2Ideal.τ Cert.AdOut2Ideal.sig) → Buf (Elt Ideal) ℓ) (g : Dev Cert.AdOut2Ideal.nD → PrngReg), Pre_AdOut2Ideal m →
    θ_run (Cert.AdOut2Ideal.defs (F := Ideal)) (onTc (τ := Cert.AdOut2Ideal.τ) (Cert.AdOut2Ideal.main (F := Ideal))) ⟨m, fun _ => 0, g⟩ (fun r => (∀ c : Dev Cert.AdOut2Ideal.nD,
      r.2.mem ((c.tc : Thread Cert.AdOut2Ideal.nD Cert.AdOut2Ideal.τ).loc Cert.AdOut2Ideal.main_arg0) = m ((c.tc : Thread Cert.AdOut2Ideal.nD Cert.AdOut2Ideal.τ).loc Cert.AdOut2Ideal.main_arg0)
      ∧ r.2.mem ((c.tc : Thread Cert.AdOut2Ideal.nD Cert.AdOut2Ideal.τ).loc Cert.AdOut2Ideal.main_arg1) = m ((c.tc : Thread Cert.AdOut2Ideal.nD Cert.AdOut2Ideal.τ).loc Cert.AdOut2Ideal.main_arg1)
      ∧ r.2.mem ((c.tc : Thread Cert.AdOut2Ideal.nD Cert.AdOut2Ideal.τ).loc Cert.AdOut2Ideal.main_arg2) = m ((c.tc : Thread Cert.AdOut2Ideal.nD Cert.AdOut2Ideal.τ).loc Cert.AdOut2Ideal.main_arg2)
      ∧ r.2.mem ((c.tc : Thread Cert.AdOut2Ideal.nD Cert.AdOut2Ideal.τ).loc Cert.AdOut2Ideal.main_arg3) = m ((c.tc : Thread Cert.AdOut2Ideal.nD Cert.AdOut2Ideal.τ).loc Cert.AdOut2Ideal.main_arg3)
      ∧ r.2.mem ((c.tc : Thread Cert.AdOut2Ideal.nD Cert.AdOut2Ideal.τ).loc Cert.AdOut2Ideal.main_arg4) = m ((c.tc : Thread Cert.AdOut2Ideal.nD Cert.AdOut2Ideal.τ).loc Cert.AdOut2Ideal.main_arg4)
      ∧ r.2.mem ((c.tc : Thread Cert.AdOut2Ideal.nD Cert.AdOut2Ideal.τ).loc Cert.AdOut2Ideal.main_arg5) = m ((c.tc : Thread Cert.AdOut2Ideal.nD Cert.AdOut2Ideal.τ).loc Cert.AdOut2Ideal.main_arg5)
      ∧ r.2.mem ((c.tc : Thread Cert.AdOut2Ideal.nD Cert.AdOut2Ideal.τ).loc Cert.AdOut2Ideal.main_arg6) = m ((c.tc : Thread Cert.AdOut2Ideal.nD Cert.AdOut2Ideal.τ).loc Cert.AdOut2Ideal.main_arg6)
      ∧ r.2.mem ((c.tc : Thread Cert.AdOut2Ideal.nD Cert.AdOut2Ideal.τ).loc Cert.AdOut2Ideal.main_arg7) = m ((c.tc : Thread Cert.AdOut2Ideal.nD Cert.AdOut2Ideal.τ).loc Cert.AdOut2Ideal.main_arg7))
      ∧ r.2.sem = fun _ => 0)

def quiescent_AdOut2RefIdeal [hAdOut2RefIdeal : Cert.AdOut2RefIdeal.Facts] : Prop :=
  ∀ (m : (ℓ : Loc Cert.AdOut2RefIdeal.nD Cert.AdOut2RefIdeal.τ Cert.AdOut2RefIdeal.sig) → Buf (Elt Ideal) ℓ) (g : Dev Cert.AdOut2RefIdeal.nD → PrngReg), Pre_AdOut2RefIdeal m →
    θ_run (Cert.AdOut2RefIdeal.defs (F := Ideal)) (onTc (τ := Cert.AdOut2RefIdeal.τ) (Cert.AdOut2RefIdeal.main (F := Ideal))) ⟨m, fun _ => 0, g⟩ (fun r => (∀ c : Dev Cert.AdOut2RefIdeal.nD,
      r.2.mem ((c.tc : Thread Cert.AdOut2RefIdeal.nD Cert.AdOut2RefIdeal.τ).loc Cert.AdOut2RefIdeal.main_arg0) = m ((c.tc : Thread Cert.AdOut2RefIdeal.nD Cert.AdOut2RefIdeal.τ).loc Cert.AdOut2RefIdeal.main_arg0)
      ∧ r.2.mem ((c.tc : Thread Cert.AdOut2RefIdeal.nD Cert.AdOut2RefIdeal.τ).loc Cert.AdOut2RefIdeal.main_arg1) = m ((c.tc : Thread Cert.AdOut2RefIdeal.nD Cert.AdOut2RefIdeal.τ).loc Cert.AdOut2RefIdeal.main_arg1)
      ∧ r.2.mem ((c.tc : Thread Cert.AdOut2RefIdeal.nD Cert.AdOut2RefIdeal.τ).loc Cert.AdOut2RefIdeal.main_arg2) = m ((c.tc : Thread Cert.AdOut2RefIdeal.nD Cert.AdOut2RefIdeal.τ).loc Cert.AdOut2RefIdeal.main_arg2)
      ∧ r.2.mem ((c.tc : Thread Cert.AdOut2RefIdeal.nD Cert.AdOut2RefIdeal.τ).loc Cert.AdOut2RefIdeal.main_arg3) = m ((c.tc : Thread Cert.AdOut2RefIdeal.nD Cert.AdOut2RefIdeal.τ).loc Cert.AdOut2RefIdeal.main_arg3)
      ∧ r.2.mem ((c.tc : Thread Cert.AdOut2RefIdeal.nD Cert.AdOut2RefIdeal.τ).loc Cert.AdOut2RefIdeal.main_arg4) = m ((c.tc : Thread Cert.AdOut2RefIdeal.nD Cert.AdOut2RefIdeal.τ).loc Cert.AdOut2RefIdeal.main_arg4)
      ∧ r.2.mem ((c.tc : Thread Cert.AdOut2RefIdeal.nD Cert.AdOut2RefIdeal.τ).loc Cert.AdOut2RefIdeal.main_arg5) = m ((c.tc : Thread Cert.AdOut2RefIdeal.nD Cert.AdOut2RefIdeal.τ).loc Cert.AdOut2RefIdeal.main_arg5)
      ∧ r.2.mem ((c.tc : Thread Cert.AdOut2RefIdeal.nD Cert.AdOut2RefIdeal.τ).loc Cert.AdOut2RefIdeal.main_arg6) = m ((c.tc : Thread Cert.AdOut2RefIdeal.nD Cert.AdOut2RefIdeal.τ).loc Cert.AdOut2RefIdeal.main_arg6)
      ∧ r.2.mem ((c.tc : Thread Cert.AdOut2RefIdeal.nD Cert.AdOut2RefIdeal.τ).loc Cert.AdOut2RefIdeal.main_arg7) = m ((c.tc : Thread Cert.AdOut2RefIdeal.nD Cert.AdOut2RefIdeal.τ).loc Cert.AdOut2RefIdeal.main_arg7))
      ∧ r.2.sem = fun _ => 0)

def quiescent_AdOut3 [hAdOut3 : Cert.AdOut3.Facts] : Prop :=
  ∀ (m : (ℓ : Loc Cert.AdOut3.nD Cert.AdOut3.τ Cert.AdOut3.sig) → Buf (Elt Bits) ℓ) (g : Dev Cert.AdOut3.nD → PrngReg), Pre_AdOut3 m →
    θ_run (Cert.AdOut3.defs (F := Bits)) (onTc (τ := Cert.AdOut3.τ) (Cert.AdOut3.main (F := Bits))) ⟨m, fun _ => 0, g⟩ (fun r => (∀ c : Dev Cert.AdOut3.nD,
      r.2.mem ((c.tc : Thread Cert.AdOut3.nD Cert.AdOut3.τ).loc Cert.AdOut3.main_arg0) = m ((c.tc : Thread Cert.AdOut3.nD Cert.AdOut3.τ).loc Cert.AdOut3.main_arg0)
      ∧ r.2.mem ((c.tc : Thread Cert.AdOut3.nD Cert.AdOut3.τ).loc Cert.AdOut3.main_arg1) = m ((c.tc : Thread Cert.AdOut3.nD Cert.AdOut3.τ).loc Cert.AdOut3.main_arg1)
      ∧ r.2.mem ((c.tc : Thread Cert.AdOut3.nD Cert.AdOut3.τ).loc Cert.AdOut3.main_arg2) = m ((c.tc : Thread Cert.AdOut3.nD Cert.AdOut3.τ).loc Cert.AdOut3.main_arg2)
      ∧ r.2.mem ((c.tc : Thread Cert.AdOut3.nD Cert.AdOut3.τ).loc Cert.AdOut3.main_arg3) = m ((c.tc : Thread Cert.AdOut3.nD Cert.AdOut3.τ).loc Cert.AdOut3.main_arg3)
      ∧ r.2.mem ((c.tc : Thread Cert.AdOut3.nD Cert.AdOut3.τ).loc Cert.AdOut3.main_arg4) = m ((c.tc : Thread Cert.AdOut3.nD Cert.AdOut3.τ).loc Cert.AdOut3.main_arg4)
      ∧ r.2.mem ((c.tc : Thread Cert.AdOut3.nD Cert.AdOut3.τ).loc Cert.AdOut3.main_arg5) = m ((c.tc : Thread Cert.AdOut3.nD Cert.AdOut3.τ).loc Cert.AdOut3.main_arg5)
      ∧ r.2.mem ((c.tc : Thread Cert.AdOut3.nD Cert.AdOut3.τ).loc Cert.AdOut3.main_arg6) = m ((c.tc : Thread Cert.AdOut3.nD Cert.AdOut3.τ).loc Cert.AdOut3.main_arg6)
      ∧ r.2.mem ((c.tc : Thread Cert.AdOut3.nD Cert.AdOut3.τ).loc Cert.AdOut3.main_arg7) = m ((c.tc : Thread Cert.AdOut3.nD Cert.AdOut3.τ).loc Cert.AdOut3.main_arg7))
      ∧ r.2.sem = fun _ => 0)

def quiescent_AdOut3Ideal [hAdOut3Ideal : Cert.AdOut3Ideal.Facts] : Prop :=
  ∀ (m : (ℓ : Loc Cert.AdOut3Ideal.nD Cert.AdOut3Ideal.τ Cert.AdOut3Ideal.sig) → Buf (Elt Ideal) ℓ) (g : Dev Cert.AdOut3Ideal.nD → PrngReg), Pre_AdOut3Ideal m →
    θ_run (Cert.AdOut3Ideal.defs (F := Ideal)) (onTc (τ := Cert.AdOut3Ideal.τ) (Cert.AdOut3Ideal.main (F := Ideal))) ⟨m, fun _ => 0, g⟩ (fun r => (∀ c : Dev Cert.AdOut3Ideal.nD,
      r.2.mem ((c.tc : Thread Cert.AdOut3Ideal.nD Cert.AdOut3Ideal.τ).loc Cert.AdOut3Ideal.main_arg0) = m ((c.tc : Thread Cert.AdOut3Ideal.nD Cert.AdOut3Ideal.τ).loc Cert.AdOut3Ideal.main_arg0)
      ∧ r.2.mem ((c.tc : Thread Cert.AdOut3Ideal.nD Cert.AdOut3Ideal.τ).loc Cert.AdOut3Ideal.main_arg1) = m ((c.tc : Thread Cert.AdOut3Ideal.nD Cert.AdOut3Ideal.τ).loc Cert.AdOut3Ideal.main_arg1)
      ∧ r.2.mem ((c.tc : Thread Cert.AdOut3Ideal.nD Cert.AdOut3Ideal.τ).loc Cert.AdOut3Ideal.main_arg2) = m ((c.tc : Thread Cert.AdOut3Ideal.nD Cert.AdOut3Ideal.τ).loc Cert.AdOut3Ideal.main_arg2)
      ∧ r.2.mem ((c.tc : Thread Cert.AdOut3Ideal.nD Cert.AdOut3Ideal.τ).loc Cert.AdOut3Ideal.main_arg3) = m ((c.tc : Thread Cert.AdOut3Ideal.nD Cert.AdOut3Ideal.τ).loc Cert.AdOut3Ideal.main_arg3)
      ∧ r.2.mem ((c.tc : Thread Cert.AdOut3Ideal.nD Cert.AdOut3Ideal.τ).loc Cert.AdOut3Ideal.main_arg4) = m ((c.tc : Thread Cert.AdOut3Ideal.nD Cert.AdOut3Ideal.τ).loc Cert.AdOut3Ideal.main_arg4)
      ∧ r.2.mem ((c.tc : Thread Cert.AdOut3Ideal.nD Cert.AdOut3Ideal.τ).loc Cert.AdOut3Ideal.main_arg5) = m ((c.tc : Thread Cert.AdOut3Ideal.nD Cert.AdOut3Ideal.τ).loc Cert.AdOut3Ideal.main_arg5)
      ∧ r.2.mem ((c.tc : Thread Cert.AdOut3Ideal.nD Cert.AdOut3Ideal.τ).loc Cert.AdOut3Ideal.main_arg6) = m ((c.tc : Thread Cert.AdOut3Ideal.nD Cert.AdOut3Ideal.τ).loc Cert.AdOut3Ideal.main_arg6)
      ∧ r.2.mem ((c.tc : Thread Cert.AdOut3Ideal.nD Cert.AdOut3Ideal.τ).loc Cert.AdOut3Ideal.main_arg7) = m ((c.tc : Thread Cert.AdOut3Ideal.nD Cert.AdOut3Ideal.τ).loc Cert.AdOut3Ideal.main_arg7))
      ∧ r.2.sem = fun _ => 0)

def quiescent_AdOut3RefIdeal [hAdOut3RefIdeal : Cert.AdOut3RefIdeal.Facts] : Prop :=
  ∀ (m : (ℓ : Loc Cert.AdOut3RefIdeal.nD Cert.AdOut3RefIdeal.τ Cert.AdOut3RefIdeal.sig) → Buf (Elt Ideal) ℓ) (g : Dev Cert.AdOut3RefIdeal.nD → PrngReg), Pre_AdOut3RefIdeal m →
    θ_run (Cert.AdOut3RefIdeal.defs (F := Ideal)) (onTc (τ := Cert.AdOut3RefIdeal.τ) (Cert.AdOut3RefIdeal.main (F := Ideal))) ⟨m, fun _ => 0, g⟩ (fun r => (∀ c : Dev Cert.AdOut3RefIdeal.nD,
      r.2.mem ((c.tc : Thread Cert.AdOut3RefIdeal.nD Cert.AdOut3RefIdeal.τ).loc Cert.AdOut3RefIdeal.main_arg0) = m ((c.tc : Thread Cert.AdOut3RefIdeal.nD Cert.AdOut3RefIdeal.τ).loc Cert.AdOut3RefIdeal.main_arg0)
      ∧ r.2.mem ((c.tc : Thread Cert.AdOut3RefIdeal.nD Cert.AdOut3RefIdeal.τ).loc Cert.AdOut3RefIdeal.main_arg1) = m ((c.tc : Thread Cert.AdOut3RefIdeal.nD Cert.AdOut3RefIdeal.τ).loc Cert.AdOut3RefIdeal.main_arg1)
      ∧ r.2.mem ((c.tc : Thread Cert.AdOut3RefIdeal.nD Cert.AdOut3RefIdeal.τ).loc Cert.AdOut3RefIdeal.main_arg2) = m ((c.tc : Thread Cert.AdOut3RefIdeal.nD Cert.AdOut3RefIdeal.τ).loc Cert.AdOut3RefIdeal.main_arg2)
      ∧ r.2.mem ((c.tc : Thread Cert.AdOut3RefIdeal.nD Cert.AdOut3RefIdeal.τ).loc Cert.AdOut3RefIdeal.main_arg3) = m ((c.tc : Thread Cert.AdOut3RefIdeal.nD Cert.AdOut3RefIdeal.τ).loc Cert.AdOut3RefIdeal.main_arg3)
      ∧ r.2.mem ((c.tc : Thread Cert.AdOut3RefIdeal.nD Cert.AdOut3RefIdeal.τ).loc Cert.AdOut3RefIdeal.main_arg4) = m ((c.tc : Thread Cert.AdOut3RefIdeal.nD Cert.AdOut3RefIdeal.τ).loc Cert.AdOut3RefIdeal.main_arg4)
      ∧ r.2.mem ((c.tc : Thread Cert.AdOut3RefIdeal.nD Cert.AdOut3RefIdeal.τ).loc Cert.AdOut3RefIdeal.main_arg5) = m ((c.tc : Thread Cert.AdOut3RefIdeal.nD Cert.AdOut3RefIdeal.τ).loc Cert.AdOut3RefIdeal.main_arg5)
      ∧ r.2.mem ((c.tc : Thread Cert.AdOut3RefIdeal.nD Cert.AdOut3RefIdeal.τ).loc Cert.AdOut3RefIdeal.main_arg6) = m ((c.tc : Thread Cert.AdOut3RefIdeal.nD Cert.AdOut3RefIdeal.τ).loc Cert.AdOut3RefIdeal.main_arg6)
      ∧ r.2.mem ((c.tc : Thread Cert.AdOut3RefIdeal.nD Cert.AdOut3RefIdeal.τ).loc Cert.AdOut3RefIdeal.main_arg7) = m ((c.tc : Thread Cert.AdOut3RefIdeal.nD Cert.AdOut3RefIdeal.τ).loc Cert.AdOut3RefIdeal.main_arg7))
      ∧ r.2.sem = fun _ => 0)

def quiescent_AdFf0 [hAdFf0 : Cert.AdFf0.Facts] : Prop :=
  ∀ (m : (ℓ : Loc Cert.AdFf0.nD Cert.AdFf0.τ Cert.AdFf0.sig) → Buf (Elt Bits) ℓ) (g : Dev Cert.AdFf0.nD → PrngReg), Pre_AdFf0 m →
    θ_run (Cert.AdFf0.defs (F := Bits)) (onTc (τ := Cert.AdFf0.τ) (Cert.AdFf0.main (F := Bits))) ⟨m, fun _ => 0, g⟩ (fun r => (∀ c : Dev Cert.AdFf0.nD,
      r.2.mem ((c.tc : Thread Cert.AdFf0.nD Cert.AdFf0.τ).loc Cert.AdFf0.main_arg0) = m ((c.tc : Thread Cert.AdFf0.nD Cert.AdFf0.τ).loc Cert.AdFf0.main_arg0)
      ∧ r.2.mem ((c.tc : Thread Cert.AdFf0.nD Cert.AdFf0.τ).loc Cert.AdFf0.main_arg1) = m ((c.tc : Thread Cert.AdFf0.nD Cert.AdFf0.τ).loc Cert.AdFf0.main_arg1)
      ∧ r.2.mem ((c.tc : Thread Cert.AdFf0.nD Cert.AdFf0.τ).loc Cert.AdFf0.main_arg2) = m ((c.tc : Thread Cert.AdFf0.nD Cert.AdFf0.τ).loc Cert.AdFf0.main_arg2)
      ∧ r.2.mem ((c.tc : Thread Cert.AdFf0.nD Cert.AdFf0.τ).loc Cert.AdFf0.main_arg3) = m ((c.tc : Thread Cert.AdFf0.nD Cert.AdFf0.τ).loc Cert.AdFf0.main_arg3)
      ∧ r.2.mem ((c.tc : Thread Cert.AdFf0.nD Cert.AdFf0.τ).loc Cert.AdFf0.main_arg4) = m ((c.tc : Thread Cert.AdFf0.nD Cert.AdFf0.τ).loc Cert.AdFf0.main_arg4)
      ∧ r.2.mem ((c.tc : Thread Cert.AdFf0.nD Cert.AdFf0.τ).loc Cert.AdFf0.main_arg5) = m ((c.tc : Thread Cert.AdFf0.nD Cert.AdFf0.τ).loc Cert.AdFf0.main_arg5)
      ∧ r.2.mem ((c.tc : Thread Cert.AdFf0.nD Cert.AdFf0.τ).loc Cert.AdFf0.main_arg6) = m ((c.tc : Thread Cert.AdFf0.nD Cert.AdFf0.τ).loc Cert.AdFf0.main_arg6)
      ∧ r.2.mem ((c.tc : Thread Cert.AdFf0.nD Cert.AdFf0.τ).loc Cert.AdFf0.main_arg7) = m ((c.tc : Thread Cert.AdFf0.nD Cert.AdFf0.τ).loc Cert.AdFf0.main_arg7))
      ∧ r.2.sem = fun _ => 0)

def quiescent_AdFf0Ideal [hAdFf0Ideal : Cert.AdFf0Ideal.Facts] : Prop :=
  ∀ (m : (ℓ : Loc Cert.AdFf0Ideal.nD Cert.AdFf0Ideal.τ Cert.AdFf0Ideal.sig) → Buf (Elt Ideal) ℓ) (g : Dev Cert.AdFf0Ideal.nD → PrngReg), Pre_AdFf0Ideal m →
    θ_run (Cert.AdFf0Ideal.defs (F := Ideal)) (onTc (τ := Cert.AdFf0Ideal.τ) (Cert.AdFf0Ideal.main (F := Ideal))) ⟨m, fun _ => 0, g⟩ (fun r => (∀ c : Dev Cert.AdFf0Ideal.nD,
      r.2.mem ((c.tc : Thread Cert.AdFf0Ideal.nD Cert.AdFf0Ideal.τ).loc Cert.AdFf0Ideal.main_arg0) = m ((c.tc : Thread Cert.AdFf0Ideal.nD Cert.AdFf0Ideal.τ).loc Cert.AdFf0Ideal.main_arg0)
      ∧ r.2.mem ((c.tc : Thread Cert.AdFf0Ideal.nD Cert.AdFf0Ideal.τ).loc Cert.AdFf0Ideal.main_arg1) = m ((c.tc : Thread Cert.AdFf0Ideal.nD Cert.AdFf0Ideal.τ).loc Cert.AdFf0Ideal.main_arg1)
      ∧ r.2.mem ((c.tc : Thread Cert.AdFf0Ideal.nD Cert.AdFf0Ideal.τ).loc Cert.AdFf0Ideal.main_arg2) = m ((c.tc : Thread Cert.AdFf0Ideal.nD Cert.AdFf0Ideal.τ).loc Cert.AdFf0Ideal.main_arg2)
      ∧ r.2.mem ((c.tc : Thread Cert.AdFf0Ideal.nD Cert.AdFf0Ideal.τ).loc Cert.AdFf0Ideal.main_arg3) = m ((c.tc : Thread Cert.AdFf0Ideal.nD Cert.AdFf0Ideal.τ).loc Cert.AdFf0Ideal.main_arg3)
      ∧ r.2.mem ((c.tc : Thread Cert.AdFf0Ideal.nD Cert.AdFf0Ideal.τ).loc Cert.AdFf0Ideal.main_arg4) = m ((c.tc : Thread Cert.AdFf0Ideal.nD Cert.AdFf0Ideal.τ).loc Cert.AdFf0Ideal.main_arg4)
      ∧ r.2.mem ((c.tc : Thread Cert.AdFf0Ideal.nD Cert.AdFf0Ideal.τ).loc Cert.AdFf0Ideal.main_arg5) = m ((c.tc : Thread Cert.AdFf0Ideal.nD Cert.AdFf0Ideal.τ).loc Cert.AdFf0Ideal.main_arg5)
      ∧ r.2.mem ((c.tc : Thread Cert.AdFf0Ideal.nD Cert.AdFf0Ideal.τ).loc Cert.AdFf0Ideal.main_arg6) = m ((c.tc : Thread Cert.AdFf0Ideal.nD Cert.AdFf0Ideal.τ).loc Cert.AdFf0Ideal.main_arg6)
      ∧ r.2.mem ((c.tc : Thread Cert.AdFf0Ideal.nD Cert.AdFf0Ideal.τ).loc Cert.AdFf0Ideal.main_arg7) = m ((c.tc : Thread Cert.AdFf0Ideal.nD Cert.AdFf0Ideal.τ).loc Cert.AdFf0Ideal.main_arg7))
      ∧ r.2.sem = fun _ => 0)

def quiescent_AdFf0RefIdeal [hAdFf0RefIdeal : Cert.AdFf0RefIdeal.Facts] : Prop :=
  ∀ (m : (ℓ : Loc Cert.AdFf0RefIdeal.nD Cert.AdFf0RefIdeal.τ Cert.AdFf0RefIdeal.sig) → Buf (Elt Ideal) ℓ) (g : Dev Cert.AdFf0RefIdeal.nD → PrngReg), Pre_AdFf0RefIdeal m →
    θ_run (Cert.AdFf0RefIdeal.defs (F := Ideal)) (onTc (τ := Cert.AdFf0RefIdeal.τ) (Cert.AdFf0RefIdeal.main (F := Ideal))) ⟨m, fun _ => 0, g⟩ (fun r => (∀ c : Dev Cert.AdFf0RefIdeal.nD,
      r.2.mem ((c.tc : Thread Cert.AdFf0RefIdeal.nD Cert.AdFf0RefIdeal.τ).loc Cert.AdFf0RefIdeal.main_arg0) = m ((c.tc : Thread Cert.AdFf0RefIdeal.nD Cert.AdFf0RefIdeal.τ).loc Cert.AdFf0RefIdeal.main_arg0)
      ∧ r.2.mem ((c.tc : Thread Cert.AdFf0RefIdeal.nD Cert.AdFf0RefIdeal.τ).loc Cert.AdFf0RefIdeal.main_arg1) = m ((c.tc : Thread Cert.AdFf0RefIdeal.nD Cert.AdFf0RefIdeal.τ).loc Cert.AdFf0RefIdeal.main_arg1)
      ∧ r.2.mem ((c.tc : Thread Cert.AdFf0RefIdeal.nD Cert.AdFf0RefIdeal.τ).loc Cert.AdFf0RefIdeal.main_arg2) = m ((c.tc : Thread Cert.AdFf0RefIdeal.nD Cert.AdFf0RefIdeal.τ).loc Cert.AdFf0RefIdeal.main_arg2)
      ∧ r.2.mem ((c.tc : Thread Cert.AdFf0RefIdeal.nD Cert.AdFf0RefIdeal.τ).loc Cert.AdFf0RefIdeal.main_arg3) = m ((c.tc : Thread Cert.AdFf0RefIdeal.nD Cert.AdFf0RefIdeal.τ).loc Cert.AdFf0RefIdeal.main_arg3)
      ∧ r.2.mem ((c.tc : Thread Cert.AdFf0RefIdeal.nD Cert.AdFf0RefIdeal.τ).loc Cert.AdFf0RefIdeal.main_arg4) = m ((c.tc : Thread Cert.AdFf0RefIdeal.nD Cert.AdFf0RefIdeal.τ).loc Cert.AdFf0RefIdeal.main_arg4)
      ∧ r.2.mem ((c.tc : Thread Cert.AdFf0RefIdeal.nD Cert.AdFf0RefIdeal.τ).loc Cert.AdFf0RefIdeal.main_arg5) = m ((c.tc : Thread Cert.AdFf0RefIdeal.nD Cert.AdFf0RefIdeal.τ).loc Cert.AdFf0RefIdeal.main_arg5)
      ∧ r.2.mem ((c.tc : Thread Cert.AdFf0RefIdeal.nD Cert.AdFf0RefIdeal.τ).loc Cert.AdFf0RefIdeal.main_arg6) = m ((c.tc : Thread Cert.AdFf0RefIdeal.nD Cert.AdFf0RefIdeal.τ).loc Cert.AdFf0RefIdeal.main_arg6)
      ∧ r.2.mem ((c.tc : Thread Cert.AdFf0RefIdeal.nD Cert.AdFf0RefIdeal.τ).loc Cert.AdFf0RefIdeal.main_arg7) = m ((c.tc : Thread Cert.AdFf0RefIdeal.nD Cert.AdFf0RefIdeal.τ).loc Cert.AdFf0RefIdeal.main_arg7))
      ∧ r.2.sem = fun _ => 0)

def quiescent_AdFf1 [hAdFf1 : Cert.AdFf1.Facts] : Prop :=
  ∀ (m : (ℓ : Loc Cert.AdFf1.nD Cert.AdFf1.τ Cert.AdFf1.sig) → Buf (Elt Bits) ℓ) (g : Dev Cert.AdFf1.nD → PrngReg), Pre_AdFf1 m →
    θ_run (Cert.AdFf1.defs (F := Bits)) (onTc (τ := Cert.AdFf1.τ) (Cert.AdFf1.main (F := Bits))) ⟨m, fun _ => 0, g⟩ (fun r => (∀ c : Dev Cert.AdFf1.nD,
      r.2.mem ((c.tc : Thread Cert.AdFf1.nD Cert.AdFf1.τ).loc Cert.AdFf1.main_arg0) = m ((c.tc : Thread Cert.AdFf1.nD Cert.AdFf1.τ).loc Cert.AdFf1.main_arg0)
      ∧ r.2.mem ((c.tc : Thread Cert.AdFf1.nD Cert.AdFf1.τ).loc Cert.AdFf1.main_arg1) = m ((c.tc : Thread Cert.AdFf1.nD Cert.AdFf1.τ).loc Cert.AdFf1.main_arg1)
      ∧ r.2.mem ((c.tc : Thread Cert.AdFf1.nD Cert.AdFf1.τ).loc Cert.AdFf1.main_arg2) = m ((c.tc : Thread Cert.AdFf1.nD Cert.AdFf1.τ).loc Cert.AdFf1.main_arg2)
      ∧ r.2.mem ((c.tc : Thread Cert.AdFf1.nD Cert.AdFf1.τ).loc Cert.AdFf1.main_arg3) = m ((c.tc : Thread Cert.AdFf1.nD Cert.AdFf1.τ).loc Cert.AdFf1.main_arg3)
      ∧ r.2.mem ((c.tc : Thread Cert.AdFf1.nD Cert.AdFf1.τ).loc Cert.AdFf1.main_arg4) = m ((c.tc : Thread Cert.AdFf1.nD Cert.AdFf1.τ).loc Cert.AdFf1.main_arg4)
      ∧ r.2.mem ((c.tc : Thread Cert.AdFf1.nD Cert.AdFf1.τ).loc Cert.AdFf1.main_arg5) = m ((c.tc : Thread Cert.AdFf1.nD Cert.AdFf1.τ).loc Cert.AdFf1.main_arg5)
      ∧ r.2.mem ((c.tc : Thread Cert.AdFf1.nD Cert.AdFf1.τ).loc Cert.AdFf1.main_arg6) = m ((c.tc : Thread Cert.AdFf1.nD Cert.AdFf1.τ).loc Cert.AdFf1.main_arg6)
      ∧ r.2.mem ((c.tc : Thread Cert.AdFf1.nD Cert.AdFf1.τ).loc Cert.AdFf1.main_arg7) = m ((c.tc : Thread Cert.AdFf1.nD Cert.AdFf1.τ).loc Cert.AdFf1.main_arg7))
      ∧ r.2.sem = fun _ => 0)

def quiescent_AdFf1Ideal [hAdFf1Ideal : Cert.AdFf1Ideal.Facts] : Prop :=
  ∀ (m : (ℓ : Loc Cert.AdFf1Ideal.nD Cert.AdFf1Ideal.τ Cert.AdFf1Ideal.sig) → Buf (Elt Ideal) ℓ) (g : Dev Cert.AdFf1Ideal.nD → PrngReg), Pre_AdFf1Ideal m →
    θ_run (Cert.AdFf1Ideal.defs (F := Ideal)) (onTc (τ := Cert.AdFf1Ideal.τ) (Cert.AdFf1Ideal.main (F := Ideal))) ⟨m, fun _ => 0, g⟩ (fun r => (∀ c : Dev Cert.AdFf1Ideal.nD,
      r.2.mem ((c.tc : Thread Cert.AdFf1Ideal.nD Cert.AdFf1Ideal.τ).loc Cert.AdFf1Ideal.main_arg0) = m ((c.tc : Thread Cert.AdFf1Ideal.nD Cert.AdFf1Ideal.τ).loc Cert.AdFf1Ideal.main_arg0)
      ∧ r.2.mem ((c.tc : Thread Cert.AdFf1Ideal.nD Cert.AdFf1Ideal.τ).loc Cert.AdFf1Ideal.main_arg1) = m ((c.tc : Thread Cert.AdFf1Ideal.nD Cert.AdFf1Ideal.τ).loc Cert.AdFf1Ideal.main_arg1)
      ∧ r.2.mem ((c.tc : Thread Cert.AdFf1Ideal.nD Cert.AdFf1Ideal.τ).loc Cert.AdFf1Ideal.main_arg2) = m ((c.tc : Thread Cert.AdFf1Ideal.nD Cert.AdFf1Ideal.τ).loc Cert.AdFf1Ideal.main_arg2)
      ∧ r.2.mem ((c.tc : Thread Cert.AdFf1Ideal.nD Cert.AdFf1Ideal.τ).loc Cert.AdFf1Ideal.main_arg3) = m ((c.tc : Thread Cert.AdFf1Ideal.nD Cert.AdFf1Ideal.τ).loc Cert.AdFf1Ideal.main_arg3)
      ∧ r.2.mem ((c.tc : Thread Cert.AdFf1Ideal.nD Cert.AdFf1Ideal.τ).loc Cert.AdFf1Ideal.main_arg4) = m ((c.tc : Thread Cert.AdFf1Ideal.nD Cert.AdFf1Ideal.τ).loc Cert.AdFf1Ideal.main_arg4)
      ∧ r.2.mem ((c.tc : Thread Cert.AdFf1Ideal.nD Cert.AdFf1Ideal.τ).loc Cert.AdFf1Ideal.main_arg5) = m ((c.tc : Thread Cert.AdFf1Ideal.nD Cert.AdFf1Ideal.τ).loc Cert.AdFf1Ideal.main_arg5)
      ∧ r.2.mem ((c.tc : Thread Cert.AdFf1Ideal.nD Cert.AdFf1Ideal.τ).loc Cert.AdFf1Ideal.main_arg6) = m ((c.tc : Thread Cert.AdFf1Ideal.nD Cert.AdFf1Ideal.τ).loc Cert.AdFf1Ideal.main_arg6)
      ∧ r.2.mem ((c.tc : Thread Cert.AdFf1Ideal.nD Cert.AdFf1Ideal.τ).loc Cert.AdFf1Ideal.main_arg7) = m ((c.tc : Thread Cert.AdFf1Ideal.nD Cert.AdFf1Ideal.τ).loc Cert.AdFf1Ideal.main_arg7))
      ∧ r.2.sem = fun _ => 0)

def quiescent_AdFf1RefIdeal [hAdFf1RefIdeal : Cert.AdFf1RefIdeal.Facts] : Prop :=
  ∀ (m : (ℓ : Loc Cert.AdFf1RefIdeal.nD Cert.AdFf1RefIdeal.τ Cert.AdFf1RefIdeal.sig) → Buf (Elt Ideal) ℓ) (g : Dev Cert.AdFf1RefIdeal.nD → PrngReg), Pre_AdFf1RefIdeal m →
    θ_run (Cert.AdFf1RefIdeal.defs (F := Ideal)) (onTc (τ := Cert.AdFf1RefIdeal.τ) (Cert.AdFf1RefIdeal.main (F := Ideal))) ⟨m, fun _ => 0, g⟩ (fun r => (∀ c : Dev Cert.AdFf1RefIdeal.nD,
      r.2.mem ((c.tc : Thread Cert.AdFf1RefIdeal.nD Cert.AdFf1RefIdeal.τ).loc Cert.AdFf1RefIdeal.main_arg0) = m ((c.tc : Thread Cert.AdFf1RefIdeal.nD Cert.AdFf1RefIdeal.τ).loc Cert.AdFf1RefIdeal.main_arg0)
      ∧ r.2.mem ((c.tc : Thread Cert.AdFf1RefIdeal.nD Cert.AdFf1RefIdeal.τ).loc Cert.AdFf1RefIdeal.main_arg1) = m ((c.tc : Thread Cert.AdFf1RefIdeal.nD Cert.AdFf1RefIdeal.τ).loc Cert.AdFf1RefIdeal.main_arg1)
      ∧ r.2.mem ((c.tc : Thread Cert.AdFf1RefIdeal.nD Cert.AdFf1RefIdeal.τ).loc Cert.AdFf1RefIdeal.main_arg2) = m ((c.tc : Thread Cert.AdFf1RefIdeal.nD Cert.AdFf1RefIdeal.τ).loc Cert.AdFf1RefIdeal.main_arg2)
      ∧ r.2.mem ((c.tc : Thread Cert.AdFf1RefIdeal.nD Cert.AdFf1RefIdeal.τ).loc Cert.AdFf1RefIdeal.main_arg3) = m ((c.tc : Thread Cert.AdFf1RefIdeal.nD Cert.AdFf1RefIdeal.τ).loc Cert.AdFf1RefIdeal.main_arg3)
      ∧ r.2.mem ((c.tc : Thread Cert.AdFf1RefIdeal.nD Cert.AdFf1RefIdeal.τ).loc Cert.AdFf1RefIdeal.main_arg4) = m ((c.tc : Thread Cert.AdFf1RefIdeal.nD Cert.AdFf1RefIdeal.τ).loc Cert.AdFf1RefIdeal.main_arg4)
      ∧ r.2.mem ((c.tc : Thread Cert.AdFf1RefIdeal.nD Cert.AdFf1RefIdeal.τ).loc Cert.AdFf1RefIdeal.main_arg5) = m ((c.tc : Thread Cert.AdFf1RefIdeal.nD Cert.AdFf1RefIdeal.τ).loc Cert.AdFf1RefIdeal.main_arg5)
      ∧ r.2.mem ((c.tc : Thread Cert.AdFf1RefIdeal.nD Cert.AdFf1RefIdeal.τ).loc Cert.AdFf1RefIdeal.main_arg6) = m ((c.tc : Thread Cert.AdFf1RefIdeal.nD Cert.AdFf1RefIdeal.τ).loc Cert.AdFf1RefIdeal.main_arg6)
      ∧ r.2.mem ((c.tc : Thread Cert.AdFf1RefIdeal.nD Cert.AdFf1RefIdeal.τ).loc Cert.AdFf1RefIdeal.main_arg7) = m ((c.tc : Thread Cert.AdFf1RefIdeal.nD Cert.AdFf1RefIdeal.τ).loc Cert.AdFf1RefIdeal.main_arg7))
      ∧ r.2.sem = fun _ => 0)

def quiescent_AdFf2 [hAdFf2 : Cert.AdFf2.Facts] : Prop :=
  ∀ (m : (ℓ : Loc Cert.AdFf2.nD Cert.AdFf2.τ Cert.AdFf2.sig) → Buf (Elt Bits) ℓ) (g : Dev Cert.AdFf2.nD → PrngReg), Pre_AdFf2 m →
    θ_run (Cert.AdFf2.defs (F := Bits)) (onTc (τ := Cert.AdFf2.τ) (Cert.AdFf2.main (F := Bits))) ⟨m, fun _ => 0, g⟩ (fun r => (∀ c : Dev Cert.AdFf2.nD,
      r.2.mem ((c.tc : Thread Cert.AdFf2.nD Cert.AdFf2.τ).loc Cert.AdFf2.main_arg0) = m ((c.tc : Thread Cert.AdFf2.nD Cert.AdFf2.τ).loc Cert.AdFf2.main_arg0)
      ∧ r.2.mem ((c.tc : Thread Cert.AdFf2.nD Cert.AdFf2.τ).loc Cert.AdFf2.main_arg1) = m ((c.tc : Thread Cert.AdFf2.nD Cert.AdFf2.τ).loc Cert.AdFf2.main_arg1)
      ∧ r.2.mem ((c.tc : Thread Cert.AdFf2.nD Cert.AdFf2.τ).loc Cert.AdFf2.main_arg2) = m ((c.tc : Thread Cert.AdFf2.nD Cert.AdFf2.τ).loc Cert.AdFf2.main_arg2)
      ∧ r.2.mem ((c.tc : Thread Cert.AdFf2.nD Cert.AdFf2.τ).loc Cert.AdFf2.main_arg3) = m ((c.tc : Thread Cert.AdFf2.nD Cert.AdFf2.τ).loc Cert.AdFf2.main_arg3)
      ∧ r.2.mem ((c.tc : Thread Cert.AdFf2.nD Cert.AdFf2.τ).loc Cert.AdFf2.main_arg4) = m ((c.tc : Thread Cert.AdFf2.nD Cert.AdFf2.τ).loc Cert.AdFf2.main_arg4)
      ∧ r.2.mem ((c.tc : Thread Cert.AdFf2.nD Cert.AdFf2.τ).loc Cert.AdFf2.main_arg5) = m ((c.tc : Thread Cert.AdFf2.nD Cert.AdFf2.τ).loc Cert.AdFf2.main_arg5)
      ∧ r.2.mem ((c.tc : Thread Cert.AdFf2.nD Cert.AdFf2.τ).loc Cert.AdFf2.main_arg6) = m ((c.tc : Thread Cert.AdFf2.nD Cert.AdFf2.τ).loc Cert.AdFf2.main_arg6)
      ∧ r.2.mem ((c.tc : Thread Cert.AdFf2.nD Cert.AdFf2.τ).loc Cert.AdFf2.main_arg7) = m ((c.tc : Thread Cert.AdFf2.nD Cert.AdFf2.τ).loc Cert.AdFf2.main_arg7))
      ∧ r.2.sem = fun _ => 0)

def quiescent_AdFf2Ideal [hAdFf2Ideal : Cert.AdFf2Ideal.Facts] : Prop :=
  ∀ (m : (ℓ : Loc Cert.AdFf2Ideal.nD Cert.AdFf2Ideal.τ Cert.AdFf2Ideal.sig) → Buf (Elt Ideal) ℓ) (g : Dev Cert.AdFf2Ideal.nD → PrngReg), Pre_AdFf2Ideal m →
    θ_run (Cert.AdFf2Ideal.defs (F := Ideal)) (onTc (τ := Cert.AdFf2Ideal.τ) (Cert.AdFf2Ideal.main (F := Ideal))) ⟨m, fun _ => 0, g⟩ (fun r => (∀ c : Dev Cert.AdFf2Ideal.nD,
      r.2.mem ((c.tc : Thread Cert.AdFf2Ideal.nD Cert.AdFf2Ideal.τ).loc Cert.AdFf2Ideal.main_arg0) = m ((c.tc : Thread Cert.AdFf2Ideal.nD Cert.AdFf2Ideal.τ).loc Cert.AdFf2Ideal.main_arg0)
      ∧ r.2.mem ((c.tc : Thread Cert.AdFf2Ideal.nD Cert.AdFf2Ideal.τ).loc Cert.AdFf2Ideal.main_arg1) = m ((c.tc : Thread Cert.AdFf2Ideal.nD Cert.AdFf2Ideal.τ).loc Cert.AdFf2Ideal.main_arg1)
      ∧ r.2.mem ((c.tc : Thread Cert.AdFf2Ideal.nD Cert.AdFf2Ideal.τ).loc Cert.AdFf2Ideal.main_arg2) = m ((c.tc : Thread Cert.AdFf2Ideal.nD Cert.AdFf2Ideal.τ).loc Cert.AdFf2Ideal.main_arg2)
      ∧ r.2.mem ((c.tc : Thread Cert.AdFf2Ideal.nD Cert.AdFf2Ideal.τ).loc Cert.AdFf2Ideal.main_arg3) = m ((c.tc : Thread Cert.AdFf2Ideal.nD Cert.AdFf2Ideal.τ).loc Cert.AdFf2Ideal.main_arg3)
      ∧ r.2.mem ((c.tc : Thread Cert.AdFf2Ideal.nD Cert.AdFf2Ideal.τ).loc Cert.AdFf2Ideal.main_arg4) = m ((c.tc : Thread Cert.AdFf2Ideal.nD Cert.AdFf2Ideal.τ).loc Cert.AdFf2Ideal.main_arg4)
      ∧ r.2.mem ((c.tc : Thread Cert.AdFf2Ideal.nD Cert.AdFf2Ideal.τ).loc Cert.AdFf2Ideal.main_arg5) = m ((c.tc : Thread Cert.AdFf2Ideal.nD Cert.AdFf2Ideal.τ).loc Cert.AdFf2Ideal.main_arg5)
      ∧ r.2.mem ((c.tc : Thread Cert.AdFf2Ideal.nD Cert.AdFf2Ideal.τ).loc Cert.AdFf2Ideal.main_arg6) = m ((c.tc : Thread Cert.AdFf2Ideal.nD Cert.AdFf2Ideal.τ).loc Cert.AdFf2Ideal.main_arg6)
      ∧ r.2.mem ((c.tc : Thread Cert.AdFf2Ideal.nD Cert.AdFf2Ideal.τ).loc Cert.AdFf2Ideal.main_arg7) = m ((c.tc : Thread Cert.AdFf2Ideal.nD Cert.AdFf2Ideal.τ).loc Cert.AdFf2Ideal.main_arg7))
      ∧ r.2.sem = fun _ => 0)

def quiescent_AdFf2RefIdeal [hAdFf2RefIdeal : Cert.AdFf2RefIdeal.Facts] : Prop :=
  ∀ (m : (ℓ : Loc Cert.AdFf2RefIdeal.nD Cert.AdFf2RefIdeal.τ Cert.AdFf2RefIdeal.sig) → Buf (Elt Ideal) ℓ) (g : Dev Cert.AdFf2RefIdeal.nD → PrngReg), Pre_AdFf2RefIdeal m →
    θ_run (Cert.AdFf2RefIdeal.defs (F := Ideal)) (onTc (τ := Cert.AdFf2RefIdeal.τ) (Cert.AdFf2RefIdeal.main (F := Ideal))) ⟨m, fun _ => 0, g⟩ (fun r => (∀ c : Dev Cert.AdFf2RefIdeal.nD,
      r.2.mem ((c.tc : Thread Cert.AdFf2RefIdeal.nD Cert.AdFf2RefIdeal.τ).loc Cert.AdFf2RefIdeal.main_arg0) = m ((c.tc : Thread Cert.AdFf2RefIdeal.nD Cert.AdFf2RefIdeal.τ).loc Cert.AdFf2RefIdeal.main_arg0)
      ∧ r.2.mem ((c.tc : Thread Cert.AdFf2RefIdeal.nD Cert.AdFf2RefIdeal.τ).loc Cert.AdFf2RefIdeal.main_arg1) = m ((c.tc : Thread Cert.AdFf2RefIdeal.nD Cert.AdFf2RefIdeal.τ).loc Cert.AdFf2RefIdeal.main_arg1)
      ∧ r.2.mem ((c.tc : Thread Cert.AdFf2RefIdeal.nD Cert.AdFf2RefIdeal.τ).loc Cert.AdFf2RefIdeal.main_arg2) = m ((c.tc : Thread Cert.AdFf2RefIdeal.nD Cert.AdFf2RefIdeal.τ).loc Cert.AdFf2RefIdeal.main_arg2)
      ∧ r.2.mem ((c.tc : Thread Cert.AdFf2RefIdeal.nD Cert.AdFf2RefIdeal.τ).loc Cert.AdFf2RefIdeal.main_arg3) = m ((c.tc : Thread Cert.AdFf2RefIdeal.nD Cert.AdFf2RefIdeal.τ).loc Cert.AdFf2RefIdeal.main_arg3)
      ∧ r.2.mem ((c.tc : Thread Cert.AdFf2RefIdeal.nD Cert.AdFf2RefIdeal.τ).loc Cert.AdFf2RefIdeal.main_arg4) = m ((c.tc : Thread Cert.AdFf2RefIdeal.nD Cert.AdFf2RefIdeal.τ).loc Cert.AdFf2RefIdeal.main_arg4)
      ∧ r.2.mem ((c.tc : Thread Cert.AdFf2RefIdeal.nD Cert.AdFf2RefIdeal.τ).loc Cert.AdFf2RefIdeal.main_arg5) = m ((c.tc : Thread Cert.AdFf2RefIdeal.nD Cert.AdFf2RefIdeal.τ).loc Cert.AdFf2RefIdeal.main_arg5)
      ∧ r.2.mem ((c.tc : Thread Cert.AdFf2RefIdeal.nD Cert.AdFf2RefIdeal.τ).loc Cert.AdFf2RefIdeal.main_arg6) = m ((c.tc : Thread Cert.AdFf2RefIdeal.nD Cert.AdFf2RefIdeal.τ).loc Cert.AdFf2RefIdeal.main_arg6)
      ∧ r.2.mem ((c.tc : Thread Cert.AdFf2RefIdeal.nD Cert.AdFf2RefIdeal.τ).loc Cert.AdFf2RefIdeal.main_arg7) = m ((c.tc : Thread Cert.AdFf2RefIdeal.nD Cert.AdFf2RefIdeal.τ).loc Cert.AdFf2RefIdeal.main_arg7))
      ∧ r.2.sem = fun _ => 0)

def quiescent_AdFf3 [hAdFf3 : Cert.AdFf3.Facts] : Prop :=
  ∀ (m : (ℓ : Loc Cert.AdFf3.nD Cert.AdFf3.τ Cert.AdFf3.sig) → Buf (Elt Bits) ℓ) (g : Dev Cert.AdFf3.nD → PrngReg), Pre_AdFf3 m →
    θ_run (Cert.AdFf3.defs (F := Bits)) (onTc (τ := Cert.AdFf3.τ) (Cert.AdFf3.main (F := Bits))) ⟨m, fun _ => 0, g⟩ (fun r => (∀ c : Dev Cert.AdFf3.nD,
      r.2.mem ((c.tc : Thread Cert.AdFf3.nD Cert.AdFf3.τ).loc Cert.AdFf3.main_arg0) = m ((c.tc : Thread Cert.AdFf3.nD Cert.AdFf3.τ).loc Cert.AdFf3.main_arg0)
      ∧ r.2.mem ((c.tc : Thread Cert.AdFf3.nD Cert.AdFf3.τ).loc Cert.AdFf3.main_arg1) = m ((c.tc : Thread Cert.AdFf3.nD Cert.AdFf3.τ).loc Cert.AdFf3.main_arg1)
      ∧ r.2.mem ((c.tc : Thread Cert.AdFf3.nD Cert.AdFf3.τ).loc Cert.AdFf3.main_arg2) = m ((c.tc : Thread Cert.AdFf3.nD Cert.AdFf3.τ).loc Cert.AdFf3.main_arg2)
      ∧ r.2.mem ((c.tc : Thread Cert.AdFf3.nD Cert.AdFf3.τ).loc Cert.AdFf3.main_arg3) = m ((c.tc : Thread Cert.AdFf3.nD Cert.AdFf3.τ).loc Cert.AdFf3.main_arg3)
      ∧ r.2.mem ((c.tc : Thread Cert.AdFf3.nD Cert.AdFf3.τ).loc Cert.AdFf3.main_arg4) = m ((c.tc : Thread Cert.AdFf3.nD Cert.AdFf3.τ).loc Cert.AdFf3.main_arg4)
      ∧ r.2.mem ((c.tc : Thread Cert.AdFf3.nD Cert.AdFf3.τ).loc Cert.AdFf3.main_arg5) = m ((c.tc : Thread Cert.AdFf3.nD Cert.AdFf3.τ).loc Cert.AdFf3.main_arg5)
      ∧ r.2.mem ((c.tc : Thread Cert.AdFf3.nD Cert.AdFf3.τ).loc Cert.AdFf3.main_arg6) = m ((c.tc : Thread Cert.AdFf3.nD Cert.AdFf3.τ).loc Cert.AdFf3.main_arg6)
      ∧ r.2.mem ((c.tc : Thread Cert.AdFf3.nD Cert.AdFf3.τ).loc Cert.AdFf3.main_arg7) = m ((c.tc : Thread Cert.AdFf3.nD Cert.AdFf3.τ).loc Cert.AdFf3.main_arg7))
      ∧ r.2.sem = fun _ => 0)

def quiescent_AdFf3Ideal [hAdFf3Ideal : Cert.AdFf3Ideal.Facts] : Prop :=
  ∀ (m : (ℓ : Loc Cert.AdFf3Ideal.nD Cert.AdFf3Ideal.τ Cert.AdFf3Ideal.sig) → Buf (Elt Ideal) ℓ) (g : Dev Cert.AdFf3Ideal.nD → PrngReg), Pre_AdFf3Ideal m →
    θ_run (Cert.AdFf3Ideal.defs (F := Ideal)) (onTc (τ := Cert.AdFf3Ideal.τ) (Cert.AdFf3Ideal.main (F := Ideal))) ⟨m, fun _ => 0, g⟩ (fun r => (∀ c : Dev Cert.AdFf3Ideal.nD,
      r.2.mem ((c.tc : Thread Cert.AdFf3Ideal.nD Cert.AdFf3Ideal.τ).loc Cert.AdFf3Ideal.main_arg0) = m ((c.tc : Thread Cert.AdFf3Ideal.nD Cert.AdFf3Ideal.τ).loc Cert.AdFf3Ideal.main_arg0)
      ∧ r.2.mem ((c.tc : Thread Cert.AdFf3Ideal.nD Cert.AdFf3Ideal.τ).loc Cert.AdFf3Ideal.main_arg1) = m ((c.tc : Thread Cert.AdFf3Ideal.nD Cert.AdFf3Ideal.τ).loc Cert.AdFf3Ideal.main_arg1)
      ∧ r.2.mem ((c.tc : Thread Cert.AdFf3Ideal.nD Cert.AdFf3Ideal.τ).loc Cert.AdFf3Ideal.main_arg2) = m ((c.tc : Thread Cert.AdFf3Ideal.nD Cert.AdFf3Ideal.τ).loc Cert.AdFf3Ideal.main_arg2)
      ∧ r.2.mem ((c.tc : Thread Cert.AdFf3Ideal.nD Cert.AdFf3Ideal.τ).loc Cert.AdFf3Ideal.main_arg3) = m ((c.tc : Thread Cert.AdFf3Ideal.nD Cert.AdFf3Ideal.τ).loc Cert.AdFf3Ideal.main_arg3)
      ∧ r.2.mem ((c.tc : Thread Cert.AdFf3Ideal.nD Cert.AdFf3Ideal.τ).loc Cert.AdFf3Ideal.main_arg4) = m ((c.tc : Thread Cert.AdFf3Ideal.nD Cert.AdFf3Ideal.τ).loc Cert.AdFf3Ideal.main_arg4)
      ∧ r.2.mem ((c.tc : Thread Cert.AdFf3Ideal.nD Cert.AdFf3Ideal.τ).loc Cert.AdFf3Ideal.main_arg5) = m ((c.tc : Thread Cert.AdFf3Ideal.nD Cert.AdFf3Ideal.τ).loc Cert.AdFf3Ideal.main_arg5)
      ∧ r.2.mem ((c.tc : Thread Cert.AdFf3Ideal.nD Cert.AdFf3Ideal.τ).loc Cert.AdFf3Ideal.main_arg6) = m ((c.tc : Thread Cert.AdFf3Ideal.nD Cert.AdFf3Ideal.τ).loc Cert.AdFf3Ideal.main_arg6)
      ∧ r.2.mem ((c.tc : Thread Cert.AdFf3Ideal.nD Cert.AdFf3Ideal.τ).loc Cert.AdFf3Ideal.main_arg7) = m ((c.tc : Thread Cert.AdFf3Ideal.nD Cert.AdFf3Ideal.τ).loc Cert.AdFf3Ideal.main_arg7))
      ∧ r.2.sem = fun _ => 0)

def quiescent_AdFf3RefIdeal [hAdFf3RefIdeal : Cert.AdFf3RefIdeal.Facts] : Prop :=
  ∀ (m : (ℓ : Loc Cert.AdFf3RefIdeal.nD Cert.AdFf3RefIdeal.τ Cert.AdFf3RefIdeal.sig) → Buf (Elt Ideal) ℓ) (g : Dev Cert.AdFf3RefIdeal.nD → PrngReg), Pre_AdFf3RefIdeal m →
    θ_run (Cert.AdFf3RefIdeal.defs (F := Ideal)) (onTc (τ := Cert.AdFf3RefIdeal.τ) (Cert.AdFf3RefIdeal.main (F := Ideal))) ⟨m, fun _ => 0, g⟩ (fun r => (∀ c : Dev Cert.AdFf3RefIdeal.nD,
      r.2.mem ((c.tc : Thread Cert.AdFf3RefIdeal.nD Cert.AdFf3RefIdeal.τ).loc Cert.AdFf3RefIdeal.main_arg0) = m ((c.tc : Thread Cert.AdFf3RefIdeal.nD Cert.AdFf3RefIdeal.τ).loc Cert.AdFf3RefIdeal.main_arg0)
      ∧ r.2.mem ((c.tc : Thread Cert.AdFf3RefIdeal.nD Cert.AdFf3RefIdeal.τ).loc Cert.AdFf3RefIdeal.main_arg1) = m ((c.tc : Thread Cert.AdFf3RefIdeal.nD Cert.AdFf3RefIdeal.τ).loc Cert.AdFf3RefIdeal.main_arg1)
      ∧ r.2.mem ((c.tc : Thread Cert.AdFf3RefIdeal.nD Cert.AdFf3RefIdeal.τ).loc Cert.AdFf3RefIdeal.main_arg2) = m ((c.tc : Thread Cert.AdFf3RefIdeal.nD Cert.AdFf3RefIdeal.τ).loc Cert.AdFf3RefIdeal.main_arg2)
      ∧ r.2.mem ((c.tc : Thread Cert.AdFf3RefIdeal.nD Cert.AdFf3RefIdeal.τ).loc Cert.AdFf3RefIdeal.main_arg3) = m ((c.tc : Thread Cert.AdFf3RefIdeal.nD Cert.AdFf3RefIdeal.τ).loc Cert.AdFf3RefIdeal.main_arg3)
      ∧ r.2.mem ((c.tc : Thread Cert.AdFf3RefIdeal.nD Cert.AdFf3RefIdeal.τ).loc Cert.AdFf3RefIdeal.main_arg4) = m ((c.tc : Thread Cert.AdFf3RefIdeal.nD Cert.AdFf3RefIdeal.τ).loc Cert.AdFf3RefIdeal.main_arg4)
      ∧ r.2.mem ((c.tc : Thread Cert.AdFf3RefIdeal.nD Cert.AdFf3RefIdeal.τ).loc Cert.AdFf3RefIdeal.main_arg5) = m ((c.tc : Thread Cert.AdFf3RefIdeal.nD Cert.AdFf3RefIdeal.τ).loc Cert.AdFf3RefIdeal.main_arg5)
      ∧ r.2.mem ((c.tc : Thread Cert.AdFf3RefIdeal.nD Cert.AdFf3RefIdeal.τ).loc Cert.AdFf3RefIdeal.main_arg6) = m ((c.tc : Thread Cert.AdFf3RefIdeal.nD Cert.AdFf3RefIdeal.τ).loc Cert.AdFf3RefIdeal.main_arg6)
      ∧ r.2.mem ((c.tc : Thread Cert.AdFf3RefIdeal.nD Cert.AdFf3RefIdeal.τ).loc Cert.AdFf3RefIdeal.main_arg7) = m ((c.tc : Thread Cert.AdFf3RefIdeal.nD Cert.AdFf3RefIdeal.τ).loc Cert.AdFf3RefIdeal.main_arg7))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_RecvIn [hRecvIn : Cert.RecvIn.Facts] : Prop :=
  ∀ (m : (ℓ : Loc Cert.RecvIn.nD Cert.RecvIn.τ Cert.RecvIn.sig) → Buf (Elt Bits) ℓ) (g : Dev Cert.RecvIn.nD → PrngReg), Pre_RecvIn m →
    θ_run (Cert.RecvIn.defs (F := Bits)) (onTc (τ := Cert.RecvIn.τ) (Cert.RecvIn.main (F := Bits))) ⟨m, fun _ => 0, g⟩ (fun r => (∀ c : Dev Cert.RecvIn.nD,
      r.2.mem ((c.tc : Thread Cert.RecvIn.nD Cert.RecvIn.τ).loc Cert.RecvIn.main_arg0) = m ((c.tc : Thread Cert.RecvIn.nD Cert.RecvIn.τ).loc Cert.RecvIn.main_arg0)
      ∧ r.2.mem ((c.tc : Thread Cert.RecvIn.nD Cert.RecvIn.τ).loc Cert.RecvIn.main_arg1) = m ((c.tc : Thread Cert.RecvIn.nD Cert.RecvIn.τ).loc Cert.RecvIn.main_arg1))
      ∧ r.2.sem = fun _ => 0)

def quiescent_RecvInIdeal [hRecvInIdeal : Cert.RecvInIdeal.Facts] : Prop :=
  ∀ (m : (ℓ : Loc Cert.RecvInIdeal.nD Cert.RecvInIdeal.τ Cert.RecvInIdeal.sig) → Buf (Elt Ideal) ℓ) (g : Dev Cert.RecvInIdeal.nD → PrngReg), Pre_RecvInIdeal m →
    θ_run (Cert.RecvInIdeal.defs (F := Ideal)) (onTc (τ := Cert.RecvInIdeal.τ) (Cert.RecvInIdeal.main (F := Ideal))) ⟨m, fun _ => 0, g⟩ (fun r => (∀ c : Dev Cert.RecvInIdeal.nD,
      r.2.mem ((c.tc : Thread Cert.RecvInIdeal.nD Cert.RecvInIdeal.τ).loc Cert.RecvInIdeal.main_arg0) = m ((c.tc : Thread Cert.RecvInIdeal.nD Cert.RecvInIdeal.τ).loc Cert.RecvInIdeal.main_arg0)
      ∧ r.2.mem ((c.tc : Thread Cert.RecvInIdeal.nD Cert.RecvInIdeal.τ).loc Cert.RecvInIdeal.main_arg1) = m ((c.tc : Thread Cert.RecvInIdeal.nD Cert.RecvInIdeal.τ).loc Cert.RecvInIdeal.main_arg1))
      ∧ r.2.sem = fun _ => 0)

def quiescent_RecvInRefIdeal [hRecvInRefIdeal : Cert.RecvInRefIdeal.Facts] : Prop :=
  ∀ (m : (ℓ : Loc Cert.RecvInRefIdeal.nD Cert.RecvInRefIdeal.τ Cert.RecvInRefIdeal.sig) → Buf (Elt Ideal) ℓ) (g : Dev Cert.RecvInRefIdeal.nD → PrngReg), Pre_RecvInRefIdeal m →
    θ_run (Cert.RecvInRefIdeal.defs (F := Ideal)) (onTc (τ := Cert.RecvInRefIdeal.τ) (Cert.RecvInRefIdeal.main (F := Ideal))) ⟨m, fun _ => 0, g⟩ (fun r => (∀ c : Dev Cert.RecvInRefIdeal.nD,
      r.2.mem ((c.tc : Thread Cert.RecvInRefIdeal.nD Cert.RecvInRefIdeal.τ).loc Cert.RecvInRefIdeal.main_arg0) = m ((c.tc : Thread Cert.RecvInRefIdeal.nD Cert.RecvInRefIdeal.τ).loc Cert.RecvInRefIdeal.main_arg0)
      ∧ r.2.mem ((c.tc : Thread Cert.RecvInRefIdeal.nD Cert.RecvInRefIdeal.τ).loc Cert.RecvInRefIdeal.main_arg1) = m ((c.tc : Thread Cert.RecvInRefIdeal.nD Cert.RecvInRefIdeal.τ).loc Cert.RecvInRefIdeal.main_arg1))
      ∧ r.2.sem = fun _ => 0)

def quiescent_RecvCo [hRecvCo : Cert.RecvCo.Facts] : Prop :=
  ∀ (m : (ℓ : Loc Cert.RecvCo.nD Cert.RecvCo.τ Cert.RecvCo.sig) → Buf (Elt Bits) ℓ) (g : Dev Cert.RecvCo.nD → PrngReg), Pre_RecvCo m →
    θ_run (Cert.RecvCo.defs (F := Bits)) (onTc (τ := Cert.RecvCo.τ) (Cert.RecvCo.main (F := Bits))) ⟨m, fun _ => 0, g⟩ (fun r => (∀ c : Dev Cert.RecvCo.nD,
      r.2.mem ((c.tc : Thread Cert.RecvCo.nD Cert.RecvCo.τ).loc Cert.RecvCo.main_arg0) = m ((c.tc : Thread Cert.RecvCo.nD Cert.RecvCo.τ).loc Cert.RecvCo.main_arg0)
      ∧ r.2.mem ((c.tc : Thread Cert.RecvCo.nD Cert.RecvCo.τ).loc Cert.RecvCo.main_arg1) = m ((c.tc : Thread Cert.RecvCo.nD Cert.RecvCo.τ).loc Cert.RecvCo.main_arg1))
      ∧ r.2.sem = fun _ => 0)

def quiescent_RecvCoIdeal [hRecvCoIdeal : Cert.RecvCoIdeal.Facts] : Prop :=
  ∀ (m : (ℓ : Loc Cert.RecvCoIdeal.nD Cert.RecvCoIdeal.τ Cert.RecvCoIdeal.sig) → Buf (Elt Ideal) ℓ) (g : Dev Cert.RecvCoIdeal.nD → PrngReg), Pre_RecvCoIdeal m →
    θ_run (Cert.RecvCoIdeal.defs (F := Ideal)) (onTc (τ := Cert.RecvCoIdeal.τ) (Cert.RecvCoIdeal.main (F := Ideal))) ⟨m, fun _ => 0, g⟩ (fun r => (∀ c : Dev Cert.RecvCoIdeal.nD,
      r.2.mem ((c.tc : Thread Cert.RecvCoIdeal.nD Cert.RecvCoIdeal.τ).loc Cert.RecvCoIdeal.main_arg0) = m ((c.tc : Thread Cert.RecvCoIdeal.nD Cert.RecvCoIdeal.τ).loc Cert.RecvCoIdeal.main_arg0)
      ∧ r.2.mem ((c.tc : Thread Cert.RecvCoIdeal.nD Cert.RecvCoIdeal.τ).loc Cert.RecvCoIdeal.main_arg1) = m ((c.tc : Thread Cert.RecvCoIdeal.nD Cert.RecvCoIdeal.τ).loc Cert.RecvCoIdeal.main_arg1))
      ∧ r.2.sem = fun _ => 0)

def quiescent_RecvCoRefIdeal [hRecvCoRefIdeal : Cert.RecvCoRefIdeal.Facts] : Prop :=
  ∀ (m : (ℓ : Loc Cert.RecvCoRefIdeal.nD Cert.RecvCoRefIdeal.τ Cert.RecvCoRefIdeal.sig) → Buf (Elt Ideal) ℓ) (g : Dev Cert.RecvCoRefIdeal.nD → PrngReg), Pre_RecvCoRefIdeal m →
    θ_run (Cert.RecvCoRefIdeal.defs (F := Ideal)) (onTc (τ := Cert.RecvCoRefIdeal.τ) (Cert.RecvCoRefIdeal.main (F := Ideal))) ⟨m, fun _ => 0, g⟩ (fun r => (∀ c : Dev Cert.RecvCoRefIdeal.nD,
      r.2.mem ((c.tc : Thread Cert.RecvCoRefIdeal.nD Cert.RecvCoRefIdeal.τ).loc Cert.RecvCoRefIdeal.main_arg0) = m ((c.tc : Thread Cert.RecvCoRefIdeal.nD Cert.RecvCoRefIdeal.τ).loc Cert.RecvCoRefIdeal.main_arg0)
      ∧ r.2.mem ((c.tc : Thread Cert.RecvCoRefIdeal.nD Cert.RecvCoRefIdeal.τ).loc Cert.RecvCoRefIdeal.main_arg1) = m ((c.tc : Thread Cert.RecvCoRefIdeal.nD Cert.RecvCoRefIdeal.τ).loc Cert.RecvCoRefIdeal.main_arg1))
      ∧ r.2.sem = fun _ => 0)

def quiescent_RecvOut [hRecvOut : Cert.RecvOut.Facts] : Prop :=
  ∀ (m : (ℓ : Loc Cert.RecvOut.nD Cert.RecvOut.τ Cert.RecvOut.sig) → Buf (Elt Bits) ℓ) (g : Dev Cert.RecvOut.nD → PrngReg), Pre_RecvOut m →
    θ_run (Cert.RecvOut.defs (F := Bits)) (onTc (τ := Cert.RecvOut.τ) (Cert.RecvOut.main (F := Bits))) ⟨m, fun _ => 0, g⟩ (fun r => (∀ c : Dev Cert.RecvOut.nD,
      r.2.mem ((c.tc : Thread Cert.RecvOut.nD Cert.RecvOut.τ).loc Cert.RecvOut.main_arg0) = m ((c.tc : Thread Cert.RecvOut.nD Cert.RecvOut.τ).loc Cert.RecvOut.main_arg0)
      ∧ r.2.mem ((c.tc : Thread Cert.RecvOut.nD Cert.RecvOut.τ).loc Cert.RecvOut.main_arg1) = m ((c.tc : Thread Cert.RecvOut.nD Cert.RecvOut.τ).loc Cert.RecvOut.main_arg1))
      ∧ r.2.sem = fun _ => 0)

def quiescent_RecvOutIdeal [hRecvOutIdeal : Cert.RecvOutIdeal.Facts] : Prop :=
  ∀ (m : (ℓ : Loc Cert.RecvOutIdeal.nD Cert.RecvOutIdeal.τ Cert.RecvOutIdeal.sig) → Buf (Elt Ideal) ℓ) (g : Dev Cert.RecvOutIdeal.nD → PrngReg), Pre_RecvOutIdeal m →
    θ_run (Cert.RecvOutIdeal.defs (F := Ideal)) (onTc (τ := Cert.RecvOutIdeal.τ) (Cert.RecvOutIdeal.main (F := Ideal))) ⟨m, fun _ => 0, g⟩ (fun r => (∀ c : Dev Cert.RecvOutIdeal.nD,
      r.2.mem ((c.tc : Thread Cert.RecvOutIdeal.nD Cert.RecvOutIdeal.τ).loc Cert.RecvOutIdeal.main_arg0) = m ((c.tc : Thread Cert.RecvOutIdeal.nD Cert.RecvOutIdeal.τ).loc Cert.RecvOutIdeal.main_arg0)
      ∧ r.2.mem ((c.tc : Thread Cert.RecvOutIdeal.nD Cert.RecvOutIdeal.τ).loc Cert.RecvOutIdeal.main_arg1) = m ((c.tc : Thread Cert.RecvOutIdeal.nD Cert.RecvOutIdeal.τ).loc Cert.RecvOutIdeal.main_arg1))
      ∧ r.2.sem = fun _ => 0)

def quiescent_RecvOutRefIdeal [hRecvOutRefIdeal : Cert.RecvOutRefIdeal.Facts] : Prop :=
  ∀ (m : (ℓ : Loc Cert.RecvOutRefIdeal.nD Cert.RecvOutRefIdeal.τ Cert.RecvOutRefIdeal.sig) → Buf (Elt Ideal) ℓ) (g : Dev Cert.RecvOutRefIdeal.nD → PrngReg), Pre_RecvOutRefIdeal m →
    θ_run (Cert.RecvOutRefIdeal.defs (F := Ideal)) (onTc (τ := Cert.RecvOutRefIdeal.τ) (Cert.RecvOutRefIdeal.main (F := Ideal))) ⟨m, fun _ => 0, g⟩ (fun r => (∀ c : Dev Cert.RecvOutRefIdeal.nD,
      r.2.mem ((c.tc : Thread Cert.RecvOutRefIdeal.nD Cert.RecvOutRefIdeal.τ).loc Cert.RecvOutRefIdeal.main_arg0) = m ((c.tc : Thread Cert.RecvOutRefIdeal.nD Cert.RecvOutRefIdeal.τ).loc Cert.RecvOutRefIdeal.main_arg0)
      ∧ r.2.mem ((c.tc : Thread Cert.RecvOutRefIdeal.nD Cert.RecvOutRefIdeal.τ).loc Cert.RecvOutRefIdeal.main_arg1) = m ((c.tc : Thread Cert.RecvOutRefIdeal.nD Cert.RecvOutRefIdeal.τ).loc Cert.RecvOutRefIdeal.main_arg1))
      ∧ r.2.sem = fun _ => 0)

def quiescent_RecvFf [hRecvFf : Cert.RecvFf.Facts] : Prop :=
  ∀ (m : (ℓ : Loc Cert.RecvFf.nD Cert.RecvFf.τ Cert.RecvFf.sig) → Buf (Elt Bits) ℓ) (g : Dev Cert.RecvFf.nD → PrngReg), Pre_RecvFf m →
    θ_run (Cert.RecvFf.defs (F := Bits)) (onTc (τ := Cert.RecvFf.τ) (Cert.RecvFf.main (F := Bits))) ⟨m, fun _ => 0, g⟩ (fun r => (∀ c : Dev Cert.RecvFf.nD,
      r.2.mem ((c.tc : Thread Cert.RecvFf.nD Cert.RecvFf.τ).loc Cert.RecvFf.main_arg0) = m ((c.tc : Thread Cert.RecvFf.nD Cert.RecvFf.τ).loc Cert.RecvFf.main_arg0)
      ∧ r.2.mem ((c.tc : Thread Cert.RecvFf.nD Cert.RecvFf.τ).loc Cert.RecvFf.main_arg1) = m ((c.tc : Thread Cert.RecvFf.nD Cert.RecvFf.τ).loc Cert.RecvFf.main_arg1))
      ∧ r.2.sem = fun _ => 0)

def quiescent_RecvFfIdeal [hRecvFfIdeal : Cert.RecvFfIdeal.Facts] : Prop :=
  ∀ (m : (ℓ : Loc Cert.RecvFfIdeal.nD Cert.RecvFfIdeal.τ Cert.RecvFfIdeal.sig) → Buf (Elt Ideal) ℓ) (g : Dev Cert.RecvFfIdeal.nD → PrngReg), Pre_RecvFfIdeal m →
    θ_run (Cert.RecvFfIdeal.defs (F := Ideal)) (onTc (τ := Cert.RecvFfIdeal.τ) (Cert.RecvFfIdeal.main (F := Ideal))) ⟨m, fun _ => 0, g⟩ (fun r => (∀ c : Dev Cert.RecvFfIdeal.nD,
      r.2.mem ((c.tc : Thread Cert.RecvFfIdeal.nD Cert.RecvFfIdeal.τ).loc Cert.RecvFfIdeal.main_arg0) = m ((c.tc : Thread Cert.RecvFfIdeal.nD Cert.RecvFfIdeal.τ).loc Cert.RecvFfIdeal.main_arg0)
      ∧ r.2.mem ((c.tc : Thread Cert.RecvFfIdeal.nD Cert.RecvFfIdeal.τ).loc Cert.RecvFfIdeal.main_arg1) = m ((c.tc : Thread Cert.RecvFfIdeal.nD Cert.RecvFfIdeal.τ).loc Cert.RecvFfIdeal.main_arg1))
      ∧ r.2.sem = fun _ => 0)

def quiescent_RecvFfRefIdeal [hRecvFfRefIdeal : Cert.RecvFfRefIdeal.Facts] : Prop :=
  ∀ (m : (ℓ : Loc Cert.RecvFfRefIdeal.nD Cert.RecvFfRefIdeal.τ Cert.RecvFfRefIdeal.sig) → Buf (Elt Ideal) ℓ) (g : Dev Cert.RecvFfRefIdeal.nD → PrngReg), Pre_RecvFfRefIdeal m →
    θ_run (Cert.RecvFfRefIdeal.defs (F := Ideal)) (onTc (τ := Cert.RecvFfRefIdeal.τ) (Cert.RecvFfRefIdeal.main (F := Ideal))) ⟨m, fun _ => 0, g⟩ (fun r => (∀ c : Dev Cert.RecvFfRefIdeal.nD,
      r.2.mem ((c.tc : Thread Cert.RecvFfRefIdeal.nD Cert.RecvFfRefIdeal.τ).loc Cert.RecvFfRefIdeal.main_arg0) = m ((c.tc : Thread Cert.RecvFfRefIdeal.nD Cert.RecvFfRefIdeal.τ).loc Cert.RecvFfRefIdeal.main_arg0)
      ∧ r.2.mem ((c.tc : Thread Cert.RecvFfRefIdeal.nD Cert.RecvFfRefIdeal.τ).loc Cert.RecvFfRefIdeal.main_arg1) = m ((c.tc : Thread Cert.RecvFfRefIdeal.nD Cert.RecvFfRefIdeal.τ).loc Cert.RecvFfRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v460) = v0 c
          ∧ r.2.mem ((c.tc : Thread Cert.ReferenceIdeal.nD Cert.ReferenceIdeal.τ).loc Cert.ReferenceIdeal.main_v461) = v1 c
          ∧ r.2.mem ((c.tc : Thread Cert.ReferenceIdeal.nD Cert.ReferenceIdeal.τ).loc Cert.ReferenceIdeal.main_v452) = v2 c
          ∧ r.2.mem ((c.tc : Thread Cert.ReferenceIdeal.nD Cert.ReferenceIdeal.τ).loc Cert.ReferenceIdeal.main_v177) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dff_DffIdeal : Prop :=
  True

def algebraic_DffIdeal_DffRefIdeal [hDffIdeal : Cert.DffIdeal.Facts] [hDffRefIdeal : Cert.DffRefIdeal.Facts] : Prop :=
  ∀ (m : (ℓ : Loc Cert.DffIdeal.nD Cert.DffIdeal.τ Cert.DffIdeal.sig) → Buf (Elt Ideal) ℓ) (g : Dev Cert.DffIdeal.nD → PrngReg)
    (m' : (ℓ : Loc Cert.DffRefIdeal.nD Cert.DffRefIdeal.τ Cert.DffRefIdeal.sig) → Buf (Elt Ideal) ℓ) (g' : Dev Cert.DffRefIdeal.nD → PrngReg), Pre_DffIdeal m →
    (∀ c : Dev Cert.DffIdeal.nD,
      m' ((c.tc : Thread Cert.DffRefIdeal.nD Cert.DffRefIdeal.τ).loc Cert.DffRefIdeal.main_arg0) = m ((c.tc : Thread Cert.DffIdeal.nD Cert.DffIdeal.τ).loc Cert.DffIdeal.main_arg0)
      ∧ m' ((c.tc : Thread Cert.DffRefIdeal.nD Cert.DffRefIdeal.τ).loc Cert.DffRefIdeal.main_arg1) = m ((c.tc : Thread Cert.DffIdeal.nD Cert.DffIdeal.τ).loc Cert.DffIdeal.main_arg1)
      ∧ m' ((c.tc : Thread Cert.DffRefIdeal.nD Cert.DffRefIdeal.τ).loc Cert.DffRefIdeal.main_arg2) = m ((c.tc : Thread Cert.DffIdeal.nD Cert.DffIdeal.τ).loc Cert.DffIdeal.main_arg2)) →
    ∃ (v0 : (c : Dev Cert.DffIdeal.nD) → Buf (Elt Ideal) ((c.tc : Thread Cert.DffIdeal.nD Cert.DffIdeal.τ).loc Cert.DffIdeal.main_v2)),
      θ_run (Cert.DffIdeal.defs (F := Ideal)) (onTc (τ := Cert.DffIdeal.τ) (Cert.DffIdeal.main (F := Ideal))) ⟨m, fun _ => 0, g⟩ (fun r => ∀ c : Dev Cert.DffIdeal.nD,
          r.2.mem ((c.tc : Thread Cert.DffIdeal.nD Cert.DffIdeal.τ).loc Cert.DffIdeal.main_v2) = v0 c
          ∧ r.2.mem ((c.tc : Thread Cert.DffIdeal.nD Cert.DffIdeal.τ).loc Cert.DffIdeal.main_arg0) = m ((c.tc : Thread Cert.DffIdeal.nD Cert.DffIdeal.τ).loc Cert.DffIdeal.main_arg0)
          ∧ r.2.mem ((c.tc : Thread Cert.DffIdeal.nD Cert.DffIdeal.τ).loc Cert.DffIdeal.main_arg1) = m ((c.tc : Thread Cert.DffIdeal.nD Cert.DffIdeal.τ).loc Cert.DffIdeal.main_arg1)
          ∧ r.2.mem ((c.tc : Thread Cert.DffIdeal.nD Cert.DffIdeal.τ).loc Cert.DffIdeal.main_arg2) = m ((c.tc : Thread Cert.DffIdeal.nD Cert.DffIdeal.τ).loc Cert.DffIdeal.main_arg2))
      ∧ θ_run (Cert.DffRefIdeal.defs (F := Ideal)) (onTc (τ := Cert.DffRefIdeal.τ) (Cert.DffRefIdeal.main (F := Ideal))) ⟨m', fun _ => 0, g'⟩ (fun r => ∀ c : Dev Cert.DffRefIdeal.nD,
          r.2.mem ((c.tc : Thread Cert.DffRefIdeal.nD Cert.DffRefIdeal.τ).loc Cert.DffRefIdeal.main_v14) = v0 c
          ∧ r.2.mem ((c.tc : Thread Cert.DffRefIdeal.nD Cert.DffRefIdeal.τ).loc Cert.DffRefIdeal.main_arg0) = m' ((c.tc : Thread Cert.DffRefIdeal.nD Cert.DffRefIdeal.τ).loc Cert.DffRefIdeal.main_arg0)
          ∧ r.2.mem ((c.tc : Thread Cert.DffRefIdeal.nD Cert.DffRefIdeal.τ).loc Cert.DffRefIdeal.main_arg1) = m' ((c.tc : Thread Cert.DffRefIdeal.nD Cert.DffRefIdeal.τ).loc Cert.DffRefIdeal.main_arg1)
          ∧ r.2.mem ((c.tc : Thread Cert.DffRefIdeal.nD Cert.DffRefIdeal.τ).loc Cert.DffRefIdeal.main_arg2) = m' ((c.tc : Thread Cert.DffRefIdeal.nD Cert.DffRefIdeal.τ).loc Cert.DffRefIdeal.main_arg2))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v5) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v7) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1))

def preserves_DhMlp_DhMlpIdeal : Prop :=
  True

def algebraic_DhMlpIdeal_DhMlpRefIdeal [hDhMlpIdeal : Cert.DhMlpIdeal.Facts] [hDhMlpRefIdeal : Cert.DhMlpRefIdeal.Facts] : Prop :=
  ∀ (m : (ℓ : Loc Cert.DhMlpIdeal.nD Cert.DhMlpIdeal.τ Cert.DhMlpIdeal.sig) → Buf (Elt Ideal) ℓ) (g : Dev Cert.DhMlpIdeal.nD → PrngReg)
    (m' : (ℓ : Loc Cert.DhMlpRefIdeal.nD Cert.DhMlpRefIdeal.τ Cert.DhMlpRefIdeal.sig) → Buf (Elt Ideal) ℓ) (g' : Dev Cert.DhMlpRefIdeal.nD → PrngReg), Pre_DhMlpIdeal m →
    (∀ c : Dev Cert.DhMlpIdeal.nD,
      m' ((c.tc : Thread Cert.DhMlpRefIdeal.nD Cert.DhMlpRefIdeal.τ).loc Cert.DhMlpRefIdeal.main_arg0) = m ((c.tc : Thread Cert.DhMlpIdeal.nD Cert.DhMlpIdeal.τ).loc Cert.DhMlpIdeal.main_arg0)
      ∧ m' ((c.tc : Thread Cert.DhMlpRefIdeal.nD Cert.DhMlpRefIdeal.τ).loc Cert.DhMlpRefIdeal.main_arg1) = m ((c.tc : Thread Cert.DhMlpIdeal.nD Cert.DhMlpIdeal.τ).loc Cert.DhMlpIdeal.main_arg1)) →
    ∃ (v0 : (c : Dev Cert.DhMlpIdeal.nD) → Buf (Elt Ideal) ((c.tc : Thread Cert.DhMlpIdeal.nD Cert.DhMlpIdeal.τ).loc Cert.DhMlpIdeal.main_v0)),
      θ_run (Cert.DhMlpIdeal.defs (F := Ideal)) (onTc (τ := Cert.DhMlpIdeal.τ) (Cert.DhMlpIdeal.main (F := Ideal))) ⟨m, fun _ => 0, g⟩ (fun r => ∀ c : Dev Cert.DhMlpIdeal.nD,
          r.2.mem ((c.tc : Thread Cert.DhMlpIdeal.nD Cert.DhMlpIdeal.τ).loc Cert.DhMlpIdeal.main_v0) = v0 c
          ∧ r.2.mem ((c.tc : Thread Cert.DhMlpIdeal.nD Cert.DhMlpIdeal.τ).loc Cert.DhMlpIdeal.main_arg0) = m ((c.tc : Thread Cert.DhMlpIdeal.nD Cert.DhMlpIdeal.τ).loc Cert.DhMlpIdeal.main_arg0)
          ∧ r.2.mem ((c.tc : Thread Cert.DhMlpIdeal.nD Cert.DhMlpIdeal.τ).loc Cert.DhMlpIdeal.main_arg1) = m ((c.tc : Thread Cert.DhMlpIdeal.nD Cert.DhMlpIdeal.τ).loc Cert.DhMlpIdeal.main_arg1))
      ∧ θ_run (Cert.DhMlpRefIdeal.defs (F := Ideal)) (onTc (τ := Cert.DhMlpRefIdeal.τ) (Cert.DhMlpRefIdeal.main (F := Ideal))) ⟨m', fun _ => 0, g'⟩ (fun r => ∀ c : Dev Cert.DhMlpRefIdeal.nD,
          r.2.mem ((c.tc : Thread Cert.DhMlpRefIdeal.nD Cert.DhMlpRefIdeal.τ).loc Cert.DhMlpRefIdeal.main_v6) = v0 c
          ∧ r.2.mem ((c.tc : Thread Cert.DhMlpRefIdeal.nD Cert.DhMlpRefIdeal.τ).loc Cert.DhMlpRefIdeal.main_arg0) = m' ((c.tc : Thread Cert.DhMlpRefIdeal.nD Cert.DhMlpRefIdeal.τ).loc Cert.DhMlpRefIdeal.main_arg0)
          ∧ r.2.mem ((c.tc : Thread Cert.DhMlpRefIdeal.nD Cert.DhMlpRefIdeal.τ).loc Cert.DhMlpRefIdeal.main_arg1) = m' ((c.tc : Thread Cert.DhMlpRefIdeal.nD Cert.DhMlpRefIdeal.τ).loc Cert.DhMlpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DhMix_DhMixIdeal : Prop :=
  True

def algebraic_DhMixIdeal_DhMixRefIdeal [hDhMixIdeal : Cert.DhMixIdeal.Facts] [hDhMixRefIdeal : Cert.DhMixRefIdeal.Facts] : Prop :=
  ∀ (m : (ℓ : Loc Cert.DhMixIdeal.nD Cert.DhMixIdeal.τ Cert.DhMixIdeal.sig) → Buf (Elt Ideal) ℓ) (g : Dev Cert.DhMixIdeal.nD → PrngReg)
    (m' : (ℓ : Loc Cert.DhMixRefIdeal.nD Cert.DhMixRefIdeal.τ Cert.DhMixRefIdeal.sig) → Buf (Elt Ideal) ℓ) (g' : Dev Cert.DhMixRefIdeal.nD → PrngReg), Pre_DhMixIdeal m →
    (∀ c : Dev Cert.DhMixIdeal.nD,
      m' ((c.tc : Thread Cert.DhMixRefIdeal.nD Cert.DhMixRefIdeal.τ).loc Cert.DhMixRefIdeal.main_arg0) = m ((c.tc : Thread Cert.DhMixIdeal.nD Cert.DhMixIdeal.τ).loc Cert.DhMixIdeal.main_arg0)
      ∧ m' ((c.tc : Thread Cert.DhMixRefIdeal.nD Cert.DhMixRefIdeal.τ).loc Cert.DhMixRefIdeal.main_arg1) = m ((c.tc : Thread Cert.DhMixIdeal.nD Cert.DhMixIdeal.τ).loc Cert.DhMixIdeal.main_arg1)) →
    ∃ (v0 : (c : Dev Cert.DhMixIdeal.nD) → Buf (Elt Ideal) ((c.tc : Thread Cert.DhMixIdeal.nD Cert.DhMixIdeal.τ).loc Cert.DhMixIdeal.main_v0)),
      θ_run (Cert.DhMixIdeal.defs (F := Ideal)) (onTc (τ := Cert.DhMixIdeal.τ) (Cert.DhMixIdeal.main (F := Ideal))) ⟨m, fun _ => 0, g⟩ (fun r => ∀ c : Dev Cert.DhMixIdeal.nD,
          r.2.mem ((c.tc : Thread Cert.DhMixIdeal.nD Cert.DhMixIdeal.τ).loc Cert.DhMixIdeal.main_v0) = v0 c
          ∧ r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
          ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1))
      ∧ θ_run (Cert.DhMixRefIdeal.defs (F := Ideal)) (onTc (τ := Cert.DhMixRefIdeal.τ) (Cert.DhMixRefIdeal.main (F := Ideal))) ⟨m', fun _ => 0, g'⟩ (fun r => ∀ c : Dev Cert.DhMixRefIdeal.nD,
          r.2.mem ((c.tc : Thread Cert.DhMixRefIdeal.nD Cert.DhMixRefIdeal.τ).loc Cert.DhMixRefIdeal.main_v6) = v0 c
          ∧ r.2.mem ((c.tc : Thread Cert.DhMixRefIdeal.nD Cert.DhMixRefIdeal.τ).loc Cert.DhMixRefIdeal.main_arg0) = m' ((c.tc : Thread Cert.DhMixRefIdeal.nD Cert.DhMixRefIdeal.τ).loc Cert.DhMixRefIdeal.main_arg0)
          ∧ r.2.mem ((c.tc : Thread Cert.DhMixRefIdeal.nD Cert.DhMixRefIdeal.τ).loc Cert.DhMixRefIdeal.main_arg1) = m' ((c.tc : Thread Cert.DhMixRefIdeal.nD Cert.DhMixRefIdeal.τ).loc Cert.DhMixRefIdeal.main_arg1))

def preserves_MmU_MmUIdeal : Prop :=
  True

def algebraic_MmUIdeal_MmURefIdeal [hMmUIdeal : Cert.MmUIdeal.Facts] [hMmURefIdeal : Cert.MmURefIdeal.Facts] : Prop :=
  ∀ (m : (ℓ : Loc Cert.MmUIdeal.nD Cert.MmUIdeal.τ Cert.MmUIdeal.sig) → Buf (Elt Ideal) ℓ) (g : Dev Cert.MmUIdeal.nD → PrngReg)
    (m' : (ℓ : Loc Cert.MmURefIdeal.nD Cert.MmURefIdeal.τ Cert.MmURefIdeal.sig) → Buf (Elt Ideal) ℓ) (g' : Dev Cert.MmURefIdeal.nD → PrngReg), Pre_MmUIdeal m →
    (∀ c : Dev Cert.MmUIdeal.nD,
      m' ((c.tc : Thread Cert.MmURefIdeal.nD Cert.MmURefIdeal.τ).loc Cert.MmURefIdeal.main_arg0) = m ((c.tc : Thread Cert.MmUIdeal.nD Cert.MmUIdeal.τ).loc Cert.MmUIdeal.main_arg0)
      ∧ m' ((c.tc : Thread Cert.MmURefIdeal.nD Cert.MmURefIdeal.τ).loc Cert.MmURefIdeal.main_arg1) = m ((c.tc : Thread Cert.MmUIdeal.nD Cert.MmUIdeal.τ).loc Cert.MmUIdeal.main_arg1)) →
    ∃ (v0 : (c : Dev Cert.MmUIdeal.nD) → Buf (Elt Ideal) ((c.tc : Thread Cert.MmUIdeal.nD Cert.MmUIdeal.τ).loc Cert.MmUIdeal.main_v0)),
      θ_run (Cert.MmUIdeal.defs (F := Ideal)) (onTc (τ := Cert.MmUIdeal.τ) (Cert.MmUIdeal.main (F := Ideal))) ⟨m, fun _ => 0, g⟩ (fun r => ∀ c : Dev Cert.MmUIdeal.nD,
          r.2.mem ((c.tc : Thread Cert.MmUIdeal.nD Cert.MmUIdeal.τ).loc Cert.MmUIdeal.main_v0) = v0 c
          ∧ r.2.mem ((c.tc : Thread Cert.MmUIdeal.nD Cert.MmUIdeal.τ).loc Cert.MmUIdeal.main_arg0) = m ((c.tc : Thread Cert.MmUIdeal.nD Cert.MmUIdeal.τ).loc Cert.MmUIdeal.main_arg0)
          ∧ r.2.mem ((c.tc : Thread Cert.MmUIdeal.nD Cert.MmUIdeal.τ).loc Cert.MmUIdeal.main_arg1) = m ((c.tc : Thread Cert.MmUIdeal.nD Cert.MmUIdeal.τ).loc Cert.MmUIdeal.main_arg1))
      ∧ θ_run (Cert.MmURefIdeal.defs (F := Ideal)) (onTc (τ := Cert.MmURefIdeal.τ) (Cert.MmURefIdeal.main (F := Ideal))) ⟨m', fun _ => 0, g'⟩ (fun r => ∀ c : Dev Cert.MmURefIdeal.nD,
          r.2.mem ((c.tc : Thread Cert.MmURefIdeal.nD Cert.MmURefIdeal.τ).loc Cert.MmURefIdeal.main_v5) = v0 c
          ∧ r.2.mem ((c.tc : Thread Cert.MmURefIdeal.nD Cert.MmURefIdeal.τ).loc Cert.MmURefIdeal.main_arg0) = m' ((c.tc : Thread Cert.MmURefIdeal.nD Cert.MmURefIdeal.τ).loc Cert.MmURefIdeal.main_arg0)
          ∧ r.2.mem ((c.tc : Thread Cert.MmURefIdeal.nD Cert.MmURefIdeal.τ).loc Cert.MmURefIdeal.main_arg1) = m' ((c.tc : Thread Cert.MmURefIdeal.nD Cert.MmURefIdeal.τ).loc Cert.MmURefIdeal.main_arg1))

def preserves_MmF_MmFIdeal : Prop :=
  True

def algebraic_MmFIdeal_MmFRefIdeal [hMmFIdeal : Cert.MmFIdeal.Facts] [hMmFRefIdeal : Cert.MmFRefIdeal.Facts] : Prop :=
  ∀ (m : (ℓ : Loc Cert.MmFIdeal.nD Cert.MmFIdeal.τ Cert.MmFIdeal.sig) → Buf (Elt Ideal) ℓ) (g : Dev Cert.MmFIdeal.nD → PrngReg)
    (m' : (ℓ : Loc Cert.MmFRefIdeal.nD Cert.MmFRefIdeal.τ Cert.MmFRefIdeal.sig) → Buf (Elt Ideal) ℓ) (g' : Dev Cert.MmFRefIdeal.nD → PrngReg), Pre_MmFIdeal m →
    (∀ c : Dev Cert.MmFIdeal.nD,
      m' ((c.tc : Thread Cert.MmFRefIdeal.nD Cert.MmFRefIdeal.τ).loc Cert.MmFRefIdeal.main_arg0) = m ((c.tc : Thread Cert.MmFIdeal.nD Cert.MmFIdeal.τ).loc Cert.MmFIdeal.main_arg0)
      ∧ m' ((c.tc : Thread Cert.MmFRefIdeal.nD Cert.MmFRefIdeal.τ).loc Cert.MmFRefIdeal.main_arg1) = m ((c.tc : Thread Cert.MmFIdeal.nD Cert.MmFIdeal.τ).loc Cert.MmFIdeal.main_arg1)) →
    ∃ (v0 : (c : Dev Cert.MmFIdeal.nD) → Buf (Elt Ideal) ((c.tc : Thread Cert.MmFIdeal.nD Cert.MmFIdeal.τ).loc Cert.MmFIdeal.main_v0_0)) (v1 : (c : Dev Cert.MmFIdeal.nD) → Buf (Elt Ideal) ((c.tc : Thread Cert.MmFIdeal.nD Cert.MmFIdeal.τ).loc Cert.MmFIdeal.main_v0_1)),
      θ_run (Cert.MmFIdeal.defs (F := Ideal)) (onTc (τ := Cert.MmFIdeal.τ) (Cert.MmFIdeal.main (F := Ideal))) ⟨m, fun _ => 0, g⟩ (fun r => ∀ c : Dev Cert.MmFIdeal.nD,
          r.2.mem ((c.tc : Thread Cert.MmFIdeal.nD Cert.MmFIdeal.τ).loc Cert.MmFIdeal.main_v0_0) = v0 c
          ∧ r.2.mem ((c.tc : Thread Cert.MmFIdeal.nD Cert.MmFIdeal.τ).loc Cert.MmFIdeal.main_v0_1) = v1 c
          ∧ r.2.mem ((c.tc : Thread Cert.MmFIdeal.nD Cert.MmFIdeal.τ).loc Cert.MmFIdeal.main_arg0) = m ((c.tc : Thread Cert.MmFIdeal.nD Cert.MmFIdeal.τ).loc Cert.MmFIdeal.main_arg0)
          ∧ r.2.mem ((c.tc : Thread Cert.MmFIdeal.nD Cert.MmFIdeal.τ).loc Cert.MmFIdeal.main_arg1) = m ((c.tc : Thread Cert.MmFIdeal.nD Cert.MmFIdeal.τ).loc Cert.MmFIdeal.main_arg1))
      ∧ θ_run (Cert.MmFRefIdeal.defs (F := Ideal)) (onTc (τ := Cert.MmFRefIdeal.τ) (Cert.MmFRefIdeal.main (F := Ideal))) ⟨m', fun _ => 0, g'⟩ (fun r => ∀ c : Dev Cert.MmFRefIdeal.nD,
          r.2.mem ((c.tc : Thread Cert.MmFRefIdeal.nD Cert.MmFRefIdeal.τ).loc Cert.MmFRefIdeal.main_v6) = v0 c
          ∧ r.2.mem ((c.tc : Thread Cert.MmFRefIdeal.nD Cert.MmFRefIdeal.τ).loc Cert.MmFRefIdeal.main_v8) = v1 c
          ∧ r.2.mem ((c.tc : Thread Cert.MmFRefIdeal.nD Cert.MmFRefIdeal.τ).loc Cert.MmFRefIdeal.main_arg0) = m' ((c.tc : Thread Cert.MmFRefIdeal.nD Cert.MmFRefIdeal.τ).loc Cert.MmFRefIdeal.main_arg0)
          ∧ r.2.mem ((c.tc : Thread Cert.MmFRefIdeal.nD Cert.MmFRefIdeal.τ).loc Cert.MmFRefIdeal.main_arg1) = m' ((c.tc : Thread Cert.MmFRefIdeal.nD Cert.MmFRefIdeal.τ).loc Cert.MmFRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v4) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2))

def preserves_AdSmall_AdSmallIdeal : Prop :=
  True

def algebraic_AdSmallIdeal_AdSmallRefIdeal [hAdSmallIdeal : Cert.AdSmallIdeal.Facts] [hAdSmallRefIdeal : Cert.AdSmallRefIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallRefIdeal.nD Cert.AdSmallRefIdeal.τ Cert.AdSmallRefIdeal.sig) → Buf (Elt Ideal) ℓ) (g' : Dev Cert.AdSmallRefIdeal.nD → PrngReg), Pre_AdSmallIdeal m →
    (∀ c : Dev Cert.AdSmallIdeal.nD,
      m' ((c.tc : Thread Cert.AdSmallRefIdeal.nD Cert.AdSmallRefIdeal.τ).loc Cert.AdSmallRefIdeal.main_arg0) = m ((c.tc : Thread Cert.AdSmallIdeal.nD Cert.AdSmallIdeal.τ).loc Cert.AdSmallIdeal.main_arg0)
      ∧ m' ((c.tc : Thread Cert.AdSmallRefIdeal.nD Cert.AdSmallRefIdeal.τ).loc Cert.AdSmallRefIdeal.main_arg1) = m ((c.tc : Thread Cert.AdSmallIdeal.nD Cert.AdSmallIdeal.τ).loc Cert.AdSmallIdeal.main_arg1)
      ∧ m' ((c.tc : Thread Cert.AdSmallRefIdeal.nD Cert.AdSmallRefIdeal.τ).loc Cert.AdSmallRefIdeal.main_arg2) = m ((c.tc : Thread Cert.AdSmallIdeal.nD Cert.AdSmallIdeal.τ).loc Cert.AdSmallIdeal.main_arg2)
      ∧ m' ((c.tc : Thread Cert.AdSmallRefIdeal.nD Cert.AdSmallRefIdeal.τ).loc Cert.AdSmallRefIdeal.main_arg3) = m ((c.tc : Thread Cert.AdSmallIdeal.nD Cert.AdSmallIdeal.τ).loc Cert.AdSmallIdeal.main_arg3)
      ∧ m' ((c.tc : Thread Cert.AdSmallRefIdeal.nD Cert.AdSmallRefIdeal.τ).loc Cert.AdSmallRefIdeal.main_arg4) = m ((c.tc : Thread Cert.AdSmallIdeal.nD Cert.AdSmallIdeal.τ).loc Cert.AdSmallIdeal.main_arg4)
      ∧ m' ((c.tc : Thread Cert.AdSmallRefIdeal.nD Cert.AdSmallRefIdeal.τ).loc Cert.AdSmallRefIdeal.main_arg5) = m ((c.tc : Thread Cert.AdSmallIdeal.nD Cert.AdSmallIdeal.τ).loc Cert.AdSmallIdeal.main_arg5)
      ∧ m' ((c.tc : Thread Cert.AdSmallRefIdeal.nD Cert.AdSmallRefIdeal.τ).loc Cert.AdSmallRefIdeal.main_arg6) = m ((c.tc : Thread Cert.AdSmallIdeal.nD Cert.AdSmallIdeal.τ).loc Cert.AdSmallIdeal.main_arg6)
      ∧ m' ((c.tc : Thread Cert.AdSmallRefIdeal.nD Cert.AdSmallRefIdeal.τ).loc Cert.AdSmallRefIdeal.main_arg7) = m ((c.tc : Thread Cert.AdSmallIdeal.nD Cert.AdSmallIdeal.τ).loc Cert.AdSmallIdeal.main_arg7)
      ∧ m' ((c.tc : Thread Cert.AdSmallRefIdeal.nD Cert.AdSmallRefIdeal.τ).loc Cert.AdSmallRefIdeal.main_arg8) = m ((c.tc : Thread Cert.AdSmallIdeal.nD Cert.AdSmallIdeal.τ).loc Cert.AdSmallIdeal.main_arg8)
      ∧ m' ((c.tc : Thread Cert.AdSmallRefIdeal.nD Cert.AdSmallRefIdeal.τ).loc Cert.AdSmallRefIdeal.main_arg9) = m ((c.tc : Thread Cert.AdSmallIdeal.nD Cert.AdSmallIdeal.τ).loc Cert.AdSmallIdeal.main_arg9)
      ∧ m' ((c.tc : Thread Cert.AdSmallRefIdeal.nD Cert.AdSmallRefIdeal.τ).loc Cert.AdSmallRefIdeal.main_arg10) = m ((c.tc : Thread Cert.AdSmallIdeal.nD Cert.AdSmallIdeal.τ).loc Cert.AdSmallIdeal.main_arg10)
      ∧ m' ((c.tc : Thread Cert.AdSmallRefIdeal.nD Cert.AdSmallRefIdeal.τ).loc Cert.AdSmallRefIdeal.main_arg11) = m ((c.tc : Thread Cert.AdSmallIdeal.nD Cert.AdSmallIdeal.τ).loc Cert.AdSmallIdeal.main_arg11)
      ∧ m' ((c.tc : Thread Cert.AdSmallRefIdeal.nD Cert.AdSmallRefIdeal.τ).loc Cert.AdSmallRefIdeal.main_arg12) = m ((c.tc : Thread Cert.AdSmallIdeal.nD Cert.AdSmallIdeal.τ).loc Cert.AdSmallIdeal.main_arg12)
      ∧ m' ((c.tc : Thread Cert.AdSmallRefIdeal.nD Cert.AdSmallRefIdeal.τ).loc Cert.AdSmallRefIdeal.main_arg13) = m ((c.tc : Thread Cert.AdSmallIdeal.nD Cert.AdSmallIdeal.τ).loc Cert.AdSmallIdeal.main_arg13)
      ∧ m' ((c.tc : Thread Cert.AdSmallRefIdeal.nD Cert.AdSmallRefIdeal.τ).loc Cert.AdSmallRefIdeal.main_arg14) = m ((c.tc : Thread Cert.AdSmallIdeal.nD Cert.AdSmallIdeal.τ).loc Cert.AdSmallIdeal.main_arg14)
      ∧ m' ((c.tc : Thread Cert.AdSmallRefIdeal.nD Cert.AdSmallRefIdeal.τ).loc Cert.AdSmallRefIdeal.main_arg15) = m ((c.tc : Thread Cert.AdSmallIdeal.nD Cert.AdSmallIdeal.τ).loc Cert.AdSmallIdeal.main_arg15)
      ∧ m' ((c.tc : Thread Cert.AdSmallRefIdeal.nD Cert.AdSmallRefIdeal.τ).loc Cert.AdSmallRefIdeal.main_arg16) = m ((c.tc : Thread Cert.AdSmallIdeal.nD Cert.AdSmallIdeal.τ).loc Cert.AdSmallIdeal.main_arg16)
      ∧ m' ((c.tc : Thread Cert.AdSmallRefIdeal.nD Cert.AdSmallRefIdeal.τ).loc Cert.AdSmallRefIdeal.main_arg17) = m ((c.tc : Thread Cert.AdSmallIdeal.nD Cert.AdSmallIdeal.τ).loc Cert.AdSmallIdeal.main_arg17)
      ∧ m' ((c.tc : Thread Cert.AdSmallRefIdeal.nD Cert.AdSmallRefIdeal.τ).loc Cert.AdSmallRefIdeal.main_arg18) = m ((c.tc : Thread Cert.AdSmallIdeal.nD Cert.AdSmallIdeal.τ).loc Cert.AdSmallIdeal.main_arg18)
      ∧ m' ((c.tc : Thread Cert.AdSmallRefIdeal.nD Cert.AdSmallRefIdeal.τ).loc Cert.AdSmallRefIdeal.main_arg19) = m ((c.tc : Thread Cert.AdSmallIdeal.nD Cert.AdSmallIdeal.τ).loc Cert.AdSmallIdeal.main_arg19)
      ∧ m' ((c.tc : Thread Cert.AdSmallRefIdeal.nD Cert.AdSmallRefIdeal.τ).loc Cert.AdSmallRefIdeal.main_arg20) = m ((c.tc : Thread Cert.AdSmallIdeal.nD Cert.AdSmallIdeal.τ).loc Cert.AdSmallIdeal.main_arg20)
      ∧ m' ((c.tc : Thread Cert.AdSmallRefIdeal.nD Cert.AdSmallRefIdeal.τ).loc Cert.AdSmallRefIdeal.main_arg21) = m ((c.tc : Thread Cert.AdSmallIdeal.nD Cert.AdSmallIdeal.τ).loc Cert.AdSmallIdeal.main_arg21)
      ∧ m' ((c.tc : Thread Cert.AdSmallRefIdeal.nD Cert.AdSmallRefIdeal.τ).loc Cert.AdSmallRefIdeal.main_arg22) = m ((c.tc : Thread Cert.AdSmallIdeal.nD Cert.AdSmallIdeal.τ).loc Cert.AdSmallIdeal.main_arg22)
      ∧ m' ((c.tc : Thread Cert.AdSmallRefIdeal.nD Cert.AdSmallRefIdeal.τ).loc Cert.AdSmallRefIdeal.main_arg23) = m ((c.tc : Thread Cert.AdSmallIdeal.nD Cert.AdSmallIdeal.τ).loc Cert.AdSmallIdeal.main_arg23)
      ∧ m' ((c.tc : Thread Cert.AdSmallRefIdeal.nD Cert.AdSmallRefIdeal.τ).loc Cert.AdSmallRefIdeal.main_arg24) = m ((c.tc : Thread Cert.AdSmallIdeal.nD Cert.AdSmallIdeal.τ).loc Cert.AdSmallIdeal.main_arg24)
      ∧ m' ((c.tc : Thread Cert.AdSmallRefIdeal.nD Cert.AdSmallRefIdeal.τ).loc Cert.AdSmallRefIdeal.main_arg25) = m ((c.tc : Thread Cert.AdSmallIdeal.nD Cert.AdSmallIdeal.τ).loc Cert.AdSmallIdeal.main_arg25)
      ∧ m' ((c.tc : Thread Cert.AdSmallRefIdeal.nD Cert.AdSmallRefIdeal.τ).loc Cert.AdSmallRefIdeal.main_arg26) = m ((c.tc : Thread Cert.AdSmallIdeal.nD Cert.AdSmallIdeal.τ).loc Cert.AdSmallIdeal.main_arg26)
      ∧ m' ((c.tc : Thread Cert.AdSmallRefIdeal.nD Cert.AdSmallRefIdeal.τ).loc Cert.AdSmallRefIdeal.main_arg27) = m ((c.tc : Thread Cert.AdSmallIdeal.nD Cert.AdSmallIdeal.τ).loc Cert.AdSmallIdeal.main_arg27)
      ∧ m' ((c.tc : Thread Cert.AdSmallRefIdeal.nD Cert.AdSmallRefIdeal.τ).loc Cert.AdSmallRefIdeal.main_arg28) = m ((c.tc : Thread Cert.AdSmallIdeal.nD Cert.AdSmallIdeal.τ).loc Cert.AdSmallIdeal.main_arg28)
      ∧ m' ((c.tc : Thread Cert.AdSmallRefIdeal.nD Cert.AdSmallRefIdeal.τ).loc Cert.AdSmallRefIdeal.main_arg29) = m ((c.tc : Thread Cert.AdSmallIdeal.nD Cert.AdSmallIdeal.τ).loc Cert.AdSmallIdeal.main_arg29)
      ∧ m' ((c.tc : Thread Cert.AdSmallRefIdeal.nD Cert.AdSmallRefIdeal.τ).loc Cert.AdSmallRefIdeal.main_arg30) = m ((c.tc : Thread Cert.AdSmallIdeal.nD Cert.AdSmallIdeal.τ).loc Cert.AdSmallIdeal.main_arg30)
      ∧ m' ((c.tc : Thread Cert.AdSmallRefIdeal.nD Cert.AdSmallRefIdeal.τ).loc Cert.AdSmallRefIdeal.main_arg31) = m ((c.tc : Thread Cert.AdSmallIdeal.nD Cert.AdSmallIdeal.τ).loc Cert.AdSmallIdeal.main_arg31)
      ∧ m' ((c.tc : Thread Cert.AdSmallRefIdeal.nD Cert.AdSmallRefIdeal.τ).loc Cert.AdSmallRefIdeal.main_arg32) = m ((c.tc : Thread Cert.AdSmallIdeal.nD Cert.AdSmallIdeal.τ).loc Cert.AdSmallIdeal.main_arg32)
      ∧ m' ((c.tc : Thread Cert.AdSmallRefIdeal.nD Cert.AdSmallRefIdeal.τ).loc Cert.AdSmallRefIdeal.main_arg33) = m ((c.tc : Thread Cert.AdSmallIdeal.nD Cert.AdSmallIdeal.τ).loc Cert.AdSmallIdeal.main_arg33)
      ∧ m' ((c.tc : Thread Cert.AdSmallRefIdeal.nD Cert.AdSmallRefIdeal.τ).loc Cert.AdSmallRefIdeal.main_arg34) = m ((c.tc : Thread Cert.AdSmallIdeal.nD Cert.AdSmallIdeal.τ).loc Cert.AdSmallIdeal.main_arg34)
      ∧ m' ((c.tc : Thread Cert.AdSmallRefIdeal.nD Cert.AdSmallRefIdeal.τ).loc Cert.AdSmallRefIdeal.main_arg35) = m ((c.tc : Thread Cert.AdSmallIdeal.nD Cert.AdSmallIdeal.τ).loc Cert.AdSmallIdeal.main_arg35)) →
    ∃ (v0 : (c : Dev Cert.AdSmallIdeal.nD) → Buf (Elt Ideal) ((c.tc : Thread Cert.AdSmallIdeal.nD Cert.AdSmallIdeal.τ).loc Cert.AdSmallIdeal.main_v51)) (v1 : (c : Dev Cert.AdSmallIdeal.nD) → Buf (Elt Ideal) ((c.tc : Thread Cert.AdSmallIdeal.nD Cert.AdSmallIdeal.τ).loc Cert.AdSmallIdeal.main_v53)) (v2 : (c : Dev Cert.AdSmallIdeal.nD) → Buf (Elt Ideal) ((c.tc : Thread Cert.AdSmallIdeal.nD Cert.AdSmallIdeal.τ).loc Cert.AdSmallIdeal.main_v55)) (v3 : (c : Dev Cert.AdSmallIdeal.nD) → Buf (Elt Ideal) ((c.tc : Thread Cert.AdSmallIdeal.nD Cert.AdSmallIdeal.τ).loc Cert.AdSmallIdeal.main_v57)) (v4 : (c : Dev Cert.AdSmallIdeal.nD) → Buf (Elt Ideal) ((c.tc : Thread Cert.AdSmallIdeal.nD Cert.AdSmallIdeal.τ).loc Cert.AdSmallIdeal.main_v59)) (v5 : (c : Dev Cert.AdSmallIdeal.nD) → Buf (Elt Ideal) ((c.tc : Thread Cert.AdSmallIdeal.nD Cert.AdSmallIdeal.τ).loc Cert.AdSmallIdeal.main_v61)) (v6 : (c : Dev Cert.AdSmallIdeal.nD) → Buf (Elt Ideal) ((c.tc : Thread Cert.AdSmallIdeal.nD Cert.AdSmallIdeal.τ).loc Cert.AdSmallIdeal.main_v63)) (v7 : (c : Dev Cert.AdSmallIdeal.nD) → Buf (Elt Ideal) ((c.tc : Thread Cert.AdSmallIdeal.nD Cert.AdSmallIdeal.τ).loc Cert.AdSmallIdeal.main_v65)) (v8 : (c : Dev Cert.AdSmallIdeal.nD) → Buf (Elt Ideal) ((c.tc : Thread Cert.AdSmallIdeal.nD Cert.AdSmallIdeal.τ).loc Cert.AdSmallIdeal.main_v67)) (v9 : (c : Dev Cert.AdSmallIdeal.nD) → Buf (Elt Ideal) ((c.tc : Thread Cert.AdSmallIdeal.nD Cert.AdSmallIdeal.τ).loc Cert.AdSmallIdeal.main_v70)) (v10 : (c : Dev Cert.AdSmallIdeal.nD) → Buf (Elt Ideal) ((c.tc : Thread Cert.AdSmallIdeal.nD Cert.AdSmallIdeal.τ).loc Cert.AdSmallIdeal.main_v72)) (v11 : (c : Dev Cert.AdSmallIdeal.nD) → Buf (Elt Ideal) ((c.tc : Thread Cert.AdSmallIdeal.nD Cert.AdSmallIdeal.τ).loc Cert.AdSmallIdeal.main_v74)) (v12 : (c : Dev Cert.AdSmallIdeal.nD) → Buf (Elt Ideal) ((c.tc : Thread Cert.AdSmallIdeal.nD Cert.AdSmallIdeal.τ).loc Cert.AdSmallIdeal.main_v76)) (v13 : (c : Dev Cert.AdSmallIdeal.nD) → Buf (Elt Ideal) ((c.tc : Thread Cert.AdSmallIdeal.nD Cert.AdSmallIdeal.τ).loc Cert.AdSmallIdeal.main_v78)) (v14 : (c : Dev Cert.AdSmallIdeal.nD) → Buf (Elt Ideal) ((c.tc : Thread Cert.AdSmallIdeal.nD Cert.AdSmallIdeal.τ).loc Cert.AdSmallIdeal.main_v80)) (v15 : (c : Dev Cert.AdSmallIdeal.nD) → Buf (Elt Ideal) ((c.tc : Thread Cert.AdSmallIdeal.nD Cert.AdSmallIdeal.τ).loc Cert.AdSmallIdeal.main_v82)) (v16 : (c : Dev Cert.AdSmallIdeal.nD) → Buf (Elt Ideal) ((c.tc : Thread Cert.AdSmallIdeal.nD Cert.AdSmallIdeal.τ).loc Cert.AdSmallIdeal.main_v84)) (v17 : (c : Dev Cert.AdSmallIdeal.nD) → Buf (Elt Ideal) ((c.tc : Thread Cert.AdSmallIdeal.nD Cert.AdSmallIdeal.τ).loc Cert.AdSmallIdeal.main_v86)) (v18 : (c : Dev Cert.AdSmallIdeal.nD) → Buf (Elt Ideal) ((c.tc : Thread Cert.AdSmallIdeal.nD Cert.AdSmallIdeal.τ).loc Cert.AdSmallIdeal.main_v89)) (v19 : (c : Dev Cert.AdSmallIdeal.nD) → Buf (Elt Ideal) ((c.tc : Thread Cert.AdSmallIdeal.nD Cert.AdSmallIdeal.τ).loc Cert.AdSmallIdeal.main_v91)) (v20 : (c : Dev Cert.AdSmallIdeal.nD) → Buf (Elt Ideal) ((c.tc : Thread Cert.AdSmallIdeal.nD Cert.AdSmallIdeal.τ).loc Cert.AdSmallIdeal.main_v93)) (v21 : (c : Dev Cert.AdSmallIdeal.nD) → Buf (Elt Ideal) ((c.tc : Thread Cert.AdSmallIdeal.nD Cert.AdSmallIdeal.τ).loc Cert.AdSmallIdeal.main_v95)) (v22 : (c : Dev Cert.AdSmallIdeal.nD) → Buf (Elt Ideal) ((c.tc : Thread Cert.AdSmallIdeal.nD Cert.AdSmallIdeal.τ).loc Cert.AdSmallIdeal.main_v97)) (v23 : (c : Dev Cert.AdSmallIdeal.nD) → Buf (Elt Ideal) ((c.tc : Thread Cert.AdSmallIdeal.nD Cert.AdSmallIdeal.τ).loc Cert.AdSmallIdeal.main_v99)) (v24 : (c : Dev Cert.AdSmallIdeal.nD) → Buf (Elt Ideal) ((c.tc : Thread Cert.AdSmallIdeal.nD Cert.AdSmallIdeal.τ).loc Cert.AdSmallIdeal.main_v101)) (v25 : (c : Dev Cert.AdSmallIdeal.nD) → Buf (Elt Ideal) ((c.tc : Thread Cert.AdSmallIdeal.nD Cert.AdSmallIdeal.τ).loc Cert.AdSmallIdeal.main_v103)) (v26 : (c : Dev Cert.AdSmallIdeal.nD) → Buf (Elt Ideal) ((c.tc : Thread Cert.AdSmallIdeal.nD Cert.AdSmallIdeal.τ).loc Cert.AdSmallIdeal.main_v105)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v51) = v0 c
          ∧ r.2.mem ((c.tc : Thread Cert.AdSmallIdeal.nD Cert.AdSmallIdeal.τ).loc Cert.AdSmallIdeal.main_v53) = v1 c
          ∧ r.2.mem ((c.tc : Thread Cert.AdSmallIdeal.nD Cert.AdSmallIdeal.τ).loc Cert.AdSmallIdeal.main_v55) = v2 c
          ∧ r.2.mem ((c.tc : Thread Cert.AdSmallIdeal.nD Cert.AdSmallIdeal.τ).loc Cert.AdSmallIdeal.main_v57) = v3 c
          ∧ r.2.mem ((c.tc : Thread Cert.AdSmallIdeal.nD Cert.AdSmallIdeal.τ).loc Cert.AdSmallIdeal.main_v59) = v4 c
          ∧ r.2.mem ((c.tc : Thread Cert.AdSmallIdeal.nD Cert.AdSmallIdeal.τ).loc Cert.AdSmallIdeal.main_v61) = v5 c
          ∧ r.2.mem ((c.tc : Thread Cert.AdSmallIdeal.nD Cert.AdSmallIdeal.τ).loc Cert.AdSmallIdeal.main_v63) = v6 c
          ∧ r.2.mem ((c.tc : Thread Cert.AdSmallIdeal.nD Cert.AdSmallIdeal.τ).loc Cert.AdSmallIdeal.main_v65) = v7 c
          ∧ r.2.mem ((c.tc : Thread Cert.AdSmallIdeal.nD Cert.AdSmallIdeal.τ).loc Cert.AdSmallIdeal.main_v67) = v8 c
          ∧ r.2.mem ((c.tc : Thread Cert.AdSmallIdeal.nD Cert.AdSmallIdeal.τ).loc Cert.AdSmallIdeal.main_v70) = v9 c
          ∧ r.2.mem ((c.tc : Thread Cert.AdSmallIdeal.nD Cert.AdSmallIdeal.τ).loc Cert.AdSmallIdeal.main_v72) = v10 c
          ∧ r.2.mem ((c.tc : Thread Cert.AdSmallIdeal.nD Cert.AdSmallIdeal.τ).loc Cert.AdSmallIdeal.main_v74) = v11 c
          ∧ r.2.mem ((c.tc : Thread Cert.AdSmallIdeal.nD Cert.AdSmallIdeal.τ).loc Cert.AdSmallIdeal.main_v76) = v12 c
          ∧ r.2.mem ((c.tc : Thread Cert.AdSmallIdeal.nD Cert.AdSmallIdeal.τ).loc Cert.AdSmallIdeal.main_v78) = v13 c
          ∧ r.2.mem ((c.tc : Thread Cert.AdSmallIdeal.nD Cert.AdSmallIdeal.τ).loc Cert.AdSmallIdeal.main_v80) = v14 c
          ∧ r.2.mem ((c.tc : Thread Cert.AdSmallIdeal.nD Cert.AdSmallIdeal.τ).loc Cert.AdSmallIdeal.main_v82) = v15 c
          ∧ r.2.mem ((c.tc : Thread Cert.AdSmallIdeal.nD Cert.AdSmallIdeal.τ).loc Cert.AdSmallIdeal.main_v84) = v16 c
          ∧ r.2.mem ((c.tc : Thread Cert.AdSmallIdeal.nD Cert.AdSmallIdeal.τ).loc Cert.AdSmallIdeal.main_v86) = v17 c
          ∧ r.2.mem ((c.tc : Thread Cert.AdSmallIdeal.nD Cert.AdSmallIdeal.τ).loc Cert.AdSmallIdeal.main_v89) = v18 c
          ∧ r.2.mem ((c.tc : Thread Cert.AdSmallIdeal.nD Cert.AdSmallIdeal.τ).loc Cert.AdSmallIdeal.main_v91) = v19 c
          ∧ r.2.mem ((c.tc : Thread Cert.AdSmallIdeal.nD Cert.AdSmallIdeal.τ).loc Cert.AdSmallIdeal.main_v93) = v20 c
          ∧ r.2.mem ((c.tc : Thread Cert.AdSmallIdeal.nD Cert.AdSmallIdeal.τ).loc Cert.AdSmallIdeal.main_v95) = v21 c
          ∧ r.2.mem ((c.tc : Thread Cert.AdSmallIdeal.nD Cert.AdSmallIdeal.τ).loc Cert.AdSmallIdeal.main_v97) = v22 c
          ∧ r.2.mem ((c.tc : Thread Cert.AdSmallIdeal.nD Cert.AdSmallIdeal.τ).loc Cert.AdSmallIdeal.main_v99) = v23 c
          ∧ r.2.mem ((c.tc : Thread Cert.AdSmallIdeal.nD Cert.AdSmallIdeal.τ).loc Cert.AdSmallIdeal.main_v101) = v24 c
          ∧ r.2.mem ((c.tc : Thread Cert.AdSmallIdeal.nD Cert.AdSmallIdeal.τ).loc Cert.AdSmallIdeal.main_v103) = v25 c
          ∧ r.2.mem ((c.tc : Thread Cert.AdSmallIdeal.nD Cert.AdSmallIdeal.τ).loc Cert.AdSmallIdeal.main_v105) = v26 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3)
          ∧ r.2.mem ((c.tc : Thread Cert.AdSmallIdeal.nD Cert.AdSmallIdeal.τ).loc Cert.AdSmallIdeal.main_arg4) = m ((c.tc : Thread Cert.AdSmallIdeal.nD Cert.AdSmallIdeal.τ).loc Cert.AdSmallIdeal.main_arg4)
          ∧ r.2.mem ((c.tc : Thread Cert.AdSmallIdeal.nD Cert.AdSmallIdeal.τ).loc Cert.AdSmallIdeal.main_arg5) = m ((c.tc : Thread Cert.AdSmallIdeal.nD Cert.AdSmallIdeal.τ).loc Cert.AdSmallIdeal.main_arg5)
          ∧ r.2.mem ((c.tc : Thread Cert.AdSmallIdeal.nD Cert.AdSmallIdeal.τ).loc Cert.AdSmallIdeal.main_arg6) = m ((c.tc : Thread Cert.AdSmallIdeal.nD Cert.AdSmallIdeal.τ).loc Cert.AdSmallIdeal.main_arg6)
          ∧ r.2.mem ((c.tc : Thread Cert.AdSmallIdeal.nD Cert.AdSmallIdeal.τ).loc Cert.AdSmallIdeal.main_arg7) = m ((c.tc : Thread Cert.AdSmallIdeal.nD Cert.AdSmallIdeal.τ).loc Cert.AdSmallIdeal.main_arg7)
          ∧ r.2.mem ((c.tc : Thread Cert.AdSmallIdeal.nD Cert.AdSmallIdeal.τ).loc Cert.AdSmallIdeal.main_arg8) = m ((c.tc : Thread Cert.AdSmallIdeal.nD Cert.AdSmallIdeal.τ).loc Cert.AdSmallIdeal.main_arg8)
          ∧ r.2.mem ((c.tc : Thread Cert.AdSmallIdeal.nD Cert.AdSmallIdeal.τ).loc Cert.AdSmallIdeal.main_arg9) = m ((c.tc : Thread Cert.AdSmallIdeal.nD Cert.AdSmallIdeal.τ).loc Cert.AdSmallIdeal.main_arg9)
          ∧ r.2.mem ((c.tc : Thread Cert.AdSmallIdeal.nD Cert.AdSmallIdeal.τ).loc Cert.AdSmallIdeal.main_arg10) = m ((c.tc : Thread Cert.AdSmallIdeal.nD Cert.AdSmallIdeal.τ).loc Cert.AdSmallIdeal.main_arg10)
          ∧ r.2.mem ((c.tc : Thread Cert.AdSmallIdeal.nD Cert.AdSmallIdeal.τ).loc Cert.AdSmallIdeal.main_arg11) = m ((c.tc : Thread Cert.AdSmallIdeal.nD Cert.AdSmallIdeal.τ).loc Cert.AdSmallIdeal.main_arg11)
          ∧ r.2.mem ((c.tc : Thread Cert.AdSmallIdeal.nD Cert.AdSmallIdeal.τ).loc Cert.AdSmallIdeal.main_arg12) = m ((c.tc : Thread Cert.AdSmallIdeal.nD Cert.AdSmallIdeal.τ).loc Cert.AdSmallIdeal.main_arg12)
          ∧ r.2.mem ((c.tc : Thread Cert.AdSmallIdeal.nD Cert.AdSmallIdeal.τ).loc Cert.AdSmallIdeal.main_arg13) = m ((c.tc : Thread Cert.AdSmallIdeal.nD Cert.AdSmallIdeal.τ).loc Cert.AdSmallIdeal.main_arg13)
          ∧ r.2.mem ((c.tc : Thread Cert.AdSmallIdeal.nD Cert.AdSmallIdeal.τ).loc Cert.AdSmallIdeal.main_arg14) = m ((c.tc : Thread Cert.AdSmallIdeal.nD Cert.AdSmallIdeal.τ).loc Cert.AdSmallIdeal.main_arg14)
          ∧ r.2.mem ((c.tc : Thread Cert.AdSmallIdeal.nD Cert.AdSmallIdeal.τ).loc Cert.AdSmallIdeal.main_arg15) = m ((c.tc : Thread Cert.AdSmallIdeal.nD Cert.AdSmallIdeal.τ).loc Cert.AdSmallIdeal.main_arg15)
          ∧ r.2.mem ((c.tc : Thread Cert.AdSmallIdeal.nD Cert.AdSmallIdeal.τ).loc Cert.AdSmallIdeal.main_arg16) = m ((c.tc : Thread Cert.AdSmallIdeal.nD Cert.AdSmallIdeal.τ).loc Cert.AdSmallIdeal.main_arg16)
          ∧ r.2.mem ((c.tc : Thread Cert.AdSmallIdeal.nD Cert.AdSmallIdeal.τ).loc Cert.AdSmallIdeal.main_arg17) = m ((c.tc : Thread Cert.AdSmallIdeal.nD Cert.AdSmallIdeal.τ).loc Cert.AdSmallIdeal.main_arg17)
          ∧ r.2.mem ((c.tc : Thread Cert.AdSmallIdeal.nD Cert.AdSmallIdeal.τ).loc Cert.AdSmallIdeal.main_arg18) = m ((c.tc : Thread Cert.AdSmallIdeal.nD Cert.AdSmallIdeal.τ).loc Cert.AdSmallIdeal.main_arg18)
          ∧ r.2.mem ((c.tc : Thread Cert.AdSmallIdeal.nD Cert.AdSmallIdeal.τ).loc Cert.AdSmallIdeal.main_arg19) = m ((c.tc : Thread Cert.AdSmallIdeal.nD Cert.AdSmallIdeal.τ).loc Cert.AdSmallIdeal.main_arg19)
          ∧ r.2.mem ((c.tc : Thread Cert.AdSmallIdeal.nD Cert.AdSmallIdeal.τ).loc Cert.AdSmallIdeal.main_arg20) = m ((c.tc : Thread Cert.AdSmallIdeal.nD Cert.AdSmallIdeal.τ).loc Cert.AdSmallIdeal.main_arg20)
          ∧ r.2.mem ((c.tc : Thread Cert.AdSmallIdeal.nD Cert.AdSmallIdeal.τ).loc Cert.AdSmallIdeal.main_arg21) = m ((c.tc : Thread Cert.AdSmallIdeal.nD Cert.AdSmallIdeal.τ).loc Cert.AdSmallIdeal.main_arg21)
          ∧ r.2.mem ((c.tc : Thread Cert.AdSmallIdeal.nD Cert.AdSmallIdeal.τ).loc Cert.AdSmallIdeal.main_arg22) = m ((c.tc : Thread Cert.AdSmallIdeal.nD Cert.AdSmallIdeal.τ).loc Cert.AdSmallIdeal.main_arg22)
          ∧ r.2.mem ((c.tc : Thread Cert.AdSmallIdeal.nD Cert.AdSmallIdeal.τ).loc Cert.AdSmallIdeal.main_arg23) = m ((c.tc : Thread Cert.AdSmallIdeal.nD Cert.AdSmallIdeal.τ).loc Cert.AdSmallIdeal.main_arg23)
          ∧ r.2.mem ((c.tc : Thread Cert.AdSmallIdeal.nD Cert.AdSmallIdeal.τ).loc Cert.AdSmallIdeal.main_arg24) = m ((c.tc : Thread Cert.AdSmallIdeal.nD Cert.AdSmallIdeal.τ).loc Cert.AdSmallIdeal.main_arg24)
          ∧ r.2.mem ((c.tc : Thread Cert.AdSmallIdeal.nD Cert.AdSmallIdeal.τ).loc Cert.AdSmallIdeal.main_arg25) = m ((c.tc : Thread Cert.AdSmallIdeal.nD Cert.AdSmallIdeal.τ).loc Cert.AdSmallIdeal.main_arg25)
          ∧ r.2.mem ((c.tc : Thread Cert.AdSmallIdeal.nD Cert.AdSmallIdeal.τ).loc Cert.AdSmallIdeal.main_arg26) = m ((c.tc : Thread Cert.AdSmallIdeal.nD Cert.AdSmallIdeal.τ).loc Cert.AdSmallIdeal.main_arg26)
          ∧ r.2.mem ((c.tc : Thread Cert.AdSmallIdeal.nD Cert.AdSmallIdeal.τ).loc Cert.AdSmallIdeal.main_arg27) = m ((c.tc : Thread Cert.AdSmallIdeal.nD Cert.AdSmallIdeal.τ).loc Cert.AdSmallIdeal.main_arg27)
          ∧ r.2.mem ((c.tc : Thread Cert.AdSmallIdeal.nD Cert.AdSmallIdeal.τ).loc Cert.AdSmallIdeal.main_arg28) = m ((c.tc : Thread Cert.AdSmallIdeal.nD Cert.AdSmallIdeal.τ).loc Cert.AdSmallIdeal.main_arg28)
          ∧ r.2.mem ((c.tc : Thread Cert.AdSmallIdeal.nD Cert.AdSmallIdeal.τ).loc Cert.AdSmallIdeal.main_arg29) = m ((c.tc : Thread Cert.AdSmallIdeal.nD Cert.AdSmallIdeal.τ).loc Cert.AdSmallIdeal.main_arg29)
          ∧ r.2.mem ((c.tc : Thread Cert.AdSmallIdeal.nD Cert.AdSmallIdeal.τ).loc Cert.AdSmallIdeal.main_arg30) = m ((c.tc : Thread Cert.AdSmallIdeal.nD Cert.AdSmallIdeal.τ).loc Cert.AdSmallIdeal.main_arg30)
          ∧ r.2.mem ((c.tc : Thread Cert.AdSmallIdeal.nD Cert.AdSmallIdeal.τ).loc Cert.AdSmallIdeal.main_arg31) = m ((c.tc : Thread Cert.AdSmallIdeal.nD Cert.AdSmallIdeal.τ).loc Cert.AdSmallIdeal.main_arg31)
          ∧ r.2.mem ((c.tc : Thread Cert.AdSmallIdeal.nD Cert.AdSmallIdeal.τ).loc Cert.AdSmallIdeal.main_arg32) = m ((c.tc : Thread Cert.AdSmallIdeal.nD Cert.AdSmallIdeal.τ).loc Cert.AdSmallIdeal.main_arg32)
          ∧ r.2.mem ((c.tc : Thread Cert.AdSmallIdeal.nD Cert.AdSmallIdeal.τ).loc Cert.AdSmallIdeal.main_arg33) = m ((c.tc : Thread Cert.AdSmallIdeal.nD Cert.AdSmallIdeal.τ).loc Cert.AdSmallIdeal.main_arg33)
          ∧ r.2.mem ((c.tc : Thread Cert.AdSmallIdeal.nD Cert.AdSmallIdeal.τ).loc Cert.AdSmallIdeal.main_arg34) = m ((c.tc : Thread Cert.AdSmallIdeal.nD Cert.AdSmallIdeal.τ).loc Cert.AdSmallIdeal.main_arg34)
          ∧ r.2.mem ((c.tc : Thread Cert.AdSmallIdeal.nD Cert.AdSmallIdeal.τ).loc Cert.AdSmallIdeal.main_arg35) = m ((c.tc : Thread Cert.AdSmallIdeal.nD Cert.AdSmallIdeal.τ).loc Cert.AdSmallIdeal.main_arg35))
      ∧ θ_run (Cert.AdSmallRefIdeal.defs (F := Ideal)) (onTc (τ := Cert.AdSmallRefIdeal.τ) (Cert.AdSmallRefIdeal.main (F := Ideal))) ⟨m', fun _ => 0, g'⟩ (fun r => ∀ c : Dev Cert.AdSmallRefIdeal.nD,
          r.2.mem ((c.tc : Thread Cert.AdSmallRefIdeal.nD Cert.AdSmallRefIdeal.τ).loc Cert.AdSmallRefIdeal.main_v23) = v0 c
          ∧ r.2.mem ((c.tc : Thread Cert.AdSmallRefIdeal.nD Cert.AdSmallRefIdeal.τ).loc Cert.AdSmallRefIdeal.main_v47) = v1 c
          ∧ r.2.mem ((c.tc : Thread Cert.AdSmallRefIdeal.nD Cert.AdSmallRefIdeal.τ).loc Cert.AdSmallRefIdeal.main_v71) = v2 c
          ∧ r.2.mem ((c.tc : Thread Cert.AdSmallRefIdeal.nD Cert.AdSmallRefIdeal.τ).loc Cert.AdSmallRefIdeal.main_v95) = v3 c
          ∧ r.2.mem ((c.tc : Thread Cert.AdSmallRefIdeal.nD Cert.AdSmallRefIdeal.τ).loc Cert.AdSmallRefIdeal.main_v119) = v4 c
          ∧ r.2.mem ((c.tc : Thread Cert.AdSmallRefIdeal.nD Cert.AdSmallRefIdeal.τ).loc Cert.AdSmallRefIdeal.main_v143) = v5 c
          ∧ r.2.mem ((c.tc : Thread Cert.AdSmallRefIdeal.nD Cert.AdSmallRefIdeal.τ).loc Cert.AdSmallRefIdeal.main_v167) = v6 c
          ∧ r.2.mem ((c.tc : Thread Cert.AdSmallRefIdeal.nD Cert.AdSmallRefIdeal.τ).loc Cert.AdSmallRefIdeal.main_v191) = v7 c
          ∧ r.2.mem ((c.tc : Thread Cert.AdSmallRefIdeal.nD Cert.AdSmallRefIdeal.τ).loc Cert.AdSmallRefIdeal.main_v215) = v8 c
          ∧ r.2.mem ((c.tc : Thread Cert.AdSmallRefIdeal.nD Cert.AdSmallRefIdeal.τ).loc Cert.AdSmallRefIdeal.main_v4) = v9 c
          ∧ r.2.mem ((c.tc : Thread Cert.AdSmallRefIdeal.nD Cert.AdSmallRefIdeal.τ).loc Cert.AdSmallRefIdeal.main_v28) = v10 c
          ∧ r.2.mem ((c.tc : Thread Cert.AdSmallRefIdeal.nD Cert.AdSmallRefIdeal.τ).loc Cert.AdSmallRefIdeal.main_v52) = v11 c
          ∧ r.2.mem ((c.tc : Thread Cert.AdSmallRefIdeal.nD Cert.AdSmallRefIdeal.τ).loc Cert.AdSmallRefIdeal.main_v76) = v12 c
          ∧ r.2.mem ((c.tc : Thread Cert.AdSmallRefIdeal.nD Cert.AdSmallRefIdeal.τ).loc Cert.AdSmallRefIdeal.main_v100) = v13 c
          ∧ r.2.mem ((c.tc : Thread Cert.AdSmallRefIdeal.nD Cert.AdSmallRefIdeal.τ).loc Cert.AdSmallRefIdeal.main_v124) = v14 c
          ∧ r.2.mem ((c.tc : Thread Cert.AdSmallRefIdeal.nD Cert.AdSmallRefIdeal.τ).loc Cert.AdSmallRefIdeal.main_v148) = v15 c
          ∧ r.2.mem ((c.tc : Thread Cert.AdSmallRefIdeal.nD Cert.AdSmallRefIdeal.τ).loc Cert.AdSmallRefIdeal.main_v172) = v16 c
          ∧ r.2.mem ((c.tc : Thread Cert.AdSmallRefIdeal.nD Cert.AdSmallRefIdeal.τ).loc Cert.AdSmallRefIdeal.main_v196) = v17 c
          ∧ r.2.mem ((c.tc : Thread Cert.AdSmallRefIdeal.nD Cert.AdSmallRefIdeal.τ).loc Cert.AdSmallRefIdeal.main_v10) = v18 c
          ∧ r.2.mem ((c.tc : Thread Cert.AdSmallRefIdeal.nD Cert.AdSmallRefIdeal.τ).loc Cert.AdSmallRefIdeal.main_v34) = v19 c
          ∧ r.2.mem ((c.tc : Thread Cert.AdSmallRefIdeal.nD Cert.AdSmallRefIdeal.τ).loc Cert.AdSmallRefIdeal.main_v58) = v20 c
          ∧ r.2.mem ((c.tc : Thread Cert.AdSmallRefIdeal.nD Cert.AdSmallRefIdeal.τ).loc Cert.AdSmallRefIdeal.main_v82) = v21 c
          ∧ r.2.mem ((c.tc : Thread Cert.AdSmallRefIdeal.nD Cert.AdSmallRefIdeal.τ).loc Cert.AdSmallRefIdeal.main_v106) = v22 c
          ∧ r.2.mem ((c.tc : Thread Cert.AdSmallRefIdeal.nD Cert.AdSmallRefIdeal.τ).loc Cert.AdSmallRefIdeal.main_v130) = v23 c
          ∧ r.2.mem ((c.tc : Thread Cert.AdSmallRefIdeal.nD Cert.AdSmallRefIdeal.τ).loc Cert.AdSmallRefIdeal.main_v154) = v24 c
          ∧ r.2.mem ((c.tc : Thread Cert.AdSmallRefIdeal.nD Cert.AdSmallRefIdeal.τ).loc Cert.AdSmallRefIdeal.main_v178) = v25 c
          ∧ r.2.mem ((c.tc : Thread Cert.AdSmallRefIdeal.nD Cert.AdSmallRefIdeal.τ).loc Cert.AdSmallRefIdeal.main_v202) = v26 c
          ∧ r.2.mem ((c.tc : Thread Cert.AdSmallRefIdeal.nD Cert.AdSmallRefIdeal.τ).loc Cert.AdSmallRefIdeal.main_arg0) = m' ((c.tc : Thread Cert.AdSmallRefIdeal.nD Cert.AdSmallRefIdeal.τ).loc Cert.AdSmallRefIdeal.main_arg0)
          ∧ r.2.mem ((c.tc : Thread Cert.AdSmallRefIdeal.nD Cert.AdSmallRefIdeal.τ).loc Cert.AdSmallRefIdeal.main_arg1) = m' ((c.tc : Thread Cert.AdSmallRefIdeal.nD Cert.AdSmallRefIdeal.τ).loc Cert.AdSmallRefIdeal.main_arg1)
          ∧ r.2.mem ((c.tc : Thread Cert.AdSmallRefIdeal.nD Cert.AdSmallRefIdeal.τ).loc Cert.AdSmallRefIdeal.main_arg2) = m' ((c.tc : Thread Cert.AdSmallRefIdeal.nD Cert.AdSmallRefIdeal.τ).loc Cert.AdSmallRefIdeal.main_arg2)
          ∧ r.2.mem ((c.tc : Thread Cert.AdSmallRefIdeal.nD Cert.AdSmallRefIdeal.τ).loc Cert.AdSmallRefIdeal.main_arg3) = m' ((c.tc : Thread Cert.AdSmallRefIdeal.nD Cert.AdSmallRefIdeal.τ).loc Cert.AdSmallRefIdeal.main_arg3)
          ∧ r.2.mem ((c.tc : Thread Cert.AdSmallRefIdeal.nD Cert.AdSmallRefIdeal.τ).loc Cert.AdSmallRefIdeal.main_arg4) = m' ((c.tc : Thread Cert.AdSmallRefIdeal.nD Cert.AdSmallRefIdeal.τ).loc Cert.AdSmallRefIdeal.main_arg4)
          ∧ r.2.mem ((c.tc : Thread Cert.AdSmallRefIdeal.nD Cert.AdSmallRefIdeal.τ).loc Cert.AdSmallRefIdeal.main_arg5) = m' ((c.tc : Thread Cert.AdSmallRefIdeal.nD Cert.AdSmallRefIdeal.τ).loc Cert.AdSmallRefIdeal.main_arg5)
          ∧ r.2.mem ((c.tc : Thread Cert.AdSmallRefIdeal.nD Cert.AdSmallRefIdeal.τ).loc Cert.AdSmallRefIdeal.main_arg6) = m' ((c.tc : Thread Cert.AdSmallRefIdeal.nD Cert.AdSmallRefIdeal.τ).loc Cert.AdSmallRefIdeal.main_arg6)
          ∧ r.2.mem ((c.tc : Thread Cert.AdSmallRefIdeal.nD Cert.AdSmallRefIdeal.τ).loc Cert.AdSmallRefIdeal.main_arg7) = m' ((c.tc : Thread Cert.AdSmallRefIdeal.nD Cert.AdSmallRefIdeal.τ).loc Cert.AdSmallRefIdeal.main_arg7)
          ∧ r.2.mem ((c.tc : Thread Cert.AdSmallRefIdeal.nD Cert.AdSmallRefIdeal.τ).loc Cert.AdSmallRefIdeal.main_arg8) = m' ((c.tc : Thread Cert.AdSmallRefIdeal.nD Cert.AdSmallRefIdeal.τ).loc Cert.AdSmallRefIdeal.main_arg8)
          ∧ r.2.mem ((c.tc : Thread Cert.AdSmallRefIdeal.nD Cert.AdSmallRefIdeal.τ).loc Cert.AdSmallRefIdeal.main_arg9) = m' ((c.tc : Thread Cert.AdSmallRefIdeal.nD Cert.AdSmallRefIdeal.τ).loc Cert.AdSmallRefIdeal.main_arg9)
          ∧ r.2.mem ((c.tc : Thread Cert.AdSmallRefIdeal.nD Cert.AdSmallRefIdeal.τ).loc Cert.AdSmallRefIdeal.main_arg10) = m' ((c.tc : Thread Cert.AdSmallRefIdeal.nD Cert.AdSmallRefIdeal.τ).loc Cert.AdSmallRefIdeal.main_arg10)
          ∧ r.2.mem ((c.tc : Thread Cert.AdSmallRefIdeal.nD Cert.AdSmallRefIdeal.τ).loc Cert.AdSmallRefIdeal.main_arg11) = m' ((c.tc : Thread Cert.AdSmallRefIdeal.nD Cert.AdSmallRefIdeal.τ).loc Cert.AdSmallRefIdeal.main_arg11)
          ∧ r.2.mem ((c.tc : Thread Cert.AdSmallRefIdeal.nD Cert.AdSmallRefIdeal.τ).loc Cert.AdSmallRefIdeal.main_arg12) = m' ((c.tc : Thread Cert.AdSmallRefIdeal.nD Cert.AdSmallRefIdeal.τ).loc Cert.AdSmallRefIdeal.main_arg12)
          ∧ r.2.mem ((c.tc : Thread Cert.AdSmallRefIdeal.nD Cert.AdSmallRefIdeal.τ).loc Cert.AdSmallRefIdeal.main_arg13) = m' ((c.tc : Thread Cert.AdSmallRefIdeal.nD Cert.AdSmallRefIdeal.τ).loc Cert.AdSmallRefIdeal.main_arg13)
          ∧ r.2.mem ((c.tc : Thread Cert.AdSmallRefIdeal.nD Cert.AdSmallRefIdeal.τ).loc Cert.AdSmallRefIdeal.main_arg14) = m' ((c.tc : Thread Cert.AdSmallRefIdeal.nD Cert.AdSmallRefIdeal.τ).loc Cert.AdSmallRefIdeal.main_arg14)
          ∧ r.2.mem ((c.tc : Thread Cert.AdSmallRefIdeal.nD Cert.AdSmallRefIdeal.τ).loc Cert.AdSmallRefIdeal.main_arg15) = m' ((c.tc : Thread Cert.AdSmallRefIdeal.nD Cert.AdSmallRefIdeal.τ).loc Cert.AdSmallRefIdeal.main_arg15)
          ∧ r.2.mem ((c.tc : Thread Cert.AdSmallRefIdeal.nD Cert.AdSmallRefIdeal.τ).loc Cert.AdSmallRefIdeal.main_arg16) = m' ((c.tc : Thread Cert.AdSmallRefIdeal.nD Cert.AdSmallRefIdeal.τ).loc Cert.AdSmallRefIdeal.main_arg16)
          ∧ r.2.mem ((c.tc : Thread Cert.AdSmallRefIdeal.nD Cert.AdSmallRefIdeal.τ).loc Cert.AdSmallRefIdeal.main_arg17) = m' ((c.tc : Thread Cert.AdSmallRefIdeal.nD Cert.AdSmallRefIdeal.τ).loc Cert.AdSmallRefIdeal.main_arg17)
          ∧ r.2.mem ((c.tc : Thread Cert.AdSmallRefIdeal.nD Cert.AdSmallRefIdeal.τ).loc Cert.AdSmallRefIdeal.main_arg18) = m' ((c.tc : Thread Cert.AdSmallRefIdeal.nD Cert.AdSmallRefIdeal.τ).loc Cert.AdSmallRefIdeal.main_arg18)
          ∧ r.2.mem ((c.tc : Thread Cert.AdSmallRefIdeal.nD Cert.AdSmallRefIdeal.τ).loc Cert.AdSmallRefIdeal.main_arg19) = m' ((c.tc : Thread Cert.AdSmallRefIdeal.nD Cert.AdSmallRefIdeal.τ).loc Cert.AdSmallRefIdeal.main_arg19)
          ∧ r.2.mem ((c.tc : Thread Cert.AdSmallRefIdeal.nD Cert.AdSmallRefIdeal.τ).loc Cert.AdSmallRefIdeal.main_arg20) = m' ((c.tc : Thread Cert.AdSmallRefIdeal.nD Cert.AdSmallRefIdeal.τ).loc Cert.AdSmallRefIdeal.main_arg20)
          ∧ r.2.mem ((c.tc : Thread Cert.AdSmallRefIdeal.nD Cert.AdSmallRefIdeal.τ).loc Cert.AdSmallRefIdeal.main_arg21) = m' ((c.tc : Thread Cert.AdSmallRefIdeal.nD Cert.AdSmallRefIdeal.τ).loc Cert.AdSmallRefIdeal.main_arg21)
          ∧ r.2.mem ((c.tc : Thread Cert.AdSmallRefIdeal.nD Cert.AdSmallRefIdeal.τ).loc Cert.AdSmallRefIdeal.main_arg22) = m' ((c.tc : Thread Cert.AdSmallRefIdeal.nD Cert.AdSmallRefIdeal.τ).loc Cert.AdSmallRefIdeal.main_arg22)
          ∧ r.2.mem ((c.tc : Thread Cert.AdSmallRefIdeal.nD Cert.AdSmallRefIdeal.τ).loc Cert.AdSmallRefIdeal.main_arg23) = m' ((c.tc : Thread Cert.AdSmallRefIdeal.nD Cert.AdSmallRefIdeal.τ).loc Cert.AdSmallRefIdeal.main_arg23)
          ∧ r.2.mem ((c.tc : Thread Cert.AdSmallRefIdeal.nD Cert.AdSmallRefIdeal.τ).loc Cert.AdSmallRefIdeal.main_arg24) = m' ((c.tc : Thread Cert.AdSmallRefIdeal.nD Cert.AdSmallRefIdeal.τ).loc Cert.AdSmallRefIdeal.main_arg24)
          ∧ r.2.mem ((c.tc : Thread Cert.AdSmallRefIdeal.nD Cert.AdSmallRefIdeal.τ).loc Cert.AdSmallRefIdeal.main_arg25) = m' ((c.tc : Thread Cert.AdSmallRefIdeal.nD Cert.AdSmallRefIdeal.τ).loc Cert.AdSmallRefIdeal.main_arg25)
          ∧ r.2.mem ((c.tc : Thread Cert.AdSmallRefIdeal.nD Cert.AdSmallRefIdeal.τ).loc Cert.AdSmallRefIdeal.main_arg26) = m' ((c.tc : Thread Cert.AdSmallRefIdeal.nD Cert.AdSmallRefIdeal.τ).loc Cert.AdSmallRefIdeal.main_arg26)
          ∧ r.2.mem ((c.tc : Thread Cert.AdSmallRefIdeal.nD Cert.AdSmallRefIdeal.τ).loc Cert.AdSmallRefIdeal.main_arg27) = m' ((c.tc : Thread Cert.AdSmallRefIdeal.nD Cert.AdSmallRefIdeal.τ).loc Cert.AdSmallRefIdeal.main_arg27)
          ∧ r.2.mem ((c.tc : Thread Cert.AdSmallRefIdeal.nD Cert.AdSmallRefIdeal.τ).loc Cert.AdSmallRefIdeal.main_arg28) = m' ((c.tc : Thread Cert.AdSmallRefIdeal.nD Cert.AdSmallRefIdeal.τ).loc Cert.AdSmallRefIdeal.main_arg28)
          ∧ r.2.mem ((c.tc : Thread Cert.AdSmallRefIdeal.nD Cert.AdSmallRefIdeal.τ).loc Cert.AdSmallRefIdeal.main_arg29) = m' ((c.tc : Thread Cert.AdSmallRefIdeal.nD Cert.AdSmallRefIdeal.τ).loc Cert.AdSmallRefIdeal.main_arg29)
          ∧ r.2.mem ((c.tc : Thread Cert.AdSmallRefIdeal.nD Cert.AdSmallRefIdeal.τ).loc Cert.AdSmallRefIdeal.main_arg30) = m' ((c.tc : Thread Cert.AdSmallRefIdeal.nD Cert.AdSmallRefIdeal.τ).loc Cert.AdSmallRefIdeal.main_arg30)
          ∧ r.2.mem ((c.tc : Thread Cert.AdSmallRefIdeal.nD Cert.AdSmallRefIdeal.τ).loc Cert.AdSmallRefIdeal.main_arg31) = m' ((c.tc : Thread Cert.AdSmallRefIdeal.nD Cert.AdSmallRefIdeal.τ).loc Cert.AdSmallRefIdeal.main_arg31)
          ∧ r.2.mem ((c.tc : Thread Cert.AdSmallRefIdeal.nD Cert.AdSmallRefIdeal.τ).loc Cert.AdSmallRefIdeal.main_arg32) = m' ((c.tc : Thread Cert.AdSmallRefIdeal.nD Cert.AdSmallRefIdeal.τ).loc Cert.AdSmallRefIdeal.main_arg32)
          ∧ r.2.mem ((c.tc : Thread Cert.AdSmallRefIdeal.nD Cert.AdSmallRefIdeal.τ).loc Cert.AdSmallRefIdeal.main_arg33) = m' ((c.tc : Thread Cert.AdSmallRefIdeal.nD Cert.AdSmallRefIdeal.τ).loc Cert.AdSmallRefIdeal.main_arg33)
          ∧ r.2.mem ((c.tc : Thread Cert.AdSmallRefIdeal.nD Cert.AdSmallRefIdeal.τ).loc Cert.AdSmallRefIdeal.main_arg34) = m' ((c.tc : Thread Cert.AdSmallRefIdeal.nD Cert.AdSmallRefIdeal.τ).loc Cert.AdSmallRefIdeal.main_arg34)
          ∧ r.2.mem ((c.tc : Thread Cert.AdSmallRefIdeal.nD Cert.AdSmallRefIdeal.τ).loc Cert.AdSmallRefIdeal.main_arg35) = m' ((c.tc : Thread Cert.AdSmallRefIdeal.nD Cert.AdSmallRefIdeal.τ).loc Cert.AdSmallRefIdeal.main_arg35))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)
      ∧ m' ((c.tc : Thread Cert.SumDevRefIdeal.nD Cert.SumDevRefIdeal.τ).loc Cert.SumDevRefIdeal.main_arg1) = m ((c.tc : Thread Cert.SumDevIdeal.nD Cert.SumDevIdeal.τ).loc Cert.SumDevIdeal.main_arg1)
      ∧ m' ((c.tc : Thread Cert.SumDevRefIdeal.nD Cert.SumDevRefIdeal.τ).loc Cert.SumDevRefIdeal.main_arg2) = m ((c.tc : Thread Cert.SumDevIdeal.nD Cert.SumDevIdeal.τ).loc Cert.SumDevIdeal.main_arg2)
      ∧ m' ((c.tc : Thread Cert.SumDevRefIdeal.nD Cert.SumDevRefIdeal.τ).loc Cert.SumDevRefIdeal.main_arg3) = m ((c.tc : Thread Cert.SumDevIdeal.nD Cert.SumDevIdeal.τ).loc Cert.SumDevIdeal.main_arg3)
      ∧ m' ((c.tc : Thread Cert.SumDevRefIdeal.nD Cert.SumDevRefIdeal.τ).loc Cert.SumDevRefIdeal.main_arg4) = m ((c.tc : Thread Cert.SumDevIdeal.nD Cert.SumDevIdeal.τ).loc Cert.SumDevIdeal.main_arg4)
      ∧ m' ((c.tc : Thread Cert.SumDevRefIdeal.nD Cert.SumDevRefIdeal.τ).loc Cert.SumDevRefIdeal.main_arg5) = m ((c.tc : Thread Cert.SumDevIdeal.nD Cert.SumDevIdeal.τ).loc Cert.SumDevIdeal.main_arg5)
      ∧ m' ((c.tc : Thread Cert.SumDevRefIdeal.nD Cert.SumDevRefIdeal.τ).loc Cert.SumDevRefIdeal.main_arg6) = m ((c.tc : Thread Cert.SumDevIdeal.nD Cert.SumDevIdeal.τ).loc Cert.SumDevIdeal.main_arg6)
      ∧ m' ((c.tc : Thread Cert.SumDevRefIdeal.nD Cert.SumDevRefIdeal.τ).loc Cert.SumDevRefIdeal.main_arg7) = m ((c.tc : Thread Cert.SumDevIdeal.nD Cert.SumDevIdeal.τ).loc Cert.SumDevIdeal.main_arg7)
      ∧ m' ((c.tc : Thread Cert.SumDevRefIdeal.nD Cert.SumDevRefIdeal.τ).loc Cert.SumDevRefIdeal.main_arg8) = m ((c.tc : Thread Cert.SumDevIdeal.nD Cert.SumDevIdeal.τ).loc Cert.SumDevIdeal.main_arg8)) →
    ∃ (v0 : (c : Dev Cert.SumDevIdeal.nD) → Buf (Elt Ideal) ((c.tc : Thread Cert.SumDevIdeal.nD Cert.SumDevIdeal.τ).loc Cert.SumDevIdeal.main_v15)) (v1 : (c : Dev Cert.SumDevIdeal.nD) → Buf (Elt Ideal) ((c.tc : Thread Cert.SumDevIdeal.nD Cert.SumDevIdeal.τ).loc Cert.SumDevIdeal.main_v17)) (v2 : (c : Dev Cert.SumDevIdeal.nD) → Buf (Elt Ideal) ((c.tc : Thread Cert.SumDevIdeal.nD Cert.SumDevIdeal.τ).loc Cert.SumDevIdeal.main_v19)) (v3 : (c : Dev Cert.SumDevIdeal.nD) → Buf (Elt Ideal) ((c.tc : Thread Cert.SumDevIdeal.nD Cert.SumDevIdeal.τ).loc Cert.SumDevIdeal.main_v21)) (v4 : (c : Dev Cert.SumDevIdeal.nD) → Buf (Elt Ideal) ((c.tc : Thread Cert.SumDevIdeal.nD Cert.SumDevIdeal.τ).loc Cert.SumDevIdeal.main_v23)) (v5 : (c : Dev Cert.SumDevIdeal.nD) → Buf (Elt Ideal) ((c.tc : Thread Cert.SumDevIdeal.nD Cert.SumDevIdeal.τ).loc Cert.SumDevIdeal.main_v25)) (v6 : (c : Dev Cert.SumDevIdeal.nD) → Buf (Elt Ideal) ((c.tc : Thread Cert.SumDevIdeal.nD Cert.SumDevIdeal.τ).loc Cert.SumDevIdeal.main_v27)) (v7 : (c : Dev Cert.SumDevIdeal.nD) → Buf (Elt Ideal) ((c.tc : Thread Cert.SumDevIdeal.nD Cert.SumDevIdeal.τ).loc Cert.SumDevIdeal.main_v29)) (v8 : (c : Dev Cert.SumDevIdeal.nD) → Buf (Elt Ideal) ((c.tc : Thread Cert.SumDevIdeal.nD Cert.SumDevIdeal.τ).loc Cert.SumDevIdeal.main_v31)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v15) = v0 c
          ∧ r.2.mem ((c.tc : Thread Cert.SumDevIdeal.nD Cert.SumDevIdeal.τ).loc Cert.SumDevIdeal.main_v17) = v1 c
          ∧ r.2.mem ((c.tc : Thread Cert.SumDevIdeal.nD Cert.SumDevIdeal.τ).loc Cert.SumDevIdeal.main_v19) = v2 c
          ∧ r.2.mem ((c.tc : Thread Cert.SumDevIdeal.nD Cert.SumDevIdeal.τ).loc Cert.SumDevIdeal.main_v21) = v3 c
          ∧ r.2.mem ((c.tc : Thread Cert.SumDevIdeal.nD Cert.SumDevIdeal.τ).loc Cert.SumDevIdeal.main_v23) = v4 c
          ∧ r.2.mem ((c.tc : Thread Cert.SumDevIdeal.nD Cert.SumDevIdeal.τ).loc Cert.SumDevIdeal.main_v25) = v5 c
          ∧ r.2.mem ((c.tc : Thread Cert.SumDevIdeal.nD Cert.SumDevIdeal.τ).loc Cert.SumDevIdeal.main_v27) = v6 c
          ∧ r.2.mem ((c.tc : Thread Cert.SumDevIdeal.nD Cert.SumDevIdeal.τ).loc Cert.SumDevIdeal.main_v29) = v7 c
          ∧ r.2.mem ((c.tc : Thread Cert.SumDevIdeal.nD Cert.SumDevIdeal.τ).loc Cert.SumDevIdeal.main_v31) = v8 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
          ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
          ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2)
          ∧ r.2.mem ((c.tc : Thread Cert.SumDevIdeal.nD Cert.SumDevIdeal.τ).loc Cert.SumDevIdeal.main_arg3) = m ((c.tc : Thread Cert.SumDevIdeal.nD Cert.SumDevIdeal.τ).loc Cert.SumDevIdeal.main_arg3)
          ∧ r.2.mem ((c.tc : Thread Cert.SumDevIdeal.nD Cert.SumDevIdeal.τ).loc Cert.SumDevIdeal.main_arg4) = m ((c.tc : Thread Cert.SumDevIdeal.nD Cert.SumDevIdeal.τ).loc Cert.SumDevIdeal.main_arg4)
          ∧ r.2.mem ((c.tc : Thread Cert.SumDevIdeal.nD Cert.SumDevIdeal.τ).loc Cert.SumDevIdeal.main_arg5) = m ((c.tc : Thread Cert.SumDevIdeal.nD Cert.SumDevIdeal.τ).loc Cert.SumDevIdeal.main_arg5)
          ∧ r.2.mem ((c.tc : Thread Cert.SumDevIdeal.nD Cert.SumDevIdeal.τ).loc Cert.SumDevIdeal.main_arg6) = m ((c.tc : Thread Cert.SumDevIdeal.nD Cert.SumDevIdeal.τ).loc Cert.SumDevIdeal.main_arg6)
          ∧ r.2.mem ((c.tc : Thread Cert.SumDevIdeal.nD Cert.SumDevIdeal.τ).loc Cert.SumDevIdeal.main_arg7) = m ((c.tc : Thread Cert.SumDevIdeal.nD Cert.SumDevIdeal.τ).loc Cert.SumDevIdeal.main_arg7)
          ∧ r.2.mem ((c.tc : Thread Cert.SumDevIdeal.nD Cert.SumDevIdeal.τ).loc Cert.SumDevIdeal.main_arg8) = m ((c.tc : Thread Cert.SumDevIdeal.nD Cert.SumDevIdeal.τ).loc Cert.SumDevIdeal.main_arg8))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_v1) = v1 c
          ∧ r.2.mem ((c.tc : Thread Cert.SumDevRefIdeal.nD Cert.SumDevRefIdeal.τ).loc Cert.SumDevRefIdeal.main_v2) = v2 c
          ∧ r.2.mem ((c.tc : Thread Cert.SumDevRefIdeal.nD Cert.SumDevRefIdeal.τ).loc Cert.SumDevRefIdeal.main_v3) = v3 c
          ∧ r.2.mem ((c.tc : Thread Cert.SumDevRefIdeal.nD Cert.SumDevRefIdeal.τ).loc Cert.SumDevRefIdeal.main_v4) = v4 c
          ∧ r.2.mem ((c.tc : Thread Cert.SumDevRefIdeal.nD Cert.SumDevRefIdeal.τ).loc Cert.SumDevRefIdeal.main_v5) = v5 c
          ∧ r.2.mem ((c.tc : Thread Cert.SumDevRefIdeal.nD Cert.SumDevRefIdeal.τ).loc Cert.SumDevRefIdeal.main_v6) = v6 c
          ∧ r.2.mem ((c.tc : Thread Cert.SumDevRefIdeal.nD Cert.SumDevRefIdeal.τ).loc Cert.SumDevRefIdeal.main_v7) = v7 c
          ∧ r.2.mem ((c.tc : Thread Cert.SumDevRefIdeal.nD Cert.SumDevRefIdeal.τ).loc Cert.SumDevRefIdeal.main_v8) = v8 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0)
          ∧ r.2.mem ((c.tc : Thread Cert.SumDevRefIdeal.nD Cert.SumDevRefIdeal.τ).loc Cert.SumDevRefIdeal.main_arg1) = m' ((c.tc : Thread Cert.SumDevRefIdeal.nD Cert.SumDevRefIdeal.τ).loc Cert.SumDevRefIdeal.main_arg1)
          ∧ r.2.mem ((c.tc : Thread Cert.SumDevRefIdeal.nD Cert.SumDevRefIdeal.τ).loc Cert.SumDevRefIdeal.main_arg2) = m' ((c.tc : Thread Cert.SumDevRefIdeal.nD Cert.SumDevRefIdeal.τ).loc Cert.SumDevRefIdeal.main_arg2)
          ∧ r.2.mem ((c.tc : Thread Cert.SumDevRefIdeal.nD Cert.SumDevRefIdeal.τ).loc Cert.SumDevRefIdeal.main_arg3) = m' ((c.tc : Thread Cert.SumDevRefIdeal.nD Cert.SumDevRefIdeal.τ).loc Cert.SumDevRefIdeal.main_arg3)
          ∧ r.2.mem ((c.tc : Thread Cert.SumDevRefIdeal.nD Cert.SumDevRefIdeal.τ).loc Cert.SumDevRefIdeal.main_arg4) = m' ((c.tc : Thread Cert.SumDevRefIdeal.nD Cert.SumDevRefIdeal.τ).loc Cert.SumDevRefIdeal.main_arg4)
          ∧ r.2.mem ((c.tc : Thread Cert.SumDevRefIdeal.nD Cert.SumDevRefIdeal.τ).loc Cert.SumDevRefIdeal.main_arg5) = m' ((c.tc : Thread Cert.SumDevRefIdeal.nD Cert.SumDevRefIdeal.τ).loc Cert.SumDevRefIdeal.main_arg5)
          ∧ r.2.mem ((c.tc : Thread Cert.SumDevRefIdeal.nD Cert.SumDevRefIdeal.τ).loc Cert.SumDevRefIdeal.main_arg6) = m' ((c.tc : Thread Cert.SumDevRefIdeal.nD Cert.SumDevRefIdeal.τ).loc Cert.SumDevRefIdeal.main_arg6)
          ∧ r.2.mem ((c.tc : Thread Cert.SumDevRefIdeal.nD Cert.SumDevRefIdeal.τ).loc Cert.SumDevRefIdeal.main_arg7) = m' ((c.tc : Thread Cert.SumDevRefIdeal.nD Cert.SumDevRefIdeal.τ).loc Cert.SumDevRefIdeal.main_arg7)
          ∧ r.2.mem ((c.tc : Thread Cert.SumDevRefIdeal.nD Cert.SumDevRefIdeal.τ).loc Cert.SumDevRefIdeal.main_arg8) = m' ((c.tc : Thread Cert.SumDevRefIdeal.nD Cert.SumDevRefIdeal.τ).loc Cert.SumDevRefIdeal.main_arg8))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v17) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_AdIn0_AdIn0Ideal : Prop :=
  True

def algebraic_AdIn0Ideal_AdIn0RefIdeal [hAdIn0Ideal : Cert.AdIn0Ideal.Facts] [hAdIn0RefIdeal : Cert.AdIn0RefIdeal.Facts] : Prop :=
  ∀ (m : (ℓ : Loc Cert.AdIn0Ideal.nD Cert.AdIn0Ideal.τ Cert.AdIn0Ideal.sig) → Buf (Elt Ideal) ℓ) (g : Dev Cert.AdIn0Ideal.nD → PrngReg)
    (m' : (ℓ : Loc Cert.AdIn0RefIdeal.nD Cert.AdIn0RefIdeal.τ Cert.AdIn0RefIdeal.sig) → Buf (Elt Ideal) ℓ) (g' : Dev Cert.AdIn0RefIdeal.nD → PrngReg), Pre_AdIn0Ideal m →
    (∀ c : Dev Cert.AdIn0Ideal.nD,
      m' ((c.tc : Thread Cert.AdIn0RefIdeal.nD Cert.AdIn0RefIdeal.τ).loc Cert.AdIn0RefIdeal.main_arg0) = m ((c.tc : Thread Cert.AdIn0Ideal.nD Cert.AdIn0Ideal.τ).loc Cert.AdIn0Ideal.main_arg0)
      ∧ m' ((c.tc : Thread Cert.AdIn0RefIdeal.nD Cert.AdIn0RefIdeal.τ).loc Cert.AdIn0RefIdeal.main_arg1) = m ((c.tc : Thread Cert.AdIn0Ideal.nD Cert.AdIn0Ideal.τ).loc Cert.AdIn0Ideal.main_arg1)
      ∧ m' ((c.tc : Thread Cert.AdIn0RefIdeal.nD Cert.AdIn0RefIdeal.τ).loc Cert.AdIn0RefIdeal.main_arg2) = m ((c.tc : Thread Cert.AdIn0Ideal.nD Cert.AdIn0Ideal.τ).loc Cert.AdIn0Ideal.main_arg2)
      ∧ m' ((c.tc : Thread Cert.AdIn0RefIdeal.nD Cert.AdIn0RefIdeal.τ).loc Cert.AdIn0RefIdeal.main_arg3) = m ((c.tc : Thread Cert.AdIn0Ideal.nD Cert.AdIn0Ideal.τ).loc Cert.AdIn0Ideal.main_arg3)
      ∧ m' ((c.tc : Thread Cert.AdIn0RefIdeal.nD Cert.AdIn0RefIdeal.τ).loc Cert.AdIn0RefIdeal.main_arg4) = m ((c.tc : Thread Cert.AdIn0Ideal.nD Cert.AdIn0Ideal.τ).loc Cert.AdIn0Ideal.main_arg4)
      ∧ m' ((c.tc : Thread Cert.AdIn0RefIdeal.nD Cert.AdIn0RefIdeal.τ).loc Cert.AdIn0RefIdeal.main_arg5) = m ((c.tc : Thread Cert.AdIn0Ideal.nD Cert.AdIn0Ideal.τ).loc Cert.AdIn0Ideal.main_arg5)
      ∧ m' ((c.tc : Thread Cert.AdIn0RefIdeal.nD Cert.AdIn0RefIdeal.τ).loc Cert.AdIn0RefIdeal.main_arg6) = m ((c.tc : Thread Cert.AdIn0Ideal.nD Cert.AdIn0Ideal.τ).loc Cert.AdIn0Ideal.main_arg6)
      ∧ m' ((c.tc : Thread Cert.AdIn0RefIdeal.nD Cert.AdIn0RefIdeal.τ).loc Cert.AdIn0RefIdeal.main_arg7) = m ((c.tc : Thread Cert.AdIn0Ideal.nD Cert.AdIn0Ideal.τ).loc Cert.AdIn0Ideal.main_arg7)) →
    ∃ (v0 : (c : Dev Cert.AdIn0Ideal.nD) → Buf (Elt Ideal) ((c.tc : Thread Cert.AdIn0Ideal.nD Cert.AdIn0Ideal.τ).loc Cert.AdIn0Ideal.main_v0_0)) (v1 : (c : Dev Cert.AdIn0Ideal.nD) → Buf (Elt Ideal) ((c.tc : Thread Cert.AdIn0Ideal.nD Cert.AdIn0Ideal.τ).loc Cert.AdIn0Ideal.main_v0_1)) (v2 : (c : Dev Cert.AdIn0Ideal.nD) → Buf (Elt Ideal) ((c.tc : Thread Cert.AdIn0Ideal.nD Cert.AdIn0Ideal.τ).loc Cert.AdIn0Ideal.main_v0_2)) (v3 : (c : Dev Cert.AdIn0Ideal.nD) → Buf (Elt Ideal) ((c.tc : Thread Cert.AdIn0Ideal.nD Cert.AdIn0Ideal.τ).loc Cert.AdIn0Ideal.main_v0_3)),
      θ_run (Cert.AdIn0Ideal.defs (F := Ideal)) (onTc (τ := Cert.AdIn0Ideal.τ) (Cert.AdIn0Ideal.main (F := Ideal))) ⟨m, fun _ => 0, g⟩ (fun r => ∀ c : Dev Cert.AdIn0Ideal.nD,
          r.2.mem ((c.tc : Thread Cert.AdIn0Ideal.nD Cert.AdIn0Ideal.τ).loc Cert.AdIn0Ideal.main_v0_0) = v0 c
          ∧ r.2.mem ((c.tc : Thread Cert.AdIn0Ideal.nD Cert.AdIn0Ideal.τ).loc Cert.AdIn0Ideal.main_v0_1) = v1 c
          ∧ r.2.mem ((c.tc : Thread Cert.AdIn0Ideal.nD Cert.AdIn0Ideal.τ).loc Cert.AdIn0Ideal.main_v0_2) = v2 c
          ∧ r.2.mem ((c.tc : Thread Cert.AdIn0Ideal.nD Cert.AdIn0Ideal.τ).loc Cert.AdIn0Ideal.main_v0_3) = v3 c
          ∧ r.2.mem ((c.tc : Thread Cert.AdIn0Ideal.nD Cert.AdIn0Ideal.τ).loc Cert.AdIn0Ideal.main_arg0) = m ((c.tc : Thread Cert.AdIn0Ideal.nD Cert.AdIn0Ideal.τ).loc Cert.AdIn0Ideal.main_arg0)
          ∧ r.2.mem ((c.tc : Thread Cert.AdIn0Ideal.nD Cert.AdIn0Ideal.τ).loc Cert.AdIn0Ideal.main_arg1) = m ((c.tc : Thread Cert.AdIn0Ideal.nD Cert.AdIn0Ideal.τ).loc Cert.AdIn0Ideal.main_arg1)
          ∧ r.2.mem ((c.tc : Thread Cert.AdIn0Ideal.nD Cert.AdIn0Ideal.τ).loc Cert.AdIn0Ideal.main_arg2) = m ((c.tc : Thread Cert.AdIn0Ideal.nD Cert.AdIn0Ideal.τ).loc Cert.AdIn0Ideal.main_arg2)
          ∧ r.2.mem ((c.tc : Thread Cert.AdIn0Ideal.nD Cert.AdIn0Ideal.τ).loc Cert.AdIn0Ideal.main_arg3) = m ((c.tc : Thread Cert.AdIn0Ideal.nD Cert.AdIn0Ideal.τ).loc Cert.AdIn0Ideal.main_arg3)
          ∧ r.2.mem ((c.tc : Thread Cert.AdIn0Ideal.nD Cert.AdIn0Ideal.τ).loc Cert.AdIn0Ideal.main_arg4) = m ((c.tc : Thread Cert.AdIn0Ideal.nD Cert.AdIn0Ideal.τ).loc Cert.AdIn0Ideal.main_arg4)
          ∧ r.2.mem ((c.tc : Thread Cert.AdIn0Ideal.nD Cert.AdIn0Ideal.τ).loc Cert.AdIn0Ideal.main_arg5) = m ((c.tc : Thread Cert.AdIn0Ideal.nD Cert.AdIn0Ideal.τ).loc Cert.AdIn0Ideal.main_arg5)
          ∧ r.2.mem ((c.tc : Thread Cert.AdIn0Ideal.nD Cert.AdIn0Ideal.τ).loc Cert.AdIn0Ideal.main_arg6) = m ((c.tc : Thread Cert.AdIn0Ideal.nD Cert.AdIn0Ideal.τ).loc Cert.AdIn0Ideal.main_arg6)
          ∧ r.2.mem ((c.tc : Thread Cert.AdIn0Ideal.nD Cert.AdIn0Ideal.τ).loc Cert.AdIn0Ideal.main_arg7) = m ((c.tc : Thread Cert.AdIn0Ideal.nD Cert.AdIn0Ideal.τ).loc Cert.AdIn0Ideal.main_arg7))
      ∧ θ_run (Cert.AdIn0RefIdeal.defs (F := Ideal)) (onTc (τ := Cert.AdIn0RefIdeal.τ) (Cert.AdIn0RefIdeal.main (F := Ideal))) ⟨m', fun _ => 0, g'⟩ (fun r => ∀ c : Dev Cert.AdIn0RefIdeal.nD,
          r.2.mem ((c.tc : Thread Cert.AdIn0RefIdeal.nD Cert.AdIn0RefIdeal.τ).loc Cert.AdIn0RefIdeal.main_v33) = v0 c
          ∧ r.2.mem ((c.tc : Thread Cert.AdIn0RefIdeal.nD Cert.AdIn0RefIdeal.τ).loc Cert.AdIn0RefIdeal.main_v37) = v1 c
          ∧ r.2.mem ((c.tc : Thread Cert.AdIn0RefIdeal.nD Cert.AdIn0RefIdeal.τ).loc Cert.AdIn0RefIdeal.main_v41) = v2 c
          ∧ r.2.mem ((c.tc : Thread Cert.AdIn0RefIdeal.nD Cert.AdIn0RefIdeal.τ).loc Cert.AdIn0RefIdeal.main_v45) = v3 c
          ∧ r.2.mem ((c.tc : Thread Cert.AdIn0RefIdeal.nD Cert.AdIn0RefIdeal.τ).loc Cert.AdIn0RefIdeal.main_arg0) = m' ((c.tc : Thread Cert.AdIn0RefIdeal.nD Cert.AdIn0RefIdeal.τ).loc Cert.AdIn0RefIdeal.main_arg0)
          ∧ r.2.mem ((c.tc : Thread Cert.AdIn0RefIdeal.nD Cert.AdIn0RefIdeal.τ).loc Cert.AdIn0RefIdeal.main_arg1) = m' ((c.tc : Thread Cert.AdIn0RefIdeal.nD Cert.AdIn0RefIdeal.τ).loc Cert.AdIn0RefIdeal.main_arg1)
          ∧ r.2.mem ((c.tc : Thread Cert.AdIn0RefIdeal.nD Cert.AdIn0RefIdeal.τ).loc Cert.AdIn0RefIdeal.main_arg2) = m' ((c.tc : Thread Cert.AdIn0RefIdeal.nD Cert.AdIn0RefIdeal.τ).loc Cert.AdIn0RefIdeal.main_arg2)
          ∧ r.2.mem ((c.tc : Thread Cert.AdIn0RefIdeal.nD Cert.AdIn0RefIdeal.τ).loc Cert.AdIn0RefIdeal.main_arg3) = m' ((c.tc : Thread Cert.AdIn0RefIdeal.nD Cert.AdIn0RefIdeal.τ).loc Cert.AdIn0RefIdeal.main_arg3)
          ∧ r.2.mem ((c.tc : Thread Cert.AdIn0RefIdeal.nD Cert.AdIn0RefIdeal.τ).loc Cert.AdIn0RefIdeal.main_arg4) = m' ((c.tc : Thread Cert.AdIn0RefIdeal.nD Cert.AdIn0RefIdeal.τ).loc Cert.AdIn0RefIdeal.main_arg4)
          ∧ r.2.mem ((c.tc : Thread Cert.AdIn0RefIdeal.nD Cert.AdIn0RefIdeal.τ).loc Cert.AdIn0RefIdeal.main_arg5) = m' ((c.tc : Thread Cert.AdIn0RefIdeal.nD Cert.AdIn0RefIdeal.τ).loc Cert.AdIn0RefIdeal.main_arg5)
          ∧ r.2.mem ((c.tc : Thread Cert.AdIn0RefIdeal.nD Cert.AdIn0RefIdeal.τ).loc Cert.AdIn0RefIdeal.main_arg6) = m' ((c.tc : Thread Cert.AdIn0RefIdeal.nD Cert.AdIn0RefIdeal.τ).loc Cert.AdIn0RefIdeal.main_arg6)
          ∧ r.2.mem ((c.tc : Thread Cert.AdIn0RefIdeal.nD Cert.AdIn0RefIdeal.τ).loc Cert.AdIn0RefIdeal.main_arg7) = m' ((c.tc : Thread Cert.AdIn0RefIdeal.nD Cert.AdIn0RefIdeal.τ).loc Cert.AdIn0RefIdeal.main_arg7))

def preserves_AdIn1_AdIn1Ideal : Prop :=
  True

def algebraic_AdIn1Ideal_AdIn1RefIdeal [hAdIn1Ideal : Cert.AdIn1Ideal.Facts] [hAdIn1RefIdeal : Cert.AdIn1RefIdeal.Facts] : Prop :=
  ∀ (m : (ℓ : Loc Cert.AdIn1Ideal.nD Cert.AdIn1Ideal.τ Cert.AdIn1Ideal.sig) → Buf (Elt Ideal) ℓ) (g : Dev Cert.AdIn1Ideal.nD → PrngReg)
    (m' : (ℓ : Loc Cert.AdIn1RefIdeal.nD Cert.AdIn1RefIdeal.τ Cert.AdIn1RefIdeal.sig) → Buf (Elt Ideal) ℓ) (g' : Dev Cert.AdIn1RefIdeal.nD → PrngReg), Pre_AdIn1Ideal m →
    (∀ c : Dev Cert.AdIn1Ideal.nD,
      m' ((c.tc : Thread Cert.AdIn1RefIdeal.nD Cert.AdIn1RefIdeal.τ).loc Cert.AdIn1RefIdeal.main_arg0) = m ((c.tc : Thread Cert.AdIn1Ideal.nD Cert.AdIn1Ideal.τ).loc Cert.AdIn1Ideal.main_arg0)
      ∧ m' ((c.tc : Thread Cert.AdIn1RefIdeal.nD Cert.AdIn1RefIdeal.τ).loc Cert.AdIn1RefIdeal.main_arg1) = m ((c.tc : Thread Cert.AdIn1Ideal.nD Cert.AdIn1Ideal.τ).loc Cert.AdIn1Ideal.main_arg1)
      ∧ m' ((c.tc : Thread Cert.AdIn1RefIdeal.nD Cert.AdIn1RefIdeal.τ).loc Cert.AdIn1RefIdeal.main_arg2) = m ((c.tc : Thread Cert.AdIn1Ideal.nD Cert.AdIn1Ideal.τ).loc Cert.AdIn1Ideal.main_arg2)
      ∧ m' ((c.tc : Thread Cert.AdIn1RefIdeal.nD Cert.AdIn1RefIdeal.τ).loc Cert.AdIn1RefIdeal.main_arg3) = m ((c.tc : Thread Cert.AdIn1Ideal.nD Cert.AdIn1Ideal.τ).loc Cert.AdIn1Ideal.main_arg3)
      ∧ m' ((c.tc : Thread Cert.AdIn1RefIdeal.nD Cert.AdIn1RefIdeal.τ).loc Cert.AdIn1RefIdeal.main_arg4) = m ((c.tc : Thread Cert.AdIn1Ideal.nD Cert.AdIn1Ideal.τ).loc Cert.AdIn1Ideal.main_arg4)
      ∧ m' ((c.tc : Thread Cert.AdIn1RefIdeal.nD Cert.AdIn1RefIdeal.τ).loc Cert.AdIn1RefIdeal.main_arg5) = m ((c.tc : Thread Cert.AdIn1Ideal.nD Cert.AdIn1Ideal.τ).loc Cert.AdIn1Ideal.main_arg5)
      ∧ m' ((c.tc : Thread Cert.AdIn1RefIdeal.nD Cert.AdIn1RefIdeal.τ).loc Cert.AdIn1RefIdeal.main_arg6) = m ((c.tc : Thread Cert.AdIn1Ideal.nD Cert.AdIn1Ideal.τ).loc Cert.AdIn1Ideal.main_arg6)
      ∧ m' ((c.tc : Thread Cert.AdIn1RefIdeal.nD Cert.AdIn1RefIdeal.τ).loc Cert.AdIn1RefIdeal.main_arg7) = m ((c.tc : Thread Cert.AdIn1Ideal.nD Cert.AdIn1Ideal.τ).loc Cert.AdIn1Ideal.main_arg7)) →
    ∃ (v0 : (c : Dev Cert.AdIn1Ideal.nD) → Buf (Elt Ideal) ((c.tc : Thread Cert.AdIn1Ideal.nD Cert.AdIn1Ideal.τ).loc Cert.AdIn1Ideal.main_v0_0)) (v1 : (c : Dev Cert.AdIn1Ideal.nD) → Buf (Elt Ideal) ((c.tc : Thread Cert.AdIn1Ideal.nD Cert.AdIn1Ideal.τ).loc Cert.AdIn1Ideal.main_v0_1)) (v2 : (c : Dev Cert.AdIn1Ideal.nD) → Buf (Elt Ideal) ((c.tc : Thread Cert.AdIn1Ideal.nD Cert.AdIn1Ideal.τ).loc Cert.AdIn1Ideal.main_v0_2)) (v3 : (c : Dev Cert.AdIn1Ideal.nD) → Buf (Elt Ideal) ((c.tc : Thread Cert.AdIn1Ideal.nD Cert.AdIn1Ideal.τ).loc Cert.AdIn1Ideal.main_v0_3)),
      θ_run (Cert.AdIn1Ideal.defs (F := Ideal)) (onTc (τ := Cert.AdIn1Ideal.τ) (Cert.AdIn1Ideal.main (F := Ideal))) ⟨m, fun _ => 0, g⟩ (fun r => ∀ c : Dev Cert.AdIn1Ideal.nD,
          r.2.mem ((c.tc : Thread Cert.AdIn1Ideal.nD Cert.AdIn1Ideal.τ).loc Cert.AdIn1Ideal.main_v0_0) = v0 c
          ∧ r.2.mem ((c.tc : Thread Cert.AdIn1Ideal.nD Cert.AdIn1Ideal.τ).loc Cert.AdIn1Ideal.main_v0_1) = v1 c
          ∧ r.2.mem ((c.tc : Thread Cert.AdIn1Ideal.nD Cert.AdIn1Ideal.τ).loc Cert.AdIn1Ideal.main_v0_2) = v2 c
          ∧ r.2.mem ((c.tc : Thread Cert.AdIn1Ideal.nD Cert.AdIn1Ideal.τ).loc Cert.AdIn1Ideal.main_v0_3) = v3 c
          ∧ r.2.mem ((c.tc : Thread Cert.AdIn1Ideal.nD Cert.AdIn1Ideal.τ).loc Cert.AdIn1Ideal.main_arg0) = m ((c.tc : Thread Cert.AdIn1Ideal.nD Cert.AdIn1Ideal.τ).loc Cert.AdIn1Ideal.main_arg0)
          ∧ r.2.mem ((c.tc : Thread Cert.AdIn1Ideal.nD Cert.AdIn1Ideal.τ).loc Cert.AdIn1Ideal.main_arg1) = m ((c.tc : Thread Cert.AdIn1Ideal.nD Cert.AdIn1Ideal.τ).loc Cert.AdIn1Ideal.main_arg1)
          ∧ r.2.mem ((c.tc : Thread Cert.AdIn1Ideal.nD Cert.AdIn1Ideal.τ).loc Cert.AdIn1Ideal.main_arg2) = m ((c.tc : Thread Cert.AdIn1Ideal.nD Cert.AdIn1Ideal.τ).loc Cert.AdIn1Ideal.main_arg2)
          ∧ r.2.mem ((c.tc : Thread Cert.AdIn1Ideal.nD Cert.AdIn1Ideal.τ).loc Cert.AdIn1Ideal.main_arg3) = m ((c.tc : Thread Cert.AdIn1Ideal.nD Cert.AdIn1Ideal.τ).loc Cert.AdIn1Ideal.main_arg3)
          ∧ r.2.mem ((c.tc : Thread Cert.AdIn1Ideal.nD Cert.AdIn1Ideal.τ).loc Cert.AdIn1Ideal.main_arg4) = m ((c.tc : Thread Cert.AdIn1Ideal.nD Cert.AdIn1Ideal.τ).loc Cert.AdIn1Ideal.main_arg4)
          ∧ r.2.mem ((c.tc : Thread Cert.AdIn1Ideal.nD Cert.AdIn1Ideal.τ).loc Cert.AdIn1Ideal.main_arg5) = m ((c.tc : Thread Cert.AdIn1Ideal.nD Cert.AdIn1Ideal.τ).loc Cert.AdIn1Ideal.main_arg5)
          ∧ r.2.mem ((c.tc : Thread Cert.AdIn1Ideal.nD Cert.AdIn1Ideal.τ).loc Cert.AdIn1Ideal.main_arg6) = m ((c.tc : Thread Cert.AdIn1Ideal.nD Cert.AdIn1Ideal.τ).loc Cert.AdIn1Ideal.main_arg6)
          ∧ r.2.mem ((c.tc : Thread Cert.AdIn1Ideal.nD Cert.AdIn1Ideal.τ).loc Cert.AdIn1Ideal.main_arg7) = m ((c.tc : Thread Cert.AdIn1Ideal.nD Cert.AdIn1Ideal.τ).loc Cert.AdIn1Ideal.main_arg7))
      ∧ θ_run (Cert.AdIn1RefIdeal.defs (F := Ideal)) (onTc (τ := Cert.AdIn1RefIdeal.τ) (Cert.AdIn1RefIdeal.main (F := Ideal))) ⟨m', fun _ => 0, g'⟩ (fun r => ∀ c : Dev Cert.AdIn1RefIdeal.nD,
          r.2.mem ((c.tc : Thread Cert.AdIn1RefIdeal.nD Cert.AdIn1RefIdeal.τ).loc Cert.AdIn1RefIdeal.main_v33) = v0 c
          ∧ r.2.mem ((c.tc : Thread Cert.AdIn1RefIdeal.nD Cert.AdIn1RefIdeal.τ).loc Cert.AdIn1RefIdeal.main_v37) = v1 c
          ∧ r.2.mem ((c.tc : Thread Cert.AdIn1RefIdeal.nD Cert.AdIn1RefIdeal.τ).loc Cert.AdIn1RefIdeal.main_v41) = v2 c
          ∧ r.2.mem ((c.tc : Thread Cert.AdIn1RefIdeal.nD Cert.AdIn1RefIdeal.τ).loc Cert.AdIn1RefIdeal.main_v45) = v3 c
          ∧ r.2.mem ((c.tc : Thread Cert.AdIn1RefIdeal.nD Cert.AdIn1RefIdeal.τ).loc Cert.AdIn1RefIdeal.main_arg0) = m' ((c.tc : Thread Cert.AdIn1RefIdeal.nD Cert.AdIn1RefIdeal.τ).loc Cert.AdIn1RefIdeal.main_arg0)
          ∧ r.2.mem ((c.tc : Thread Cert.AdIn1RefIdeal.nD Cert.AdIn1RefIdeal.τ).loc Cert.AdIn1RefIdeal.main_arg1) = m' ((c.tc : Thread Cert.AdIn1RefIdeal.nD Cert.AdIn1RefIdeal.τ).loc Cert.AdIn1RefIdeal.main_arg1)
          ∧ r.2.mem ((c.tc : Thread Cert.AdIn1RefIdeal.nD Cert.AdIn1RefIdeal.τ).loc Cert.AdIn1RefIdeal.main_arg2) = m' ((c.tc : Thread Cert.AdIn1RefIdeal.nD Cert.AdIn1RefIdeal.τ).loc Cert.AdIn1RefIdeal.main_arg2)
          ∧ r.2.mem ((c.tc : Thread Cert.AdIn1RefIdeal.nD Cert.AdIn1RefIdeal.τ).loc Cert.AdIn1RefIdeal.main_arg3) = m' ((c.tc : Thread Cert.AdIn1RefIdeal.nD Cert.AdIn1RefIdeal.τ).loc Cert.AdIn1RefIdeal.main_arg3)
          ∧ r.2.mem ((c.tc : Thread Cert.AdIn1RefIdeal.nD Cert.AdIn1RefIdeal.τ).loc Cert.AdIn1RefIdeal.main_arg4) = m' ((c.tc : Thread Cert.AdIn1RefIdeal.nD Cert.AdIn1RefIdeal.τ).loc Cert.AdIn1RefIdeal.main_arg4)
          ∧ r.2.mem ((c.tc : Thread Cert.AdIn1RefIdeal.nD Cert.AdIn1RefIdeal.τ).loc Cert.AdIn1RefIdeal.main_arg5) = m' ((c.tc : Thread Cert.AdIn1RefIdeal.nD Cert.AdIn1RefIdeal.τ).loc Cert.AdIn1RefIdeal.main_arg5)
          ∧ r.2.mem ((c.tc : Thread Cert.AdIn1RefIdeal.nD Cert.AdIn1RefIdeal.τ).loc Cert.AdIn1RefIdeal.main_arg6) = m' ((c.tc : Thread Cert.AdIn1RefIdeal.nD Cert.AdIn1RefIdeal.τ).loc Cert.AdIn1RefIdeal.main_arg6)
          ∧ r.2.mem ((c.tc : Thread Cert.AdIn1RefIdeal.nD Cert.AdIn1RefIdeal.τ).loc Cert.AdIn1RefIdeal.main_arg7) = m' ((c.tc : Thread Cert.AdIn1RefIdeal.nD Cert.AdIn1RefIdeal.τ).loc Cert.AdIn1RefIdeal.main_arg7))

def preserves_AdIn2_AdIn2Ideal : Prop :=
  True

def algebraic_AdIn2Ideal_AdIn2RefIdeal [hAdIn2Ideal : Cert.AdIn2Ideal.Facts] [hAdIn2RefIdeal : Cert.AdIn2RefIdeal.Facts] : Prop :=
  ∀ (m : (ℓ : Loc Cert.AdIn2Ideal.nD Cert.AdIn2Ideal.τ Cert.AdIn2Ideal.sig) → Buf (Elt Ideal) ℓ) (g : Dev Cert.AdIn2Ideal.nD → PrngReg)
    (m' : (ℓ : Loc Cert.AdIn2RefIdeal.nD Cert.AdIn2RefIdeal.τ Cert.AdIn2RefIdeal.sig) → Buf (Elt Ideal) ℓ) (g' : Dev Cert.AdIn2RefIdeal.nD → PrngReg), Pre_AdIn2Ideal m →
    (∀ c : Dev Cert.AdIn2Ideal.nD,
      m' ((c.tc : Thread Cert.AdIn2RefIdeal.nD Cert.AdIn2RefIdeal.τ).loc Cert.AdIn2RefIdeal.main_arg0) = m ((c.tc : Thread Cert.AdIn2Ideal.nD Cert.AdIn2Ideal.τ).loc Cert.AdIn2Ideal.main_arg0)
      ∧ m' ((c.tc : Thread Cert.AdIn2RefIdeal.nD Cert.AdIn2RefIdeal.τ).loc Cert.AdIn2RefIdeal.main_arg1) = m ((c.tc : Thread Cert.AdIn2Ideal.nD Cert.AdIn2Ideal.τ).loc Cert.AdIn2Ideal.main_arg1)
      ∧ m' ((c.tc : Thread Cert.AdIn2RefIdeal.nD Cert.AdIn2RefIdeal.τ).loc Cert.AdIn2RefIdeal.main_arg2) = m ((c.tc : Thread Cert.AdIn2Ideal.nD Cert.AdIn2Ideal.τ).loc Cert.AdIn2Ideal.main_arg2)
      ∧ m' ((c.tc : Thread Cert.AdIn2RefIdeal.nD Cert.AdIn2RefIdeal.τ).loc Cert.AdIn2RefIdeal.main_arg3) = m ((c.tc : Thread Cert.AdIn2Ideal.nD Cert.AdIn2Ideal.τ).loc Cert.AdIn2Ideal.main_arg3)
      ∧ m' ((c.tc : Thread Cert.AdIn2RefIdeal.nD Cert.AdIn2RefIdeal.τ).loc Cert.AdIn2RefIdeal.main_arg4) = m ((c.tc : Thread Cert.AdIn2Ideal.nD Cert.AdIn2Ideal.τ).loc Cert.AdIn2Ideal.main_arg4)
      ∧ m' ((c.tc : Thread Cert.AdIn2RefIdeal.nD Cert.AdIn2RefIdeal.τ).loc Cert.AdIn2RefIdeal.main_arg5) = m ((c.tc : Thread Cert.AdIn2Ideal.nD Cert.AdIn2Ideal.τ).loc Cert.AdIn2Ideal.main_arg5)
      ∧ m' ((c.tc : Thread Cert.AdIn2RefIdeal.nD Cert.AdIn2RefIdeal.τ).loc Cert.AdIn2RefIdeal.main_arg6) = m ((c.tc : Thread Cert.AdIn2Ideal.nD Cert.AdIn2Ideal.τ).loc Cert.AdIn2Ideal.main_arg6)
      ∧ m' ((c.tc : Thread Cert.AdIn2RefIdeal.nD Cert.AdIn2RefIdeal.τ).loc Cert.AdIn2RefIdeal.main_arg7) = m ((c.tc : Thread Cert.AdIn2Ideal.nD Cert.AdIn2Ideal.τ).loc Cert.AdIn2Ideal.main_arg7)) →
    ∃ (v0 : (c : Dev Cert.AdIn2Ideal.nD) → Buf (Elt Ideal) ((c.tc : Thread Cert.AdIn2Ideal.nD Cert.AdIn2Ideal.τ).loc Cert.AdIn2Ideal.main_v0_0)) (v1 : (c : Dev Cert.AdIn2Ideal.nD) → Buf (Elt Ideal) ((c.tc : Thread Cert.AdIn2Ideal.nD Cert.AdIn2Ideal.τ).loc Cert.AdIn2Ideal.main_v0_1)) (v2 : (c : Dev Cert.AdIn2Ideal.nD) → Buf (Elt Ideal) ((c.tc : Thread Cert.AdIn2Ideal.nD Cert.AdIn2Ideal.τ).loc Cert.AdIn2Ideal.main_v0_2)) (v3 : (c : Dev Cert.AdIn2Ideal.nD) → Buf (Elt Ideal) ((c.tc : Thread Cert.AdIn2Ideal.nD Cert.AdIn2Ideal.τ).loc Cert.AdIn2Ideal.main_v0_3)),
      θ_run (Cert.AdIn2Ideal.defs (F := Ideal)) (onTc (τ := Cert.AdIn2Ideal.τ) (Cert.AdIn2Ideal.main (F := Ideal))) ⟨m, fun _ => 0, g⟩ (fun r => ∀ c : Dev Cert.AdIn2Ideal.nD,
          r.2.mem ((c.tc : Thread Cert.AdIn2Ideal.nD Cert.AdIn2Ideal.τ).loc Cert.AdIn2Ideal.main_v0_0) = v0 c
          ∧ r.2.mem ((c.tc : Thread Cert.AdIn2Ideal.nD Cert.AdIn2Ideal.τ).loc Cert.AdIn2Ideal.main_v0_1) = v1 c
          ∧ r.2.mem ((c.tc : Thread Cert.AdIn2Ideal.nD Cert.AdIn2Ideal.τ).loc Cert.AdIn2Ideal.main_v0_2) = v2 c
          ∧ r.2.mem ((c.tc : Thread Cert.AdIn2Ideal.nD Cert.AdIn2Ideal.τ).loc Cert.AdIn2Ideal.main_v0_3) = v3 c
          ∧ r.2.mem ((c.tc : Thread Cert.AdIn2Ideal.nD Cert.AdIn2Ideal.τ).loc Cert.AdIn2Ideal.main_arg0) = m ((c.tc : Thread Cert.AdIn2Ideal.nD Cert.AdIn2Ideal.τ).loc Cert.AdIn2Ideal.main_arg0)
          ∧ r.2.mem ((c.tc : Thread Cert.AdIn2Ideal.nD Cert.AdIn2Ideal.τ).loc Cert.AdIn2Ideal.main_arg1) = m ((c.tc : Thread Cert.AdIn2Ideal.nD Cert.AdIn2Ideal.τ).loc Cert.AdIn2Ideal.main_arg1)
          ∧ r.2.mem ((c.tc : Thread Cert.AdIn2Ideal.nD Cert.AdIn2Ideal.τ).loc Cert.AdIn2Ideal.main_arg2) = m ((c.tc : Thread Cert.AdIn2Ideal.nD Cert.AdIn2Ideal.τ).loc Cert.AdIn2Ideal.main_arg2)
          ∧ r.2.mem ((c.tc : Thread Cert.AdIn2Ideal.nD Cert.AdIn2Ideal.τ).loc Cert.AdIn2Ideal.main_arg3) = m ((c.tc : Thread Cert.AdIn2Ideal.nD Cert.AdIn2Ideal.τ).loc Cert.AdIn2Ideal.main_arg3)
          ∧ r.2.mem ((c.tc : Thread Cert.AdIn2Ideal.nD Cert.AdIn2Ideal.τ).loc Cert.AdIn2Ideal.main_arg4) = m ((c.tc : Thread Cert.AdIn2Ideal.nD Cert.AdIn2Ideal.τ).loc Cert.AdIn2Ideal.main_arg4)
          ∧ r.2.mem ((c.tc : Thread Cert.AdIn2Ideal.nD Cert.AdIn2Ideal.τ).loc Cert.AdIn2Ideal.main_arg5) = m ((c.tc : Thread Cert.AdIn2Ideal.nD Cert.AdIn2Ideal.τ).loc Cert.AdIn2Ideal.main_arg5)
          ∧ r.2.mem ((c.tc : Thread Cert.AdIn2Ideal.nD Cert.AdIn2Ideal.τ).loc Cert.AdIn2Ideal.main_arg6) = m ((c.tc : Thread Cert.AdIn2Ideal.nD Cert.AdIn2Ideal.τ).loc Cert.AdIn2Ideal.main_arg6)
          ∧ r.2.mem ((c.tc : Thread Cert.AdIn2Ideal.nD Cert.AdIn2Ideal.τ).loc Cert.AdIn2Ideal.main_arg7) = m ((c.tc : Thread Cert.AdIn2Ideal.nD Cert.AdIn2Ideal.τ).loc Cert.AdIn2Ideal.main_arg7))
      ∧ θ_run (Cert.AdIn2RefIdeal.defs (F := Ideal)) (onTc (τ := Cert.AdIn2RefIdeal.τ) (Cert.AdIn2RefIdeal.main (F := Ideal))) ⟨m', fun _ => 0, g'⟩ (fun r => ∀ c : Dev Cert.AdIn2RefIdeal.nD,
          r.2.mem ((c.tc : Thread Cert.AdIn2RefIdeal.nD Cert.AdIn2RefIdeal.τ).loc Cert.AdIn2RefIdeal.main_v33) = v0 c
          ∧ r.2.mem ((c.tc : Thread Cert.AdIn2RefIdeal.nD Cert.AdIn2RefIdeal.τ).loc Cert.AdIn2RefIdeal.main_v37) = v1 c
          ∧ r.2.mem ((c.tc : Thread Cert.AdIn2RefIdeal.nD Cert.AdIn2RefIdeal.τ).loc Cert.AdIn2RefIdeal.main_v41) = v2 c
          ∧ r.2.mem ((c.tc : Thread Cert.AdIn2RefIdeal.nD Cert.AdIn2RefIdeal.τ).loc Cert.AdIn2RefIdeal.main_v45) = v3 c
          ∧ r.2.mem ((c.tc : Thread Cert.AdIn2RefIdeal.nD Cert.AdIn2RefIdeal.τ).loc Cert.AdIn2RefIdeal.main_arg0) = m' ((c.tc : Thread Cert.AdIn2RefIdeal.nD Cert.AdIn2RefIdeal.τ).loc Cert.AdIn2RefIdeal.main_arg0)
          ∧ r.2.mem ((c.tc : Thread Cert.AdIn2RefIdeal.nD Cert.AdIn2RefIdeal.τ).loc Cert.AdIn2RefIdeal.main_arg1) = m' ((c.tc : Thread Cert.AdIn2RefIdeal.nD Cert.AdIn2RefIdeal.τ).loc Cert.AdIn2RefIdeal.main_arg1)
          ∧ r.2.mem ((c.tc : Thread Cert.AdIn2RefIdeal.nD Cert.AdIn2RefIdeal.τ).loc Cert.AdIn2RefIdeal.main_arg2) = m' ((c.tc : Thread Cert.AdIn2RefIdeal.nD Cert.AdIn2RefIdeal.τ).loc Cert.AdIn2RefIdeal.main_arg2)
          ∧ r.2.mem ((c.tc : Thread Cert.AdIn2RefIdeal.nD Cert.AdIn2RefIdeal.τ).loc Cert.AdIn2RefIdeal.main_arg3) = m' ((c.tc : Thread Cert.AdIn2RefIdeal.nD Cert.AdIn2RefIdeal.τ).loc Cert.AdIn2RefIdeal.main_arg3)
          ∧ r.2.mem ((c.tc : Thread Cert.AdIn2RefIdeal.nD Cert.AdIn2RefIdeal.τ).loc Cert.AdIn2RefIdeal.main_arg4) = m' ((c.tc : Thread Cert.AdIn2RefIdeal.nD Cert.AdIn2RefIdeal.τ).loc Cert.AdIn2RefIdeal.main_arg4)
          ∧ r.2.mem ((c.tc : Thread Cert.AdIn2RefIdeal.nD Cert.AdIn2RefIdeal.τ).loc Cert.AdIn2RefIdeal.main_arg5) = m' ((c.tc : Thread Cert.AdIn2RefIdeal.nD Cert.AdIn2RefIdeal.τ).loc Cert.AdIn2RefIdeal.main_arg5)
          ∧ r.2.mem ((c.tc : Thread Cert.AdIn2RefIdeal.nD Cert.AdIn2RefIdeal.τ).loc Cert.AdIn2RefIdeal.main_arg6) = m' ((c.tc : Thread Cert.AdIn2RefIdeal.nD Cert.AdIn2RefIdeal.τ).loc Cert.AdIn2RefIdeal.main_arg6)
          ∧ r.2.mem ((c.tc : Thread Cert.AdIn2RefIdeal.nD Cert.AdIn2RefIdeal.τ).loc Cert.AdIn2RefIdeal.main_arg7) = m' ((c.tc : Thread Cert.AdIn2RefIdeal.nD Cert.AdIn2RefIdeal.τ).loc Cert.AdIn2RefIdeal.main_arg7))

def preserves_AdIn3_AdIn3Ideal : Prop :=
  True

def algebraic_AdIn3Ideal_AdIn3RefIdeal [hAdIn3Ideal : Cert.AdIn3Ideal.Facts] [hAdIn3RefIdeal : Cert.AdIn3RefIdeal.Facts] : Prop :=
  ∀ (m : (ℓ : Loc Cert.AdIn3Ideal.nD Cert.AdIn3Ideal.τ Cert.AdIn3Ideal.sig) → Buf (Elt Ideal) ℓ) (g : Dev Cert.AdIn3Ideal.nD → PrngReg)
    (m' : (ℓ : Loc Cert.AdIn3RefIdeal.nD Cert.AdIn3RefIdeal.τ Cert.AdIn3RefIdeal.sig) → Buf (Elt Ideal) ℓ) (g' : Dev Cert.AdIn3RefIdeal.nD → PrngReg), Pre_AdIn3Ideal m →
    (∀ c : Dev Cert.AdIn3Ideal.nD,
      m' ((c.tc : Thread Cert.AdIn3RefIdeal.nD Cert.AdIn3RefIdeal.τ).loc Cert.AdIn3RefIdeal.main_arg0) = m ((c.tc : Thread Cert.AdIn3Ideal.nD Cert.AdIn3Ideal.τ).loc Cert.AdIn3Ideal.main_arg0)
      ∧ m' ((c.tc : Thread Cert.AdIn3RefIdeal.nD Cert.AdIn3RefIdeal.τ).loc Cert.AdIn3RefIdeal.main_arg1) = m ((c.tc : Thread Cert.AdIn3Ideal.nD Cert.AdIn3Ideal.τ).loc Cert.AdIn3Ideal.main_arg1)
      ∧ m' ((c.tc : Thread Cert.AdIn3RefIdeal.nD Cert.AdIn3RefIdeal.τ).loc Cert.AdIn3RefIdeal.main_arg2) = m ((c.tc : Thread Cert.AdIn3Ideal.nD Cert.AdIn3Ideal.τ).loc Cert.AdIn3Ideal.main_arg2)
      ∧ m' ((c.tc : Thread Cert.AdIn3RefIdeal.nD Cert.AdIn3RefIdeal.τ).loc Cert.AdIn3RefIdeal.main_arg3) = m ((c.tc : Thread Cert.AdIn3Ideal.nD Cert.AdIn3Ideal.τ).loc Cert.AdIn3Ideal.main_arg3)
      ∧ m' ((c.tc : Thread Cert.AdIn3RefIdeal.nD Cert.AdIn3RefIdeal.τ).loc Cert.AdIn3RefIdeal.main_arg4) = m ((c.tc : Thread Cert.AdIn3Ideal.nD Cert.AdIn3Ideal.τ).loc Cert.AdIn3Ideal.main_arg4)
      ∧ m' ((c.tc : Thread Cert.AdIn3RefIdeal.nD Cert.AdIn3RefIdeal.τ).loc Cert.AdIn3RefIdeal.main_arg5) = m ((c.tc : Thread Cert.AdIn3Ideal.nD Cert.AdIn3Ideal.τ).loc Cert.AdIn3Ideal.main_arg5)
      ∧ m' ((c.tc : Thread Cert.AdIn3RefIdeal.nD Cert.AdIn3RefIdeal.τ).loc Cert.AdIn3RefIdeal.main_arg6) = m ((c.tc : Thread Cert.AdIn3Ideal.nD Cert.AdIn3Ideal.τ).loc Cert.AdIn3Ideal.main_arg6)
      ∧ m' ((c.tc : Thread Cert.AdIn3RefIdeal.nD Cert.AdIn3RefIdeal.τ).loc Cert.AdIn3RefIdeal.main_arg7) = m ((c.tc : Thread Cert.AdIn3Ideal.nD Cert.AdIn3Ideal.τ).loc Cert.AdIn3Ideal.main_arg7)) →
    ∃ (v0 : (c : Dev Cert.AdIn3Ideal.nD) → Buf (Elt Ideal) ((c.tc : Thread Cert.AdIn3Ideal.nD Cert.AdIn3Ideal.τ).loc Cert.AdIn3Ideal.main_v0_0)) (v1 : (c : Dev Cert.AdIn3Ideal.nD) → Buf (Elt Ideal) ((c.tc : Thread Cert.AdIn3Ideal.nD Cert.AdIn3Ideal.τ).loc Cert.AdIn3Ideal.main_v0_1)) (v2 : (c : Dev Cert.AdIn3Ideal.nD) → Buf (Elt Ideal) ((c.tc : Thread Cert.AdIn3Ideal.nD Cert.AdIn3Ideal.τ).loc Cert.AdIn3Ideal.main_v0_2)) (v3 : (c : Dev Cert.AdIn3Ideal.nD) → Buf (Elt Ideal) ((c.tc : Thread Cert.AdIn3Ideal.nD Cert.AdIn3Ideal.τ).loc Cert.AdIn3Ideal.main_v0_3)),
      θ_run (Cert.AdIn3Ideal.defs (F := Ideal)) (onTc (τ := Cert.AdIn3Ideal.τ) (Cert.AdIn3Ideal.main (F := Ideal))) ⟨m, fun _ => 0, g⟩ (fun r => ∀ c : Dev Cert.AdIn3Ideal.nD,
          r.2.mem ((c.tc : Thread Cert.AdIn3Ideal.nD Cert.AdIn3Ideal.τ).loc Cert.AdIn3Ideal.main_v0_0) = v0 c
          ∧ r.2.mem ((c.tc : Thread Cert.AdIn3Ideal.nD Cert.AdIn3Ideal.τ).loc Cert.AdIn3Ideal.main_v0_1) = v1 c
          ∧ r.2.mem ((c.tc : Thread Cert.AdIn3Ideal.nD Cert.AdIn3Ideal.τ).loc Cert.AdIn3Ideal.main_v0_2) = v2 c
          ∧ r.2.mem ((c.tc : Thread Cert.AdIn3Ideal.nD Cert.AdIn3Ideal.τ).loc Cert.AdIn3Ideal.main_v0_3) = v3 c
          ∧ r.2.mem ((c.tc : Thread Cert.AdIn3Ideal.nD Cert.AdIn3Ideal.τ).loc Cert.AdIn3Ideal.main_arg0) = m ((c.tc : Thread Cert.AdIn3Ideal.nD Cert.AdIn3Ideal.τ).loc Cert.AdIn3Ideal.main_arg0)
          ∧ r.2.mem ((c.tc : Thread Cert.AdIn3Ideal.nD Cert.AdIn3Ideal.τ).loc Cert.AdIn3Ideal.main_arg1) = m ((c.tc : Thread Cert.AdIn3Ideal.nD Cert.AdIn3Ideal.τ).loc Cert.AdIn3Ideal.main_arg1)
          ∧ r.2.mem ((c.tc : Thread Cert.AdIn3Ideal.nD Cert.AdIn3Ideal.τ).loc Cert.AdIn3Ideal.main_arg2) = m ((c.tc : Thread Cert.AdIn3Ideal.nD Cert.AdIn3Ideal.τ).loc Cert.AdIn3Ideal.main_arg2)
          ∧ r.2.mem ((c.tc : Thread Cert.AdIn3Ideal.nD Cert.AdIn3Ideal.τ).loc Cert.AdIn3Ideal.main_arg3) = m ((c.tc : Thread Cert.AdIn3Ideal.nD Cert.AdIn3Ideal.τ).loc Cert.AdIn3Ideal.main_arg3)
          ∧ r.2.mem ((c.tc : Thread Cert.AdIn3Ideal.nD Cert.AdIn3Ideal.τ).loc Cert.AdIn3Ideal.main_arg4) = m ((c.tc : Thread Cert.AdIn3Ideal.nD Cert.AdIn3Ideal.τ).loc Cert.AdIn3Ideal.main_arg4)
          ∧ r.2.mem ((c.tc : Thread Cert.AdIn3Ideal.nD Cert.AdIn3Ideal.τ).loc Cert.AdIn3Ideal.main_arg5) = m ((c.tc : Thread Cert.AdIn3Ideal.nD Cert.AdIn3Ideal.τ).loc Cert.AdIn3Ideal.main_arg5)
          ∧ r.2.mem ((c.tc : Thread Cert.AdIn3Ideal.nD Cert.AdIn3Ideal.τ).loc Cert.AdIn3Ideal.main_arg6) = m ((c.tc : Thread Cert.AdIn3Ideal.nD Cert.AdIn3Ideal.τ).loc Cert.AdIn3Ideal.main_arg6)
          ∧ r.2.mem ((c.tc : Thread Cert.AdIn3Ideal.nD Cert.AdIn3Ideal.τ).loc Cert.AdIn3Ideal.main_arg7) = m ((c.tc : Thread Cert.AdIn3Ideal.nD Cert.AdIn3Ideal.τ).loc Cert.AdIn3Ideal.main_arg7))
      ∧ θ_run (Cert.AdIn3RefIdeal.defs (F := Ideal)) (onTc (τ := Cert.AdIn3RefIdeal.τ) (Cert.AdIn3RefIdeal.main (F := Ideal))) ⟨m', fun _ => 0, g'⟩ (fun r => ∀ c : Dev Cert.AdIn3RefIdeal.nD,
          r.2.mem ((c.tc : Thread Cert.AdIn3RefIdeal.nD Cert.AdIn3RefIdeal.τ).loc Cert.AdIn3RefIdeal.main_v33) = v0 c
          ∧ r.2.mem ((c.tc : Thread Cert.AdIn3RefIdeal.nD Cert.AdIn3RefIdeal.τ).loc Cert.AdIn3RefIdeal.main_v37) = v1 c
          ∧ r.2.mem ((c.tc : Thread Cert.AdIn3RefIdeal.nD Cert.AdIn3RefIdeal.τ).loc Cert.AdIn3RefIdeal.main_v41) = v2 c
          ∧ r.2.mem ((c.tc : Thread Cert.AdIn3RefIdeal.nD Cert.AdIn3RefIdeal.τ).loc Cert.AdIn3RefIdeal.main_v45) = v3 c
          ∧ r.2.mem ((c.tc : Thread Cert.AdIn3RefIdeal.nD Cert.AdIn3RefIdeal.τ).loc Cert.AdIn3RefIdeal.main_arg0) = m' ((c.tc : Thread Cert.AdIn3RefIdeal.nD Cert.AdIn3RefIdeal.τ).loc Cert.AdIn3RefIdeal.main_arg0)
          ∧ r.2.mem ((c.tc : Thread Cert.AdIn3RefIdeal.nD Cert.AdIn3RefIdeal.τ).loc Cert.AdIn3RefIdeal.main_arg1) = m' ((c.tc : Thread Cert.AdIn3RefIdeal.nD Cert.AdIn3RefIdeal.τ).loc Cert.AdIn3RefIdeal.main_arg1)
          ∧ r.2.mem ((c.tc : Thread Cert.AdIn3RefIdeal.nD Cert.AdIn3RefIdeal.τ).loc Cert.AdIn3RefIdeal.main_arg2) = m' ((c.tc : Thread Cert.AdIn3RefIdeal.nD Cert.AdIn3RefIdeal.τ).loc Cert.AdIn3RefIdeal.main_arg2)
          ∧ r.2.mem ((c.tc : Thread Cert.AdIn3RefIdeal.nD Cert.AdIn3RefIdeal.τ).loc Cert.AdIn3RefIdeal.main_arg3) = m' ((c.tc : Thread Cert.AdIn3RefIdeal.nD Cert.AdIn3RefIdeal.τ).loc Cert.AdIn3RefIdeal.main_arg3)
          ∧ r.2.mem ((c.tc : Thread Cert.AdIn3RefIdeal.nD Cert.AdIn3RefIdeal.τ).loc Cert.AdIn3RefIdeal.main_arg4) = m' ((c.tc : Thread Cert.AdIn3RefIdeal.nD Cert.AdIn3RefIdeal.τ).loc Cert.AdIn3RefIdeal.main_arg4)
          ∧ r.2.mem ((c.tc : Thread Cert.AdIn3RefIdeal.nD Cert.AdIn3RefIdeal.τ).loc Cert.AdIn3RefIdeal.main_arg5) = m' ((c.tc : Thread Cert.AdIn3RefIdeal.nD Cert.AdIn3RefIdeal.τ).loc Cert.AdIn3RefIdeal.main_arg5)
          ∧ r.2.mem ((c.tc : Thread Cert.AdIn3RefIdeal.nD Cert.AdIn3RefIdeal.τ).loc Cert.AdIn3RefIdeal.main_arg6) = m' ((c.tc : Thread Cert.AdIn3RefIdeal.nD Cert.AdIn3RefIdeal.τ).loc Cert.AdIn3RefIdeal.main_arg6)
          ∧ r.2.mem ((c.tc : Thread Cert.AdIn3RefIdeal.nD Cert.AdIn3RefIdeal.τ).loc Cert.AdIn3RefIdeal.main_arg7) = m' ((c.tc : Thread Cert.AdIn3RefIdeal.nD Cert.AdIn3RefIdeal.τ).loc Cert.AdIn3RefIdeal.main_arg7))

def preserves_AdCo0_AdCo0Ideal : Prop :=
  True

def algebraic_AdCo0Ideal_AdCo0RefIdeal [hAdCo0Ideal : Cert.AdCo0Ideal.Facts] [hAdCo0RefIdeal : Cert.AdCo0RefIdeal.Facts] : Prop :=
  ∀ (m : (ℓ : Loc Cert.AdCo0Ideal.nD Cert.AdCo0Ideal.τ Cert.AdCo0Ideal.sig) → Buf (Elt Ideal) ℓ) (g : Dev Cert.AdCo0Ideal.nD → PrngReg)
    (m' : (ℓ : Loc Cert.AdCo0RefIdeal.nD Cert.AdCo0RefIdeal.τ Cert.AdCo0RefIdeal.sig) → Buf (Elt Ideal) ℓ) (g' : Dev Cert.AdCo0RefIdeal.nD → PrngReg), Pre_AdCo0Ideal m →
    (∀ c : Dev Cert.AdCo0Ideal.nD,
      m' ((c.tc : Thread Cert.AdCo0RefIdeal.nD Cert.AdCo0RefIdeal.τ).loc Cert.AdCo0RefIdeal.main_arg0) = m ((c.tc : Thread Cert.AdCo0Ideal.nD Cert.AdCo0Ideal.τ).loc Cert.AdCo0Ideal.main_arg0)
      ∧ m' ((c.tc : Thread Cert.AdCo0RefIdeal.nD Cert.AdCo0RefIdeal.τ).loc Cert.AdCo0RefIdeal.main_arg1) = m ((c.tc : Thread Cert.AdCo0Ideal.nD Cert.AdCo0Ideal.τ).loc Cert.AdCo0Ideal.main_arg1)
      ∧ m' ((c.tc : Thread Cert.AdCo0RefIdeal.nD Cert.AdCo0RefIdeal.τ).loc Cert.AdCo0RefIdeal.main_arg2) = m ((c.tc : Thread Cert.AdCo0Ideal.nD Cert.AdCo0Ideal.τ).loc Cert.AdCo0Ideal.main_arg2)
      ∧ m' ((c.tc : Thread Cert.AdCo0RefIdeal.nD Cert.AdCo0RefIdeal.τ).loc Cert.AdCo0RefIdeal.main_arg3) = m ((c.tc : Thread Cert.AdCo0Ideal.nD Cert.AdCo0Ideal.τ).loc Cert.AdCo0Ideal.main_arg3)
      ∧ m' ((c.tc : Thread Cert.AdCo0RefIdeal.nD Cert.AdCo0RefIdeal.τ).loc Cert.AdCo0RefIdeal.main_arg4) = m ((c.tc : Thread Cert.AdCo0Ideal.nD Cert.AdCo0Ideal.τ).loc Cert.AdCo0Ideal.main_arg4)
      ∧ m' ((c.tc : Thread Cert.AdCo0RefIdeal.nD Cert.AdCo0RefIdeal.τ).loc Cert.AdCo0RefIdeal.main_arg5) = m ((c.tc : Thread Cert.AdCo0Ideal.nD Cert.AdCo0Ideal.τ).loc Cert.AdCo0Ideal.main_arg5)
      ∧ m' ((c.tc : Thread Cert.AdCo0RefIdeal.nD Cert.AdCo0RefIdeal.τ).loc Cert.AdCo0RefIdeal.main_arg6) = m ((c.tc : Thread Cert.AdCo0Ideal.nD Cert.AdCo0Ideal.τ).loc Cert.AdCo0Ideal.main_arg6)
      ∧ m' ((c.tc : Thread Cert.AdCo0RefIdeal.nD Cert.AdCo0RefIdeal.τ).loc Cert.AdCo0RefIdeal.main_arg7) = m ((c.tc : Thread Cert.AdCo0Ideal.nD Cert.AdCo0Ideal.τ).loc Cert.AdCo0Ideal.main_arg7)) →
    ∃ (v0 : (c : Dev Cert.AdCo0Ideal.nD) → Buf (Elt Ideal) ((c.tc : Thread Cert.AdCo0Ideal.nD Cert.AdCo0Ideal.τ).loc Cert.AdCo0Ideal.main_v0_0)) (v1 : (c : Dev Cert.AdCo0Ideal.nD) → Buf (Elt Ideal) ((c.tc : Thread Cert.AdCo0Ideal.nD Cert.AdCo0Ideal.τ).loc Cert.AdCo0Ideal.main_v0_1)) (v2 : (c : Dev Cert.AdCo0Ideal.nD) → Buf (Elt Ideal) ((c.tc : Thread Cert.AdCo0Ideal.nD Cert.AdCo0Ideal.τ).loc Cert.AdCo0Ideal.main_v0_2)) (v3 : (c : Dev Cert.AdCo0Ideal.nD) → Buf (Elt Ideal) ((c.tc : Thread Cert.AdCo0Ideal.nD Cert.AdCo0Ideal.τ).loc Cert.AdCo0Ideal.main_v0_3)),
      θ_run (Cert.AdCo0Ideal.defs (F := Ideal)) (onTc (τ := Cert.AdCo0Ideal.τ) (Cert.AdCo0Ideal.main (F := Ideal))) ⟨m, fun _ => 0, g⟩ (fun r => ∀ c : Dev Cert.AdCo0Ideal.nD,
          r.2.mem ((c.tc : Thread Cert.AdCo0Ideal.nD Cert.AdCo0Ideal.τ).loc Cert.AdCo0Ideal.main_v0_0) = v0 c
          ∧ r.2.mem ((c.tc : Thread Cert.AdCo0Ideal.nD Cert.AdCo0Ideal.τ).loc Cert.AdCo0Ideal.main_v0_1) = v1 c
          ∧ r.2.mem ((c.tc : Thread Cert.AdCo0Ideal.nD Cert.AdCo0Ideal.τ).loc Cert.AdCo0Ideal.main_v0_2) = v2 c
          ∧ r.2.mem ((c.tc : Thread Cert.AdCo0Ideal.nD Cert.AdCo0Ideal.τ).loc Cert.AdCo0Ideal.main_v0_3) = v3 c
          ∧ r.2.mem ((c.tc : Thread Cert.AdCo0Ideal.nD Cert.AdCo0Ideal.τ).loc Cert.AdCo0Ideal.main_arg0) = m ((c.tc : Thread Cert.AdCo0Ideal.nD Cert.AdCo0Ideal.τ).loc Cert.AdCo0Ideal.main_arg0)
          ∧ r.2.mem ((c.tc : Thread Cert.AdCo0Ideal.nD Cert.AdCo0Ideal.τ).loc Cert.AdCo0Ideal.main_arg1) = m ((c.tc : Thread Cert.AdCo0Ideal.nD Cert.AdCo0Ideal.τ).loc Cert.AdCo0Ideal.main_arg1)
          ∧ r.2.mem ((c.tc : Thread Cert.AdCo0Ideal.nD Cert.AdCo0Ideal.τ).loc Cert.AdCo0Ideal.main_arg2) = m ((c.tc : Thread Cert.AdCo0Ideal.nD Cert.AdCo0Ideal.τ).loc Cert.AdCo0Ideal.main_arg2)
          ∧ r.2.mem ((c.tc : Thread Cert.AdCo0Ideal.nD Cert.AdCo0Ideal.τ).loc Cert.AdCo0Ideal.main_arg3) = m ((c.tc : Thread Cert.AdCo0Ideal.nD Cert.AdCo0Ideal.τ).loc Cert.AdCo0Ideal.main_arg3)
          ∧ r.2.mem ((c.tc : Thread Cert.AdCo0Ideal.nD Cert.AdCo0Ideal.τ).loc Cert.AdCo0Ideal.main_arg4) = m ((c.tc : Thread Cert.AdCo0Ideal.nD Cert.AdCo0Ideal.τ).loc Cert.AdCo0Ideal.main_arg4)
          ∧ r.2.mem ((c.tc : Thread Cert.AdCo0Ideal.nD Cert.AdCo0Ideal.τ).loc Cert.AdCo0Ideal.main_arg5) = m ((c.tc : Thread Cert.AdCo0Ideal.nD Cert.AdCo0Ideal.τ).loc Cert.AdCo0Ideal.main_arg5)
          ∧ r.2.mem ((c.tc : Thread Cert.AdCo0Ideal.nD Cert.AdCo0Ideal.τ).loc Cert.AdCo0Ideal.main_arg6) = m ((c.tc : Thread Cert.AdCo0Ideal.nD Cert.AdCo0Ideal.τ).loc Cert.AdCo0Ideal.main_arg6)
          ∧ r.2.mem ((c.tc : Thread Cert.AdCo0Ideal.nD Cert.AdCo0Ideal.τ).loc Cert.AdCo0Ideal.main_arg7) = m ((c.tc : Thread Cert.AdCo0Ideal.nD Cert.AdCo0Ideal.τ).loc Cert.AdCo0Ideal.main_arg7))
      ∧ θ_run (Cert.AdCo0RefIdeal.defs (F := Ideal)) (onTc (τ := Cert.AdCo0RefIdeal.τ) (Cert.AdCo0RefIdeal.main (F := Ideal))) ⟨m', fun _ => 0, g'⟩ (fun r => ∀ c : Dev Cert.AdCo0RefIdeal.nD,
          r.2.mem ((c.tc : Thread Cert.AdCo0RefIdeal.nD Cert.AdCo0RefIdeal.τ).loc Cert.AdCo0RefIdeal.main_v33) = v0 c
          ∧ r.2.mem ((c.tc : Thread Cert.AdCo0RefIdeal.nD Cert.AdCo0RefIdeal.τ).loc Cert.AdCo0RefIdeal.main_v37) = v1 c
          ∧ r.2.mem ((c.tc : Thread Cert.AdCo0RefIdeal.nD Cert.AdCo0RefIdeal.τ).loc Cert.AdCo0RefIdeal.main_v41) = v2 c
          ∧ r.2.mem ((c.tc : Thread Cert.AdCo0RefIdeal.nD Cert.AdCo0RefIdeal.τ).loc Cert.AdCo0RefIdeal.main_v45) = v3 c
          ∧ r.2.mem ((c.tc : Thread Cert.AdCo0RefIdeal.nD Cert.AdCo0RefIdeal.τ).loc Cert.AdCo0RefIdeal.main_arg0) = m' ((c.tc : Thread Cert.AdCo0RefIdeal.nD Cert.AdCo0RefIdeal.τ).loc Cert.AdCo0RefIdeal.main_arg0)
          ∧ r.2.mem ((c.tc : Thread Cert.AdCo0RefIdeal.nD Cert.AdCo0RefIdeal.τ).loc Cert.AdCo0RefIdeal.main_arg1) = m' ((c.tc : Thread Cert.AdCo0RefIdeal.nD Cert.AdCo0RefIdeal.τ).loc Cert.AdCo0RefIdeal.main_arg1)
          ∧ r.2.mem ((c.tc : Thread Cert.AdCo0RefIdeal.nD Cert.AdCo0RefIdeal.τ).loc Cert.AdCo0RefIdeal.main_arg2) = m' ((c.tc : Thread Cert.AdCo0RefIdeal.nD Cert.AdCo0RefIdeal.τ).loc Cert.AdCo0RefIdeal.main_arg2)
          ∧ r.2.mem ((c.tc : Thread Cert.AdCo0RefIdeal.nD Cert.AdCo0RefIdeal.τ).loc Cert.AdCo0RefIdeal.main_arg3) = m' ((c.tc : Thread Cert.AdCo0RefIdeal.nD Cert.AdCo0RefIdeal.τ).loc Cert.AdCo0RefIdeal.main_arg3)
          ∧ r.2.mem ((c.tc : Thread Cert.AdCo0RefIdeal.nD Cert.AdCo0RefIdeal.τ).loc Cert.AdCo0RefIdeal.main_arg4) = m' ((c.tc : Thread Cert.AdCo0RefIdeal.nD Cert.AdCo0RefIdeal.τ).loc Cert.AdCo0RefIdeal.main_arg4)
          ∧ r.2.mem ((c.tc : Thread Cert.AdCo0RefIdeal.nD Cert.AdCo0RefIdeal.τ).loc Cert.AdCo0RefIdeal.main_arg5) = m' ((c.tc : Thread Cert.AdCo0RefIdeal.nD Cert.AdCo0RefIdeal.τ).loc Cert.AdCo0RefIdeal.main_arg5)
          ∧ r.2.mem ((c.tc : Thread Cert.AdCo0RefIdeal.nD Cert.AdCo0RefIdeal.τ).loc Cert.AdCo0RefIdeal.main_arg6) = m' ((c.tc : Thread Cert.AdCo0RefIdeal.nD Cert.AdCo0RefIdeal.τ).loc Cert.AdCo0RefIdeal.main_arg6)
          ∧ r.2.mem ((c.tc : Thread Cert.AdCo0RefIdeal.nD Cert.AdCo0RefIdeal.τ).loc Cert.AdCo0RefIdeal.main_arg7) = m' ((c.tc : Thread Cert.AdCo0RefIdeal.nD Cert.AdCo0RefIdeal.τ).loc Cert.AdCo0RefIdeal.main_arg7))

def preserves_AdCo1_AdCo1Ideal : Prop :=
  True

def algebraic_AdCo1Ideal_AdCo1RefIdeal [hAdCo1Ideal : Cert.AdCo1Ideal.Facts] [hAdCo1RefIdeal : Cert.AdCo1RefIdeal.Facts] : Prop :=
  ∀ (m : (ℓ : Loc Cert.AdCo1Ideal.nD Cert.AdCo1Ideal.τ Cert.AdCo1Ideal.sig) → Buf (Elt Ideal) ℓ) (g : Dev Cert.AdCo1Ideal.nD → PrngReg)
    (m' : (ℓ : Loc Cert.AdCo1RefIdeal.nD Cert.AdCo1RefIdeal.τ Cert.AdCo1RefIdeal.sig) → Buf (Elt Ideal) ℓ) (g' : Dev Cert.AdCo1RefIdeal.nD → PrngReg), Pre_AdCo1Ideal m →
    (∀ c : Dev Cert.AdCo1Ideal.nD,
      m' ((c.tc : Thread Cert.AdCo1RefIdeal.nD Cert.AdCo1RefIdeal.τ).loc Cert.AdCo1RefIdeal.main_arg0) = m ((c.tc : Thread Cert.AdCo1Ideal.nD Cert.AdCo1Ideal.τ).loc Cert.AdCo1Ideal.main_arg0)
      ∧ m' ((c.tc : Thread Cert.AdCo1RefIdeal.nD Cert.AdCo1RefIdeal.τ).loc Cert.AdCo1RefIdeal.main_arg1) = m ((c.tc : Thread Cert.AdCo1Ideal.nD Cert.AdCo1Ideal.τ).loc Cert.AdCo1Ideal.main_arg1)
      ∧ m' ((c.tc : Thread Cert.AdCo1RefIdeal.nD Cert.AdCo1RefIdeal.τ).loc Cert.AdCo1RefIdeal.main_arg2) = m ((c.tc : Thread Cert.AdCo1Ideal.nD Cert.AdCo1Ideal.τ).loc Cert.AdCo1Ideal.main_arg2)
      ∧ m' ((c.tc : Thread Cert.AdCo1RefIdeal.nD Cert.AdCo1RefIdeal.τ).loc Cert.AdCo1RefIdeal.main_arg3) = m ((c.tc : Thread Cert.AdCo1Ideal.nD Cert.AdCo1Ideal.τ).loc Cert.AdCo1Ideal.main_arg3)
      ∧ m' ((c.tc : Thread Cert.AdCo1RefIdeal.nD Cert.AdCo1RefIdeal.τ).loc Cert.AdCo1RefIdeal.main_arg4) = m ((c.tc : Thread Cert.AdCo1Ideal.nD Cert.AdCo1Ideal.τ).loc Cert.AdCo1Ideal.main_arg4)
      ∧ m' ((c.tc : Thread Cert.AdCo1RefIdeal.nD Cert.AdCo1RefIdeal.τ).loc Cert.AdCo1RefIdeal.main_arg5) = m ((c.tc : Thread Cert.AdCo1Ideal.nD Cert.AdCo1Ideal.τ).loc Cert.AdCo1Ideal.main_arg5)
      ∧ m' ((c.tc : Thread Cert.AdCo1RefIdeal.nD Cert.AdCo1RefIdeal.τ).loc Cert.AdCo1RefIdeal.main_arg6) = m ((c.tc : Thread Cert.AdCo1Ideal.nD Cert.AdCo1Ideal.τ).loc Cert.AdCo1Ideal.main_arg6)
      ∧ m' ((c.tc : Thread Cert.AdCo1RefIdeal.nD Cert.AdCo1RefIdeal.τ).loc Cert.AdCo1RefIdeal.main_arg7) = m ((c.tc : Thread Cert.AdCo1Ideal.nD Cert.AdCo1Ideal.τ).loc Cert.AdCo1Ideal.main_arg7)) →
    ∃ (v0 : (c : Dev Cert.AdCo1Ideal.nD) → Buf (Elt Ideal) ((c.tc : Thread Cert.AdCo1Ideal.nD Cert.AdCo1Ideal.τ).loc Cert.AdCo1Ideal.main_v0_0)) (v1 : (c : Dev Cert.AdCo1Ideal.nD) → Buf (Elt Ideal) ((c.tc : Thread Cert.AdCo1Ideal.nD Cert.AdCo1Ideal.τ).loc Cert.AdCo1Ideal.main_v0_1)) (v2 : (c : Dev Cert.AdCo1Ideal.nD) → Buf (Elt Ideal) ((c.tc : Thread Cert.AdCo1Ideal.nD Cert.AdCo1Ideal.τ).loc Cert.AdCo1Ideal.main_v0_2)) (v3 : (c : Dev Cert.AdCo1Ideal.nD) → Buf (Elt Ideal) ((c.tc : Thread Cert.AdCo1Ideal.nD Cert.AdCo1Ideal.τ).loc Cert.AdCo1Ideal.main_v0_3)),
      θ_run (Cert.AdCo1Ideal.defs (F := Ideal)) (onTc (τ := Cert.AdCo1Ideal.τ) (Cert.AdCo1Ideal.main (F := Ideal))) ⟨m, fun _ => 0, g⟩ (fun r => ∀ c : Dev Cert.AdCo1Ideal.nD,
          r.2.mem ((c.tc : Thread Cert.AdCo1Ideal.nD Cert.AdCo1Ideal.τ).loc Cert.AdCo1Ideal.main_v0_0) = v0 c
          ∧ r.2.mem ((c.tc : Thread Cert.AdCo1Ideal.nD Cert.AdCo1Ideal.τ).loc Cert.AdCo1Ideal.main_v0_1) = v1 c
          ∧ r.2.mem ((c.tc : Thread Cert.AdCo1Ideal.nD Cert.AdCo1Ideal.τ).loc Cert.AdCo1Ideal.main_v0_2) = v2 c
          ∧ r.2.mem ((c.tc : Thread Cert.AdCo1Ideal.nD Cert.AdCo1Ideal.τ).loc Cert.AdCo1Ideal.main_v0_3) = v3 c
          ∧ r.2.mem ((c.tc : Thread Cert.AdCo1Ideal.nD Cert.AdCo1Ideal.τ).loc Cert.AdCo1Ideal.main_arg0) = m ((c.tc : Thread Cert.AdCo1Ideal.nD Cert.AdCo1Ideal.τ).loc Cert.AdCo1Ideal.main_arg0)
          ∧ r.2.mem ((c.tc : Thread Cert.AdCo1Ideal.nD Cert.AdCo1Ideal.τ).loc Cert.AdCo1Ideal.main_arg1) = m ((c.tc : Thread Cert.AdCo1Ideal.nD Cert.AdCo1Ideal.τ).loc Cert.AdCo1Ideal.main_arg1)
          ∧ r.2.mem ((c.tc : Thread Cert.AdCo1Ideal.nD Cert.AdCo1Ideal.τ).loc Cert.AdCo1Ideal.main_arg2) = m ((c.tc : Thread Cert.AdCo1Ideal.nD Cert.AdCo1Ideal.τ).loc Cert.AdCo1Ideal.main_arg2)
          ∧ r.2.mem ((c.tc : Thread Cert.AdCo1Ideal.nD Cert.AdCo1Ideal.τ).loc Cert.AdCo1Ideal.main_arg3) = m ((c.tc : Thread Cert.AdCo1Ideal.nD Cert.AdCo1Ideal.τ).loc Cert.AdCo1Ideal.main_arg3)
          ∧ r.2.mem ((c.tc : Thread Cert.AdCo1Ideal.nD Cert.AdCo1Ideal.τ).loc Cert.AdCo1Ideal.main_arg4) = m ((c.tc : Thread Cert.AdCo1Ideal.nD Cert.AdCo1Ideal.τ).loc Cert.AdCo1Ideal.main_arg4)
          ∧ r.2.mem ((c.tc : Thread Cert.AdCo1Ideal.nD Cert.AdCo1Ideal.τ).loc Cert.AdCo1Ideal.main_arg5) = m ((c.tc : Thread Cert.AdCo1Ideal.nD Cert.AdCo1Ideal.τ).loc Cert.AdCo1Ideal.main_arg5)
          ∧ r.2.mem ((c.tc : Thread Cert.AdCo1Ideal.nD Cert.AdCo1Ideal.τ).loc Cert.AdCo1Ideal.main_arg6) = m ((c.tc : Thread Cert.AdCo1Ideal.nD Cert.AdCo1Ideal.τ).loc Cert.AdCo1Ideal.main_arg6)
          ∧ r.2.mem ((c.tc : Thread Cert.AdCo1Ideal.nD Cert.AdCo1Ideal.τ).loc Cert.AdCo1Ideal.main_arg7) = m ((c.tc : Thread Cert.AdCo1Ideal.nD Cert.AdCo1Ideal.τ).loc Cert.AdCo1Ideal.main_arg7))
      ∧ θ_run (Cert.AdCo1RefIdeal.defs (F := Ideal)) (onTc (τ := Cert.AdCo1RefIdeal.τ) (Cert.AdCo1RefIdeal.main (F := Ideal))) ⟨m', fun _ => 0, g'⟩ (fun r => ∀ c : Dev Cert.AdCo1RefIdeal.nD,
          r.2.mem ((c.tc : Thread Cert.AdCo1RefIdeal.nD Cert.AdCo1RefIdeal.τ).loc Cert.AdCo1RefIdeal.main_v33) = v0 c
          ∧ r.2.mem ((c.tc : Thread Cert.AdCo1RefIdeal.nD Cert.AdCo1RefIdeal.τ).loc Cert.AdCo1RefIdeal.main_v37) = v1 c
          ∧ r.2.mem ((c.tc : Thread Cert.AdCo1RefIdeal.nD Cert.AdCo1RefIdeal.τ).loc Cert.AdCo1RefIdeal.main_v41) = v2 c
          ∧ r.2.mem ((c.tc : Thread Cert.AdCo1RefIdeal.nD Cert.AdCo1RefIdeal.τ).loc Cert.AdCo1RefIdeal.main_v45) = v3 c
          ∧ r.2.mem ((c.tc : Thread Cert.AdCo1RefIdeal.nD Cert.AdCo1RefIdeal.τ).loc Cert.AdCo1RefIdeal.main_arg0) = m' ((c.tc : Thread Cert.AdCo1RefIdeal.nD Cert.AdCo1RefIdeal.τ).loc Cert.AdCo1RefIdeal.main_arg0)
          ∧ r.2.mem ((c.tc : Thread Cert.AdCo1RefIdeal.nD Cert.AdCo1RefIdeal.τ).loc Cert.AdCo1RefIdeal.main_arg1) = m' ((c.tc : Thread Cert.AdCo1RefIdeal.nD Cert.AdCo1RefIdeal.τ).loc Cert.AdCo1RefIdeal.main_arg1)
          ∧ r.2.mem ((c.tc : Thread Cert.AdCo1RefIdeal.nD Cert.AdCo1RefIdeal.τ).loc Cert.AdCo1RefIdeal.main_arg2) = m' ((c.tc : Thread Cert.AdCo1RefIdeal.nD Cert.AdCo1RefIdeal.τ).loc Cert.AdCo1RefIdeal.main_arg2)
          ∧ r.2.mem ((c.tc : Thread Cert.AdCo1RefIdeal.nD Cert.AdCo1RefIdeal.τ).loc Cert.AdCo1RefIdeal.main_arg3) = m' ((c.tc : Thread Cert.AdCo1RefIdeal.nD Cert.AdCo1RefIdeal.τ).loc Cert.AdCo1RefIdeal.main_arg3)
          ∧ r.2.mem ((c.tc : Thread Cert.AdCo1RefIdeal.nD Cert.AdCo1RefIdeal.τ).loc Cert.AdCo1RefIdeal.main_arg4) = m' ((c.tc : Thread Cert.AdCo1RefIdeal.nD Cert.AdCo1RefIdeal.τ).loc Cert.AdCo1RefIdeal.main_arg4)
          ∧ r.2.mem ((c.tc : Thread Cert.AdCo1RefIdeal.nD Cert.AdCo1RefIdeal.τ).loc Cert.AdCo1RefIdeal.main_arg5) = m' ((c.tc : Thread Cert.AdCo1RefIdeal.nD Cert.AdCo1RefIdeal.τ).loc Cert.AdCo1RefIdeal.main_arg5)
          ∧ r.2.mem ((c.tc : Thread Cert.AdCo1RefIdeal.nD Cert.AdCo1RefIdeal.τ).loc Cert.AdCo1RefIdeal.main_arg6) = m' ((c.tc : Thread Cert.AdCo1RefIdeal.nD Cert.AdCo1RefIdeal.τ).loc Cert.AdCo1RefIdeal.main_arg6)
          ∧ r.2.mem ((c.tc : Thread Cert.AdCo1RefIdeal.nD Cert.AdCo1RefIdeal.τ).loc Cert.AdCo1RefIdeal.main_arg7) = m' ((c.tc : Thread Cert.AdCo1RefIdeal.nD Cert.AdCo1RefIdeal.τ).loc Cert.AdCo1RefIdeal.main_arg7))

def preserves_AdCo2_AdCo2Ideal : Prop :=
  True

def algebraic_AdCo2Ideal_AdCo2RefIdeal [hAdCo2Ideal : Cert.AdCo2Ideal.Facts] [hAdCo2RefIdeal : Cert.AdCo2RefIdeal.Facts] : Prop :=
  ∀ (m : (ℓ : Loc Cert.AdCo2Ideal.nD Cert.AdCo2Ideal.τ Cert.AdCo2Ideal.sig) → Buf (Elt Ideal) ℓ) (g : Dev Cert.AdCo2Ideal.nD → PrngReg)
    (m' : (ℓ : Loc Cert.AdCo2RefIdeal.nD Cert.AdCo2RefIdeal.τ Cert.AdCo2RefIdeal.sig) → Buf (Elt Ideal) ℓ) (g' : Dev Cert.AdCo2RefIdeal.nD → PrngReg), Pre_AdCo2Ideal m →
    (∀ c : Dev Cert.AdCo2Ideal.nD,
      m' ((c.tc : Thread Cert.AdCo2RefIdeal.nD Cert.AdCo2RefIdeal.τ).loc Cert.AdCo2RefIdeal.main_arg0) = m ((c.tc : Thread Cert.AdCo2Ideal.nD Cert.AdCo2Ideal.τ).loc Cert.AdCo2Ideal.main_arg0)
      ∧ m' ((c.tc : Thread Cert.AdCo2RefIdeal.nD Cert.AdCo2RefIdeal.τ).loc Cert.AdCo2RefIdeal.main_arg1) = m ((c.tc : Thread Cert.AdCo2Ideal.nD Cert.AdCo2Ideal.τ).loc Cert.AdCo2Ideal.main_arg1)
      ∧ m' ((c.tc : Thread Cert.AdCo2RefIdeal.nD Cert.AdCo2RefIdeal.τ).loc Cert.AdCo2RefIdeal.main_arg2) = m ((c.tc : Thread Cert.AdCo2Ideal.nD Cert.AdCo2Ideal.τ).loc Cert.AdCo2Ideal.main_arg2)
      ∧ m' ((c.tc : Thread Cert.AdCo2RefIdeal.nD Cert.AdCo2RefIdeal.τ).loc Cert.AdCo2RefIdeal.main_arg3) = m ((c.tc : Thread Cert.AdCo2Ideal.nD Cert.AdCo2Ideal.τ).loc Cert.AdCo2Ideal.main_arg3)
      ∧ m' ((c.tc : Thread Cert.AdCo2RefIdeal.nD Cert.AdCo2RefIdeal.τ).loc Cert.AdCo2RefIdeal.main_arg4) = m ((c.tc : Thread Cert.AdCo2Ideal.nD Cert.AdCo2Ideal.τ).loc Cert.AdCo2Ideal.main_arg4)
      ∧ m' ((c.tc : Thread Cert.AdCo2RefIdeal.nD Cert.AdCo2RefIdeal.τ).loc Cert.AdCo2RefIdeal.main_arg5) = m ((c.tc : Thread Cert.AdCo2Ideal.nD Cert.AdCo2Ideal.τ).loc Cert.AdCo2Ideal.main_arg5)
      ∧ m' ((c.tc : Thread Cert.AdCo2RefIdeal.nD Cert.AdCo2RefIdeal.τ).loc Cert.AdCo2RefIdeal.main_arg6) = m ((c.tc : Thread Cert.AdCo2Ideal.nD Cert.AdCo2Ideal.τ).loc Cert.AdCo2Ideal.main_arg6)
      ∧ m' ((c.tc : Thread Cert.AdCo2RefIdeal.nD Cert.AdCo2RefIdeal.τ).loc Cert.AdCo2RefIdeal.main_arg7) = m ((c.tc : Thread Cert.AdCo2Ideal.nD Cert.AdCo2Ideal.τ).loc Cert.AdCo2Ideal.main_arg7)) →
    ∃ (v0 : (c : Dev Cert.AdCo2Ideal.nD) → Buf (Elt Ideal) ((c.tc : Thread Cert.AdCo2Ideal.nD Cert.AdCo2Ideal.τ).loc Cert.AdCo2Ideal.main_v0_0)) (v1 : (c : Dev Cert.AdCo2Ideal.nD) → Buf (Elt Ideal) ((c.tc : Thread Cert.AdCo2Ideal.nD Cert.AdCo2Ideal.τ).loc Cert.AdCo2Ideal.main_v0_1)) (v2 : (c : Dev Cert.AdCo2Ideal.nD) → Buf (Elt Ideal) ((c.tc : Thread Cert.AdCo2Ideal.nD Cert.AdCo2Ideal.τ).loc Cert.AdCo2Ideal.main_v0_2)) (v3 : (c : Dev Cert.AdCo2Ideal.nD) → Buf (Elt Ideal) ((c.tc : Thread Cert.AdCo2Ideal.nD Cert.AdCo2Ideal.τ).loc Cert.AdCo2Ideal.main_v0_3)),
      θ_run (Cert.AdCo2Ideal.defs (F := Ideal)) (onTc (τ := Cert.AdCo2Ideal.τ) (Cert.AdCo2Ideal.main (F := Ideal))) ⟨m, fun _ => 0, g⟩ (fun r => ∀ c : Dev Cert.AdCo2Ideal.nD,
          r.2.mem ((c.tc : Thread Cert.AdCo2Ideal.nD Cert.AdCo2Ideal.τ).loc Cert.AdCo2Ideal.main_v0_0) = v0 c
          ∧ r.2.mem ((c.tc : Thread Cert.AdCo2Ideal.nD Cert.AdCo2Ideal.τ).loc Cert.AdCo2Ideal.main_v0_1) = v1 c
          ∧ r.2.mem ((c.tc : Thread Cert.AdCo2Ideal.nD Cert.AdCo2Ideal.τ).loc Cert.AdCo2Ideal.main_v0_2) = v2 c
          ∧ r.2.mem ((c.tc : Thread Cert.AdCo2Ideal.nD Cert.AdCo2Ideal.τ).loc Cert.AdCo2Ideal.main_v0_3) = v3 c
          ∧ r.2.mem ((c.tc : Thread Cert.AdCo2Ideal.nD Cert.AdCo2Ideal.τ).loc Cert.AdCo2Ideal.main_arg0) = m ((c.tc : Thread Cert.AdCo2Ideal.nD Cert.AdCo2Ideal.τ).loc Cert.AdCo2Ideal.main_arg0)
          ∧ r.2.mem ((c.tc : Thread Cert.AdCo2Ideal.nD Cert.AdCo2Ideal.τ).loc Cert.AdCo2Ideal.main_arg1) = m ((c.tc : Thread Cert.AdCo2Ideal.nD Cert.AdCo2Ideal.τ).loc Cert.AdCo2Ideal.main_arg1)
          ∧ r.2.mem ((c.tc : Thread Cert.AdCo2Ideal.nD Cert.AdCo2Ideal.τ).loc Cert.AdCo2Ideal.main_arg2) = m ((c.tc : Thread Cert.AdCo2Ideal.nD Cert.AdCo2Ideal.τ).loc Cert.AdCo2Ideal.main_arg2)
          ∧ r.2.mem ((c.tc : Thread Cert.AdCo2Ideal.nD Cert.AdCo2Ideal.τ).loc Cert.AdCo2Ideal.main_arg3) = m ((c.tc : Thread Cert.AdCo2Ideal.nD Cert.AdCo2Ideal.τ).loc Cert.AdCo2Ideal.main_arg3)
          ∧ r.2.mem ((c.tc : Thread Cert.AdCo2Ideal.nD Cert.AdCo2Ideal.τ).loc Cert.AdCo2Ideal.main_arg4) = m ((c.tc : Thread Cert.AdCo2Ideal.nD Cert.AdCo2Ideal.τ).loc Cert.AdCo2Ideal.main_arg4)
          ∧ r.2.mem ((c.tc : Thread Cert.AdCo2Ideal.nD Cert.AdCo2Ideal.τ).loc Cert.AdCo2Ideal.main_arg5) = m ((c.tc : Thread Cert.AdCo2Ideal.nD Cert.AdCo2Ideal.τ).loc Cert.AdCo2Ideal.main_arg5)
          ∧ r.2.mem ((c.tc : Thread Cert.AdCo2Ideal.nD Cert.AdCo2Ideal.τ).loc Cert.AdCo2Ideal.main_arg6) = m ((c.tc : Thread Cert.AdCo2Ideal.nD Cert.AdCo2Ideal.τ).loc Cert.AdCo2Ideal.main_arg6)
          ∧ r.2.mem ((c.tc : Thread Cert.AdCo2Ideal.nD Cert.AdCo2Ideal.τ).loc Cert.AdCo2Ideal.main_arg7) = m ((c.tc : Thread Cert.AdCo2Ideal.nD Cert.AdCo2Ideal.τ).loc Cert.AdCo2Ideal.main_arg7))
      ∧ θ_run (Cert.AdCo2RefIdeal.defs (F := Ideal)) (onTc (τ := Cert.AdCo2RefIdeal.τ) (Cert.AdCo2RefIdeal.main (F := Ideal))) ⟨m', fun _ => 0, g'⟩ (fun r => ∀ c : Dev Cert.AdCo2RefIdeal.nD,
          r.2.mem ((c.tc : Thread Cert.AdCo2RefIdeal.nD Cert.AdCo2RefIdeal.τ).loc Cert.AdCo2RefIdeal.main_v33) = v0 c
          ∧ r.2.mem ((c.tc : Thread Cert.AdCo2RefIdeal.nD Cert.AdCo2RefIdeal.τ).loc Cert.AdCo2RefIdeal.main_v37) = v1 c
          ∧ r.2.mem ((c.tc : Thread Cert.AdCo2RefIdeal.nD Cert.AdCo2RefIdeal.τ).loc Cert.AdCo2RefIdeal.main_v41) = v2 c
          ∧ r.2.mem ((c.tc : Thread Cert.AdCo2RefIdeal.nD Cert.AdCo2RefIdeal.τ).loc Cert.AdCo2RefIdeal.main_v45) = v3 c
          ∧ r.2.mem ((c.tc : Thread Cert.AdCo2RefIdeal.nD Cert.AdCo2RefIdeal.τ).loc Cert.AdCo2RefIdeal.main_arg0) = m' ((c.tc : Thread Cert.AdCo2RefIdeal.nD Cert.AdCo2RefIdeal.τ).loc Cert.AdCo2RefIdeal.main_arg0)
          ∧ r.2.mem ((c.tc : Thread Cert.AdCo2RefIdeal.nD Cert.AdCo2RefIdeal.τ).loc Cert.AdCo2RefIdeal.main_arg1) = m' ((c.tc : Thread Cert.AdCo2RefIdeal.nD Cert.AdCo2RefIdeal.τ).loc Cert.AdCo2RefIdeal.main_arg1)
          ∧ r.2.mem ((c.tc : Thread Cert.AdCo2RefIdeal.nD Cert.AdCo2RefIdeal.τ).loc Cert.AdCo2RefIdeal.main_arg2) = m' ((c.tc : Thread Cert.AdCo2RefIdeal.nD Cert.AdCo2RefIdeal.τ).loc Cert.AdCo2RefIdeal.main_arg2)
          ∧ r.2.mem ((c.tc : Thread Cert.AdCo2RefIdeal.nD Cert.AdCo2RefIdeal.τ).loc Cert.AdCo2RefIdeal.main_arg3) = m' ((c.tc : Thread Cert.AdCo2RefIdeal.nD Cert.AdCo2RefIdeal.τ).loc Cert.AdCo2RefIdeal.main_arg3)
          ∧ r.2.mem ((c.tc : Thread Cert.AdCo2RefIdeal.nD Cert.AdCo2RefIdeal.τ).loc Cert.AdCo2RefIdeal.main_arg4) = m' ((c.tc : Thread Cert.AdCo2RefIdeal.nD Cert.AdCo2RefIdeal.τ).loc Cert.AdCo2RefIdeal.main_arg4)
          ∧ r.2.mem ((c.tc : Thread Cert.AdCo2RefIdeal.nD Cert.AdCo2RefIdeal.τ).loc Cert.AdCo2RefIdeal.main_arg5) = m' ((c.tc : Thread Cert.AdCo2RefIdeal.nD Cert.AdCo2RefIdeal.τ).loc Cert.AdCo2RefIdeal.main_arg5)
          ∧ r.2.mem ((c.tc : Thread Cert.AdCo2RefIdeal.nD Cert.AdCo2RefIdeal.τ).loc Cert.AdCo2RefIdeal.main_arg6) = m' ((c.tc : Thread Cert.AdCo2RefIdeal.nD Cert.AdCo2RefIdeal.τ).loc Cert.AdCo2RefIdeal.main_arg6)
          ∧ r.2.mem ((c.tc : Thread Cert.AdCo2RefIdeal.nD Cert.AdCo2RefIdeal.τ).loc Cert.AdCo2RefIdeal.main_arg7) = m' ((c.tc : Thread Cert.AdCo2RefIdeal.nD Cert.AdCo2RefIdeal.τ).loc Cert.AdCo2RefIdeal.main_arg7))

def preserves_AdCo3_AdCo3Ideal : Prop :=
  True

def algebraic_AdCo3Ideal_AdCo3RefIdeal [hAdCo3Ideal : Cert.AdCo3Ideal.Facts] [hAdCo3RefIdeal : Cert.AdCo3RefIdeal.Facts] : Prop :=
  ∀ (m : (ℓ : Loc Cert.AdCo3Ideal.nD Cert.AdCo3Ideal.τ Cert.AdCo3Ideal.sig) → Buf (Elt Ideal) ℓ) (g : Dev Cert.AdCo3Ideal.nD → PrngReg)
    (m' : (ℓ : Loc Cert.AdCo3RefIdeal.nD Cert.AdCo3RefIdeal.τ Cert.AdCo3RefIdeal.sig) → Buf (Elt Ideal) ℓ) (g' : Dev Cert.AdCo3RefIdeal.nD → PrngReg), Pre_AdCo3Ideal m →
    (∀ c : Dev Cert.AdCo3Ideal.nD,
      m' ((c.tc : Thread Cert.AdCo3RefIdeal.nD Cert.AdCo3RefIdeal.τ).loc Cert.AdCo3RefIdeal.main_arg0) = m ((c.tc : Thread Cert.AdCo3Ideal.nD Cert.AdCo3Ideal.τ).loc Cert.AdCo3Ideal.main_arg0)
      ∧ m' ((c.tc : Thread Cert.AdCo3RefIdeal.nD Cert.AdCo3RefIdeal.τ).loc Cert.AdCo3RefIdeal.main_arg1) = m ((c.tc : Thread Cert.AdCo3Ideal.nD Cert.AdCo3Ideal.τ).loc Cert.AdCo3Ideal.main_arg1)
      ∧ m' ((c.tc : Thread Cert.AdCo3RefIdeal.nD Cert.AdCo3RefIdeal.τ).loc Cert.AdCo3RefIdeal.main_arg2) = m ((c.tc : Thread Cert.AdCo3Ideal.nD Cert.AdCo3Ideal.τ).loc Cert.AdCo3Ideal.main_arg2)
      ∧ m' ((c.tc : Thread Cert.AdCo3RefIdeal.nD Cert.AdCo3RefIdeal.τ).loc Cert.AdCo3RefIdeal.main_arg3) = m ((c.tc : Thread Cert.AdCo3Ideal.nD Cert.AdCo3Ideal.τ).loc Cert.AdCo3Ideal.main_arg3)
      ∧ m' ((c.tc : Thread Cert.AdCo3RefIdeal.nD Cert.AdCo3RefIdeal.τ).loc Cert.AdCo3RefIdeal.main_arg4) = m ((c.tc : Thread Cert.AdCo3Ideal.nD Cert.AdCo3Ideal.τ).loc Cert.AdCo3Ideal.main_arg4)
      ∧ m' ((c.tc : Thread Cert.AdCo3RefIdeal.nD Cert.AdCo3RefIdeal.τ).loc Cert.AdCo3RefIdeal.main_arg5) = m ((c.tc : Thread Cert.AdCo3Ideal.nD Cert.AdCo3Ideal.τ).loc Cert.AdCo3Ideal.main_arg5)
      ∧ m' ((c.tc : Thread Cert.AdCo3RefIdeal.nD Cert.AdCo3RefIdeal.τ).loc Cert.AdCo3RefIdeal.main_arg6) = m ((c.tc : Thread Cert.AdCo3Ideal.nD Cert.AdCo3Ideal.τ).loc Cert.AdCo3Ideal.main_arg6)
      ∧ m' ((c.tc : Thread Cert.AdCo3RefIdeal.nD Cert.AdCo3RefIdeal.τ).loc Cert.AdCo3RefIdeal.main_arg7) = m ((c.tc : Thread Cert.AdCo3Ideal.nD Cert.AdCo3Ideal.τ).loc Cert.AdCo3Ideal.main_arg7)) →
    ∃ (v0 : (c : Dev Cert.AdCo3Ideal.nD) → Buf (Elt Ideal) ((c.tc : Thread Cert.AdCo3Ideal.nD Cert.AdCo3Ideal.τ).loc Cert.AdCo3Ideal.main_v0_0)) (v1 : (c : Dev Cert.AdCo3Ideal.nD) → Buf (Elt Ideal) ((c.tc : Thread Cert.AdCo3Ideal.nD Cert.AdCo3Ideal.τ).loc Cert.AdCo3Ideal.main_v0_1)) (v2 : (c : Dev Cert.AdCo3Ideal.nD) → Buf (Elt Ideal) ((c.tc : Thread Cert.AdCo3Ideal.nD Cert.AdCo3Ideal.τ).loc Cert.AdCo3Ideal.main_v0_2)) (v3 : (c : Dev Cert.AdCo3Ideal.nD) → Buf (Elt Ideal) ((c.tc : Thread Cert.AdCo3Ideal.nD Cert.AdCo3Ideal.τ).loc Cert.AdCo3Ideal.main_v0_3)),
      θ_run (Cert.AdCo3Ideal.defs (F := Ideal)) (onTc (τ := Cert.AdCo3Ideal.τ) (Cert.AdCo3Ideal.main (F := Ideal))) ⟨m, fun _ => 0, g⟩ (fun r => ∀ c : Dev Cert.AdCo3Ideal.nD,
          r.2.mem ((c.tc : Thread Cert.AdCo3Ideal.nD Cert.AdCo3Ideal.τ).loc Cert.AdCo3Ideal.main_v0_0) = v0 c
          ∧ r.2.mem ((c.tc : Thread Cert.AdCo3Ideal.nD Cert.AdCo3Ideal.τ).loc Cert.AdCo3Ideal.main_v0_1) = v1 c
          ∧ r.2.mem ((c.tc : Thread Cert.AdCo3Ideal.nD Cert.AdCo3Ideal.τ).loc Cert.AdCo3Ideal.main_v0_2) = v2 c
          ∧ r.2.mem ((c.tc : Thread Cert.AdCo3Ideal.nD Cert.AdCo3Ideal.τ).loc Cert.AdCo3Ideal.main_v0_3) = v3 c
          ∧ r.2.mem ((c.tc : Thread Cert.AdCo3Ideal.nD Cert.AdCo3Ideal.τ).loc Cert.AdCo3Ideal.main_arg0) = m ((c.tc : Thread Cert.AdCo3Ideal.nD Cert.AdCo3Ideal.τ).loc Cert.AdCo3Ideal.main_arg0)
          ∧ r.2.mem ((c.tc : Thread Cert.AdCo3Ideal.nD Cert.AdCo3Ideal.τ).loc Cert.AdCo3Ideal.main_arg1) = m ((c.tc : Thread Cert.AdCo3Ideal.nD Cert.AdCo3Ideal.τ).loc Cert.AdCo3Ideal.main_arg1)
          ∧ r.2.mem ((c.tc : Thread Cert.AdCo3Ideal.nD Cert.AdCo3Ideal.τ).loc Cert.AdCo3Ideal.main_arg2) = m ((c.tc : Thread Cert.AdCo3Ideal.nD Cert.AdCo3Ideal.τ).loc Cert.AdCo3Ideal.main_arg2)
          ∧ r.2.mem ((c.tc : Thread Cert.AdCo3Ideal.nD Cert.AdCo3Ideal.τ).loc Cert.AdCo3Ideal.main_arg3) = m ((c.tc : Thread Cert.AdCo3Ideal.nD Cert.AdCo3Ideal.τ).loc Cert.AdCo3Ideal.main_arg3)
          ∧ r.2.mem ((c.tc : Thread Cert.AdCo3Ideal.nD Cert.AdCo3Ideal.τ).loc Cert.AdCo3Ideal.main_arg4) = m ((c.tc : Thread Cert.AdCo3Ideal.nD Cert.AdCo3Ideal.τ).loc Cert.AdCo3Ideal.main_arg4)
          ∧ r.2.mem ((c.tc : Thread Cert.AdCo3Ideal.nD Cert.AdCo3Ideal.τ).loc Cert.AdCo3Ideal.main_arg5) = m ((c.tc : Thread Cert.AdCo3Ideal.nD Cert.AdCo3Ideal.τ).loc Cert.AdCo3Ideal.main_arg5)
          ∧ r.2.mem ((c.tc : Thread Cert.AdCo3Ideal.nD Cert.AdCo3Ideal.τ).loc Cert.AdCo3Ideal.main_arg6) = m ((c.tc : Thread Cert.AdCo3Ideal.nD Cert.AdCo3Ideal.τ).loc Cert.AdCo3Ideal.main_arg6)
          ∧ r.2.mem ((c.tc : Thread Cert.AdCo3Ideal.nD Cert.AdCo3Ideal.τ).loc Cert.AdCo3Ideal.main_arg7) = m ((c.tc : Thread Cert.AdCo3Ideal.nD Cert.AdCo3Ideal.τ).loc Cert.AdCo3Ideal.main_arg7))
      ∧ θ_run (Cert.AdCo3RefIdeal.defs (F := Ideal)) (onTc (τ := Cert.AdCo3RefIdeal.τ) (Cert.AdCo3RefIdeal.main (F := Ideal))) ⟨m', fun _ => 0, g'⟩ (fun r => ∀ c : Dev Cert.AdCo3RefIdeal.nD,
          r.2.mem ((c.tc : Thread Cert.AdCo3RefIdeal.nD Cert.AdCo3RefIdeal.τ).loc Cert.AdCo3RefIdeal.main_v33) = v0 c
          ∧ r.2.mem ((c.tc : Thread Cert.AdCo3RefIdeal.nD Cert.AdCo3RefIdeal.τ).loc Cert.AdCo3RefIdeal.main_v37) = v1 c
          ∧ r.2.mem ((c.tc : Thread Cert.AdCo3RefIdeal.nD Cert.AdCo3RefIdeal.τ).loc Cert.AdCo3RefIdeal.main_v41) = v2 c
          ∧ r.2.mem ((c.tc : Thread Cert.AdCo3RefIdeal.nD Cert.AdCo3RefIdeal.τ).loc Cert.AdCo3RefIdeal.main_v45) = v3 c
          ∧ r.2.mem ((c.tc : Thread Cert.AdCo3RefIdeal.nD Cert.AdCo3RefIdeal.τ).loc Cert.AdCo3RefIdeal.main_arg0) = m' ((c.tc : Thread Cert.AdCo3RefIdeal.nD Cert.AdCo3RefIdeal.τ).loc Cert.AdCo3RefIdeal.main_arg0)
          ∧ r.2.mem ((c.tc : Thread Cert.AdCo3RefIdeal.nD Cert.AdCo3RefIdeal.τ).loc Cert.AdCo3RefIdeal.main_arg1) = m' ((c.tc : Thread Cert.AdCo3RefIdeal.nD Cert.AdCo3RefIdeal.τ).loc Cert.AdCo3RefIdeal.main_arg1)
          ∧ r.2.mem ((c.tc : Thread Cert.AdCo3RefIdeal.nD Cert.AdCo3RefIdeal.τ).loc Cert.AdCo3RefIdeal.main_arg2) = m' ((c.tc : Thread Cert.AdCo3RefIdeal.nD Cert.AdCo3RefIdeal.τ).loc Cert.AdCo3RefIdeal.main_arg2)
          ∧ r.2.mem ((c.tc : Thread Cert.AdCo3RefIdeal.nD Cert.AdCo3RefIdeal.τ).loc Cert.AdCo3RefIdeal.main_arg3) = m' ((c.tc : Thread Cert.AdCo3RefIdeal.nD Cert.AdCo3RefIdeal.τ).loc Cert.AdCo3RefIdeal.main_arg3)
          ∧ r.2.mem ((c.tc : Thread Cert.AdCo3RefIdeal.nD Cert.AdCo3RefIdeal.τ).loc Cert.AdCo3RefIdeal.main_arg4) = m' ((c.tc : Thread Cert.AdCo3RefIdeal.nD Cert.AdCo3RefIdeal.τ).loc Cert.AdCo3RefIdeal.main_arg4)
          ∧ r.2.mem ((c.tc : Thread Cert.AdCo3RefIdeal.nD Cert.AdCo3RefIdeal.τ).loc Cert.AdCo3RefIdeal.main_arg5) = m' ((c.tc : Thread Cert.AdCo3RefIdeal.nD Cert.AdCo3RefIdeal.τ).loc Cert.AdCo3RefIdeal.main_arg5)
          ∧ r.2.mem ((c.tc : Thread Cert.AdCo3RefIdeal.nD Cert.AdCo3RefIdeal.τ).loc Cert.AdCo3RefIdeal.main_arg6) = m' ((c.tc : Thread Cert.AdCo3RefIdeal.nD Cert.AdCo3RefIdeal.τ).loc Cert.AdCo3RefIdeal.main_arg6)
          ∧ r.2.mem ((c.tc : Thread Cert.AdCo3RefIdeal.nD Cert.AdCo3RefIdeal.τ).loc Cert.AdCo3RefIdeal.main_arg7) = m' ((c.tc : Thread Cert.AdCo3RefIdeal.nD Cert.AdCo3RefIdeal.τ).loc Cert.AdCo3RefIdeal.main_arg7))

def preserves_AdOut0_AdOut0Ideal : Prop :=
  True

def algebraic_AdOut0Ideal_AdOut0RefIdeal [hAdOut0Ideal : Cert.AdOut0Ideal.Facts] [hAdOut0RefIdeal : Cert.AdOut0RefIdeal.Facts] : Prop :=
  ∀ (m : (ℓ : Loc Cert.AdOut0Ideal.nD Cert.AdOut0Ideal.τ Cert.AdOut0Ideal.sig) → Buf (Elt Ideal) ℓ) (g : Dev Cert.AdOut0Ideal.nD → PrngReg)
    (m' : (ℓ : Loc Cert.AdOut0RefIdeal.nD Cert.AdOut0RefIdeal.τ Cert.AdOut0RefIdeal.sig) → Buf (Elt Ideal) ℓ) (g' : Dev Cert.AdOut0RefIdeal.nD → PrngReg), Pre_AdOut0Ideal m →
    (∀ c : Dev Cert.AdOut0Ideal.nD,
      m' ((c.tc : Thread Cert.AdOut0RefIdeal.nD Cert.AdOut0RefIdeal.τ).loc Cert.AdOut0RefIdeal.main_arg0) = m ((c.tc : Thread Cert.AdOut0Ideal.nD Cert.AdOut0Ideal.τ).loc Cert.AdOut0Ideal.main_arg0)
      ∧ m' ((c.tc : Thread Cert.AdOut0RefIdeal.nD Cert.AdOut0RefIdeal.τ).loc Cert.AdOut0RefIdeal.main_arg1) = m ((c.tc : Thread Cert.AdOut0Ideal.nD Cert.AdOut0Ideal.τ).loc Cert.AdOut0Ideal.main_arg1)
      ∧ m' ((c.tc : Thread Cert.AdOut0RefIdeal.nD Cert.AdOut0RefIdeal.τ).loc Cert.AdOut0RefIdeal.main_arg2) = m ((c.tc : Thread Cert.AdOut0Ideal.nD Cert.AdOut0Ideal.τ).loc Cert.AdOut0Ideal.main_arg2)
      ∧ m' ((c.tc : Thread Cert.AdOut0RefIdeal.nD Cert.AdOut0RefIdeal.τ).loc Cert.AdOut0RefIdeal.main_arg3) = m ((c.tc : Thread Cert.AdOut0Ideal.nD Cert.AdOut0Ideal.τ).loc Cert.AdOut0Ideal.main_arg3)
      ∧ m' ((c.tc : Thread Cert.AdOut0RefIdeal.nD Cert.AdOut0RefIdeal.τ).loc Cert.AdOut0RefIdeal.main_arg4) = m ((c.tc : Thread Cert.AdOut0Ideal.nD Cert.AdOut0Ideal.τ).loc Cert.AdOut0Ideal.main_arg4)
      ∧ m' ((c.tc : Thread Cert.AdOut0RefIdeal.nD Cert.AdOut0RefIdeal.τ).loc Cert.AdOut0RefIdeal.main_arg5) = m ((c.tc : Thread Cert.AdOut0Ideal.nD Cert.AdOut0Ideal.τ).loc Cert.AdOut0Ideal.main_arg5)
      ∧ m' ((c.tc : Thread Cert.AdOut0RefIdeal.nD Cert.AdOut0RefIdeal.τ).loc Cert.AdOut0RefIdeal.main_arg6) = m ((c.tc : Thread Cert.AdOut0Ideal.nD Cert.AdOut0Ideal.τ).loc Cert.AdOut0Ideal.main_arg6)
      ∧ m' ((c.tc : Thread Cert.AdOut0RefIdeal.nD Cert.AdOut0RefIdeal.τ).loc Cert.AdOut0RefIdeal.main_arg7) = m ((c.tc : Thread Cert.AdOut0Ideal.nD Cert.AdOut0Ideal.τ).loc Cert.AdOut0Ideal.main_arg7)) →
    ∃ (v0 : (c : Dev Cert.AdOut0Ideal.nD) → Buf (Elt Ideal) ((c.tc : Thread Cert.AdOut0Ideal.nD Cert.AdOut0Ideal.τ).loc Cert.AdOut0Ideal.main_v0_0)) (v1 : (c : Dev Cert.AdOut0Ideal.nD) → Buf (Elt Ideal) ((c.tc : Thread Cert.AdOut0Ideal.nD Cert.AdOut0Ideal.τ).loc Cert.AdOut0Ideal.main_v0_1)) (v2 : (c : Dev Cert.AdOut0Ideal.nD) → Buf (Elt Ideal) ((c.tc : Thread Cert.AdOut0Ideal.nD Cert.AdOut0Ideal.τ).loc Cert.AdOut0Ideal.main_v0_2)) (v3 : (c : Dev Cert.AdOut0Ideal.nD) → Buf (Elt Ideal) ((c.tc : Thread Cert.AdOut0Ideal.nD Cert.AdOut0Ideal.τ).loc Cert.AdOut0Ideal.main_v0_3)),
      θ_run (Cert.AdOut0Ideal.defs (F := Ideal)) (onTc (τ := Cert.AdOut0Ideal.τ) (Cert.AdOut0Ideal.main (F := Ideal))) ⟨m, fun _ => 0, g⟩ (fun r => ∀ c : Dev Cert.AdOut0Ideal.nD,
          r.2.mem ((c.tc : Thread Cert.AdOut0Ideal.nD Cert.AdOut0Ideal.τ).loc Cert.AdOut0Ideal.main_v0_0) = v0 c
          ∧ r.2.mem ((c.tc : Thread Cert.AdOut0Ideal.nD Cert.AdOut0Ideal.τ).loc Cert.AdOut0Ideal.main_v0_1) = v1 c
          ∧ r.2.mem ((c.tc : Thread Cert.AdOut0Ideal.nD Cert.AdOut0Ideal.τ).loc Cert.AdOut0Ideal.main_v0_2) = v2 c
          ∧ r.2.mem ((c.tc : Thread Cert.AdOut0Ideal.nD Cert.AdOut0Ideal.τ).loc Cert.AdOut0Ideal.main_v0_3) = v3 c
          ∧ r.2.mem ((c.tc : Thread Cert.AdOut0Ideal.nD Cert.AdOut0Ideal.τ).loc Cert.AdOut0Ideal.main_arg0) = m ((c.tc : Thread Cert.AdOut0Ideal.nD Cert.AdOut0Ideal.τ).loc Cert.AdOut0Ideal.main_arg0)
          ∧ r.2.mem ((c.tc : Thread Cert.AdOut0Ideal.nD Cert.AdOut0Ideal.τ).loc Cert.AdOut0Ideal.main_arg1) = m ((c.tc : Thread Cert.AdOut0Ideal.nD Cert.AdOut0Ideal.τ).loc Cert.AdOut0Ideal.main_arg1)
          ∧ r.2.mem ((c.tc : Thread Cert.AdOut0Ideal.nD Cert.AdOut0Ideal.τ).loc Cert.AdOut0Ideal.main_arg2) = m ((c.tc : Thread Cert.AdOut0Ideal.nD Cert.AdOut0Ideal.τ).loc Cert.AdOut0Ideal.main_arg2)
          ∧ r.2.mem ((c.tc : Thread Cert.AdOut0Ideal.nD Cert.AdOut0Ideal.τ).loc Cert.AdOut0Ideal.main_arg3) = m ((c.tc : Thread Cert.AdOut0Ideal.nD Cert.AdOut0Ideal.τ).loc Cert.AdOut0Ideal.main_arg3)
          ∧ r.2.mem ((c.tc : Thread Cert.AdOut0Ideal.nD Cert.AdOut0Ideal.τ).loc Cert.AdOut0Ideal.main_arg4) = m ((c.tc : Thread Cert.AdOut0Ideal.nD Cert.AdOut0Ideal.τ).loc Cert.AdOut0Ideal.main_arg4)
          ∧ r.2.mem ((c.tc : Thread Cert.AdOut0Ideal.nD Cert.AdOut0Ideal.τ).loc Cert.AdOut0Ideal.main_arg5) = m ((c.tc : Thread Cert.AdOut0Ideal.nD Cert.AdOut0Ideal.τ).loc Cert.AdOut0Ideal.main_arg5)
          ∧ r.2.mem ((c.tc : Thread Cert.AdOut0Ideal.nD Cert.AdOut0Ideal.τ).loc Cert.AdOut0Ideal.main_arg6) = m ((c.tc : Thread Cert.AdOut0Ideal.nD Cert.AdOut0Ideal.τ).loc Cert.AdOut0Ideal.main_arg6)
          ∧ r.2.mem ((c.tc : Thread Cert.AdOut0Ideal.nD Cert.AdOut0Ideal.τ).loc Cert.AdOut0Ideal.main_arg7) = m ((c.tc : Thread Cert.AdOut0Ideal.nD Cert.AdOut0Ideal.τ).loc Cert.AdOut0Ideal.main_arg7))
      ∧ θ_run (Cert.AdOut0RefIdeal.defs (F := Ideal)) (onTc (τ := Cert.AdOut0RefIdeal.τ) (Cert.AdOut0RefIdeal.main (F := Ideal))) ⟨m', fun _ => 0, g'⟩ (fun r => ∀ c : Dev Cert.AdOut0RefIdeal.nD,
          r.2.mem ((c.tc : Thread Cert.AdOut0RefIdeal.nD Cert.AdOut0RefIdeal.τ).loc Cert.AdOut0RefIdeal.main_v33) = v0 c
          ∧ r.2.mem ((c.tc : Thread Cert.AdOut0RefIdeal.nD Cert.AdOut0RefIdeal.τ).loc Cert.AdOut0RefIdeal.main_v37) = v1 c
          ∧ r.2.mem ((c.tc : Thread Cert.AdOut0RefIdeal.nD Cert.AdOut0RefIdeal.τ).loc Cert.AdOut0RefIdeal.main_v41) = v2 c
          ∧ r.2.mem ((c.tc : Thread Cert.AdOut0RefIdeal.nD Cert.AdOut0RefIdeal.τ).loc Cert.AdOut0RefIdeal.main_v45) = v3 c
          ∧ r.2.mem ((c.tc : Thread Cert.AdOut0RefIdeal.nD Cert.AdOut0RefIdeal.τ).loc Cert.AdOut0RefIdeal.main_arg0) = m' ((c.tc : Thread Cert.AdOut0RefIdeal.nD Cert.AdOut0RefIdeal.τ).loc Cert.AdOut0RefIdeal.main_arg0)
          ∧ r.2.mem ((c.tc : Thread Cert.AdOut0RefIdeal.nD Cert.AdOut0RefIdeal.τ).loc Cert.AdOut0RefIdeal.main_arg1) = m' ((c.tc : Thread Cert.AdOut0RefIdeal.nD Cert.AdOut0RefIdeal.τ).loc Cert.AdOut0RefIdeal.main_arg1)
          ∧ r.2.mem ((c.tc : Thread Cert.AdOut0RefIdeal.nD Cert.AdOut0RefIdeal.τ).loc Cert.AdOut0RefIdeal.main_arg2) = m' ((c.tc : Thread Cert.AdOut0RefIdeal.nD Cert.AdOut0RefIdeal.τ).loc Cert.AdOut0RefIdeal.main_arg2)
          ∧ r.2.mem ((c.tc : Thread Cert.AdOut0RefIdeal.nD Cert.AdOut0RefIdeal.τ).loc Cert.AdOut0RefIdeal.main_arg3) = m' ((c.tc : Thread Cert.AdOut0RefIdeal.nD Cert.AdOut0RefIdeal.τ).loc Cert.AdOut0RefIdeal.main_arg3)
          ∧ r.2.mem ((c.tc : Thread Cert.AdOut0RefIdeal.nD Cert.AdOut0RefIdeal.τ).loc Cert.AdOut0RefIdeal.main_arg4) = m' ((c.tc : Thread Cert.AdOut0RefIdeal.nD Cert.AdOut0RefIdeal.τ).loc Cert.AdOut0RefIdeal.main_arg4)
          ∧ r.2.mem ((c.tc : Thread Cert.AdOut0RefIdeal.nD Cert.AdOut0RefIdeal.τ).loc Cert.AdOut0RefIdeal.main_arg5) = m' ((c.tc : Thread Cert.AdOut0RefIdeal.nD Cert.AdOut0RefIdeal.τ).loc Cert.AdOut0RefIdeal.main_arg5)
          ∧ r.2.mem ((c.tc : Thread Cert.AdOut0RefIdeal.nD Cert.AdOut0RefIdeal.τ).loc Cert.AdOut0RefIdeal.main_arg6) = m' ((c.tc : Thread Cert.AdOut0RefIdeal.nD Cert.AdOut0RefIdeal.τ).loc Cert.AdOut0RefIdeal.main_arg6)
          ∧ r.2.mem ((c.tc : Thread Cert.AdOut0RefIdeal.nD Cert.AdOut0RefIdeal.τ).loc Cert.AdOut0RefIdeal.main_arg7) = m' ((c.tc : Thread Cert.AdOut0RefIdeal.nD Cert.AdOut0RefIdeal.τ).loc Cert.AdOut0RefIdeal.main_arg7))

def preserves_AdOut1_AdOut1Ideal : Prop :=
  True

def algebraic_AdOut1Ideal_AdOut1RefIdeal [hAdOut1Ideal : Cert.AdOut1Ideal.Facts] [hAdOut1RefIdeal : Cert.AdOut1RefIdeal.Facts] : Prop :=
  ∀ (m : (ℓ : Loc Cert.AdOut1Ideal.nD Cert.AdOut1Ideal.τ Cert.AdOut1Ideal.sig) → Buf (Elt Ideal) ℓ) (g : Dev Cert.AdOut1Ideal.nD → PrngReg)
    (m' : (ℓ : Loc Cert.AdOut1RefIdeal.nD Cert.AdOut1RefIdeal.τ Cert.AdOut1RefIdeal.sig) → Buf (Elt Ideal) ℓ) (g' : Dev Cert.AdOut1RefIdeal.nD → PrngReg), Pre_AdOut1Ideal m →
    (∀ c : Dev Cert.AdOut1Ideal.nD,
      m' ((c.tc : Thread Cert.AdOut1RefIdeal.nD Cert.AdOut1RefIdeal.τ).loc Cert.AdOut1RefIdeal.main_arg0) = m ((c.tc : Thread Cert.AdOut1Ideal.nD Cert.AdOut1Ideal.τ).loc Cert.AdOut1Ideal.main_arg0)
      ∧ m' ((c.tc : Thread Cert.AdOut1RefIdeal.nD Cert.AdOut1RefIdeal.τ).loc Cert.AdOut1RefIdeal.main_arg1) = m ((c.tc : Thread Cert.AdOut1Ideal.nD Cert.AdOut1Ideal.τ).loc Cert.AdOut1Ideal.main_arg1)
      ∧ m' ((c.tc : Thread Cert.AdOut1RefIdeal.nD Cert.AdOut1RefIdeal.τ).loc Cert.AdOut1RefIdeal.main_arg2) = m ((c.tc : Thread Cert.AdOut1Ideal.nD Cert.AdOut1Ideal.τ).loc Cert.AdOut1Ideal.main_arg2)
      ∧ m' ((c.tc : Thread Cert.AdOut1RefIdeal.nD Cert.AdOut1RefIdeal.τ).loc Cert.AdOut1RefIdeal.main_arg3) = m ((c.tc : Thread Cert.AdOut1Ideal.nD Cert.AdOut1Ideal.τ).loc Cert.AdOut1Ideal.main_arg3)
      ∧ m' ((c.tc : Thread Cert.AdOut1RefIdeal.nD Cert.AdOut1RefIdeal.τ).loc Cert.AdOut1RefIdeal.main_arg4) = m ((c.tc : Thread Cert.AdOut1Ideal.nD Cert.AdOut1Ideal.τ).loc Cert.AdOut1Ideal.main_arg4)
      ∧ m' ((c.tc : Thread Cert.AdOut1RefIdeal.nD Cert.AdOut1RefIdeal.τ).loc Cert.AdOut1RefIdeal.main_arg5) = m ((c.tc : Thread Cert.AdOut1Ideal.nD Cert.AdOut1Ideal.τ).loc Cert.AdOut1Ideal.main_arg5)
      ∧ m' ((c.tc : Thread Cert.AdOut1RefIdeal.nD Cert.AdOut1RefIdeal.τ).loc Cert.AdOut1RefIdeal.main_arg6) = m ((c.tc : Thread Cert.AdOut1Ideal.nD Cert.AdOut1Ideal.τ).loc Cert.AdOut1Ideal.main_arg6)
      ∧ m' ((c.tc : Thread Cert.AdOut1RefIdeal.nD Cert.AdOut1RefIdeal.τ).loc Cert.AdOut1RefIdeal.main_arg7) = m ((c.tc : Thread Cert.AdOut1Ideal.nD Cert.AdOut1Ideal.τ).loc Cert.AdOut1Ideal.main_arg7)) →
    ∃ (v0 : (c : Dev Cert.AdOut1Ideal.nD) → Buf (Elt Ideal) ((c.tc : Thread Cert.AdOut1Ideal.nD Cert.AdOut1Ideal.τ).loc Cert.AdOut1Ideal.main_v0_0)) (v1 : (c : Dev Cert.AdOut1Ideal.nD) → Buf (Elt Ideal) ((c.tc : Thread Cert.AdOut1Ideal.nD Cert.AdOut1Ideal.τ).loc Cert.AdOut1Ideal.main_v0_1)) (v2 : (c : Dev Cert.AdOut1Ideal.nD) → Buf (Elt Ideal) ((c.tc : Thread Cert.AdOut1Ideal.nD Cert.AdOut1Ideal.τ).loc Cert.AdOut1Ideal.main_v0_2)) (v3 : (c : Dev Cert.AdOut1Ideal.nD) → Buf (Elt Ideal) ((c.tc : Thread Cert.AdOut1Ideal.nD Cert.AdOut1Ideal.τ).loc Cert.AdOut1Ideal.main_v0_3)),
      θ_run (Cert.AdOut1Ideal.defs (F := Ideal)) (onTc (τ := Cert.AdOut1Ideal.τ) (Cert.AdOut1Ideal.main (F := Ideal))) ⟨m, fun _ => 0, g⟩ (fun r => ∀ c : Dev Cert.AdOut1Ideal.nD,
          r.2.mem ((c.tc : Thread Cert.AdOut1Ideal.nD Cert.AdOut1Ideal.τ).loc Cert.AdOut1Ideal.main_v0_0) = v0 c
          ∧ r.2.mem ((c.tc : Thread Cert.AdOut1Ideal.nD Cert.AdOut1Ideal.τ).loc Cert.AdOut1Ideal.main_v0_1) = v1 c
          ∧ r.2.mem ((c.tc : Thread Cert.AdOut1Ideal.nD Cert.AdOut1Ideal.τ).loc Cert.AdOut1Ideal.main_v0_2) = v2 c
          ∧ r.2.mem ((c.tc : Thread Cert.AdOut1Ideal.nD Cert.AdOut1Ideal.τ).loc Cert.AdOut1Ideal.main_v0_3) = v3 c
          ∧ r.2.mem ((c.tc : Thread Cert.AdOut1Ideal.nD Cert.AdOut1Ideal.τ).loc Cert.AdOut1Ideal.main_arg0) = m ((c.tc : Thread Cert.AdOut1Ideal.nD Cert.AdOut1Ideal.τ).loc Cert.AdOut1Ideal.main_arg0)
          ∧ r.2.mem ((c.tc : Thread Cert.AdOut1Ideal.nD Cert.AdOut1Ideal.τ).loc Cert.AdOut1Ideal.main_arg1) = m ((c.tc : Thread Cert.AdOut1Ideal.nD Cert.AdOut1Ideal.τ).loc Cert.AdOut1Ideal.main_arg1)
          ∧ r.2.mem ((c.tc : Thread Cert.AdOut1Ideal.nD Cert.AdOut1Ideal.τ).loc Cert.AdOut1Ideal.main_arg2) = m ((c.tc : Thread Cert.AdOut1Ideal.nD Cert.AdOut1Ideal.τ).loc Cert.AdOut1Ideal.main_arg2)
          ∧ r.2.mem ((c.tc : Thread Cert.AdOut1Ideal.nD Cert.AdOut1Ideal.τ).loc Cert.AdOut1Ideal.main_arg3) = m ((c.tc : Thread Cert.AdOut1Ideal.nD Cert.AdOut1Ideal.τ).loc Cert.AdOut1Ideal.main_arg3)
          ∧ r.2.mem ((c.tc : Thread Cert.AdOut1Ideal.nD Cert.AdOut1Ideal.τ).loc Cert.AdOut1Ideal.main_arg4) = m ((c.tc : Thread Cert.AdOut1Ideal.nD Cert.AdOut1Ideal.τ).loc Cert.AdOut1Ideal.main_arg4)
          ∧ r.2.mem ((c.tc : Thread Cert.AdOut1Ideal.nD Cert.AdOut1Ideal.τ).loc Cert.AdOut1Ideal.main_arg5) = m ((c.tc : Thread Cert.AdOut1Ideal.nD Cert.AdOut1Ideal.τ).loc Cert.AdOut1Ideal.main_arg5)
          ∧ r.2.mem ((c.tc : Thread Cert.AdOut1Ideal.nD Cert.AdOut1Ideal.τ).loc Cert.AdOut1Ideal.main_arg6) = m ((c.tc : Thread Cert.AdOut1Ideal.nD Cert.AdOut1Ideal.τ).loc Cert.AdOut1Ideal.main_arg6)
          ∧ r.2.mem ((c.tc : Thread Cert.AdOut1Ideal.nD Cert.AdOut1Ideal.τ).loc Cert.AdOut1Ideal.main_arg7) = m ((c.tc : Thread Cert.AdOut1Ideal.nD Cert.AdOut1Ideal.τ).loc Cert.AdOut1Ideal.main_arg7))
      ∧ θ_run (Cert.AdOut1RefIdeal.defs (F := Ideal)) (onTc (τ := Cert.AdOut1RefIdeal.τ) (Cert.AdOut1RefIdeal.main (F := Ideal))) ⟨m', fun _ => 0, g'⟩ (fun r => ∀ c : Dev Cert.AdOut1RefIdeal.nD,
          r.2.mem ((c.tc : Thread Cert.AdOut1RefIdeal.nD Cert.AdOut1RefIdeal.τ).loc Cert.AdOut1RefIdeal.main_v33) = v0 c
          ∧ r.2.mem ((c.tc : Thread Cert.AdOut1RefIdeal.nD Cert.AdOut1RefIdeal.τ).loc Cert.AdOut1RefIdeal.main_v37) = v1 c
          ∧ r.2.mem ((c.tc : Thread Cert.AdOut1RefIdeal.nD Cert.AdOut1RefIdeal.τ).loc Cert.AdOut1RefIdeal.main_v41) = v2 c
          ∧ r.2.mem ((c.tc : Thread Cert.AdOut1RefIdeal.nD Cert.AdOut1RefIdeal.τ).loc Cert.AdOut1RefIdeal.main_v45) = v3 c
          ∧ r.2.mem ((c.tc : Thread Cert.AdOut1RefIdeal.nD Cert.AdOut1RefIdeal.τ).loc Cert.AdOut1RefIdeal.main_arg0) = m' ((c.tc : Thread Cert.AdOut1RefIdeal.nD Cert.AdOut1RefIdeal.τ).loc Cert.AdOut1RefIdeal.main_arg0)
          ∧ r.2.mem ((c.tc : Thread Cert.AdOut1RefIdeal.nD Cert.AdOut1RefIdeal.τ).loc Cert.AdOut1RefIdeal.main_arg1) = m' ((c.tc : Thread Cert.AdOut1RefIdeal.nD Cert.AdOut1RefIdeal.τ).loc Cert.AdOut1RefIdeal.main_arg1)
          ∧ r.2.mem ((c.tc : Thread Cert.AdOut1RefIdeal.nD Cert.AdOut1RefIdeal.τ).loc Cert.AdOut1RefIdeal.main_arg2) = m' ((c.tc : Thread Cert.AdOut1RefIdeal.nD Cert.AdOut1RefIdeal.τ).loc Cert.AdOut1RefIdeal.main_arg2)
          ∧ r.2.mem ((c.tc : Thread Cert.AdOut1RefIdeal.nD Cert.AdOut1RefIdeal.τ).loc Cert.AdOut1RefIdeal.main_arg3) = m' ((c.tc : Thread Cert.AdOut1RefIdeal.nD Cert.AdOut1RefIdeal.τ).loc Cert.AdOut1RefIdeal.main_arg3)
          ∧ r.2.mem ((c.tc : Thread Cert.AdOut1RefIdeal.nD Cert.AdOut1RefIdeal.τ).loc Cert.AdOut1RefIdeal.main_arg4) = m' ((c.tc : Thread Cert.AdOut1RefIdeal.nD Cert.AdOut1RefIdeal.τ).loc Cert.AdOut1RefIdeal.main_arg4)
          ∧ r.2.mem ((c.tc : Thread Cert.AdOut1RefIdeal.nD Cert.AdOut1RefIdeal.τ).loc Cert.AdOut1RefIdeal.main_arg5) = m' ((c.tc : Thread Cert.AdOut1RefIdeal.nD Cert.AdOut1RefIdeal.τ).loc Cert.AdOut1RefIdeal.main_arg5)
          ∧ r.2.mem ((c.tc : Thread Cert.AdOut1RefIdeal.nD Cert.AdOut1RefIdeal.τ).loc Cert.AdOut1RefIdeal.main_arg6) = m' ((c.tc : Thread Cert.AdOut1RefIdeal.nD Cert.AdOut1RefIdeal.τ).loc Cert.AdOut1RefIdeal.main_arg6)
          ∧ r.2.mem ((c.tc : Thread Cert.AdOut1RefIdeal.nD Cert.AdOut1RefIdeal.τ).loc Cert.AdOut1RefIdeal.main_arg7) = m' ((c.tc : Thread Cert.AdOut1RefIdeal.nD Cert.AdOut1RefIdeal.τ).loc Cert.AdOut1RefIdeal.main_arg7))

def preserves_AdOut2_AdOut2Ideal : Prop :=
  True

def algebraic_AdOut2Ideal_AdOut2RefIdeal [hAdOut2Ideal : Cert.AdOut2Ideal.Facts] [hAdOut2RefIdeal : Cert.AdOut2RefIdeal.Facts] : Prop :=
  ∀ (m : (ℓ : Loc Cert.AdOut2Ideal.nD Cert.AdOut2Ideal.τ Cert.AdOut2Ideal.sig) → Buf (Elt Ideal) ℓ) (g : Dev Cert.AdOut2Ideal.nD → PrngReg)
    (m' : (ℓ : Loc Cert.AdOut2RefIdeal.nD Cert.AdOut2RefIdeal.τ Cert.AdOut2RefIdeal.sig) → Buf (Elt Ideal) ℓ) (g' : Dev Cert.AdOut2RefIdeal.nD → PrngReg), Pre_AdOut2Ideal m →
    (∀ c : Dev Cert.AdOut2Ideal.nD,
      m' ((c.tc : Thread Cert.AdOut2RefIdeal.nD Cert.AdOut2RefIdeal.τ).loc Cert.AdOut2RefIdeal.main_arg0) = m ((c.tc : Thread Cert.AdOut2Ideal.nD Cert.AdOut2Ideal.τ).loc Cert.AdOut2Ideal.main_arg0)
      ∧ m' ((c.tc : Thread Cert.AdOut2RefIdeal.nD Cert.AdOut2RefIdeal.τ).loc Cert.AdOut2RefIdeal.main_arg1) = m ((c.tc : Thread Cert.AdOut2Ideal.nD Cert.AdOut2Ideal.τ).loc Cert.AdOut2Ideal.main_arg1)
      ∧ m' ((c.tc : Thread Cert.AdOut2RefIdeal.nD Cert.AdOut2RefIdeal.τ).loc Cert.AdOut2RefIdeal.main_arg2) = m ((c.tc : Thread Cert.AdOut2Ideal.nD Cert.AdOut2Ideal.τ).loc Cert.AdOut2Ideal.main_arg2)
      ∧ m' ((c.tc : Thread Cert.AdOut2RefIdeal.nD Cert.AdOut2RefIdeal.τ).loc Cert.AdOut2RefIdeal.main_arg3) = m ((c.tc : Thread Cert.AdOut2Ideal.nD Cert.AdOut2Ideal.τ).loc Cert.AdOut2Ideal.main_arg3)
      ∧ m' ((c.tc : Thread Cert.AdOut2RefIdeal.nD Cert.AdOut2RefIdeal.τ).loc Cert.AdOut2RefIdeal.main_arg4) = m ((c.tc : Thread Cert.AdOut2Ideal.nD Cert.AdOut2Ideal.τ).loc Cert.AdOut2Ideal.main_arg4)
      ∧ m' ((c.tc : Thread Cert.AdOut2RefIdeal.nD Cert.AdOut2RefIdeal.τ).loc Cert.AdOut2RefIdeal.main_arg5) = m ((c.tc : Thread Cert.AdOut2Ideal.nD Cert.AdOut2Ideal.τ).loc Cert.AdOut2Ideal.main_arg5)
      ∧ m' ((c.tc : Thread Cert.AdOut2RefIdeal.nD Cert.AdOut2RefIdeal.τ).loc Cert.AdOut2RefIdeal.main_arg6) = m ((c.tc : Thread Cert.AdOut2Ideal.nD Cert.AdOut2Ideal.τ).loc Cert.AdOut2Ideal.main_arg6)
      ∧ m' ((c.tc : Thread Cert.AdOut2RefIdeal.nD Cert.AdOut2RefIdeal.τ).loc Cert.AdOut2RefIdeal.main_arg7) = m ((c.tc : Thread Cert.AdOut2Ideal.nD Cert.AdOut2Ideal.τ).loc Cert.AdOut2Ideal.main_arg7)) →
    ∃ (v0 : (c : Dev Cert.AdOut2Ideal.nD) → Buf (Elt Ideal) ((c.tc : Thread Cert.AdOut2Ideal.nD Cert.AdOut2Ideal.τ).loc Cert.AdOut2Ideal.main_v0_0)) (v1 : (c : Dev Cert.AdOut2Ideal.nD) → Buf (Elt Ideal) ((c.tc : Thread Cert.AdOut2Ideal.nD Cert.AdOut2Ideal.τ).loc Cert.AdOut2Ideal.main_v0_1)) (v2 : (c : Dev Cert.AdOut2Ideal.nD) → Buf (Elt Ideal) ((c.tc : Thread Cert.AdOut2Ideal.nD Cert.AdOut2Ideal.τ).loc Cert.AdOut2Ideal.main_v0_2)) (v3 : (c : Dev Cert.AdOut2Ideal.nD) → Buf (Elt Ideal) ((c.tc : Thread Cert.AdOut2Ideal.nD Cert.AdOut2Ideal.τ).loc Cert.AdOut2Ideal.main_v0_3)),
      θ_run (Cert.AdOut2Ideal.defs (F := Ideal)) (onTc (τ := Cert.AdOut2Ideal.τ) (Cert.AdOut2Ideal.main (F := Ideal))) ⟨m, fun _ => 0, g⟩ (fun r => ∀ c : Dev Cert.AdOut2Ideal.nD,
          r.2.mem ((c.tc : Thread Cert.AdOut2Ideal.nD Cert.AdOut2Ideal.τ).loc Cert.AdOut2Ideal.main_v0_0) = v0 c
          ∧ r.2.mem ((c.tc : Thread Cert.AdOut2Ideal.nD Cert.AdOut2Ideal.τ).loc Cert.AdOut2Ideal.main_v0_1) = v1 c
          ∧ r.2.mem ((c.tc : Thread Cert.AdOut2Ideal.nD Cert.AdOut2Ideal.τ).loc Cert.AdOut2Ideal.main_v0_2) = v2 c
          ∧ r.2.mem ((c.tc : Thread Cert.AdOut2Ideal.nD Cert.AdOut2Ideal.τ).loc Cert.AdOut2Ideal.main_v0_3) = v3 c
          ∧ r.2.mem ((c.tc : Thread Cert.AdOut2Ideal.nD Cert.AdOut2Ideal.τ).loc Cert.AdOut2Ideal.main_arg0) = m ((c.tc : Thread Cert.AdOut2Ideal.nD Cert.AdOut2Ideal.τ).loc Cert.AdOut2Ideal.main_arg0)
          ∧ r.2.mem ((c.tc : Thread Cert.AdOut2Ideal.nD Cert.AdOut2Ideal.τ).loc Cert.AdOut2Ideal.main_arg1) = m ((c.tc : Thread Cert.AdOut2Ideal.nD Cert.AdOut2Ideal.τ).loc Cert.AdOut2Ideal.main_arg1)
          ∧ r.2.mem ((c.tc : Thread Cert.AdOut2Ideal.nD Cert.AdOut2Ideal.τ).loc Cert.AdOut2Ideal.main_arg2) = m ((c.tc : Thread Cert.AdOut2Ideal.nD Cert.AdOut2Ideal.τ).loc Cert.AdOut2Ideal.main_arg2)
          ∧ r.2.mem ((c.tc : Thread Cert.AdOut2Ideal.nD Cert.AdOut2Ideal.τ).loc Cert.AdOut2Ideal.main_arg3) = m ((c.tc : Thread Cert.AdOut2Ideal.nD Cert.AdOut2Ideal.τ).loc Cert.AdOut2Ideal.main_arg3)
          ∧ r.2.mem ((c.tc : Thread Cert.AdOut2Ideal.nD Cert.AdOut2Ideal.τ).loc Cert.AdOut2Ideal.main_arg4) = m ((c.tc : Thread Cert.AdOut2Ideal.nD Cert.AdOut2Ideal.τ).loc Cert.AdOut2Ideal.main_arg4)
          ∧ r.2.mem ((c.tc : Thread Cert.AdOut2Ideal.nD Cert.AdOut2Ideal.τ).loc Cert.AdOut2Ideal.main_arg5) = m ((c.tc : Thread Cert.AdOut2Ideal.nD Cert.AdOut2Ideal.τ).loc Cert.AdOut2Ideal.main_arg5)
          ∧ r.2.mem ((c.tc : Thread Cert.AdOut2Ideal.nD Cert.AdOut2Ideal.τ).loc Cert.AdOut2Ideal.main_arg6) = m ((c.tc : Thread Cert.AdOut2Ideal.nD Cert.AdOut2Ideal.τ).loc Cert.AdOut2Ideal.main_arg6)
          ∧ r.2.mem ((c.tc : Thread Cert.AdOut2Ideal.nD Cert.AdOut2Ideal.τ).loc Cert.AdOut2Ideal.main_arg7) = m ((c.tc : Thread Cert.AdOut2Ideal.nD Cert.AdOut2Ideal.τ).loc Cert.AdOut2Ideal.main_arg7))
      ∧ θ_run (Cert.AdOut2RefIdeal.defs (F := Ideal)) (onTc (τ := Cert.AdOut2RefIdeal.τ) (Cert.AdOut2RefIdeal.main (F := Ideal))) ⟨m', fun _ => 0, g'⟩ (fun r => ∀ c : Dev Cert.AdOut2RefIdeal.nD,
          r.2.mem ((c.tc : Thread Cert.AdOut2RefIdeal.nD Cert.AdOut2RefIdeal.τ).loc Cert.AdOut2RefIdeal.main_v33) = v0 c
          ∧ r.2.mem ((c.tc : Thread Cert.AdOut2RefIdeal.nD Cert.AdOut2RefIdeal.τ).loc Cert.AdOut2RefIdeal.main_v37) = v1 c
          ∧ r.2.mem ((c.tc : Thread Cert.AdOut2RefIdeal.nD Cert.AdOut2RefIdeal.τ).loc Cert.AdOut2RefIdeal.main_v41) = v2 c
          ∧ r.2.mem ((c.tc : Thread Cert.AdOut2RefIdeal.nD Cert.AdOut2RefIdeal.τ).loc Cert.AdOut2RefIdeal.main_v45) = v3 c
          ∧ r.2.mem ((c.tc : Thread Cert.AdOut2RefIdeal.nD Cert.AdOut2RefIdeal.τ).loc Cert.AdOut2RefIdeal.main_arg0) = m' ((c.tc : Thread Cert.AdOut2RefIdeal.nD Cert.AdOut2RefIdeal.τ).loc Cert.AdOut2RefIdeal.main_arg0)
          ∧ r.2.mem ((c.tc : Thread Cert.AdOut2RefIdeal.nD Cert.AdOut2RefIdeal.τ).loc Cert.AdOut2RefIdeal.main_arg1) = m' ((c.tc : Thread Cert.AdOut2RefIdeal.nD Cert.AdOut2RefIdeal.τ).loc Cert.AdOut2RefIdeal.main_arg1)
          ∧ r.2.mem ((c.tc : Thread Cert.AdOut2RefIdeal.nD Cert.AdOut2RefIdeal.τ).loc Cert.AdOut2RefIdeal.main_arg2) = m' ((c.tc : Thread Cert.AdOut2RefIdeal.nD Cert.AdOut2RefIdeal.τ).loc Cert.AdOut2RefIdeal.main_arg2)
          ∧ r.2.mem ((c.tc : Thread Cert.AdOut2RefIdeal.nD Cert.AdOut2RefIdeal.τ).loc Cert.AdOut2RefIdeal.main_arg3) = m' ((c.tc : Thread Cert.AdOut2RefIdeal.nD Cert.AdOut2RefIdeal.τ).loc Cert.AdOut2RefIdeal.main_arg3)
          ∧ r.2.mem ((c.tc : Thread Cert.AdOut2RefIdeal.nD Cert.AdOut2RefIdeal.τ).loc Cert.AdOut2RefIdeal.main_arg4) = m' ((c.tc : Thread Cert.AdOut2RefIdeal.nD Cert.AdOut2RefIdeal.τ).loc Cert.AdOut2RefIdeal.main_arg4)
          ∧ r.2.mem ((c.tc : Thread Cert.AdOut2RefIdeal.nD Cert.AdOut2RefIdeal.τ).loc Cert.AdOut2RefIdeal.main_arg5) = m' ((c.tc : Thread Cert.AdOut2RefIdeal.nD Cert.AdOut2RefIdeal.τ).loc Cert.AdOut2RefIdeal.main_arg5)
          ∧ r.2.mem ((c.tc : Thread Cert.AdOut2RefIdeal.nD Cert.AdOut2RefIdeal.τ).loc Cert.AdOut2RefIdeal.main_arg6) = m' ((c.tc : Thread Cert.AdOut2RefIdeal.nD Cert.AdOut2RefIdeal.τ).loc Cert.AdOut2RefIdeal.main_arg6)
          ∧ r.2.mem ((c.tc : Thread Cert.AdOut2RefIdeal.nD Cert.AdOut2RefIdeal.τ).loc Cert.AdOut2RefIdeal.main_arg7) = m' ((c.tc : Thread Cert.AdOut2RefIdeal.nD Cert.AdOut2RefIdeal.τ).loc Cert.AdOut2RefIdeal.main_arg7))

def preserves_AdOut3_AdOut3Ideal : Prop :=
  True

def algebraic_AdOut3Ideal_AdOut3RefIdeal [hAdOut3Ideal : Cert.AdOut3Ideal.Facts] [hAdOut3RefIdeal : Cert.AdOut3RefIdeal.Facts] : Prop :=
  ∀ (m : (ℓ : Loc Cert.AdOut3Ideal.nD Cert.AdOut3Ideal.τ Cert.AdOut3Ideal.sig) → Buf (Elt Ideal) ℓ) (g : Dev Cert.AdOut3Ideal.nD → PrngReg)
    (m' : (ℓ : Loc Cert.AdOut3RefIdeal.nD Cert.AdOut3RefIdeal.τ Cert.AdOut3RefIdeal.sig) → Buf (Elt Ideal) ℓ) (g' : Dev Cert.AdOut3RefIdeal.nD → PrngReg), Pre_AdOut3Ideal m →
    (∀ c : Dev Cert.AdOut3Ideal.nD,
      m' ((c.tc : Thread Cert.AdOut3RefIdeal.nD Cert.AdOut3RefIdeal.τ).loc Cert.AdOut3RefIdeal.main_arg0) = m ((c.tc : Thread Cert.AdOut3Ideal.nD Cert.AdOut3Ideal.τ).loc Cert.AdOut3Ideal.main_arg0)
      ∧ m' ((c.tc : Thread Cert.AdOut3RefIdeal.nD Cert.AdOut3RefIdeal.τ).loc Cert.AdOut3RefIdeal.main_arg1) = m ((c.tc : Thread Cert.AdOut3Ideal.nD Cert.AdOut3Ideal.τ).loc Cert.AdOut3Ideal.main_arg1)
      ∧ m' ((c.tc : Thread Cert.AdOut3RefIdeal.nD Cert.AdOut3RefIdeal.τ).loc Cert.AdOut3RefIdeal.main_arg2) = m ((c.tc : Thread Cert.AdOut3Ideal.nD Cert.AdOut3Ideal.τ).loc Cert.AdOut3Ideal.main_arg2)
      ∧ m' ((c.tc : Thread Cert.AdOut3RefIdeal.nD Cert.AdOut3RefIdeal.τ).loc Cert.AdOut3RefIdeal.main_arg3) = m ((c.tc : Thread Cert.AdOut3Ideal.nD Cert.AdOut3Ideal.τ).loc Cert.AdOut3Ideal.main_arg3)
      ∧ m' ((c.tc : Thread Cert.AdOut3RefIdeal.nD Cert.AdOut3RefIdeal.τ).loc Cert.AdOut3RefIdeal.main_arg4) = m ((c.tc : Thread Cert.AdOut3Ideal.nD Cert.AdOut3Ideal.τ).loc Cert.AdOut3Ideal.main_arg4)
      ∧ m' ((c.tc : Thread Cert.AdOut3RefIdeal.nD Cert.AdOut3RefIdeal.τ).loc Cert.AdOut3RefIdeal.main_arg5) = m ((c.tc : Thread Cert.AdOut3Ideal.nD Cert.AdOut3Ideal.τ).loc Cert.AdOut3Ideal.main_arg5)
      ∧ m' ((c.tc : Thread Cert.AdOut3RefIdeal.nD Cert.AdOut3RefIdeal.τ).loc Cert.AdOut3RefIdeal.main_arg6) = m ((c.tc : Thread Cert.AdOut3Ideal.nD Cert.AdOut3Ideal.τ).loc Cert.AdOut3Ideal.main_arg6)
      ∧ m' ((c.tc : Thread Cert.AdOut3RefIdeal.nD Cert.AdOut3RefIdeal.τ).loc Cert.AdOut3RefIdeal.main_arg7) = m ((c.tc : Thread Cert.AdOut3Ideal.nD Cert.AdOut3Ideal.τ).loc Cert.AdOut3Ideal.main_arg7)) →
    ∃ (v0 : (c : Dev Cert.AdOut3Ideal.nD) → Buf (Elt Ideal) ((c.tc : Thread Cert.AdOut3Ideal.nD Cert.AdOut3Ideal.τ).loc Cert.AdOut3Ideal.main_v0_0)) (v1 : (c : Dev Cert.AdOut3Ideal.nD) → Buf (Elt Ideal) ((c.tc : Thread Cert.AdOut3Ideal.nD Cert.AdOut3Ideal.τ).loc Cert.AdOut3Ideal.main_v0_1)) (v2 : (c : Dev Cert.AdOut3Ideal.nD) → Buf (Elt Ideal) ((c.tc : Thread Cert.AdOut3Ideal.nD Cert.AdOut3Ideal.τ).loc Cert.AdOut3Ideal.main_v0_2)) (v3 : (c : Dev Cert.AdOut3Ideal.nD) → Buf (Elt Ideal) ((c.tc : Thread Cert.AdOut3Ideal.nD Cert.AdOut3Ideal.τ).loc Cert.AdOut3Ideal.main_v0_3)),
      θ_run (Cert.AdOut3Ideal.defs (F := Ideal)) (onTc (τ := Cert.AdOut3Ideal.τ) (Cert.AdOut3Ideal.main (F := Ideal))) ⟨m, fun _ => 0, g⟩ (fun r => ∀ c : Dev Cert.AdOut3Ideal.nD,
          r.2.mem ((c.tc : Thread Cert.AdOut3Ideal.nD Cert.AdOut3Ideal.τ).loc Cert.AdOut3Ideal.main_v0_0) = v0 c
          ∧ r.2.mem ((c.tc : Thread Cert.AdOut3Ideal.nD Cert.AdOut3Ideal.τ).loc Cert.AdOut3Ideal.main_v0_1) = v1 c
          ∧ r.2.mem ((c.tc : Thread Cert.AdOut3Ideal.nD Cert.AdOut3Ideal.τ).loc Cert.AdOut3Ideal.main_v0_2) = v2 c
          ∧ r.2.mem ((c.tc : Thread Cert.AdOut3Ideal.nD Cert.AdOut3Ideal.τ).loc Cert.AdOut3Ideal.main_v0_3) = v3 c
          ∧ r.2.mem ((c.tc : Thread Cert.AdOut3Ideal.nD Cert.AdOut3Ideal.τ).loc Cert.AdOut3Ideal.main_arg0) = m ((c.tc : Thread Cert.AdOut3Ideal.nD Cert.AdOut3Ideal.τ).loc Cert.AdOut3Ideal.main_arg0)
          ∧ r.2.mem ((c.tc : Thread Cert.AdOut3Ideal.nD Cert.AdOut3Ideal.τ).loc Cert.AdOut3Ideal.main_arg1) = m ((c.tc : Thread Cert.AdOut3Ideal.nD Cert.AdOut3Ideal.τ).loc Cert.AdOut3Ideal.main_arg1)
          ∧ r.2.mem ((c.tc : Thread Cert.AdOut3Ideal.nD Cert.AdOut3Ideal.τ).loc Cert.AdOut3Ideal.main_arg2) = m ((c.tc : Thread Cert.AdOut3Ideal.nD Cert.AdOut3Ideal.τ).loc Cert.AdOut3Ideal.main_arg2)
          ∧ r.2.mem ((c.tc : Thread Cert.AdOut3Ideal.nD Cert.AdOut3Ideal.τ).loc Cert.AdOut3Ideal.main_arg3) = m ((c.tc : Thread Cert.AdOut3Ideal.nD Cert.AdOut3Ideal.τ).loc Cert.AdOut3Ideal.main_arg3)
          ∧ r.2.mem ((c.tc : Thread Cert.AdOut3Ideal.nD Cert.AdOut3Ideal.τ).loc Cert.AdOut3Ideal.main_arg4) = m ((c.tc : Thread Cert.AdOut3Ideal.nD Cert.AdOut3Ideal.τ).loc Cert.AdOut3Ideal.main_arg4)
          ∧ r.2.mem ((c.tc : Thread Cert.AdOut3Ideal.nD Cert.AdOut3Ideal.τ).loc Cert.AdOut3Ideal.main_arg5) = m ((c.tc : Thread Cert.AdOut3Ideal.nD Cert.AdOut3Ideal.τ).loc Cert.AdOut3Ideal.main_arg5)
          ∧ r.2.mem ((c.tc : Thread Cert.AdOut3Ideal.nD Cert.AdOut3Ideal.τ).loc Cert.AdOut3Ideal.main_arg6) = m ((c.tc : Thread Cert.AdOut3Ideal.nD Cert.AdOut3Ideal.τ).loc Cert.AdOut3Ideal.main_arg6)
          ∧ r.2.mem ((c.tc : Thread Cert.AdOut3Ideal.nD Cert.AdOut3Ideal.τ).loc Cert.AdOut3Ideal.main_arg7) = m ((c.tc : Thread Cert.AdOut3Ideal.nD Cert.AdOut3Ideal.τ).loc Cert.AdOut3Ideal.main_arg7))
      ∧ θ_run (Cert.AdOut3RefIdeal.defs (F := Ideal)) (onTc (τ := Cert.AdOut3RefIdeal.τ) (Cert.AdOut3RefIdeal.main (F := Ideal))) ⟨m', fun _ => 0, g'⟩ (fun r => ∀ c : Dev Cert.AdOut3RefIdeal.nD,
          r.2.mem ((c.tc : Thread Cert.AdOut3RefIdeal.nD Cert.AdOut3RefIdeal.τ).loc Cert.AdOut3RefIdeal.main_v33) = v0 c
          ∧ r.2.mem ((c.tc : Thread Cert.AdOut3RefIdeal.nD Cert.AdOut3RefIdeal.τ).loc Cert.AdOut3RefIdeal.main_v37) = v1 c
          ∧ r.2.mem ((c.tc : Thread Cert.AdOut3RefIdeal.nD Cert.AdOut3RefIdeal.τ).loc Cert.AdOut3RefIdeal.main_v41) = v2 c
          ∧ r.2.mem ((c.tc : Thread Cert.AdOut3RefIdeal.nD Cert.AdOut3RefIdeal.τ).loc Cert.AdOut3RefIdeal.main_v45) = v3 c
          ∧ r.2.mem ((c.tc : Thread Cert.AdOut3RefIdeal.nD Cert.AdOut3RefIdeal.τ).loc Cert.AdOut3RefIdeal.main_arg0) = m' ((c.tc : Thread Cert.AdOut3RefIdeal.nD Cert.AdOut3RefIdeal.τ).loc Cert.AdOut3RefIdeal.main_arg0)
          ∧ r.2.mem ((c.tc : Thread Cert.AdOut3RefIdeal.nD Cert.AdOut3RefIdeal.τ).loc Cert.AdOut3RefIdeal.main_arg1) = m' ((c.tc : Thread Cert.AdOut3RefIdeal.nD Cert.AdOut3RefIdeal.τ).loc Cert.AdOut3RefIdeal.main_arg1)
          ∧ r.2.mem ((c.tc : Thread Cert.AdOut3RefIdeal.nD Cert.AdOut3RefIdeal.τ).loc Cert.AdOut3RefIdeal.main_arg2) = m' ((c.tc : Thread Cert.AdOut3RefIdeal.nD Cert.AdOut3RefIdeal.τ).loc Cert.AdOut3RefIdeal.main_arg2)
          ∧ r.2.mem ((c.tc : Thread Cert.AdOut3RefIdeal.nD Cert.AdOut3RefIdeal.τ).loc Cert.AdOut3RefIdeal.main_arg3) = m' ((c.tc : Thread Cert.AdOut3RefIdeal.nD Cert.AdOut3RefIdeal.τ).loc Cert.AdOut3RefIdeal.main_arg3)
          ∧ r.2.mem ((c.tc : Thread Cert.AdOut3RefIdeal.nD Cert.AdOut3RefIdeal.τ).loc Cert.AdOut3RefIdeal.main_arg4) = m' ((c.tc : Thread Cert.AdOut3RefIdeal.nD Cert.AdOut3RefIdeal.τ).loc Cert.AdOut3RefIdeal.main_arg4)
          ∧ r.2.mem ((c.tc : Thread Cert.AdOut3RefIdeal.nD Cert.AdOut3RefIdeal.τ).loc Cert.AdOut3RefIdeal.main_arg5) = m' ((c.tc : Thread Cert.AdOut3RefIdeal.nD Cert.AdOut3RefIdeal.τ).loc Cert.AdOut3RefIdeal.main_arg5)
          ∧ r.2.mem ((c.tc : Thread Cert.AdOut3RefIdeal.nD Cert.AdOut3RefIdeal.τ).loc Cert.AdOut3RefIdeal.main_arg6) = m' ((c.tc : Thread Cert.AdOut3RefIdeal.nD Cert.AdOut3RefIdeal.τ).loc Cert.AdOut3RefIdeal.main_arg6)
          ∧ r.2.mem ((c.tc : Thread Cert.AdOut3RefIdeal.nD Cert.AdOut3RefIdeal.τ).loc Cert.AdOut3RefIdeal.main_arg7) = m' ((c.tc : Thread Cert.AdOut3RefIdeal.nD Cert.AdOut3RefIdeal.τ).loc Cert.AdOut3RefIdeal.main_arg7))

def preserves_AdFf0_AdFf0Ideal : Prop :=
  True

def algebraic_AdFf0Ideal_AdFf0RefIdeal [hAdFf0Ideal : Cert.AdFf0Ideal.Facts] [hAdFf0RefIdeal : Cert.AdFf0RefIdeal.Facts] : Prop :=
  ∀ (m : (ℓ : Loc Cert.AdFf0Ideal.nD Cert.AdFf0Ideal.τ Cert.AdFf0Ideal.sig) → Buf (Elt Ideal) ℓ) (g : Dev Cert.AdFf0Ideal.nD → PrngReg)
    (m' : (ℓ : Loc Cert.AdFf0RefIdeal.nD Cert.AdFf0RefIdeal.τ Cert.AdFf0RefIdeal.sig) → Buf (Elt Ideal) ℓ) (g' : Dev Cert.AdFf0RefIdeal.nD → PrngReg), Pre_AdFf0Ideal m →
    (∀ c : Dev Cert.AdFf0Ideal.nD,
      m' ((c.tc : Thread Cert.AdFf0RefIdeal.nD Cert.AdFf0RefIdeal.τ).loc Cert.AdFf0RefIdeal.main_arg0) = m ((c.tc : Thread Cert.AdFf0Ideal.nD Cert.AdFf0Ideal.τ).loc Cert.AdFf0Ideal.main_arg0)
      ∧ m' ((c.tc : Thread Cert.AdFf0RefIdeal.nD Cert.AdFf0RefIdeal.τ).loc Cert.AdFf0RefIdeal.main_arg1) = m ((c.tc : Thread Cert.AdFf0Ideal.nD Cert.AdFf0Ideal.τ).loc Cert.AdFf0Ideal.main_arg1)
      ∧ m' ((c.tc : Thread Cert.AdFf0RefIdeal.nD Cert.AdFf0RefIdeal.τ).loc Cert.AdFf0RefIdeal.main_arg2) = m ((c.tc : Thread Cert.AdFf0Ideal.nD Cert.AdFf0Ideal.τ).loc Cert.AdFf0Ideal.main_arg2)
      ∧ m' ((c.tc : Thread Cert.AdFf0RefIdeal.nD Cert.AdFf0RefIdeal.τ).loc Cert.AdFf0RefIdeal.main_arg3) = m ((c.tc : Thread Cert.AdFf0Ideal.nD Cert.AdFf0Ideal.τ).loc Cert.AdFf0Ideal.main_arg3)
      ∧ m' ((c.tc : Thread Cert.AdFf0RefIdeal.nD Cert.AdFf0RefIdeal.τ).loc Cert.AdFf0RefIdeal.main_arg4) = m ((c.tc : Thread Cert.AdFf0Ideal.nD Cert.AdFf0Ideal.τ).loc Cert.AdFf0Ideal.main_arg4)
      ∧ m' ((c.tc : Thread Cert.AdFf0RefIdeal.nD Cert.AdFf0RefIdeal.τ).loc Cert.AdFf0RefIdeal.main_arg5) = m ((c.tc : Thread Cert.AdFf0Ideal.nD Cert.AdFf0Ideal.τ).loc Cert.AdFf0Ideal.main_arg5)
      ∧ m' ((c.tc : Thread Cert.AdFf0RefIdeal.nD Cert.AdFf0RefIdeal.τ).loc Cert.AdFf0RefIdeal.main_arg6) = m ((c.tc : Thread Cert.AdFf0Ideal.nD Cert.AdFf0Ideal.τ).loc Cert.AdFf0Ideal.main_arg6)
      ∧ m' ((c.tc : Thread Cert.AdFf0RefIdeal.nD Cert.AdFf0RefIdeal.τ).loc Cert.AdFf0RefIdeal.main_arg7) = m ((c.tc : Thread Cert.AdFf0Ideal.nD Cert.AdFf0Ideal.τ).loc Cert.AdFf0Ideal.main_arg7)) →
    ∃ (v0 : (c : Dev Cert.AdFf0Ideal.nD) → Buf (Elt Ideal) ((c.tc : Thread Cert.AdFf0Ideal.nD Cert.AdFf0Ideal.τ).loc Cert.AdFf0Ideal.main_v0_0)) (v1 : (c : Dev Cert.AdFf0Ideal.nD) → Buf (Elt Ideal) ((c.tc : Thread Cert.AdFf0Ideal.nD Cert.AdFf0Ideal.τ).loc Cert.AdFf0Ideal.main_v0_1)) (v2 : (c : Dev Cert.AdFf0Ideal.nD) → Buf (Elt Ideal) ((c.tc : Thread Cert.AdFf0Ideal.nD Cert.AdFf0Ideal.τ).loc Cert.AdFf0Ideal.main_v0_2)) (v3 : (c : Dev Cert.AdFf0Ideal.nD) → Buf (Elt Ideal) ((c.tc : Thread Cert.AdFf0Ideal.nD Cert.AdFf0Ideal.τ).loc Cert.AdFf0Ideal.main_v0_3)),
      θ_run (Cert.AdFf0Ideal.defs (F := Ideal)) (onTc (τ := Cert.AdFf0Ideal.τ) (Cert.AdFf0Ideal.main (F := Ideal))) ⟨m, fun _ => 0, g⟩ (fun r => ∀ c : Dev Cert.AdFf0Ideal.nD,
          r.2.mem ((c.tc : Thread Cert.AdFf0Ideal.nD Cert.AdFf0Ideal.τ).loc Cert.AdFf0Ideal.main_v0_0) = v0 c
          ∧ r.2.mem ((c.tc : Thread Cert.AdFf0Ideal.nD Cert.AdFf0Ideal.τ).loc Cert.AdFf0Ideal.main_v0_1) = v1 c
          ∧ r.2.mem ((c.tc : Thread Cert.AdFf0Ideal.nD Cert.AdFf0Ideal.τ).loc Cert.AdFf0Ideal.main_v0_2) = v2 c
          ∧ r.2.mem ((c.tc : Thread Cert.AdFf0Ideal.nD Cert.AdFf0Ideal.τ).loc Cert.AdFf0Ideal.main_v0_3) = v3 c
          ∧ r.2.mem ((c.tc : Thread Cert.AdFf0Ideal.nD Cert.AdFf0Ideal.τ).loc Cert.AdFf0Ideal.main_arg0) = m ((c.tc : Thread Cert.AdFf0Ideal.nD Cert.AdFf0Ideal.τ).loc Cert.AdFf0Ideal.main_arg0)
          ∧ r.2.mem ((c.tc : Thread Cert.AdFf0Ideal.nD Cert.AdFf0Ideal.τ).loc Cert.AdFf0Ideal.main_arg1) = m ((c.tc : Thread Cert.AdFf0Ideal.nD Cert.AdFf0Ideal.τ).loc Cert.AdFf0Ideal.main_arg1)
          ∧ r.2.mem ((c.tc : Thread Cert.AdFf0Ideal.nD Cert.AdFf0Ideal.τ).loc Cert.AdFf0Ideal.main_arg2) = m ((c.tc : Thread Cert.AdFf0Ideal.nD Cert.AdFf0Ideal.τ).loc Cert.AdFf0Ideal.main_arg2)
          ∧ r.2.mem ((c.tc : Thread Cert.AdFf0Ideal.nD Cert.AdFf0Ideal.τ).loc Cert.AdFf0Ideal.main_arg3) = m ((c.tc : Thread Cert.AdFf0Ideal.nD Cert.AdFf0Ideal.τ).loc Cert.AdFf0Ideal.main_arg3)
          ∧ r.2.mem ((c.tc : Thread Cert.AdFf0Ideal.nD Cert.AdFf0Ideal.τ).loc Cert.AdFf0Ideal.main_arg4) = m ((c.tc : Thread Cert.AdFf0Ideal.nD Cert.AdFf0Ideal.τ).loc Cert.AdFf0Ideal.main_arg4)
          ∧ r.2.mem ((c.tc : Thread Cert.AdFf0Ideal.nD Cert.AdFf0Ideal.τ).loc Cert.AdFf0Ideal.main_arg5) = m ((c.tc : Thread Cert.AdFf0Ideal.nD Cert.AdFf0Ideal.τ).loc Cert.AdFf0Ideal.main_arg5)
          ∧ r.2.mem ((c.tc : Thread Cert.AdFf0Ideal.nD Cert.AdFf0Ideal.τ).loc Cert.AdFf0Ideal.main_arg6) = m ((c.tc : Thread Cert.AdFf0Ideal.nD Cert.AdFf0Ideal.τ).loc Cert.AdFf0Ideal.main_arg6)
          ∧ r.2.mem ((c.tc : Thread Cert.AdFf0Ideal.nD Cert.AdFf0Ideal.τ).loc Cert.AdFf0Ideal.main_arg7) = m ((c.tc : Thread Cert.AdFf0Ideal.nD Cert.AdFf0Ideal.τ).loc Cert.AdFf0Ideal.main_arg7))
      ∧ θ_run (Cert.AdFf0RefIdeal.defs (F := Ideal)) (onTc (τ := Cert.AdFf0RefIdeal.τ) (Cert.AdFf0RefIdeal.main (F := Ideal))) ⟨m', fun _ => 0, g'⟩ (fun r => ∀ c : Dev Cert.AdFf0RefIdeal.nD,
          r.2.mem ((c.tc : Thread Cert.AdFf0RefIdeal.nD Cert.AdFf0RefIdeal.τ).loc Cert.AdFf0RefIdeal.main_v33) = v0 c
          ∧ r.2.mem ((c.tc : Thread Cert.AdFf0RefIdeal.nD Cert.AdFf0RefIdeal.τ).loc Cert.AdFf0RefIdeal.main_v37) = v1 c
          ∧ r.2.mem ((c.tc : Thread Cert.AdFf0RefIdeal.nD Cert.AdFf0RefIdeal.τ).loc Cert.AdFf0RefIdeal.main_v41) = v2 c
          ∧ r.2.mem ((c.tc : Thread Cert.AdFf0RefIdeal.nD Cert.AdFf0RefIdeal.τ).loc Cert.AdFf0RefIdeal.main_v45) = v3 c
          ∧ r.2.mem ((c.tc : Thread Cert.AdFf0RefIdeal.nD Cert.AdFf0RefIdeal.τ).loc Cert.AdFf0RefIdeal.main_arg0) = m' ((c.tc : Thread Cert.AdFf0RefIdeal.nD Cert.AdFf0RefIdeal.τ).loc Cert.AdFf0RefIdeal.main_arg0)
          ∧ r.2.mem ((c.tc : Thread Cert.AdFf0RefIdeal.nD Cert.AdFf0RefIdeal.τ).loc Cert.AdFf0RefIdeal.main_arg1) = m' ((c.tc : Thread Cert.AdFf0RefIdeal.nD Cert.AdFf0RefIdeal.τ).loc Cert.AdFf0RefIdeal.main_arg1)
          ∧ r.2.mem ((c.tc : Thread Cert.AdFf0RefIdeal.nD Cert.AdFf0RefIdeal.τ).loc Cert.AdFf0RefIdeal.main_arg2) = m' ((c.tc : Thread Cert.AdFf0RefIdeal.nD Cert.AdFf0RefIdeal.τ).loc Cert.AdFf0RefIdeal.main_arg2)
          ∧ r.2.mem ((c.tc : Thread Cert.AdFf0RefIdeal.nD Cert.AdFf0RefIdeal.τ).loc Cert.AdFf0RefIdeal.main_arg3) = m' ((c.tc : Thread Cert.AdFf0RefIdeal.nD Cert.AdFf0RefIdeal.τ).loc Cert.AdFf0RefIdeal.main_arg3)
          ∧ r.2.mem ((c.tc : Thread Cert.AdFf0RefIdeal.nD Cert.AdFf0RefIdeal.τ).loc Cert.AdFf0RefIdeal.main_arg4) = m' ((c.tc : Thread Cert.AdFf0RefIdeal.nD Cert.AdFf0RefIdeal.τ).loc Cert.AdFf0RefIdeal.main_arg4)
          ∧ r.2.mem ((c.tc : Thread Cert.AdFf0RefIdeal.nD Cert.AdFf0RefIdeal.τ).loc Cert.AdFf0RefIdeal.main_arg5) = m' ((c.tc : Thread Cert.AdFf0RefIdeal.nD Cert.AdFf0RefIdeal.τ).loc Cert.AdFf0RefIdeal.main_arg5)
          ∧ r.2.mem ((c.tc : Thread Cert.AdFf0RefIdeal.nD Cert.AdFf0RefIdeal.τ).loc Cert.AdFf0RefIdeal.main_arg6) = m' ((c.tc : Thread Cert.AdFf0RefIdeal.nD Cert.AdFf0RefIdeal.τ).loc Cert.AdFf0RefIdeal.main_arg6)
          ∧ r.2.mem ((c.tc : Thread Cert.AdFf0RefIdeal.nD Cert.AdFf0RefIdeal.τ).loc Cert.AdFf0RefIdeal.main_arg7) = m' ((c.tc : Thread Cert.AdFf0RefIdeal.nD Cert.AdFf0RefIdeal.τ).loc Cert.AdFf0RefIdeal.main_arg7))

def preserves_AdFf1_AdFf1Ideal : Prop :=
  True

def algebraic_AdFf1Ideal_AdFf1RefIdeal [hAdFf1Ideal : Cert.AdFf1Ideal.Facts] [hAdFf1RefIdeal : Cert.AdFf1RefIdeal.Facts] : Prop :=
  ∀ (m : (ℓ : Loc Cert.AdFf1Ideal.nD Cert.AdFf1Ideal.τ Cert.AdFf1Ideal.sig) → Buf (Elt Ideal) ℓ) (g : Dev Cert.AdFf1Ideal.nD → PrngReg)
    (m' : (ℓ : Loc Cert.AdFf1RefIdeal.nD Cert.AdFf1RefIdeal.τ Cert.AdFf1RefIdeal.sig) → Buf (Elt Ideal) ℓ) (g' : Dev Cert.AdFf1RefIdeal.nD → PrngReg), Pre_AdFf1Ideal m →
    (∀ c : Dev Cert.AdFf1Ideal.nD,
      m' ((c.tc : Thread Cert.AdFf1RefIdeal.nD Cert.AdFf1RefIdeal.τ).loc Cert.AdFf1RefIdeal.main_arg0) = m ((c.tc : Thread Cert.AdFf1Ideal.nD Cert.AdFf1Ideal.τ).loc Cert.AdFf1Ideal.main_arg0)
      ∧ m' ((c.tc : Thread Cert.AdFf1RefIdeal.nD Cert.AdFf1RefIdeal.τ).loc Cert.AdFf1RefIdeal.main_arg1) = m ((c.tc : Thread Cert.AdFf1Ideal.nD Cert.AdFf1Ideal.τ).loc Cert.AdFf1Ideal.main_arg1)
      ∧ m' ((c.tc : Thread Cert.AdFf1RefIdeal.nD Cert.AdFf1RefIdeal.τ).loc Cert.AdFf1RefIdeal.main_arg2) = m ((c.tc : Thread Cert.AdFf1Ideal.nD Cert.AdFf1Ideal.τ).loc Cert.AdFf1Ideal.main_arg2)
      ∧ m' ((c.tc : Thread Cert.AdFf1RefIdeal.nD Cert.AdFf1RefIdeal.τ).loc Cert.AdFf1RefIdeal.main_arg3) = m ((c.tc : Thread Cert.AdFf1Ideal.nD Cert.AdFf1Ideal.τ).loc Cert.AdFf1Ideal.main_arg3)
      ∧ m' ((c.tc : Thread Cert.AdFf1RefIdeal.nD Cert.AdFf1RefIdeal.τ).loc Cert.AdFf1RefIdeal.main_arg4) = m ((c.tc : Thread Cert.AdFf1Ideal.nD Cert.AdFf1Ideal.τ).loc Cert.AdFf1Ideal.main_arg4)
      ∧ m' ((c.tc : Thread Cert.AdFf1RefIdeal.nD Cert.AdFf1RefIdeal.τ).loc Cert.AdFf1RefIdeal.main_arg5) = m ((c.tc : Thread Cert.AdFf1Ideal.nD Cert.AdFf1Ideal.τ).loc Cert.AdFf1Ideal.main_arg5)
      ∧ m' ((c.tc : Thread Cert.AdFf1RefIdeal.nD Cert.AdFf1RefIdeal.τ).loc Cert.AdFf1RefIdeal.main_arg6) = m ((c.tc : Thread Cert.AdFf1Ideal.nD Cert.AdFf1Ideal.τ).loc Cert.AdFf1Ideal.main_arg6)
      ∧ m' ((c.tc : Thread Cert.AdFf1RefIdeal.nD Cert.AdFf1RefIdeal.τ).loc Cert.AdFf1RefIdeal.main_arg7) = m ((c.tc : Thread Cert.AdFf1Ideal.nD Cert.AdFf1Ideal.τ).loc Cert.AdFf1Ideal.main_arg7)) →
    ∃ (v0 : (c : Dev Cert.AdFf1Ideal.nD) → Buf (Elt Ideal) ((c.tc : Thread Cert.AdFf1Ideal.nD Cert.AdFf1Ideal.τ).loc Cert.AdFf1Ideal.main_v0_0)) (v1 : (c : Dev Cert.AdFf1Ideal.nD) → Buf (Elt Ideal) ((c.tc : Thread Cert.AdFf1Ideal.nD Cert.AdFf1Ideal.τ).loc Cert.AdFf1Ideal.main_v0_1)) (v2 : (c : Dev Cert.AdFf1Ideal.nD) → Buf (Elt Ideal) ((c.tc : Thread Cert.AdFf1Ideal.nD Cert.AdFf1Ideal.τ).loc Cert.AdFf1Ideal.main_v0_2)) (v3 : (c : Dev Cert.AdFf1Ideal.nD) → Buf (Elt Ideal) ((c.tc : Thread Cert.AdFf1Ideal.nD Cert.AdFf1Ideal.τ).loc Cert.AdFf1Ideal.main_v0_3)),
      θ_run (Cert.AdFf1Ideal.defs (F := Ideal)) (onTc (τ := Cert.AdFf1Ideal.τ) (Cert.AdFf1Ideal.main (F := Ideal))) ⟨m, fun _ => 0, g⟩ (fun r => ∀ c : Dev Cert.AdFf1Ideal.nD,
          r.2.mem ((c.tc : Thread Cert.AdFf1Ideal.nD Cert.AdFf1Ideal.τ).loc Cert.AdFf1Ideal.main_v0_0) = v0 c
          ∧ r.2.mem ((c.tc : Thread Cert.AdFf1Ideal.nD Cert.AdFf1Ideal.τ).loc Cert.AdFf1Ideal.main_v0_1) = v1 c
          ∧ r.2.mem ((c.tc : Thread Cert.AdFf1Ideal.nD Cert.AdFf1Ideal.τ).loc Cert.AdFf1Ideal.main_v0_2) = v2 c
          ∧ r.2.mem ((c.tc : Thread Cert.AdFf1Ideal.nD Cert.AdFf1Ideal.τ).loc Cert.AdFf1Ideal.main_v0_3) = v3 c
          ∧ r.2.mem ((c.tc : Thread Cert.AdFf1Ideal.nD Cert.AdFf1Ideal.τ).loc Cert.AdFf1Ideal.main_arg0) = m ((c.tc : Thread Cert.AdFf1Ideal.nD Cert.AdFf1Ideal.τ).loc Cert.AdFf1Ideal.main_arg0)
          ∧ r.2.mem ((c.tc : Thread Cert.AdFf1Ideal.nD Cert.AdFf1Ideal.τ).loc Cert.AdFf1Ideal.main_arg1) = m ((c.tc : Thread Cert.AdFf1Ideal.nD Cert.AdFf1Ideal.τ).loc Cert.AdFf1Ideal.main_arg1)
          ∧ r.2.mem ((c.tc : Thread Cert.AdFf1Ideal.nD Cert.AdFf1Ideal.τ).loc Cert.AdFf1Ideal.main_arg2) = m ((c.tc : Thread Cert.AdFf1Ideal.nD Cert.AdFf1Ideal.τ).loc Cert.AdFf1Ideal.main_arg2)
          ∧ r.2.mem ((c.tc : Thread Cert.AdFf1Ideal.nD Cert.AdFf1Ideal.τ).loc Cert.AdFf1Ideal.main_arg3) = m ((c.tc : Thread Cert.AdFf1Ideal.nD Cert.AdFf1Ideal.τ).loc Cert.AdFf1Ideal.main_arg3)
          ∧ r.2.mem ((c.tc : Thread Cert.AdFf1Ideal.nD Cert.AdFf1Ideal.τ).loc Cert.AdFf1Ideal.main_arg4) = m ((c.tc : Thread Cert.AdFf1Ideal.nD Cert.AdFf1Ideal.τ).loc Cert.AdFf1Ideal.main_arg4)
          ∧ r.2.mem ((c.tc : Thread Cert.AdFf1Ideal.nD Cert.AdFf1Ideal.τ).loc Cert.AdFf1Ideal.main_arg5) = m ((c.tc : Thread Cert.AdFf1Ideal.nD Cert.AdFf1Ideal.τ).loc Cert.AdFf1Ideal.main_arg5)
          ∧ r.2.mem ((c.tc : Thread Cert.AdFf1Ideal.nD Cert.AdFf1Ideal.τ).loc Cert.AdFf1Ideal.main_arg6) = m ((c.tc : Thread Cert.AdFf1Ideal.nD Cert.AdFf1Ideal.τ).loc Cert.AdFf1Ideal.main_arg6)
          ∧ r.2.mem ((c.tc : Thread Cert.AdFf1Ideal.nD Cert.AdFf1Ideal.τ).loc Cert.AdFf1Ideal.main_arg7) = m ((c.tc : Thread Cert.AdFf1Ideal.nD Cert.AdFf1Ideal.τ).loc Cert.AdFf1Ideal.main_arg7))
      ∧ θ_run (Cert.AdFf1RefIdeal.defs (F := Ideal)) (onTc (τ := Cert.AdFf1RefIdeal.τ) (Cert.AdFf1RefIdeal.main (F := Ideal))) ⟨m', fun _ => 0, g'⟩ (fun r => ∀ c : Dev Cert.AdFf1RefIdeal.nD,
          r.2.mem ((c.tc : Thread Cert.AdFf1RefIdeal.nD Cert.AdFf1RefIdeal.τ).loc Cert.AdFf1RefIdeal.main_v33) = v0 c
          ∧ r.2.mem ((c.tc : Thread Cert.AdFf1RefIdeal.nD Cert.AdFf1RefIdeal.τ).loc Cert.AdFf1RefIdeal.main_v37) = v1 c
          ∧ r.2.mem ((c.tc : Thread Cert.AdFf1RefIdeal.nD Cert.AdFf1RefIdeal.τ).loc Cert.AdFf1RefIdeal.main_v41) = v2 c
          ∧ r.2.mem ((c.tc : Thread Cert.AdFf1RefIdeal.nD Cert.AdFf1RefIdeal.τ).loc Cert.AdFf1RefIdeal.main_v45) = v3 c
          ∧ r.2.mem ((c.tc : Thread Cert.AdFf1RefIdeal.nD Cert.AdFf1RefIdeal.τ).loc Cert.AdFf1RefIdeal.main_arg0) = m' ((c.tc : Thread Cert.AdFf1RefIdeal.nD Cert.AdFf1RefIdeal.τ).loc Cert.AdFf1RefIdeal.main_arg0)
          ∧ r.2.mem ((c.tc : Thread Cert.AdFf1RefIdeal.nD Cert.AdFf1RefIdeal.τ).loc Cert.AdFf1RefIdeal.main_arg1) = m' ((c.tc : Thread Cert.AdFf1RefIdeal.nD Cert.AdFf1RefIdeal.τ).loc Cert.AdFf1RefIdeal.main_arg1)
          ∧ r.2.mem ((c.tc : Thread Cert.AdFf1RefIdeal.nD Cert.AdFf1RefIdeal.τ).loc Cert.AdFf1RefIdeal.main_arg2) = m' ((c.tc : Thread Cert.AdFf1RefIdeal.nD Cert.AdFf1RefIdeal.τ).loc Cert.AdFf1RefIdeal.main_arg2)
          ∧ r.2.mem ((c.tc : Thread Cert.AdFf1RefIdeal.nD Cert.AdFf1RefIdeal.τ).loc Cert.AdFf1RefIdeal.main_arg3) = m' ((c.tc : Thread Cert.AdFf1RefIdeal.nD Cert.AdFf1RefIdeal.τ).loc Cert.AdFf1RefIdeal.main_arg3)
          ∧ r.2.mem ((c.tc : Thread Cert.AdFf1RefIdeal.nD Cert.AdFf1RefIdeal.τ).loc Cert.AdFf1RefIdeal.main_arg4) = m' ((c.tc : Thread Cert.AdFf1RefIdeal.nD Cert.AdFf1RefIdeal.τ).loc Cert.AdFf1RefIdeal.main_arg4)
          ∧ r.2.mem ((c.tc : Thread Cert.AdFf1RefIdeal.nD Cert.AdFf1RefIdeal.τ).loc Cert.AdFf1RefIdeal.main_arg5) = m' ((c.tc : Thread Cert.AdFf1RefIdeal.nD Cert.AdFf1RefIdeal.τ).loc Cert.AdFf1RefIdeal.main_arg5)
          ∧ r.2.mem ((c.tc : Thread Cert.AdFf1RefIdeal.nD Cert.AdFf1RefIdeal.τ).loc Cert.AdFf1RefIdeal.main_arg6) = m' ((c.tc : Thread Cert.AdFf1RefIdeal.nD Cert.AdFf1RefIdeal.τ).loc Cert.AdFf1RefIdeal.main_arg6)
          ∧ r.2.mem ((c.tc : Thread Cert.AdFf1RefIdeal.nD Cert.AdFf1RefIdeal.τ).loc Cert.AdFf1RefIdeal.main_arg7) = m' ((c.tc : Thread Cert.AdFf1RefIdeal.nD Cert.AdFf1RefIdeal.τ).loc Cert.AdFf1RefIdeal.main_arg7))

def preserves_AdFf2_AdFf2Ideal : Prop :=
  True

def algebraic_AdFf2Ideal_AdFf2RefIdeal [hAdFf2Ideal : Cert.AdFf2Ideal.Facts] [hAdFf2RefIdeal : Cert.AdFf2RefIdeal.Facts] : Prop :=
  ∀ (m : (ℓ : Loc Cert.AdFf2Ideal.nD Cert.AdFf2Ideal.τ Cert.AdFf2Ideal.sig) → Buf (Elt Ideal) ℓ) (g : Dev Cert.AdFf2Ideal.nD → PrngReg)
    (m' : (ℓ : Loc Cert.AdFf2RefIdeal.nD Cert.AdFf2RefIdeal.τ Cert.AdFf2RefIdeal.sig) → Buf (Elt Ideal) ℓ) (g' : Dev Cert.AdFf2RefIdeal.nD → PrngReg), Pre_AdFf2Ideal m →
    (∀ c : Dev Cert.AdFf2Ideal.nD,
      m' ((c.tc : Thread Cert.AdFf2RefIdeal.nD Cert.AdFf2RefIdeal.τ).loc Cert.AdFf2RefIdeal.main_arg0) = m ((c.tc : Thread Cert.AdFf2Ideal.nD Cert.AdFf2Ideal.τ).loc Cert.AdFf2Ideal.main_arg0)
      ∧ m' ((c.tc : Thread Cert.AdFf2RefIdeal.nD Cert.AdFf2RefIdeal.τ).loc Cert.AdFf2RefIdeal.main_arg1) = m ((c.tc : Thread Cert.AdFf2Ideal.nD Cert.AdFf2Ideal.τ).loc Cert.AdFf2Ideal.main_arg1)
      ∧ m' ((c.tc : Thread Cert.AdFf2RefIdeal.nD Cert.AdFf2RefIdeal.τ).loc Cert.AdFf2RefIdeal.main_arg2) = m ((c.tc : Thread Cert.AdFf2Ideal.nD Cert.AdFf2Ideal.τ).loc Cert.AdFf2Ideal.main_arg2)
      ∧ m' ((c.tc : Thread Cert.AdFf2RefIdeal.nD Cert.AdFf2RefIdeal.τ).loc Cert.AdFf2RefIdeal.main_arg3) = m ((c.tc : Thread Cert.AdFf2Ideal.nD Cert.AdFf2Ideal.τ).loc Cert.AdFf2Ideal.main_arg3)
      ∧ m' ((c.tc : Thread Cert.AdFf2RefIdeal.nD Cert.AdFf2RefIdeal.τ).loc Cert.AdFf2RefIdeal.main_arg4) = m ((c.tc : Thread Cert.AdFf2Ideal.nD Cert.AdFf2Ideal.τ).loc Cert.AdFf2Ideal.main_arg4)
      ∧ m' ((c.tc : Thread Cert.AdFf2RefIdeal.nD Cert.AdFf2RefIdeal.τ).loc Cert.AdFf2RefIdeal.main_arg5) = m ((c.tc : Thread Cert.AdFf2Ideal.nD Cert.AdFf2Ideal.τ).loc Cert.AdFf2Ideal.main_arg5)
      ∧ m' ((c.tc : Thread Cert.AdFf2RefIdeal.nD Cert.AdFf2RefIdeal.τ).loc Cert.AdFf2RefIdeal.main_arg6) = m ((c.tc : Thread Cert.AdFf2Ideal.nD Cert.AdFf2Ideal.τ).loc Cert.AdFf2Ideal.main_arg6)
      ∧ m' ((c.tc : Thread Cert.AdFf2RefIdeal.nD Cert.AdFf2RefIdeal.τ).loc Cert.AdFf2RefIdeal.main_arg7) = m ((c.tc : Thread Cert.AdFf2Ideal.nD Cert.AdFf2Ideal.τ).loc Cert.AdFf2Ideal.main_arg7)) →
    ∃ (v0 : (c : Dev Cert.AdFf2Ideal.nD) → Buf (Elt Ideal) ((c.tc : Thread Cert.AdFf2Ideal.nD Cert.AdFf2Ideal.τ).loc Cert.AdFf2Ideal.main_v0_0)) (v1 : (c : Dev Cert.AdFf2Ideal.nD) → Buf (Elt Ideal) ((c.tc : Thread Cert.AdFf2Ideal.nD Cert.AdFf2Ideal.τ).loc Cert.AdFf2Ideal.main_v0_1)) (v2 : (c : Dev Cert.AdFf2Ideal.nD) → Buf (Elt Ideal) ((c.tc : Thread Cert.AdFf2Ideal.nD Cert.AdFf2Ideal.τ).loc Cert.AdFf2Ideal.main_v0_2)) (v3 : (c : Dev Cert.AdFf2Ideal.nD) → Buf (Elt Ideal) ((c.tc : Thread Cert.AdFf2Ideal.nD Cert.AdFf2Ideal.τ).loc Cert.AdFf2Ideal.main_v0_3)),
      θ_run (Cert.AdFf2Ideal.defs (F := Ideal)) (onTc (τ := Cert.AdFf2Ideal.τ) (Cert.AdFf2Ideal.main (F := Ideal))) ⟨m, fun _ => 0, g⟩ (fun r => ∀ c : Dev Cert.AdFf2Ideal.nD,
          r.2.mem ((c.tc : Thread Cert.AdFf2Ideal.nD Cert.AdFf2Ideal.τ).loc Cert.AdFf2Ideal.main_v0_0) = v0 c
          ∧ r.2.mem ((c.tc : Thread Cert.AdFf2Ideal.nD Cert.AdFf2Ideal.τ).loc Cert.AdFf2Ideal.main_v0_1) = v1 c
          ∧ r.2.mem ((c.tc : Thread Cert.AdFf2Ideal.nD Cert.AdFf2Ideal.τ).loc Cert.AdFf2Ideal.main_v0_2) = v2 c
          ∧ r.2.mem ((c.tc : Thread Cert.AdFf2Ideal.nD Cert.AdFf2Ideal.τ).loc Cert.AdFf2Ideal.main_v0_3) = v3 c
          ∧ r.2.mem ((c.tc : Thread Cert.AdFf2Ideal.nD Cert.AdFf2Ideal.τ).loc Cert.AdFf2Ideal.main_arg0) = m ((c.tc : Thread Cert.AdFf2Ideal.nD Cert.AdFf2Ideal.τ).loc Cert.AdFf2Ideal.main_arg0)
          ∧ r.2.mem ((c.tc : Thread Cert.AdFf2Ideal.nD Cert.AdFf2Ideal.τ).loc Cert.AdFf2Ideal.main_arg1) = m ((c.tc : Thread Cert.AdFf2Ideal.nD Cert.AdFf2Ideal.τ).loc Cert.AdFf2Ideal.main_arg1)
          ∧ r.2.mem ((c.tc : Thread Cert.AdFf2Ideal.nD Cert.AdFf2Ideal.τ).loc Cert.AdFf2Ideal.main_arg2) = m ((c.tc : Thread Cert.AdFf2Ideal.nD Cert.AdFf2Ideal.τ).loc Cert.AdFf2Ideal.main_arg2)
          ∧ r.2.mem ((c.tc : Thread Cert.AdFf2Ideal.nD Cert.AdFf2Ideal.τ).loc Cert.AdFf2Ideal.main_arg3) = m ((c.tc : Thread Cert.AdFf2Ideal.nD Cert.AdFf2Ideal.τ).loc Cert.AdFf2Ideal.main_arg3)
          ∧ r.2.mem ((c.tc : Thread Cert.AdFf2Ideal.nD Cert.AdFf2Ideal.τ).loc Cert.AdFf2Ideal.main_arg4) = m ((c.tc : Thread Cert.AdFf2Ideal.nD Cert.AdFf2Ideal.τ).loc Cert.AdFf2Ideal.main_arg4)
          ∧ r.2.mem ((c.tc : Thread Cert.AdFf2Ideal.nD Cert.AdFf2Ideal.τ).loc Cert.AdFf2Ideal.main_arg5) = m ((c.tc : Thread Cert.AdFf2Ideal.nD Cert.AdFf2Ideal.τ).loc Cert.AdFf2Ideal.main_arg5)
          ∧ r.2.mem ((c.tc : Thread Cert.AdFf2Ideal.nD Cert.AdFf2Ideal.τ).loc Cert.AdFf2Ideal.main_arg6) = m ((c.tc : Thread Cert.AdFf2Ideal.nD Cert.AdFf2Ideal.τ).loc Cert.AdFf2Ideal.main_arg6)
          ∧ r.2.mem ((c.tc : Thread Cert.AdFf2Ideal.nD Cert.AdFf2Ideal.τ).loc Cert.AdFf2Ideal.main_arg7) = m ((c.tc : Thread Cert.AdFf2Ideal.nD Cert.AdFf2Ideal.τ).loc Cert.AdFf2Ideal.main_arg7))
      ∧ θ_run (Cert.AdFf2RefIdeal.defs (F := Ideal)) (onTc (τ := Cert.AdFf2RefIdeal.τ) (Cert.AdFf2RefIdeal.main (F := Ideal))) ⟨m', fun _ => 0, g'⟩ (fun r => ∀ c : Dev Cert.AdFf2RefIdeal.nD,
          r.2.mem ((c.tc : Thread Cert.AdFf2RefIdeal.nD Cert.AdFf2RefIdeal.τ).loc Cert.AdFf2RefIdeal.main_v33) = v0 c
          ∧ r.2.mem ((c.tc : Thread Cert.AdFf2RefIdeal.nD Cert.AdFf2RefIdeal.τ).loc Cert.AdFf2RefIdeal.main_v37) = v1 c
          ∧ r.2.mem ((c.tc : Thread Cert.AdFf2RefIdeal.nD Cert.AdFf2RefIdeal.τ).loc Cert.AdFf2RefIdeal.main_v41) = v2 c
          ∧ r.2.mem ((c.tc : Thread Cert.AdFf2RefIdeal.nD Cert.AdFf2RefIdeal.τ).loc Cert.AdFf2RefIdeal.main_v45) = v3 c
          ∧ r.2.mem ((c.tc : Thread Cert.AdFf2RefIdeal.nD Cert.AdFf2RefIdeal.τ).loc Cert.AdFf2RefIdeal.main_arg0) = m' ((c.tc : Thread Cert.AdFf2RefIdeal.nD Cert.AdFf2RefIdeal.τ).loc Cert.AdFf2RefIdeal.main_arg0)
          ∧ r.2.mem ((c.tc : Thread Cert.AdFf2RefIdeal.nD Cert.AdFf2RefIdeal.τ).loc Cert.AdFf2RefIdeal.main_arg1) = m' ((c.tc : Thread Cert.AdFf2RefIdeal.nD Cert.AdFf2RefIdeal.τ).loc Cert.AdFf2RefIdeal.main_arg1)
          ∧ r.2.mem ((c.tc : Thread Cert.AdFf2RefIdeal.nD Cert.AdFf2RefIdeal.τ).loc Cert.AdFf2RefIdeal.main_arg2) = m' ((c.tc : Thread Cert.AdFf2RefIdeal.nD Cert.AdFf2RefIdeal.τ).loc Cert.AdFf2RefIdeal.main_arg2)
          ∧ r.2.mem ((c.tc : Thread Cert.AdFf2RefIdeal.nD Cert.AdFf2RefIdeal.τ).loc Cert.AdFf2RefIdeal.main_arg3) = m' ((c.tc : Thread Cert.AdFf2RefIdeal.nD Cert.AdFf2RefIdeal.τ).loc Cert.AdFf2RefIdeal.main_arg3)
          ∧ r.2.mem ((c.tc : Thread Cert.AdFf2RefIdeal.nD Cert.AdFf2RefIdeal.τ).loc Cert.AdFf2RefIdeal.main_arg4) = m' ((c.tc : Thread Cert.AdFf2RefIdeal.nD Cert.AdFf2RefIdeal.τ).loc Cert.AdFf2RefIdeal.main_arg4)
          ∧ r.2.mem ((c.tc : Thread Cert.AdFf2RefIdeal.nD Cert.AdFf2RefIdeal.τ).loc Cert.AdFf2RefIdeal.main_arg5) = m' ((c.tc : Thread Cert.AdFf2RefIdeal.nD Cert.AdFf2RefIdeal.τ).loc Cert.AdFf2RefIdeal.main_arg5)
          ∧ r.2.mem ((c.tc : Thread Cert.AdFf2RefIdeal.nD Cert.AdFf2RefIdeal.τ).loc Cert.AdFf2RefIdeal.main_arg6) = m' ((c.tc : Thread Cert.AdFf2RefIdeal.nD Cert.AdFf2RefIdeal.τ).loc Cert.AdFf2RefIdeal.main_arg6)
          ∧ r.2.mem ((c.tc : Thread Cert.AdFf2RefIdeal.nD Cert.AdFf2RefIdeal.τ).loc Cert.AdFf2RefIdeal.main_arg7) = m' ((c.tc : Thread Cert.AdFf2RefIdeal.nD Cert.AdFf2RefIdeal.τ).loc Cert.AdFf2RefIdeal.main_arg7))

def preserves_AdFf3_AdFf3Ideal : Prop :=
  True

def algebraic_AdFf3Ideal_AdFf3RefIdeal [hAdFf3Ideal : Cert.AdFf3Ideal.Facts] [hAdFf3RefIdeal : Cert.AdFf3RefIdeal.Facts] : Prop :=
  ∀ (m : (ℓ : Loc Cert.AdFf3Ideal.nD Cert.AdFf3Ideal.τ Cert.AdFf3Ideal.sig) → Buf (Elt Ideal) ℓ) (g : Dev Cert.AdFf3Ideal.nD → PrngReg)
    (m' : (ℓ : Loc Cert.AdFf3RefIdeal.nD Cert.AdFf3RefIdeal.τ Cert.AdFf3RefIdeal.sig) → Buf (Elt Ideal) ℓ) (g' : Dev Cert.AdFf3RefIdeal.nD → PrngReg), Pre_AdFf3Ideal m →
    (∀ c : Dev Cert.AdFf3Ideal.nD,
      m' ((c.tc : Thread Cert.AdFf3RefIdeal.nD Cert.AdFf3RefIdeal.τ).loc Cert.AdFf3RefIdeal.main_arg0) = m ((c.tc : Thread Cert.AdFf3Ideal.nD Cert.AdFf3Ideal.τ).loc Cert.AdFf3Ideal.main_arg0)
      ∧ m' ((c.tc : Thread Cert.AdFf3RefIdeal.nD Cert.AdFf3RefIdeal.τ).loc Cert.AdFf3RefIdeal.main_arg1) = m ((c.tc : Thread Cert.AdFf3Ideal.nD Cert.AdFf3Ideal.τ).loc Cert.AdFf3Ideal.main_arg1)
      ∧ m' ((c.tc : Thread Cert.AdFf3RefIdeal.nD Cert.AdFf3RefIdeal.τ).loc Cert.AdFf3RefIdeal.main_arg2) = m ((c.tc : Thread Cert.AdFf3Ideal.nD Cert.AdFf3Ideal.τ).loc Cert.AdFf3Ideal.main_arg2)
      ∧ m' ((c.tc : Thread Cert.AdFf3RefIdeal.nD Cert.AdFf3RefIdeal.τ).loc Cert.AdFf3RefIdeal.main_arg3) = m ((c.tc : Thread Cert.AdFf3Ideal.nD Cert.AdFf3Ideal.τ).loc Cert.AdFf3Ideal.main_arg3)
      ∧ m' ((c.tc : Thread Cert.AdFf3RefIdeal.nD Cert.AdFf3RefIdeal.τ).loc Cert.AdFf3RefIdeal.main_arg4) = m ((c.tc : Thread Cert.AdFf3Ideal.nD Cert.AdFf3Ideal.τ).loc Cert.AdFf3Ideal.main_arg4)
      ∧ m' ((c.tc : Thread Cert.AdFf3RefIdeal.nD Cert.AdFf3RefIdeal.τ).loc Cert.AdFf3RefIdeal.main_arg5) = m ((c.tc : Thread Cert.AdFf3Ideal.nD Cert.AdFf3Ideal.τ).loc Cert.AdFf3Ideal.main_arg5)
      ∧ m' ((c.tc : Thread Cert.AdFf3RefIdeal.nD Cert.AdFf3RefIdeal.τ).loc Cert.AdFf3RefIdeal.main_arg6) = m ((c.tc : Thread Cert.AdFf3Ideal.nD Cert.AdFf3Ideal.τ).loc Cert.AdFf3Ideal.main_arg6)
      ∧ m' ((c.tc : Thread Cert.AdFf3RefIdeal.nD Cert.AdFf3RefIdeal.τ).loc Cert.AdFf3RefIdeal.main_arg7) = m ((c.tc : Thread Cert.AdFf3Ideal.nD Cert.AdFf3Ideal.τ).loc Cert.AdFf3Ideal.main_arg7)) →
    ∃ (v0 : (c : Dev Cert.AdFf3Ideal.nD) → Buf (Elt Ideal) ((c.tc : Thread Cert.AdFf3Ideal.nD Cert.AdFf3Ideal.τ).loc Cert.AdFf3Ideal.main_v0_0)) (v1 : (c : Dev Cert.AdFf3Ideal.nD) → Buf (Elt Ideal) ((c.tc : Thread Cert.AdFf3Ideal.nD Cert.AdFf3Ideal.τ).loc Cert.AdFf3Ideal.main_v0_1)) (v2 : (c : Dev Cert.AdFf3Ideal.nD) → Buf (Elt Ideal) ((c.tc : Thread Cert.AdFf3Ideal.nD Cert.AdFf3Ideal.τ).loc Cert.AdFf3Ideal.main_v0_2)) (v3 : (c : Dev Cert.AdFf3Ideal.nD) → Buf (Elt Ideal) ((c.tc : Thread Cert.AdFf3Ideal.nD Cert.AdFf3Ideal.τ).loc Cert.AdFf3Ideal.main_v0_3)),
      θ_run (Cert.AdFf3Ideal.defs (F := Ideal)) (onTc (τ := Cert.AdFf3Ideal.τ) (Cert.AdFf3Ideal.main (F := Ideal))) ⟨m, fun _ => 0, g⟩ (fun r => ∀ c : Dev Cert.AdFf3Ideal.nD,
          r.2.mem ((c.tc : Thread Cert.AdFf3Ideal.nD Cert.AdFf3Ideal.τ).loc Cert.AdFf3Ideal.main_v0_0) = v0 c
          ∧ r.2.mem ((c.tc : Thread Cert.AdFf3Ideal.nD Cert.AdFf3Ideal.τ).loc Cert.AdFf3Ideal.main_v0_1) = v1 c
          ∧ r.2.mem ((c.tc : Thread Cert.AdFf3Ideal.nD Cert.AdFf3Ideal.τ).loc Cert.AdFf3Ideal.main_v0_2) = v2 c
          ∧ r.2.mem ((c.tc : Thread Cert.AdFf3Ideal.nD Cert.AdFf3Ideal.τ).loc Cert.AdFf3Ideal.main_v0_3) = v3 c
          ∧ r.2.mem ((c.tc : Thread Cert.AdFf3Ideal.nD Cert.AdFf3Ideal.τ).loc Cert.AdFf3Ideal.main_arg0) = m ((c.tc : Thread Cert.AdFf3Ideal.nD Cert.AdFf3Ideal.τ).loc Cert.AdFf3Ideal.main_arg0)
          ∧ r.2.mem ((c.tc : Thread Cert.AdFf3Ideal.nD Cert.AdFf3Ideal.τ).loc Cert.AdFf3Ideal.main_arg1) = m ((c.tc : Thread Cert.AdFf3Ideal.nD Cert.AdFf3Ideal.τ).loc Cert.AdFf3Ideal.main_arg1)
          ∧ r.2.mem ((c.tc : Thread Cert.AdFf3Ideal.nD Cert.AdFf3Ideal.τ).loc Cert.AdFf3Ideal.main_arg2) = m ((c.tc : Thread Cert.AdFf3Ideal.nD Cert.AdFf3Ideal.τ).loc Cert.AdFf3Ideal.main_arg2)
          ∧ r.2.mem ((c.tc : Thread Cert.AdFf3Ideal.nD Cert.AdFf3Ideal.τ).loc Cert.AdFf3Ideal.main_arg3) = m ((c.tc : Thread Cert.AdFf3Ideal.nD Cert.AdFf3Ideal.τ).loc Cert.AdFf3Ideal.main_arg3)
          ∧ r.2.mem ((c.tc : Thread Cert.AdFf3Ideal.nD Cert.AdFf3Ideal.τ).loc Cert.AdFf3Ideal.main_arg4) = m ((c.tc : Thread Cert.AdFf3Ideal.nD Cert.AdFf3Ideal.τ).loc Cert.AdFf3Ideal.main_arg4)
          ∧ r.2.mem ((c.tc : Thread Cert.AdFf3Ideal.nD Cert.AdFf3Ideal.τ).loc Cert.AdFf3Ideal.main_arg5) = m ((c.tc : Thread Cert.AdFf3Ideal.nD Cert.AdFf3Ideal.τ).loc Cert.AdFf3Ideal.main_arg5)
          ∧ r.2.mem ((c.tc : Thread Cert.AdFf3Ideal.nD Cert.AdFf3Ideal.τ).loc Cert.AdFf3Ideal.main_arg6) = m ((c.tc : Thread Cert.AdFf3Ideal.nD Cert.AdFf3Ideal.τ).loc Cert.AdFf3Ideal.main_arg6)
          ∧ r.2.mem ((c.tc : Thread Cert.AdFf3Ideal.nD Cert.AdFf3Ideal.τ).loc Cert.AdFf3Ideal.main_arg7) = m ((c.tc : Thread Cert.AdFf3Ideal.nD Cert.AdFf3Ideal.τ).loc Cert.AdFf3Ideal.main_arg7))
      ∧ θ_run (Cert.AdFf3RefIdeal.defs (F := Ideal)) (onTc (τ := Cert.AdFf3RefIdeal.τ) (Cert.AdFf3RefIdeal.main (F := Ideal))) ⟨m', fun _ => 0, g'⟩ (fun r => ∀ c : Dev Cert.AdFf3RefIdeal.nD,
          r.2.mem ((c.tc : Thread Cert.AdFf3RefIdeal.nD Cert.AdFf3RefIdeal.τ).loc Cert.AdFf3RefIdeal.main_v33) = v0 c
          ∧ r.2.mem ((c.tc : Thread Cert.AdFf3RefIdeal.nD Cert.AdFf3RefIdeal.τ).loc Cert.AdFf3RefIdeal.main_v37) = v1 c
          ∧ r.2.mem ((c.tc : Thread Cert.AdFf3RefIdeal.nD Cert.AdFf3RefIdeal.τ).loc Cert.AdFf3RefIdeal.main_v41) = v2 c
          ∧ r.2.mem ((c.tc : Thread Cert.AdFf3RefIdeal.nD Cert.AdFf3RefIdeal.τ).loc Cert.AdFf3RefIdeal.main_v45) = v3 c
          ∧ r.2.mem ((c.tc : Thread Cert.AdFf3RefIdeal.nD Cert.AdFf3RefIdeal.τ).loc Cert.AdFf3RefIdeal.main_arg0) = m' ((c.tc : Thread Cert.AdFf3RefIdeal.nD Cert.AdFf3RefIdeal.τ).loc Cert.AdFf3RefIdeal.main_arg0)
          ∧ r.2.mem ((c.tc : Thread Cert.AdFf3RefIdeal.nD Cert.AdFf3RefIdeal.τ).loc Cert.AdFf3RefIdeal.main_arg1) = m' ((c.tc : Thread Cert.AdFf3RefIdeal.nD Cert.AdFf3RefIdeal.τ).loc Cert.AdFf3RefIdeal.main_arg1)
          ∧ r.2.mem ((c.tc : Thread Cert.AdFf3RefIdeal.nD Cert.AdFf3RefIdeal.τ).loc Cert.AdFf3RefIdeal.main_arg2) = m' ((c.tc : Thread Cert.AdFf3RefIdeal.nD Cert.AdFf3RefIdeal.τ).loc Cert.AdFf3RefIdeal.main_arg2)
          ∧ r.2.mem ((c.tc : Thread Cert.AdFf3RefIdeal.nD Cert.AdFf3RefIdeal.τ).loc Cert.AdFf3RefIdeal.main_arg3) = m' ((c.tc : Thread Cert.AdFf3RefIdeal.nD Cert.AdFf3RefIdeal.τ).loc Cert.AdFf3RefIdeal.main_arg3)
          ∧ r.2.mem ((c.tc : Thread Cert.AdFf3RefIdeal.nD Cert.AdFf3RefIdeal.τ).loc Cert.AdFf3RefIdeal.main_arg4) = m' ((c.tc : Thread Cert.AdFf3RefIdeal.nD Cert.AdFf3RefIdeal.τ).loc Cert.AdFf3RefIdeal.main_arg4)
          ∧ r.2.mem ((c.tc : Thread Cert.AdFf3RefIdeal.nD Cert.AdFf3RefIdeal.τ).loc Cert.AdFf3RefIdeal.main_arg5) = m' ((c.tc : Thread Cert.AdFf3RefIdeal.nD Cert.AdFf3RefIdeal.τ).loc Cert.AdFf3RefIdeal.main_arg5)
          ∧ r.2.mem ((c.tc : Thread Cert.AdFf3RefIdeal.nD Cert.AdFf3RefIdeal.τ).loc Cert.AdFf3RefIdeal.main_arg6) = m' ((c.tc : Thread Cert.AdFf3RefIdeal.nD Cert.AdFf3RefIdeal.τ).loc Cert.AdFf3RefIdeal.main_arg6)
          ∧ r.2.mem ((c.tc : Thread Cert.AdFf3RefIdeal.nD Cert.AdFf3RefIdeal.τ).loc Cert.AdFf3RefIdeal.main_arg7) = m' ((c.tc : Thread Cert.AdFf3RefIdeal.nD Cert.AdFf3RefIdeal.τ).loc Cert.AdFf3RefIdeal.main_arg7))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v2)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v8) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_RecvIn_RecvInIdeal : Prop :=
  True

def algebraic_RecvInIdeal_RecvInRefIdeal [hRecvInIdeal : Cert.RecvInIdeal.Facts] [hRecvInRefIdeal : Cert.RecvInRefIdeal.Facts] : Prop :=
  ∀ (m : (ℓ : Loc Cert.RecvInIdeal.nD Cert.RecvInIdeal.τ Cert.RecvInIdeal.sig) → Buf (Elt Ideal) ℓ) (g : Dev Cert.RecvInIdeal.nD → PrngReg)
    (m' : (ℓ : Loc Cert.RecvInRefIdeal.nD Cert.RecvInRefIdeal.τ Cert.RecvInRefIdeal.sig) → Buf (Elt Ideal) ℓ) (g' : Dev Cert.RecvInRefIdeal.nD → PrngReg), Pre_RecvInIdeal m →
    (∀ c : Dev Cert.RecvInIdeal.nD,
      m' ((c.tc : Thread Cert.RecvInRefIdeal.nD Cert.RecvInRefIdeal.τ).loc Cert.RecvInRefIdeal.main_arg0) = m ((c.tc : Thread Cert.RecvInIdeal.nD Cert.RecvInIdeal.τ).loc Cert.RecvInIdeal.main_arg0)
      ∧ m' ((c.tc : Thread Cert.RecvInRefIdeal.nD Cert.RecvInRefIdeal.τ).loc Cert.RecvInRefIdeal.main_arg1) = m ((c.tc : Thread Cert.RecvInIdeal.nD Cert.RecvInIdeal.τ).loc Cert.RecvInIdeal.main_arg1)) →
    ∃ (v0 : (c : Dev Cert.RecvInIdeal.nD) → Buf (Elt Ideal) ((c.tc : Thread Cert.RecvInIdeal.nD Cert.RecvInIdeal.τ).loc Cert.RecvInIdeal.main_v3)),
      θ_run (Cert.RecvInIdeal.defs (F := Ideal)) (onTc (τ := Cert.RecvInIdeal.τ) (Cert.RecvInIdeal.main (F := Ideal))) ⟨m, fun _ => 0, g⟩ (fun r => ∀ c : Dev Cert.RecvInIdeal.nD,
          r.2.mem ((c.tc : Thread Cert.RecvInIdeal.nD Cert.RecvInIdeal.τ).loc Cert.RecvInIdeal.main_v3) = v0 c
          ∧ r.2.mem ((c.tc : Thread Cert.RecvInIdeal.nD Cert.RecvInIdeal.τ).loc Cert.RecvInIdeal.main_arg0) = m ((c.tc : Thread Cert.RecvInIdeal.nD Cert.RecvInIdeal.τ).loc Cert.RecvInIdeal.main_arg0)
          ∧ r.2.mem ((c.tc : Thread Cert.RecvInIdeal.nD Cert.RecvInIdeal.τ).loc Cert.RecvInIdeal.main_arg1) = m ((c.tc : Thread Cert.RecvInIdeal.nD Cert.RecvInIdeal.τ).loc Cert.RecvInIdeal.main_arg1))
      ∧ θ_run (Cert.RecvInRefIdeal.defs (F := Ideal)) (onTc (τ := Cert.RecvInRefIdeal.τ) (Cert.RecvInRefIdeal.main (F := Ideal))) ⟨m', fun _ => 0, g'⟩ (fun r => ∀ c : Dev Cert.RecvInRefIdeal.nD,
          r.2.mem ((c.tc : Thread Cert.RecvInRefIdeal.nD Cert.RecvInRefIdeal.τ).loc Cert.RecvInRefIdeal.main_v2) = v0 c
          ∧ r.2.mem ((c.tc : Thread Cert.RecvInRefIdeal.nD Cert.RecvInRefIdeal.τ).loc Cert.RecvInRefIdeal.main_arg0) = m' ((c.tc : Thread Cert.RecvInRefIdeal.nD Cert.RecvInRefIdeal.τ).loc Cert.RecvInRefIdeal.main_arg0)
          ∧ r.2.mem ((c.tc : Thread Cert.RecvInRefIdeal.nD Cert.RecvInRefIdeal.τ).loc Cert.RecvInRefIdeal.main_arg1) = m' ((c.tc : Thread Cert.RecvInRefIdeal.nD Cert.RecvInRefIdeal.τ).loc Cert.RecvInRefIdeal.main_arg1))

def preserves_RecvCo_RecvCoIdeal : Prop :=
  True

def algebraic_RecvCoIdeal_RecvCoRefIdeal [hRecvCoIdeal : Cert.RecvCoIdeal.Facts] [hRecvCoRefIdeal : Cert.RecvCoRefIdeal.Facts] : Prop :=
  ∀ (m : (ℓ : Loc Cert.RecvCoIdeal.nD Cert.RecvCoIdeal.τ Cert.RecvCoIdeal.sig) → Buf (Elt Ideal) ℓ) (g : Dev Cert.RecvCoIdeal.nD → PrngReg)
    (m' : (ℓ : Loc Cert.RecvCoRefIdeal.nD Cert.RecvCoRefIdeal.τ Cert.RecvCoRefIdeal.sig) → Buf (Elt Ideal) ℓ) (g' : Dev Cert.RecvCoRefIdeal.nD → PrngReg), Pre_RecvCoIdeal m →
    (∀ c : Dev Cert.RecvCoIdeal.nD,
      m' ((c.tc : Thread Cert.RecvCoRefIdeal.nD Cert.RecvCoRefIdeal.τ).loc Cert.RecvCoRefIdeal.main_arg0) = m ((c.tc : Thread Cert.RecvCoIdeal.nD Cert.RecvCoIdeal.τ).loc Cert.RecvCoIdeal.main_arg0)
      ∧ m' ((c.tc : Thread Cert.RecvCoRefIdeal.nD Cert.RecvCoRefIdeal.τ).loc Cert.RecvCoRefIdeal.main_arg1) = m ((c.tc : Thread Cert.RecvCoIdeal.nD Cert.RecvCoIdeal.τ).loc Cert.RecvCoIdeal.main_arg1)) →
    ∃ (v0 : (c : Dev Cert.RecvCoIdeal.nD) → Buf (Elt Ideal) ((c.tc : Thread Cert.RecvCoIdeal.nD Cert.RecvCoIdeal.τ).loc Cert.RecvCoIdeal.main_v3)),
      θ_run (Cert.RecvCoIdeal.defs (F := Ideal)) (onTc (τ := Cert.RecvCoIdeal.τ) (Cert.RecvCoIdeal.main (F := Ideal))) ⟨m, fun _ => 0, g⟩ (fun r => ∀ c : Dev Cert.RecvCoIdeal.nD,
          r.2.mem ((c.tc : Thread Cert.RecvCoIdeal.nD Cert.RecvCoIdeal.τ).loc Cert.RecvCoIdeal.main_v3) = v0 c
          ∧ r.2.mem ((c.tc : Thread Cert.RecvCoIdeal.nD Cert.RecvCoIdeal.τ).loc Cert.RecvCoIdeal.main_arg0) = m ((c.tc : Thread Cert.RecvCoIdeal.nD Cert.RecvCoIdeal.τ).loc Cert.RecvCoIdeal.main_arg0)
          ∧ r.2.mem ((c.tc : Thread Cert.RecvCoIdeal.nD Cert.RecvCoIdeal.τ).loc Cert.RecvCoIdeal.main_arg1) = m ((c.tc : Thread Cert.RecvCoIdeal.nD Cert.RecvCoIdeal.τ).loc Cert.RecvCoIdeal.main_arg1))
      ∧ θ_run (Cert.RecvCoRefIdeal.defs (F := Ideal)) (onTc (τ := Cert.RecvCoRefIdeal.τ) (Cert.RecvCoRefIdeal.main (F := Ideal))) ⟨m', fun _ => 0, g'⟩ (fun r => ∀ c : Dev Cert.RecvCoRefIdeal.nD,
          r.2.mem ((c.tc : Thread Cert.RecvCoRefIdeal.nD Cert.RecvCoRefIdeal.τ).loc Cert.RecvCoRefIdeal.main_v2) = v0 c
          ∧ r.2.mem ((c.tc : Thread Cert.RecvCoRefIdeal.nD Cert.RecvCoRefIdeal.τ).loc Cert.RecvCoRefIdeal.main_arg0) = m' ((c.tc : Thread Cert.RecvCoRefIdeal.nD Cert.RecvCoRefIdeal.τ).loc Cert.RecvCoRefIdeal.main_arg0)
          ∧ r.2.mem ((c.tc : Thread Cert.RecvCoRefIdeal.nD Cert.RecvCoRefIdeal.τ).loc Cert.RecvCoRefIdeal.main_arg1) = m' ((c.tc : Thread Cert.RecvCoRefIdeal.nD Cert.RecvCoRefIdeal.τ).loc Cert.RecvCoRefIdeal.main_arg1))

def preserves_RecvOut_RecvOutIdeal : Prop :=
  True

def algebraic_RecvOutIdeal_RecvOutRefIdeal [hRecvOutIdeal : Cert.RecvOutIdeal.Facts] [hRecvOutRefIdeal : Cert.RecvOutRefIdeal.Facts] : Prop :=
  ∀ (m : (ℓ : Loc Cert.RecvOutIdeal.nD Cert.RecvOutIdeal.τ Cert.RecvOutIdeal.sig) → Buf (Elt Ideal) ℓ) (g : Dev Cert.RecvOutIdeal.nD → PrngReg)
    (m' : (ℓ : Loc Cert.RecvOutRefIdeal.nD Cert.RecvOutRefIdeal.τ Cert.RecvOutRefIdeal.sig) → Buf (Elt Ideal) ℓ) (g' : Dev Cert.RecvOutRefIdeal.nD → PrngReg), Pre_RecvOutIdeal m →
    (∀ c : Dev Cert.RecvOutIdeal.nD,
      m' ((c.tc : Thread Cert.RecvOutRefIdeal.nD Cert.RecvOutRefIdeal.τ).loc Cert.RecvOutRefIdeal.main_arg0) = m ((c.tc : Thread Cert.RecvOutIdeal.nD Cert.RecvOutIdeal.τ).loc Cert.RecvOutIdeal.main_arg0)
      ∧ m' ((c.tc : Thread Cert.RecvOutRefIdeal.nD Cert.RecvOutRefIdeal.τ).loc Cert.RecvOutRefIdeal.main_arg1) = m ((c.tc : Thread Cert.RecvOutIdeal.nD Cert.RecvOutIdeal.τ).loc Cert.RecvOutIdeal.main_arg1)) →
    ∃ (v0 : (c : Dev Cert.RecvOutIdeal.nD) → Buf (Elt Ideal) ((c.tc : Thread Cert.RecvOutIdeal.nD Cert.RecvOutIdeal.τ).loc Cert.RecvOutIdeal.main_v3)),
      θ_run (Cert.RecvOutIdeal.defs (F := Ideal)) (onTc (τ := Cert.RecvOutIdeal.τ) (Cert.RecvOutIdeal.main (F := Ideal))) ⟨m, fun _ => 0, g⟩ (fun r => ∀ c : Dev Cert.RecvOutIdeal.nD,
          r.2.mem ((c.tc : Thread Cert.RecvOutIdeal.nD Cert.RecvOutIdeal.τ).loc Cert.RecvOutIdeal.main_v3) = v0 c
          ∧ r.2.mem ((c.tc : Thread Cert.RecvOutIdeal.nD Cert.RecvOutIdeal.τ).loc Cert.RecvOutIdeal.main_arg0) = m ((c.tc : Thread Cert.RecvOutIdeal.nD Cert.RecvOutIdeal.τ).loc Cert.RecvOutIdeal.main_arg0)
          ∧ r.2.mem ((c.tc : Thread Cert.RecvOutIdeal.nD Cert.RecvOutIdeal.τ).loc Cert.RecvOutIdeal.main_arg1) = m ((c.tc : Thread Cert.RecvOutIdeal.nD Cert.RecvOutIdeal.τ).loc Cert.RecvOutIdeal.main_arg1))
      ∧ θ_run (Cert.RecvOutRefIdeal.defs (F := Ideal)) (onTc (τ := Cert.RecvOutRefIdeal.τ) (Cert.RecvOutRefIdeal.main (F := Ideal))) ⟨m', fun _ => 0, g'⟩ (fun r => ∀ c : Dev Cert.RecvOutRefIdeal.nD,
          r.2.mem ((c.tc : Thread Cert.RecvOutRefIdeal.nD Cert.RecvOutRefIdeal.τ).loc Cert.RecvOutRefIdeal.main_v2) = v0 c
          ∧ r.2.mem ((c.tc : Thread Cert.RecvOutRefIdeal.nD Cert.RecvOutRefIdeal.τ).loc Cert.RecvOutRefIdeal.main_arg0) = m' ((c.tc : Thread Cert.RecvOutRefIdeal.nD Cert.RecvOutRefIdeal.τ).loc Cert.RecvOutRefIdeal.main_arg0)
          ∧ r.2.mem ((c.tc : Thread Cert.RecvOutRefIdeal.nD Cert.RecvOutRefIdeal.τ).loc Cert.RecvOutRefIdeal.main_arg1) = m' ((c.tc : Thread Cert.RecvOutRefIdeal.nD Cert.RecvOutRefIdeal.τ).loc Cert.RecvOutRefIdeal.main_arg1))

def preserves_RecvFf_RecvFfIdeal : Prop :=
  True

def algebraic_RecvFfIdeal_RecvFfRefIdeal [hRecvFfIdeal : Cert.RecvFfIdeal.Facts] [hRecvFfRefIdeal : Cert.RecvFfRefIdeal.Facts] : Prop :=
  ∀ (m : (ℓ : Loc Cert.RecvFfIdeal.nD Cert.RecvFfIdeal.τ Cert.RecvFfIdeal.sig) → Buf (Elt Ideal) ℓ) (g : Dev Cert.RecvFfIdeal.nD → PrngReg)
    (m' : (ℓ : Loc Cert.RecvFfRefIdeal.nD Cert.RecvFfRefIdeal.τ Cert.RecvFfRefIdeal.sig) → Buf (Elt Ideal) ℓ) (g' : Dev Cert.RecvFfRefIdeal.nD → PrngReg), Pre_RecvFfIdeal m →
    (∀ c : Dev Cert.RecvFfIdeal.nD,
      m' ((c.tc : Thread Cert.RecvFfRefIdeal.nD Cert.RecvFfRefIdeal.τ).loc Cert.RecvFfRefIdeal.main_arg0) = m ((c.tc : Thread Cert.RecvFfIdeal.nD Cert.RecvFfIdeal.τ).loc Cert.RecvFfIdeal.main_arg0)
      ∧ m' ((c.tc : Thread Cert.RecvFfRefIdeal.nD Cert.RecvFfRefIdeal.τ).loc Cert.RecvFfRefIdeal.main_arg1) = m ((c.tc : Thread Cert.RecvFfIdeal.nD Cert.RecvFfIdeal.τ).loc Cert.RecvFfIdeal.main_arg1)) →
    ∃ (v0 : (c : Dev Cert.RecvFfIdeal.nD) → Buf (Elt Ideal) ((c.tc : Thread Cert.RecvFfIdeal.nD Cert.RecvFfIdeal.τ).loc Cert.RecvFfIdeal.main_v3)),
      θ_run (Cert.RecvFfIdeal.defs (F := Ideal)) (onTc (τ := Cert.RecvFfIdeal.τ) (Cert.RecvFfIdeal.main (F := Ideal))) ⟨m, fun _ => 0, g⟩ (fun r => ∀ c : Dev Cert.RecvFfIdeal.nD,
          r.2.mem ((c.tc : Thread Cert.RecvFfIdeal.nD Cert.RecvFfIdeal.τ).loc Cert.RecvFfIdeal.main_v3) = v0 c
          ∧ r.2.mem ((c.tc : Thread Cert.RecvFfIdeal.nD Cert.RecvFfIdeal.τ).loc Cert.RecvFfIdeal.main_arg0) = m ((c.tc : Thread Cert.RecvFfIdeal.nD Cert.RecvFfIdeal.τ).loc Cert.RecvFfIdeal.main_arg0)
          ∧ r.2.mem ((c.tc : Thread Cert.RecvFfIdeal.nD Cert.RecvFfIdeal.τ).loc Cert.RecvFfIdeal.main_arg1) = m ((c.tc : Thread Cert.RecvFfIdeal.nD Cert.RecvFfIdeal.τ).loc Cert.RecvFfIdeal.main_arg1))
      ∧ θ_run (Cert.RecvFfRefIdeal.defs (F := Ideal)) (onTc (τ := Cert.RecvFfRefIdeal.τ) (Cert.RecvFfRefIdeal.main (F := Ideal))) ⟨m', fun _ => 0, g'⟩ (fun r => ∀ c : Dev Cert.RecvFfRefIdeal.nD,
          r.2.mem ((c.tc : Thread Cert.RecvFfRefIdeal.nD Cert.RecvFfRefIdeal.τ).loc Cert.RecvFfRefIdeal.main_v2) = v0 c
          ∧ r.2.mem ((c.tc : Thread Cert.RecvFfRefIdeal.nD Cert.RecvFfRefIdeal.τ).loc Cert.RecvFfRefIdeal.main_arg0) = m' ((c.tc : Thread Cert.RecvFfRefIdeal.nD Cert.RecvFfRefIdeal.τ).loc Cert.RecvFfRefIdeal.main_arg0)
          ∧ r.2.mem ((c.tc : Thread Cert.RecvFfRefIdeal.nD Cert.RecvFfRefIdeal.τ).loc Cert.RecvFfRefIdeal.main_arg1) = m' ((c.tc : Thread Cert.RecvFfRefIdeal.nD Cert.RecvFfRefIdeal.τ).loc Cert.RecvFfRefIdeal.main_arg1))

def Claim : Prop :=
  ∃ (hKernel : Cert.Kernel.Facts) (hKernelIdeal : Cert.KernelIdeal.Facts) (hReferenceIdeal : Cert.ReferenceIdeal.Facts) (hDff : Cert.Dff.Facts) (hDffIdeal : Cert.DffIdeal.Facts) (hDffRefIdeal : Cert.DffRefIdeal.Facts) (hDwFf2 : Cert.DwFf2.Facts) (hDwFf2Ideal : Cert.DwFf2Ideal.Facts) (hDwFf2RefIdeal : Cert.DwFf2RefIdeal.Facts) (hDwFf1 : Cert.DwFf1.Facts) (hDwFf1Ideal : Cert.DwFf1Ideal.Facts) (hDwFf1RefIdeal : Cert.DwFf1RefIdeal.Facts) (hDhMlp : Cert.DhMlp.Facts) (hDhMlpIdeal : Cert.DhMlpIdeal.Facts) (hDhMlpRefIdeal : Cert.DhMlpRefIdeal.Facts) (hDwIn : Cert.DwIn.Facts) (hDwInIdeal : Cert.DwInIdeal.Facts) (hDwInRefIdeal : Cert.DwInRefIdeal.Facts) (hDhMix : Cert.DhMix.Facts) (hDhMixIdeal : Cert.DhMixIdeal.Facts) (hDhMixRefIdeal : Cert.DhMixRefIdeal.Facts) (hMmU : Cert.MmU.Facts) (hMmUIdeal : Cert.MmUIdeal.Facts) (hMmURefIdeal : Cert.MmURefIdeal.Facts) (hMmF : Cert.MmF.Facts) (hMmFIdeal : Cert.MmFIdeal.Facts) (hMmFRefIdeal : Cert.MmFRefIdeal.Facts) (hMmOut : Cert.MmOut.Facts) (hMmOutIdeal : Cert.MmOutIdeal.Facts) (hMmOutRefIdeal : Cert.MmOutRefIdeal.Facts) (hAdSmall : Cert.AdSmall.Facts) (hAdSmallIdeal : Cert.AdSmallIdeal.Facts) (hAdSmallRefIdeal : Cert.AdSmallRefIdeal.Facts) (hSumDev : Cert.SumDev.Facts) (hSumDevIdeal : Cert.SumDevIdeal.Facts) (hSumDevRefIdeal : Cert.SumDevRefIdeal.Facts) (hRmsBwd : Cert.RmsBwd.Facts) (hRmsBwdIdeal : Cert.RmsBwdIdeal.Facts) (hRmsBwdRefIdeal : Cert.RmsBwdRefIdeal.Facts) (hAdIn0 : Cert.AdIn0.Facts) (hAdIn0Ideal : Cert.AdIn0Ideal.Facts) (hAdIn0RefIdeal : Cert.AdIn0RefIdeal.Facts) (hAdIn1 : Cert.AdIn1.Facts) (hAdIn1Ideal : Cert.AdIn1Ideal.Facts) (hAdIn1RefIdeal : Cert.AdIn1RefIdeal.Facts) (hAdIn2 : Cert.AdIn2.Facts) (hAdIn2Ideal : Cert.AdIn2Ideal.Facts) (hAdIn2RefIdeal : Cert.AdIn2RefIdeal.Facts) (hAdIn3 : Cert.AdIn3.Facts) (hAdIn3Ideal : Cert.AdIn3Ideal.Facts) (hAdIn3RefIdeal : Cert.AdIn3RefIdeal.Facts) (hAdCo0 : Cert.AdCo0.Facts) (hAdCo0Ideal : Cert.AdCo0Ideal.Facts) (hAdCo0RefIdeal : Cert.AdCo0RefIdeal.Facts) (hAdCo1 : Cert.AdCo1.Facts) (hAdCo1Ideal : Cert.AdCo1Ideal.Facts) (hAdCo1RefIdeal : Cert.AdCo1RefIdeal.Facts) (hAdCo2 : Cert.AdCo2.Facts) (hAdCo2Ideal : Cert.AdCo2Ideal.Facts) (hAdCo2RefIdeal : Cert.AdCo2RefIdeal.Facts) (hAdCo3 : Cert.AdCo3.Facts) (hAdCo3Ideal : Cert.AdCo3Ideal.Facts) (hAdCo3RefIdeal : Cert.AdCo3RefIdeal.Facts) (hAdOut0 : Cert.AdOut0.Facts) (hAdOut0Ideal : Cert.AdOut0Ideal.Facts) (hAdOut0RefIdeal : Cert.AdOut0RefIdeal.Facts) (hAdOut1 : Cert.AdOut1.Facts) (hAdOut1Ideal : Cert.AdOut1Ideal.Facts) (hAdOut1RefIdeal : Cert.AdOut1RefIdeal.Facts) (hAdOut2 : Cert.AdOut2.Facts) (hAdOut2Ideal : Cert.AdOut2Ideal.Facts) (hAdOut2RefIdeal : Cert.AdOut2RefIdeal.Facts) (hAdOut3 : Cert.AdOut3.Facts) (hAdOut3Ideal : Cert.AdOut3Ideal.Facts) (hAdOut3RefIdeal : Cert.AdOut3RefIdeal.Facts) (hAdFf0 : Cert.AdFf0.Facts) (hAdFf0Ideal : Cert.AdFf0Ideal.Facts) (hAdFf0RefIdeal : Cert.AdFf0RefIdeal.Facts) (hAdFf1 : Cert.AdFf1.Facts) (hAdFf1Ideal : Cert.AdFf1Ideal.Facts) (hAdFf1RefIdeal : Cert.AdFf1RefIdeal.Facts) (hAdFf2 : Cert.AdFf2.Facts) (hAdFf2Ideal : Cert.AdFf2Ideal.Facts) (hAdFf2RefIdeal : Cert.AdFf2RefIdeal.Facts) (hAdFf3 : Cert.AdFf3.Facts) (hAdFf3Ideal : Cert.AdFf3Ideal.Facts) (hAdFf3RefIdeal : Cert.AdFf3RefIdeal.Facts) (hLossHead : Cert.LossHead.Facts) (hLossHeadIdeal : Cert.LossHeadIdeal.Facts) (hLossHeadRefIdeal : Cert.LossHeadRefIdeal.Facts) (hRecvIn : Cert.RecvIn.Facts) (hRecvInIdeal : Cert.RecvInIdeal.Facts) (hRecvInRefIdeal : Cert.RecvInRefIdeal.Facts) (hRecvCo : Cert.RecvCo.Facts) (hRecvCoIdeal : Cert.RecvCoIdeal.Facts) (hRecvCoRefIdeal : Cert.RecvCoRefIdeal.Facts) (hRecvOut : Cert.RecvOut.Facts) (hRecvOutIdeal : Cert.RecvOutIdeal.Facts) (hRecvOutRefIdeal : Cert.RecvOutRefIdeal.Facts) (hRecvFf : Cert.RecvFf.Facts) (hRecvFfIdeal : Cert.RecvFfIdeal.Facts) (hRecvFfRefIdeal : Cert.RecvFfRefIdeal.Facts),
    quiescent_Kernel (hKernel := hKernel)
    ∧ quiescent_KernelIdeal (hKernelIdeal := hKernelIdeal)
    ∧ quiescent_ReferenceIdeal (hReferenceIdeal := hReferenceIdeal)
    ∧ quiescent_Dff (hDff := hDff)
    ∧ quiescent_DffIdeal (hDffIdeal := hDffIdeal)
    ∧ quiescent_DffRefIdeal (hDffRefIdeal := hDffRefIdeal)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_DhMlp (hDhMlp := hDhMlp)
    ∧ quiescent_DhMlpIdeal (hDhMlpIdeal := hDhMlpIdeal)
    ∧ quiescent_DhMlpRefIdeal (hDhMlpRefIdeal := hDhMlpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DhMix (hDhMix := hDhMix)
    ∧ quiescent_DhMixIdeal (hDhMixIdeal := hDhMixIdeal)
    ∧ quiescent_DhMixRefIdeal (hDhMixRefIdeal := hDhMixRefIdeal)
    ∧ quiescent_MmU (hMmU := hMmU)
    ∧ quiescent_MmUIdeal (hMmUIdeal := hMmUIdeal)
    ∧ quiescent_MmURefIdeal (hMmURefIdeal := hMmURefIdeal)
    ∧ quiescent_MmF (hMmF := hMmF)
    ∧ quiescent_MmFIdeal (hMmFIdeal := hMmFIdeal)
    ∧ quiescent_MmFRefIdeal (hMmFRefIdeal := hMmFRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_AdSmall (hAdSmall := hAdSmall)
    ∧ quiescent_AdSmallIdeal (hAdSmallIdeal := hAdSmallIdeal)
    ∧ quiescent_AdSmallRefIdeal (hAdSmallRefIdeal := hAdSmallRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_AdIn0 (hAdIn0 := hAdIn0)
    ∧ quiescent_AdIn0Ideal (hAdIn0Ideal := hAdIn0Ideal)
    ∧ quiescent_AdIn0RefIdeal (hAdIn0RefIdeal := hAdIn0RefIdeal)
    ∧ quiescent_AdIn1 (hAdIn1 := hAdIn1)
    ∧ quiescent_AdIn1Ideal (hAdIn1Ideal := hAdIn1Ideal)
    ∧ quiescent_AdIn1RefIdeal (hAdIn1RefIdeal := hAdIn1RefIdeal)
    ∧ quiescent_AdIn2 (hAdIn2 := hAdIn2)
    ∧ quiescent_AdIn2Ideal (hAdIn2Ideal := hAdIn2Ideal)
    ∧ quiescent_AdIn2RefIdeal (hAdIn2RefIdeal := hAdIn2RefIdeal)
    ∧ quiescent_AdIn3 (hAdIn3 := hAdIn3)
    ∧ quiescent_AdIn3Ideal (hAdIn3Ideal := hAdIn3Ideal)
    ∧ quiescent_AdIn3RefIdeal (hAdIn3RefIdeal := hAdIn3RefIdeal)
    ∧ quiescent_AdCo0 (hAdCo0 := hAdCo0)
    ∧ quiescent_AdCo0Ideal (hAdCo0Ideal := hAdCo0Ideal)
    ∧ quiescent_AdCo0RefIdeal (hAdCo0RefIdeal := hAdCo0RefIdeal)
    ∧ quiescent_AdCo1 (hAdCo1 := hAdCo1)
    ∧ quiescent_AdCo1Ideal (hAdCo1Ideal := hAdCo1Ideal)
    ∧ quiescent_AdCo1RefIdeal (hAdCo1RefIdeal := hAdCo1RefIdeal)
    ∧ quiescent_AdCo2 (hAdCo2 := hAdCo2)
    ∧ quiescent_AdCo2Ideal (hAdCo2Ideal := hAdCo2Ideal)
    ∧ quiescent_AdCo2RefIdeal (hAdCo2RefIdeal := hAdCo2RefIdeal)
    ∧ quiescent_AdCo3 (hAdCo3 := hAdCo3)
    ∧ quiescent_AdCo3Ideal (hAdCo3Ideal := hAdCo3Ideal)
    ∧ quiescent_AdCo3RefIdeal (hAdCo3RefIdeal := hAdCo3RefIdeal)
    ∧ quiescent_AdOut0 (hAdOut0 := hAdOut0)
    ∧ quiescent_AdOut0Ideal (hAdOut0Ideal := hAdOut0Ideal)
    ∧ quiescent_AdOut0RefIdeal (hAdOut0RefIdeal := hAdOut0RefIdeal)
    ∧ quiescent_AdOut1 (hAdOut1 := hAdOut1)
    ∧ quiescent_AdOut1Ideal (hAdOut1Ideal := hAdOut1Ideal)
    ∧ quiescent_AdOut1RefIdeal (hAdOut1RefIdeal := hAdOut1RefIdeal)
    ∧ quiescent_AdOut2 (hAdOut2 := hAdOut2)
    ∧ quiescent_AdOut2Ideal (hAdOut2Ideal := hAdOut2Ideal)
    ∧ quiescent_AdOut2RefIdeal (hAdOut2RefIdeal := hAdOut2RefIdeal)
    ∧ quiescent_AdOut3 (hAdOut3 := hAdOut3)
    ∧ quiescent_AdOut3Ideal (hAdOut3Ideal := hAdOut3Ideal)
    ∧ quiescent_AdOut3RefIdeal (hAdOut3RefIdeal := hAdOut3RefIdeal)
    ∧ quiescent_AdFf0 (hAdFf0 := hAdFf0)
    ∧ quiescent_AdFf0Ideal (hAdFf0Ideal := hAdFf0Ideal)
    ∧ quiescent_AdFf0RefIdeal (hAdFf0RefIdeal := hAdFf0RefIdeal)
    ∧ quiescent_AdFf1 (hAdFf1 := hAdFf1)
    ∧ quiescent_AdFf1Ideal (hAdFf1Ideal := hAdFf1Ideal)
    ∧ quiescent_AdFf1RefIdeal (hAdFf1RefIdeal := hAdFf1RefIdeal)
    ∧ quiescent_AdFf2 (hAdFf2 := hAdFf2)
    ∧ quiescent_AdFf2Ideal (hAdFf2Ideal := hAdFf2Ideal)
    ∧ quiescent_AdFf2RefIdeal (hAdFf2RefIdeal := hAdFf2RefIdeal)
    ∧ quiescent_AdFf3 (hAdFf3 := hAdFf3)
    ∧ quiescent_AdFf3Ideal (hAdFf3Ideal := hAdFf3Ideal)
    ∧ quiescent_AdFf3RefIdeal (hAdFf3RefIdeal := hAdFf3RefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_RecvIn (hRecvIn := hRecvIn)
    ∧ quiescent_RecvInIdeal (hRecvInIdeal := hRecvInIdeal)
    ∧ quiescent_RecvInRefIdeal (hRecvInRefIdeal := hRecvInRefIdeal)
    ∧ quiescent_RecvCo (hRecvCo := hRecvCo)
    ∧ quiescent_RecvCoIdeal (hRecvCoIdeal := hRecvCoIdeal)
    ∧ quiescent_RecvCoRefIdeal (hRecvCoRefIdeal := hRecvCoRefIdeal)
    ∧ quiescent_RecvOut (hRecvOut := hRecvOut)
    ∧ quiescent_RecvOutIdeal (hRecvOutIdeal := hRecvOutIdeal)
    ∧ quiescent_RecvOutRefIdeal (hRecvOutRefIdeal := hRecvOutRefIdeal)
    ∧ quiescent_RecvFf (hRecvFf := hRecvFf)
    ∧ quiescent_RecvFfIdeal (hRecvFfIdeal := hRecvFfIdeal)
    ∧ quiescent_RecvFfRefIdeal (hRecvFfRefIdeal := hRecvFfRefIdeal)
    ∧ preserves_Kernel_KernelIdeal
    ∧ algebraic_KernelIdeal_ReferenceIdeal (hKernelIdeal := hKernelIdeal) (hReferenceIdeal := hReferenceIdeal)
    ∧ preserves_Dff_DffIdeal
    ∧ algebraic_DffIdeal_DffRefIdeal (hDffIdeal := hDffIdeal) (hDffRefIdeal := hDffRefIdeal)
    ∧ preserves_DwFf2_DwFf2Ideal
    ∧ algebraic_DwFf2Ideal_DwFf2RefIdeal (hDwFf2Ideal := hDwFf2Ideal) (hDwFf2RefIdeal := hDwFf2RefIdeal)
    ∧ preserves_DwFf1_DwFf1Ideal
    ∧ algebraic_DwFf1Ideal_DwFf1RefIdeal (hDwFf1Ideal := hDwFf1Ideal) (hDwFf1RefIdeal := hDwFf1RefIdeal)
    ∧ preserves_DhMlp_DhMlpIdeal
    ∧ algebraic_DhMlpIdeal_DhMlpRefIdeal (hDhMlpIdeal := hDhMlpIdeal) (hDhMlpRefIdeal := hDhMlpRefIdeal)
    ∧ preserves_DwIn_DwInIdeal
    ∧ algebraic_DwInIdeal_DwInRefIdeal (hDwInIdeal := hDwInIdeal) (hDwInRefIdeal := hDwInRefIdeal)
    ∧ preserves_DhMix_DhMixIdeal
    ∧ algebraic_DhMixIdeal_DhMixRefIdeal (hDhMixIdeal := hDhMixIdeal) (hDhMixRefIdeal := hDhMixRefIdeal)
    ∧ preserves_MmU_MmUIdeal
    ∧ algebraic_MmUIdeal_MmURefIdeal (hMmUIdeal := hMmUIdeal) (hMmURefIdeal := hMmURefIdeal)
    ∧ preserves_MmF_MmFIdeal
    ∧ algebraic_MmFIdeal_MmFRefIdeal (hMmFIdeal := hMmFIdeal) (hMmFRefIdeal := hMmFRefIdeal)
    ∧ preserves_MmOut_MmOutIdeal
    ∧ algebraic_MmOutIdeal_MmOutRefIdeal (hMmOutIdeal := hMmOutIdeal) (hMmOutRefIdeal := hMmOutRefIdeal)
    ∧ preserves_AdSmall_AdSmallIdeal
    ∧ algebraic_AdSmallIdeal_AdSmallRefIdeal (hAdSmallIdeal := hAdSmallIdeal) (hAdSmallRefIdeal := hAdSmallRefIdeal)
    ∧ preserves_SumDev_SumDevIdeal
    ∧ algebraic_SumDevIdeal_SumDevRefIdeal (hSumDevIdeal := hSumDevIdeal) (hSumDevRefIdeal := hSumDevRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_AdIn0_AdIn0Ideal
    ∧ algebraic_AdIn0Ideal_AdIn0RefIdeal (hAdIn0Ideal := hAdIn0Ideal) (hAdIn0RefIdeal := hAdIn0RefIdeal)
    ∧ preserves_AdIn1_AdIn1Ideal
    ∧ algebraic_AdIn1Ideal_AdIn1RefIdeal (hAdIn1Ideal := hAdIn1Ideal) (hAdIn1RefIdeal := hAdIn1RefIdeal)
    ∧ preserves_AdIn2_AdIn2Ideal
    ∧ algebraic_AdIn2Ideal_AdIn2RefIdeal (hAdIn2Ideal := hAdIn2Ideal) (hAdIn2RefIdeal := hAdIn2RefIdeal)
    ∧ preserves_AdIn3_AdIn3Ideal
    ∧ algebraic_AdIn3Ideal_AdIn3RefIdeal (hAdIn3Ideal := hAdIn3Ideal) (hAdIn3RefIdeal := hAdIn3RefIdeal)
    ∧ preserves_AdCo0_AdCo0Ideal
    ∧ algebraic_AdCo0Ideal_AdCo0RefIdeal (hAdCo0Ideal := hAdCo0Ideal) (hAdCo0RefIdeal := hAdCo0RefIdeal)
    ∧ preserves_AdCo1_AdCo1Ideal
    ∧ algebraic_AdCo1Ideal_AdCo1RefIdeal (hAdCo1Ideal := hAdCo1Ideal) (hAdCo1RefIdeal := hAdCo1RefIdeal)
    ∧ preserves_AdCo2_AdCo2Ideal
    ∧ algebraic_AdCo2Ideal_AdCo2RefIdeal (hAdCo2Ideal := hAdCo2Ideal) (hAdCo2RefIdeal := hAdCo2RefIdeal)
    ∧ preserves_AdCo3_AdCo3Ideal
    ∧ algebraic_AdCo3Ideal_AdCo3RefIdeal (hAdCo3Ideal := hAdCo3Ideal) (hAdCo3RefIdeal := hAdCo3RefIdeal)
    ∧ preserves_AdOut0_AdOut0Ideal
    ∧ algebraic_AdOut0Ideal_AdOut0RefIdeal (hAdOut0Ideal := hAdOut0Ideal) (hAdOut0RefIdeal := hAdOut0RefIdeal)
    ∧ preserves_AdOut1_AdOut1Ideal
    ∧ algebraic_AdOut1Ideal_AdOut1RefIdeal (hAdOut1Ideal := hAdOut1Ideal) (hAdOut1RefIdeal := hAdOut1RefIdeal)
    ∧ preserves_AdOut2_AdOut2Ideal
    ∧ algebraic_AdOut2Ideal_AdOut2RefIdeal (hAdOut2Ideal := hAdOut2Ideal) (hAdOut2RefIdeal := hAdOut2RefIdeal)
    ∧ preserves_AdOut3_AdOut3Ideal
    ∧ algebraic_AdOut3Ideal_AdOut3RefIdeal (hAdOut3Ideal := hAdOut3Ideal) (hAdOut3RefIdeal := hAdOut3RefIdeal)
    ∧ preserves_AdFf0_AdFf0Ideal
    ∧ algebraic_AdFf0Ideal_AdFf0RefIdeal (hAdFf0Ideal := hAdFf0Ideal) (hAdFf0RefIdeal := hAdFf0RefIdeal)
    ∧ preserves_AdFf1_AdFf1Ideal
    ∧ algebraic_AdFf1Ideal_AdFf1RefIdeal (hAdFf1Ideal := hAdFf1Ideal) (hAdFf1RefIdeal := hAdFf1RefIdeal)
    ∧ preserves_AdFf2_AdFf2Ideal
    ∧ algebraic_AdFf2Ideal_AdFf2RefIdeal (hAdFf2Ideal := hAdFf2Ideal) (hAdFf2RefIdeal := hAdFf2RefIdeal)
    ∧ preserves_AdFf3_AdFf3Ideal
    ∧ algebraic_AdFf3Ideal_AdFf3RefIdeal (hAdFf3Ideal := hAdFf3Ideal) (hAdFf3RefIdeal := hAdFf3RefIdeal)
    ∧ preserves_LossHead_LossHeadIdeal
    ∧ algebraic_LossHeadIdeal_LossHeadRefIdeal (hLossHeadIdeal := hLossHeadIdeal) (hLossHeadRefIdeal := hLossHeadRefIdeal)
    ∧ preserves_RecvIn_RecvInIdeal
    ∧ algebraic_RecvInIdeal_RecvInRefIdeal (hRecvInIdeal := hRecvInIdeal) (hRecvInRefIdeal := hRecvInRefIdeal)
    ∧ preserves_RecvCo_RecvCoIdeal
    ∧ algebraic_RecvCoIdeal_RecvCoRefIdeal (hRecvCoIdeal := hRecvCoIdeal) (hRecvCoRefIdeal := hRecvCoRefIdeal)
    ∧ preserves_RecvOut_RecvOutIdeal
    ∧ algebraic_RecvOutIdeal_RecvOutRefIdeal (hRecvOutIdeal := hRecvOutIdeal) (hRecvOutRefIdeal := hRecvOutRefIdeal)
    ∧ preserves_RecvFf_RecvFfIdeal
    ∧ algebraic_RecvFfIdeal_RecvFfRefIdeal (hRecvFfIdeal := hRecvFfIdeal) (hRecvFfRefIdeal := hRecvFfRefIdeal)
-- ==== Kernel.lean ====
abbrev S2048x7680 : Shape := ⟨2, ![2048, 7680]⟩
abbrev S31x512 : Shape := ⟨2, ![31, 512]⟩
abbrev S2048x512 : Shape := ⟨2, ![2048, 512]⟩
abbrev S1x512 : Shape := ⟨2, ![1, 512]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S128 : Shape := ⟨1, ![128]⟩
abbrev S256x128 : Shape := ⟨2, ![256, 128]⟩

abbrev nBuf : Space → Nat
  | .hbm => 7
  | .vmem => 18
  | .smem => 0
  | _ => 0

abbrev bufTy : (tb : Table) → Fin (tcTables nBuf tb) → BufTy
  | .hbm, ⟨0, _⟩ => ⟨S2048x7680, .bf16⟩
  | .hbm, ⟨1, _⟩ => ⟨S31x512, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S31x512, .f32⟩
  | .hbm, ⟨6, _⟩ => ⟨S1x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S2080x128, .f32⟩
  | .local _ .vmem, ⟨17, _⟩ => ⟨S2080x128, .f32⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x7680 : Shape := ⟨2, ![2048, 7680]⟩
abbrev S31x512 : Shape := ⟨2, ![31, 512]⟩
abbrev S2048x512 : Shape := ⟨2, ![2048, 512]⟩
abbrev S_ : Shape := ⟨0, ![]⟩
abbrev S1x512 : Shape := ⟨2, ![1, 512]⟩
abbrev S30x512 : Shape := ⟨2, ![30, 512]⟩
abbrev S2078x512 : Shape := ⟨2, ![2078, 512]⟩
abbrev S512 : Shape := ⟨1, ![512]⟩

abbrev nBuf : Space → Nat
  | .hbm => 566
  | .vmem => 0
  | .smem => 0
  | _ => 0

abbrev hbmTy0_0 (i : Nat) : BufTy := match i % 128 with
  | 0 => ⟨S2048x7680, .bf16⟩
  | 1 => ⟨S31x512, .f32⟩
  | 2 => ⟨S2048x512, .f32⟩
  | 3 => ⟨S2048x7680, .f32⟩
  | 4 => ⟨S_, .f32⟩
  | 5 => ⟨S1x512, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S2048x512, .f32⟩
  | 21 => ⟨S_, .f32⟩
  | 22 => ⟨S30x512, .f32⟩
  | 23 => ⟨S2078x512, .f32⟩
  | 24 => ⟨S_, .f32⟩
  | 25 => ⟨S30x512, .f32⟩
  | 26 => ⟨S2048x512, .f32⟩
  | 27 => ⟨S1x512, .f32⟩
  | 28 => ⟨S2048x512, .f32⟩
  | 29 => ⟨S2048x512, .f32⟩
  | 30 => ⟨S_, .f32⟩
  | 31 => ⟨S2048x512, .f32⟩
  | 32 => ⟨S2048x512, .f32⟩
  | 33 => ⟨S2048x512, .f32⟩
  | 34 => ⟨S1x512, .f32⟩
  | 35 => ⟨S2048x512, .f32⟩
  | 36 => ⟨S2048x512, .f32⟩
  | 37 => ⟨S2048x512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S2048x512, .f32⟩
  | 44 => ⟨S1x512, .f32⟩
  | 45 => ⟨S2048x512, .f32⟩
  | 46 => ⟨S2048x512, .f32⟩
  | 47 => ⟨S2048x512, .f32⟩
  | 48 => ⟨S2048x512, .f32⟩
  | 49 => ⟨S1x512, .f32⟩
  | 50 => ⟨S2048x512, .f32⟩
  | 51 => ⟨S2048x512, .f32⟩
  | 52 => ⟨S2048x512, .f32⟩
  | 53 => ⟨S2048x512, .f32⟩
  | 54 => ⟨S1x512, .f32⟩
  | 55 => ⟨S2048x512, .f32⟩
  | 56 => ⟨S2048x512, .f32⟩
  | 57 => ⟨S2048x512, .f32⟩
  | 58 => ⟨S2048x512, .f32⟩
  | 59 => ⟨S1x512, .f32⟩
  | 60 => ⟨S2048x512, .f32⟩
  | 61 => ⟨S2048x512, .f32⟩
  | 62 => ⟨S2048x512, .f32⟩
  | 63 => ⟨S2048x512, .f32⟩
  | 64 => ⟨S1x512, .f32⟩
  | 65 => ⟨S2048x512, .f32⟩
  | 66 => ⟨S2048x512, .f32⟩
  | 67 => ⟨S2048x512, .f32⟩
  | 68 => ⟨S2048x512, .f32⟩
  | 69 => ⟨S1x512, .f32⟩
  | 70 => ⟨S2048x512, .f32⟩
  | 71 => ⟨S2048x512, .f32⟩
  | 72 => ⟨S2048x512, .f32⟩
  | 73 => ⟨S2048x512, .f32⟩
  | 74 => ⟨S1x512, .f32⟩
  | 75 => ⟨S2048x512, .f32⟩
  | 76 => ⟨S2048x512, .f32⟩
  | 77 => ⟨S2048x512, .f32⟩
  | 78 => ⟨S2048x512, .f32⟩
  | 79 => ⟨S1x512, .f32⟩
  | 80 => ⟨S2048x512, .f32⟩
  | 81 => ⟨S2048x512, .f32⟩
  | 82 => ⟨S2048x512, .f32⟩
  | 83 => ⟨S2048x512, .f32⟩
  | 84 => ⟨S1x512, .f32⟩
  | 85 => ⟨S2048x512, .f32⟩
  | 86 => ⟨S2048x512, .f32⟩
  | 87 => ⟨S2048x512, .f32⟩
  | 88 => ⟨S2048x512, .f32⟩
  | 89 => ⟨S1x512, .f32⟩
  | 90 => ⟨S2048x512, .f32⟩
  | 91 => ⟨S2048x512, .f32⟩
  | 92 => ⟨S2048x512, .f32⟩
  | 93 => ⟨S2048x512, .f32⟩
  | 94 => ⟨S1x512, .f32⟩
  | 95 => ⟨S2048x512, .f32⟩
  | 96 => ⟨S2048x512, .f32⟩
  | 97 => ⟨S2048x512, .f32⟩
  | 98 => ⟨S2048x512, .f32⟩
  | 99 => ⟨S1x512, .f32⟩
  | 100 => ⟨S2048x512, .f32⟩
  | 101 => ⟨S2048x512, .f32⟩
  | 102 => ⟨S2048x512, .f32⟩
  | 103 => ⟨S2048x512, .f32⟩
  | 104 => ⟨S1x512, .f32⟩
  | 105 => ⟨S2048x512, .f32⟩
  | 106 => ⟨S2048x512, .f32⟩
  | 107 => ⟨S2048x512, .f32⟩
  | 108 => ⟨S2048x512, .f32⟩
  | 109 => ⟨S1x512, .f32⟩
  | 110 => ⟨S2048x512, .f32⟩
  | 111 => ⟨S2048x512, .f32⟩
  | 112 => ⟨S2048x512, .f32⟩
  | 113 => ⟨S2048x512, .f32⟩
  | 114 => ⟨S1x512, .f32⟩
  | 115 => ⟨S2048x512, .f32⟩
  | 116 => ⟨S2048x512, .f32⟩
  | 117 => ⟨S2048x512, .f32⟩
  | 118 => ⟨S2048x512, .f32⟩
  | 119 => ⟨S1x512, .f32⟩
  | 120 => ⟨S2048x512, .f32⟩
  | 121 => ⟨S2048x512, .f32⟩
  | 122 => ⟨S2048x512, .f32⟩
  | 123 => ⟨S2048x512, .f32⟩
  | 124 => ⟨S1x512, .f32⟩
  | 125 => ⟨S2048x512, .f32⟩
  | 126 => ⟨S2048x512, .f32⟩
  | 127 => ⟨S2048x512, .f32⟩
  | _ => ⟨S2048x7680, .bf16⟩

abbrev hbmTy0_1 (i : Nat) : BufTy := match i % 128 with
  | 0 => ⟨S2048x512, .f32⟩
  | 1 => ⟨S1x512, .f32⟩
  | 2 => ⟨S2048x512, .f32⟩
  | 3 => ⟨S2048x512, .f32⟩
  | 4 => ⟨S2048x512, .f32⟩
  | 5 => ⟨S2048x512, .f32⟩
  | 6 => ⟨S1x512, .f32⟩
  | 7 => ⟨S2048x512, .f32⟩
  | 8 => ⟨S2048x512, .f32⟩
  | 9 => ⟨S2048x512, .f32⟩
  | 10 => ⟨S2048x512, .f32⟩
  | 11 => ⟨S1x512, .f32⟩
  | 12 => ⟨S2048x512, .f32⟩
  | 13 => ⟨S2048x512, .f32⟩
  | 14 => ⟨S2048x512, .f32⟩
  | 15 => ⟨S2048x512, .f32⟩
  | 16 => ⟨S1x512, .f32⟩
  | 17 => ⟨S2048x512, .f32⟩
  | 18 => ⟨S2048x512, .f32⟩
  | 19 => ⟨S2048x512, .f32⟩
  | 20 => ⟨S2048x512, .f32⟩
  | 21 => ⟨S1x512, .f32⟩
  | 22 => ⟨S2048x512, .f32⟩
  | 23 => ⟨S2048x512, .f32⟩
  | 24 => ⟨S2048x512, .f32⟩
  | 25 => ⟨S2048x512, .f32⟩
  | 26 => ⟨S1x512, .f32⟩
  | 27 => ⟨S2048x512, .f32⟩
  | 28 => ⟨S2048x512, .f32⟩
  | 29 => ⟨S2048x512, .f32⟩
  | 30 => ⟨S2048x512, .f32⟩
  | 31 => ⟨S1x512, .f32⟩
  | 32 => ⟨S2048x512, .f32⟩
  | 33 => ⟨S2048x512, .f32⟩
  | 34 => ⟨S2048x512, .f32⟩
  | 35 => ⟨S2048x512, .f32⟩
  | 36 => ⟨S1x512, .f32⟩
  | 37 => ⟨S2048x512, .f32⟩
  | 38 => ⟨S2048x512, .f32⟩
  | 39 => ⟨S2048x512, .f32⟩
  | 40 => ⟨S2048x512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S2048x512, .f32⟩
  | 48 => ⟨S2048x512, .f32⟩
  | 49 => ⟨S2048x512, .f32⟩
  | 50 => ⟨S2048x512, .f32⟩
  | 51 => ⟨S1x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S_, .f32⟩
  | 59 => ⟨S512, .f32⟩
  | 60 => ⟨S1x512, .f32⟩
  | 61 => ⟨S2048x512, .f32⟩
  | 62 => ⟨S_, .f32⟩
  | 63 => ⟨S512, .f32⟩
  | 64 => ⟨S1x512, .f32⟩
  | 65 => ⟨S2048x512, .f32⟩
  | 66 => ⟨S2048x512, .f32⟩
  | 67 => ⟨S_, .f32⟩
  | 68 => ⟨S31x512, .f32⟩
  | 69 => ⟨S_, .f32⟩
  | 70 => ⟨S2078x512, .f32⟩
  | 71 => ⟨S2048x512, .f32⟩
  | 72 => ⟨S_, .f32⟩
  | 73 => ⟨S512, .f32⟩
  | 74 => ⟨S1x512, .f32⟩
  | 75 => ⟨S2048x512, .f32⟩
  | 76 => ⟨S2048x512, .f32⟩
  | 77 => ⟨S_, .f32⟩
  | 78 => ⟨S31x512, .f32⟩
  | 79 => ⟨S31x512, .f32⟩
  | 80 => ⟨S_, .f32⟩
  | 81 => ⟨S2078x512, .f32⟩
  | 82 => ⟨S2078x512, .f32⟩
  | 83 => ⟨S2048x512, .f32⟩
  | 84 => ⟨S_, .f32⟩
  | 85 => ⟨S512, .f32⟩
  | 86 => ⟨S1x512, .f32⟩
  | 87 => ⟨S2048x512, .f32⟩
  | 88 => ⟨S2048x512, .f32⟩
  | 89 => ⟨S_, .f32⟩
  | 90 => ⟨S31x512, .f32⟩
  | 91 => ⟨S31x512, .f32⟩
  | 92 => ⟨S_, .f32⟩
  | 93 => ⟨S2078x512, .f32⟩
  | 94 => ⟨S2078x512, .f32⟩
  | 95 => ⟨S2048x512, .f32⟩
  | 96 => ⟨S_, .f32⟩
  | 97 => ⟨S512, .f32⟩
  | 98 => ⟨S1x512, .f32⟩
  | 99 => ⟨S2048x512, .f32⟩
  | 100 => ⟨S2048x512, .f32⟩
  | 101 => ⟨S_, .f32⟩
  | 102 => ⟨S31x512, .f32⟩
  | 103 => ⟨S31x512, .f32⟩
  | 104 => ⟨S_, .f32⟩
  | 105 => ⟨S2078x512, .f32⟩
  | 106 => ⟨S2078x512, .f32⟩
  | 107 => ⟨S2048x512, .f32⟩
  | 108 => ⟨S_, .f32⟩
  | 109 => ⟨S512, .f32⟩
  | 110 => ⟨S1x512, .f32⟩
  | 111 => ⟨S2048x512, .f32⟩
  | 112 => ⟨S2048x512, .f32⟩
  | 113 => ⟨S_, .f32⟩
  | 114 => ⟨S31x512, .f32⟩
  | 115 => ⟨S31x512, .f32⟩
  | 116 => ⟨S_, .f32⟩
  | 117 => ⟨S2078x512, .f32⟩
  | 118 => ⟨S2078x512, .f32⟩
  | 119 => ⟨S2048x512, .f32⟩
  | 120 => ⟨S_, .f32⟩
  | 121 => ⟨S512, .f32⟩
  | 122 => ⟨S1x512, .f32⟩
  | 123 => ⟨S2048x512, .f32⟩
  | 124 => ⟨S2048x512, .f32⟩
  | 125 => ⟨S_, .f32⟩
  | 126 => ⟨S31x512, .f32⟩
  | 127 => ⟨S31x512, .f32⟩
  | _ => ⟨S2048x7680, .bf16⟩

abbrev hbmTy0_2 (i : Nat) : BufTy := match i % 128 with
  | 0 => ⟨S_, .f32⟩
  | 1 => ⟨S2078x512, .f32⟩
  | 2 => ⟨S2078x512, .f32⟩
  | 3 => ⟨S2048x512, .f32⟩
  | 4 => ⟨S_, .f32⟩
  | 5 => ⟨S512, .f32⟩
  | 6 => ⟨S1x512, .f32⟩
  | 7 => ⟨S2048x512, .f32⟩
  | 8 => ⟨S2048x512, .f32⟩
  | 9 => ⟨S_, .f32⟩
  | 10 => ⟨S31x512, .f32⟩
  | 11 => ⟨S31x512, .f32⟩
  | 12 => ⟨S_, .f32⟩
  | 13 => ⟨S2078x512, .f32⟩
  | 14 => ⟨S2078x512, .f32⟩
  | 15 => ⟨S2048x512, .f32⟩
  | 16 => ⟨S_, .f32⟩
  | 17 => ⟨S512, .f32⟩
  | 18 => ⟨S1x512, .f32⟩
  | 19 => ⟨S2048x512, .f32⟩
  | 20 => ⟨S2048x512, .f32⟩
  | 21 => ⟨S_, .f32⟩
  | 22 => ⟨S31x512, .f32⟩
  | 23 => ⟨S31x512, .f32⟩
  | 24 => ⟨S_, .f32⟩
  | 25 => ⟨S2078x512, .f32⟩
  | 26 => ⟨S2078x512, .f32⟩
  | 27 => ⟨S2048x512, .f32⟩
  | 28 => ⟨S_, .f32⟩
  | 29 => ⟨S512, .f32⟩
  | 30 => ⟨S1x512, .f32⟩
  | 31 => ⟨S2048x512, .f32⟩
  | 32 => ⟨S2048x512, .f32⟩
  | 33 => ⟨S_, .f32⟩
  | 34 => ⟨S31x512, .f32⟩
  | 35 => ⟨S31x512, .f32⟩
  | 36 => ⟨S_, .f32⟩
  | 37 => ⟨S2078x512, .f32⟩
  | 38 => ⟨S2078x512, .f32⟩
  | 39 => ⟨S2048x512, .f32⟩
  | 40 => ⟨S_, .f32⟩
  | 41 => ⟨S512, .f32⟩
  | 42 => ⟨S1x512, .f32⟩
  | 43 => ⟨S2048x512, .f32⟩
  | 44 => ⟨S2048x512, .f32⟩
  | 45 => ⟨S_, .f32⟩
  | 46 => ⟨S31x512, .f32⟩
  | 47 => ⟨S31x512, .f32⟩
  | 48 => ⟨S_, .f32⟩
  | 49 => ⟨S2078x512, .f32⟩
  | 50 => ⟨S2078x512, .f32⟩
  | 51 => ⟨S2048x512, .f32⟩
  | 52 => ⟨S_, .f32⟩
  | 53 => ⟨S512, .f32⟩
  | 54 => ⟨S1x512, .f32⟩
  | 55 => ⟨S2048x512, .f32⟩
  | 56 => ⟨S2048x512, .f32⟩
  | 57 => ⟨S_, .f32⟩
  | 58 => ⟨S31x512, .f32⟩
  | 59 => ⟨S31x512, .f32⟩
  | 60 => ⟨S_, .f32⟩
  | 61 => ⟨S2078x512, .f32⟩
  | 62 => ⟨S2078x512, .f32⟩
  | 63 => ⟨S2048x512, .f32⟩
  | 64 => ⟨S_, .f32⟩
  | 65 => ⟨S512, .f32⟩
  | 66 => ⟨S1x512, .f32⟩
  | 67 => ⟨S2048x512, .f32⟩
  | 68 => ⟨S2048x512, .f32⟩
  | 69 => ⟨S_, .f32⟩
  | 70 => ⟨S31x512, .f32⟩
  | 71 => ⟨S31x512, .f32⟩
  | 72 => ⟨S_, .f32⟩
  | 73 => ⟨S2078x512, .f32⟩
  | 74 => ⟨S2078x512, .f32⟩
  | 75 => ⟨S2048x512, .f32⟩
  | 76 => ⟨S_, .f32⟩
  | 77 => ⟨S512, .f32⟩
  | 78 => ⟨S1x512, .f32⟩
  | 79 => ⟨S2048x512, .f32⟩
  | 80 => ⟨S2048x512, .f32⟩
  | 81 => ⟨S_, .f32⟩
  | 82 => ⟨S31x512, .f32⟩
  | 83 => ⟨S31x512, .f32⟩
  | 84 => ⟨S_, .f32⟩
  | 85 => ⟨S2078x512, .f32⟩
  | 86 => ⟨S2078x512, .f32⟩
  | 87 => ⟨S2048x512, .f32⟩
  | 88 => ⟨S_, .f32⟩
  | 89 => ⟨S512, .f32⟩
  | 90 => ⟨S1x512, .f32⟩
  | 91 => ⟨S2048x512, .f32⟩
  | 92 => ⟨S2048x512, .f32⟩
  | 93 => ⟨S_, .f32⟩
  | 94 => ⟨S31x512, .f32⟩
  | 95 => ⟨S31x512, .f32⟩
  | 96 => ⟨S_, .f32⟩
  | 97 => ⟨S2078x512, .f32⟩
  | 98 => ⟨S2078x512, .f32⟩
  | 99 => ⟨S2048x512, .f32⟩
  | 100 => ⟨S_, .f32⟩
  | 101 => ⟨S512, .f32⟩
  | 102 => ⟨S1x512, .f32⟩
  | 103 => ⟨S2048x512, .f32⟩
  | 104 => ⟨S2048x512, .f32⟩
  | 105 => ⟨S_, .f32⟩
  | 106 => ⟨S31x512, .f32⟩
  | 107 => ⟨S31x512, .f32⟩
  | 108 => ⟨S_, .f32⟩
  | 109 => ⟨S2078x512, .f32⟩
  | 110 => ⟨S2078x512, .f32⟩
  | 111 => ⟨S2048x512, .f32⟩
  | 112 => ⟨S_, .f32⟩
  | 113 => ⟨S512, .f32⟩
  | 114 => ⟨S1x512, .f32⟩
  | 115 => ⟨S2048x512, .f32⟩
  | 116 => ⟨S2048x512, .f32⟩
  | 117 => ⟨S_, .f32⟩
  | 118 => ⟨S31x512, .f32⟩
  | 119 => ⟨S31x512, .f32⟩
  | 120 => ⟨S_, .f32⟩
  | 121 => ⟨S2078x512, .f32⟩
  | 122 => ⟨S2078x512, .f32⟩
  | 123 => ⟨S2048x512, .f32⟩
  | 124 => ⟨S_, .f32⟩
  | 125 => ⟨S512, .f32⟩
  | 126 => ⟨S1x512, .f32⟩
  | 127 => ⟨S2048x512, .f32⟩
  | _ => ⟨S2048x7680, .bf16⟩

abbrev hbmTy0_3 (i : Nat) : BufTy := match i % 128 with
  | 0 => ⟨S2048x512, .f32⟩
  | 1 => ⟨S_, .f32⟩
  | 2 => ⟨S31x512, .f32⟩
  | 3 => ⟨S31x512, .f32⟩
  | 4 => ⟨S_, .f32⟩
  | 5 => ⟨S2078x512, .f32⟩
  | 6 => ⟨S2078x512, .f32⟩
  | 7 => ⟨S2048x512, .f32⟩
  | 8 => ⟨S_, .f32⟩
  | 9 => ⟨S512, .f32⟩
  | 10 => ⟨S1x512, .f32⟩
  | 11 => ⟨S2048x512, .f32⟩
  | 12 => ⟨S2048x512, .f32⟩
  | 13 => ⟨S_, .f32⟩
  | 14 => ⟨S31x512, .f32⟩
  | 15 => ⟨S31x512, .f32⟩
  | 16 => ⟨S_, .f32⟩
  | 17 => ⟨S2078x512, .f32⟩
  | 18 => ⟨S2078x512, .f32⟩
  | 19 => ⟨S2048x512, .f32⟩
  | 20 => ⟨S_, .f32⟩
  | 21 => ⟨S512, .f32⟩
  | 22 => ⟨S1x512, .f32⟩
  | 23 => ⟨S2048x512, .f32⟩
  | 24 => ⟨S2048x512, .f32⟩
  | 25 => ⟨S_, .f32⟩
  | 26 => ⟨S31x512, .f32⟩
  | 27 => ⟨S31x512, .f32⟩
  | 28 => ⟨S_, .f32⟩
  | 29 => ⟨S2078x512, .f32⟩
  | 30 => ⟨S2078x512, .f32⟩
  | 31 => ⟨S2048x512, .f32⟩
  | 32 => ⟨S_, .f32⟩
  | 33 => ⟨S512, .f32⟩
  | 34 => ⟨S1x512, .f32⟩
  | 35 => ⟨S2048x512, .f32⟩
  | 36 => ⟨S2048x512, .f32⟩
  | 37 => ⟨S_, .f32⟩
  | 38 => ⟨S31x512, .f32⟩
  | 39 => ⟨S31x512, .f32⟩
  | 40 => ⟨S_, .f32⟩
  | 41 => ⟨S2078x512, .f32⟩
  | 42 => ⟨S2078x512, .f32⟩
  | 43 => ⟨S2048x512, .f32⟩
  | 44 => ⟨S_, .f32⟩
  | 45 => ⟨S512, .f32⟩
  | 46 => ⟨S1x512, .f32⟩
  | 47 => ⟨S2048x512, .f32⟩
  | 48 => ⟨S2048x512, .f32⟩
  | 49 => ⟨S_, .f32⟩
  | 50 => ⟨S31x512, .f32⟩
  | 51 => ⟨S31x512, .f32⟩
  | 52 => ⟨S_, .f32⟩
  | 53 => ⟨S2078x512, .f32⟩
  | 54 => ⟨S2078x512, .f32⟩
  | 55 => ⟨S2048x512, .f32⟩
  | 56 => ⟨S_, .f32⟩
  | 57 => ⟨S512, .f32⟩
  | 58 => ⟨S1x512, .f32⟩
  | 59 => ⟨S2048x512, .f32⟩
  | 60 => ⟨S2048x512, .f32⟩
  | 61 => ⟨S_, .f32⟩
  | 62 => ⟨S31x512, .f32⟩
  | 63 => ⟨S31x512, .f32⟩
  | 64 => ⟨S_, .f32⟩
  | 65 => ⟨S2078x512, .f32⟩
  | 66 => ⟨S2078x512, .f32⟩
  | 67 => ⟨S2048x512, .f32⟩
  | 68 => ⟨S_, .f32⟩
  | 69 => ⟨S512, .f32⟩
  | 70 => ⟨S1x512, .f32⟩
  | 71 => ⟨S2048x512, .f32⟩
  | 72 => ⟨S2048x512, .f32⟩
  | 73 => ⟨S_, .f32⟩
  | 74 => ⟨S31x512, .f32⟩
  | 75 => ⟨S31x512, .f32⟩
  | 76 => ⟨S_, .f32⟩
  | 77 => ⟨S2078x512, .f32⟩
  | 78 => ⟨S2078x512, .f32⟩
  | 79 => ⟨S2048x512, .f32⟩
  | 80 => ⟨S_, .f32⟩
  | 81 => ⟨S512, .f32⟩
  | 82 => ⟨S1x512, .f32⟩
  | 83 => ⟨S2048x512, .f32⟩
  | 84 => ⟨S2048x512, .f32⟩
  | 85 => ⟨S_, .f32⟩
  | 86 => ⟨S31x512, .f32⟩
  | 87 => ⟨S31x512, .f32⟩
  | 88 => ⟨S_, .f32⟩
  | 89 => ⟨S2078x512, .f32⟩
  | 90 => ⟨S2078x512, .f32⟩
  | 91 => ⟨S2048x512, .f32⟩
  | 92 => ⟨S_, .f32⟩
  | 93 => ⟨S512, .f32⟩
  | 94 => ⟨S1x512, .f32⟩
  | 95 => ⟨S2048x512, .f32⟩
  | 96 => ⟨S2048x512, .f32⟩
  | 97 => ⟨S_, .f32⟩
  | 98 => ⟨S31x512, .f32⟩
  | 99 => ⟨S31x512, .f32⟩
  | 100 => ⟨S_, .f32⟩
  | 101 => ⟨S2078x512, .f32⟩
  | 102 => ⟨S2078x512, .f32⟩
  | 103 => ⟨S2048x512, .f32⟩
  | 104 => ⟨S_, .f32⟩
  | 105 => ⟨S512, .f32⟩
  | 106 => ⟨S1x512, .f32⟩
  | 107 => ⟨S2048x512, .f32⟩
  | 108 => ⟨S2048x512, .f32⟩
  | 109 => ⟨S_, .f32⟩
  | 110 => ⟨S31x512, .f32⟩
  | 111 => ⟨S31x512, .f32⟩
  | 112 => ⟨S_, .f32⟩
  | 113 => ⟨S2078x512, .f32⟩
  | 114 => ⟨S2078x512, .f32⟩
  | 115 => ⟨S2048x512, .f32⟩
  | 116 => ⟨S_, .f32⟩
  | 117 => ⟨S512, .f32⟩
  | 118 => ⟨S1x512, .f32⟩
  | 119 => ⟨S2048x512, .f32⟩
  | 120 => ⟨S2048x512, .f32⟩
  | 121 => ⟨S_, .f32⟩
  | 122 => ⟨S31x512, .f32⟩
  | 123 => ⟨S31x512, .f32⟩
  | 124 => ⟨S_, .f32⟩
  | 125 => ⟨S2078x512, .f32⟩
  | 126 => ⟨S2078x512, .f32⟩
  | 127 => ⟨S2048x512, .f32⟩
  | _ => ⟨S2048x7680, .bf16⟩

abbrev hbmTy0_4 (i : Nat) : BufTy := match i % 128 with
  | 0 => ⟨S_, .f32⟩
  | 1 => ⟨S512, .f32⟩
  | 2 => ⟨S1x512, .f32⟩
  | 3 => ⟨S2048x512, .f32⟩
  | 4 => ⟨S2048x512, .f32⟩
  | 5 => ⟨S_, .f32⟩
  | 6 => ⟨S31x512, .f32⟩
  | 7 => ⟨S31x512, .f32⟩
  | 8 => ⟨S_, .f32⟩
  | 9 => ⟨S2078x512, .f32⟩
  | 10 => ⟨S2078x512, .f32⟩
  | 11 => ⟨S2048x512, .f32⟩
  | 12 => ⟨S_, .f32⟩
  | 13 => ⟨S512, .f32⟩
  | 14 => ⟨S1x512, .f32⟩
  | 15 => ⟨S2048x512, .f32⟩
  | 16 => ⟨S2048x512, .f32⟩
  | 17 => ⟨S_, .f32⟩
  | 18 => ⟨S31x512, .f32⟩
  | 19 => ⟨S31x512, .f32⟩
  | 20 => ⟨S_, .f32⟩
  | 21 => ⟨S2078x512, .f32⟩
  | 22 => ⟨S2078x512, .f32⟩
  | 23 => ⟨S2048x512, .f32⟩
  | 24 => ⟨S_, .f32⟩
  | 25 => ⟨S512, .f32⟩
  | 26 => ⟨S1x512, .f32⟩
  | 27 => ⟨S2048x512, .f32⟩
  | 28 => ⟨S2048x512, .f32⟩
  | 29 => ⟨S_, .f32⟩
  | 30 => ⟨S31x512, .f32⟩
  | 31 => ⟨S31x512, .f32⟩
  | 32 => ⟨S_, .f32⟩
  | 33 => ⟨S2078x512, .f32⟩
  | 34 => ⟨S2078x512, .f32⟩
  | 35 => ⟨S2048x512, .f32⟩
  | 36 => ⟨S_, .f32⟩
  | 37 => ⟨S512, .f32⟩
  | 38 => ⟨S1x512, .f32⟩
  | 39 => ⟨S2048x512, .f32⟩
  | 40 => ⟨S2048x512, .f32⟩
  | 41 => ⟨S_, .f32⟩
  | 42 => ⟨S31x512, .f32⟩
  | 43 => ⟨S31x512, .f32⟩
  | 44 => ⟨S_, .f32⟩
  | 45 => ⟨S2078x512, .f32⟩
  | 46 => ⟨S2078x512, .f32⟩
  | 47 => ⟨S30x512, .f32⟩
  | 48 => ⟨S2048x512, .f32⟩
  | 49 => ⟨S2048x512, .f32⟩
  | 50 => ⟨S2048x512, .f32⟩
  | 51 => ⟨S2048x512, .f32⟩
  | 52 => ⟨S2048x512, .bf16⟩
  | 53 => ⟨S2048x512, .bf16⟩
  | _ => ⟨S2048x7680, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x7680, .bf16⟩

abbrev bufTy : (tb : Table) → Fin (tcTables nBuf tb) → BufTy
  | .hbm, ⟨i, _⟩ => hbmTy i
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_cst_6 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_cst_7 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_cst_8 : Ref sig .tc := ⟨.hbm, 195, rfl⟩
abbrev main_v183 : Ref sig .tc := ⟨.hbm, 196, rfl⟩
abbrev main_cst_9 : Ref sig .tc := ⟨.hbm, 197, rfl⟩
abbrev main_v184 : Ref sig .tc := ⟨.hbm, 198, rfl⟩
abbrev main_v185 : Ref sig .tc := ⟨.hbm, 199, rfl⟩
abbrev main_cst_10 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_cst_11 : Ref sig .tc := ⟨.hbm, 205, rfl⟩
abbrev main_v190 : Ref sig .tc := ⟨.hbm, 206, rfl⟩
abbrev main_v191 : Ref sig .tc := ⟨.hbm, 207, rfl⟩
abbrev main_cst_12 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_cst_13 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_cst_14 : Ref sig .tc := ⟨.hbm, 217, rfl⟩
abbrev main_v199 : Ref sig .tc := ⟨.hbm, 218, rfl⟩
abbrev main_v200 : Ref sig .tc := ⟨.hbm, 219, rfl⟩
abbrev main_cst_15 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_cst_16 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_cst_17 : Ref sig .tc := ⟨.hbm, 229, rfl⟩
abbrev main_v208 : Ref sig .tc := ⟨.hbm, 230, rfl⟩
abbrev main_v209 : Ref sig .tc := ⟨.hbm, 231, rfl⟩
abbrev main_cst_18 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_cst_19 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_cst_20 : Ref sig .tc := ⟨.hbm, 241, rfl⟩
abbrev main_v217 : Ref sig .tc := ⟨.hbm, 242, rfl⟩
abbrev main_v218 : Ref sig .tc := ⟨.hbm, 243, rfl⟩
abbrev main_cst_21 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_cst_22 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_cst_23 : Ref sig .tc := ⟨.hbm, 253, rfl⟩
abbrev main_v226 : Ref sig .tc := ⟨.hbm, 254, rfl⟩
abbrev main_v227 : Ref sig .tc := ⟨.hbm, 255, rfl⟩
abbrev main_cst_24 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_cst_25 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_cst_26 : Ref sig .tc := ⟨.hbm, 265, rfl⟩
abbrev main_v235 : Ref sig .tc := ⟨.hbm, 266, rfl⟩
abbrev main_v236 : Ref sig .tc := ⟨.hbm, 267, rfl⟩
abbrev main_cst_27 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_cst_28 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_cst_29 : Ref sig .tc := ⟨.hbm, 277, rfl⟩
abbrev main_v244 : Ref sig .tc := ⟨.hbm, 278, rfl⟩
abbrev main_v245 : Ref sig .tc := ⟨.hbm, 279, rfl⟩
abbrev main_cst_30 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_cst_31 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_cst_32 : Ref sig .tc := ⟨.hbm, 289, rfl⟩
abbrev main_v253 : Ref sig .tc := ⟨.hbm, 290, rfl⟩
abbrev main_v254 : Ref sig .tc := ⟨.hbm, 291, rfl⟩
abbrev main_cst_33 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_cst_34 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_cst_35 : Ref sig .tc := ⟨.hbm, 301, rfl⟩
abbrev main_v262 : Ref sig .tc := ⟨.hbm, 302, rfl⟩
abbrev main_v263 : Ref sig .tc := ⟨.hbm, 303, rfl⟩
abbrev main_cst_36 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_cst_37 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_cst_38 : Ref sig .tc := ⟨.hbm, 313, rfl⟩
abbrev main_v271 : Ref sig .tc := ⟨.hbm, 314, rfl⟩
abbrev main_v272 : Ref sig .tc := ⟨.hbm, 315, rfl⟩
abbrev main_cst_39 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_cst_40 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_cst_41 : Ref sig .tc := ⟨.hbm, 325, rfl⟩
abbrev main_v280 : Ref sig .tc := ⟨.hbm, 326, rfl⟩
abbrev main_v281 : Ref sig .tc := ⟨.hbm, 327, rfl⟩
abbrev main_cst_42 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_cst_43 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_cst_44 : Ref sig .tc := ⟨.hbm, 337, rfl⟩
abbrev main_v289 : Ref sig .tc := ⟨.hbm, 338, rfl⟩
abbrev main_v290 : Ref sig .tc := ⟨.hbm, 339, rfl⟩
abbrev main_cst_45 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_cst_46 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_cst_47 : Ref sig .tc := ⟨.hbm, 349, rfl⟩
abbrev main_v298 : Ref sig .tc := ⟨.hbm, 350, rfl⟩
abbrev main_v299 : Ref sig .tc := ⟨.hbm, 351, rfl⟩
abbrev main_cst_48 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_cst_49 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_cst_50 : Ref sig .tc := ⟨.hbm, 361, rfl⟩
abbrev main_v307 : Ref sig .tc := ⟨.hbm, 362, rfl⟩
abbrev main_v308 : Ref sig .tc := ⟨.hbm, 363, rfl⟩
abbrev main_cst_51 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_cst_52 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_cst_53 : Ref sig .tc := ⟨.hbm, 373, rfl⟩
abbrev main_v316 : Ref sig .tc := ⟨.hbm, 374, rfl⟩
abbrev main_v317 : Ref sig .tc := ⟨.hbm, 375, rfl⟩
abbrev main_cst_54 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_cst_55 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_cst_56 : Ref sig .tc := ⟨.hbm, 385, rfl⟩
abbrev main_v325 : Ref sig .tc := ⟨.hbm, 386, rfl⟩
abbrev main_v326 : Ref sig .tc := ⟨.hbm, 387, rfl⟩
abbrev main_cst_57 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_cst_58 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_cst_59 : Ref sig .tc := ⟨.hbm, 397, rfl⟩
abbrev main_v334 : Ref sig .tc := ⟨.hbm, 398, rfl⟩
abbrev main_v335 : Ref sig .tc := ⟨.hbm, 399, rfl⟩
abbrev main_cst_60 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_cst_61 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_cst_62 : Ref sig .tc := ⟨.hbm, 409, rfl⟩
abbrev main_v343 : Ref sig .tc := ⟨.hbm, 410, rfl⟩
abbrev main_v344 : Ref sig .tc := ⟨.hbm, 411, rfl⟩
abbrev main_cst_63 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_cst_64 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_v351 : Ref sig .tc := ⟨.hbm, 420, rfl⟩
abbrev main_cst_65 : Ref sig .tc := ⟨.hbm, 421, rfl⟩
abbrev main_v352 : Ref sig .tc := ⟨.hbm, 422, rfl⟩
abbrev main_v353 : Ref sig .tc := ⟨.hbm, 423, rfl⟩
abbrev main_cst_66 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_cst_67 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_cst_68 : Ref sig .tc := ⟨.hbm, 433, rfl⟩
abbrev main_v361 : Ref sig .tc := ⟨.hbm, 434, rfl⟩
abbrev main_v362 : Ref sig .tc := ⟨.hbm, 435, rfl⟩
abbrev main_cst_69 : Ref sig .tc := ⟨.hbm, 436, rfl⟩
abbrev main_v363 : Ref sig .tc := ⟨.hbm, 437, rfl⟩
abbrev main_v364 : Ref sig .tc := ⟨.hbm, 438, rfl⟩
abbrev main_v365 : Ref sig .tc := ⟨.hbm, 439, rfl⟩
abbrev main_cst_70 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_v369 : Ref sig .tc := ⟨.hbm, 444, rfl⟩
abbrev main_cst_71 : Ref sig .tc := ⟨.hbm, 445, rfl⟩
abbrev main_v370 : Ref sig .tc := ⟨.hbm, 446, rfl⟩
abbrev main_v371 : Ref sig .tc := ⟨.hbm, 447, rfl⟩
abbrev main_cst_72 : Ref sig .tc := ⟨.hbm, 448, rfl⟩
abbrev main_v372 : Ref sig .tc := ⟨.hbm, 449, rfl⟩
abbrev main_v373 : Ref sig .tc := ⟨.hbm, 450, rfl⟩
abbrev main_v374 : Ref sig .tc := ⟨.hbm, 451, rfl⟩
abbrev main_cst_73 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_cst_74 : Ref sig .tc := ⟨.hbm, 457, rfl⟩
abbrev main_v379 : Ref sig .tc := ⟨.hbm, 458, rfl⟩
abbrev main_v380 : Ref sig .tc := ⟨.hbm, 459, rfl⟩
abbrev main_cst_75 : Ref sig .tc := ⟨.hbm, 460, rfl⟩
abbrev main_v381 : Ref sig .tc := ⟨.hbm, 461, rfl⟩
abbrev main_v382 : Ref sig .tc := ⟨.hbm, 462, rfl⟩
abbrev main_v383 : Ref sig .tc := ⟨.hbm, 463, rfl⟩
abbrev main_cst_76 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_cst_77 : Ref sig .tc := ⟨.hbm, 469, rfl⟩
abbrev main_v388 : Ref sig .tc := ⟨.hbm, 470, rfl⟩
abbrev main_v389 : Ref sig .tc := ⟨.hbm, 471, rfl⟩
abbrev main_cst_78 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_cst_79 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_cst_80 : Ref sig .tc := ⟨.hbm, 481, rfl⟩
abbrev main_v397 : Ref sig .tc := ⟨.hbm, 482, rfl⟩
abbrev main_v398 : Ref sig .tc := ⟨.hbm, 483, rfl⟩
abbrev main_cst_81 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_cst_82 : Ref sig .tc := ⟨.hbm, 488, rfl⟩
abbrev main_v402 : Ref sig .tc := ⟨.hbm, 489, rfl⟩
abbrev main_v403 : Ref sig .tc := ⟨.hbm, 490, rfl⟩
abbrev main_v404 : Ref sig .tc := ⟨.hbm, 491, rfl⟩
abbrev main_v405 : Ref sig .tc := ⟨.hbm, 492, rfl⟩
abbrev main_cst_83 : Ref sig .tc := ⟨.hbm, 493, rfl⟩
abbrev main_v406 : Ref sig .tc := ⟨.hbm, 494, rfl⟩
abbrev main_v407 : Ref sig .tc := ⟨.hbm, 495, rfl⟩
abbrev main_cst_84 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_cst_85 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_cst_86 : Ref sig .tc := ⟨.hbm, 505, rfl⟩
abbrev main_v415 : Ref sig .tc := ⟨.hbm, 506, rfl⟩
abbrev main_v416 : Ref sig .tc := ⟨.hbm, 507, rfl⟩
abbrev main_cst_87 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_cst_88 : Ref sig .tc := ⟨.hbm, 512, rfl⟩
abbrev main_v420 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_cst_89 : Ref sig .tc := ⟨.hbm, 517, rfl⟩
abbrev main_v424 : Ref sig .tc := ⟨.hbm, 518, rfl⟩
abbrev main_v425 : Ref sig .tc := ⟨.hbm, 519, rfl⟩
abbrev main_cst_90 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_cst_91 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_cst_92 : Ref sig .tc := ⟨.hbm, 529, rfl⟩
abbrev main_v433 : Ref sig .tc := ⟨.hbm, 530, rfl⟩
abbrev main_v434 : Ref sig .tc := ⟨.hbm, 531, rfl⟩
abbrev main_cst_93 : Ref sig .tc := ⟨.hbm, 532, rfl⟩
abbrev main_v435 : Ref sig .tc := ⟨.hbm, 533, rfl⟩
abbrev main_v436 : Ref sig .tc := ⟨.hbm, 534, rfl⟩
abbrev main_v437 : Ref sig .tc := ⟨.hbm, 535, rfl⟩
abbrev main_cst_94 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_v441 : Ref sig .tc := ⟨.hbm, 540, rfl⟩
abbrev main_cst_95 : Ref sig .tc := ⟨.hbm, 541, rfl⟩
abbrev main_v442 : Ref sig .tc := ⟨.hbm, 542, rfl⟩
abbrev main_v443 : Ref sig .tc := ⟨.hbm, 543, rfl⟩
abbrev main_cst_96 : Ref sig .tc := ⟨.hbm, 544, rfl⟩
abbrev main_v444 : Ref sig .tc := ⟨.hbm, 545, rfl⟩
abbrev main_v445 : Ref sig .tc := ⟨.hbm, 546, rfl⟩
abbrev main_v446 : Ref sig .tc := ⟨.hbm, 547, rfl⟩
abbrev main_cst_97 : Ref sig .tc := ⟨.hbm, 548, rfl⟩
abbrev main_v447 : Ref sig .tc := ⟨.hbm, 549, rfl⟩
abbrev main_v448 : Ref sig .tc := ⟨.hbm, 550, rfl⟩
abbrev main_v449 : Ref sig .tc := ⟨.hbm, 551, rfl⟩
abbrev main_v450 : Ref sig .tc := ⟨.hbm, 552, rfl⟩
abbrev main_cst_98 : Ref sig .tc := ⟨.hbm, 553, rfl⟩
abbrev main_v451 : Ref sig .tc := ⟨.hbm, 554, rfl⟩
abbrev main_v452 : Ref sig .tc := ⟨.hbm, 555, rfl⟩
abbrev main_cst_99 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_v460 : Ref sig .tc := ⟨.hbm, 564, rfl⟩
abbrev main_v461 : Ref sig .tc := ⟨.hbm, 565, rfl⟩

abbrev nD : Nat := 1
abbrev τ : Topo := Topo.v7x

variable {F : FTy → Type} [FloatOps F]
-- ==== Dff.lean ====
abbrev S2048x1024 : Shape := ⟨2, ![2048, 1024]⟩
abbrev S4x1024x1024 : Shape := ⟨3, ![4, 1024, 1024]⟩
abbrev S2048x4096 : Shape := ⟨2, ![2048, 4096]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S4x1024x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .bf16⟩
  | .local _ .vmem, ⟨0, _⟩ => ⟨S2048x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DffRefIdeal.lean ====
abbrev S2048x1024 : Shape := ⟨2, ![2048, 1024]⟩
abbrev S4x1024x1024 : Shape := ⟨3, ![4, 1024, 1024]⟩
abbrev S2048x4096 : Shape := ⟨2, ![2048, 4096]⟩
abbrev S_ : Shape := ⟨0, ![]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4096x1024, .bf16⟩
  | .hbm, ⟨16, _⟩ => ⟨S4096x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwFf2.lean ====
abbrev S2048x4096 : Shape := ⟨2, ![2048, 4096]⟩
abbrev S2048x1024 : Shape := ⟨2, ![2048, 1024]⟩
abbrev S4x1024x1024 : Shape := ⟨3, ![4, 1024, 1024]⟩
abbrev S1x1024x1024 : Shape := ⟨3, ![1, 1024, 1024]⟩
abbrev S1024x2048 : Shape := ⟨2, ![1024, 2048]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1024x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwFf2RefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S4x1024x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwFf1.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x2048 : Shape := ⟨2, ![1024, 2048]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwFf1RefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhMlp.lean ====
abbrev S2048x4096 : Shape := ⟨2, ![2048, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DhMlpRefIdeal.lean ====
abbrev S2048x4096 : Shape := ⟨2, ![2048, 4096]⟩
abbrev S4x1024x1024 : Shape := ⟨3, ![4, 1024, 1024]⟩
abbrev S_ : Shape := ⟨0, ![]⟩
abbrev S2048x1024 : Shape := ⟨2, ![2048, 1024]⟩
abbrev S1024x4x1024 : Shape := ⟨3, ![1024, 4, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S_, .f32⟩
  | .hbm, ⟨3, _⟩ => ⟨S2048x1024, .f32⟩
  | .hbm, ⟨4, _⟩ => ⟨S1024x4x1024, .bf16⟩
  | .hbm, ⟨5, _⟩ => ⟨S1024x4096, .bf16⟩
  | .hbm, ⟨6, _⟩ => ⟨S1024x4096, .f32⟩
  | .hbm, ⟨7, _⟩ => ⟨S2048x4096, .f32⟩
  | .hbm, ⟨8, _⟩ => ⟨S2048x4096, .f32⟩
  | .hbm, ⟨9, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S2048x1024 : Shape := ⟨2, ![2048, 1024]⟩
abbrev S2048x7680 : Shape := ⟨2, ![2048, 7680]⟩
abbrev S4x1024x1920 : Shape := ⟨3, ![4, 1024, 1920]⟩
abbrev S2048x1920 : Shape := ⟨2, ![2048, 1920]⟩
abbrev S1x1024x1920 : Shape := ⟨3, ![1, 1024, 1920]⟩
abbrev S1024x2048 : Shape := ⟨2, ![1024, 2048]⟩
abbrev S512x1024 : Shape := ⟨2, ![512, 1024]⟩
abbrev S1024x512 : Shape := ⟨2, ![1024, 512]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x7680, .bf16⟩
  | .hbm, ⟨2, _⟩ => ⟨S4x1024x1920, .f32⟩
  | .local _ .vmem, ⟨0, _⟩ => ⟨S2048x1024, .bf16⟩
  | .local _ .vmem, ⟨1, _⟩ => ⟨S2048x1920, .bf16⟩
  | .local _ .vmem, ⟨2, _⟩ => ⟨S2048x1920, .bf16⟩
  | .local _ .vmem, ⟨3, _⟩ => ⟨S1x1024x1920, .f32⟩
  | .local _ .vmem, ⟨4, _⟩ => ⟨S1x1024x1920, .f32⟩
  | .local _ .vmem, ⟨5, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S2048x1024 : Shape := ⟨2, ![2048, 1024]⟩
abbrev S2048x7680 : Shape := ⟨2, ![2048, 7680]⟩
abbrev S_ : Shape := ⟨0, ![]⟩
abbrev S1024x7680 : Shape := ⟨2, ![1024, 7680]⟩
abbrev S7680x1024 : Shape := ⟨2, ![7680, 1024]⟩
abbrev S1024x4x1920 : Shape := ⟨3, ![1024, 4, 1920]⟩
abbrev S4x1024x1920 : Shape := ⟨3, ![4, 1024, 1920]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7680, .bf16⟩
  | .hbm, ⟨2, _⟩ => ⟨S_, .f32⟩
  | .hbm, ⟨3, _⟩ => ⟨S1024x7680, .f32⟩
  | .hbm, ⟨4, _⟩ => ⟨S2048x1024, .f32⟩
  | .hbm, ⟨5, _⟩ => ⟨S2048x7680, .f32⟩
  | .hbm, ⟨6, _⟩ => ⟨S2048x7680, .f32⟩
  | .hbm, ⟨7, _⟩ => ⟨S7680x1024, .f32⟩
  | .hbm, ⟨8, _⟩ => ⟨S1024x7680, .f32⟩
  | .hbm, ⟨9, _⟩ => ⟨S1024x4x1920, .f32⟩
  | .hbm, ⟨10, _⟩ => ⟨S4x1024x1920, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhMix.lean ====
abbrev S2048x7680 : Shape := ⟨2, ![2048, 7680]⟩
abbrev S4x1024x1920 : Shape := ⟨3, ![4, 1024, 1920]⟩
abbrev S2048x1024 : Shape := ⟨2, ![2048, 1024]⟩
abbrev S1024x1920 : Shape := ⟨2, ![1024, 1920]⟩
abbrev S1x1024x1920 : Shape := ⟨3, ![1, 1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x7680, .bf16⟩
  | .hbm, ⟨1, _⟩ => ⟨S4x1024x1920, .bf16⟩
  | .hbm, ⟨2, _⟩ => ⟨S2048x1024, .f32⟩
  | .local _ .vmem, ⟨0, _⟩ => ⟨S1024x1920, .bf16⟩
  | .local _ .vmem, ⟨1, _⟩ => ⟨S1024x1920, .bf16⟩
  | .local _ .vmem, ⟨2, _⟩ => ⟨S1x1024x1920, .bf16⟩
  | .local _ .vmem, ⟨3, _⟩ => ⟨S1x1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhMixRefIdeal.lean ====
abbrev S2048x7680 : Shape := ⟨2, ![2048, 7680]⟩
abbrev S4x1024x1920 : Shape := ⟨3, ![4, 1024, 1920]⟩
abbrev S_ : Shape := ⟨0, ![]⟩
abbrev S2048x1024 : Shape := ⟨2, ![2048, 1024]⟩
abbrev S1024x4x1920 : Shape := ⟨3, ![1024, 4, 1920]⟩
abbrev S1024x7680 : Shape := ⟨2, ![1024, 7680]⟩

abbrev nBuf : Space → Nat
  | .hbm => 10
  | .vmem => 0
  | .smem => 0
  | _ => 0

abbrev bufTy : (tb : Table) → Fin (tcTables nBuf tb) → BufTy
  | .hbm, ⟨0, _⟩ => ⟨S2048x7680, .bf16⟩
  | .hbm, ⟨1, _⟩ => ⟨S4x1024x1920, .bf16⟩
  | .hbm, ⟨2, _⟩ => ⟨S_, .f32⟩
  | .hbm, ⟨3, _⟩ => ⟨S2048x1024, .f32⟩
  | .hbm, ⟨4, _⟩ => ⟨S1024x4x1920, .bf16⟩
  | .hbm, ⟨5, _⟩ => ⟨S1024x7680, .bf16⟩
  | .hbm, ⟨6, _⟩ => ⟨S1024x7680, .f32⟩
  | .hbm, ⟨7, _⟩ => ⟨S2048x7680, .f32⟩
  | .hbm, ⟨8, _⟩ => ⟨S2048x7680, .f32⟩
  | .hbm, ⟨9, _⟩ => ⟨S2048x1024, .f32⟩
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmU.lean ====
abbrev S2048x1024 : Shape := ⟨2, ![2048, 1024]⟩
abbrev S4x1024x1920 : Shape := ⟨3, ![4, 1024, 1920]⟩
abbrev S2048x7680 : Shape := ⟨2, ![2048, 7680]⟩
abbrev S1x1024x1920 : Shape := ⟨3, ![1, 1024, 1920]⟩
abbrev S2048x1920 : Shape := ⟨2, ![2048, 1920]⟩
abbrev S1024x1920 : Shape := ⟨2, ![1024, 1920]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x1024x1920, .bf16⟩
  | .hbm, ⟨2, _⟩ => ⟨S2048x7680, .bf16⟩
  | .local _ .vmem, ⟨0, _⟩ => ⟨S2048x1024, .bf16⟩
  | .local _ .vmem, ⟨1, _⟩ => ⟨S1x1024x1920, .bf16⟩
  | .local _ .vmem, ⟨2, _⟩ => ⟨S1x1024x1920, .bf16⟩
  | .local _ .vmem, ⟨3, _⟩ => ⟨S2048x1920, .bf16⟩
  | .local _ .vmem, ⟨4, _⟩ => ⟨S2048x1920, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmURefIdeal.lean ====
abbrev S2048x1024 : Shape := ⟨2, ![2048, 1024]⟩
abbrev S4x1024x1920 : Shape := ⟨3, ![4, 1024, 1920]⟩
abbrev S1024x4x1920 : Shape := ⟨3, ![1024, 4, 1920]⟩
abbrev S1024x7680 : Shape := ⟨2, ![1024, 7680]⟩
abbrev S2048x7680 : Shape := ⟨2, ![2048, 7680]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1920, .bf16⟩
  | .hbm, ⟨2, _⟩ => ⟨S2048x1024, .f32⟩
  | .hbm, ⟨3, _⟩ => ⟨S1024x4x1920, .bf16⟩
  | .hbm, ⟨4, _⟩ => ⟨S1024x7680, .bf16⟩
  | .hbm, ⟨5, _⟩ => ⟨S1024x7680, .f32⟩
  | .hbm, ⟨6, _⟩ => ⟨S2048x7680, .f32⟩
  | .hbm, ⟨7, _⟩ => ⟨S2048x7680, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MmF.lean ====
abbrev S2048x1024 : Shape := ⟨2, ![2048, 1024]⟩
abbrev S4x1024x1024 : Shape := ⟨3, ![4, 1024, 1024]⟩
abbrev S2048x4096 : Shape := ⟨2, ![2048, 4096]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .bf16⟩
  | .hbm, ⟨3, _⟩ => ⟨S2048x4096, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmFRefIdeal.lean ====
abbrev S2048x1024 : Shape := ⟨2, ![2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x1024, .f32⟩
  | .hbm, ⟨3, _⟩ => ⟨S1024x4x1024, .bf16⟩
  | .hbm, ⟨4, _⟩ => ⟨S1024x4096, .bf16⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .bf16⟩
  | .hbm, ⟨11, _⟩ => ⟨S2048x4096, .f32⟩
  | .hbm, ⟨12, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MmOut.lean ====
abbrev S2048x4096 : Shape := ⟨2, ![2048, 4096]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmOutRefIdeal.lean ====
abbrev S2048x4096 : Shape := ⟨2, ![2048, 4096]⟩
abbrev S4x1024x1024 : Shape := ⟨3, ![4, 1024, 1024]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S2048x1024, .f32⟩
  | .hbm, ⟨3, _⟩ => ⟨S2048x4096, .f32⟩
  | .hbm, ⟨4, _⟩ => ⟨S4096x1024, .bf16⟩
  | .hbm, ⟨5, _⟩ => ⟨S4096x1024, .f32⟩
  | .hbm, ⟨6, _⟩ => ⟨S2048x1024, .f32⟩
  | .hbm, ⟨7, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdSmall.lean ====
abbrev S32x24 : Shape := ⟨2, ![32, 24]⟩
abbrev S4x1024 : Shape := ⟨2, ![4, 1024]⟩
abbrev S4x64 : Shape := ⟨2, ![4, 64]⟩
abbrev S4x31x128 : Shape := ⟨3, ![4, 31, 128]⟩
abbrev S4x512 : Shape := ⟨2, ![4, 512]⟩
abbrev S768 : Shape := ⟨1, ![768]⟩
abbrev S4096 : Shape := ⟨1, ![4096]⟩
abbrev S256 : Shape := ⟨1, ![256]⟩
abbrev S15872 : Shape := ⟨1, ![15872]⟩
abbrev S2048 : Shape := ⟨1, ![2048]⟩
abbrev S31488 : Shape := ⟨1, ![31488]⟩
abbrev S_ : Shape := ⟨0, ![]⟩
abbrev S31744 : Shape := ⟨1, ![31744]⟩
abbrev S248x128 : Shape := ⟨2, ![248, 128]⟩
abbrev S8x128 : Shape := ⟨2, ![8, 128]⟩

abbrev nBuf : Space → Nat
  | .hbm => 152
  | .vmem => 14
  | .smem => 0
  | _ => 0

abbrev hbmTy0_0 (i : Nat) : BufTy := match i % 128 with
  | 0 => ⟨S32x24, .f32⟩
  | 1 => ⟨S4x1024, .f32⟩
  | 2 => ⟨S4x64, .f32⟩
  | 3 => ⟨S4x64, .f32⟩
  | 4 => ⟨S4x31x128, .f32⟩
  | 5 => ⟨S4x512, .f32⟩
  | 6 => ⟨S4x512, .f32⟩
  | 7 => ⟨S4x512, .f32⟩
  | 8 => ⟨S4x1024, .f32⟩
  | 9 => ⟨S32x24, .f32⟩
  | 10 => ⟨S4x1024, .f32⟩
  | 11 => ⟨S4x64, .f32⟩
  | 12 => ⟨S4x64, .f32⟩
  | 13 => ⟨S4x31x128, .f32⟩
  | 14 => ⟨S4x512, .f32⟩
  | 15 => ⟨S4x512, .f32⟩
  | 16 => ⟨S4x512, .f32⟩
  | 17 => ⟨S4x1024, .f32⟩
  | 18 => ⟨S32x24, .f32⟩
  | 19 => ⟨S4x1024, .f32⟩
  | 20 => ⟨S4x64, .f32⟩
  | 21 => ⟨S4x64, .f32⟩
  | 22 => ⟨S4x31x128, .f32⟩
  | 23 => ⟨S4x512, .f32⟩
  | 24 => ⟨S4x512, .f32⟩
  | 25 => ⟨S4x512, .f32⟩
  | 26 => ⟨S4x1024, .f32⟩
  | 27 => ⟨S32x24, .f32⟩
  | 28 => ⟨S4x1024, .f32⟩
  | 29 => ⟨S4x64, .f32⟩
  | 30 => ⟨S4x64, .f32⟩
  | 31 => ⟨S4x31x128, .f32⟩
  | 32 => ⟨S4x512, .f32⟩
  | 33 => ⟨S4x512, .f32⟩
  | 34 => ⟨S4x512, .f32⟩
  | 35 => ⟨S4x1024, .f32⟩
  | 36 => ⟨S768, .f32⟩
  | 37 => ⟨S4096, .f32⟩
  | 38 => ⟨S256, .f32⟩
  | 39 => ⟨S256, .f32⟩
  | 40 => ⟨S15872, .f32⟩
  | 41 => ⟨S2048, .f32⟩
  | 42 => ⟨S2048, .f32⟩
  | 43 => ⟨S2048, .f32⟩
  | 44 => ⟨S4096, .f32⟩
  | 45 => ⟨S31488, .f32⟩
  | 46 => ⟨S_, .i32⟩
  | 47 => ⟨S_, .f32⟩
  | 48 => ⟨S31744, .f32⟩
  | 49 => ⟨S248x128, .f32⟩
  | 50 => ⟨S768, .f32⟩
  | 51 => ⟨S4096, .f32⟩
  | 52 => ⟨S256, .f32⟩
  | 53 => ⟨S256, .f32⟩
  | 54 => ⟨S15872, .f32⟩
  | 55 => ⟨S2048, .f32⟩
  | 56 => ⟨S2048, .f32⟩
  | 57 => ⟨S2048, .f32⟩
  | 58 => ⟨S4096, .f32⟩
  | 59 => ⟨S31488, .f32⟩
  | 60 => ⟨S_, .i32⟩
  | 61 => ⟨S_, .f32⟩
  | 62 => ⟨S31744, .f32⟩
  | 63 => ⟨S248x128, .f32⟩
  | 64 => ⟨S768, .f32⟩
  | 65 => ⟨S4096, .f32⟩
  | 66 => ⟨S256, .f32⟩
  | 67 => ⟨S256, .f32⟩
  | 68 => ⟨S15872, .f32⟩
  | 69 => ⟨S2048, .f32⟩
  | 70 => ⟨S2048, .f32⟩
  | 71 => ⟨S2048, .f32⟩
  | 72 => ⟨S4096, .f32⟩
  | 73 => ⟨S31488, .f32⟩
  | 74 => ⟨S_, .i32⟩
  | 75 => ⟨S_, .f32⟩
  | 76 => ⟨S31744, .f32⟩
  | 77 => ⟨S248x128, .f32⟩
  | 78 => ⟨S768, .f32⟩
  | 79 => ⟨S4096, .f32⟩
  | 80 => ⟨S256, .f32⟩
  | 81 => ⟨S256, .f32⟩
  | 82 => ⟨S15872, .f32⟩
  | 83 => ⟨S2048, .f32⟩
  | 84 => ⟨S2048, .f32⟩
  | 85 => ⟨S2048, .f32⟩
  | 86 => ⟨S4096, .f32⟩
  | 87 => ⟨S31488, .f32⟩
  | 88 => ⟨S_, .i32⟩
  | 89 => ⟨S_, .f32⟩
  | 90 => ⟨S31744, .f32⟩
  | 91 => ⟨S248x128, .f32⟩
  | 92 => ⟨S248x128, .f32⟩
  | 93 => ⟨S248x128, .f32⟩
  | 94 => ⟨S248x128, .f32⟩
  | 95 => ⟨S31744, .f32⟩
  | 96 => ⟨S768, .f32⟩
  | 97 => ⟨S32x24, .f32⟩
  | 98 => ⟨S4096, .f32⟩
  | 99 => ⟨S4x1024, .f32⟩
  | 100 => ⟨S256, .f32⟩
  | 101 => ⟨S4x64, .f32⟩
  | 102 => ⟨S256, .f32⟩
  | 103 => ⟨S4x64, .f32⟩
  | 104 => ⟨S15872, .f32⟩
  | 105 => ⟨S4x31x128, .f32⟩
  | 106 => ⟨S2048, .f32⟩
  | 107 => ⟨S4x512, .f32⟩
  | 108 => ⟨S2048, .f32⟩
  | 109 => ⟨S4x512, .f32⟩
  | 110 => ⟨S2048, .f32⟩
  | 111 => ⟨S4x512, .f32⟩
  | 112 => ⟨S4096, .f32⟩
  | 113 => ⟨S4x1024, .f32⟩
  | 114 => ⟨S31744, .f32⟩
  | 115 => ⟨S768, .f32⟩
  | 116 => ⟨S32x24, .f32⟩
  | 117 => ⟨S4096, .f32⟩
  | 118 => ⟨S4x1024, .f32⟩
  | 119 => ⟨S256, .f32⟩
  | 120 => ⟨S4x64, .f32⟩
  | 121 => ⟨S256, .f32⟩
  | 122 => ⟨S4x64, .f32⟩
  | 123 => ⟨S15872, .f32⟩
  | 124 => ⟨S4x31x128, .f32⟩
  | 125 => ⟨S2048, .f32⟩
  | 126 => ⟨S4x512, .f32⟩
  | 127 => ⟨S2048, .f32⟩
  | _ => ⟨S32x24, .f32⟩

abbrev hbmTy0_1 (i : Nat) : BufTy := match i % 128 with
  | 0 => ⟨S4x512, .f32⟩
  | 1 => ⟨S2048, .f32⟩
  | 2 => ⟨S4x512, .f32⟩
  | 3 => ⟨S4096, .f32⟩
  | 4 => ⟨S4x1024, .f32⟩
  | 5 => ⟨S31744, .f32⟩
  | 6 => ⟨S768, .f32⟩
  | 7 => ⟨S32x24, .f32⟩
  | 8 => ⟨S4096, .f32⟩
  | 9 => ⟨S4x1024, .f32⟩
  | 10 => ⟨S256, .f32⟩
  | 11 => ⟨S4x64, .f32⟩
  | 12 => ⟨S256, .f32⟩
  | 13 => ⟨S4x64, .f32⟩
  | 14 => ⟨S15872, .f32⟩
  | 15 => ⟨S4x31x128, .f32⟩
  | 16 => ⟨S2048, .f32⟩
  | 17 => ⟨S4x512, .f32⟩
  | 18 => ⟨S2048, .f32⟩
  | 19 => ⟨S4x512, .f32⟩
  | 20 => ⟨S2048, .f32⟩
  | 21 => ⟨S4x512, .f32⟩
  | 22 => ⟨S4096, .f32⟩
  | 23 => ⟨S4x1024, .f32⟩
  | _ => ⟨S32x24, .f32⟩

abbrev hbmTy (i : Nat) : BufTy := match i / 128 with
  | 0 => hbmTy0_0 i
  | 1 => hbmTy0_1 i
  | _ => ⟨S32x24, .f32⟩

abbrev bufTy : (tb : Table) → Fin (tcTables nBuf tb) → BufTy
  | .hbm, ⟨i, _⟩ => hbmTy i
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c : Ref sig .tc := ⟨.hbm, 46, rfl⟩
abbrev main_call0_v0 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_0 : Ref sig .tc := ⟨.hbm, 60, rfl⟩
abbrev main_call1_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_1 : Ref sig .tc := ⟨.hbm, 74, rfl⟩
abbrev main_call2_v0 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_2 : Ref sig .tc := ⟨.hbm, 88, rfl⟩
abbrev main_call3_v0 : Ref sig .tc := ⟨.hbm, 89, rfl⟩
abbrev main_v46 : Ref sig .tc := ⟨.hbm, 90, rfl⟩
abbrev main_v47 : Ref sig .tc := ⟨.hbm, 91, rfl⟩
abbrev main_v48_0 : Ref sig .tc := ⟨.hbm, 92, rfl⟩
abbrev main_v48_1 : Ref sig .tc := ⟨.hbm, 93, rfl⟩
abbrev main_v48_2 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdSmallRefIdeal.lean ====
abbrev S32x24 : Shape := ⟨2, ![32, 24]⟩
abbrev S4x1024 : Shape := ⟨2, ![4, 1024]⟩
abbrev S4x64 : Shape := ⟨2, ![4, 64]⟩
abbrev S4x31x128 : Shape := ⟨3, ![4, 31, 128]⟩
abbrev S4x512 : Shape := ⟨2, ![4, 512]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S32x24, .f32⟩
  | 1 => ⟨S4x1024, .f32⟩
  | 2 => ⟨S4x64, .f32⟩
  | 3 => ⟨S4x64, .f32⟩
  | 4 => ⟨S4x31x128, .f32⟩
  | 5 => ⟨S4x512, .f32⟩
  | 6 => ⟨S4x512, .f32⟩
  | 7 => ⟨S4x512, .f32⟩
  | 8 => ⟨S4x1024, .f32⟩
  | 9 => ⟨S32x24, .f32⟩
  | 10 => ⟨S4x1024, .f32⟩
  | 11 => ⟨S4x64, .f32⟩
  | 12 => ⟨S4x64, .f32⟩
  | 13 => ⟨S4x31x128, .f32⟩
  | 14 => ⟨S4x512, .f32⟩
  | 15 => ⟨S4x512, .f32⟩
  | 16 => ⟨S4x512, .f32⟩
  | 17 => ⟨S4x1024, .f32⟩
  | 18 => ⟨S32x24, .f32⟩
  | 19 => ⟨S4x1024, .f32⟩
  | 20 => ⟨S4x64, .f32⟩
  | 21 => ⟨S4x64, .f32⟩
  | 22 => ⟨S4x31x128, .f32⟩
  | 23 => ⟨S4x512, .f32⟩
  | 24 => ⟨S4x512, .f32⟩
  | 25 => ⟨S4x512, .f32⟩
  | 26 => ⟨S4x1024, .f32⟩
  | 27 => ⟨S32x24, .f32⟩
  | 28 => ⟨S4x1024, .f32⟩
  | 29 => ⟨S4x64, .f32⟩
  | 30 => ⟨S4x64, .f32⟩
  | 31 => ⟨S4x31x128, .f32⟩
  | 32 => ⟨S4x512, .f32⟩
  | 33 => ⟨S4x512, .f32⟩
  | 34 => ⟨S4x512, .f32⟩
  | 35 => ⟨S4x1024, .f32⟩
  | 36 => ⟨S_, .f32⟩
  | 37 => ⟨S32x24, .f32⟩
  | 38 => ⟨S32x24, .f32⟩
  | 39 => ⟨S_, .f32⟩
  | 40 => ⟨S32x24, .f32⟩
  | 41 => ⟨S32x24, .f32⟩
  | 42 => ⟨S32x24, .f32⟩
  | 43 => ⟨S_, .f32⟩
  | 44 => ⟨S32x24, .f32⟩
  | 45 => ⟨S32x24, .f32⟩
  | 46 => ⟨S32x24, .f32⟩
  | 47 => ⟨S_, .f32⟩
  | 48 => ⟨S32x24, .f32⟩
  | 49 => ⟨S32x24, .f32⟩
  | 50 => ⟨S32x24, .f32⟩
  | 51 => ⟨S_, .f32⟩
  | 52 => ⟨S32x24, .f32⟩
  | 53 => ⟨S32x24, .f32⟩
  | 54 => ⟨S_, .f32⟩
  | 55 => ⟨S32x24, .f32⟩
  | 56 => ⟨S32x24, .f32⟩
  | 57 => ⟨S32x24, .f32⟩
  | 58 => ⟨S_, .f32⟩
  | 59 => ⟨S32x24, .f32⟩
  | 60 => ⟨S32x24, .f32⟩
  | 61 => ⟨S32x24, .f32⟩
  | 62 => ⟨S_, .f32⟩
  | 63 => ⟨S32x24, .f32⟩
  | 64 => ⟨S32x24, .f32⟩
  | 65 => ⟨S32x24, .f32⟩
  | 66 => ⟨S_, .f32⟩
  | 67 => ⟨S32x24, .f32⟩
  | 68 => ⟨S32x24, .f32⟩
  | 69 => ⟨S_, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S_, .f32⟩
  | 103 => ⟨S4x64, .f32⟩
  | 104 => ⟨S4x64, .f32⟩
  | 105 => ⟨S_, .f32⟩
  | 106 => ⟨S4x64, .f32⟩
  | 107 => ⟨S4x64, .f32⟩
  | 108 => ⟨S4x64, .f32⟩
  | 109 => ⟨S_, .f32⟩
  | 110 => ⟨S4x64, .f32⟩
  | 111 => ⟨S4x64, .f32⟩
  | 112 => ⟨S4x64, .f32⟩
  | 113 => ⟨S_, .f32⟩
  | 114 => ⟨S4x64, .f32⟩
  | 115 => ⟨S4x64, .f32⟩
  | 116 => ⟨S4x64, .f32⟩
  | 117 => ⟨S_, .f32⟩
  | 118 => ⟨S4x64, .f32⟩
  | 119 => ⟨S4x64, .f32⟩
  | 120 => ⟨S_, .f32⟩
  | 121 => ⟨S4x64, .f32⟩
  | 122 => ⟨S4x64, .f32⟩
  | 123 => ⟨S4x64, .f32⟩
  | 124 => ⟨S_, .f32⟩
  | 125 => ⟨S4x64, .f32⟩
  | 126 => ⟨S4x64, .f32⟩
  | 127 => ⟨S4x64, .f32⟩
  | _ => ⟨S32x24, .f32⟩

abbrev hbmTy0_1 (i : Nat) : BufTy := match i % 128 with
  | 0 => ⟨S_, .f32⟩
  | 1 => ⟨S4x64, .f32⟩
  | 2 => ⟨S4x64, .f32⟩
  | 3 => ⟨S4x64, .f32⟩
  | 4 => ⟨S_, .f32⟩
  | 5 => ⟨S4x64, .f32⟩
  | 6 => ⟨S4x64, .f32⟩
  | 7 => ⟨S_, .f32⟩
  | 8 => ⟨S4x64, .f32⟩
  | 9 => ⟨S4x64, .f32⟩
  | 10 => ⟨S_, .f32⟩
  | 11 => ⟨S4x64, .f32⟩
  | 12 => ⟨S4x64, .f32⟩
  | 13 => ⟨S4x64, .f32⟩
  | 14 => ⟨S_, .f32⟩
  | 15 => ⟨S4x64, .f32⟩
  | 16 => ⟨S4x64, .f32⟩
  | 17 => ⟨S4x64, .f32⟩
  | 18 => ⟨S_, .f32⟩
  | 19 => ⟨S4x64, .f32⟩
  | 20 => ⟨S4x64, .f32⟩
  | 21 => ⟨S4x64, .f32⟩
  | 22 => ⟨S_, .f32⟩
  | 23 => ⟨S4x64, .f32⟩
  | 24 => ⟨S4x64, .f32⟩
  | 25 => ⟨S_, .f32⟩
  | 26 => ⟨S4x64, .f32⟩
  | 27 => ⟨S4x64, .f32⟩
  | 28 => ⟨S4x64, .f32⟩
  | 29 => ⟨S_, .f32⟩
  | 30 => ⟨S4x64, .f32⟩
  | 31 => ⟨S4x64, .f32⟩
  | 32 => ⟨S4x64, .f32⟩
  | 33 => ⟨S_, .f32⟩
  | 34 => ⟨S4x64, .f32⟩
  | 35 => ⟨S4x64, .f32⟩
  | 36 => ⟨S4x64, .f32⟩
  | 37 => ⟨S_, .f32⟩
  | 38 => ⟨S4x64, .f32⟩
  | 39 => ⟨S4x64, .f32⟩
  | 40 => ⟨S_, .f32⟩
  | 41 => ⟨S4x31x128, .f32⟩
  | 42 => ⟨S4x31x128, .f32⟩
  | 43 => ⟨S_, .f32⟩
  | 44 => ⟨S4x31x128, .f32⟩
  | 45 => ⟨S4x31x128, .f32⟩
  | 46 => ⟨S4x31x128, .f32⟩
  | 47 => ⟨S_, .f32⟩
  | 48 => ⟨S4x31x128, .f32⟩
  | 49 => ⟨S4x31x128, .f32⟩
  | 50 => ⟨S4x31x128, .f32⟩
  | 51 => ⟨S_, .f32⟩
  | 52 => ⟨S4x31x128, .f32⟩
  | 53 => ⟨S4x31x128, .f32⟩
  | 54 => ⟨S4x31x128, .f32⟩
  | 55 => ⟨S_, .f32⟩
  | 56 => ⟨S4x31x128, .f32⟩
  | 57 => ⟨S4x31x128, .f32⟩
  | 58 => ⟨S_, .f32⟩
  | 59 => ⟨S4x31x128, .f32⟩
  | 60 => ⟨S4x31x128, .f32⟩
  | 61 => ⟨S4x31x128, .f32⟩
  | 62 => ⟨S_, .f32⟩
  | 63 => ⟨S4x31x128, .f32⟩
  | 64 => ⟨S4x31x128, .f32⟩
  | 65 => ⟨S4x31x128, .f32⟩
  | 66 => ⟨S_, .f32⟩
  | 67 => ⟨S4x31x128, .f32⟩
  | 68 => ⟨S4x31x128, .f32⟩
  | 69 => ⟨S4x31x128, .f32⟩
  | 70 => ⟨S_, .f32⟩
  | 71 => ⟨S4x31x128, .f32⟩
  | 72 => ⟨S4x31x128, .f32⟩
  | 73 => ⟨S_, .f32⟩
  | 74 => ⟨S4x512, .f32⟩
  | 75 => ⟨S4x512, .f32⟩
  | 76 => ⟨S_, .f32⟩
  | 77 => ⟨S4x512, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S4x512, .f32⟩
  | 84 => ⟨S_, .f32⟩
  | 85 => ⟨S4x512, .f32⟩
  | 86 => ⟨S4x512, .f32⟩
  | 87 => ⟨S4x512, .f32⟩
  | 88 => ⟨S_, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S4x512, .f32⟩
  | 99 => ⟨S_, .f32⟩
  | 100 => ⟨S4x512, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S_, .f32⟩
  | 107 => ⟨S4x512, .f32⟩
  | 108 => ⟨S4x512, .f32⟩
  | 109 => ⟨S_, .f32⟩
  | 110 => ⟨S4x512, .f32⟩
  | 111 => ⟨S4x512, .f32⟩
  | 112 => ⟨S4x512, .f32⟩
  | 113 => ⟨S_, .f32⟩
  | 114 => ⟨S4x512, .f32⟩
  | 115 => ⟨S4x512, .f32⟩
  | 116 => ⟨S4x512, .f32⟩
  | 117 => ⟨S_, .f32⟩
  | 118 => ⟨S4x512, .f32⟩
  | 119 => ⟨S4x512, .f32⟩
  | 120 => ⟨S4x512, .f32⟩
  | 121 => ⟨S_, .f32⟩
  | 122 => ⟨S4x512, .f32⟩
  | 123 => ⟨S4x512, .f32⟩
  | 124 => ⟨S_, .f32⟩
  | 125 => ⟨S4x512, .f32⟩
  | 126 => ⟨S4x512, .f32⟩
  | 127 => ⟨S4x512, .f32⟩
  | _ => ⟨S32x24, .f32⟩

abbrev hbmTy0_2 (i : Nat) : BufTy := match i % 128 with
  | 0 => ⟨S_, .f32⟩
  | 1 => ⟨S4x512, .f32⟩
  | 2 => ⟨S4x512, .f32⟩
  | 3 => ⟨S4x512, .f32⟩
  | 4 => ⟨S_, .f32⟩
  | 5 => ⟨S4x512, .f32⟩
  | 6 => ⟨S4x512, .f32⟩
  | 7 => ⟨S4x512, .f32⟩
  | 8 => ⟨S_, .f32⟩
  | 9 => ⟨S4x512, .f32⟩
  | 10 => ⟨S4x512, .f32⟩
  | 11 => ⟨S_, .f32⟩
  | 12 => ⟨S4x512, .f32⟩
  | 13 => ⟨S4x512, .f32⟩
  | 14 => ⟨S_, .f32⟩
  | 15 => ⟨S4x512, .f32⟩
  | 16 => ⟨S4x512, .f32⟩
  | 17 => ⟨S4x512, .f32⟩
  | 18 => ⟨S_, .f32⟩
  | 19 => ⟨S4x512, .f32⟩
  | 20 => ⟨S4x512, .f32⟩
  | 21 => ⟨S4x512, .f32⟩
  | 22 => ⟨S_, .f32⟩
  | 23 => ⟨S4x512, .f32⟩
  | 24 => ⟨S4x512, .f32⟩
  | 25 => ⟨S4x512, .f32⟩
  | 26 => ⟨S_, .f32⟩
  | 27 => ⟨S4x512, .f32⟩
  | 28 => ⟨S4x512, .f32⟩
  | 29 => ⟨S_, .f32⟩
  | 30 => ⟨S4x512, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S4x512, .f32⟩
  | 37 => ⟨S_, .f32⟩
  | 38 => ⟨S4x512, .f32⟩
  | 39 => ⟨S4x512, .f32⟩
  | 40 => ⟨S4x512, .f32⟩
  | 41 => ⟨S_, .f32⟩
  | 42 => ⟨S4x512, .f32⟩
  | 43 => ⟨S4x512, .f32⟩
  | 44 => ⟨S_, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | _ => ⟨S32x24, .f32⟩

abbrev hbmTy (i : Nat) : BufTy := match i / 128 with
  | 0 => hbmTy0_0 i
  | 1 => hbmTy0_1 i
  | 2 => hbmTy0_2 i
  | _ => ⟨S32x24, .f32⟩

abbrev bufTy : (tb : Table) → Fin (tcTables nBuf tb) → BufTy
  | .hbm, ⟨i, _⟩ => hbmTy i
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== SumDev.lean ====
abbrev S8x32x24 : Shape := ⟨3, ![8, 32, 24]⟩
abbrev S8x4x1024 : Shape := ⟨3, ![8, 4, 1024]⟩
abbrev S8x4x64 : Shape := ⟨3, ![8, 4, 64]⟩
abbrev S8x4x31x512 : Shape := ⟨4, ![8, 4, 31, 512]⟩
abbrev S8x4x512 : Shape := ⟨3, ![8, 4, 512]⟩
abbrev S8x768 : Shape := ⟨2, ![8, 768]⟩
abbrev S8x4096 : Shape := ⟨2, ![8, 4096]⟩
abbrev S8x256 : Shape := ⟨2, ![8, 256]⟩
abbrev S8x63488 : Shape := ⟨2, ![8, 63488]⟩
abbrev S8x2048 : Shape := ⟨2, ![8, 2048]⟩
abbrev S8x79104 : Shape := ⟨2, ![8, 79104]⟩
abbrev S_ : Shape := ⟨0, ![]⟩
abbrev S8x79872 : Shape := ⟨2, ![8, 79872]⟩
abbrev S8x624x128 : Shape := ⟨3, ![8, 624, 128]⟩
abbrev S624x128 : Shape := ⟨2, ![624, 128]⟩
abbrev S1x624x128 : Shape := ⟨3, ![1, 624, 128]⟩
abbrev S79872 : Shape := ⟨1, ![79872]⟩
abbrev S768 : Shape := ⟨1, ![768]⟩
abbrev S32x24 : Shape := ⟨2, ![32, 24]⟩
abbrev S4096 : Shape := ⟨1, ![4096]⟩
abbrev S4x1024 : Shape := ⟨2, ![4, 1024]⟩
abbrev S256 : Shape := ⟨1, ![256]⟩
abbrev S4x64 : Shape := ⟨2, ![4, 64]⟩
abbrev S63488 : Shape := ⟨1, ![63488]⟩
abbrev S4x31x512 : Shape := ⟨3, ![4, 31, 512]⟩
abbrev S2048 : Shape := ⟨1, ![2048]⟩
abbrev S4x512 : Shape := ⟨2, ![4, 512]⟩

abbrev nBuf : Space → Nat
  | .hbm => 43
  | .vmem => 2
  | .smem => 0
  | _ => 0

abbrev bufTy : (tb : Table) → Fin (tcTables nBuf tb) → BufTy
  | .hbm, ⟨0, _⟩ => ⟨S8x32x24, .f32⟩
  | .hbm, ⟨1, _⟩ => ⟨S8x4x1024, .f32⟩
  | .hbm, ⟨2, _⟩ => ⟨S8x4x64, .f32⟩
  | .hbm, ⟨3, _⟩ => ⟨S8x4x64, .f32⟩
  | .hbm, ⟨4, _⟩ => ⟨S8x4x31x512, .f32⟩
  | .hbm, ⟨5, _⟩ => ⟨S8x4x512, .f32⟩
  | .hbm, ⟨6, _⟩ => ⟨S8x4x512, .f32⟩
  | .hbm, ⟨7, _⟩ => ⟨S8x4x512, .f32⟩
  | .hbm, ⟨8, _⟩ => ⟨S8x4x1024, .f32⟩
  | .hbm, ⟨9, _⟩ => ⟨S8x768, .f32⟩
  | .hbm, ⟨10, _⟩ => ⟨S8x4096, .f32⟩
  | .hbm, ⟨11, _⟩ => ⟨S8x256, .f32⟩
  | .hbm, ⟨12, _⟩ => ⟨S8x256, .f32⟩
  | .hbm, ⟨13, _⟩ => ⟨S8x63488, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x4096, .f32⟩
  | .hbm, ⟨18, _⟩ => ⟨S8x79104, .f32⟩
  | .hbm, ⟨19, _⟩ => ⟨S_, .i32⟩
  | .hbm, ⟨20, _⟩ => ⟨S_, .f32⟩
  | .hbm, ⟨21, _⟩ => ⟨S8x79872, .f32⟩
  | .hbm, ⟨22, _⟩ => ⟨S8x624x128, .f32⟩
  | .hbm, ⟨23, _⟩ => ⟨S624x128, .f32⟩
  | .hbm, ⟨24, _⟩ => ⟨S79872, .f32⟩
  | .hbm, ⟨25, _⟩ => ⟨S768, .f32⟩
  | .hbm, ⟨26, _⟩ => ⟨S32x24, .f32⟩
  | .hbm, ⟨27, _⟩ => ⟨S4096, .f32⟩
  | .hbm, ⟨28, _⟩ => ⟨S4x1024, .f32⟩
  | .hbm, ⟨29, _⟩ => ⟨S256, .f32⟩
  | .hbm, ⟨30, _⟩ => ⟨S4x64, .f32⟩
  | .hbm, ⟨31, _⟩ => ⟨S256, .f32⟩
  | .hbm, ⟨32, _⟩ => ⟨S4x64, .f32⟩
  | .hbm, ⟨33, _⟩ => ⟨S63488, .f32⟩
  | .hbm, ⟨34, _⟩ => ⟨S4x31x512, .f32⟩
  | .hbm, ⟨35, _⟩ => ⟨S2048, .f32⟩
  | .hbm, ⟨36, _⟩ => ⟨S4x512, .f32⟩
  | .hbm, ⟨37, _⟩ => ⟨S2048, .f32⟩
  | .hbm, ⟨38, _⟩ => ⟨S4x512, .f32⟩
  | .hbm, ⟨39, _⟩ => ⟨S2048, .f32⟩
  | .hbm, ⟨40, _⟩ => ⟨S4x512, .f32⟩
  | .hbm, ⟨41, _⟩ => ⟨S4096, .f32⟩
  | .hbm, ⟨42, _⟩ => ⟨S4x1024, .f32⟩
  | .local _ .vmem, ⟨0, _⟩ => ⟨S8x624x128, .f32⟩
  | .local _ .vmem, ⟨1, _⟩ => ⟨S624x128, .f32⟩
  | _, _ => ⟨S8x32x24, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x624x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S624x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevRefIdeal.lean ====
abbrev S8x32x24 : Shape := ⟨3, ![8, 32, 24]⟩
abbrev S8x4x1024 : Shape := ⟨3, ![8, 4, 1024]⟩
abbrev S8x4x64 : Shape := ⟨3, ![8, 4, 64]⟩
abbrev S8x4x31x512 : Shape := ⟨4, ![8, 4, 31, 512]⟩
abbrev S8x4x512 : Shape := ⟨3, ![8, 4, 512]⟩
abbrev S_ : Shape := ⟨0, ![]⟩
abbrev S32x24 : Shape := ⟨2, ![32, 24]⟩
abbrev S4x1024 : Shape := ⟨2, ![4, 1024]⟩
abbrev S4x64 : Shape := ⟨2, ![4, 64]⟩
abbrev S4x31x512 : Shape := ⟨3, ![4, 31, 512]⟩
abbrev S4x512 : Shape := ⟨2, ![4, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x32x24, .f32⟩
  | .hbm, ⟨1, _⟩ => ⟨S8x4x1024, .f32⟩
  | .hbm, ⟨2, _⟩ => ⟨S8x4x64, .f32⟩
  | .hbm, ⟨3, _⟩ => ⟨S8x4x64, .f32⟩
  | .hbm, ⟨4, _⟩ => ⟨S8x4x31x512, .f32⟩
  | .hbm, ⟨5, _⟩ => ⟨S8x4x512, .f32⟩
  | .hbm, ⟨6, _⟩ => ⟨S8x4x512, .f32⟩
  | .hbm, ⟨7, _⟩ => ⟨S8x4x512, .f32⟩
  | .hbm, ⟨8, _⟩ => ⟨S8x4x1024, .f32⟩
  | .hbm, ⟨9, _⟩ => ⟨S_, .f32⟩
  | .hbm, ⟨10, _⟩ => ⟨S32x24, .f32⟩
  | .hbm, ⟨11, _⟩ => ⟨S_, .f32⟩
  | .hbm, ⟨12, _⟩ => ⟨S4x1024, .f32⟩
  | .hbm, ⟨13, _⟩ => ⟨S_, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S_, .f32⟩
  | .hbm, ⟨18, _⟩ => ⟨S4x31x512, .f32⟩
  | .hbm, ⟨19, _⟩ => ⟨S_, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S_, .f32⟩
  | .hbm, ⟨24, _⟩ => ⟨S4x512, .f32⟩
  | .hbm, ⟨25, _⟩ => ⟨S_, .f32⟩
  | .hbm, ⟨26, _⟩ => ⟨S4x1024, .f32⟩
  | _, _ => ⟨S8x32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_cst_4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_cst_6 : Ref sig .tc := ⟨.hbm, 23, rfl⟩
abbrev main_v7 : Ref sig .tc := ⟨.hbm, 24, rfl⟩
abbrev main_cst_7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== RmsBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AdIn0.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn0Ideal.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn0RefIdeal.lean ====
abbrev S4x1024x1920 : Shape := ⟨3, ![4, 1024, 1920]⟩
abbrev S1024x1920 : Shape := ⟨2, ![1024, 1920]⟩
abbrev S1x1024x1920 : Shape := ⟨3, ![1, 1024, 1920]⟩
abbrev S_ : Shape := ⟨0, ![]⟩
abbrev S0x1024x1920 : Shape := ⟨3, ![0, 1024, 1920]⟩
abbrev S3x1024x1920 : Shape := ⟨3, ![3, 1024, 1920]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S1x1024x1920, .f32⟩
  | .hbm, ⟨9, _⟩ => ⟨S1024x1920, .f32⟩
  | .hbm, ⟨10, _⟩ => ⟨S1x1024x1920, .f32⟩
  | .hbm, ⟨11, _⟩ => ⟨S1024x1920, .f32⟩
  | .hbm, ⟨12, _⟩ => ⟨S1x1024x1920, .f32⟩
  | .hbm, ⟨13, _⟩ => ⟨S1024x1920, .f32⟩
  | .hbm, ⟨14, _⟩ => ⟨S_, .f32⟩
  | .hbm, ⟨15, _⟩ => ⟨S1024x1920, .f32⟩
  | .hbm, ⟨16, _⟩ => ⟨S1024x1920, .f32⟩
  | .hbm, ⟨17, _⟩ => ⟨S_, .f32⟩
  | .hbm, ⟨18, _⟩ => ⟨S1024x1920, .f32⟩
  | .hbm, ⟨19, _⟩ => ⟨S1024x1920, .f32⟩
  | .hbm, ⟨20, _⟩ => ⟨S1024x1920, .f32⟩
  | .hbm, ⟨21, _⟩ => ⟨S_, .f32⟩
  | .hbm, ⟨22, _⟩ => ⟨S1024x1920, .f32⟩
  | .hbm, ⟨23, _⟩ => ⟨S1024x1920, .f32⟩
  | .hbm, ⟨24, _⟩ => ⟨S1024x1920, .f32⟩
  | .hbm, ⟨25, _⟩ => ⟨S_, .f32⟩
  | .hbm, ⟨26, _⟩ => ⟨S1024x1920, .f32⟩
  | .hbm, ⟨27, _⟩ => ⟨S1024x1920, .f32⟩
  | .hbm, ⟨28, _⟩ => ⟨S1024x1920, .f32⟩
  | .hbm, ⟨29, _⟩ => ⟨S_, .f32⟩
  | .hbm, ⟨30, _⟩ => ⟨S1024x1920, .f32⟩
  | .hbm, ⟨31, _⟩ => ⟨S1024x1920, .f32⟩
  | .hbm, ⟨32, _⟩ => ⟨S_, .f32⟩
  | .hbm, ⟨33, _⟩ => ⟨S1024x1920, .f32⟩
  | .hbm, ⟨34, _⟩ => ⟨S1024x1920, .f32⟩
  | .hbm, ⟨35, _⟩ => ⟨S1024x1920, .f32⟩
  | .hbm, ⟨36, _⟩ => ⟨S_, .f32⟩
  | .hbm, ⟨37, _⟩ => ⟨S1024x1920, .f32⟩
  | .hbm, ⟨38, _⟩ => ⟨S1024x1920, .f32⟩
  | .hbm, ⟨39, _⟩ => ⟨S1024x1920, .f32⟩
  | .hbm, ⟨40, _⟩ => ⟨S_, .f32⟩
  | .hbm, ⟨41, _⟩ => ⟨S1024x1920, .f32⟩
  | .hbm, ⟨42, _⟩ => ⟨S1024x1920, .f32⟩
  | .hbm, ⟨43, _⟩ => ⟨S1024x1920, .f32⟩
  | .hbm, ⟨44, _⟩ => ⟨S_, .f32⟩
  | .hbm, ⟨45, _⟩ => ⟨S1024x1920, .f32⟩
  | .hbm, ⟨46, _⟩ => ⟨S1024x1920, .f32⟩
  | .hbm, ⟨47, _⟩ => ⟨S0x1024x1920, .f32⟩
  | .hbm, ⟨48, _⟩ => ⟨S1x1024x1920, .f32⟩
  | .hbm, ⟨49, _⟩ => ⟨S3x1024x1920, .f32⟩
  | .hbm, ⟨50, _⟩ => ⟨S4x1024x1920, .f32⟩
  | .hbm, ⟨51, _⟩ => ⟨S0x1024x1920, .f32⟩
  | .hbm, ⟨52, _⟩ => ⟨S1x1024x1920, .f32⟩
  | .hbm, ⟨53, _⟩ => ⟨S3x1024x1920, .f32⟩
  | .hbm, ⟨54, _⟩ => ⟨S4x1024x1920, .f32⟩
  | .hbm, ⟨55, _⟩ => ⟨S0x1024x1920, .f32⟩
  | .hbm, ⟨56, _⟩ => ⟨S1x1024x1920, .f32⟩
  | .hbm, ⟨57, _⟩ => ⟨S3x1024x1920, .f32⟩
  | .hbm, ⟨58, _⟩ => ⟨S4x1024x1920, .f32⟩
  | .hbm, ⟨59, _⟩ => ⟨S0x1024x1920, .f32⟩
  | .hbm, ⟨60, _⟩ => ⟨S1x1024x1920, .f32⟩
  | .hbm, ⟨61, _⟩ => ⟨S3x1024x1920, .f32⟩
  | .hbm, ⟨62, _⟩ => ⟨S4x1024x1920, .f32⟩
  | _, _ => ⟨S4x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdIn1.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn1Ideal.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn1RefIdeal.lean ====
abbrev S4x1024x1920 : Shape := ⟨3, ![4, 1024, 1920]⟩
abbrev S1024x1920 : Shape := ⟨2, ![1024, 1920]⟩
abbrev S1x1024x1920 : Shape := ⟨3, ![1, 1024, 1920]⟩
abbrev S_ : Shape := ⟨0, ![]⟩
abbrev S2x1024x1920 : Shape := ⟨3, ![2, 1024, 1920]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S1x1024x1920, .f32⟩
  | .hbm, ⟨9, _⟩ => ⟨S1024x1920, .f32⟩
  | .hbm, ⟨10, _⟩ => ⟨S1x1024x1920, .f32⟩
  | .hbm, ⟨11, _⟩ => ⟨S1024x1920, .f32⟩
  | .hbm, ⟨12, _⟩ => ⟨S1x1024x1920, .f32⟩
  | .hbm, ⟨13, _⟩ => ⟨S1024x1920, .f32⟩
  | .hbm, ⟨14, _⟩ => ⟨S_, .f32⟩
  | .hbm, ⟨15, _⟩ => ⟨S1024x1920, .f32⟩
  | .hbm, ⟨16, _⟩ => ⟨S1024x1920, .f32⟩
  | .hbm, ⟨17, _⟩ => ⟨S_, .f32⟩
  | .hbm, ⟨18, _⟩ => ⟨S1024x1920, .f32⟩
  | .hbm, ⟨19, _⟩ => ⟨S1024x1920, .f32⟩
  | .hbm, ⟨20, _⟩ => ⟨S1024x1920, .f32⟩
  | .hbm, ⟨21, _⟩ => ⟨S_, .f32⟩
  | .hbm, ⟨22, _⟩ => ⟨S1024x1920, .f32⟩
  | .hbm, ⟨23, _⟩ => ⟨S1024x1920, .f32⟩
  | .hbm, ⟨24, _⟩ => ⟨S1024x1920, .f32⟩
  | .hbm, ⟨25, _⟩ => ⟨S_, .f32⟩
  | .hbm, ⟨26, _⟩ => ⟨S1024x1920, .f32⟩
  | .hbm, ⟨27, _⟩ => ⟨S1024x1920, .f32⟩
  | .hbm, ⟨28, _⟩ => ⟨S1024x1920, .f32⟩
  | .hbm, ⟨29, _⟩ => ⟨S_, .f32⟩
  | .hbm, ⟨30, _⟩ => ⟨S1024x1920, .f32⟩
  | .hbm, ⟨31, _⟩ => ⟨S1024x1920, .f32⟩
  | .hbm, ⟨32, _⟩ => ⟨S_, .f32⟩
  | .hbm, ⟨33, _⟩ => ⟨S1024x1920, .f32⟩
  | .hbm, ⟨34, _⟩ => ⟨S1024x1920, .f32⟩
  | .hbm, ⟨35, _⟩ => ⟨S1024x1920, .f32⟩
  | .hbm, ⟨36, _⟩ => ⟨S_, .f32⟩
  | .hbm, ⟨37, _⟩ => ⟨S1024x1920, .f32⟩
  | .hbm, ⟨38, _⟩ => ⟨S1024x1920, .f32⟩
  | .hbm, ⟨39, _⟩ => ⟨S1024x1920, .f32⟩
  | .hbm, ⟨40, _⟩ => ⟨S_, .f32⟩
  | .hbm, ⟨41, _⟩ => ⟨S1024x1920, .f32⟩
  | .hbm, ⟨42, _⟩ => ⟨S1024x1920, .f32⟩
  | .hbm, ⟨43, _⟩ => ⟨S1024x1920, .f32⟩
  | .hbm, ⟨44, _⟩ => ⟨S_, .f32⟩
  | .hbm, ⟨45, _⟩ => ⟨S1024x1920, .f32⟩
  | .hbm, ⟨46, _⟩ => ⟨S1024x1920, .f32⟩
  | .hbm, ⟨47, _⟩ => ⟨S1x1024x1920, .f32⟩
  | .hbm, ⟨48, _⟩ => ⟨S1x1024x1920, .f32⟩
  | .hbm, ⟨49, _⟩ => ⟨S2x1024x1920, .f32⟩
  | .hbm, ⟨50, _⟩ => ⟨S4x1024x1920, .f32⟩
  | .hbm, ⟨51, _⟩ => ⟨S1x1024x1920, .f32⟩
  | .hbm, ⟨52, _⟩ => ⟨S1x1024x1920, .f32⟩
  | .hbm, ⟨53, _⟩ => ⟨S2x1024x1920, .f32⟩
  | .hbm, ⟨54, _⟩ => ⟨S4x1024x1920, .f32⟩
  | .hbm, ⟨55, _⟩ => ⟨S1x1024x1920, .f32⟩
  | .hbm, ⟨56, _⟩ => ⟨S1x1024x1920, .f32⟩
  | .hbm, ⟨57, _⟩ => ⟨S2x1024x1920, .f32⟩
  | .hbm, ⟨58, _⟩ => ⟨S4x1024x1920, .f32⟩
  | .hbm, ⟨59, _⟩ => ⟨S1x1024x1920, .f32⟩
  | .hbm, ⟨60, _⟩ => ⟨S1x1024x1920, .f32⟩
  | .hbm, ⟨61, _⟩ => ⟨S2x1024x1920, .f32⟩
  | .hbm, ⟨62, _⟩ => ⟨S4x1024x1920, .f32⟩
  | _, _ => ⟨S4x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdIn2.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn2Ideal.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn2RefIdeal.lean ====
abbrev S4x1024x1920 : Shape := ⟨3, ![4, 1024, 1920]⟩
abbrev S1024x1920 : Shape := ⟨2, ![1024, 1920]⟩
abbrev S1x1024x1920 : Shape := ⟨3, ![1, 1024, 1920]⟩
abbrev S_ : Shape := ⟨0, ![]⟩
abbrev S2x1024x1920 : Shape := ⟨3, ![2, 1024, 1920]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S1x1024x1920, .f32⟩
  | .hbm, ⟨9, _⟩ => ⟨S1024x1920, .f32⟩
  | .hbm, ⟨10, _⟩ => ⟨S1x1024x1920, .f32⟩
  | .hbm, ⟨11, _⟩ => ⟨S1024x1920, .f32⟩
  | .hbm, ⟨12, _⟩ => ⟨S1x1024x1920, .f32⟩
  | .hbm, ⟨13, _⟩ => ⟨S1024x1920, .f32⟩
  | .hbm, ⟨14, _⟩ => ⟨S_, .f32⟩
  | .hbm, ⟨15, _⟩ => ⟨S1024x1920, .f32⟩
  | .hbm, ⟨16, _⟩ => ⟨S1024x1920, .f32⟩
  | .hbm, ⟨17, _⟩ => ⟨S_, .f32⟩
  | .hbm, ⟨18, _⟩ => ⟨S1024x1920, .f32⟩
  | .hbm, ⟨19, _⟩ => ⟨S1024x1920, .f32⟩
  | .hbm, ⟨20, _⟩ => ⟨S1024x1920, .f32⟩
  | .hbm, ⟨21, _⟩ => ⟨S_, .f32⟩
  | .hbm, ⟨22, _⟩ => ⟨S1024x1920, .f32⟩
  | .hbm, ⟨23, _⟩ => ⟨S1024x1920, .f32⟩
  | .hbm, ⟨24, _⟩ => ⟨S1024x1920, .f32⟩
  | .hbm, ⟨25, _⟩ => ⟨S_, .f32⟩
  | .hbm, ⟨26, _⟩ => ⟨S1024x1920, .f32⟩
  | .hbm, ⟨27, _⟩ => ⟨S1024x1920, .f32⟩
  | .hbm, ⟨28, _⟩ => ⟨S1024x1920, .f32⟩
  | .hbm, ⟨29, _⟩ => ⟨S_, .f32⟩
  | .hbm, ⟨30, _⟩ => ⟨S1024x1920, .f32⟩
  | .hbm, ⟨31, _⟩ => ⟨S1024x1920, .f32⟩
  | .hbm, ⟨32, _⟩ => ⟨S_, .f32⟩
  | .hbm, ⟨33, _⟩ => ⟨S1024x1920, .f32⟩
  | .hbm, ⟨34, _⟩ => ⟨S1024x1920, .f32⟩
  | .hbm, ⟨35, _⟩ => ⟨S1024x1920, .f32⟩
  | .hbm, ⟨36, _⟩ => ⟨S_, .f32⟩
  | .hbm, ⟨37, _⟩ => ⟨S1024x1920, .f32⟩
  | .hbm, ⟨38, _⟩ => ⟨S1024x1920, .f32⟩
  | .hbm, ⟨39, _⟩ => ⟨S1024x1920, .f32⟩
  | .hbm, ⟨40, _⟩ => ⟨S_, .f32⟩
  | .hbm, ⟨41, _⟩ => ⟨S1024x1920, .f32⟩
  | .hbm, ⟨42, _⟩ => ⟨S1024x1920, .f32⟩
  | .hbm, ⟨43, _⟩ => ⟨S1024x1920, .f32⟩
  | .hbm, ⟨44, _⟩ => ⟨S_, .f32⟩
  | .hbm, ⟨45, _⟩ => ⟨S1024x1920, .f32⟩
  | .hbm, ⟨46, _⟩ => ⟨S1024x1920, .f32⟩
  | .hbm, ⟨47, _⟩ => ⟨S2x1024x1920, .f32⟩
  | .hbm, ⟨48, _⟩ => ⟨S1x1024x1920, .f32⟩
  | .hbm, ⟨49, _⟩ => ⟨S1x1024x1920, .f32⟩
  | .hbm, ⟨50, _⟩ => ⟨S4x1024x1920, .f32⟩
  | .hbm, ⟨51, _⟩ => ⟨S2x1024x1920, .f32⟩
  | .hbm, ⟨52, _⟩ => ⟨S1x1024x1920, .f32⟩
  | .hbm, ⟨53, _⟩ => ⟨S1x1024x1920, .f32⟩
  | .hbm, ⟨54, _⟩ => ⟨S4x1024x1920, .f32⟩
  | .hbm, ⟨55, _⟩ => ⟨S2x1024x1920, .f32⟩
  | .hbm, ⟨56, _⟩ => ⟨S1x1024x1920, .f32⟩
  | .hbm, ⟨57, _⟩ => ⟨S1x1024x1920, .f32⟩
  | .hbm, ⟨58, _⟩ => ⟨S4x1024x1920, .f32⟩
  | .hbm, ⟨59, _⟩ => ⟨S2x1024x1920, .f32⟩
  | .hbm, ⟨60, _⟩ => ⟨S1x1024x1920, .f32⟩
  | .hbm, ⟨61, _⟩ => ⟨S1x1024x1920, .f32⟩
  | .hbm, ⟨62, _⟩ => ⟨S4x1024x1920, .f32⟩
  | _, _ => ⟨S4x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdIn3.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn3Ideal.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S256x1920, .f32⟩
  | .local _ .vmem, ⟨3, _⟩ => ⟨S256x1920, .f32⟩
  | .local _ .vmem, ⟨4, _⟩ => ⟨S1x256x1920, .f32⟩
  | .local _ .vmem, ⟨5, _⟩ => ⟨S1x256x1920, .f32⟩
  | .local _ .vmem, ⟨6, _⟩ => ⟨S1x256x1920, .f32⟩
  | .local _ .vmem, ⟨7, _⟩ => ⟨S1x256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdIn3RefIdeal.lean ====
abbrev S4x1024x1920 : Shape := ⟨3, ![4, 1024, 1920]⟩
abbrev S1024x1920 : Shape := ⟨2, ![1024, 1920]⟩
abbrev S1x1024x1920 : Shape := ⟨3, ![1, 1024, 1920]⟩
abbrev S_ : Shape := ⟨0, ![]⟩
abbrev S3x1024x1920 : Shape := ⟨3, ![3, 1024, 1920]⟩
abbrev S0x1024x1920 : Shape := ⟨3, ![0, 1024, 1920]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1920, .f32⟩
  | .hbm, ⟨1, _⟩ => ⟨S1024x1920, .f32⟩
  | .hbm, ⟨2, _⟩ => ⟨S4x1024x1920, .f32⟩
  | .hbm, ⟨3, _⟩ => ⟨S4x1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S1x1024x1920, .f32⟩
  | .hbm, ⟨9, _⟩ => ⟨S1024x1920, .f32⟩
  | .hbm, ⟨10, _⟩ => ⟨S1x1024x1920, .f32⟩
  | .hbm, ⟨11, _⟩ => ⟨S1024x1920, .f32⟩
  | .hbm, ⟨12, _⟩ => ⟨S1x1024x1920, .f32⟩
  | .hbm, ⟨13, _⟩ => ⟨S1024x1920, .f32⟩
  | .hbm, ⟨14, _⟩ => ⟨S_, .f32⟩
  | .hbm, ⟨15, _⟩ => ⟨S1024x1920, .f32⟩
  | .hbm, ⟨16, _⟩ => ⟨S1024x1920, .f32⟩
  | .hbm, ⟨17, _⟩ => ⟨S_, .f32⟩
  | .hbm, ⟨18, _⟩ => ⟨S1024x1920, .f32⟩
  | .hbm, ⟨19, _⟩ => ⟨S1024x1920, .f32⟩
  | .hbm, ⟨20, _⟩ => ⟨S1024x1920, .f32⟩
  | .hbm, ⟨21, _⟩ => ⟨S_, .f32⟩
  | .hbm, ⟨22, _⟩ => ⟨S1024x1920, .f32⟩
  | .hbm, ⟨23, _⟩ => ⟨S1024x1920, .f32⟩
  | .hbm, ⟨24, _⟩ => ⟨S1024x1920, .f32⟩
  | .hbm, ⟨25, _⟩ => ⟨S_, .f32⟩
  | .hbm, ⟨26, _⟩ => ⟨S1024x1920, .f32⟩
  | .hbm, ⟨27, _⟩ => ⟨S1024x1920, .f32⟩
  | .hbm, ⟨28, _⟩ => ⟨S1024x1920, .f32⟩
  | .hbm, ⟨29, _⟩ => ⟨S_, .f32⟩
  | .hbm, ⟨30, _⟩ => ⟨S1024x1920, .f32⟩
  | .hbm, ⟨31, _⟩ => ⟨S1024x1920, .f32⟩
  | .hbm, ⟨32, _⟩ => ⟨S_, .f32⟩
  | .hbm, ⟨33, _⟩ => ⟨S1024x1920, .f32⟩
  | .hbm, ⟨34, _⟩ => ⟨S1024x1920, .f32⟩
  | .hbm, ⟨35, _⟩ => ⟨S1024x1920, .f32⟩
  | .hbm, ⟨36, _⟩ => ⟨S_, .f32⟩
  | .hbm, ⟨37, _⟩ => ⟨S1024x1920, .f32⟩
  | .hbm, ⟨38, _⟩ => ⟨S1024x1920, .f32⟩
  | .hbm, ⟨39, _⟩ => ⟨S1024x1920, .f32⟩
  | .hbm, ⟨40, _⟩ => ⟨S_, .f32⟩
  | .hbm, ⟨41, _⟩ => ⟨S1024x1920, .f32⟩
  | .hbm, ⟨42, _⟩ => ⟨S1024x1920, .f32⟩
  | .hbm, ⟨43, _⟩ => ⟨S1024x1920, .f32⟩
  | .hbm, ⟨44, _⟩ => ⟨S_, .f32⟩
  | .hbm, ⟨45, _⟩ => ⟨S1024x1920, .f32⟩
  | .hbm, ⟨46, _⟩ => ⟨S1024x1920, .f32⟩
  | .hbm, ⟨47, _⟩ => ⟨S3x1024x1920, .f32⟩
  | .hbm, ⟨48, _⟩ => ⟨S1x1024x1920, .f32⟩
  | .hbm, ⟨49, _⟩ => ⟨S0x1024x1920, .f32⟩
  | .hbm, ⟨50, _⟩ => ⟨S4x1024x1920, .f32⟩
  | .hbm, ⟨51, _⟩ => ⟨S3x1024x1920, .f32⟩
  | .hbm, ⟨52, _⟩ => ⟨S1x1024x1920, .f32⟩
  | .hbm, ⟨53, _⟩ => ⟨S0x1024x1920, .f32⟩
  | .hbm, ⟨54, _⟩ => ⟨S4x1024x1920, .f32⟩
  | .hbm, ⟨55, _⟩ => ⟨S3x1024x1920, .f32⟩
  | .hbm, ⟨56, _⟩ => ⟨S1x1024x1920, .f32⟩
  | .hbm, ⟨57, _⟩ => ⟨S0x1024x1920, .f32⟩
  | .hbm, ⟨58, _⟩ => ⟨S4x1024x1920, .f32⟩
  | .hbm, ⟨59, _⟩ => ⟨S3x1024x1920, .f32⟩
  | .hbm, ⟨60, _⟩ => ⟨S1x1024x1920, .f32⟩
  | .hbm, ⟨61, _⟩ => ⟨S0x1024x1920, .f32⟩
  | .hbm, ⟨62, _⟩ => ⟨S4x1024x1920, .f32⟩
  | _, _ => ⟨S4x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdCo0.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo0Ideal.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo0RefIdeal.lean ====
abbrev S4x512x256 : Shape := ⟨3, ![4, 512, 256]⟩
abbrev S512x256 : Shape := ⟨2, ![512, 256]⟩
abbrev S1x512x256 : Shape := ⟨3, ![1, 512, 256]⟩
abbrev S_ : Shape := ⟨0, ![]⟩
abbrev S0x512x256 : Shape := ⟨3, ![0, 512, 256]⟩
abbrev S3x512x256 : Shape := ⟨3, ![3, 512, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S1x512x256, .f32⟩
  | .hbm, ⟨9, _⟩ => ⟨S512x256, .f32⟩
  | .hbm, ⟨10, _⟩ => ⟨S1x512x256, .f32⟩
  | .hbm, ⟨11, _⟩ => ⟨S512x256, .f32⟩
  | .hbm, ⟨12, _⟩ => ⟨S1x512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S0x512x256, .f32⟩
  | .hbm, ⟨48, _⟩ => ⟨S1x512x256, .f32⟩
  | .hbm, ⟨49, _⟩ => ⟨S3x512x256, .f32⟩
  | .hbm, ⟨50, _⟩ => ⟨S4x512x256, .f32⟩
  | .hbm, ⟨51, _⟩ => ⟨S0x512x256, .f32⟩
  | .hbm, ⟨52, _⟩ => ⟨S1x512x256, .f32⟩
  | .hbm, ⟨53, _⟩ => ⟨S3x512x256, .f32⟩
  | .hbm, ⟨54, _⟩ => ⟨S4x512x256, .f32⟩
  | .hbm, ⟨55, _⟩ => ⟨S0x512x256, .f32⟩
  | .hbm, ⟨56, _⟩ => ⟨S1x512x256, .f32⟩
  | .hbm, ⟨57, _⟩ => ⟨S3x512x256, .f32⟩
  | .hbm, ⟨58, _⟩ => ⟨S4x512x256, .f32⟩
  | .hbm, ⟨59, _⟩ => ⟨S0x512x256, .f32⟩
  | .hbm, ⟨60, _⟩ => ⟨S1x512x256, .f32⟩
  | .hbm, ⟨61, _⟩ => ⟨S3x512x256, .f32⟩
  | .hbm, ⟨62, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdCo1.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo1Ideal.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo1RefIdeal.lean ====
abbrev S4x512x256 : Shape := ⟨3, ![4, 512, 256]⟩
abbrev S512x256 : Shape := ⟨2, ![512, 256]⟩
abbrev S1x512x256 : Shape := ⟨3, ![1, 512, 256]⟩
abbrev S_ : Shape := ⟨0, ![]⟩
abbrev S2x512x256 : Shape := ⟨3, ![2, 512, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S1x512x256, .f32⟩
  | .hbm, ⟨9, _⟩ => ⟨S512x256, .f32⟩
  | .hbm, ⟨10, _⟩ => ⟨S1x512x256, .f32⟩
  | .hbm, ⟨11, _⟩ => ⟨S512x256, .f32⟩
  | .hbm, ⟨12, _⟩ => ⟨S1x512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S1x512x256, .f32⟩
  | .hbm, ⟨48, _⟩ => ⟨S1x512x256, .f32⟩
  | .hbm, ⟨49, _⟩ => ⟨S2x512x256, .f32⟩
  | .hbm, ⟨50, _⟩ => ⟨S4x512x256, .f32⟩
  | .hbm, ⟨51, _⟩ => ⟨S1x512x256, .f32⟩
  | .hbm, ⟨52, _⟩ => ⟨S1x512x256, .f32⟩
  | .hbm, ⟨53, _⟩ => ⟨S2x512x256, .f32⟩
  | .hbm, ⟨54, _⟩ => ⟨S4x512x256, .f32⟩
  | .hbm, ⟨55, _⟩ => ⟨S1x512x256, .f32⟩
  | .hbm, ⟨56, _⟩ => ⟨S1x512x256, .f32⟩
  | .hbm, ⟨57, _⟩ => ⟨S2x512x256, .f32⟩
  | .hbm, ⟨58, _⟩ => ⟨S4x512x256, .f32⟩
  | .hbm, ⟨59, _⟩ => ⟨S1x512x256, .f32⟩
  | .hbm, ⟨60, _⟩ => ⟨S1x512x256, .f32⟩
  | .hbm, ⟨61, _⟩ => ⟨S2x512x256, .f32⟩
  | .hbm, ⟨62, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdCo2.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo2Ideal.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo2RefIdeal.lean ====
abbrev S4x512x256 : Shape := ⟨3, ![4, 512, 256]⟩
abbrev S512x256 : Shape := ⟨2, ![512, 256]⟩
abbrev S1x512x256 : Shape := ⟨3, ![1, 512, 256]⟩
abbrev S_ : Shape := ⟨0, ![]⟩
abbrev S2x512x256 : Shape := ⟨3, ![2, 512, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S1x512x256, .f32⟩
  | .hbm, ⟨9, _⟩ => ⟨S512x256, .f32⟩
  | .hbm, ⟨10, _⟩ => ⟨S1x512x256, .f32⟩
  | .hbm, ⟨11, _⟩ => ⟨S512x256, .f32⟩
  | .hbm, ⟨12, _⟩ => ⟨S1x512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S2x512x256, .f32⟩
  | .hbm, ⟨48, _⟩ => ⟨S1x512x256, .f32⟩
  | .hbm, ⟨49, _⟩ => ⟨S1x512x256, .f32⟩
  | .hbm, ⟨50, _⟩ => ⟨S4x512x256, .f32⟩
  | .hbm, ⟨51, _⟩ => ⟨S2x512x256, .f32⟩
  | .hbm, ⟨52, _⟩ => ⟨S1x512x256, .f32⟩
  | .hbm, ⟨53, _⟩ => ⟨S1x512x256, .f32⟩
  | .hbm, ⟨54, _⟩ => ⟨S4x512x256, .f32⟩
  | .hbm, ⟨55, _⟩ => ⟨S2x512x256, .f32⟩
  | .hbm, ⟨56, _⟩ => ⟨S1x512x256, .f32⟩
  | .hbm, ⟨57, _⟩ => ⟨S1x512x256, .f32⟩
  | .hbm, ⟨58, _⟩ => ⟨S4x512x256, .f32⟩
  | .hbm, ⟨59, _⟩ => ⟨S2x512x256, .f32⟩
  | .hbm, ⟨60, _⟩ => ⟨S1x512x256, .f32⟩
  | .hbm, ⟨61, _⟩ => ⟨S1x512x256, .f32⟩
  | .hbm, ⟨62, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdCo3.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo3Ideal.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCo3RefIdeal.lean ====
abbrev S4x512x256 : Shape := ⟨3, ![4, 512, 256]⟩
abbrev S512x256 : Shape := ⟨2, ![512, 256]⟩
abbrev S1x512x256 : Shape := ⟨3, ![1, 512, 256]⟩
abbrev S_ : Shape := ⟨0, ![]⟩
abbrev S3x512x256 : Shape := ⟨3, ![3, 512, 256]⟩
abbrev S0x512x256 : Shape := ⟨3, ![0, 512, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S1x512x256, .f32⟩
  | .hbm, ⟨9, _⟩ => ⟨S512x256, .f32⟩
  | .hbm, ⟨10, _⟩ => ⟨S1x512x256, .f32⟩
  | .hbm, ⟨11, _⟩ => ⟨S512x256, .f32⟩
  | .hbm, ⟨12, _⟩ => ⟨S1x512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S3x512x256, .f32⟩
  | .hbm, ⟨48, _⟩ => ⟨S1x512x256, .f32⟩
  | .hbm, ⟨49, _⟩ => ⟨S0x512x256, .f32⟩
  | .hbm, ⟨50, _⟩ => ⟨S4x512x256, .f32⟩
  | .hbm, ⟨51, _⟩ => ⟨S3x512x256, .f32⟩
  | .hbm, ⟨52, _⟩ => ⟨S1x512x256, .f32⟩
  | .hbm, ⟨53, _⟩ => ⟨S0x512x256, .f32⟩
  | .hbm, ⟨54, _⟩ => ⟨S4x512x256, .f32⟩
  | .hbm, ⟨55, _⟩ => ⟨S3x512x256, .f32⟩
  | .hbm, ⟨56, _⟩ => ⟨S1x512x256, .f32⟩
  | .hbm, ⟨57, _⟩ => ⟨S0x512x256, .f32⟩
  | .hbm, ⟨58, _⟩ => ⟨S4x512x256, .f32⟩
  | .hbm, ⟨59, _⟩ => ⟨S3x512x256, .f32⟩
  | .hbm, ⟨60, _⟩ => ⟨S1x512x256, .f32⟩
  | .hbm, ⟨61, _⟩ => ⟨S0x512x256, .f32⟩
  | .hbm, ⟨62, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdOut0.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut0Ideal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut0RefIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S0x256x1024 : Shape := ⟨3, ![0, 256, 1024]⟩
abbrev S3x256x1024 : Shape := ⟨3, ![3, 256, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S0x256x1024, .f32⟩
  | .hbm, ⟨48, _⟩ => ⟨S1x256x1024, .f32⟩
  | .hbm, ⟨49, _⟩ => ⟨S3x256x1024, .f32⟩
  | .hbm, ⟨50, _⟩ => ⟨S4x256x1024, .f32⟩
  | .hbm, ⟨51, _⟩ => ⟨S0x256x1024, .f32⟩
  | .hbm, ⟨52, _⟩ => ⟨S1x256x1024, .f32⟩
  | .hbm, ⟨53, _⟩ => ⟨S3x256x1024, .f32⟩
  | .hbm, ⟨54, _⟩ => ⟨S4x256x1024, .f32⟩
  | .hbm, ⟨55, _⟩ => ⟨S0x256x1024, .f32⟩
  | .hbm, ⟨56, _⟩ => ⟨S1x256x1024, .f32⟩
  | .hbm, ⟨57, _⟩ => ⟨S3x256x1024, .f32⟩
  | .hbm, ⟨58, _⟩ => ⟨S4x256x1024, .f32⟩
  | .hbm, ⟨59, _⟩ => ⟨S0x256x1024, .f32⟩
  | .hbm, ⟨60, _⟩ => ⟨S1x256x1024, .f32⟩
  | .hbm, ⟨61, _⟩ => ⟨S3x256x1024, .f32⟩
  | .hbm, ⟨62, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdOut1.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut1Ideal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut1RefIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S2x256x1024 : Shape := ⟨3, ![2, 256, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S1x256x1024, .f32⟩
  | .hbm, ⟨48, _⟩ => ⟨S1x256x1024, .f32⟩
  | .hbm, ⟨49, _⟩ => ⟨S2x256x1024, .f32⟩
  | .hbm, ⟨50, _⟩ => ⟨S4x256x1024, .f32⟩
  | .hbm, ⟨51, _⟩ => ⟨S1x256x1024, .f32⟩
  | .hbm, ⟨52, _⟩ => ⟨S1x256x1024, .f32⟩
  | .hbm, ⟨53, _⟩ => ⟨S2x256x1024, .f32⟩
  | .hbm, ⟨54, _⟩ => ⟨S4x256x1024, .f32⟩
  | .hbm, ⟨55, _⟩ => ⟨S1x256x1024, .f32⟩
  | .hbm, ⟨56, _⟩ => ⟨S1x256x1024, .f32⟩
  | .hbm, ⟨57, _⟩ => ⟨S2x256x1024, .f32⟩
  | .hbm, ⟨58, _⟩ => ⟨S4x256x1024, .f32⟩
  | .hbm, ⟨59, _⟩ => ⟨S1x256x1024, .f32⟩
  | .hbm, ⟨60, _⟩ => ⟨S1x256x1024, .f32⟩
  | .hbm, ⟨61, _⟩ => ⟨S2x256x1024, .f32⟩
  | .hbm, ⟨62, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdOut2.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut2Ideal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut2RefIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S2x256x1024 : Shape := ⟨3, ![2, 256, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S2x256x1024, .f32⟩
  | .hbm, ⟨48, _⟩ => ⟨S1x256x1024, .f32⟩
  | .hbm, ⟨49, _⟩ => ⟨S1x256x1024, .f32⟩
  | .hbm, ⟨50, _⟩ => ⟨S4x256x1024, .f32⟩
  | .hbm, ⟨51, _⟩ => ⟨S2x256x1024, .f32⟩
  | .hbm, ⟨52, _⟩ => ⟨S1x256x1024, .f32⟩
  | .hbm, ⟨53, _⟩ => ⟨S1x256x1024, .f32⟩
  | .hbm, ⟨54, _⟩ => ⟨S4x256x1024, .f32⟩
  | .hbm, ⟨55, _⟩ => ⟨S2x256x1024, .f32⟩
  | .hbm, ⟨56, _⟩ => ⟨S1x256x1024, .f32⟩
  | .hbm, ⟨57, _⟩ => ⟨S1x256x1024, .f32⟩
  | .hbm, ⟨58, _⟩ => ⟨S4x256x1024, .f32⟩
  | .hbm, ⟨59, _⟩ => ⟨S2x256x1024, .f32⟩
  | .hbm, ⟨60, _⟩ => ⟨S1x256x1024, .f32⟩
  | .hbm, ⟨61, _⟩ => ⟨S1x256x1024, .f32⟩
  | .hbm, ⟨62, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdOut3.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut3Ideal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOut3RefIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S3x256x1024 : Shape := ⟨3, ![3, 256, 1024]⟩
abbrev S0x256x1024 : Shape := ⟨3, ![0, 256, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S3x256x1024, .f32⟩
  | .hbm, ⟨48, _⟩ => ⟨S1x256x1024, .f32⟩
  | .hbm, ⟨49, _⟩ => ⟨S0x256x1024, .f32⟩
  | .hbm, ⟨50, _⟩ => ⟨S4x256x1024, .f32⟩
  | .hbm, ⟨51, _⟩ => ⟨S3x256x1024, .f32⟩
  | .hbm, ⟨52, _⟩ => ⟨S1x256x1024, .f32⟩
  | .hbm, ⟨53, _⟩ => ⟨S0x256x1024, .f32⟩
  | .hbm, ⟨54, _⟩ => ⟨S4x256x1024, .f32⟩
  | .hbm, ⟨55, _⟩ => ⟨S3x256x1024, .f32⟩
  | .hbm, ⟨56, _⟩ => ⟨S1x256x1024, .f32⟩
  | .hbm, ⟨57, _⟩ => ⟨S0x256x1024, .f32⟩
  | .hbm, ⟨58, _⟩ => ⟨S4x256x1024, .f32⟩
  | .hbm, ⟨59, _⟩ => ⟨S3x256x1024, .f32⟩
  | .hbm, ⟨60, _⟩ => ⟨S1x256x1024, .f32⟩
  | .hbm, ⟨61, _⟩ => ⟨S0x256x1024, .f32⟩
  | .hbm, ⟨62, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdFf0.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf0Ideal.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf0RefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩
abbrev S0x1024x1024 : Shape := ⟨3, ![0, 1024, 1024]⟩
abbrev S3x1024x1024 : Shape := ⟨3, ![3, 1024, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S0x1024x1024, .f32⟩
  | .hbm, ⟨48, _⟩ => ⟨S1x1024x1024, .f32⟩
  | .hbm, ⟨49, _⟩ => ⟨S3x1024x1024, .f32⟩
  | .hbm, ⟨50, _⟩ => ⟨S4x1024x1024, .f32⟩
  | .hbm, ⟨51, _⟩ => ⟨S0x1024x1024, .f32⟩
  | .hbm, ⟨52, _⟩ => ⟨S1x1024x1024, .f32⟩
  | .hbm, ⟨53, _⟩ => ⟨S3x1024x1024, .f32⟩
  | .hbm, ⟨54, _⟩ => ⟨S4x1024x1024, .f32⟩
  | .hbm, ⟨55, _⟩ => ⟨S0x1024x1024, .f32⟩
  | .hbm, ⟨56, _⟩ => ⟨S1x1024x1024, .f32⟩
  | .hbm, ⟨57, _⟩ => ⟨S3x1024x1024, .f32⟩
  | .hbm, ⟨58, _⟩ => ⟨S4x1024x1024, .f32⟩
  | .hbm, ⟨59, _⟩ => ⟨S0x1024x1024, .f32⟩
  | .hbm, ⟨60, _⟩ => ⟨S1x1024x1024, .f32⟩
  | .hbm, ⟨61, _⟩ => ⟨S3x1024x1024, .f32⟩
  | .hbm, ⟨62, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdFf1.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf1Ideal.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf1RefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩
abbrev S2x1024x1024 : Shape := ⟨3, ![2, 1024, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1x1024x1024, .f32⟩
  | .hbm, ⟨48, _⟩ => ⟨S1x1024x1024, .f32⟩
  | .hbm, ⟨49, _⟩ => ⟨S2x1024x1024, .f32⟩
  | .hbm, ⟨50, _⟩ => ⟨S4x1024x1024, .f32⟩
  | .hbm, ⟨51, _⟩ => ⟨S1x1024x1024, .f32⟩
  | .hbm, ⟨52, _⟩ => ⟨S1x1024x1024, .f32⟩
  | .hbm, ⟨53, _⟩ => ⟨S2x1024x1024, .f32⟩
  | .hbm, ⟨54, _⟩ => ⟨S4x1024x1024, .f32⟩
  | .hbm, ⟨55, _⟩ => ⟨S1x1024x1024, .f32⟩
  | .hbm, ⟨56, _⟩ => ⟨S1x1024x1024, .f32⟩
  | .hbm, ⟨57, _⟩ => ⟨S2x1024x1024, .f32⟩
  | .hbm, ⟨58, _⟩ => ⟨S4x1024x1024, .f32⟩
  | .hbm, ⟨59, _⟩ => ⟨S1x1024x1024, .f32⟩
  | .hbm, ⟨60, _⟩ => ⟨S1x1024x1024, .f32⟩
  | .hbm, ⟨61, _⟩ => ⟨S2x1024x1024, .f32⟩
  | .hbm, ⟨62, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdFf2.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf2Ideal.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf2RefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩
abbrev S2x1024x1024 : Shape := ⟨3, ![2, 1024, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S2x1024x1024, .f32⟩
  | .hbm, ⟨48, _⟩ => ⟨S1x1024x1024, .f32⟩
  | .hbm, ⟨49, _⟩ => ⟨S1x1024x1024, .f32⟩
  | .hbm, ⟨50, _⟩ => ⟨S4x1024x1024, .f32⟩
  | .hbm, ⟨51, _⟩ => ⟨S2x1024x1024, .f32⟩
  | .hbm, ⟨52, _⟩ => ⟨S1x1024x1024, .f32⟩
  | .hbm, ⟨53, _⟩ => ⟨S1x1024x1024, .f32⟩
  | .hbm, ⟨54, _⟩ => ⟨S4x1024x1024, .f32⟩
  | .hbm, ⟨55, _⟩ => ⟨S2x1024x1024, .f32⟩
  | .hbm, ⟨56, _⟩ => ⟨S1x1024x1024, .f32⟩
  | .hbm, ⟨57, _⟩ => ⟨S1x1024x1024, .f32⟩
  | .hbm, ⟨58, _⟩ => ⟨S4x1024x1024, .f32⟩
  | .hbm, ⟨59, _⟩ => ⟨S2x1024x1024, .f32⟩
  | .hbm, ⟨60, _⟩ => ⟨S1x1024x1024, .f32⟩
  | .hbm, ⟨61, _⟩ => ⟨S1x1024x1024, .f32⟩
  | .hbm, ⟨62, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== AdFf3.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf3Ideal.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf3RefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩
abbrev S3x1024x1024 : Shape := ⟨3, ![3, 1024, 1024]⟩
abbrev S0x1024x1024 : Shape := ⟨3, ![0, 1024, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S3x1024x1024, .f32⟩
  | .hbm, ⟨48, _⟩ => ⟨S1x1024x1024, .f32⟩
  | .hbm, ⟨49, _⟩ => ⟨S0x1024x1024, .f32⟩
  | .hbm, ⟨50, _⟩ => ⟨S4x1024x1024, .f32⟩
  | .hbm, ⟨51, _⟩ => ⟨S3x1024x1024, .f32⟩
  | .hbm, ⟨52, _⟩ => ⟨S1x1024x1024, .f32⟩
  | .hbm, ⟨53, _⟩ => ⟨S0x1024x1024, .f32⟩
  | .hbm, ⟨54, _⟩ => ⟨S4x1024x1024, .f32⟩
  | .hbm, ⟨55, _⟩ => ⟨S3x1024x1024, .f32⟩
  | .hbm, ⟨56, _⟩ => ⟨S1x1024x1024, .f32⟩
  | .hbm, ⟨57, _⟩ => ⟨S0x1024x1024, .f32⟩
  | .hbm, ⟨58, _⟩ => ⟨S4x1024x1024, .f32⟩
  | .hbm, ⟨59, _⟩ => ⟨S3x1024x1024, .f32⟩
  | .hbm, ⟨60, _⟩ => ⟨S1x1024x1024, .f32⟩
  | .hbm, ⟨61, _⟩ => ⟨S0x1024x1024, .f32⟩
  | .hbm, ⟨62, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== LossHead.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S2048x1024 : Shape := ⟨2, ![2048, 1024]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== RecvIn.lean ====
abbrev S512x1920 : Shape := ⟨2, ![512, 1920]⟩
abbrev S3x512x1920 : Shape := ⟨3, ![3, 512, 1920]⟩
abbrev S_ : Shape := ⟨0, ![]⟩
abbrev S2 : Shape := ⟨1, ![2]⟩
abbrev S2x512x1920 : Shape := ⟨3, ![2, 512, 1920]⟩
abbrev S256x1920 : Shape := ⟨2, ![256, 1920]⟩
abbrev S3x256x1920 : Shape := ⟨3, ![3, 256, 1920]⟩
abbrev S1x256x1920 : Shape := ⟨3, ![1, 256, 1920]⟩
abbrev S1 : Shape := ⟨1, ![1]⟩
abbrev S1x512x1920 : Shape := ⟨3, ![1, 512, 1920]⟩

abbrev nBuf : Space → Nat
  | .hbm => 6
  | .vmem => 6
  | .smem => 1
  | _ => 0

abbrev bufTy : (tb : Table) → Fin (tcTables nBuf tb) → BufTy
  | .hbm, ⟨0, _⟩ => ⟨S512x1920, .f32⟩
  | .hbm, ⟨1, _⟩ => ⟨S3x512x1920, .bf16⟩
  | .hbm, ⟨2, _⟩ => ⟨S_, .i32⟩
  | .hbm, ⟨3, _⟩ => ⟨S2x512x1920, .f32⟩
  | .hbm, ⟨4, _⟩ => ⟨S1x512x1920, .f32⟩
  | .hbm, ⟨5, _⟩ => ⟨S512x1920, .f32⟩
  | .local _ .vmem, ⟨0, _⟩ => ⟨S256x1920, .f32⟩
  | .local _ .vmem, ⟨1, _⟩ => ⟨S256x1920, .f32⟩
  | .local _ .vmem, ⟨2, _⟩ => ⟨S3x256x1920, .bf16⟩
  | .local _ .vmem, ⟨3, _⟩ => ⟨S3x256x1920, .bf16⟩
  | .local _ .vmem, ⟨4, _⟩ => ⟨S1x256x1920, .f32⟩
  | .local _ .vmem, ⟨5, _⟩ => ⟨S1x256x1920, .f32⟩
  | .local _ .smem, ⟨0, _⟩ => ⟨S2, .i32⟩
  | _, _ => ⟨S512x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecvInIdeal.lean ====
abbrev S512x1920 : Shape := ⟨2, ![512, 1920]⟩
abbrev S3x512x1920 : Shape := ⟨3, ![3, 512, 1920]⟩
abbrev S_ : Shape := ⟨0, ![]⟩
abbrev S2 : Shape := ⟨1, ![2]⟩
abbrev S2x512x1920 : Shape := ⟨3, ![2, 512, 1920]⟩
abbrev S256x1920 : Shape := ⟨2, ![256, 1920]⟩
abbrev S3x256x1920 : Shape := ⟨3, ![3, 256, 1920]⟩
abbrev S1x256x1920 : Shape := ⟨3, ![1, 256, 1920]⟩
abbrev S1 : Shape := ⟨1, ![1]⟩
abbrev S1x512x1920 : Shape := ⟨3, ![1, 512, 1920]⟩

abbrev nBuf : Space → Nat
  | .hbm => 6
  | .vmem => 6
  | .smem => 1
  | _ => 0

abbrev bufTy : (tb : Table) → Fin (tcTables nBuf tb) → BufTy
  | .hbm, ⟨0, _⟩ => ⟨S512x1920, .f32⟩
  | .hbm, ⟨1, _⟩ => ⟨S3x512x1920, .bf16⟩
  | .hbm, ⟨2, _⟩ => ⟨S_, .i32⟩
  | .hbm, ⟨3, _⟩ => ⟨S2x512x1920, .f32⟩
  | .hbm, ⟨4, _⟩ => ⟨S1x512x1920, .f32⟩
  | .hbm, ⟨5, _⟩ => ⟨S512x1920, .f32⟩
  | .local _ .vmem, ⟨0, _⟩ => ⟨S256x1920, .f32⟩
  | .local _ .vmem, ⟨1, _⟩ => ⟨S256x1920, .f32⟩
  | .local _ .vmem, ⟨2, _⟩ => ⟨S3x256x1920, .bf16⟩
  | .local _ .vmem, ⟨3, _⟩ => ⟨S3x256x1920, .bf16⟩
  | .local _ .vmem, ⟨4, _⟩ => ⟨S1x256x1920, .f32⟩
  | .local _ .vmem, ⟨5, _⟩ => ⟨S1x256x1920, .f32⟩
  | .local _ .smem, ⟨0, _⟩ => ⟨S2, .i32⟩
  | _, _ => ⟨S512x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecvInRefIdeal.lean ====
abbrev S512x1920 : Shape := ⟨2, ![512, 1920]⟩
abbrev S3x512x1920 : Shape := ⟨3, ![3, 512, 1920]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1920, .f32⟩
  | .hbm, ⟨1, _⟩ => ⟨S3x512x1920, .bf16⟩
  | .hbm, ⟨2, _⟩ => ⟨S3x512x1920, .f32⟩
  | .hbm, ⟨3, _⟩ => ⟨S_, .f32⟩
  | .hbm, ⟨4, _⟩ => ⟨S512x1920, .f32⟩
  | .hbm, ⟨5, _⟩ => ⟨S512x1920, .f32⟩
  | _, _ => ⟨S512x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RecvCo.lean ====
abbrev S256x256 : Shape := ⟨2, ![256, 256]⟩
abbrev S3x256x256 : Shape := ⟨3, ![3, 256, 256]⟩
abbrev S_ : Shape := ⟨0, ![]⟩
abbrev S2 : Shape := ⟨1, ![2]⟩
abbrev S2x256x256 : Shape := ⟨3, ![2, 256, 256]⟩
abbrev S1x256x256 : Shape := ⟨3, ![1, 256, 256]⟩
abbrev S1 : Shape := ⟨1, ![1]⟩

abbrev nBuf : Space → Nat
  | .hbm => 6
  | .vmem => 3
  | .smem => 1
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S_, .i32⟩
  | .hbm, ⟨3, _⟩ => ⟨S2x256x256, .f32⟩
  | .hbm, ⟨4, _⟩ => ⟨S1x256x256, .f32⟩
  | .hbm, ⟨5, _⟩ => ⟨S256x256, .f32⟩
  | .local _ .vmem, ⟨0, _⟩ => ⟨S256x256, .f32⟩
  | .local _ .vmem, ⟨1, _⟩ => ⟨S3x256x256, .bf16⟩
  | .local _ .vmem, ⟨2, _⟩ => ⟨S1x256x256, .f32⟩
  | .local _ .smem, ⟨0, _⟩ => ⟨S2, .i32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RecvCoIdeal.lean ====
abbrev S256x256 : Shape := ⟨2, ![256, 256]⟩
abbrev S3x256x256 : Shape := ⟨3, ![3, 256, 256]⟩
abbrev S_ : Shape := ⟨0, ![]⟩
abbrev S2 : Shape := ⟨1, ![2]⟩
abbrev S2x256x256 : Shape := ⟨3, ![2, 256, 256]⟩
abbrev S1x256x256 : Shape := ⟨3, ![1, 256, 256]⟩
abbrev S1 : Shape := ⟨1, ![1]⟩

abbrev nBuf : Space → Nat
  | .hbm => 6
  | .vmem => 3
  | .smem => 1
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S_, .i32⟩
  | .hbm, ⟨3, _⟩ => ⟨S2x256x256, .f32⟩
  | .hbm, ⟨4, _⟩ => ⟨S1x256x256, .f32⟩
  | .hbm, ⟨5, _⟩ => ⟨S256x256, .f32⟩
  | .local _ .vmem, ⟨0, _⟩ => ⟨S256x256, .f32⟩
  | .local _ .vmem, ⟨1, _⟩ => ⟨S3x256x256, .bf16⟩
  | .local _ .vmem, ⟨2, _⟩ => ⟨S1x256x256, .f32⟩
  | .local _ .smem, ⟨0, _⟩ => ⟨S2, .i32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RecvCoRefIdeal.lean ====
abbrev S256x256 : Shape := ⟨2, ![256, 256]⟩
abbrev S3x256x256 : Shape := ⟨3, ![3, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S3x256x256, .f32⟩
  | .hbm, ⟨3, _⟩ => ⟨S_, .f32⟩
  | .hbm, ⟨4, _⟩ => ⟨S256x256, .f32⟩
  | .hbm, ⟨5, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RecvOut.lean ====
abbrev S128x1024 : Shape := ⟨2, ![128, 1024]⟩
abbrev S3x128x1024 : Shape := ⟨3, ![3, 128, 1024]⟩
abbrev S_ : Shape := ⟨0, ![]⟩
abbrev S2 : Shape := ⟨1, ![2]⟩
abbrev S2x128x1024 : Shape := ⟨3, ![2, 128, 1024]⟩
abbrev S1x128x1024 : Shape := ⟨3, ![1, 128, 1024]⟩
abbrev S1 : Shape := ⟨1, ![1]⟩

abbrev nBuf : Space → Nat
  | .hbm => 6
  | .vmem => 3
  | .smem => 1
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S_, .i32⟩
  | .hbm, ⟨3, _⟩ => ⟨S2x128x1024, .f32⟩
  | .hbm, ⟨4, _⟩ => ⟨S1x128x1024, .f32⟩
  | .hbm, ⟨5, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S1x128x1024, .f32⟩
  | .local _ .smem, ⟨0, _⟩ => ⟨S2, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RecvOutIdeal.lean ====
abbrev S128x1024 : Shape := ⟨2, ![128, 1024]⟩
abbrev S3x128x1024 : Shape := ⟨3, ![3, 128, 1024]⟩
abbrev S_ : Shape := ⟨0, ![]⟩
abbrev S2 : Shape := ⟨1, ![2]⟩
abbrev S2x128x1024 : Shape := ⟨3, ![2, 128, 1024]⟩
abbrev S1x128x1024 : Shape := ⟨3, ![1, 128, 1024]⟩
abbrev S1 : Shape := ⟨1, ![1]⟩

abbrev nBuf : Space → Nat
  | .hbm => 6
  | .vmem => 3
  | .smem => 1
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S_, .i32⟩
  | .hbm, ⟨3, _⟩ => ⟨S2x128x1024, .f32⟩
  | .hbm, ⟨4, _⟩ => ⟨S1x128x1024, .f32⟩
  | .hbm, ⟨5, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S1x128x1024, .f32⟩
  | .local _ .smem, ⟨0, _⟩ => ⟨S2, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RecvOutRefIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S3x128x1024, .f32⟩
  | .hbm, ⟨3, _⟩ => ⟨S_, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RecvFf.lean ====
abbrev S512x1024 : Shape := ⟨2, ![512, 1024]⟩
abbrev S3x512x1024 : Shape := ⟨3, ![3, 512, 1024]⟩
abbrev S_ : Shape := ⟨0, ![]⟩
abbrev S2 : Shape := ⟨1, ![2]⟩
abbrev S2x512x1024 : Shape := ⟨3, ![2, 512, 1024]⟩
abbrev S1x512x1024 : Shape := ⟨3, ![1, 512, 1024]⟩
abbrev S1 : Shape := ⟨1, ![1]⟩

abbrev nBuf : Space → Nat
  | .hbm => 6
  | .vmem => 3
  | .smem => 1
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S_, .i32⟩
  | .hbm, ⟨3, _⟩ => ⟨S2x512x1024, .f32⟩
  | .hbm, ⟨4, _⟩ => ⟨S1x512x1024, .f32⟩
  | .hbm, ⟨5, _⟩ => ⟨S512x1024, .f32⟩
  | .local _ .vmem, ⟨0, _⟩ => ⟨S512x1024, .f32⟩
  | .local _ .vmem, ⟨1, _⟩ => ⟨S3x512x1024, .bf16⟩
  | .local _ .vmem, ⟨2, _⟩ => ⟨S1x512x1024, .f32⟩
  | .local _ .smem, ⟨0, _⟩ => ⟨S2, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RecvFfRefIdeal.lean ====
abbrev S512x1024 : Shape := ⟨2, ![512, 1024]⟩
abbrev S3x512x1024 : Shape := ⟨3, ![3, 512, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S3x512x1024, .f32⟩
  | .hbm, ⟨3, _⟩ => ⟨S_, .f32⟩
  | .hbm, ⟨4, _⟩ => ⟨S512x1024, .f32⟩
  | .hbm, ⟨5, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.ConvMath.lean ====
module

public import Idealize.ShloMosaic.Lib.Pointwise
public import Idealize.ShloMosaic.Lib.Pipeline.Value

/-! The gradient of the gated causal depthwise convolution, one column at a time, as extended reals. -/

@[expose] public section

set_option maxRecDepth 16384

noncomputable section

namespace Cert.ConvMath

open Idealize.ShloMosaic

/-- The logistic function as the programs spell it. -/
def sg (x : EReal) : EReal := Ideal.div 1 (1 + Ideal.exp (-x))

/-- A column of `n` entries read at any natural number, zero past its end. -/
def at0 {n : ℕ} (d : Fin n → EReal) (k : ℕ) : EReal := if h : k < n then d ⟨k, h⟩ else 0

theorem at0_val {n : ℕ} (d : Fin n → EReal) (k : Fin n) : at0 d k.val = d k := dif_pos k.isLt

theorem at0_of_lt {n : ℕ} (d : Fin n → EReal) {k : ℕ} (h : k < n) : at0 d k = d ⟨k, h⟩ := dif_pos h

theorem at0_of_le {n : ℕ} (d : Fin n → EReal) {k : ℕ} (h : n ≤ k) : at0 d k = 0 := dif_neg (by omega)

/-- A column behind `p` zeros. -/
def behind {n : ℕ} (p : ℕ) (d : Fin n → EReal) (k : ℕ) : EReal := if p ≤ k then at0 d (k - p) else 0

/-- The transposed convolution at time `t`. -/
def acc (w : Fin 31 → EReal) (d : Fin 2048 → EReal) (t : ℕ) : EReal :=
  ∑ j ∈ Finset.range 31, at0 w j * at0 d (t + (30 - j))

/-- The gradient of tap `j`. -/
def dw (d z : Fin 2048 → EReal) (j : ℕ) : EReal :=
  ∑ t ∈ Finset.range 2048, at0 d t * behind 32 z (t + (j + 2))

/-- A sum of 2048 terms in eight runs of 256. -/
theorem sum_runs (f : ℕ → EReal) : ∑ t ∈ Finset.range 2048, f t
    = (∑ r : Fin 256, f r.val) + (∑ r : Fin 256, f (r.val + 256)) + (∑ r : Fin 256, f (r.val + 512))
      + (∑ r : Fin 256, f (r.val + 768)) + (∑ r : Fin 256, f (r.val + 1024)) + (∑ r : Fin 256, f (r.val + 1280))
      + (∑ r : Fin 256, f (r.val + 1536)) + (∑ r : Fin 256, f (r.val + 1792)) := by
  have e (k : ℕ) : ∑ r : Fin 256, f (r.val + k) = ∑ r ∈ Finset.range 256, f (k + r) := by
    rw [Finset.sum_range]; exact Finset.sum_congr rfl fun r _ => by rw [add_comm]
  have e0 : ∑ r : Fin 256, f r.val = ∑ r ∈ Finset.range 256, f r := (Finset.sum_range _).symm
  simp only [e, e0]
  have s (n : ℕ) : ∑ t ∈ Finset.range (n + 256), f t = ∑ t ∈ Finset.range n, f t + ∑ r ∈ Finset.range 256, f (n + r) :=
    Finset.sum_range_add f n 256
  rw [show (2048 : ℕ) = 1792 + 256 from rfl, s, show (1792 : ℕ) = 1536 + 256 from rfl, s,
    show (1536 : ℕ) = 1280 + 256 from rfl, s, show (1280 : ℕ) = 1024 + 256 from rfl, s,
    show (1024 : ℕ) = 768 + 256 from rfl, s, show (768 : ℕ) = 512 + 256 from rfl, s,
    show (512 : ℕ) = 256 + 256 from rfl, s]

end Cert.ConvMath

end
-- ==== Proof.ConvKernel.lean ====
module

public import proofs.«01_k».proof.Proof.Gen.KernelIdeal.Value
public import proofs.«01_k».proof.Proof.ConvMath
public import Idealize.ShloMosaic.Lib.Pipeline.ValueKit.Tiles

@[expose] public section

set_option maxRecDepth 16384

noncomputable section

namespace Cert.ConvKernel

open Cert.KernelIdeal Cert.KernelIdeal.Gen Idealize.ShloMosaic Idealize.ShloMosaic.TcCoe Idealize.SL.Sem
open Cert.ConvMath

abbrev col {n : ℕ} (X : (⟨2, ![n, 128]⟩ : Shape).Idx → EReal) (l : Fin 128) (k : Fin n) : EReal := X (ix2 k l)

/-- A run of rows of a block, read at an index. -/
theorem rows_apply {n h : ℕ} {e : EltTy} {sp : Space} (X : (⟨2, ![n, 128]⟩ : Shape).Idx → Elt Ideal e)
    (arg : Memref sig .tc sp ⟨2, ![n, 128]⟩ e) (harg : arg.IsWhole) (o : ℕ) (inb) (r : Fin h) (l : Fin 128) (hr : r.val + o < n) :
    View.readAt (Elt Ideal) arg.view (Rect.unit (s := ⟨2, ![n, 128]⟩) ![o, 0] ![h, 128] inb).toLoadRect (harg.unread X) (ix2 r l)
      = X (ix2 ⟨r.val + o, hr⟩ l) := by
  rw [View.readAt_eq_ld, harg.read_unread]
  refine View.ld_unit_apply_of X _ _ inb _ _ fun a => ?_
  match a with
  | 0 => exact Nat.add_comm _ _
  | 1 => exact (Nat.zero_add _).symm

theorem rowsF {n h : ℕ} {sp : Space} (X : (⟨2, ![n, 128]⟩ : Shape).Idx → Elt Ideal .f32)
    (arg : Memref sig .tc sp ⟨2, ![n, 128]⟩ .f32) (harg : arg.IsWhole) (o : ℕ) (inb) (r : Fin h) (l : Fin 128) :
    View.readAt (Elt Ideal) arg.view (Rect.unit (s := ⟨2, ![n, 128]⟩) ![o, 0] ![h, 128] inb).toLoadRect (harg.unread X) (ix2 r l)
      = at0 (col X l) (r.val + o) := by
  have hr : r.val + o < n := by have := inb 0; have := r.isLt; simp at *; omega
  rw [rows_apply X arg harg o inb r l hr, at0_of_lt _ hr]

theorem rowsB {n h : ℕ} {sp : Space} (X : (⟨2, ![n, 128]⟩ : Shape).Idx → Elt Ideal .bf16)
    (arg : Memref sig .tc sp ⟨2, ![n, 128]⟩ .bf16) (harg : arg.IsWhole) (o : ℕ) (inb) (r : Fin h) (l : Fin 128) :
    View.readAt (Elt Ideal) arg.view (Rect.unit (s := ⟨2, ![n, 128]⟩) ![o, 0] ![h, 128] inb).toLoadRect (harg.unread X) (ix2 r l)
      = at0 (col X l) (r.val + o) := by
  have hr : r.val + o < n := by have := inb 0; have := r.isLt; simp at *; omega
  rw [rows_apply X arg harg o inb r l hr, at0_of_lt _ hr]

theorem zz : (![0, 0] : Fin 2 → ℕ) = fun _ => 0 := by
  funext a
  match a with
  | 0 => rfl
  | 1 => rfl

/-- The gated column. -/
abbrev zcol (x0 x1 : S2048x128.Idx → EReal) (l : Fin 128) (k : Fin 2048) : EReal := x0 (ix2 k l) * sg (x1 (ix2 k l))

section
variable (c : Dev nD) (arg1 : Memref sig .tc .vmem S2048x128 .bf16) (harg1 : arg1.IsWhole) (arg2 : Memref sig .tc .vmem S2048x128 .bf16) (harg2 : arg2.IsWhole)
  (arg4 : Memref sig .tc .vmem S2048x128 .f32) (harg4 : arg4.IsWhole) (x0 x1 : Vec Ideal S2048x128 .bf16) (x3 : Vec Ideal S2048x128 .f32)

theorem canon_z (n : Fin 2080) (l : Fin 128) :
    View.canon (kernelRun0_A.sl.HS0_2 c arg1 harg1 arg2 harg2 x0 x1) (ix2 n l) = behind 32 (zcol x0 x1 l) n.val := by
  unfold kernelRun0_A.sl.HS0_2
  by_cases hn : 32 ≤ n.val
  · have hlt : n.val - 32 < 2048 := by omega
    have hx : (ix2 n l : S2080x128.Idx) = (Rect.unit (s := S2080x128) ![32, 0] S2048x128.size inb_S2080x128_S2048x128_32_0).emb
        (ix2 ⟨n.val - 32, hlt⟩ l : S2048x128.Idx) := by
      funext a
      match a with
      | 0 => exact Fin.ext (show n.val = 32 + 1 * (n.val - 32) by omega)
      | 1 => exact Fin.ext (show l.val = 0 + 1 * l.val by omega)
    rw [hx, View.canon_cons_emb, behind, if_pos hn, at0_of_lt _ hlt]
    unfold_payloads
    pointwise [zcol, sg, View.readAt_eq_ld, Memref.IsWhole.read_unread, View.ld_unit_zero (S := S2048x128) zz]
    rw [zero_sub]
  · have hlt : n.val < 32 := by omega
    rw [View.canon_cons_of_not_mem]
    · have hx : (ix2 n l : S2080x128.Idx) = (Rect.unit (s := S2080x128) ![0, 0] S32x128.size inb_S2080x128_S32x128_0_0).emb
          (ix2 ⟨n.val, hlt⟩ l : S32x128.Idx) := by
        funext a
        match a with
        | 0 => exact Fin.ext (show n.val = 0 + 1 * n.val by omega)
        | 1 => exact Fin.ext (show l.val = 0 + 1 * l.val by omega)
      rw [hx, View.canon_cons_emb, behind, if_neg hn]
      unfold_payloads
      pointwise
    · rw [Rect.mem_set_unit]
      intro h
      exact hn (h 0).1

theorem canon_d (n : Fin 2080) (l : Fin 128) :
    View.canon (kernelRun0_A.sl.HS1_2 c arg4 harg4 x3) (ix2 n l) = at0 (col x3 l) n.val := by
  unfold kernelRun0_A.sl.HS1_2
  by_cases hn : 2048 ≤ n.val
  · have hlt : n.val - 2048 < 32 := by omega
    have hx : (ix2 n l : S2080x128.Idx) = (Rect.unit (s := S2080x128) ![2048, 0] S32x128.size inb_S2080x128_S32x128_2048_0).emb
        (ix2 ⟨n.val - 2048, hlt⟩ l : S32x128.Idx) := by
      funext a
      match a with
      | 0 => exact Fin.ext (show n.val = 2048 + 1 * (n.val - 2048) by omega)
      | 1 => exact Fin.ext (show l.val = 0 + 1 * l.val by omega)
    rw [hx, View.canon_cons_emb, at0_of_le _ hn]
    unfold_payloads
    pointwise
  · have hlt : n.val < 2048 := by omega
    rw [View.canon_cons_of_not_mem]
    · have hx : (ix2 n l : S2080x128.Idx) = (Rect.unit (s := S2080x128) ![0, 0] S2048x128.size inb_S2080x128_S2048x128_0_0).emb
          (ix2 ⟨n.val, hlt⟩ l : S2048x128.Idx) := by
        funext a
        match a with
        | 0 => exact Fin.ext (show n.val = 0 + 1 * n.val by omega)
        | 1 => exact Fin.ext (show l.val = 0 + 1 * l.val by omega)
      rw [hx, View.canon_cons_emb, at0_of_lt _ hlt]
      unfold_payloads
      pointwise [View.readAt_eq_ld, Memref.IsWhole.read_unread, View.ld_unit_zero (S := S2048x128) zz]
    · rw [Rect.mem_set_unit]
      intro h
      exact hn (h 0).1

/-- A run of 256 rows of the padded gated block, read at an index. -/
theorem load_z (arg9 : Memref sig .tc .vmem S2080x128 .f32) (o : ℕ) (inb) (r : Fin 256) (l : Fin 128) :
    arg9.view.readCov (kernelRun0_A.sl.HS0_2 c arg1 harg1 arg2 harg2 x0 x1)
      (Rect.unit (s := S2080x128) ![o, 0] S256x128.size inb).toLoadRect (ix2 r l) = behind 32 (zcol x0 x1 l) (r.val + o) := by
  have hr : r.val + o < 2080 := by have := inb 0; have := r.isLt; simp at *; omega
  rw [View.readCov_eq_canon', ← canon_z c arg1 harg1 arg2 harg2 x0 x1 ⟨r.val + o, hr⟩ l]
  refine congrArg _ (funext fun a => ?_)
  match a with
  | 0 => exact Fin.ext (show o + 1 * r.val = r.val + o by omega)
  | 1 => exact Fin.ext (show 0 + 1 * l.val = l.val by omega)

/-- A run of 256 rows of the cotangent before its zeros, read at an index. -/
theorem load_d (arg10 : Memref sig .tc .vmem S2080x128 .f32) (o : ℕ) (inb) (r : Fin 256) (l : Fin 128) :
    arg10.view.readCov (kernelRun0_A.sl.HS1_2 c arg4 harg4 x3)
      (Rect.unit (s := S2080x128) ![o, 0] S256x128.size inb).toLoadRect (ix2 r l) = at0 (col x3 l) (r.val + o) := by
  have hr : r.val + o < 2080 := by have := inb 0; have := r.isLt; simp at *; omega
  rw [View.readCov_eq_canon', ← canon_d c arg4 harg4 x3 ⟨r.val + o, hr⟩ l]
  refine congrArg _ (funext fun a => ?_)
  match a with
  | 0 => exact Fin.ext (show o + 1 * r.val = r.val + o by omega)
  | 1 => exact Fin.ext (show 0 + 1 * l.val = l.val by omega)
end

section
variable (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S31x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole)
    (x0 x1 : Vec Ideal S2048x128 .bf16) (x2 : Vec Ideal S31x128 .f32) (x3 : Vec Ideal S2048x128 .f32)

theorem out7 : out0_A_7 c i arg1 harg1 arg2 harg2 arg3 harg3 arg4 harg4 arg5 harg5 arg6 harg6 arg7 harg7 arg8 harg8 arg9 harg9 arg10 harg10 x0 x1 x2 x3
    = fun y => ∑ t : Fin 2048, x3 (ix2 t (y 1)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3)]
  unfold kernelRun0_A; dsimp only
  sl_unfold_words
  rw [View.canon_unit_zero (S := S1x128) zz]
  funext y
  unfold_payloads
  pointwise [View.readAt_eq_ld, Memref.IsWhole.read_unread, View.ld_unit_zero (S := S2048x128) zz]

/-- One run of one tap: 256 rows of the cotangent against the rows of the padded block `j + 2` further, summed down. -/
def runOf (j o : ℕ) (ho : o + 256 ≤ 2048) (t : FVec Ideal S1x128 .f32) : FVec Ideal S1x128 .f32 :=
  addf t (shapeCast S1x128 (multiReduction .add [0] S128
    (mulf (View.readAt (Elt Ideal) arg4.view (Rect.unit (s := S2048x128) ![o, 0] S256x128.size
        (fun a => match a with | 0 => ho | 1 => Nat.le_refl 128)).toLoadRect (harg4.unread x3))
      (arg9.view.readCov (kernelRun0_A.sl.HS0_2 c arg1 harg1 arg2 harg2 x0 x1) (Rect.unit (s := S2080x128) ![o + ((30 - (30 - j)) + 2), 0] S256x128.size
        (fun a => match a with | 0 => (show o + ((30 - (30 - j)) + 2) + 256 ≤ 2080 by omega) | 1 => Nat.le_refl 128)).toLoadRect))
    0x00000000#32 reduces_S256x128_S128 (.inl rfl) rfl) shapeCasts_S128_S1x128)

theorem runOf_apply (j o : ℕ) (hj : j ≤ 30) (ho : o + 256 ≤ 2048) (t : FVec Ideal S1x128 .f32) (l : Fin 128) :
    runOf c arg1 harg1 arg2 harg2 arg4 harg4 arg9 x0 x1 x3 j o ho t (ix2 0 l)
      = t (ix2 0 l) + ∑ r : Fin 256, at0 (col x3 l) (r.val + o) * behind 32 (zcol x0 x1 l) (r.val + o + (j + 2)) := by
  unfold runOf
  pointwise [rowsF]
  refine congrArg _ (Finset.sum_congr rfl fun r _ => congrArg _ ?_)
  refine (load_z c arg1 harg1 arg2 harg2 x0 x1 arg9 _ _ r l).trans (congrArg _ ?_)
  omega

/-- One tap over all the rows. -/
def tapOf (j : ℕ) : FVec Ideal S1x128 .f32 :=
  runOf c arg1 harg1 arg2 harg2 arg4 harg4 arg9 x0 x1 x3 j 1792 (by omega)
  (runOf c arg1 harg1 arg2 harg2 arg4 harg4 arg9 x0 x1 x3 j 1536 (by omega)
  (runOf c arg1 harg1 arg2 harg2 arg4 harg4 arg9 x0 x1 x3 j 1280 (by omega)
  (runOf c arg1 harg1 arg2 harg2 arg4 harg4 arg9 x0 x1 x3 j 1024 (by omega)
  (runOf c arg1 harg1 arg2 harg2 arg4 harg4 arg9 x0 x1 x3 j 768 (by omega)
  (runOf c arg1 harg1 arg2 harg2 arg4 harg4 arg9 x0 x1 x3 j 512 (by omega)
  (runOf c arg1 harg1 arg2 harg2 arg4 harg4 arg9 x0 x1 x3 j 256 (by omega)
  (runOf c arg1 harg1 arg2 harg2 arg4 harg4 arg9 x0 x1 x3 j 0 (by omega)
    (broadcast S1x128 (Scalar.ofBits (F := Ideal) .f32 0x00000000#32)))))))))

theorem tapOf_apply (j : ℕ) (hj : j ≤ 30) (x : S1x128.Idx) :
    tapOf c arg1 harg1 arg2 harg2 arg4 harg4 arg9 x0 x1 x3 j x = dw (col x3 (x 1)) (zcol x0 x1 (x 1)) j := by
  obtain ⟨l, rfl⟩ : ∃ l : Fin 128, x = (ix2 (0 : Fin 1) l : S1x128.Idx) :=
    ⟨x 1, (eq_ix2 (n0 := 1) (n1 := 128) x).trans (congrArg (ix2 · _) (Subsingleton.elim _ _))⟩
  unfold tapOf dw
  simp only [runOf_apply _ _ _ _ _ _ _ _ _ _ _ _ _ hj]
  rw [sum_runs]
  pointwise

theorem out6 : out0_A_6 c i arg1 harg1 arg2 harg2 arg3 harg3 arg4 harg4 arg5 harg5 arg6 harg6 arg7 harg7 arg8 harg8 arg9 harg9 arg10 harg10 x0 x1 x2 x3
    = fun y => dw (col x3 (y 1)) (zcol x0 x1 (y 1)) (y 0).val := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3)]
  funext y
  refine View.canon_apply_of_pieces (fun y : S31x128.Idx => dw (col x3 (y 1)) (zcol x0 x1 (y 1)) (y 0).val) _ ?_ y (cover0_A_6 c i arg1 harg1 arg2 harg2 arg3 harg3 arg4 harg4 arg5 harg5 arg6 harg6 arg7 harg7 arg8 harg8 arg9 harg9 arg10 harg10 x0 x1 x2 x3 y)
  unfold kernelRun0_A; dsimp only
  have key (j : ℕ) (hj : j ≤ 30) (inb) (v : S1x128.Idx → EReal)
      (hv : v = tapOf c arg1 harg1 arg2 harg2 arg4 harg4 arg9 x0 x1 x3 j) (x : S1x128.Idx) :
      v x = dw (col x3 ((Rect.unit (s := S31x128) ![j, 0] ![1, 128] inb).emb x 1)) (zcol x0 x1 ((Rect.unit (s := S31x128) ![j, 0] ![1, 128] inb).emb x 1))
        ((Rect.unit (s := S31x128) ![j, 0] ![1, 128] inb).emb x 0).val := by
    have h1 : (Rect.unit (s := S31x128) ![j, 0] ![1, 128] inb).emb x 1 = x 1 :=
      Fin.ext (show 0 + 1 * (x 1).val = (x 1).val by omega)
    have h0 : ((Rect.unit (s := S31x128) ![j, 0] ![1, 128] inb).emb x 0).val = j :=
      (show j + 1 * (x 0).val = j by have : (x 0).val < 1 := (x 0).isLt; omega)
    rw [hv, h1, h0]
    exact tapOf_apply c arg1 harg1 arg2 harg2 arg4 harg4 arg9 x0 x1 x3 j hj x
  simp only [List.forall_mem_cons]
  exact ⟨key 30 (by omega) _ _ rfl, key 29 (by omega) _ _ rfl, key 28 (by omega) _ _ rfl, key 27 (by omega) _ _ rfl, key 26 (by omega) _ _ rfl, key 25 (by omega) _ _ rfl, key 24 (by omega) _ _ rfl, key 23 (by omega) _ _ rfl, key 22 (by omega) _ _ rfl, key 21 (by omega) _ _ rfl, key 20 (by omega) _ _ rfl, key 19 (by omega) _ _ rfl, key 18 (by omega) _ _ rfl, key 17 (by omega) _ _ rfl, key 16 (by omega) _ _ rfl, key 15 (by omega) _ _ rfl, key 14 (by omega) _ _ rfl, key 13 (by omega) _ _ rfl, key 12 (by omega) _ _ rfl, key 11 (by omega) _ _ rfl, key 10 (by omega) _ _ rfl, key 9 (by omega) _ _ rfl, key 8 (by omega) _ _ rfl, key 7 (by omega) _ _ rfl, key 6 (by omega) _ _ rfl, key 5 (by omega) _ _ rfl, key 4 (by omega) _ _ rfl, key 3 (by omega) _ _ rfl, key 2 (by omega) _ _ rfl, key 1 (by omega) _ _ rfl, key 0 (by omega) _ _ rfl, by simp⟩

/-- The term of tap `j` in a run of 256 rows from row `o`. -/
def termOf (o : ℕ) (ho : o + 256 ≤ 2048) (j : ℕ) : FVec Ideal S256x128 .f32 :=
  mulf (broadcastTo S256x128 (View.readAt (Elt Ideal) arg3.view (Rect.unit (s := S31x128) ![30 - (30 - j), 0] S1x128.size
      (fun a => match a with | 0 => (show 30 - (30 - j) + 1 ≤ 31 by omega) | 1 => Nat.le_refl 128)).toLoadRect (harg3.unread x2)) broadcasts_S1x128_S256x128)
    (arg10.view.readCov (kernelRun0_A.sl.HS1_2 c arg4 harg4 x3) (Rect.unit (s := S2080x128) ![o + (30 - j), 0] S256x128.size
      (fun a => match a with | 0 => (show o + (30 - j) + 256 ≤ 2080 by omega) | 1 => Nat.le_refl 128)).toLoadRect)

theorem termOf_apply (o : ℕ) (ho : o + 256 ≤ 2048) (j : ℕ) (hj : j ≤ 30) (r : Fin 256) (l : Fin 128) :
    termOf c arg3 harg3 arg4 harg4 arg10 x2 x3 o ho j (ix2 r l) = at0 (col x2 l) j * at0 (col x3 l) (r.val + o + (30 - j)) := by
  unfold termOf
  pointwise [rowsF]
  refine congrArg₂ _ (congrArg _ (by omega)) ?_
  refine (load_d c arg4 harg4 x3 arg10 _ _ r l).trans (congrArg _ ?_)
  omega

/-- The first `n` terms, added in order. -/
def accOf (o : ℕ) (ho : o + 256 ≤ 2048) : ℕ → FVec Ideal S256x128 .f32
  | 0 => broadcast S256x128 (Scalar.ofBits (F := Ideal) .f32 0x00000000#32)
  | n + 1 => addf (accOf o ho n) (termOf c arg3 harg3 arg4 harg4 arg10 x2 x3 o ho n)

theorem accOf_apply (o : ℕ) (ho : o + 256 ≤ 2048) (r : Fin 256) (l : Fin 128) (n : ℕ) (hn : n ≤ 31) :
    accOf c arg3 harg3 arg4 harg4 arg10 x2 x3 o ho n (ix2 r l)
      = ∑ j ∈ Finset.range n, at0 (col x2 l) j * at0 (col x3 l) (r.val + o + (30 - j)) := by
  induction n with
  | zero => unfold accOf; pointwise; simp
  | succ n ih =>
    unfold accOf
    rw [Finset.sum_range_succ, ← ih (by omega), ← termOf_apply c arg3 harg3 arg4 harg4 arg10 x2 x3 o ho n (by omega)]
    rfl

/-- The logistic of a run of rows of the gate. -/
def sigOf (o : ℕ) (ho : o + 256 ≤ 2048) : FVec Ideal S256x128 .f32 :=
  divf (broadcast S256x128 (Scalar.ofBits (F := Ideal) .f32 0x3F800000#32))
    (addf (broadcast S256x128 (Scalar.ofBits (F := Ideal) .f32 0x3F800000#32))
      (exp (subf (broadcast S256x128 (Scalar.ofBits (F := Ideal) .f32 0x00000000#32))
        (extf .f32 (View.readAt (Elt Ideal) arg2.view (Rect.unit (s := S2048x128) ![o, 0] S256x128.size
        (fun a => match a with | 0 => ho | 1 => Nat.le_refl 128)).toLoadRect (harg2.unread x1)) bitsLt_bf16_f32))))

/-- What is stored of the first gradient from row `o`. -/
def daOf (o : ℕ) (ho : o + 256 ≤ 2048) : FVec Ideal S256x128 .bf16 :=
  truncf .bf16 (mulf (accOf c arg3 harg3 arg4 harg4 arg10 x2 x3 o ho 31) (sigOf arg2 harg2 x1 o ho)) bitsLt_bf16_f32

/-- What is stored of the second gradient from row `o`. -/
def dgOf (o : ℕ) (ho : o + 256 ≤ 2048) : FVec Ideal S256x128 .bf16 :=
  truncf .bf16 (mulf (mulf (mulf (accOf c arg3 harg3 arg4 harg4 arg10 x2 x3 o ho 31)
      (extf .f32 (View.readAt (Elt Ideal) arg1.view (Rect.unit (s := S2048x128) ![o, 0] S256x128.size
        (fun a => match a with | 0 => ho | 1 => Nat.le_refl 128)).toLoadRect (harg1.unread x0)) bitsLt_bf16_f32))
      (sigOf arg2 harg2 x1 o ho))
    (subf (broadcast S256x128 (Scalar.ofBits (F := Ideal) .f32 0x3F800000#32)) (sigOf arg2 harg2 x1 o ho))) bitsLt_bf16_f32

theorem sigOf_apply (o : ℕ) (ho : o + 256 ≤ 2048) (r : Fin 256) (l : Fin 128) (h : r.val + o < 2048) :
    sigOf arg2 harg2 x1 o ho (ix2 r l) = sg (x1 (ix2 ⟨r.val + o, h⟩ l)) := by
  unfold sigOf sg
  pointwise [rowsB, at0_of_lt _ h]
  rw [zero_sub]

theorem daOf_apply (o : ℕ) (ho : o + 256 ≤ 2048) (r : Fin 256) (l : Fin 128) (h : r.val + o < 2048) :
    daOf c arg2 harg2 arg3 harg3 arg4 harg4 arg10 x1 x2 x3 o ho (ix2 r l)
      = acc (col x2 l) (col x3 l) (r.val + o) * sg (x1 (ix2 ⟨r.val + o, h⟩ l)) := by
  unfold daOf acc
  rw [← accOf_apply c arg3 harg3 arg4 harg4 arg10 x2 x3 o ho r l 31 le_rfl, ← sigOf_apply arg2 harg2 x1 o ho r l h]
  rfl

theorem dgOf_apply (o : ℕ) (ho : o + 256 ≤ 2048) (r : Fin 256) (l : Fin 128) (h : r.val + o < 2048) :
    dgOf c arg1 harg1 arg2 harg2 arg3 harg3 arg4 harg4 arg10 x0 x1 x2 x3 o ho (ix2 r l)
      = acc (col x2 l) (col x3 l) (r.val + o) * x0 (ix2 ⟨r.val + o, h⟩ l) * sg (x1 (ix2 ⟨r.val + o, h⟩ l))
        * (1 - sg (x1 (ix2 ⟨r.val + o, h⟩ l))) := by
  unfold dgOf acc
  rw [← accOf_apply c arg3 harg3 arg4 harg4 arg10 x2 x3 o ho r l 31 le_rfl, ← sigOf_apply arg2 harg2 x1 o ho r l h]
  pointwise [rowsB, at0_of_lt _ h]

theorem emb_rows (o : ℕ) (inb) (r : Fin 256) (l : Fin 128) (h : r.val + o < 2048) :
    (Rect.unit (s := S2048x128) ![o, 0] ![256, 128] inb).emb (ix2 r l : S256x128.Idx) = (ix2 ⟨r.val + o, h⟩ l : S2048x128.Idx) := by
  funext a
  match a with
  | 0 => exact Fin.ext (show o + 1 * r.val = r.val + o by omega)
  | 1 => exact Fin.ext (show 0 + 1 * l.val = l.val by omega)

theorem out4 : out0_A_4 c i arg1 harg1 arg2 harg2 arg3 harg3 arg4 harg4 arg5 harg5 arg6 harg6 arg7 harg7 arg8 harg8 arg9 harg9 arg10 harg10 x0 x1 x2 x3
    = fun y => acc (col x2 (y 1)) (col x3 (y 1)) (y 0).val * sg (x1 y) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 x0 x1 x2 x3)]
  funext y
  refine View.canon_apply_of_pieces (fun y : S2048x128.Idx => acc (col x2 (y 1)) (col x3 (y 1)) (y 0).val * sg (x1 y)) _ ?_ y (cover0_A_4 c i arg1 harg1 arg2 harg2 arg3 harg3 arg4 harg4 arg5 harg5 arg6 harg6 arg7 harg7 arg8 harg8 arg9 harg9 arg10 harg10 x0 x1 x2 x3 y)
  unfold kernelRun0_A; dsimp only
  have key (o : ℕ) (ho : o + 256 ≤ 2048) (inb) (v : S256x128.Idx → EReal)
      (hv : v = daOf c arg2 harg2 arg3 harg3 arg4 harg4 arg10 x1 x2 x3 o ho) (x : S256x128.Idx) :
      v x = acc (col x2 ((Rect.unit (s := S2048x128) ![o, 0] ![256, 128] inb).emb x 1)) (col x3 ((Rect.unit (s := S2048x128) ![o, 0] ![256, 128] inb).emb x 1))
        ((Rect.unit (s := S2048x128) ![o, 0] ![256, 128] inb).emb x 0).val * sg (x1 ((Rect.unit (s := S2048x128) ![o, 0] ![256, 128] inb).emb x)) := by
    obtain ⟨r, l, rfl⟩ : ∃ (r : Fin 256) (l : Fin 128), x = (ix2 r l : S256x128.Idx) := ⟨x 0, x 1, eq_ix2 _⟩
    have h : r.val + o < 2048 := by have := r.isLt; omega
    rw [hv, emb_rows o inb r l h]
    exact daOf_apply c arg2 harg2 arg3 harg3 arg4 harg4 arg10 x1 x2 x3 o ho r l h
  simp only [List.forall_mem_cons]
  exact ⟨key 1792 (by omega) _ _ rfl, key 1536 (by omega) _ _ rfl, key 1280 (by omega) _ _ rfl, key 1024 (by omega) _ _ rfl, key 768 (by omega) _ _ rfl, key 512 (by omega) _ _ rfl, key 256 (by omega) _ _ rfl, key 0 (by omega) _ _ rfl, by simp⟩

theorem out5 : out0_A_5 c i arg1 harg1 arg2 harg2 arg3 harg3 arg4 harg4 arg5 harg5 arg6 harg6 arg7 harg7 arg8 harg8 arg9 harg9 arg10 harg10 x0 x1 x2 x3
    = fun y => acc (col x2 (y 1)) (col x3 (y 1)) (y 0).val * x0 y * sg (x1 y) * (1 - sg (x1 y)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3)]
  funext y
  refine View.canon_apply_of_pieces (fun y : S2048x128.Idx => acc (col x2 (y 1)) (col x3 (y 1)) (y 0).val * x0 y * sg (x1 y) * (1 - sg (x1 y))) _ ?_ y (cover0_A_5 c i arg1 harg1 arg2 harg2 arg3 harg3 arg4 harg4 arg5 harg5 arg6 harg6 arg7 harg7 arg8 harg8 arg9 harg9 arg10 harg10 x0 x1 x2 x3 y)
  unfold kernelRun0_A; dsimp only
  have key (o : ℕ) (ho : o + 256 ≤ 2048) (inb) (v : S256x128.Idx → EReal)
      (hv : v = dgOf c arg1 harg1 arg2 harg2 arg3 harg3 arg4 harg4 arg10 x0 x1 x2 x3 o ho) (x : S256x128.Idx) :
      v x = acc (col x2 ((Rect.unit (s := S2048x128) ![o, 0] ![256, 128] inb).emb x 1)) (col x3 ((Rect.unit (s := S2048x128) ![o, 0] ![256, 128] inb).emb x 1))
        ((Rect.unit (s := S2048x128) ![o, 0] ![256, 128] inb).emb x 0).val * x0 ((Rect.unit (s := S2048x128) ![o, 0] ![256, 128] inb).emb x)
        * sg (x1 ((Rect.unit (s := S2048x128) ![o, 0] ![256, 128] inb).emb x)) * (1 - sg (x1 ((Rect.unit (s := S2048x128) ![o, 0] ![256, 128] inb).emb x))) := by
    obtain ⟨r, l, rfl⟩ : ∃ (r : Fin 256) (l : Fin 128), x = (ix2 r l : S256x128.Idx) := ⟨x 0, x 1, eq_ix2 _⟩
    have h : r.val + o < 2048 := by have := r.isLt; omega
    rw [hv, emb_rows o inb r l h]
    exact dgOf_apply c arg1 harg1 arg2 harg2 arg3 harg3 arg4 harg4 arg10 x0 x1 x2 x3 o ho r l h
  simp only [List.forall_mem_cons]
  exact ⟨key 1792 (by omega) _ _ rfl, key 1536 (by omega) _ _ rfl, key 1280 (by omega) _ _ rfl, key 1024 (by omega) _ _ rfl, key 768 (by omega) _ _ rfl, key 512 (by omega) _ _ rfl, key 256 (by omega) _ _ rfl, key 0 (by omega) _ _ rfl, by simp⟩
end

end Cert.ConvKernel

end
-- ==== Proof.ConvReference.lean ====
module

public import proofs.«01_k».proof.Proof.Gen.ReferenceIdeal.Read
public import proofs.«01_k».proof.Proof.ConvMath

/-! What the reference of the convolution's gradient computes, one column at a time. -/

@[expose] public section

set_option maxRecDepth 16384

noncomputable section

namespace Cert.ConvReference

open Cert.ReferenceIdeal Cert.ReferenceIdeal.Gen Cert.ReferenceIdeal.Read Idealize.ShloMosaic Idealize.ShloMosaic.TcCoe Idealize.SL.Sem
open Cert.ConvMath

/-- Column `c` of an array of 512 columns. -/
abbrev col {n : ℕ} (X : (⟨2, ![n, 512]⟩ : Shape).Idx → EReal) (c : Fin 512) (k : Fin n) : EReal := X (ix2 k c)

/-- The columns of the value and of the gate of a GLU. -/
abbrev colA (x : S2048x7680.Idx → EReal) (c : Fin 512) (k : Fin 2048) : EReal := x (ix2 k (⟨c.val, by omega⟩ : Fin 7680))
abbrev colG (x : S2048x7680.Idx → EReal) (c : Fin 512) (k : Fin 2048) : EReal := x (ix2 k (⟨c.val + 512, by omega⟩ : Fin 7680))

/-- A column of the GLU. -/
abbrev colZ (x : S2048x7680.Idx → EReal) (c : Fin 512) (k : Fin 2048) : EReal := colA x c k * sg (colG x c k)

/-- A block of rows between rows of a constant, read at an index. -/
theorem pad_rows {n m : ℕ} {u : Shape} (x : (⟨2, ![n, 512]⟩ : Shape).Idx → EReal) (v : u.Idx → EReal) (lo hi : ℕ)
    (h : (⟨2, ![n, 512]⟩ : Shape).Pads ![lo, 0] ![hi, 0] ![0, 0] ⟨2, ![m, 512]⟩) (hu : 0 < u.numel) (hv : v (Shape.Idx.first hu) = 0)
    (r : Fin m) (c : Fin 512) :
    pad ⟨2, ![m, 512]⟩ ![lo, 0] ![hi, 0] ![0, 0] x v h hu (ix2 r c) = behind lo (col x c) r.val := by
  unfold pad behind
  by_cases h1 : lo ≤ r.val
  · rw [if_pos h1]
    by_cases h2 : r.val - lo < n
    · rw [at0_of_lt _ h2, dif_pos]
      · refine congrArg x (funext fun a => ?_)
        match a with
        | 0 => exact Fin.ext (show (r.val - lo) / (0 + 1) = r.val - lo by omega)
        | 1 => exact Fin.ext (show (c.val - 0) / (0 + 1) = c.val by omega)
      · intro a
        match a with
        | 0 => exact ⟨h1, Nat.mod_one _, (show (r.val - lo) / (0 + 1) < n by omega)⟩
        | 1 => exact ⟨Nat.zero_le _, Nat.mod_one _, (show (c.val - 0) / (0 + 1) < 512 by have := c.isLt; omega)⟩
    · rw [at0_of_le _ (Nat.le_of_not_lt h2), dif_neg, hv]
      exact fun H => h2 (by have := (H 0).2.2; have e : (r.val - lo) / (0 + 1) < n := this; omega)
  · rw [if_neg h1, dif_neg, hv]
    exact fun H => h1 (H 0).1

theorem pads_rows (n m j hi : ℕ) (h : m = j + n + hi) : (⟨2, ![n, 512]⟩ : Shape).Pads ![j, 0] ![hi, 0] ![0, 0] ⟨2, ![m, 512]⟩ :=
  ⟨rfl, fun a => match a with
    | 0 => (show m = j + n + 0 * (n - 1) + hi by omega)
    | 1 => (show 512 = 0 + 512 + 0 * (512 - 1) + 0 by omega)⟩

theorem slices_rows (n m j : ℕ) (h : j + n ≤ m) : (⟨2, ![m, 512]⟩ : Shape).Slices ![j, 0] ⟨2, ![n, 512]⟩ := by
  refine ⟨rfl, fun a => ?_⟩
  match a with
  | 0 => exact h
  | 1 => exact (show 0 + 512 ≤ 512 by omega)

/-- A zero of the host. -/
abbrev hostZero : S_.Idx → Elt Ideal .f32 := constant (F := Ideal) S_ .f32 0x00000000#32

variable (x0 : S2048x7680.Idx → Elt Ideal .bf16) (x1 : S31x512.Idx → Elt Ideal .f32) (x2 : S2048x512.Idx → Elt Ideal .f32)

/-- Tap `j`'s gradient as a row of its own among zeros. -/
def tapPart (j : ℕ) (hj : j ≤ 30) : S31x512.Idx → Elt Ideal .f32 :=
  pad S31x512 ![j, 0] ![30 - j, 0] ![0, 0]
    (shapeCast S1x512 (Host.reduceAdd (F := Ideal) (φ := .f32) (mulf (extractStridedSlice S2048x512 ![j, 0] (val_main_v15 (F := Ideal) x0) (slices_rows 2048 2078 j (by omega)))
      (val_main_v175 (F := Ideal) x2)) hostZero reducesTo_S2048x512_S512_d0 h_S_) shapeCasts_S512_S1x512)
    hostZero (pads_rows 1 31 j _ (by omega)) h_S_

/-- The first `n + 1` taps' gradients, from the last tap on. -/
def tapSum : (n : ℕ) → n ≤ 30 → S31x512.Idx → Elt Ideal .f32
  | 0, _ => tapPart x0 x2 30 le_rfl
  | n + 1, h => addf (F := Ideal) (φ := .f32) (tapSum n (by omega)) (tapPart x0 x2 (30 - (n + 1)) (by omega))

/-- What tap `j` passes back to its shifted rows. -/
def rowPart (j : ℕ) (hj : j ≤ 30) : S2078x512.Idx → Elt Ideal .f32 :=
  pad S2078x512 ![j, 0] ![30 - j, 0] ![0, 0]
    (mulf (F := Ideal) (φ := .f32) (val_main_v175 (F := Ideal) x2) (broadcastInDim S2048x512 ![0, 1] bcast_S1x512_S2048x512_0_1
      (extractStridedSlice S1x512 ![j, 0] x1 (slices_rows 1 31 j (by omega)))))
    hostZero (pads_rows 2048 2078 j _ (by omega)) h_S_

/-- What the first `n + 1` taps, from the last on, pass back. -/
def rowSum : (n : ℕ) → n ≤ 30 → S2078x512.Idx → Elt Ideal .f32
  | 0, _ => rowPart x1 x2 30 le_rfl
  | n + 1, h => addf (F := Ideal) (φ := .f32) (rowSum n (by omega)) (rowPart x1 x2 (30 - (n + 1)) (by omega))

theorem v452_eq : val_main_v452 (F := Ideal) x0 x2 = tapSum x0 x2 30 le_rfl := rfl

theorem v454_eq : val_main_v454 (F := Ideal) x1 x2 = rowSum x1 x2 30 le_rfl := rfl

theorem v175_eq : val_main_v175 (F := Ideal) x2 = x2 := by
  funext i
  rw [val_main_v175_apply]
  refine congrArg x2 (funext fun a => ?_)
  match a with
  | 0 => exact Fin.ext (by have := (i 0).isLt; have := (i 1).isLt; simp at *; omega)
  | 1 => exact Fin.ext (by have := (i 0).isLt; have := (i 1).isLt; simp at *; omega)

theorem v9_apply (t : Fin 2048) (c : Fin 512) : val_main_v9 (F := Ideal) x0 (ix2 t c) = sg (colG x0 c t) := by
  unfold val_main_v9 val_main_v8 val_main_cst_1 val_main_v7 val_main_v6 val_main_cst_0 val_main_v5 val_main_v4 val_main_v3 val_main_v0 sg colG
  pointwise
  simp only [Nat.add_comm 512]

theorem v13_apply (t : Fin 2048) (c : Fin 512) : val_main_v13 (F := Ideal) x0 (ix2 t c) = colZ x0 c t := by
  rw [val_main_v13_apply, v9_apply]
  unfold val_main_v2 val_main_v0
  pointwise

theorem v15_apply (n : Fin 2078) (c : Fin 512) : val_main_v15 (F := Ideal) x0 (ix2 n c) = behind 30 (colZ x0 c) n.val := by
  unfold val_main_v15 behind
  by_cases h : 30 ≤ n.val
  · have h2 : n.val - 30 < 2048 := by have := n.isLt; omega
    rw [if_pos h, at0_of_lt _ h2, ← v13_apply]
    refine concatenate_pair_apply_right (t := S2078x512) (s₁ := S30x512) (s₂ := S2048x512) (0 : Fin 2) _ _ _ _ rfl rfl
      (ix2 (⟨n.val - 30, h2⟩ : Fin 2048) c) (fun b hb => ?_) (show n.val - 30 + 30 = n.val by omega)
    match b with
    | 0 => exact absurd rfl hb
    | 1 => rfl
  · rw [if_neg h]
    refine (concatenate_pair_apply_left (t := S2078x512) (s₁ := S30x512) (s₂ := S2048x512) (0 : Fin 2) _ _ _ _ rfl
      (ix2 (⟨n.val, by omega⟩ : Fin 30) c) (fun b => ?_)).trans ?_
    · match b with
      | 0 => rfl
      | 1 => rfl
    · unfold val_main_v14 val_main_cst_3
      pointwise

theorem hostZero_first : hostZero (Shape.Idx.first h_S_) = 0 := by
  show Ideal.ofBits .f32 0x00000000#32 = 0
  pointwise

theorem behind_eq (z : Fin 2048 → EReal) (n : ℕ) : behind 30 z n = behind 32 z (n + 2) := by
  unfold behind
  rw [show n + 2 - 32 = n - 30 by omega]
  exact if_congr (by omega) rfl rfl

theorem tapPart_apply (j : ℕ) (hj : j ≤ 30) (r : Fin 31) (c : Fin 512) :
    tapPart x0 x2 j hj (ix2 r c) = if j = r.val then dw (col x2 c) (colZ x0 c) j else 0 := by
  unfold tapPart
  rw [pad_rows _ _ _ _ _ _ hostZero_first]
  unfold behind
  by_cases h : j = r.val
  · subst h
    rw [if_pos le_rfl, if_pos rfl, Nat.sub_self, at0_of_lt _ Nat.one_pos, v175_eq]
    unfold col
    pointwise [v15_apply]
    unfold dw
    rw [Finset.sum_range]
    refine Finset.sum_congr rfl fun t _ => ?_
    rw [at0_val, mul_comm, behind_eq]
    refine congrArg _ (congrArg _ ?_)
    omega
  · rw [if_neg h]
    by_cases h1 : j ≤ r.val
    · rw [if_pos h1, at0_of_le _ (by omega)]
    · rw [if_neg h1]

theorem tapSum_apply (n : ℕ) (hn : n ≤ 30) (r : Fin 31) (c : Fin 512) :
    tapSum x0 x2 n hn (ix2 r c) = ∑ k ∈ Finset.range (n + 1), if 30 - k = r.val then dw (col x2 c) (colZ x0 c) (30 - k) else 0 := by
  induction n with
  | zero =>
    unfold tapSum
    rw [tapPart_apply, Finset.sum_range_one]
  | succ n ih =>
    unfold tapSum
    rw [Finset.sum_range_succ, ← ih (by omega), ← tapPart_apply x0 x2 (30 - (n + 1)) (by omega)]
    rfl

theorem v452_apply (r : Fin 31) (c : Fin 512) : val_main_v452 (F := Ideal) x0 x2 (ix2 r c) = dw (col x2 c) (colZ x0 c) r.val := by
  have hr := r.isLt
  rw [v452_eq, tapSum_apply, Finset.sum_eq_single (30 - r.val)]
  · rw [show 30 - (30 - r.val) = r.val by omega, if_pos rfl]
  · intro k hk hne
    rw [Finset.mem_range] at hk
    exact if_neg (by omega)
  · intro h
    exact absurd (Finset.mem_range.2 (by omega)) h

theorem behind_mul (p : ℕ) (d : Fin 2048 → EReal) (w : EReal) (n : ℕ) : behind p (fun t => d t * w) n = behind p d n * w := by
  unfold behind at0
  split
  · split
    · rfl
    · rw [zero_mul]
  · rw [zero_mul]

theorem rowPart_apply (j : ℕ) (hj : j ≤ 30) (n : Fin 2078) (c : Fin 512) :
    rowPart x1 x2 j hj (ix2 n c) = behind j (col x2 c) n.val * at0 (col x1 c) j := by
  unfold rowPart
  rw [pad_rows _ _ _ _ _ _ hostZero_first, v175_eq, ← behind_mul]
  refine congrArg (fun f => behind j f n.val) (funext fun t => ?_)
  unfold col
  pointwise
  rw [at0_of_lt _ (show j < 31 by omega)]

theorem rowSum_apply (n : ℕ) (hn : n ≤ 30) (r : Fin 2078) (c : Fin 512) :
    rowSum x1 x2 n hn (ix2 r c) = ∑ k ∈ Finset.range (n + 1), behind (30 - k) (col x2 c) r.val * at0 (col x1 c) (30 - k) := by
  induction n with
  | zero =>
    unfold rowSum
    rw [rowPart_apply, Finset.sum_range_one]
  | succ n ih =>
    unfold rowSum
    rw [Finset.sum_range_succ, ← ih (by omega), ← rowPart_apply x1 x2 (30 - (n + 1)) (by omega)]
    rfl

theorem v456_apply (t : Fin 2048) (c : Fin 512) : val_main_v456 (F := Ideal) x1 x2 (ix2 t c) = acc (col x1 c) (col x2 c) t.val := by
  have ht := t.isLt
  have e : val_main_v456 (F := Ideal) x1 x2 (ix2 t c) = val_main_v454 (F := Ideal) x1 x2 (ix2 (⟨t.val + 30, by omega⟩ : Fin 2078) c) := by
    unfold val_main_v456
    pointwise
    simp only [Nat.add_comm 30]
  rw [e, v454_eq, rowSum_apply]
  unfold acc
  rw [← Finset.sum_range_reflect (fun j => at0 (col x1 c) j * at0 (col x2 c) (t.val + (30 - j)))]
  refine Finset.sum_congr rfl fun k hk => ?_
  rw [Finset.mem_range] at hk
  rw [mul_comm, show 31 - 1 - k = 30 - k by omega]
  unfold behind
  rw [if_pos (show 30 - k ≤ t.val + 30 by omega)]
  refine congrArg _ (congrArg _ ?_)
  show t.val + 30 - (30 - k) = t.val + (30 - (30 - k))
  omega

theorem v460_apply (t : Fin 2048) (c : Fin 512) :
    val_main_v460 (F := Ideal) x0 x1 x2 (ix2 t c) = acc (col x1 c) (col x2 c) t.val * sg (colG x0 c t) := by
  unfold val_main_v460 val_main_v458
  pointwise [v456_apply, v9_apply]

theorem v461_apply (t : Fin 2048) (c : Fin 512) :
    val_main_v461 (F := Ideal) x0 x1 x2 (ix2 t c)
      = acc (col x1 c) (col x2 c) t.val * colA x0 c t * sg (colG x0 c t) * (1 - sg (colG x0 c t)) := by
  unfold val_main_v461 val_main_v459 val_main_v457 val_main_v12 val_main_v11 val_main_v10 val_main_cst_2 val_main_v2 val_main_v0
  pointwise [v456_apply, v9_apply]
  rw [mul_comm (acc _ _ _), mul_assoc (colA x0 c t * _)]

theorem v177_apply (r : Fin 1) (c : Fin 512) : val_main_v177 (F := Ideal) x2 (ix2 r c) = ∑ t : Fin 2048, col x2 c t := by
  unfold val_main_v177 val_main_v176 val_main_cst_6
  pointwise

end Cert.ConvReference

end
-- ==== Proof.ConvArrays.lean ====
module

public import proofs.«01_k».proof.Proof.ConvKernel
public import proofs.«01_k».proof.Proof.ConvReference
public import Idealize.ShloMosaic.Lib.Pipeline.ValueKit

/-! The arrays the convolution's gradient kernel leaves are the reference's. -/

@[expose] public section

set_option maxRecDepth 16384

noncomputable section

namespace Cert.ConvArrays

open Cert.KernelIdeal Cert.KernelIdeal.Gen Idealize.ShloMosaic Idealize.ShloMosaic.TcCoe Idealize.SL.Sem
open Cert.ConvMath
open Cert.ReferenceIdeal.Read (val_main_v460 val_main_v461 val_main_v452 val_main_v177)

variable (m : (ℓ : Loc nD τ sig) → Buf (Elt Ideal) ℓ) (c : Dev nD)

abbrev U : S2048x7680.Idx → Elt Ideal .bf16 := m ((c : Thread nD τ).loc main_arg0)
abbrev W : S31x512.Idx → Elt Ideal .f32 := m ((c : Thread nD τ).loc main_arg1)
abbrev D : S2048x512.Idx → Elt Ideal .f32 := m ((c : Thread nD τ).loc main_arg2)

theorem index0 : ∀ t : Fin cfg0.N, win0_0.index t = ![0, t.val] := (by decide +kernel : ∀ t : Fin grid0.N, _)
theorem index1 : ∀ t : Fin cfg0.N, win0_1.index t = ![0, 4 + t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, t.val] := (by decide +kernel : ∀ t : Fin grid0.N, _)
theorem index7 : ∀ t : Fin cfg0.N, win0_7.index t = ![0, t.val] := (by decide +kernel : ∀ t : Fin grid0.N, _)

theorem lt4 (t : Fin cfg0.N) : t.val < 4 := t.isLt

/-- Column `l` of column block `t`. -/
abbrev at_ (t : Fin cfg0.N) (l : Fin 128) : Fin 512 := ⟨t.val * 128 + l.val, by have := lt4 t; have := l.isLt; omega⟩

theorem colA (t : Fin cfg0.N) (l : Fin 128) : (fun k => (iblk m c 0 t : S2048x128.Idx → Elt Ideal .bf16) (ix2 k l)) = ConvReference.colA (U m c) (at_ t l) := by
  funext k
  blk_simp [iblk, V_main_arg0]
  refine congrArg (U m c) ?_
  blk_ext [index0]

theorem colG (t : Fin cfg0.N) (l : Fin 128) : (fun k => (iblk m c 1 t : S2048x128.Idx → Elt Ideal .bf16) (ix2 k l)) = ConvReference.colG (U m c) (at_ t l) := by
  funext k
  blk_simp [iblk, V_main_arg0]
  refine congrArg (U m c) ?_
  blk_ext [index1]

theorem colW (t : Fin cfg0.N) (l : Fin 128) : ConvKernel.col (iblk m c 2 t : S31x128.Idx → Elt Ideal .f32) l = ConvReference.col (W m c) (at_ t l) := by
  funext k
  unfold ConvKernel.col
  blk_simp [iblk, V_main_arg1]
  refine congrArg (W m c) ?_
  blk_ext [index2]

theorem colD (t : Fin cfg0.N) (l : Fin 128) : ConvKernel.col (iblk m c 3 t : S2048x128.Idx → Elt Ideal .f32) l = ConvReference.col (D m c) (at_ t l) := by
  funext k
  unfold ConvKernel.col
  blk_simp [iblk, V_main_arg2]
  refine congrArg (D m c) ?_
  blk_ext [index3]

theorem emb4 (t : Fin cfg0.N) (k : Fin 2048) (l : Fin 128) : (win0_4.blk t).view.emb (ix2 k l : S2048x128.Idx) = (ix2 k (at_ t l) : S2048x512.Idx) := by
  blk_ext [index4]

theorem emb5 (t : Fin cfg0.N) (k : Fin 2048) (l : Fin 128) : (win0_5.blk t).view.emb (ix2 k l : S2048x128.Idx) = (ix2 k (at_ t l) : S2048x512.Idx) := by
  blk_ext [index5]

theorem emb6 (t : Fin cfg0.N) (k : Fin 31) (l : Fin 128) : (win0_6.blk t).view.emb (ix2 k l : S31x128.Idx) = (ix2 k (at_ t l) : S31x512.Idx) := by
  blk_ext [index6]

theorem emb7 (t : Fin cfg0.N) (k : Fin 1) (l : Fin 128) : (win0_7.blk t).view.emb (ix2 k l : S1x128.Idx) = (ix2 k (at_ t l) : S1x512.Idx) := by
  blk_ext [index7]

theorem final4 : (dats m 0 c).arrAt 4 cfg0.N = val_main_v460 (F := Ideal) (U m c) (W m c) (D m c) := by
  refine (dats m 0 c).arrAt_eq_of_covers 4 _ (by decide +kernel) fun t hf y => ?_
  obtain ⟨k, l, rfl⟩ : ∃ (k : Fin 2048) (l : Fin 128), y = (ix2 k l : S2048x128.Idx) := ⟨y 0, y 1, eq_ix2 _⟩
  blk_simp
  rw [after0_4]
  simp only [outsAt0]
  refine (congrFun (ConvKernel.out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t)) _).trans ?_
  refine Eq.trans ?_ (congrArg _ (emb4 t k l)).symm
  rw [ConvReference.v460_apply, ← colW, ← colD, ← colG]
  rfl

theorem final5 : (dats m 0 c).arrAt 5 cfg0.N = val_main_v461 (F := Ideal) (U m c) (W m c) (D m c) := by
  refine (dats m 0 c).arrAt_eq_of_covers 5 _ (by decide +kernel) fun t hf y => ?_
  obtain ⟨k, l, rfl⟩ : ∃ (k : Fin 2048) (l : Fin 128), y = (ix2 k l : S2048x128.Idx) := ⟨y 0, y 1, eq_ix2 _⟩
  blk_simp
  rw [after0_5]
  simp only [outsAt0]
  refine (congrFun (ConvKernel.out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t)) _).trans ?_
  refine Eq.trans ?_ (congrArg _ (emb5 t k l)).symm
  rw [ConvReference.v461_apply, ← colW, ← colD, ← colG, ← colA]
  rfl

theorem final6 : (dats m 0 c).arrAt 6 cfg0.N = val_main_v452 (F := Ideal) (U m c) (D m c) := by
  refine (dats m 0 c).arrAt_eq_of_covers 6 _ (by decide +kernel) fun t hf y => ?_
  obtain ⟨k, l, rfl⟩ : ∃ (k : Fin 31) (l : Fin 128), y = (ix2 k l : S31x128.Idx) := ⟨y 0, y 1, eq_ix2 _⟩
  blk_simp
  rw [after0_6]
  simp only [outsAt0]
  refine (congrFun (ConvKernel.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t)) _).trans ?_
  refine Eq.trans ?_ (congrArg _ (emb6 t k l)).symm
  rw [ConvReference.v452_apply]
  unfold ConvReference.colZ
  rw [← colD, ← colG, ← colA]
  rfl

theorem final7 : (dats m 0 c).arrAt 7 cfg0.N = val_main_v177 (F := Ideal) (D m c) := by
  refine (dats m 0 c).arrAt_eq_of_covers 7 _ (by decide +kernel) fun t hf y => ?_
  obtain ⟨k, l, rfl⟩ : ∃ (k : Fin 1) (l : Fin 128), y = (ix2 k l : S1x128.Idx) := ⟨y 0, y 1, eq_ix2 _⟩
  blk_simp
  rw [after0_7]
  simp only [outsAt0]
  refine (congrFun (ConvKernel.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t)) _).trans ?_
  refine Eq.trans ?_ (congrArg _ (emb7 t k l)).symm
  rw [ConvReference.v177_apply, ← colD]
  rfl

end Cert.ConvArrays

end
-- ==== Proof.ConvClaims.lean ====
module

public import proofs.«01_k».proof.Defs
public import proofs.«01_k».proof.Proof.Gen.Kernel.Frame
public import proofs.«01_k».proof.Proof.Gen.KernelIdeal.Frame
public import proofs.«01_k».proof.Proof.ConvArrays
public import Idealize.ShloMosaic.Lib.Claim

/-! The claims about the gradient of the convolution. -/

@[expose] public section

noncomputable section

namespace Cert.ConvClaims

open Idealize.ShloMosaic Idealize.SL.Sem
open Cert.ReferenceIdeal.Read

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hag
  have e0 (c) : StableHlo.launchContents m' c (Proc.devRef .tc Cert.ReferenceIdeal.main_arg0) = ConvArrays.U m c := (hag c).1
  have e1 (c) : StableHlo.launchContents m' c (Proc.devRef .tc Cert.ReferenceIdeal.main_arg1) = ConvArrays.W m c := (hag c).2.1
  have e2 (c) : StableHlo.launchContents m' c (Proc.devRef .tc Cert.ReferenceIdeal.main_arg2) = ConvArrays.D m c := (hag c).2.2
  refine ⟨fun c => val_main_v460 (F := Ideal) (ConvArrays.U m c) (ConvArrays.W m c) (ConvArrays.D m c),
    fun c => val_main_v461 (F := Ideal) (ConvArrays.U m c) (ConvArrays.W m c) (ConvArrays.D m c),
    fun c => val_main_v452 (F := Ideal) (ConvArrays.U m c) (ConvArrays.D m c),
    fun c => val_main_v177 (F := Ideal) (ConvArrays.D m c), ?_, ?_⟩
  · exact (θ_run Cert.KernelIdeal.defs _ _).mono (fun r h c => ⟨(h c).1.trans (ConvArrays.final4 m c), (h c).2.1.trans (ConvArrays.final5 m c),
      (h c).2.2.1.trans (ConvArrays.final6 m c), (h c).2.2.2.1.trans (ConvArrays.final7 m c), (h c).2.2.2.2⟩)
      (Cert.KernelIdeal.Value.run_blocks (F := Ideal) m ρ)
  · refine (θ_run Cert.ReferenceIdeal.defs _ _).mono (fun r h c => ⟨(h c).1.trans ((val_main_v460_eq _).trans ?_),
      (h c).2.1.trans ((val_main_v461_eq _).trans ?_), (h c).2.2.1.trans ((val_main_v452_eq _).trans ?_),
      (h c).2.2.2.1.trans ((val_main_v177_eq _).trans ?_), (h c).2.2.2.2⟩) (Cert.ReferenceIdeal.Value.run (F := Ideal) m' ρ')
    · rw [e0, e1, e2]
    · rw [e0, e1, e2]
    · rw [e0, e2]
    · rw [e2]

end Cert.ConvClaims

end
-- ==== Proof.DffProof.lean ====
module

public import proofs.«01_k».proof.Defs
public import proofs.«01_k».proof.Proof.Gen.Dff.Frame
public import proofs.«01_k».proof.Proof.Gen.DffIdeal.Value
public import proofs.«01_k».proof.Proof.Gen.DffRefIdeal.Run
public import proofs.«01_k».proof.Proof.Gen.DffRefIdeal.Read
public import Idealize.ShloMosaic.Lib.Pipeline.ValueKit
public import Idealize.ShloMosaic.Lib.Claim

/-! The gradient of the MLP's hidden values. -/

@[expose] public section

set_option maxRecDepth 16384

noncomputable section

namespace Cert.DffProof

open Cert.DffIdeal Cert.DffIdeal.Gen Idealize.ShloMosaic Idealize.ShloMosaic.TcCoe Idealize.SL.Sem
open Cert.DffRefIdeal.Read

variable (m : (ℓ : Loc nD τ sig) → Buf (Elt Ideal) ℓ) (c : Dev nD)

abbrev G : S2048x1024.Idx → Elt Ideal .f32 := m ((c : Thread nD τ).loc main_arg0)
abbrev W : S4x1024x1024.Idx → Elt Ideal .bf16 := m ((c : Thread nD τ).loc main_arg1)
abbrev A : S2048x4096.Idx → Elt Ideal .f32 := m ((c : Thread nD τ).loc main_arg2)

theorem index0 : ∀ t : Fin cfg0.N, win0_0.index t = ![0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

theorem lt4 (t : Fin cfg0.N) : t.val < 4 := t.isLt

/-- The product of the incoming gradient with the transposed weight, at a token and a row of the whole weight. -/
def product (g : S2048x1024.Idx → Elt Ideal .f32) (w : S4x1024x1024.Idx → Elt Ideal .bf16) (i : Fin 2048) (n : Fin 4096) : EReal :=
  ∑ k : Fin 1024, (g (ix2 i k) : EReal) * w (ix3 ⟨n.val / 1024, by have := n.isLt; omega⟩ ⟨n.val % 1024, Nat.mod_lt _ (by decide)⟩ k)

theorem reference_apply (g : S2048x1024.Idx → Elt Ideal .f32) (w : S4x1024x1024.Idx → Elt Ideal .bf16) (a : S2048x4096.Idx → Elt Ideal .f32)
    (i : Fin 2048) (n : Fin 4096) :
    (val_main_v14 (F := Ideal) g w a : S2048x4096.Idx → EReal) (ix2 i n)
      = product g w i n * (Ideal.ofBits .f32 0x40000000#32 * max (a (ix2 i n)) 0) := by
  pointwise [val_main_v14, val_main_v13, val_main_v12, val_main_v11, val_main_v10, val_main_v8, val_main_v7, val_main_v6, val_main_v5, val_main_v2,
    val_main_v1, val_main_v0, val_main_cst, val_main_cst_1, val_main_cst_2, product, val_main_call0_v0, val_main_call0_cst]
  split
  · rfl
  · rename_i h
    rw [max_eq_right (not_lt.mp h)]
    simp only [mul_zero]

theorem product_block (t : Fin cfg0.N) (i : Fin 2048) (l : Fin 1024) :
    (∑ k : Fin 1024, HMul.hMul (α := EReal) (β := EReal) (γ := EReal) (iblk m c 0 t (ix2 i k : S2048x1024.Idx)) (iblk m c 1 t (ix3 0 l k : S1x1024x1024.Idx)))
      = product (G m c) (W m c) i ⟨t.val * 1024 + l.val, by have := lt4 t; have := l.isLt; omega⟩ := by
  refine Finset.sum_congr rfl fun k _ => ?_
  congr 1
  · blk_ext [iblk, V_main_arg0, index0]
  · blk_ext [iblk, V_main_arg1, index1]

/-- The rectified hidden values, as the host hands them to the kernel. -/
theorem V_main_v1 : @Eq (S2048x4096.Idx → Elt Ideal .bf16) (V m c main_v1)
    (truncf (F := Ideal) .bf16 (maximumf (A m c) (broadcastInDim S2048x4096 ![] bcast_S_S2048x4096 (constant S_ .f32 0x00000000#32))) bitsLt_bf16_f32) := by
  show @Eq (S2048x4096.Idx → Elt Ideal .bf16) (StableHlo.after (List.flatten [hostOps0, hostOps0_1]) (fun b => m (c, b)) main_v1) _
  simp only [hostOps0, hostOps0_1, List.flatten_cons, List.flatten_nil, List.append_nil, List.cons_append, List.nil_append]
  after_results
  rfl

theorem hidden_block (t : Fin cfg0.N) (i : Fin 2048) (l : Fin 1024) :
    (iblk m c 2 t (ix2 i l : S2048x1024.Idx)) = max (A m c (ix2 i ⟨t.val * 1024 + l.val, by have := lt4 t; have := l.isLt; omega⟩)) 0 := by
  have e : ((View.whole main_v1).slice (win0_2.rect t)).emb (ix2 i l : S2048x1024.Idx) = (ix2 i ⟨t.val * 1024 + l.val, by have := lt4 t; have := l.isLt; omega⟩ : S2048x4096.Idx) := by
    blk_ext [index2]
  blk_simp [iblk]
  refine Eq.trans (α := EReal) (congrArg _ e) ?_
  refine Eq.trans (α := EReal) (congrFun (V_main_v1 m c) _) ?_
  pointwise

theorem final : (dats m 0 c).arrAt 3 cfg0.N = val_main_v14 (F := Ideal) (G m c) (W m c) (A m c) := by
  refine (dats m 0 c).arrAt_eq_of_covers 3 _ (by decide +kernel) fun t hf y => ?_
  obtain ⟨i, l, rfl⟩ : ∃ (i : Fin 2048) (l : Fin 1024), y = (ix2 i l : S2048x1024.Idx) := ⟨y 0, y 1, eq_ix2 _⟩
  blk_simp
  rw [after0_3]
  frame_out
  pointwise [k0_pay1]
  have e : ((View.whole main_v2).slice (win0_3.rect t)).emb (ix2 i l : S2048x1024.Idx) = (ix2 i ⟨t.val * 1024 + l.val, by have := lt4 t; have := l.isLt; omega⟩ : S2048x4096.Idx) := by
    blk_ext [index3]
  refine Eq.trans (α := EReal) ?_ ((congrArg _ e).trans (reference_apply _ _ _ _ _)).symm
  rw [← product_block, ← hidden_block]

end Cert.DffProof

namespace Cert.DffClaims

open Idealize.ShloMosaic Idealize.SL.Sem Cert.DffProof
open Cert.DffRefIdeal.Read

theorem frame_kernel : Cert.quiescent_Dff := fun m ρ _ => Cert.Dff.Gen.frame m ρ

theorem frame_ideal : Cert.quiescent_DffIdeal := fun m ρ _ => Cert.DffIdeal.Gen.frame m ρ

theorem frame_reference : Cert.quiescent_DffRefIdeal := fun m ρ _ =>
  (θ_run Cert.DffRefIdeal.defs _ _).mono (fun r h => ⟨fun c => (h c).2, sem_eq_zero_of_no_sems (by decide) r.2⟩)
    (Cert.DffRefIdeal.Value.run (F := Ideal) m ρ)

theorem preserves : Cert.preserves_Dff_DffIdeal := trivial

theorem algebraic : Cert.algebraic_DffIdeal_DffRefIdeal := by
  intro m ρ m' ρ' _ hag
  have e0 (c : Dev Cert.DffRefIdeal.nD) : _ = G m c := (hag c).1
  have e1 (c : Dev Cert.DffRefIdeal.nD) : _ = W m c := (hag c).2.1
  have e2 (c : Dev Cert.DffRefIdeal.nD) : _ = A m c := (hag c).2.2
  refine ⟨fun c => val_main_v14 (F := Ideal) (G m c) (W m c) (A m c), ?_, ?_⟩
  · exact (θ_run Cert.DffIdeal.defs _ _).mono (fun r h c => ⟨(h c).1.trans (final m c), (h c).2⟩)
      (Cert.DffIdeal.Value.run_blocks (F := Ideal) m ρ)
  · refine (θ_run Cert.DffRefIdeal.defs _ _).mono (fun r h c => ⟨(h c).1.trans ((val_main_v14_eq _ _ _).trans ?_), (h c).2⟩)
      (Cert.DffRefIdeal.Value.run (F := Ideal) m' ρ')
    · exact congr (congr (congrArg (val_main_v14 (F := Ideal)) (e0 c)) (e1 c)) (e2 c)

end Cert.DffClaims

end
-- ==== Proof.ProductMath.lean ====
module

public import Idealize.ShloMosaic.Lib.Pipeline.ValueKit
public import Idealize.ShloMosaic.Lib.Ring
public import Idealize.ShloMosaic.Lib.Pipeline.ReadBack

/-! Facts that the products share: a sum cut into four parts, and a block's transpose written in four runs of columns. -/

@[expose] public section

set_option maxRecDepth 16384

noncomputable section

namespace Cert.ProductMath

open Idealize.ShloMosaic Idealize.ShloMosaic.TcCoe Idealize.SL.Sem

/-- A sum over four runs of `n` terms. -/
theorem sum_four (n N : ℕ) (hN : N = 4 * n) (f : Fin N → EReal) :
    ∑ k, f k = ∑ k : Fin n, f ⟨0 * n + k.val, by have := k.isLt; omega⟩ + ∑ k : Fin n, f ⟨1 * n + k.val, by have := k.isLt; omega⟩
      + ∑ k : Fin n, f ⟨2 * n + k.val, by have := k.isLt; omega⟩ + ∑ k : Fin n, f ⟨3 * n + k.val, by have := k.isLt; omega⟩ := by
  subst hN
  rw [← Equiv.sum_comp (finProdFinEquiv : Fin 4 × Fin n ≃ Fin (4 * n)), Fintype.sum_prod_type, Fin.sum_univ_four]
  congr 1
  · congr 1
    · congr 1
      · exact Finset.sum_congr rfl fun k _ => congrArg f (Fin.ext (by simp [finProdFinEquiv]))
      · exact Finset.sum_congr rfl fun k _ => congrArg f (Fin.ext (by simp [finProdFinEquiv]; omega))
    · exact Finset.sum_congr rfl fun k _ => congrArg f (Fin.ext (by simp [finProdFinEquiv]; omega))
  · exact Finset.sum_congr rfl fun k _ => congrArg f (Fin.ext (by simp [finProdFinEquiv]; omega))

abbrev Wide : Shape := ⟨2, ![1024, 2048]⟩
abbrev Tall : Shape := ⟨2, ![2048, 1024]⟩
abbrev Run : Shape := ⟨2, ![1024, 512]⟩

theorem run_lt (o : ℕ) (ho : o + 512 ≤ 2048) (k : Fin 512) : o + k.val < 2048 := by have := k.isLt; omega

/-- The row `k` of the run that begins at `o`. -/
abbrev row (o : ℕ) (ho : o + 512 ≤ 2048) (k : Fin 512) : Fin 2048 := ⟨o + k.val, run_lt o ho k⟩

theorem le0 : 0 + 512 ≤ 2048 := by omega
theorem le1 : 512 + 512 ≤ 2048 := by omega
theorem le2 : 1024 + 512 ≤ 2048 := by omega
theorem le3 : 1536 + 512 ≤ 2048 := by omega

theorem emb_columns (o : ℕ) (inb) (i : Fin 1024) (k : Fin 512) (h : o + k.val < 2048) :
    (Rect.unit (s := Wide) ![0, o] ![1024, 512] inb).emb (ix2 i k) = (ix2 i ⟨o + k.val, h⟩ : Wide.Idx) := by
  funext a
  match a with
  | 0 => exact Fin.ext (show 0 + 1 * i.val = i.val by omega)
  | 1 => exact Fin.ext (show o + 1 * k.val = o + k.val by omega)

/-- The transpose of a block. -/
abbrev flip (X : Tall.Idx → EReal) : Wide.Idx → EReal := fun y => X (ix2 (y 1) (y 0))

theorem piece (X : Tall.Idx → EReal) (o : ℕ) (ho : o + 512 ≤ 2048) (inb) (w : Run.Idx → EReal)
    (hw : ∀ (i : Fin 1024) (k : Fin 512), w (ix2 i k) = X (ix2 (row o ho k) i)) (x : Run.Idx) :
    w x = flip X ((Rect.unit (s := Wide) ![0, o] ![1024, 512] inb).emb x) := by
  obtain ⟨i, k, rfl⟩ : ∃ (i : Fin 1024) (k : Fin 512), x = ix2 i k := ⟨x 0, x 1, eq_ix2 _⟩
  rw [emb_columns o inb i k (by have := k.isLt; omega), hw]
  rfl

section
variable {sig : RefSig} {κ : Kind} {sp : Space} (v : View sig κ sp Wide .bf16) (X : Tall.Idx → EReal)
  (w0 w1 w2 w3 : Run.Idx → Elt Ideal .bf16)
  (h0 : ∀ (i : Fin 1024) (k : Fin 512), w0 (ix2 i k) = X (ix2 (row 0 le0 k) i))
  (h1 : ∀ (i : Fin 1024) (k : Fin 512), w1 (ix2 i k) = X (ix2 (row 512 le1 k) i))
  (h2 : ∀ (i : Fin 1024) (k : Fin 512), w2 (ix2 i k) = X (ix2 (row 1024 le2 k) i))
  (h3 : ∀ (i : Fin 1024) (k : Fin 512), w3 (ix2 i k) = X (ix2 (row 1536 le3 k) i))
  (i0 : ∀ a, (![0, 0] : Fin 2 → ℕ) a + (![1024, 512] : Fin 2 → ℕ) a ≤ Wide.size a) (i1 : ∀ a, (![0, 512] : Fin 2 → ℕ) a + (![1024, 512] : Fin 2 → ℕ) a ≤ Wide.size a)
  (i2 : ∀ a, (![0, 1024] : Fin 2 → ℕ) a + (![1024, 512] : Fin 2 → ℕ) a ≤ Wide.size a) (i3 : ∀ a, (![0, 1536] : Fin 2 → ℕ) a + (![1024, 512] : Fin 2 → ℕ) a ≤ Wide.size a)

abbrev pieces : List (View.Piece (Elt Ideal) Wide .bf16) :=
  [⟨Rect.unit (s := Wide) ![0, 1536] ![1024, 512] i3, w3⟩, ⟨Rect.unit (s := Wide) ![0, 1024] ![1024, 512] i2, w2⟩,
    ⟨Rect.unit (s := Wide) ![0, 512] ![1024, 512] i1, w1⟩, ⟨Rect.unit (s := Wide) ![0, 0] ![1024, 512] i0, w0⟩]

theorem pieces_cover (y : Wide.Idx) : ∃ p ∈ pieces w0 w1 w2 w3 i0 i1 i2 i3, y ∈ p.1.set :=
  View.cover_of_tiledL (pieces w0 w1 w2 w3 i0 i1 i2 i3) ![1024, 512] (by sl_kernel_rfl) y

include h0 h1 h2 h3

theorem canon_pieces : View.canon (pieces w0 w1 w2 w3 i0 i1 i2 i3) = flip X := by
  funext y
  refine View.canon_apply_of_pieces (flip X) _ ?_ y (pieces_cover w0 w1 w2 w3 i0 i1 i2 i3 y)
  simp only [List.forall_mem_cons]
  exact ⟨piece X 1536 (by omega) i3 w3 h3, piece X 1024 (by omega) i2 w2 h2, piece X 512 (by omega) i1 w1 h1, piece X 0 (by omega) i0 w0 h0, by simp⟩

theorem readCov_pieces (inb : ∀ a, (![0, 0] : Fin 2 → ℕ) a + Wide.size a ≤ Wide.size a) :
    v.readCov (pieces w0 w1 w2 w3 i0 i1 i2 i3) (Rect.unit (s := Wide) ![0, 0] ![1024, 2048] inb).toLoadRect = flip X := by
  unfold View.readCov
  rw [View.readAt_eq_ld, View.read_writes_eq_canon _ _ _ (pieces_cover w0 w1 w2 w3 i0 i1 i2 i3), canon_pieces X w0 w1 w2 w3 h0 h1 h2 h3 i0 i1 i2 i3]
  exact View.ld_unit_lit inb _ (by decide)

end

end Cert.ProductMath

end
-- ==== Proof.DwFf2Proof.lean ====
module

public import proofs.«01_k».proof.Defs
public import proofs.«01_k».proof.Proof.Gen.DwFf2.Frame
public import proofs.«01_k».proof.Proof.Gen.DwFf2Ideal.Value
public import proofs.«01_k».proof.Proof.Gen.DwFf2RefIdeal.Run
public import proofs.«01_k».proof.Proof.Gen.DwFf2RefIdeal.Read
public import Idealize.ShloMosaic.Lib.Pipeline.ValueKit
public import Idealize.ShloMosaic.Lib.Claim
public import proofs.«01_k».proof.Proof.ProductMath

/-! The gradient of the MLP's second weight. -/

@[expose] public section

set_option maxRecDepth 16384

noncomputable section

namespace Cert.DwFf2Proof

open Cert.DwFf2Ideal Cert.DwFf2Ideal.Gen Idealize.ShloMosaic Idealize.ShloMosaic.TcCoe Idealize.SL.Sem
open Cert.DwFf2RefIdeal.Read

variable (m : (ℓ : Loc nD τ sig) → Buf (Elt Ideal) ℓ) (c : Dev nD)

abbrev R : S2048x4096.Idx → Elt Ideal .bf16 := m ((c : Thread nD τ).loc main_arg0)
abbrev G : S2048x1024.Idx → Elt Ideal .f32 := m ((c : Thread nD τ).loc main_arg1)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0, 0] := (by decide +kernel : ∀ t : Fin grid0.N, _)

theorem lt4 (t : Fin cfg0.N) : t.val < 4 := t.isLt

theorem reference_apply (r : S2048x4096.Idx → Elt Ideal .bf16) (g : S2048x1024.Idx → Elt Ideal .f32) (t : Fin 4) (i l : Fin 1024) :
    (val_main_v5 (F := Ideal) r g : S4x1024x1024.Idx → EReal) (ix3 t i l)
      = ∑ k : Fin 2048, (r (ix2 k ⟨t.val * 1024 + i.val, by have := t.isLt; have := i.isLt; omega⟩) : EReal) * g (ix2 k l) := by
  pointwise [val_main_v5, val_main_v4, val_main_v3, val_main_v2, val_main_v1, val_main_v0]
  exact Finset.sum_congr rfl fun k _ => mul_comm _ _

/-- A block's rows written into the scratch as columns, run by run, are its transpose. -/
theorem staged (X : S2048x1024.Idx → Elt Ideal .bf16) :
    (View.whole cc0_scratch0).readCov (Val := Elt Ideal)
        [⟨Rect.unit ![0, 1536] ![1024, 512] inb_S1024x2048_S1024x512_0_1536,
            k0_pay4 (View.ld X (Rect.unit ![1536, 0] ![512, 1024] inb_S2048x1024_S512x1024_1536_0))⟩,
          ⟨Rect.unit ![0, 1024] ![1024, 512] inb_S1024x2048_S1024x512_0_1024,
            k0_pay3 (View.ld X (Rect.unit ![1024, 0] ![512, 1024] inb_S2048x1024_S512x1024_1024_0))⟩,
          ⟨Rect.unit ![0, 512] ![1024, 512] inb_S1024x2048_S1024x512_0_512,
            k0_pay2 (View.ld X (Rect.unit ![512, 0] ![512, 1024] inb_S2048x1024_S512x1024_512_0))⟩,
          ⟨Rect.unit ![0, 0] ![1024, 512] inb_S1024x2048_S1024x512_0_0,
            k0_pay1 (View.ld X (Rect.unit ![0, 0] ![512, 1024] inb_S2048x1024_S512x1024_0_0))⟩]
        (Rect.unit ![0, 0] ![1024, 2048] inb_S1024x2048_S1024x2048_0_0).toLoadRect = ProductMath.flip X := by
  refine ProductMath.readCov_pieces _ X _ _ _ _ (fun i k => ?_) (fun i k => ?_) (fun i k => ?_) (fun i k => ?_) _ _ _ _ _
  · pointwise [k0_pay1]
    exact congrArg (fun r => X (ix2 r i : S2048x1024.Idx)) (Fin.ext (by simp only [ProductMath.row]; omega))
  · pointwise [k0_pay2]
  · pointwise [k0_pay3]
  · pointwise [k0_pay4]

theorem final : (dats m 0 c).arrAt 2 cfg0.N = val_main_v5 (F := Ideal) (R m c) (G m c) := by
  refine (dats m 0 c).arrAt_eq_of_covers 2 _ (by decide +kernel) fun t hf y => ?_
  obtain ⟨j, i, l, rfl⟩ : ∃ (j : Fin 1) (i l : Fin 1024), y = (ix3 j i l : S1x1024x1024.Idx) := ⟨y 0, y 1, y 2, eq_ix3 _⟩
  blk_simp
  rw [after0_2]
  simp only [outsAt0]
  frame_out
  rw [staged]
  pointwise [k0_pay5]
  have e : ((View.whole main_v0).slice (win0_2.rect t)).emb (ix3 j i l : S1x1024x1024.Idx) = (ix3 ⟨t.val, lt4 t⟩ i l : S4x1024x1024.Idx) := by
    blk_ext [index2]
  refine Eq.trans (α := EReal) ?_ ((congrArg _ e).trans (reference_apply _ _ _ _ _)).symm
  refine Finset.sum_congr rfl fun k _ => ?_
  congr 1
  · show (iblk m c 0 t (ix2 k i : S2048x1024.Idx) : EReal) = _
    blk_ext [iblk, V_main_arg0, index0]
  · blk_ext [iblk, V_main_arg1, index1]

end Cert.DwFf2Proof

namespace Cert.DwFf2Claims

open Idealize.ShloMosaic Idealize.SL.Sem Cert.DwFf2Proof
open Cert.DwFf2RefIdeal.Read

theorem frame_kernel : Cert.quiescent_DwFf2 := fun m ρ _ => Cert.DwFf2.Gen.frame m ρ

theorem frame_ideal : Cert.quiescent_DwFf2Ideal := fun m ρ _ => Cert.DwFf2Ideal.Gen.frame m ρ

theorem frame_reference : Cert.quiescent_DwFf2RefIdeal := fun m ρ _ =>
  (θ_run Cert.DwFf2RefIdeal.defs _ _).mono (fun r h => ⟨fun c => (h c).2, sem_eq_zero_of_no_sems (by decide) r.2⟩)
    (Cert.DwFf2RefIdeal.Value.run (F := Ideal) m ρ)

theorem preserves : Cert.preserves_DwFf2_DwFf2Ideal := trivial

theorem algebraic : Cert.algebraic_DwFf2Ideal_DwFf2RefIdeal := by
  intro m ρ m' ρ' _ hag
  have e0 (c : Dev Cert.DwFf2RefIdeal.nD) : _ = R m c := (hag c).1
  have e1 (c : Dev Cert.DwFf2RefIdeal.nD) : _ = G m c := (hag c).2
  refine ⟨fun c => val_main_v5 (F := Ideal) (R m c) (G m c), ?_, ?_⟩
  · exact (θ_run Cert.DwFf2Ideal.defs _ _).mono (fun r h c => ⟨(h c).1.trans (final m c), (h c).2⟩)
      (Cert.DwFf2Ideal.Value.run_blocks (F := Ideal) m ρ)
  · refine (θ_run Cert.DwFf2RefIdeal.defs _ _).mono (fun r h c => ⟨(h c).1.trans ((val_main_v5_eq _ _).trans ?_), (h c).2⟩)
      (Cert.DwFf2RefIdeal.Value.run (F := Ideal) m' ρ')
    · exact congr (congrArg (val_main_v5 (F := Ideal)) (e0 c)) (e1 c)

end Cert.DwFf2Claims

end
-- ==== Proof.DwFf1Proof.lean ====
module

public import proofs.«01_k».proof.Defs
public import proofs.«01_k».proof.Proof.Gen.DwFf1.Frame
public import proofs.«01_k».proof.Proof.Gen.DwFf1Ideal.Value
public import proofs.«01_k».proof.Proof.Gen.DwFf1RefIdeal.Run
public import proofs.«01_k».proof.Proof.Gen.DwFf1RefIdeal.Read
public import Idealize.ShloMosaic.Lib.Pipeline.ValueKit
public import Idealize.ShloMosaic.Lib.Claim
public import proofs.«01_k».proof.Proof.ProductMath

/-! The gradient of the MLP's first weight. -/

@[expose] public section

set_option maxRecDepth 16384

noncomputable section

namespace Cert.DwFf1Proof

open Cert.DwFf1Ideal Cert.DwFf1Ideal.Gen Idealize.ShloMosaic Idealize.ShloMosaic.TcCoe Idealize.SL.Sem
open Cert.DwFf1RefIdeal.Read

variable (m : (ℓ : Loc nD τ sig) → Buf (Elt Ideal) ℓ) (c : Dev nD)

abbrev H : S2048x1024.Idx → Elt Ideal .bf16 := m ((c : Thread nD τ).loc main_arg0)
abbrev G : S2048x4096.Idx → Elt Ideal .bf16 := m ((c : Thread nD τ).loc main_arg1)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0, 0] := (by decide +kernel : ∀ t : Fin grid0.N, _)

theorem lt4 (t : Fin cfg0.N) : t.val < 4 := t.isLt

theorem reference_apply (h : S2048x1024.Idx → Elt Ideal .bf16) (g : S2048x4096.Idx → Elt Ideal .bf16) (t : Fin 4) (i : Fin 1024) (l : Fin 1024) :
    (val_main_v7 (F := Ideal) h g : S4x1024x1024.Idx → EReal) (ix3 t i l)
      = ∑ k : Fin 2048, (h (ix2 k i) : EReal) * g (ix2 k ⟨t.val * 1024 + l.val, by have := t.isLt; have := l.isLt; omega⟩) := by
  pointwise [val_main_v7, val_main_v6, val_main_v5, val_main_v4, val_main_v3, val_main_v2, val_main_v1, val_main_v0]
  exact Finset.sum_congr rfl fun k _ => mul_comm _ _

/-- A block's rows written into the scratch as columns, run by run, are its transpose. -/
theorem staged (X : S2048x1024.Idx → Elt Ideal .bf16) :
    (View.whole cc0_scratch0).readCov (Val := Elt Ideal)
        [⟨Rect.unit ![0, 1536] ![1024, 512] inb_S1024x2048_S1024x512_0_1536,
            k0_pay4 (View.ld X (Rect.unit ![1536, 0] ![512, 1024] inb_S2048x1024_S512x1024_1536_0))⟩,
          ⟨Rect.unit ![0, 1024] ![1024, 512] inb_S1024x2048_S1024x512_0_1024,
            k0_pay3 (View.ld X (Rect.unit ![1024, 0] ![512, 1024] inb_S2048x1024_S512x1024_1024_0))⟩,
          ⟨Rect.unit ![0, 512] ![1024, 512] inb_S1024x2048_S1024x512_0_512,
            k0_pay2 (View.ld X (Rect.unit ![512, 0] ![512, 1024] inb_S2048x1024_S512x1024_512_0))⟩,
          ⟨Rect.unit ![0, 0] ![1024, 512] inb_S1024x2048_S1024x512_0_0,
            k0_pay1 (View.ld X (Rect.unit ![0, 0] ![512, 1024] inb_S2048x1024_S512x1024_0_0))⟩]
        (Rect.unit ![0, 0] ![1024, 2048] inb_S1024x2048_S1024x2048_0_0).toLoadRect = ProductMath.flip X := by
  refine ProductMath.readCov_pieces _ X _ _ _ _ (fun i k => ?_) (fun i k => ?_) (fun i k => ?_) (fun i k => ?_) _ _ _ _ _
  · pointwise [k0_pay1]
    exact congrArg (fun r => X (ix2 r i : S2048x1024.Idx)) (Fin.ext (by simp only [ProductMath.row]; omega))
  · pointwise [k0_pay2]
  · pointwise [k0_pay3]
  · pointwise [k0_pay4]

/-- The first operand's block is the whole operand at every point. -/
theorem block0 (t : Fin cfg0.N) : @Eq (S2048x1024.Idx → Elt Ideal .bf16) (iblk m c 0 t) (H m c) := by
  funext y
  obtain ⟨k, i, rfl⟩ : ∃ (k : Fin 2048) (i : Fin 1024), y = (ix2 k i : S2048x1024.Idx) := ⟨y 0, y 1, eq_ix2 _⟩
  blk_ext [iblk, V_main_arg0, index0]

/-- After every point the scratch holds the first operand's transpose. -/
theorem scratch : ∀ (n : ℕ) (hn : n < cfg0.N), (outsAt0 m c n hn).2 = ProductMath.flip (H m c)
  | 0, hn => by
    rw [outsAt0_A m c ⟨0, hn⟩ (Nat.zero_mod _)]
    unfold sout0_A_0
    frame_out
    rw [block0]
    refine ProductMath.canon_pieces (H m c) _ _ _ _ (fun i k => ?_) (fun i k => ?_) (fun i k => ?_) (fun i k => ?_) _ _ _ _
    · pointwise [k0_pay1]
      exact congrArg (fun r => H m c (ix2 r i : S2048x1024.Idx)) (Fin.ext (by simp only [ProductMath.row]; omega))
    · pointwise [k0_pay2]
    · pointwise [k0_pay3]
    · pointwise [k0_pay4]
  | n + 1, hn => by
    have hk : ¬ (⟨n + 1, hn⟩ : Fin cfg0.N).val % 4 = 0 := by
      have : n + 1 < 4 := hn
      show ¬ (n + 1) % 4 = 0
      omega
    rw [outsAt0_B m c ⟨n + 1, hn⟩ hk]
    unfold sout0_B_0
    frame_out
    exact scratch n _

theorem written (t : Fin cfg0.N) : @Eq (S1x1024x1024.Idx → Elt Ideal .f32) (outsAt0 m c t.val t.isLt).1 (k0_pay5 (ProductMath.flip (H m c)) (iblk m c 1 t)) := by
  by_cases h0 : t.val % 4 = 0
  · rw [outsAt0_A m c t h0]
    frame_out
    rw [staged, block0]
  · rw [outsAt0_B m c t h0, scratch]
    frame_out
    rw [read_unread_whole]

theorem final : (dats m 0 c).arrAt 2 cfg0.N = val_main_v7 (F := Ideal) (H m c) (G m c) := by
  refine (dats m 0 c).arrAt_eq_of_covers 2 _ (by decide +kernel) fun t hf y => ?_
  obtain ⟨j, i, l, rfl⟩ : ∃ (j : Fin 1) (i : Fin 1024) (l : Fin 1024), y = (ix3 j i l : S1x1024x1024.Idx) := ⟨y 0, y 1, y 2, eq_ix3 _⟩
  blk_simp
  rw [after0_2, written]
  pointwise [k0_pay5]
  have e : ((View.whole main_v0).slice (win0_2.rect t)).emb (ix3 j i l : S1x1024x1024.Idx) = (ix3 ⟨t.val, lt4 t⟩ i l : S4x1024x1024.Idx) := by
    blk_ext [index2]
  refine Eq.trans (α := EReal) ?_ ((congrArg _ e).trans (reference_apply _ _ _ _ _)).symm
  refine Finset.sum_congr rfl fun k _ => ?_
  congr 1
  blk_ext [iblk, V_main_arg1, index1]

end Cert.DwFf1Proof

namespace Cert.DwFf1Claims

open Idealize.ShloMosaic Idealize.SL.Sem Cert.DwFf1Proof
open Cert.DwFf1RefIdeal.Read

theorem frame_kernel : Cert.quiescent_DwFf1 := fun m ρ _ => Cert.DwFf1.Gen.frame m ρ

theorem frame_ideal : Cert.quiescent_DwFf1Ideal := fun m ρ _ => Cert.DwFf1Ideal.Gen.frame m ρ

theorem frame_reference : Cert.quiescent_DwFf1RefIdeal := fun m ρ _ =>
  (θ_run Cert.DwFf1RefIdeal.defs _ _).mono (fun r h => ⟨fun c => (h c).2, sem_eq_zero_of_no_sems (by decide) r.2⟩)
    (Cert.DwFf1RefIdeal.Value.run (F := Ideal) m ρ)

theorem preserves : Cert.preserves_DwFf1_DwFf1Ideal := trivial

theorem algebraic : Cert.algebraic_DwFf1Ideal_DwFf1RefIdeal := by
  intro m ρ m' ρ' _ hag
  have e0 (c : Dev Cert.DwFf1RefIdeal.nD) : _ = H m c := (hag c).1
  have e1 (c : Dev Cert.DwFf1RefIdeal.nD) : _ = G m c := (hag c).2
  refine ⟨fun c => val_main_v7 (F := Ideal) (H m c) (G m c), ?_, ?_⟩
  · exact (θ_run Cert.DwFf1Ideal.defs _ _).mono (fun r h c => ⟨(h c).1.trans (final m c), (h c).2⟩)
      (Cert.DwFf1Ideal.Value.run_blocks (F := Ideal) m ρ)
  · refine (θ_run Cert.DwFf1RefIdeal.defs _ _).mono (fun r h c => ⟨(h c).1.trans ((val_main_v7_eq _ _).trans ?_), (h c).2⟩)
      (Cert.DwFf1RefIdeal.Value.run (F := Ideal) m' ρ')
    · exact congr (congrArg (val_main_v7 (F := Ideal)) (e0 c)) (e1 c)

end Cert.DwFf1Claims

end
-- ==== Proof.DhMlpProof.lean ====
module

public import proofs.«01_k».proof.Defs
public import proofs.«01_k».proof.Proof.Gen.DhMlp.Frame
public import proofs.«01_k».proof.Proof.Gen.DhMlpIdeal.Value
public import proofs.«01_k».proof.Proof.Gen.DhMlpRefIdeal.Run
public import proofs.«01_k».proof.Proof.Gen.DhMlpRefIdeal.Read
public import Idealize.ShloMosaic.Lib.Pipeline.ValueKit
public import Idealize.ShloMosaic.Lib.Claim
public import proofs.«01_k».proof.Proof.ProductMath

/-! The gradient reaching the normalised input of the MLP: a product with the transposed first weight. -/

@[expose] public section

set_option maxRecDepth 16384

noncomputable section

namespace Cert.DhMlpProof

open Cert.DhMlpIdeal Cert.DhMlpIdeal.Gen Idealize.ShloMosaic Idealize.ShloMosaic.TcCoe Idealize.SL.Sem
open Cert.DhMlpRefIdeal.Read

variable (m : (ℓ : Loc nD τ sig) → Buf (Elt Ideal) ℓ) (c : Dev nD)

abbrev D0 : S2048x4096.Idx → Elt Ideal .bf16 := m ((c : Thread nD τ).loc main_arg0)
abbrev W : S4x1024x1024.Idx → Elt Ideal .bf16 := m ((c : Thread nD τ).loc main_arg1)

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, 0] := (by decide +kernel : ∀ t : Fin grid0.N, _)

theorem ltN (t : Fin cfg0.N) : t.val < 4 := t.isLt

/-- The product at a token and an input feature. -/
theorem reference_apply (x : S2048x4096.Idx → Elt Ideal .bf16) (w : S4x1024x1024.Idx → Elt Ideal .bf16) (i : Fin 2048) (l : Fin 1024) :
    (val_main_v6 (F := Ideal) x w : S2048x1024.Idx → EReal) (ix2 i l)
      = ∑ n : Fin 4096, (x (ix2 i n) : EReal) * w (ix3 ⟨n.val / 1024, by have := n.isLt; omega⟩ l ⟨n.val % 1024, Nat.mod_lt _ (by decide)⟩) := by
  pointwise [val_main_v6, val_main_v5, val_main_v4, val_main_v3, val_main_v2, val_main_v1, val_main_v0]

/-- What a point adds to the sum: the product of its two blocks. -/
abbrev part (t : Fin cfg0.N) (i : Fin 2048) (l : Fin 1024) : EReal :=
  ∑ k : Fin 1024, HMul.hMul (α := EReal) (β := EReal) (γ := EReal) (iblk m c 0 t (ix2 i k : S2048x1024.Idx)) (iblk m c 1 t (ix3 0 l k : S1x1024x1024.Idx))

theorem carried_first (t : Fin cfg0.N) (h0 : t.val % 4 = 0) (i : Fin 2048) (l : Fin 1024) :
    ((outsAt0 m c t.val t.isLt).2 (ix2 i l : S2048x1024.Idx) : EReal) = part m c t i l := by
  rw [outsAt0_A m c t h0 (by have := ltN t; omega) (by omega)]
  unfold sout0_A_0
  frame_out
  pointwise [k0_pay2, k0_pay1]

theorem carried_next (t : Fin cfg0.N) (h0 : ¬ t.val % 4 = 0) (h2 : ¬ t.val % 4 = 3) (i : Fin 2048) (l : Fin 1024) :
    ((outsAt0 m c t.val t.isLt).2 (ix2 i l : S2048x1024.Idx) : EReal)
      = (outsAt0 m c (t.val - 1) (Nat.lt_of_le_of_lt (Nat.sub_le _ _) t.isLt)).2 (ix2 i l : S2048x1024.Idx) + part m c t i l := by
  rw [outsAt0_B m c t h0 (by omega) h2]
  unfold sout0_B_0
  frame_out
  try rw [read_unread_whole]
  pointwise [k0_pay3, k0_pay1]

theorem written (t : Fin cfg0.N) (h2 : t.val % 4 = 3) (i : Fin 2048) (l : Fin 1024) :
    ((outsAt0 m c t.val t.isLt).1 (ix2 i l : S2048x1024.Idx) : EReal)
      = (outsAt0 m c (t.val - 1) (Nat.lt_of_le_of_lt (Nat.sub_le _ _) t.isLt)).2 (ix2 i l : S2048x1024.Idx) + part m c t i l := by
  rw [outsAt0_C m c t (by omega) (by omega) h2]
  frame_out
  try rw [read_unread_whole]
  pointwise [k0_pay3, k0_pay1]

/-- The sum at the last of four points. -/
theorem total (q : ℕ) (hq : 4 * q + 3 < cfg0.N) (i : Fin 2048) (l : Fin 1024) :
    ((outsAt0 m c (4 * q + 3) hq).1 (ix2 i l : S2048x1024.Idx) : EReal)
      = part m c ⟨4 * q + 0, by omega⟩ i l + part m c ⟨4 * q + 1, by omega⟩ i l + part m c ⟨4 * q + 2, by omega⟩ i l + part m c ⟨4 * q + 3, hq⟩ i l := by
  refine (written m c ⟨4 * q + 3, hq⟩ (by dsimp only; omega) i l).trans (congrArg (· + _) ?_)
  refine (carried_next m c ⟨4 * q + 2, by omega⟩ (by dsimp only; omega) (by dsimp only; omega) i l).trans (congrArg (· + _) ?_)
  refine (carried_next m c ⟨4 * q + 1, by omega⟩ (by dsimp only; omega) (by dsimp only; omega) i l).trans (congrArg (· + _) ?_)
  exact carried_first m c ⟨4 * q, by omega⟩ (by dsimp only; omega) i l

/-- One of four parts, read from the whole operands. -/
theorem part_eq (q r : ℕ) (hr : r < 4) (hq : 4 * q + r < cfg0.N) (i : Fin 2048) (l : Fin 1024) (hi : q * 2048 + i.val < 2048)
    (hk : ∀ k : Fin 1024, r * 1024 + k.val < 4096) :
    part m c ⟨4 * q + r, hq⟩ i l = ∑ k : Fin 1024, (fun n : Fin 4096 => (D0 m c (ix2 ⟨q * 2048 + i.val, hi⟩ n) : EReal)
      * W m c (ix3 ⟨n.val / 1024, by have := n.isLt; omega⟩ l ⟨n.val % 1024, Nat.mod_lt _ (by decide)⟩)) ⟨r * 1024 + k.val, hk k⟩ := by
  refine Finset.sum_congr rfl fun k _ => ?_
  dsimp only
  congr 1
  · blk_ext [iblk, V_main_arg0, index0]
  · blk_ext [iblk, V_main_arg1, index1]

theorem final : (dats m 0 c).arrAt 2 cfg0.N = val_main_v6 (F := Ideal) (D0 m c) (W m c) := by
  refine (dats m 0 c).arrAt_eq_of_covers 2 _ (by decide +kernel) fun t hf y => ?_
  obtain ⟨i, l, rfl⟩ : ∃ (i : Fin 2048) (l : Fin 1024), y = (ix2 i l : S2048x1024.Idx) := ⟨y 0, y 1, eq_ix2 _⟩
  have hN := ltN t
  have hm : t.val % 4 = 3 := (flush0_2 t).mp hf
  obtain ⟨q, hq⟩ : ∃ q, t.val = 4 * q + 3 := ⟨t.val / 4, by omega⟩
  have hqN : 4 * q + 3 < cfg0.N := hq ▸ t.isLt
  have hil := i.isLt
  blk_simp
  rw [after0_2]
  have e : ((View.whole main_v0).slice (win0_2.rect t)).emb (ix2 i l : S2048x1024.Idx) = (ix2 ⟨q * 2048 + i.val, by omega⟩ l : S2048x1024.Idx) := by
    blk_ext [index2]
  refine Eq.trans (α := EReal) ?_ ((congrArg _ e).trans (reference_apply _ _ _ _)).symm
  obtain rfl : t = ⟨4 * q + 3, hqN⟩ := Fin.ext hq
  refine (total m c q hqN i l).trans ?_
  rw [ProductMath.sum_four 1024 4096 (by norm_num), part_eq m c q 3 (by omega) hqN i l (by omega) (fun k => by have := k.isLt; omega),
    part_eq m c q 2 (by omega) (by omega) i l (by omega) (fun k => by have := k.isLt; omega),
    part_eq m c q 1 (by omega) (by omega) i l (by omega) (fun k => by have := k.isLt; omega),
    part_eq m c q 0 (by omega) (by omega) i l (by omega) (fun k => by have := k.isLt; omega)]

end Cert.DhMlpProof

namespace Cert.DhMlpClaims

open Idealize.ShloMosaic Idealize.SL.Sem Cert.DhMlpProof
open Cert.DhMlpRefIdeal.Read

theorem frame_kernel : Cert.quiescent_DhMlp := fun m ρ _ => Cert.DhMlp.Gen.frame m ρ

theorem frame_ideal : Cert.quiescent_DhMlpIdeal := fun m ρ _ => Cert.DhMlpIdeal.Gen.frame m ρ

theorem frame_reference : Cert.quiescent_DhMlpRefIdeal := fun m ρ _ =>
  (θ_run Cert.DhMlpRefIdeal.defs _ _).mono (fun r h => ⟨fun c => (h c).2, sem_eq_zero_of_no_sems (by decide) r.2⟩)
    (Cert.DhMlpRefIdeal.Value.run (F := Ideal) m ρ)

theorem preserves : Cert.preserves_DhMlp_DhMlpIdeal := trivial

theorem algebraic : Cert.algebraic_DhMlpIdeal_DhMlpRefIdeal := by
  intro m ρ m' ρ' _ hag
  have e0 (c : Dev Cert.DhMlpRefIdeal.nD) : _ = D0 m c := (hag c).1
  have e1 (c : Dev Cert.DhMlpRefIdeal.nD) : _ = W m c := (hag c).2
  refine ⟨fun c => val_main_v6 (F := Ideal) (D0 m c) (W m c), ?_, ?_⟩
  · exact (θ_run Cert.DhMlpIdeal.defs _ _).mono (fun r h c => ⟨(h c).1.trans (final m c), (h c).2⟩)
      (Cert.DhMlpIdeal.Value.run_blocks (F := Ideal) m ρ)
  · refine (θ_run Cert.DhMlpRefIdeal.defs _ _).mono (fun r h c => ⟨(h c).1.trans ((val_main_v6_eq _ _).trans ?_), (h c).2⟩)
      (Cert.DhMlpRefIdeal.Value.run (F := Ideal) m' ρ')
    · exact congr (congrArg (val_main_v6 (F := Ideal)) (e0 c)) (e1 c)

end Cert.DhMlpClaims

end
-- ==== Proof.DwInProof.lean ====
module

public import proofs.«01_k».proof.Defs
public import proofs.«01_k».proof.Proof.Gen.DwIn.Frame
public import proofs.«01_k».proof.Proof.Gen.DwInIdeal.Value
public import proofs.«01_k».proof.Proof.Gen.DwInRefIdeal.Run
public import proofs.«01_k».proof.Proof.Gen.DwInRefIdeal.Read
public import Idealize.ShloMosaic.Lib.Pipeline.ValueKit
public import Idealize.ShloMosaic.Lib.Claim
public import proofs.«01_k».proof.Proof.ProductMath

/-! The gradient of the input projection's weight. -/

@[expose] public section

set_option maxRecDepth 16384

noncomputable section

namespace Cert.DwInProof

open Cert.DwInIdeal Cert.DwInIdeal.Gen Idealize.ShloMosaic Idealize.ShloMosaic.TcCoe Idealize.SL.Sem
open Cert.DwInRefIdeal.Read

variable (m : (ℓ : Loc nD τ sig) → Buf (Elt Ideal) ℓ) (c : Dev nD)

abbrev H : S2048x1024.Idx → Elt Ideal .bf16 := m ((c : Thread nD τ).loc main_arg0)
abbrev G : S2048x7680.Idx → Elt Ideal .bf16 := m ((c : Thread nD τ).loc main_arg1)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0, 0] := (by decide +kernel : ∀ t : Fin grid0.N, _)

theorem lt4 (t : Fin cfg0.N) : t.val < 4 := t.isLt

theorem reference_apply (h : S2048x1024.Idx → Elt Ideal .bf16) (g : S2048x7680.Idx → Elt Ideal .bf16) (t : Fin 4) (i : Fin 1024) (l : Fin 1920) :
    (val_main_v7 (F := Ideal) h g : S4x1024x1920.Idx → EReal) (ix3 t i l)
      = ∑ k : Fin 2048, (h (ix2 k i) : EReal) * g (ix2 k ⟨t.val * 1920 + l.val, by have := t.isLt; have := l.isLt; omega⟩) := by
  pointwise [val_main_v7, val_main_v6, val_main_v5, val_main_v4, val_main_v3, val_main_v2, val_main_v1, val_main_v0]
  exact Finset.sum_congr rfl fun k _ => mul_comm _ _

/-- A block's rows written into the scratch as columns, run by run, are its transpose. -/
theorem staged (X : S2048x1024.Idx → Elt Ideal .bf16) :
    (View.whole cc0_scratch0).readCov (Val := Elt Ideal)
        [⟨Rect.unit ![0, 1536] ![1024, 512] inb_S1024x2048_S1024x512_0_1536,
            k0_pay4 (View.ld X (Rect.unit ![1536, 0] ![512, 1024] inb_S2048x1024_S512x1024_1536_0))⟩,
          ⟨Rect.unit ![0, 1024] ![1024, 512] inb_S1024x2048_S1024x512_0_1024,
            k0_pay3 (View.ld X (Rect.unit ![1024, 0] ![512, 1024] inb_S2048x1024_S512x1024_1024_0))⟩,
          ⟨Rect.unit ![0, 512] ![1024, 512] inb_S1024x2048_S1024x512_0_512,
            k0_pay2 (View.ld X (Rect.unit ![512, 0] ![512, 1024] inb_S2048x1024_S512x1024_512_0))⟩,
          ⟨Rect.unit ![0, 0] ![1024, 512] inb_S1024x2048_S1024x512_0_0,
            k0_pay1 (View.ld X (Rect.unit ![0, 0] ![512, 1024] inb_S2048x1024_S512x1024_0_0))⟩]
        (Rect.unit ![0, 0] ![1024, 2048] inb_S1024x2048_S1024x2048_0_0).toLoadRect = ProductMath.flip X := by
  refine ProductMath.readCov_pieces _ X _ _ _ _ (fun i k => ?_) (fun i k => ?_) (fun i k => ?_) (fun i k => ?_) _ _ _ _ _
  · pointwise [k0_pay1]
    exact congrArg (fun r => X (ix2 r i : S2048x1024.Idx)) (Fin.ext (by simp only [ProductMath.row]; omega))
  · pointwise [k0_pay2]
  · pointwise [k0_pay3]
  · pointwise [k0_pay4]

/-- The first operand's block is the whole operand at every point. -/
theorem block0 (t : Fin cfg0.N) : @Eq (S2048x1024.Idx → Elt Ideal .bf16) (iblk m c 0 t) (H m c) := by
  funext y
  obtain ⟨k, i, rfl⟩ : ∃ (k : Fin 2048) (i : Fin 1024), y = (ix2 k i : S2048x1024.Idx) := ⟨y 0, y 1, eq_ix2 _⟩
  blk_ext [iblk, V_main_arg0, index0]

/-- After every point the scratch holds the first operand's transpose. -/
theorem scratch : ∀ (n : ℕ) (hn : n < cfg0.N), (outsAt0 m c n hn).2 = ProductMath.flip (H m c)
  | 0, hn => by
    rw [outsAt0_A m c ⟨0, hn⟩ (Nat.zero_mod _)]
    unfold sout0_A_0
    frame_out
    rw [block0]
    refine ProductMath.canon_pieces (H m c) _ _ _ _ (fun i k => ?_) (fun i k => ?_) (fun i k => ?_) (fun i k => ?_) _ _ _ _
    · pointwise [k0_pay1]
      exact congrArg (fun r => H m c (ix2 r i : S2048x1024.Idx)) (Fin.ext (by simp only [ProductMath.row]; omega))
    · pointwise [k0_pay2]
    · pointwise [k0_pay3]
    · pointwise [k0_pay4]
  | n + 1, hn => by
    have hk : ¬ (⟨n + 1, hn⟩ : Fin cfg0.N).val % 4 = 0 := by
      have : n + 1 < 4 := hn
      show ¬ (n + 1) % 4 = 0
      omega
    rw [outsAt0_B m c ⟨n + 1, hn⟩ hk]
    unfold sout0_B_0
    frame_out
    exact scratch n _

theorem written (t : Fin cfg0.N) : @Eq (S1x1024x1920.Idx → Elt Ideal .f32) (outsAt0 m c t.val t.isLt).1 (k0_pay5 (ProductMath.flip (H m c)) (iblk m c 1 t)) := by
  by_cases h0 : t.val % 4 = 0
  · rw [outsAt0_A m c t h0]
    frame_out
    rw [staged, block0]
  · rw [outsAt0_B m c t h0, scratch]
    frame_out
    rw [read_unread_whole]

theorem final : (dats m 0 c).arrAt 2 cfg0.N = val_main_v7 (F := Ideal) (H m c) (G m c) := by
  refine (dats m 0 c).arrAt_eq_of_covers 2 _ (by decide +kernel) fun t hf y => ?_
  obtain ⟨j, i, l, rfl⟩ : ∃ (j : Fin 1) (i : Fin 1024) (l : Fin 1920), y = (ix3 j i l : S1x1024x1920.Idx) := ⟨y 0, y 1, y 2, eq_ix3 _⟩
  blk_simp
  rw [after0_2, written]
  pointwise [k0_pay5]
  have e : ((View.whole main_v0).slice (win0_2.rect t)).emb (ix3 j i l : S1x1024x1920.Idx) = (ix3 ⟨t.val, lt4 t⟩ i l : S4x1024x1920.Idx) := by
    blk_ext [index2]
  refine Eq.trans (α := EReal) ?_ ((congrArg _ e).trans (reference_apply _ _ _ _ _)).symm
  refine Finset.sum_congr rfl fun k _ => ?_
  congr 1
  blk_ext [iblk, V_main_arg1, index1]

end Cert.DwInProof

namespace Cert.DwInClaims

open Idealize.ShloMosaic Idealize.SL.Sem Cert.DwInProof
open Cert.DwInRefIdeal.Read

theorem frame_kernel : Cert.quiescent_DwIn := fun m ρ _ => Cert.DwIn.Gen.frame m ρ

theorem frame_ideal : Cert.quiescent_DwInIdeal := fun m ρ _ => Cert.DwInIdeal.Gen.frame m ρ

theorem frame_reference : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem preserves : Cert.preserves_DwIn_DwInIdeal := trivial

theorem algebraic : Cert.algebraic_DwInIdeal_DwInRefIdeal := by
  intro m ρ m' ρ' _ hag
  have e0 (c : Dev Cert.DwInRefIdeal.nD) : _ = H m c := (hag c).1
  have e1 (c : Dev Cert.DwInRefIdeal.nD) : _ = G m c := (hag c).2
  refine ⟨fun c => val_main_v7 (F := Ideal) (H m c) (G m c), ?_, ?_⟩
  · exact (θ_run Cert.DwInIdeal.defs _ _).mono (fun r h c => ⟨(h c).1.trans (final m c), (h c).2⟩)
      (Cert.DwInIdeal.Value.run_blocks (F := Ideal) m ρ)
  · refine (θ_run Cert.DwInRefIdeal.defs _ _).mono (fun r h c => ⟨(h c).1.trans ((val_main_v7_eq _ _).trans ?_), (h c).2⟩)
      (Cert.DwInRefIdeal.Value.run (F := Ideal) m' ρ')
    · exact congr (congrArg (val_main_v7 (F := Ideal)) (e0 c)) (e1 c)

end Cert.DwInClaims

end
-- ==== Proof.DhMixProof.lean ====
module

public import proofs.«01_k».proof.Defs
public import proofs.«01_k».proof.Proof.Gen.DhMix.Frame
public import proofs.«01_k».proof.Proof.Gen.DhMixIdeal.Value
public import proofs.«01_k».proof.Proof.Gen.DhMixRefIdeal.Run
public import proofs.«01_k».proof.Proof.Gen.DhMixRefIdeal.Read
public import Idealize.ShloMosaic.Lib.Pipeline.ValueKit
public import Idealize.ShloMosaic.Lib.Claim
public import proofs.«01_k».proof.Proof.ProductMath

/-! The gradient reaching the normalised input of the mixer: a product with the transposed input weight. -/

@[expose] public section

set_option maxRecDepth 16384

noncomputable section

namespace Cert.DhMixProof

open Cert.DhMixIdeal Cert.DhMixIdeal.Gen Idealize.ShloMosaic Idealize.ShloMosaic.TcCoe Idealize.SL.Sem
open Cert.DhMixRefIdeal.Read

variable (m : (ℓ : Loc nD τ sig) → Buf (Elt Ideal) ℓ) (c : Dev nD)

abbrev D0 : S2048x7680.Idx → Elt Ideal .bf16 := m ((c : Thread nD τ).loc main_arg0)
abbrev W : S4x1024x1920.Idx → Elt Ideal .bf16 := m ((c : Thread nD τ).loc main_arg1)

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, 0] := (by decide +kernel : ∀ t : Fin grid0.N, _)

theorem ltN (t : Fin cfg0.N) : t.val < 8 := t.isLt

/-- The product at a token and an input feature. -/
theorem reference_apply (x : S2048x7680.Idx → Elt Ideal .bf16) (w : S4x1024x1920.Idx → Elt Ideal .bf16) (i : Fin 2048) (l : Fin 1024) :
    (val_main_v6 (F := Ideal) x w : S2048x1024.Idx → EReal) (ix2 i l)
      = ∑ n : Fin 7680, (x (ix2 i n) : EReal) * w (ix3 ⟨n.val / 1920, by have := n.isLt; omega⟩ l ⟨n.val % 1920, Nat.mod_lt _ (by decide)⟩) := by
  pointwise [val_main_v6, val_main_v5, val_main_v4, val_main_v3, val_main_v2, val_main_v1, val_main_v0]

/-- What a point adds to the sum: the product of its two blocks. -/
abbrev part (t : Fin cfg0.N) (i : Fin 1024) (l : Fin 1024) : EReal :=
  ∑ k : Fin 1920, HMul.hMul (α := EReal) (β := EReal) (γ := EReal) (iblk m c 0 t (ix2 i k : S1024x1920.Idx)) (iblk m c 1 t (ix3 0 l k : S1x1024x1920.Idx))

theorem carried_first (t : Fin cfg0.N) (h0 : t.val % 4 = 0) (i : Fin 1024) (l : Fin 1024) :
    ((outsAt0 m c t.val t.isLt).2 (ix2 i l : S1024x1024.Idx) : EReal) = part m c t i l := by
  rw [outsAt0_A m c t h0 (by omega) (by omega)]
  unfold sout0_A_0
  frame_out
  pointwise [k0_pay2, k0_pay1]

theorem carried_next (t : Fin cfg0.N) (h0 : ¬ t.val % 4 = 0) (h2 : ¬ t.val % 4 = 3) (i : Fin 1024) (l : Fin 1024) :
    ((outsAt0 m c t.val t.isLt).2 (ix2 i l : S1024x1024.Idx) : EReal)
      = (outsAt0 m c (t.val - 1) (Nat.lt_of_le_of_lt (Nat.sub_le _ _) t.isLt)).2 (ix2 i l : S1024x1024.Idx) + part m c t i l := by
  rw [outsAt0_B m c t h0 (by omega) h2]
  unfold sout0_B_0
  frame_out
  try rw [read_unread_whole]
  pointwise [k0_pay3, k0_pay1]

theorem written (t : Fin cfg0.N) (h2 : t.val % 4 = 3) (i : Fin 1024) (l : Fin 1024) :
    ((outsAt0 m c t.val t.isLt).1 (ix2 i l : S1024x1024.Idx) : EReal)
      = (outsAt0 m c (t.val - 1) (Nat.lt_of_le_of_lt (Nat.sub_le _ _) t.isLt)).2 (ix2 i l : S1024x1024.Idx) + part m c t i l := by
  rw [outsAt0_C m c t (by omega) (by omega) h2]
  frame_out
  try rw [read_unread_whole]
  pointwise [k0_pay3, k0_pay1]

/-- The sum at the last of four points. -/
theorem total (q : ℕ) (hq : 4 * q + 3 < cfg0.N) (i : Fin 1024) (l : Fin 1024) :
    ((outsAt0 m c (4 * q + 3) hq).1 (ix2 i l : S1024x1024.Idx) : EReal)
      = part m c ⟨4 * q + 0, by omega⟩ i l + part m c ⟨4 * q + 1, by omega⟩ i l + part m c ⟨4 * q + 2, by omega⟩ i l + part m c ⟨4 * q + 3, hq⟩ i l := by
  refine (written m c ⟨4 * q + 3, hq⟩ (by dsimp only; omega) i l).trans (congrArg (· + _) ?_)
  refine (carried_next m c ⟨4 * q + 2, by omega⟩ (by dsimp only; omega) (by dsimp only; omega) i l).trans (congrArg (· + _) ?_)
  refine (carried_next m c ⟨4 * q + 1, by omega⟩ (by dsimp only; omega) (by dsimp only; omega) i l).trans (congrArg (· + _) ?_)
  exact carried_first m c ⟨4 * q, by omega⟩ (by dsimp only; omega) i l

/-- One of four parts, read from the whole operands. -/
theorem part_eq (q r : ℕ) (hr : r < 4) (hq : 4 * q + r < cfg0.N) (i : Fin 1024) (l : Fin 1024) (hi : q * 1024 + i.val < 2048)
    (hk : ∀ k : Fin 1920, r * 1920 + k.val < 7680) :
    part m c ⟨4 * q + r, hq⟩ i l = ∑ k : Fin 1920, (fun n : Fin 7680 => (D0 m c (ix2 ⟨q * 1024 + i.val, hi⟩ n) : EReal)
      * W m c (ix3 ⟨n.val / 1920, by have := n.isLt; omega⟩ l ⟨n.val % 1920, Nat.mod_lt _ (by decide)⟩)) ⟨r * 1920 + k.val, hk k⟩ := by
  refine Finset.sum_congr rfl fun k _ => ?_
  dsimp only
  congr 1
  · blk_ext [iblk, V_main_arg0, index0]
  · blk_ext [iblk, V_main_arg1, index1]

theorem final : (dats m 0 c).arrAt 2 cfg0.N = val_main_v6 (F := Ideal) (D0 m c) (W m c) := by
  refine (dats m 0 c).arrAt_eq_of_covers 2 _ (by decide +kernel) fun t hf y => ?_
  obtain ⟨i, l, rfl⟩ : ∃ (i : Fin 1024) (l : Fin 1024), y = (ix2 i l : S1024x1024.Idx) := ⟨y 0, y 1, eq_ix2 _⟩
  have hN := ltN t
  have hm : t.val % 4 = 3 := (flush0_2 t).mp hf
  obtain ⟨q, hq⟩ : ∃ q, t.val = 4 * q + 3 := ⟨t.val / 4, by omega⟩
  have hqN : 4 * q + 3 < cfg0.N := hq ▸ t.isLt
  have hil := i.isLt
  blk_simp
  rw [after0_2]
  have e : ((View.whole main_v0).slice (win0_2.rect t)).emb (ix2 i l : S1024x1024.Idx) = (ix2 ⟨q * 1024 + i.val, by omega⟩ l : S2048x1024.Idx) := by
    blk_ext [index2]
  refine Eq.trans (α := EReal) ?_ ((congrArg _ e).trans (reference_apply _ _ _ _)).symm
  obtain rfl : t = ⟨4 * q + 3, hqN⟩ := Fin.ext hq
  refine (total m c q hqN i l).trans ?_
  rw [ProductMath.sum_four 1920 7680 (by norm_num), part_eq m c q 3 (by omega) hqN i l (by omega) (fun k => by have := k.isLt; omega),
    part_eq m c q 2 (by omega) (by omega) i l (by omega) (fun k => by have := k.isLt; omega),
    part_eq m c q 1 (by omega) (by omega) i l (by omega) (fun k => by have := k.isLt; omega),
    part_eq m c q 0 (by omega) (by omega) i l (by omega) (fun k => by have := k.isLt; omega)]

end Cert.DhMixProof

namespace Cert.DhMixClaims

open Idealize.ShloMosaic Idealize.SL.Sem Cert.DhMixProof
open Cert.DhMixRefIdeal.Read

theorem frame_kernel : Cert.quiescent_DhMix := fun m ρ _ => Cert.DhMix.Gen.frame m ρ

theorem frame_ideal : Cert.quiescent_DhMixIdeal := fun m ρ _ => Cert.DhMixIdeal.Gen.frame m ρ

theorem frame_reference : Cert.quiescent_DhMixRefIdeal := fun m ρ _ =>
  (θ_run Cert.DhMixRefIdeal.defs _ _).mono (fun r h => ⟨fun c => (h c).2, sem_eq_zero_of_no_sems (by decide) r.2⟩)
    (Cert.DhMixRefIdeal.Value.run (F := Ideal) m ρ)

theorem preserves : Cert.preserves_DhMix_DhMixIdeal := trivial

theorem algebraic : Cert.algebraic_DhMixIdeal_DhMixRefIdeal := by
  intro m ρ m' ρ' _ hag
  have e0 (c : Dev Cert.DhMixRefIdeal.nD) : _ = D0 m c := (hag c).1
  have e1 (c : Dev Cert.DhMixRefIdeal.nD) : _ = W m c := (hag c).2
  refine ⟨fun c => val_main_v6 (F := Ideal) (D0 m c) (W m c), ?_, ?_⟩
  · exact (θ_run Cert.DhMixIdeal.defs _ _).mono (fun r h c => ⟨(h c).1.trans (final m c), (h c).2⟩)
      (Cert.DhMixIdeal.Value.run_blocks (F := Ideal) m ρ)
  · refine (θ_run Cert.DhMixRefIdeal.defs _ _).mono (fun r h c => ⟨(h c).1.trans ((val_main_v6_eq _ _).trans ?_), (h c).2⟩)
      (Cert.DhMixRefIdeal.Value.run (F := Ideal) m' ρ')
    · exact congr (congrArg (val_main_v6 (F := Ideal)) (e0 c)) (e1 c)

end Cert.DhMixClaims

end
-- ==== Proof.MmUProof.lean ====
module

public import proofs.«01_k».proof.Defs
public import proofs.«01_k».proof.Proof.Gen.MmU.Frame
public import proofs.«01_k».proof.Proof.Gen.MmUIdeal.Value
public import proofs.«01_k».proof.Proof.Gen.MmURefIdeal.Run
public import proofs.«01_k».proof.Proof.Gen.MmURefIdeal.Read
public import Idealize.ShloMosaic.Lib.Pipeline.ValueKit
public import Idealize.ShloMosaic.Lib.Claim

/-! The input projection: the kernel's array is the reference's product. -/

@[expose] public section

set_option maxRecDepth 16384

noncomputable section

namespace Cert.MmUProof

open Cert.MmUIdeal Cert.MmUIdeal.Gen Idealize.ShloMosaic Idealize.ShloMosaic.TcCoe Idealize.SL.Sem
open Cert.MmURefIdeal.Read

variable (m : (ℓ : Loc nD τ sig) → Buf (Elt Ideal) ℓ) (c : Dev nD)

abbrev H : S2048x1024.Idx → Elt Ideal .bf16 := m ((c : Thread nD τ).loc main_arg0)
abbrev W : S4x1024x1920.Idx → Elt Ideal .bf16 := m ((c : Thread nD τ).loc main_arg1)

theorem index0 : ∀ t : Fin cfg0.N, win0_0.index t = ![0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![0, t.val] := (by decide +kernel : ∀ t : Fin grid0.N, _)

theorem lt4 (t : Fin cfg0.N) : t.val < 4 := t.isLt

/-- The product at a token and a column of the whole weight. -/
theorem reference_apply (h : S2048x1024.Idx → Elt Ideal .bf16) (w : S4x1024x1920.Idx → Elt Ideal .bf16) (i : Fin 2048) (n : Fin 7680) :
    (val_main_v5 (F := Ideal) h w : S2048x7680.Idx → EReal) (ix2 i n)
      = ∑ k : Fin 1024, (h (ix2 i k) : EReal) * w (ix3 ⟨n.val / 1920, by have := n.isLt; omega⟩ k ⟨n.val % 1920, Nat.mod_lt _ (by decide)⟩) := by
  pointwise [val_main_v5, val_main_v4, val_main_v3, val_main_v2, val_main_v1, val_main_v0]

theorem final : (dats m 0 c).arrAt 2 cfg0.N = val_main_v5 (F := Ideal) (H m c) (W m c) := by
  refine (dats m 0 c).arrAt_eq_of_covers 2 _ (by decide +kernel) fun t hf y => ?_
  obtain ⟨i, l, rfl⟩ : ∃ (i : Fin 2048) (l : Fin 1920), y = (ix2 i l : S2048x1920.Idx) := ⟨y 0, y 1, eq_ix2 _⟩
  blk_simp
  rw [after0_2]
  frame_out
  pointwise [k0_pay1]
  have e : ((View.whole main_v0).slice (win0_2.rect t)).emb (ix2 i l : S2048x1920.Idx) = (ix2 i ⟨t.val * 1920 + l.val, by have := lt4 t; have := l.isLt; omega⟩ : S2048x7680.Idx) := by
    blk_ext [index2]
  refine Eq.trans (α := EReal) ?_ ((congrArg _ e).trans (reference_apply _ _ _ _)).symm
  refine Finset.sum_congr rfl fun k _ => ?_
  congr 1
  · blk_ext [iblk, V_main_arg0, index0]
  · blk_ext [iblk, V_main_arg1, index1]

end Cert.MmUProof

namespace Cert.MmUClaims

open Idealize.ShloMosaic Idealize.SL.Sem Cert.MmUProof
open Cert.MmURefIdeal.Read

theorem frame_kernel : Cert.quiescent_MmU := fun m ρ _ => Cert.MmU.Gen.frame m ρ

theorem frame_ideal : Cert.quiescent_MmUIdeal := fun m ρ _ => Cert.MmUIdeal.Gen.frame m ρ

theorem frame_reference : Cert.quiescent_MmURefIdeal := fun m ρ _ =>
  (θ_run Cert.MmURefIdeal.defs _ _).mono (fun r h => ⟨fun c => (h c).2, sem_eq_zero_of_no_sems (by decide) r.2⟩)
    (Cert.MmURefIdeal.Value.run (F := Ideal) m ρ)

theorem preserves : Cert.preserves_MmU_MmUIdeal := trivial

theorem algebraic : Cert.algebraic_MmUIdeal_MmURefIdeal := by
  intro m ρ m' ρ' _ hag
  have e0 (c : Dev Cert.MmURefIdeal.nD) : _ = H m c := (hag c).1
  have e1 (c : Dev Cert.MmURefIdeal.nD) : _ = W m c := (hag c).2
  refine ⟨fun c => val_main_v5 (F := Ideal) (H m c) (W m c), ?_, ?_⟩
  · exact (θ_run Cert.MmUIdeal.defs _ _).mono (fun r h c => ⟨(h c).1.trans (final m c), (h c).2⟩)
      (Cert.MmUIdeal.Value.run_blocks (F := Ideal) m ρ)
  · refine (θ_run Cert.MmURefIdeal.defs _ _).mono (fun r h c => ⟨(h c).1.trans ((val_main_v5_eq _ _).trans ?_), (h c).2⟩)
      (Cert.MmURefIdeal.Value.run (F := Ideal) m' ρ')
    · exact congr (congrArg (val_main_v5 (F := Ideal)) (e0 c)) (e1 c)

end Cert.MmUClaims

end
-- ==== Proof.MmFProof.lean ====
module

public import proofs.«01_k».proof.Defs
public import proofs.«01_k».proof.Proof.Gen.MmF.Frame
public import proofs.«01_k».proof.Proof.Gen.MmFIdeal.Value
public import proofs.«01_k».proof.Proof.Gen.MmFRefIdeal.Run
public import proofs.«01_k».proof.Proof.Gen.MmFRefIdeal.Read
public import Idealize.ShloMosaic.Lib.Pipeline.ValueKit
public import Idealize.ShloMosaic.Lib.Claim

/-! The first product of the MLP: its rectified value and that value's square. -/

@[expose] public section

set_option maxRecDepth 16384

noncomputable section

namespace Cert.MmFProof

open Cert.MmFIdeal Cert.MmFIdeal.Gen Idealize.ShloMosaic Idealize.ShloMosaic.TcCoe Idealize.SL.Sem
open Cert.MmFRefIdeal.Read

variable (m : (ℓ : Loc nD τ sig) → Buf (Elt Ideal) ℓ) (c : Dev nD)

abbrev H : S2048x1024.Idx → Elt Ideal .bf16 := m ((c : Thread nD τ).loc main_arg0)
abbrev W : S4x1024x1024.Idx → Elt Ideal .bf16 := m ((c : Thread nD τ).loc main_arg1)

theorem index0 : ∀ t : Fin cfg0.N, win0_0.index t = ![0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

theorem lt4 (t : Fin cfg0.N) : t.val < 4 := t.isLt

/-- The product at a token and a column of the whole weight. -/
def product (h : S2048x1024.Idx → Elt Ideal .bf16) (w : S4x1024x1024.Idx → Elt Ideal .bf16) (i : Fin 2048) (n : Fin 4096) : EReal :=
  ∑ k : Fin 1024, (h (ix2 i k) : EReal) * w (ix3 ⟨n.val / 1024, by have := n.isLt; omega⟩ k ⟨n.val % 1024, Nat.mod_lt _ (by decide)⟩)

theorem reference_apply (h : S2048x1024.Idx → Elt Ideal .bf16) (w : S4x1024x1024.Idx → Elt Ideal .bf16) (i : Fin 2048) (n : Fin 4096) :
    (val_main_v6 (F := Ideal) h w : S2048x4096.Idx → EReal) (ix2 i n) = max (product h w i n) 0 := by
  pointwise [val_main_v6, val_main_v5, val_main_v4, val_main_v3, val_main_v2, val_main_v1, val_main_v0, product, val_main_call0_v0, val_main_call0_cst]

theorem square_apply (h : S2048x1024.Idx → Elt Ideal .bf16) (w : S4x1024x1024.Idx → Elt Ideal .bf16) (i : Fin 2048) (n : Fin 4096) :
    (val_main_v8 (F := Ideal) h w : S2048x4096.Idx → EReal) (ix2 i n) = max (product h w i n) 0 * max (product h w i n) 0 := by
  pointwise [val_main_v8, val_main_v7, val_main_v5, val_main_v4, val_main_v3, val_main_v2, val_main_v1, val_main_v0, product, val_main_call0_v0, val_main_call0_cst]

/-- The kernel's product of a block is the product at that block's columns. -/
theorem product_block (t : Fin cfg0.N) (i : Fin 2048) (l : Fin 1024) :
    (∑ k : Fin 1024, HMul.hMul (α := EReal) (β := EReal) (γ := EReal) (iblk m c 0 t (ix2 i k : S2048x1024.Idx)) (iblk m c 1 t (ix3 0 k l : S1x1024x1024.Idx)))
      = product (H m c) (W m c) i ⟨t.val * 1024 + l.val, by have := lt4 t; have := l.isLt; omega⟩ := by
  refine Finset.sum_congr rfl fun k _ => ?_
  congr 1
  · blk_ext [iblk, V_main_arg0, index0]
  · blk_ext [iblk, V_main_arg1, index1]

theorem final2 : (dats m 0 c).arrAt 2 cfg0.N = val_main_v6 (F := Ideal) (H m c) (W m c) := by
  refine (dats m 0 c).arrAt_eq_of_covers 2 _ (by decide +kernel) fun t hf y => ?_
  obtain ⟨i, l, rfl⟩ : ∃ (i : Fin 2048) (l : Fin 1024), y = (ix2 i l : S2048x1024.Idx) := ⟨y 0, y 1, eq_ix2 _⟩
  blk_simp
  rw [after0_2]
  frame_out
  pointwise [k0_pay1, k0_pay2]
  have e : ((View.whole main_v0_0).slice (win0_2.rect t)).emb (ix2 i l : S2048x1024.Idx) = (ix2 i ⟨t.val * 1024 + l.val, by have := lt4 t; have := l.isLt; omega⟩ : S2048x4096.Idx) := by
    blk_ext [index2]
  refine Eq.trans (α := EReal) ?_ ((congrArg _ e).trans (reference_apply _ _ _ _)).symm
  rw [← product_block]

theorem final3 : (dats m 0 c).arrAt 3 cfg0.N = val_main_v8 (F := Ideal) (H m c) (W m c) := by
  refine (dats m 0 c).arrAt_eq_of_covers 3 _ (by decide +kernel) fun t hf y => ?_
  obtain ⟨i, l, rfl⟩ : ∃ (i : Fin 2048) (l : Fin 1024), y = (ix2 i l : S2048x1024.Idx) := ⟨y 0, y 1, eq_ix2 _⟩
  blk_simp
  rw [after0_3]
  frame_out
  pointwise [k0_pay1, k0_pay2, k0_pay3]
  have e : ((View.whole main_v0_1).slice (win0_3.rect t)).emb (ix2 i l : S2048x1024.Idx) = (ix2 i ⟨t.val * 1024 + l.val, by have := lt4 t; have := l.isLt; omega⟩ : S2048x4096.Idx) := by
    blk_ext [index3]
  refine Eq.trans (α := EReal) ?_ ((congrArg _ e).trans (square_apply _ _ _ _)).symm
  rw [← product_block]

end Cert.MmFProof

namespace Cert.MmFClaims

open Idealize.ShloMosaic Idealize.SL.Sem Cert.MmFProof
open Cert.MmFRefIdeal.Read

theorem frame_kernel : Cert.quiescent_MmF := fun m ρ _ => Cert.MmF.Gen.frame m ρ

theorem frame_ideal : Cert.quiescent_MmFIdeal := fun m ρ _ => Cert.MmFIdeal.Gen.frame m ρ

theorem frame_reference : Cert.quiescent_MmFRefIdeal := fun m ρ _ =>
  (θ_run Cert.MmFRefIdeal.defs _ _).mono (fun r h => ⟨fun c => (h c).2.2, sem_eq_zero_of_no_sems (by decide) r.2⟩)
    (Cert.MmFRefIdeal.Value.run (F := Ideal) m ρ)

theorem preserves : Cert.preserves_MmF_MmFIdeal := trivial

theorem algebraic : Cert.algebraic_MmFIdeal_MmFRefIdeal := by
  intro m ρ m' ρ' _ hag
  have e0 (c : Dev Cert.MmFRefIdeal.nD) : _ = H m c := (hag c).1
  have e1 (c : Dev Cert.MmFRefIdeal.nD) : _ = W m c := (hag c).2
  refine ⟨fun c => val_main_v6 (F := Ideal) (H m c) (W m c),
    fun c => val_main_v8 (F := Ideal) (H m c) (W m c), ?_, ?_⟩
  · exact (θ_run Cert.MmFIdeal.defs _ _).mono (fun r h c => ⟨(h c).1.trans (final2 m c), (h c).2.1.trans (final3 m c), (h c).2.2⟩)
      (Cert.MmFIdeal.Value.run_blocks (F := Ideal) m ρ)
  · refine (θ_run Cert.MmFRefIdeal.defs _ _).mono (fun r h c => ⟨(h c).1.trans ((val_main_v6_eq _ _).trans ?_), (h c).2.1.trans ((val_main_v8_eq _ _).trans ?_), (h c).2.2⟩)
      (Cert.MmFRefIdeal.Value.run (F := Ideal) m' ρ')
    · exact congr (congrArg (val_main_v6 (F := Ideal)) (e0 c)) (e1 c)
    · exact congr (congrArg (val_main_v8 (F := Ideal)) (e0 c)) (e1 c)

end Cert.MmFClaims

end
-- ==== Proof.MmOutProof.lean ====
module

public import proofs.«01_k».proof.Defs
public import proofs.«01_k».proof.Proof.Gen.MmOut.Frame
public import proofs.«01_k».proof.Proof.Gen.MmOutIdeal.Value
public import proofs.«01_k».proof.Proof.Gen.MmOutRefIdeal.Run
public import proofs.«01_k».proof.Proof.Gen.MmOutRefIdeal.Read
public import Idealize.ShloMosaic.Lib.Pipeline.ValueKit
public import Idealize.ShloMosaic.Lib.Claim
public import proofs.«01_k».proof.Proof.ProductMath

/-! The MLP's second product and the residual it is added to. -/

@[expose] public section

set_option maxRecDepth 16384

noncomputable section

namespace Cert.MmOutProof

open Cert.MmOutIdeal Cert.MmOutIdeal.Gen Idealize.ShloMosaic Idealize.ShloMosaic.TcCoe Idealize.SL.Sem
open Cert.MmOutRefIdeal.Read

variable (m : (ℓ : Loc nD τ sig) → Buf (Elt Ideal) ℓ) (c : Dev nD)

abbrev D0 : S2048x4096.Idx → Elt Ideal .bf16 := m ((c : Thread nD τ).loc main_arg0)
abbrev X : S2048x1024.Idx → Elt Ideal .f32 := m ((c : Thread nD τ).loc main_arg2)
abbrev W : S4x1024x1024.Idx → Elt Ideal .bf16 := m ((c : Thread nD τ).loc main_arg1)

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)

theorem ltN (t : Fin cfg0.N) : t.val < 8 := t.isLt

/-- The product at a token and an input feature. -/
theorem reference_apply (x : S2048x4096.Idx → Elt Ideal .bf16) (w : S4x1024x1024.Idx → Elt Ideal .bf16) (r : S2048x1024.Idx → Elt Ideal .f32) (i : Fin 2048) (l : Fin 1024) :
    (val_main_v4 (F := Ideal) x w r : S2048x1024.Idx → EReal) (ix2 i l)
      = (r (ix2 i l) : EReal) + ∑ n : Fin 4096, (x (ix2 i n) : EReal) * w (ix3 ⟨n.val / 1024, by have := n.isLt; omega⟩ ⟨n.val % 1024, Nat.mod_lt _ (by decide)⟩ l) := by
  pointwise [val_main_v4, val_main_v3, val_main_v2, val_main_v1, val_main_v0]

/-- What a point adds to the sum: the product of its two blocks. -/
abbrev part (t : Fin cfg0.N) (i : Fin 1024) (l : Fin 1024) : EReal :=
  ∑ k : Fin 1024, HMul.hMul (α := EReal) (β := EReal) (γ := EReal) (iblk m c 0 t (ix2 i k : S1024x1024.Idx)) (iblk m c 1 t (ix3 0 k l : S1x1024x1024.Idx))

theorem carried_first (t : Fin cfg0.N) (h0 : t.val % 4 = 0) (i : Fin 1024) (l : Fin 1024) :
    ((outsAt0 m c t.val t.isLt).2 (ix2 i l : S1024x1024.Idx) : EReal) = part m c t i l := by
  rw [outsAt0_A m c t h0 (by omega) (by omega)]
  unfold sout0_A_0
  frame_out
  pointwise [k0_pay2, k0_pay1]

theorem carried_next (t : Fin cfg0.N) (h0 : ¬ t.val % 4 = 0) (h2 : ¬ t.val % 4 = 3) (i : Fin 1024) (l : Fin 1024) :
    ((outsAt0 m c t.val t.isLt).2 (ix2 i l : S1024x1024.Idx) : EReal)
      = (outsAt0 m c (t.val - 1) (Nat.lt_of_le_of_lt (Nat.sub_le _ _) t.isLt)).2 (ix2 i l : S1024x1024.Idx) + part m c t i l := by
  rw [outsAt0_B m c t h0 (by omega) h2]
  unfold sout0_B_0
  frame_out
  try rw [read_unread_whole]
  pointwise [k0_pay3, k0_pay1]

theorem written (t : Fin cfg0.N) (h2 : t.val % 4 = 3) (i : Fin 1024) (l : Fin 1024) :
    ((outsAt0 m c t.val t.isLt).1 (ix2 i l : S1024x1024.Idx) : EReal)
      = HAdd.hAdd (α := EReal) (β := EReal) (γ := EReal) (iblk m c 2 t (ix2 i l : S1024x1024.Idx)) ((outsAt0 m c (t.val - 1) (Nat.lt_of_le_of_lt (Nat.sub_le _ _) t.isLt)).2 (ix2 i l : S1024x1024.Idx) + part m c t i l) := by
  rw [outsAt0_C m c t (by omega) (by omega) h2]
  frame_out
  try rw [read_unread_whole]
  pointwise [k0_pay4, k0_pay3, k0_pay1]
  exact add_comm (G := EReal) _ _

/-- The sum at the last of four points. -/
theorem total (q : ℕ) (hq : 4 * q + 3 < cfg0.N) (i : Fin 1024) (l : Fin 1024) :
    ((outsAt0 m c (4 * q + 3) hq).1 (ix2 i l : S1024x1024.Idx) : EReal)
      = HAdd.hAdd (α := EReal) (β := EReal) (γ := EReal) (iblk m c 2 ⟨4 * q + 3, hq⟩ (ix2 i l : S1024x1024.Idx)) (part m c ⟨4 * q + 0, by omega⟩ i l + part m c ⟨4 * q + 1, by omega⟩ i l + part m c ⟨4 * q + 2, by omega⟩ i l + part m c ⟨4 * q + 3, hq⟩ i l) := by
  refine (written m c ⟨4 * q + 3, hq⟩ (by dsimp only; omega) i l).trans (congrArg (fun z => HAdd.hAdd (α := EReal) (β := EReal) (γ := EReal) (iblk m c 2 ⟨4 * q + 3, hq⟩ (ix2 i l : S1024x1024.Idx)) (z + part m c ⟨4 * q + 3, hq⟩ i l)) ?_)
  refine (carried_next m c ⟨4 * q + 2, by omega⟩ (by dsimp only; omega) (by dsimp only; omega) i l).trans (congrArg (· + _) ?_)
  refine (carried_next m c ⟨4 * q + 1, by omega⟩ (by dsimp only; omega) (by dsimp only; omega) i l).trans (congrArg (· + _) ?_)
  exact carried_first m c ⟨4 * q, by omega⟩ (by dsimp only; omega) i l

/-- One of four parts, read from the whole operands. -/
theorem part_eq (q r : ℕ) (hr : r < 4) (hq : 4 * q + r < cfg0.N) (i : Fin 1024) (l : Fin 1024) (hi : q * 1024 + i.val < 2048)
    (hk : ∀ k : Fin 1024, r * 1024 + k.val < 4096) :
    part m c ⟨4 * q + r, hq⟩ i l = ∑ k : Fin 1024, (fun n : Fin 4096 => (D0 m c (ix2 ⟨q * 1024 + i.val, hi⟩ n) : EReal)
      * W m c (ix3 ⟨n.val / 1024, by have := n.isLt; omega⟩ ⟨n.val % 1024, Nat.mod_lt _ (by decide)⟩ l)) ⟨r * 1024 + k.val, hk k⟩ := by
  refine Finset.sum_congr rfl fun k _ => ?_
  dsimp only
  congr 1
  · blk_ext [iblk, V_main_arg0, index0]
  · blk_ext [iblk, V_main_arg1, index1]

theorem final : (dats m 0 c).arrAt 3 cfg0.N = val_main_v4 (F := Ideal) (D0 m c) (W m c) (X m c) := by
  refine (dats m 0 c).arrAt_eq_of_covers 3 _ (by decide +kernel) fun t hf y => ?_
  obtain ⟨i, l, rfl⟩ : ∃ (i : Fin 1024) (l : Fin 1024), y = (ix2 i l : S1024x1024.Idx) := ⟨y 0, y 1, eq_ix2 _⟩
  have hN := ltN t
  have hm : t.val % 4 = 3 := (flush0_3 t).mp hf
  obtain ⟨q, hq⟩ : ∃ q, t.val = 4 * q + 3 := ⟨t.val / 4, by omega⟩
  have hqN : 4 * q + 3 < cfg0.N := hq ▸ t.isLt
  have hil := i.isLt
  blk_simp
  rw [after0_3]
  have e : ((View.whole main_v0).slice (win0_3.rect t)).emb (ix2 i l : S1024x1024.Idx) = (ix2 ⟨q * 1024 + i.val, by omega⟩ l : S2048x1024.Idx) := by
    blk_ext [index3]
  refine Eq.trans (α := EReal) ?_ ((congrArg _ e).trans (reference_apply _ _ _ _ _)).symm
  obtain rfl : t = ⟨4 * q + 3, hqN⟩ := Fin.ext hq
  refine (total m c q hqN i l).trans ?_
  rw [ProductMath.sum_four 1024 4096 (by norm_num), part_eq m c q 3 (by omega) hqN i l (by omega) (fun k => by have := k.isLt; omega),
    part_eq m c q 2 (by omega) (by omega) i l (by omega) (fun k => by have := k.isLt; omega),
    part_eq m c q 1 (by omega) (by omega) i l (by omega) (fun k => by have := k.isLt; omega),
    part_eq m c q 0 (by omega) (by omega) i l (by omega) (fun k => by have := k.isLt; omega)]
  refine congrArg (fun z : EReal => z + _) ?_
  blk_ext [iblk, V_main_arg2, index2]

end Cert.MmOutProof

namespace Cert.MmOutClaims

open Idealize.ShloMosaic Idealize.SL.Sem Cert.MmOutProof
open Cert.MmOutRefIdeal.Read

theorem frame_kernel : Cert.quiescent_MmOut := fun m ρ _ => Cert.MmOut.Gen.frame m ρ

theorem frame_ideal : Cert.quiescent_MmOutIdeal := fun m ρ _ => Cert.MmOutIdeal.Gen.frame m ρ

theorem frame_reference : Cert.quiescent_MmOutRefIdeal := fun m ρ _ =>
  (θ_run Cert.MmOutRefIdeal.defs _ _).mono (fun r h => ⟨fun c => (h c).2, sem_eq_zero_of_no_sems (by decide) r.2⟩)
    (Cert.MmOutRefIdeal.Value.run (F := Ideal) m ρ)

theorem preserves : Cert.preserves_MmOut_MmOutIdeal := trivial

theorem algebraic : Cert.algebraic_MmOutIdeal_MmOutRefIdeal := by
  intro m ρ m' ρ' _ hag
  have e0 (c : Dev Cert.MmOutRefIdeal.nD) : _ = D0 m c := (hag c).1
  have e1 (c : Dev Cert.MmOutRefIdeal.nD) : _ = W m c := (hag c).2.1
  have e2 (c : Dev Cert.MmOutRefIdeal.nD) : _ = X m c := (hag c).2.2
  refine ⟨fun c => val_main_v4 (F := Ideal) (D0 m c) (W m c) (X m c), ?_, ?_⟩
  · exact (θ_run Cert.MmOutIdeal.defs _ _).mono (fun r h c => ⟨(h c).1.trans (final m c), (h c).2⟩)
      (Cert.MmOutIdeal.Value.run_blocks (F := Ideal) m ρ)
  · refine (θ_run Cert.MmOutRefIdeal.defs _ _).mono (fun r h c => ⟨(h c).1.trans ((val_main_v4_eq _ _ _).trans ?_), (h c).2⟩)
      (Cert.MmOutRefIdeal.Value.run (F := Ideal) m' ρ')
    · exact congr (congr (congrArg (val_main_v4 (F := Ideal)) (e0 c)) (e1 c)) (e2 c)

end Cert.MmOutClaims

end
-- ==== Proof.AdSmallPack.lean ====
module

public import proofs.«01_k».proof.Defs
public import proofs.«01_k».proof.Proof.Gen.AdSmall.Frame
public import proofs.«01_k».proof.Proof.Gen.AdSmallIdeal.Frame
public import proofs.«01_k».proof.Proof.Gen.AdSmallRefIdeal.Run
public import proofs.«01_k».proof.Proof.Gen.AdSmallRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The small weights: what the host lines before and after the kernel make of the arrays. -/

@[expose] public section

set_option maxRecDepth 16384

noncomputable section

namespace Cert.AdSmallProof

open Cert.AdSmallIdeal Cert.AdSmallIdeal.Gen Idealize.ShloMosaic Idealize.ShloMosaic.TcCoe Idealize.SL.Sem
open Cert.AdSmallRefIdeal.Read

variable (m : (ℓ : Loc nD τ sig) → Buf (Elt Ideal) ℓ) (c : Dev nD)

open Cert.AdSmallIdeal Cert.AdSmallIdeal.Gen Idealize.ShloMosaic Idealize.ShloMosaic.TcCoe Idealize.SL.Sem

/-- Nine flat arrays one after another, padded to rows of 128. -/
def rows (a0 : S768.Idx → Elt Ideal .f32) (a1 : S4096.Idx → Elt Ideal .f32) (a2 a3 : S256.Idx → Elt Ideal .f32)
    (a4 : S15872.Idx → Elt Ideal .f32) (a5 a6 a7 : S2048.Idx → Elt Ideal .f32) (a8 : S4096.Idx → Elt Ideal .f32) : S248x128.Idx → Elt Ideal .f32 :=
  shapeCast S248x128 (pad S31744 ![0] ![256] ![0]
    (concatenate S31488 0 [⟨S768, a0⟩, ⟨S4096, a1⟩, ⟨S256, a2⟩, ⟨S256, a3⟩, ⟨S15872, a4⟩, ⟨S2048, a5⟩, ⟨S2048, a6⟩, ⟨S2048, a7⟩, ⟨S4096, a8⟩] concatenates_S768_S4096_S256_S256_S15872_S2048_S2048_S2048_S4096_S31488_d0)
    (sitofp (F := Ideal) .f32 (constantI S_ 32 0#32)) pads_S31488_S31744_02560 h_S_) shapeCasts_S31744_S248x128

theorem rows_congr {a0 b0 : S768.Idx → Elt Ideal .f32} {a1 b1 : S4096.Idx → Elt Ideal .f32} {a2 b2 a3 b3 : S256.Idx → Elt Ideal .f32}
    {a4 b4 : S15872.Idx → Elt Ideal .f32} {a5 b5 a6 b6 a7 b7 : S2048.Idx → Elt Ideal .f32} {a8 b8 : S4096.Idx → Elt Ideal .f32}
    (h0 : a0 = b0) (h1 : a1 = b1) (h2 : a2 = b2) (h3 : a3 = b3) (h4 : a4 = b4) (h5 : a5 = b5) (h6 : a6 = b6) (h7 : a7 = b7) (h8 : a8 = b8) :
    rows a0 a1 a2 a3 a4 a5 a6 a7 a8 = rows b0 b1 b2 b3 b4 b5 b6 b7 b8 := by
  subst h0 h1 h2 h3 h4 h5 h6 h7 h8; rfl

/-- The nine arrays laid flat one after another and padded to rows of 128. -/
def pack (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) : S248x128.Idx → Elt Ideal .f32 :=
  rows (shapeCast S768 a0 shapeCasts_S32x24_S768) (shapeCast S4096 a1 shapeCasts_S4x1024_S4096)
    (shapeCast S256 a2 shapeCasts_S4x64_S256) (shapeCast S256 a3 shapeCasts_S4x64_S256)
    (shapeCast S15872 a4 shapeCasts_S4x31x128_S15872) (shapeCast S2048 a5 shapeCasts_S4x512_S2048)
    (shapeCast S2048 a6 shapeCasts_S4x512_S2048) (shapeCast S2048 a7 shapeCasts_S4x512_S2048)
    (shapeCast S4096 a8 shapeCasts_S4x1024_S4096)

abbrev lines : List (HloOp τ sig (Elt Ideal)) :=
  List.flatten [hostOps0, hostOps0_1, hostOps0_2, hostOps0_3, hostOps0_4, hostOps0_5, hostOps0_6, hostOps0_7, hostOps0_8]

variable (W : Valuation τ sig (Elt Ideal))

theorem flat0_0 : StableHlo.upto lines W 9 (Proc.devRef .tc main_v0) = shapeCast S768 (W (Proc.devRef .tc main_arg0)) shapeCasts_S32x24_S768 := by
  after_reads_simp
  rfl
theorem flat0_1 : StableHlo.upto lines W 9 (Proc.devRef .tc main_v1) = shapeCast S4096 (W (Proc.devRef .tc main_arg1)) shapeCasts_S4x1024_S4096 := by
  after_reads_simp
  rfl
theorem flat0_2 : StableHlo.upto lines W 9 (Proc.devRef .tc main_v2) = shapeCast S256 (W (Proc.devRef .tc main_arg2)) shapeCasts_S4x64_S256 := by
  after_reads_simp
  rfl
theorem flat0_3 : StableHlo.upto lines W 9 (Proc.devRef .tc main_v3) = shapeCast S256 (W (Proc.devRef .tc main_arg3)) shapeCasts_S4x64_S256 := by
  after_reads_simp
  rfl
theorem flat0_4 : StableHlo.upto lines W 9 (Proc.devRef .tc main_v4) = shapeCast S15872 (W (Proc.devRef .tc main_arg4)) shapeCasts_S4x31x128_S15872 := by
  after_reads_simp
  rfl
theorem flat0_5 : StableHlo.upto lines W 9 (Proc.devRef .tc main_v5) = shapeCast S2048 (W (Proc.devRef .tc main_arg5)) shapeCasts_S4x512_S2048 := by
  after_reads_simp
  rfl
theorem flat0_6 : StableHlo.upto lines W 9 (Proc.devRef .tc main_v6) = shapeCast S2048 (W (Proc.devRef .tc main_arg6)) shapeCasts_S4x512_S2048 := by
  after_reads_simp
  rfl
theorem flat0_7 : StableHlo.upto lines W 9 (Proc.devRef .tc main_v7) = shapeCast S2048 (W (Proc.devRef .tc main_arg7)) shapeCasts_S4x512_S2048 := by
  after_reads_simp
  rfl
theorem flat0_8 : StableHlo.upto lines W 9 (Proc.devRef .tc main_v8) = shapeCast S4096 (W (Proc.devRef .tc main_arg8)) shapeCasts_S4x1024_S4096 := by
  after_reads_simp
  rfl
theorem entry0 : StableHlo.after lines W (Proc.devRef .tc main_v11) = pack (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_reads_simp
  exact rows_congr (flat0_0 W) (flat0_1 W) (flat0_2 W) (flat0_3 W) (flat0_4 W) (flat0_5 W) (flat0_6 W) (flat0_7 W) (flat0_8 W)

theorem flat1_0 : StableHlo.upto lines W 23 (Proc.devRef .tc main_v12) = shapeCast S768 (W (Proc.devRef .tc main_arg9)) shapeCasts_S32x24_S768 := by
  after_reads_simp
  rfl
theorem flat1_1 : StableHlo.upto lines W 23 (Proc.devRef .tc main_v13) = shapeCast S4096 (W (Proc.devRef .tc main_arg10)) shapeCasts_S4x1024_S4096 := by
  after_reads_simp
  rfl
theorem flat1_2 : StableHlo.upto lines W 23 (Proc.devRef .tc main_v14) = shapeCast S256 (W (Proc.devRef .tc main_arg11)) shapeCasts_S4x64_S256 := by
  after_reads_simp
  rfl
theorem flat1_3 : StableHlo.upto lines W 23 (Proc.devRef .tc main_v15) = shapeCast S256 (W (Proc.devRef .tc main_arg12)) shapeCasts_S4x64_S256 := by
  after_reads_simp
  rfl
theorem flat1_4 : StableHlo.upto lines W 23 (Proc.devRef .tc main_v16) = shapeCast S15872 (W (Proc.devRef .tc main_arg13)) shapeCasts_S4x31x128_S15872 := by
  after_reads_simp
  rfl
theorem flat1_5 : StableHlo.upto lines W 23 (Proc.devRef .tc main_v17) = shapeCast S2048 (W (Proc.devRef .tc main_arg14)) shapeCasts_S4x512_S2048 := by
  after_reads_simp
  rfl
theorem flat1_6 : StableHlo.upto lines W 23 (Proc.devRef .tc main_v18) = shapeCast S2048 (W (Proc.devRef .tc main_arg15)) shapeCasts_S4x512_S2048 := by
  after_reads_simp
  rfl
theorem flat1_7 : StableHlo.upto lines W 23 (Proc.devRef .tc main_v19) = shapeCast S2048 (W (Proc.devRef .tc main_arg16)) shapeCasts_S4x512_S2048 := by
  after_reads_simp
  rfl
theorem flat1_8 : StableHlo.upto lines W 23 (Proc.devRef .tc main_v20) = shapeCast S4096 (W (Proc.devRef .tc main_arg17)) shapeCasts_S4x1024_S4096 := by
  after_reads_simp
  rfl
theorem entry1 : StableHlo.after lines W (Proc.devRef .tc main_v23) = pack (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  after_reads_simp
  exact rows_congr (flat1_0 W) (flat1_1 W) (flat1_2 W) (flat1_3 W) (flat1_4 W) (flat1_5 W) (flat1_6 W) (flat1_7 W) (flat1_8 W)

theorem flat2_0 : StableHlo.upto lines W 37 (Proc.devRef .tc main_v24) = shapeCast S768 (W (Proc.devRef .tc main_arg18)) shapeCasts_S32x24_S768 := by
  after_reads_simp
  rfl
theorem flat2_1 : StableHlo.upto lines W 37 (Proc.devRef .tc main_v25) = shapeCast S4096 (W (Proc.devRef .tc main_arg19)) shapeCasts_S4x1024_S4096 := by
  after_reads_simp
  rfl
theorem flat2_2 : StableHlo.upto lines W 37 (Proc.devRef .tc main_v26) = shapeCast S256 (W (Proc.devRef .tc main_arg20)) shapeCasts_S4x64_S256 := by
  after_reads_simp
  rfl
theorem flat2_3 : StableHlo.upto lines W 37 (Proc.devRef .tc main_v27) = shapeCast S256 (W (Proc.devRef .tc main_arg21)) shapeCasts_S4x64_S256 := by
  after_reads_simp
  rfl
theorem flat2_4 : StableHlo.upto lines W 37 (Proc.devRef .tc main_v28) = shapeCast S15872 (W (Proc.devRef .tc main_arg22)) shapeCasts_S4x31x128_S15872 := by
  after_reads_simp
  rfl
theorem flat2_5 : StableHlo.upto lines W 37 (Proc.devRef .tc main_v29) = shapeCast S2048 (W (Proc.devRef .tc main_arg23)) shapeCasts_S4x512_S2048 := by
  after_reads_simp
  rfl
theorem flat2_6 : StableHlo.upto lines W 37 (Proc.devRef .tc main_v30) = shapeCast S2048 (W (Proc.devRef .tc main_arg24)) shapeCasts_S4x512_S2048 := by
  after_reads_simp
  rfl
theorem flat2_7 : StableHlo.upto lines W 37 (Proc.devRef .tc main_v31) = shapeCast S2048 (W (Proc.devRef .tc main_arg25)) shapeCasts_S4x512_S2048 := by
  after_reads_simp
  rfl
theorem flat2_8 : StableHlo.upto lines W 37 (Proc.devRef .tc main_v32) = shapeCast S4096 (W (Proc.devRef .tc main_arg26)) shapeCasts_S4x1024_S4096 := by
  after_reads_simp
  rfl
theorem entry2 : StableHlo.after lines W (Proc.devRef .tc main_v35) = pack (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) := by
  after_reads_simp
  exact rows_congr (flat2_0 W) (flat2_1 W) (flat2_2 W) (flat2_3 W) (flat2_4 W) (flat2_5 W) (flat2_6 W) (flat2_7 W) (flat2_8 W)

theorem flat3_0 : StableHlo.upto lines W 51 (Proc.devRef .tc main_v36) = shapeCast S768 (W (Proc.devRef .tc main_arg27)) shapeCasts_S32x24_S768 := by
  after_reads_simp
  rfl
theorem flat3_1 : StableHlo.upto lines W 51 (Proc.devRef .tc main_v37) = shapeCast S4096 (W (Proc.devRef .tc main_arg28)) shapeCasts_S4x1024_S4096 := by
  after_reads_simp
  rfl
theorem flat3_2 : StableHlo.upto lines W 51 (Proc.devRef .tc main_v38) = shapeCast S256 (W (Proc.devRef .tc main_arg29)) shapeCasts_S4x64_S256 := by
  after_reads_simp
  rfl
theorem flat3_3 : StableHlo.upto lines W 51 (Proc.devRef .tc main_v39) = shapeCast S256 (W (Proc.devRef .tc main_arg30)) shapeCasts_S4x64_S256 := by
  after_reads_simp
  rfl
theorem flat3_4 : StableHlo.upto lines W 51 (Proc.devRef .tc main_v40) = shapeCast S15872 (W (Proc.devRef .tc main_arg31)) shapeCasts_S4x31x128_S15872 := by
  after_reads_simp
  rfl
theorem flat3_5 : StableHlo.upto lines W 51 (Proc.devRef .tc main_v41) = shapeCast S2048 (W (Proc.devRef .tc main_arg32)) shapeCasts_S4x512_S2048 := by
  after_reads_simp
  rfl
theorem flat3_6 : StableHlo.upto lines W 51 (Proc.devRef .tc main_v42) = shapeCast S2048 (W (Proc.devRef .tc main_arg33)) shapeCasts_S4x512_S2048 := by
  after_reads_simp
  rfl
theorem flat3_7 : StableHlo.upto lines W 51 (Proc.devRef .tc main_v43) = shapeCast S2048 (W (Proc.devRef .tc main_arg34)) shapeCasts_S4x512_S2048 := by
  after_reads_simp
  rfl
theorem flat3_8 : StableHlo.upto lines W 51 (Proc.devRef .tc main_v44) = shapeCast S4096 (W (Proc.devRef .tc main_arg35)) shapeCasts_S4x1024_S4096 := by
  after_reads_simp
  rfl
theorem entry3 : StableHlo.after lines W (Proc.devRef .tc main_v47) = pack (W (Proc.devRef .tc main_arg27)) (W (Proc.devRef .tc main_arg28)) (W (Proc.devRef .tc main_arg29)) (W (Proc.devRef .tc main_arg30)) (W (Proc.devRef .tc main_arg31)) (W (Proc.devRef .tc main_arg32)) (W (Proc.devRef .tc main_arg33)) (W (Proc.devRef .tc main_arg34)) (W (Proc.devRef .tc main_arg35)) := by
  after_reads_simp
  exact rows_congr (flat3_0 W) (flat3_1 W) (flat3_2 W) (flat3_3 W) (flat3_4 W) (flat3_5 W) (flat3_6 W) (flat3_7 W) (flat3_8 W)

end Cert.AdSmallProof

end
-- ==== Proof.AdSmallUnpack.lean ====
module

public import proofs.«01_k».proof.Defs
public import proofs.«01_k».proof.Proof.Gen.AdSmall.Frame
public import proofs.«01_k».proof.Proof.Gen.AdSmallIdeal.Frame
public import proofs.«01_k».proof.Proof.Gen.AdSmallRefIdeal.Run
public import proofs.«01_k».proof.Proof.Gen.AdSmallRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The small weights: what the host lines before and after the kernel make of the arrays. -/

@[expose] public section

set_option maxRecDepth 16384

noncomputable section

namespace Cert.AdSmallProof

open Cert.AdSmallIdeal Cert.AdSmallIdeal.Gen Idealize.ShloMosaic Idealize.ShloMosaic.TcCoe Idealize.SL.Sem
open Cert.AdSmallRefIdeal.Read

variable (m : (ℓ : Loc nD τ sig) → Buf (Elt Ideal) ℓ) (c : Dev nD)

open Cert.AdSmallIdeal Cert.AdSmallIdeal.Gen Idealize.ShloMosaic Idealize.ShloMosaic.TcCoe Idealize.SL.Sem

/-- Piece 1 of the rows. -/
def unpack0 (X : S248x128.Idx → Elt Ideal .f32) : S32x24.Idx → Elt Ideal .f32 :=
  shapeCast S32x24 (extractStridedSlice S768 ![0] (shapeCast S31744 X shapeCasts_S248x128_S31744) slices_S31744_S768_0) shapeCasts_S768_S32x24

/-- Piece 2 of the rows. -/
def unpack1 (X : S248x128.Idx → Elt Ideal .f32) : S4x1024.Idx → Elt Ideal .f32 :=
  shapeCast S4x1024 (extractStridedSlice S4096 ![768] (shapeCast S31744 X shapeCasts_S248x128_S31744) slices_S31744_S4096_768) shapeCasts_S4096_S4x1024

/-- Piece 3 of the rows. -/
def unpack2 (X : S248x128.Idx → Elt Ideal .f32) : S4x64.Idx → Elt Ideal .f32 :=
  shapeCast S4x64 (extractStridedSlice S256 ![4864] (shapeCast S31744 X shapeCasts_S248x128_S31744) slices_S31744_S256_4864) shapeCasts_S256_S4x64

/-- Piece 4 of the rows. -/
def unpack3 (X : S248x128.Idx → Elt Ideal .f32) : S4x64.Idx → Elt Ideal .f32 :=
  shapeCast S4x64 (extractStridedSlice S256 ![5120] (shapeCast S31744 X shapeCasts_S248x128_S31744) slices_S31744_S256_5120) shapeCasts_S256_S4x64

/-- Piece 5 of the rows. -/
def unpack4 (X : S248x128.Idx → Elt Ideal .f32) : S4x31x128.Idx → Elt Ideal .f32 :=
  shapeCast S4x31x128 (extractStridedSlice S15872 ![5376] (shapeCast S31744 X shapeCasts_S248x128_S31744) slices_S31744_S15872_5376) shapeCasts_S15872_S4x31x128

/-- Piece 6 of the rows. -/
def unpack5 (X : S248x128.Idx → Elt Ideal .f32) : S4x512.Idx → Elt Ideal .f32 :=
  shapeCast S4x512 (extractStridedSlice S2048 ![21248] (shapeCast S31744 X shapeCasts_S248x128_S31744) slices_S31744_S2048_21248) shapeCasts_S2048_S4x512

/-- Piece 7 of the rows. -/
def unpack6 (X : S248x128.Idx → Elt Ideal .f32) : S4x512.Idx → Elt Ideal .f32 :=
  shapeCast S4x512 (extractStridedSlice S2048 ![23296] (shapeCast S31744 X shapeCasts_S248x128_S31744) slices_S31744_S2048_23296) shapeCasts_S2048_S4x512

/-- Piece 8 of the rows. -/
def unpack7 (X : S248x128.Idx → Elt Ideal .f32) : S4x512.Idx → Elt Ideal .f32 :=
  shapeCast S4x512 (extractStridedSlice S2048 ![25344] (shapeCast S31744 X shapeCasts_S248x128_S31744) slices_S31744_S2048_25344) shapeCasts_S2048_S4x512

/-- Piece 9 of the rows. -/
def unpack8 (X : S248x128.Idx → Elt Ideal .f32) : S4x1024.Idx → Elt Ideal .f32 :=
  shapeCast S4x1024 (extractStridedSlice S4096 ![27392] (shapeCast S31744 X shapeCasts_S248x128_S31744) slices_S31744_S4096_27392) shapeCasts_S4096_S4x1024

variable (W : Valuation τ sig (Elt Ideal))

theorem tail0_0 : StableHlo.after ([hostOps1].flatten : List (HloOp τ sig (Elt Ideal))) W (Proc.devRef .tc main_v51) = unpack0 (W (Proc.devRef .tc main_v48_0)) := by
  after_reads_simp
  rfl
theorem tail0_1 : StableHlo.after ([hostOps1].flatten : List (HloOp τ sig (Elt Ideal))) W (Proc.devRef .tc main_v53) = unpack1 (W (Proc.devRef .tc main_v48_0)) := by
  after_reads_simp
  rfl
theorem tail0_2 : StableHlo.after ([hostOps1].flatten : List (HloOp τ sig (Elt Ideal))) W (Proc.devRef .tc main_v55) = unpack2 (W (Proc.devRef .tc main_v48_0)) := by
  after_reads_simp
  rfl
theorem tail0_3 : StableHlo.after ([hostOps1].flatten : List (HloOp τ sig (Elt Ideal))) W (Proc.devRef .tc main_v57) = unpack3 (W (Proc.devRef .tc main_v48_0)) := by
  after_reads_simp
  rfl
theorem tail0_4 : StableHlo.after ([hostOps1].flatten : List (HloOp τ sig (Elt Ideal))) W (Proc.devRef .tc main_v59) = unpack4 (W (Proc.devRef .tc main_v48_0)) := by
  after_reads_simp
  rfl
theorem tail0_5 : StableHlo.after ([hostOps1].flatten : List (HloOp τ sig (Elt Ideal))) W (Proc.devRef .tc main_v61) = unpack5 (W (Proc.devRef .tc main_v48_0)) := by
  after_reads_simp
  rfl
theorem tail0_6 : StableHlo.after ([hostOps1].flatten : List (HloOp τ sig (Elt Ideal))) W (Proc.devRef .tc main_v63) = unpack6 (W (Proc.devRef .tc main_v48_0)) := by
  after_reads_simp
  rfl
theorem tail0_7 : StableHlo.after ([hostOps1].flatten : List (HloOp τ sig (Elt Ideal))) W (Proc.devRef .tc main_v65) = unpack7 (W (Proc.devRef .tc main_v48_0)) := by
  after_reads_simp
  rfl
theorem tail0_8 : StableHlo.after ([hostOps1].flatten : List (HloOp τ sig (Elt Ideal))) W (Proc.devRef .tc main_v67) = unpack8 (W (Proc.devRef .tc main_v48_0)) := by
  after_reads_simp
  rfl
theorem tail1_0 : StableHlo.after ([hostOps1].flatten : List (HloOp τ sig (Elt Ideal))) W (Proc.devRef .tc main_v70) = unpack0 (W (Proc.devRef .tc main_v48_1)) := by
  after_reads_simp
  rfl
theorem tail1_1 : StableHlo.after ([hostOps1].flatten : List (HloOp τ sig (Elt Ideal))) W (Proc.devRef .tc main_v72) = unpack1 (W (Proc.devRef .tc main_v48_1)) := by
  after_reads_simp
  rfl
theorem tail1_2 : StableHlo.after ([hostOps1].flatten : List (HloOp τ sig (Elt Ideal))) W (Proc.devRef .tc main_v74) = unpack2 (W (Proc.devRef .tc main_v48_1)) := by
  after_reads_simp
  rfl
theorem tail1_3 : StableHlo.after ([hostOps1].flatten : List (HloOp τ sig (Elt Ideal))) W (Proc.devRef .tc main_v76) = unpack3 (W (Proc.devRef .tc main_v48_1)) := by
  after_reads_simp
  rfl
theorem tail1_4 : StableHlo.after ([hostOps1].flatten : List (HloOp τ sig (Elt Ideal))) W (Proc.devRef .tc main_v78) = unpack4 (W (Proc.devRef .tc main_v48_1)) := by
  after_reads_simp
  rfl
theorem tail1_5 : StableHlo.after ([hostOps1].flatten : List (HloOp τ sig (Elt Ideal))) W (Proc.devRef .tc main_v80) = unpack5 (W (Proc.devRef .tc main_v48_1)) := by
  after_reads_simp
  rfl
theorem tail1_6 : StableHlo.after ([hostOps1].flatten : List (HloOp τ sig (Elt Ideal))) W (Proc.devRef .tc main_v82) = unpack6 (W (Proc.devRef .tc main_v48_1)) := by
  after_reads_simp
  rfl
theorem tail1_7 : StableHlo.after ([hostOps1].flatten : List (HloOp τ sig (Elt Ideal))) W (Proc.devRef .tc main_v84) = unpack7 (W (Proc.devRef .tc main_v48_1)) := by
  after_reads_simp
  rfl
theorem tail1_8 : StableHlo.after ([hostOps1].flatten : List (HloOp τ sig (Elt Ideal))) W (Proc.devRef .tc main_v86) = unpack8 (W (Proc.devRef .tc main_v48_1)) := by
  after_reads_simp
  rfl
theorem tail2_0 : StableHlo.after ([hostOps1].flatten : List (HloOp τ sig (Elt Ideal))) W (Proc.devRef .tc main_v89) = unpack0 (W (Proc.devRef .tc main_v48_2)) := by
  after_reads_simp
  rfl
theorem tail2_1 : StableHlo.after ([hostOps1].flatten : List (HloOp τ sig (Elt Ideal))) W (Proc.devRef .tc main_v91) = unpack1 (W (Proc.devRef .tc main_v48_2)) := by
  after_reads_simp
  rfl
theorem tail2_2 : StableHlo.after ([hostOps1].flatten : List (HloOp τ sig (Elt Ideal))) W (Proc.devRef .tc main_v93) = unpack2 (W (Proc.devRef .tc main_v48_2)) := by
  after_reads_simp
  rfl
theorem tail2_3 : StableHlo.after ([hostOps1].flatten : List (HloOp τ sig (Elt Ideal))) W (Proc.devRef .tc main_v95) = unpack3 (W (Proc.devRef .tc main_v48_2)) := by
  after_reads_simp
  rfl
theorem tail2_4 : StableHlo.after ([hostOps1].flatten : List (HloOp τ sig (Elt Ideal))) W (Proc.devRef .tc main_v97) = unpack4 (W (Proc.devRef .tc main_v48_2)) := by
  after_reads_simp
  rfl
theorem tail2_5 : StableHlo.after ([hostOps1].flatten : List (HloOp τ sig (Elt Ideal))) W (Proc.devRef .tc main_v99) = unpack5 (W (Proc.devRef .tc main_v48_2)) := by
  after_reads_simp
  rfl
theorem tail2_6 : StableHlo.after ([hostOps1].flatten : List (HloOp τ sig (Elt Ideal))) W (Proc.devRef .tc main_v101) = unpack6 (W (Proc.devRef .tc main_v48_2)) := by
  after_reads_simp
  rfl
theorem tail2_7 : StableHlo.after ([hostOps1].flatten : List (HloOp τ sig (Elt Ideal))) W (Proc.devRef .tc main_v103) = unpack7 (W (Proc.devRef .tc main_v48_2)) := by
  after_reads_simp
  rfl
theorem tail2_8 : StableHlo.after ([hostOps1].flatten : List (HloOp τ sig (Elt Ideal))) W (Proc.devRef .tc main_v105) = unpack8 (W (Proc.devRef .tc main_v48_2)) := by
  after_reads_simp
  rfl

end Cert.AdSmallProof

end
-- ==== Proof.AdSmallProof.lean ====
module

public import proofs.«01_k».proof.Defs
public import proofs.«01_k».proof.Proof.Gen.AdSmall.Frame
public import proofs.«01_k».proof.Proof.Gen.AdSmallRefIdeal.Run
public import proofs.«01_k».proof.Proof.Gen.AdSmallRefIdeal.Read
public import Idealize.ShloMosaic.Lib.Pipeline.ValueKit
public import Idealize.ShloMosaic.Lib.Claim
public import proofs.«01_k».proof.Proof.AdSmallPack
public import proofs.«01_k».proof.Proof.AdSmallUnpack

/-! The step of the small weights: the kernel works on their rows one after another, the reference on each weight. -/

@[expose] public section

set_option maxRecDepth 16384

noncomputable section

namespace Cert.AdSmallProof

open Cert.AdSmallIdeal Cert.AdSmallIdeal.Gen Idealize.ShloMosaic Idealize.ShloMosaic.TcCoe Idealize.SL.Sem
open Cert.AdSmallRefIdeal.Read

variable (m : (ℓ : Loc nD τ sig) → Buf (Elt Ideal) ℓ) (c : Dev nD)

open Cert.AdSmallIdeal Cert.AdSmallIdeal.Gen Idealize.ShloMosaic Idealize.ShloMosaic.TcCoe Idealize.SL.Sem
open Cert.AdSmallRefIdeal.Read

variable (m : (ℓ : Loc nD τ sig) → Buf (Elt Ideal) ℓ) (c : Dev nD)

/-- The new first moment, from the gradient and the old one. -/
def first (g m : EReal) : EReal := Ideal.ofBits FTy.f32 1063675494#32 * m + Ideal.ofBits FTy.f32 1036831949#32 * g

/-- The new second moment, from the gradient and the old one. -/
def second (g v : EReal) : EReal := Ideal.ofBits FTy.f32 1065336439#32 * v + Ideal.ofBits FTy.f32 981668463#32 * (g * g)

/-- The step of one weight. -/
def step (w g m v : EReal) : EReal :=
  Ideal.ofBits FTy.f32 3129152111#32 *
    (Ideal.div (Ideal.div (first g m) (Ideal.ofBits FTy.f32 1059503362#32))
      (Ideal.sqrt (Ideal.div (second g v) (Ideal.ofBits FTy.f32 1008933580#32)) + Ideal.ofBits FTy.f32 841731191#32)
      + Ideal.ofBits FTy.f32 1008981770#32 * w)

abbrev A0 : S32x24.Idx → Elt Ideal .f32 := m ((c : Thread nD τ).loc main_arg0)
abbrev A1 : S4x1024.Idx → Elt Ideal .f32 := m ((c : Thread nD τ).loc main_arg1)
abbrev A2 : S4x64.Idx → Elt Ideal .f32 := m ((c : Thread nD τ).loc main_arg2)
abbrev A3 : S4x64.Idx → Elt Ideal .f32 := m ((c : Thread nD τ).loc main_arg3)
abbrev A4 : S4x31x128.Idx → Elt Ideal .f32 := m ((c : Thread nD τ).loc main_arg4)
abbrev A5 : S4x512.Idx → Elt Ideal .f32 := m ((c : Thread nD τ).loc main_arg5)
abbrev A6 : S4x512.Idx → Elt Ideal .f32 := m ((c : Thread nD τ).loc main_arg6)
abbrev A7 : S4x512.Idx → Elt Ideal .f32 := m ((c : Thread nD τ).loc main_arg7)
abbrev A8 : S4x1024.Idx → Elt Ideal .f32 := m ((c : Thread nD τ).loc main_arg8)
abbrev A9 : S32x24.Idx → Elt Ideal .f32 := m ((c : Thread nD τ).loc main_arg9)
abbrev A10 : S4x1024.Idx → Elt Ideal .f32 := m ((c : Thread nD τ).loc main_arg10)
abbrev A11 : S4x64.Idx → Elt Ideal .f32 := m ((c : Thread nD τ).loc main_arg11)
abbrev A12 : S4x64.Idx → Elt Ideal .f32 := m ((c : Thread nD τ).loc main_arg12)
abbrev A13 : S4x31x128.Idx → Elt Ideal .f32 := m ((c : Thread nD τ).loc main_arg13)
abbrev A14 : S4x512.Idx → Elt Ideal .f32 := m ((c : Thread nD τ).loc main_arg14)
abbrev A15 : S4x512.Idx → Elt Ideal .f32 := m ((c : Thread nD τ).loc main_arg15)
abbrev A16 : S4x512.Idx → Elt Ideal .f32 := m ((c : Thread nD τ).loc main_arg16)
abbrev A17 : S4x1024.Idx → Elt Ideal .f32 := m ((c : Thread nD τ).loc main_arg17)
abbrev A18 : S32x24.Idx → Elt Ideal .f32 := m ((c : Thread nD τ).loc main_arg18)
abbrev A19 : S4x1024.Idx → Elt Ideal .f32 := m ((c : Thread nD τ).loc main_arg19)
abbrev A20 : S4x64.Idx → Elt Ideal .f32 := m ((c : Thread nD τ).loc main_arg20)
abbrev A21 : S4x64.Idx → Elt Ideal .f32 := m ((c : Thread nD τ).loc main_arg21)
abbrev A22 : S4x31x128.Idx → Elt Ideal .f32 := m ((c : Thread nD τ).loc main_arg22)
abbrev A23 : S4x512.Idx → Elt Ideal .f32 := m ((c : Thread nD τ).loc main_arg23)
abbrev A24 : S4x512.Idx → Elt Ideal .f32 := m ((c : Thread nD τ).loc main_arg24)
abbrev A25 : S4x512.Idx → Elt Ideal .f32 := m ((c : Thread nD τ).loc main_arg25)
abbrev A26 : S4x1024.Idx → Elt Ideal .f32 := m ((c : Thread nD τ).loc main_arg26)
abbrev A27 : S32x24.Idx → Elt Ideal .f32 := m ((c : Thread nD τ).loc main_arg27)
abbrev A28 : S4x1024.Idx → Elt Ideal .f32 := m ((c : Thread nD τ).loc main_arg28)
abbrev A29 : S4x64.Idx → Elt Ideal .f32 := m ((c : Thread nD τ).loc main_arg29)
abbrev A30 : S4x64.Idx → Elt Ideal .f32 := m ((c : Thread nD τ).loc main_arg30)
abbrev A31 : S4x31x128.Idx → Elt Ideal .f32 := m ((c : Thread nD τ).loc main_arg31)
abbrev A32 : S4x512.Idx → Elt Ideal .f32 := m ((c : Thread nD τ).loc main_arg32)
abbrev A33 : S4x512.Idx → Elt Ideal .f32 := m ((c : Thread nD τ).loc main_arg33)
abbrev A34 : S4x512.Idx → Elt Ideal .f32 := m ((c : Thread nD τ).loc main_arg34)
abbrev A35 : S4x1024.Idx → Elt Ideal .f32 := m ((c : Thread nD τ).loc main_arg35)
abbrev P0 : S248x128.Idx → Elt Ideal .f32 := pack (A0 m c) (A1 m c) (A2 m c) (A3 m c) (A4 m c) (A5 m c) (A6 m c) (A7 m c) (A8 m c)
abbrev P1 : S248x128.Idx → Elt Ideal .f32 := pack (A9 m c) (A10 m c) (A11 m c) (A12 m c) (A13 m c) (A14 m c) (A15 m c) (A16 m c) (A17 m c)
abbrev P2 : S248x128.Idx → Elt Ideal .f32 := pack (A18 m c) (A19 m c) (A20 m c) (A21 m c) (A22 m c) (A23 m c) (A24 m c) (A25 m c) (A26 m c)
abbrev P3 : S248x128.Idx → Elt Ideal .f32 := pack (A27 m c) (A28 m c) (A29 m c) (A30 m c) (A31 m c) (A32 m c) (A33 m c) (A34 m c) (A35 m c)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)

theorem lt31 (t : Fin cfg0.N) : t.val < 31 := t.isLt

/-- Row `i` of block `t`. -/
abbrev row (t : Fin cfg0.N) (i : Fin 8) : Fin 248 := ⟨t.val * 8 + i.val, by have := lt31 t; have := i.isLt; omega⟩

theorem block0 (t : Fin cfg0.N) (i : Fin 8) (l : Fin 128) : iblk m c 0 t (ix2 i l : S8x128.Idx) = P0 m c (ix2 (row t i) l) := by
  refine Eq.trans ?_ (congrFun (entry0 (fun b => m (c, b))) (ix2 (row t i) l))
  blk_ext [iblk, index0]

theorem block1 (t : Fin cfg0.N) (i : Fin 8) (l : Fin 128) : iblk m c 1 t (ix2 i l : S8x128.Idx) = P1 m c (ix2 (row t i) l) := by
  refine Eq.trans ?_ (congrFun (entry1 (fun b => m (c, b))) (ix2 (row t i) l))
  blk_ext [iblk, index1]

theorem block2 (t : Fin cfg0.N) (i : Fin 8) (l : Fin 128) : iblk m c 2 t (ix2 i l : S8x128.Idx) = P2 m c (ix2 (row t i) l) := by
  refine Eq.trans ?_ (congrFun (entry2 (fun b => m (c, b))) (ix2 (row t i) l))
  blk_ext [iblk, index2]

theorem block3 (t : Fin cfg0.N) (i : Fin 8) (l : Fin 128) : iblk m c 3 t (ix2 i l : S8x128.Idx) = P3 m c (ix2 (row t i) l) := by
  refine Eq.trans ?_ (congrFun (entry3 (fun b => m (c, b))) (ix2 (row t i) l))
  blk_ext [iblk, index3]

theorem final4 : (dats m 0 c).arrAt 4 cfg0.N = fun y : S248x128.Idx => (step (P0 m c y) (P1 m c y) (P2 m c y) (P3 m c y) : EReal) := by
  refine (dats m 0 c).arrAt_eq_of_covers 4 _ (by decide +kernel) fun t hf y => ?_
  obtain ⟨i, l, rfl⟩ : ∃ (i : Fin 8) (l : Fin 128), y = (ix2 i l : S8x128.Idx) := ⟨y 0, y 1, eq_ix2 _⟩
  blk_simp
  rw [after0_4]
  frame_out
  pointwise [k0_pay4, k0_pay3, k0_pay2, k0_pay1]
  have e : ((View.whole main_v48_0).slice (win0_4.rect t)).emb (ix2 i l : S8x128.Idx) = (ix2 (row t i) l : S248x128.Idx) := by
    blk_ext [index4]
  rw [e]
  simp only [step, first, second, ← block0, ← block1, ← block2, ← block3]

theorem final5 : (dats m 0 c).arrAt 5 cfg0.N = fun y : S248x128.Idx => (first (P1 m c y) (P2 m c y) : EReal) := by
  refine (dats m 0 c).arrAt_eq_of_covers 5 _ (by decide +kernel) fun t hf y => ?_
  obtain ⟨i, l, rfl⟩ : ∃ (i : Fin 8) (l : Fin 128), y = (ix2 i l : S8x128.Idx) := ⟨y 0, y 1, eq_ix2 _⟩
  blk_simp
  rw [after0_5]
  frame_out
  pointwise [k0_pay4, k0_pay3, k0_pay2, k0_pay1]
  have e : ((View.whole main_v48_1).slice (win0_5.rect t)).emb (ix2 i l : S8x128.Idx) = (ix2 (row t i) l : S248x128.Idx) := by
    blk_ext [index5]
  rw [e]
  simp only [step, first, second, ← block0, ← block1, ← block2, ← block3]

theorem final6 : (dats m 0 c).arrAt 6 cfg0.N = fun y : S248x128.Idx => (second (P1 m c y) (P3 m c y) : EReal) := by
  refine (dats m 0 c).arrAt_eq_of_covers 6 _ (by decide +kernel) fun t hf y => ?_
  obtain ⟨i, l, rfl⟩ : ∃ (i : Fin 8) (l : Fin 128), y = (ix2 i l : S8x128.Idx) := ⟨y 0, y 1, eq_ix2 _⟩
  blk_simp
  rw [after0_6]
  frame_out
  pointwise [k0_pay4, k0_pay3, k0_pay2, k0_pay1]
  have e : ((View.whole main_v48_2).slice (win0_6.rect t)).emb (ix2 i l : S8x128.Idx) = (ix2 (row t i) l : S248x128.Idx) := by
    blk_ext [index6]
  rw [e]
  simp only [step, first, second, ← block0, ← block1, ← block2, ← block3]

theorem piece0 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack0 (pack a0 a1 a2 a3 a4 a5 a6 a7 a8) = a0 := by
  funext y
  idx_vars y
  pointwise [unpack0, pack, rows]
  rw [dif_pos (by omega), dif_pos (by omega)]
  blk_ext []

theorem piece1 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack1 (pack a0 a1 a2 a3 a4 a5 a6 a7 a8) = a1 := by
  funext y
  idx_vars y
  pointwise [unpack1, pack, rows]
  rw [dif_pos (by omega), dif_pos (by omega)]
  blk_ext []

theorem piece2 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack2 (pack a0 a1 a2 a3 a4 a5 a6 a7 a8) = a2 := by
  funext y
  idx_vars y
  pointwise [unpack2, pack, rows]
  rw [dif_pos (by omega), dif_neg (by omega), dif_neg (by omega), dif_pos (by omega)]
  blk_ext []

theorem piece3 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack3 (pack a0 a1 a2 a3 a4 a5 a6 a7 a8) = a3 := by
  funext y
  idx_vars y
  pointwise [unpack3, pack, rows]
  rw [dif_pos (by omega), dif_neg (by omega), dif_neg (by omega), dif_neg (by omega), dif_pos (by omega)]
  blk_ext []

theorem piece4 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack4 (pack a0 a1 a2 a3 a4 a5 a6 a7 a8) = a4 := by
  funext y
  idx_vars y
  pointwise [unpack4, pack, rows]
  rw [dif_pos (by omega), dif_neg (by omega), dif_neg (by omega), dif_neg (by omega), dif_neg (by omega), dif_pos (by omega)]
  blk_ext []

theorem piece5 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack5 (pack a0 a1 a2 a3 a4 a5 a6 a7 a8) = a5 := by
  funext y
  idx_vars y
  pointwise [unpack5, pack, rows]
  rw [dif_pos (by omega), dif_neg (by omega), dif_neg (by omega), dif_neg (by omega), dif_neg (by omega), dif_neg (by omega), dif_pos (by omega)]
  blk_ext []

theorem piece6 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack6 (pack a0 a1 a2 a3 a4 a5 a6 a7 a8) = a6 := by
  funext y
  idx_vars y
  pointwise [unpack6, pack, rows]
  rw [dif_pos (by omega), dif_neg (by omega), dif_neg (by omega), dif_neg (by omega), dif_neg (by omega), dif_neg (by omega), dif_neg (by omega), dif_pos (by omega)]
  blk_ext []

theorem piece7 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack7 (pack a0 a1 a2 a3 a4 a5 a6 a7 a8) = a7 := by
  funext y
  idx_vars y
  pointwise [unpack7, pack, rows]
  rw [dif_pos (by omega), dif_neg (by omega), dif_neg (by omega), dif_neg (by omega), dif_neg (by omega), dif_neg (by omega), dif_neg (by omega), dif_neg (by omega), dif_pos (by omega)]
  blk_ext []

theorem piece8 (a0 : S32x24.Idx → Elt Ideal .f32) (a1 : S4x1024.Idx → Elt Ideal .f32) (a2 a3 : S4x64.Idx → Elt Ideal .f32)
    (a4 : S4x31x128.Idx → Elt Ideal .f32) (a5 a6 a7 : S4x512.Idx → Elt Ideal .f32) (a8 : S4x1024.Idx → Elt Ideal .f32) :
    unpack8 (pack a0 a1 a2 a3 a4 a5 a6 a7 a8) = a8 := by
  funext y
  idx_vars y
  pointwise [unpack8, pack, rows]
  rw [dif_pos (by omega), dif_neg (by omega), dif_neg (by omega), dif_neg (by omega), dif_neg (by omega), dif_neg (by omega), dif_neg (by omega), dif_neg (by omega), dif_neg (by omega)]
  blk_ext []

theorem value0_0 (w g m v : S32x24.Idx → Elt Ideal .f32) : (val_main_v23 (F := Ideal) w g m v : S32x24.Idx → EReal) = fun y => step (w y) (g y) (m y) (v y) := by
  funext y
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  rfl

theorem value0_1 (w g m v : S4x1024.Idx → Elt Ideal .f32) : (val_main_v47 (F := Ideal) w g m v : S4x1024.Idx → EReal) = fun y => step (w y) (g y) (m y) (v y) := by
  funext y
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15]
  rfl

theorem value0_2 (w g m v : S4x64.Idx → Elt Ideal .f32) : (val_main_v71 (F := Ideal) w g m v : S4x64.Idx → EReal) = fun y => step (w y) (g y) (m y) (v y) := by
  funext y
  pointwise [val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24]
  rfl

theorem value0_3 (w g m v : S4x64.Idx → Elt Ideal .f32) : (val_main_v95 (F := Ideal) w g m v : S4x64.Idx → EReal) = fun y => step (w y) (g y) (m y) (v y) := by
  funext y
  pointwise [val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33]
  rfl

theorem value0_4 (w g m v : S4x31x128.Idx → Elt Ideal .f32) : (val_main_v119 (F := Ideal) w g m v : S4x31x128.Idx → EReal) = fun y => step (w y) (g y) (m y) (v y) := by
  funext y
  pointwise [val_main_v119, val_main_v118, val_main_cst_43, val_main_v117, val_main_v114, val_main_v108, val_main_v100, val_main_v97, val_main_v96, val_main_cst_35, val_main_v99, val_main_v98, val_main_cst_36, val_main_v107, val_main_cst_39, val_main_v113, val_main_v111, val_main_v110, val_main_v106, val_main_v102, val_main_v101, val_main_cst_37, val_main_v105, val_main_v104, val_main_cst_38, val_main_v103, val_main_v109, val_main_cst_40, val_main_v112, val_main_cst_41, val_main_v116, val_main_v115, val_main_cst_42]
  rfl

theorem value0_5 (w g m v : S4x512.Idx → Elt Ideal .f32) : (val_main_v143 (F := Ideal) w g m v : S4x512.Idx → EReal) = fun y => step (w y) (g y) (m y) (v y) := by
  funext y
  pointwise [val_main_v143, val_main_v142, val_main_cst_52, val_main_v141, val_main_v138, val_main_v132, val_main_v124, val_main_v121, val_main_v120, val_main_cst_44, val_main_v123, val_main_v122, val_main_cst_45, val_main_v131, val_main_cst_48, val_main_v137, val_main_v135, val_main_v134, val_main_v130, val_main_v126, val_main_v125, val_main_cst_46, val_main_v129, val_main_v128, val_main_cst_47, val_main_v127, val_main_v133, val_main_cst_49, val_main_v136, val_main_cst_50, val_main_v140, val_main_v139, val_main_cst_51]
  rfl

theorem value0_6 (w g m v : S4x512.Idx → Elt Ideal .f32) : (val_main_v167 (F := Ideal) w g m v : S4x512.Idx → EReal) = fun y => step (w y) (g y) (m y) (v y) := by
  funext y
  pointwise [val_main_v167, val_main_v166, val_main_cst_61, val_main_v165, val_main_v162, val_main_v156, val_main_v148, val_main_v145, val_main_v144, val_main_cst_53, val_main_v147, val_main_v146, val_main_cst_54, val_main_v155, val_main_cst_57, val_main_v161, val_main_v159, val_main_v158, val_main_v154, val_main_v150, val_main_v149, val_main_cst_55, val_main_v153, val_main_v152, val_main_cst_56, val_main_v151, val_main_v157, val_main_cst_58, val_main_v160, val_main_cst_59, val_main_v164, val_main_v163, val_main_cst_60]
  rfl

theorem value0_7 (w g m v : S4x512.Idx → Elt Ideal .f32) : (val_main_v191 (F := Ideal) w g m v : S4x512.Idx → EReal) = fun y => step (w y) (g y) (m y) (v y) := by
  funext y
  pointwise [val_main_v191, val_main_v190, val_main_cst_70, val_main_v189, val_main_v186, val_main_v180, val_main_v172, val_main_v169, val_main_v168, val_main_cst_62, val_main_v171, val_main_v170, val_main_cst_63, val_main_v179, val_main_cst_66, val_main_v185, val_main_v183, val_main_v182, val_main_v178, val_main_v174, val_main_v173, val_main_cst_64, val_main_v177, val_main_v176, val_main_cst_65, val_main_v175, val_main_v181, val_main_cst_67, val_main_v184, val_main_cst_68, val_main_v188, val_main_v187, val_main_cst_69]
  rfl

theorem value0_8 (w g m v : S4x1024.Idx → Elt Ideal .f32) : (val_main_v215 (F := Ideal) w g m v : S4x1024.Idx → EReal) = fun y => step (w y) (g y) (m y) (v y) := by
  funext y
  pointwise [val_main_v215, val_main_v214, val_main_cst_79, val_main_v213, val_main_v210, val_main_v204, val_main_v196, val_main_v193, val_main_v192, val_main_cst_71, val_main_v195, val_main_v194, val_main_cst_72, val_main_v203, val_main_cst_75, val_main_v209, val_main_v207, val_main_v206, val_main_v202, val_main_v198, val_main_v197, val_main_cst_73, val_main_v201, val_main_v200, val_main_cst_74, val_main_v199, val_main_v205, val_main_cst_76, val_main_v208, val_main_cst_77, val_main_v212, val_main_v211, val_main_cst_78]
  rfl

theorem value1_0 (g m : S32x24.Idx → Elt Ideal .f32) : (val_main_v4 (F := Ideal) g m : S32x24.Idx → EReal) = fun y => first (g y) (m y) := by
  funext y
  pointwise [val_main_v4, val_main_v1, val_main_v0, val_main_cst, val_main_v3, val_main_v2, val_main_cst_0]
  rfl

theorem value1_1 (g m : S4x1024.Idx → Elt Ideal .f32) : (val_main_v28 (F := Ideal) g m : S4x1024.Idx → EReal) = fun y => first (g y) (m y) := by
  funext y
  pointwise [val_main_v28, val_main_v25, val_main_v24, val_main_cst_8, val_main_v27, val_main_v26, val_main_cst_9]
  rfl

theorem value1_2 (g m : S4x64.Idx → Elt Ideal .f32) : (val_main_v52 (F := Ideal) g m : S4x64.Idx → EReal) = fun y => first (g y) (m y) := by
  funext y
  pointwise [val_main_v52, val_main_v49, val_main_v48, val_main_cst_17, val_main_v51, val_main_v50, val_main_cst_18]
  rfl

theorem value1_3 (g m : S4x64.Idx → Elt Ideal .f32) : (val_main_v76 (F := Ideal) g m : S4x64.Idx → EReal) = fun y => first (g y) (m y) := by
  funext y
  pointwise [val_main_v76, val_main_v73, val_main_v72, val_main_cst_26, val_main_v75, val_main_v74, val_main_cst_27]
  rfl

theorem value1_4 (g m : S4x31x128.Idx → Elt Ideal .f32) : (val_main_v100 (F := Ideal) g m : S4x31x128.Idx → EReal) = fun y => first (g y) (m y) := by
  funext y
  pointwise [val_main_v100, val_main_v97, val_main_v96, val_main_cst_35, val_main_v99, val_main_v98, val_main_cst_36]
  rfl

theorem value1_5 (g m : S4x512.Idx → Elt Ideal .f32) : (val_main_v124 (F := Ideal) g m : S4x512.Idx → EReal) = fun y => first (g y) (m y) := by
  funext y
  pointwise [val_main_v124, val_main_v121, val_main_v120, val_main_cst_44, val_main_v123, val_main_v122, val_main_cst_45]
  rfl

theorem value1_6 (g m : S4x512.Idx → Elt Ideal .f32) : (val_main_v148 (F := Ideal) g m : S4x512.Idx → EReal) = fun y => first (g y) (m y) := by
  funext y
  pointwise [val_main_v148, val_main_v145, val_main_v144, val_main_cst_53, val_main_v147, val_main_v146, val_main_cst_54]
  rfl

theorem value1_7 (g m : S4x512.Idx → Elt Ideal .f32) : (val_main_v172 (F := Ideal) g m : S4x512.Idx → EReal) = fun y => first (g y) (m y) := by
  funext y
  pointwise [val_main_v172, val_main_v169, val_main_v168, val_main_cst_62, val_main_v171, val_main_v170, val_main_cst_63]
  rfl

theorem value1_8 (g m : S4x1024.Idx → Elt Ideal .f32) : (val_main_v196 (F := Ideal) g m : S4x1024.Idx → EReal) = fun y => first (g y) (m y) := by
  funext y
  pointwise [val_main_v196, val_main_v193, val_main_v192, val_main_cst_71, val_main_v195, val_main_v194, val_main_cst_72]
  rfl

theorem value2_0 (g v : S32x24.Idx → Elt Ideal .f32) : (val_main_v10 (F := Ideal) g v : S32x24.Idx → EReal) = fun y => second (g y) (v y) := by
  funext y
  pointwise [val_main_v10, val_main_v6, val_main_v5, val_main_cst_1, val_main_v9, val_main_v8, val_main_cst_2, val_main_v7]
  rfl

theorem value2_1 (g v : S4x1024.Idx → Elt Ideal .f32) : (val_main_v34 (F := Ideal) g v : S4x1024.Idx → EReal) = fun y => second (g y) (v y) := by
  funext y
  pointwise [val_main_v34, val_main_v30, val_main_v29, val_main_cst_10, val_main_v33, val_main_v32, val_main_cst_11, val_main_v31]
  rfl

theorem value2_2 (g v : S4x64.Idx → Elt Ideal .f32) : (val_main_v58 (F := Ideal) g v : S4x64.Idx → EReal) = fun y => second (g y) (v y) := by
  funext y
  pointwise [val_main_v58, val_main_v54, val_main_v53, val_main_cst_19, val_main_v57, val_main_v56, val_main_cst_20, val_main_v55]
  rfl

theorem value2_3 (g v : S4x64.Idx → Elt Ideal .f32) : (val_main_v82 (F := Ideal) g v : S4x64.Idx → EReal) = fun y => second (g y) (v y) := by
  funext y
  pointwise [val_main_v82, val_main_v78, val_main_v77, val_main_cst_28, val_main_v81, val_main_v80, val_main_cst_29, val_main_v79]
  rfl

theorem value2_4 (g v : S4x31x128.Idx → Elt Ideal .f32) : (val_main_v106 (F := Ideal) g v : S4x31x128.Idx → EReal) = fun y => second (g y) (v y) := by
  funext y
  pointwise [val_main_v106, val_main_v102, val_main_v101, val_main_cst_37, val_main_v105, val_main_v104, val_main_cst_38, val_main_v103]
  rfl

theorem value2_5 (g v : S4x512.Idx → Elt Ideal .f32) : (val_main_v130 (F := Ideal) g v : S4x512.Idx → EReal) = fun y => second (g y) (v y) := by
  funext y
  pointwise [val_main_v130, val_main_v126, val_main_v125, val_main_cst_46, val_main_v129, val_main_v128, val_main_cst_47, val_main_v127]
  rfl

theorem value2_6 (g v : S4x512.Idx → Elt Ideal .f32) : (val_main_v154 (F := Ideal) g v : S4x512.Idx → EReal) = fun y => second (g y) (v y) := by
  funext y
  pointwise [val_main_v154, val_main_v150, val_main_v149, val_main_cst_55, val_main_v153, val_main_v152, val_main_cst_56, val_main_v151]
  rfl

theorem value2_7 (g v : S4x512.Idx → Elt Ideal .f32) : (val_main_v178 (F := Ideal) g v : S4x512.Idx → EReal) = fun y => second (g y) (v y) := by
  funext y
  pointwise [val_main_v178, val_main_v174, val_main_v173, val_main_cst_64, val_main_v177, val_main_v176, val_main_cst_65, val_main_v175]
  rfl

theorem value2_8 (g v : S4x1024.Idx → Elt Ideal .f32) : (val_main_v202 (F := Ideal) g v : S4x1024.Idx → EReal) = fun y => second (g y) (v y) := by
  funext y
  pointwise [val_main_v202, val_main_v198, val_main_v197, val_main_cst_73, val_main_v201, val_main_v200, val_main_cst_74, val_main_v199]
  rfl

theorem result0_0 : Pipeline.afterTail₀ cfgs (dats m) 0 (V0 m) [hostOps1] c main_v51 = val_main_v23 (F := Ideal) (A0 m c) (A9 m c) (A18 m c) (A27 m c) := by
  refine (tail0_0 _).trans ?_
  refine (congrArg unpack0 ((Pipeline.withArrays_arr spec0 launch0.win.arr_inj c (V0 m c) (fun w => (dats m 0 c).arrAt w cfg0.N) 4).trans (final4 m c))).trans ?_
  refine Eq.trans ?_ (value0_0 (A0 m c) (A9 m c) (A18 m c) (A27 m c)).symm
  refine Eq.trans (show _ = fun y => step (unpack0 (P0 m c) y) (unpack0 (P1 m c) y) (unpack0 (P2 m c) y) (unpack0 (P3 m c) y) from rfl) ?_
  funext y
  rw [piece0 (A0 m c) (A1 m c) (A2 m c) (A3 m c) (A4 m c) (A5 m c) (A6 m c) (A7 m c) (A8 m c), piece0 (A9 m c) (A10 m c) (A11 m c) (A12 m c) (A13 m c) (A14 m c) (A15 m c) (A16 m c) (A17 m c), piece0 (A18 m c) (A19 m c) (A20 m c) (A21 m c) (A22 m c) (A23 m c) (A24 m c) (A25 m c) (A26 m c), piece0 (A27 m c) (A28 m c) (A29 m c) (A30 m c) (A31 m c) (A32 m c) (A33 m c) (A34 m c) (A35 m c)]

theorem result0_1 : Pipeline.afterTail₀ cfgs (dats m) 0 (V0 m) [hostOps1] c main_v53 = val_main_v47 (F := Ideal) (A1 m c) (A10 m c) (A19 m c) (A28 m c) := by
  refine (tail0_1 _).trans ?_
  refine (congrArg unpack1 ((Pipeline.withArrays_arr spec0 launch0.win.arr_inj c (V0 m c) (fun w => (dats m 0 c).arrAt w cfg0.N) 4).trans (final4 m c))).trans ?_
  refine Eq.trans ?_ (value0_1 (A1 m c) (A10 m c) (A19 m c) (A28 m c)).symm
  refine Eq.trans (show _ = fun y => step (unpack1 (P0 m c) y) (unpack1 (P1 m c) y) (unpack1 (P2 m c) y) (unpack1 (P3 m c) y) from rfl) ?_
  funext y
  rw [piece1 (A0 m c) (A1 m c) (A2 m c) (A3 m c) (A4 m c) (A5 m c) (A6 m c) (A7 m c) (A8 m c), piece1 (A9 m c) (A10 m c) (A11 m c) (A12 m c) (A13 m c) (A14 m c) (A15 m c) (A16 m c) (A17 m c), piece1 (A18 m c) (A19 m c) (A20 m c) (A21 m c) (A22 m c) (A23 m c) (A24 m c) (A25 m c) (A26 m c), piece1 (A27 m c) (A28 m c) (A29 m c) (A30 m c) (A31 m c) (A32 m c) (A33 m c) (A34 m c) (A35 m c)]

theorem result0_2 : Pipeline.afterTail₀ cfgs (dats m) 0 (V0 m) [hostOps1] c main_v55 = val_main_v71 (F := Ideal) (A2 m c) (A11 m c) (A20 m c) (A29 m c) := by
  refine (tail0_2 _).trans ?_
  refine (congrArg unpack2 ((Pipeline.withArrays_arr spec0 launch0.win.arr_inj c (V0 m c) (fun w => (dats m 0 c).arrAt w cfg0.N) 4).trans (final4 m c))).trans ?_
  refine Eq.trans ?_ (value0_2 (A2 m c) (A11 m c) (A20 m c) (A29 m c)).symm
  refine Eq.trans (show _ = fun y => step (unpack2 (P0 m c) y) (unpack2 (P1 m c) y) (unpack2 (P2 m c) y) (unpack2 (P3 m c) y) from rfl) ?_
  funext y
  rw [piece2 (A0 m c) (A1 m c) (A2 m c) (A3 m c) (A4 m c) (A5 m c) (A6 m c) (A7 m c) (A8 m c), piece2 (A9 m c) (A10 m c) (A11 m c) (A12 m c) (A13 m c) (A14 m c) (A15 m c) (A16 m c) (A17 m c), piece2 (A18 m c) (A19 m c) (A20 m c) (A21 m c) (A22 m c) (A23 m c) (A24 m c) (A25 m c) (A26 m c), piece2 (A27 m c) (A28 m c) (A29 m c) (A30 m c) (A31 m c) (A32 m c) (A33 m c) (A34 m c) (A35 m c)]

theorem result0_3 : Pipeline.afterTail₀ cfgs (dats m) 0 (V0 m) [hostOps1] c main_v57 = val_main_v95 (F := Ideal) (A3 m c) (A12 m c) (A21 m c) (A30 m c) := by
  refine (tail0_3 _).trans ?_
  refine (congrArg unpack3 ((Pipeline.withArrays_arr spec0 launch0.win.arr_inj c (V0 m c) (fun w => (dats m 0 c).arrAt w cfg0.N) 4).trans (final4 m c))).trans ?_
  refine Eq.trans ?_ (value0_3 (A3 m c) (A12 m c) (A21 m c) (A30 m c)).symm
  refine Eq.trans (show _ = fun y => step (unpack3 (P0 m c) y) (unpack3 (P1 m c) y) (unpack3 (P2 m c) y) (unpack3 (P3 m c) y) from rfl) ?_
  funext y
  rw [piece3 (A0 m c) (A1 m c) (A2 m c) (A3 m c) (A4 m c) (A5 m c) (A6 m c) (A7 m c) (A8 m c), piece3 (A9 m c) (A10 m c) (A11 m c) (A12 m c) (A13 m c) (A14 m c) (A15 m c) (A16 m c) (A17 m c), piece3 (A18 m c) (A19 m c) (A20 m c) (A21 m c) (A22 m c) (A23 m c) (A24 m c) (A25 m c) (A26 m c), piece3 (A27 m c) (A28 m c) (A29 m c) (A30 m c) (A31 m c) (A32 m c) (A33 m c) (A34 m c) (A35 m c)]

theorem result0_4 : Pipeline.afterTail₀ cfgs (dats m) 0 (V0 m) [hostOps1] c main_v59 = val_main_v119 (F := Ideal) (A4 m c) (A13 m c) (A22 m c) (A31 m c) := by
  refine (tail0_4 _).trans ?_
  refine (congrArg unpack4 ((Pipeline.withArrays_arr spec0 launch0.win.arr_inj c (V0 m c) (fun w => (dats m 0 c).arrAt w cfg0.N) 4).trans (final4 m c))).trans ?_
  refine Eq.trans ?_ (value0_4 (A4 m c) (A13 m c) (A22 m c) (A31 m c)).symm
  refine Eq.trans (show _ = fun y => step (unpack4 (P0 m c) y) (unpack4 (P1 m c) y) (unpack4 (P2 m c) y) (unpack4 (P3 m c) y) from rfl) ?_
  funext y
  rw [piece4 (A0 m c) (A1 m c) (A2 m c) (A3 m c) (A4 m c) (A5 m c) (A6 m c) (A7 m c) (A8 m c), piece4 (A9 m c) (A10 m c) (A11 m c) (A12 m c) (A13 m c) (A14 m c) (A15 m c) (A16 m c) (A17 m c), piece4 (A18 m c) (A19 m c) (A20 m c) (A21 m c) (A22 m c) (A23 m c) (A24 m c) (A25 m c) (A26 m c), piece4 (A27 m c) (A28 m c) (A29 m c) (A30 m c) (A31 m c) (A32 m c) (A33 m c) (A34 m c) (A35 m c)]

theorem result0_5 : Pipeline.afterTail₀ cfgs (dats m) 0 (V0 m) [hostOps1] c main_v61 = val_main_v143 (F := Ideal) (A5 m c) (A14 m c) (A23 m c) (A32 m c) := by
  refine (tail0_5 _).trans ?_
  refine (congrArg unpack5 ((Pipeline.withArrays_arr spec0 launch0.win.arr_inj c (V0 m c) (fun w => (dats m 0 c).arrAt w cfg0.N) 4).trans (final4 m c))).trans ?_
  refine Eq.trans ?_ (value0_5 (A5 m c) (A14 m c) (A23 m c) (A32 m c)).symm
  refine Eq.trans (show _ = fun y => step (unpack5 (P0 m c) y) (unpack5 (P1 m c) y) (unpack5 (P2 m c) y) (unpack5 (P3 m c) y) from rfl) ?_
  funext y
  rw [piece5 (A0 m c) (A1 m c) (A2 m c) (A3 m c) (A4 m c) (A5 m c) (A6 m c) (A7 m c) (A8 m c), piece5 (A9 m c) (A10 m c) (A11 m c) (A12 m c) (A13 m c) (A14 m c) (A15 m c) (A16 m c) (A17 m c), piece5 (A18 m c) (A19 m c) (A20 m c) (A21 m c) (A22 m c) (A23 m c) (A24 m c) (A25 m c) (A26 m c), piece5 (A27 m c) (A28 m c) (A29 m c) (A30 m c) (A31 m c) (A32 m c) (A33 m c) (A34 m c) (A35 m c)]

theorem result0_6 : Pipeline.afterTail₀ cfgs (dats m) 0 (V0 m) [hostOps1] c main_v63 = val_main_v167 (F := Ideal) (A6 m c) (A15 m c) (A24 m c) (A33 m c) := by
  refine (tail0_6 _).trans ?_
  refine (congrArg unpack6 ((Pipeline.withArrays_arr spec0 launch0.win.arr_inj c (V0 m c) (fun w => (dats m 0 c).arrAt w cfg0.N) 4).trans (final4 m c))).trans ?_
  refine Eq.trans ?_ (value0_6 (A6 m c) (A15 m c) (A24 m c) (A33 m c)).symm
  refine Eq.trans (show _ = fun y => step (unpack6 (P0 m c) y) (unpack6 (P1 m c) y) (unpack6 (P2 m c) y) (unpack6 (P3 m c) y) from rfl) ?_
  funext y
  rw [piece6 (A0 m c) (A1 m c) (A2 m c) (A3 m c) (A4 m c) (A5 m c) (A6 m c) (A7 m c) (A8 m c), piece6 (A9 m c) (A10 m c) (A11 m c) (A12 m c) (A13 m c) (A14 m c) (A15 m c) (A16 m c) (A17 m c), piece6 (A18 m c) (A19 m c) (A20 m c) (A21 m c) (A22 m c) (A23 m c) (A24 m c) (A25 m c) (A26 m c), piece6 (A27 m c) (A28 m c) (A29 m c) (A30 m c) (A31 m c) (A32 m c) (A33 m c) (A34 m c) (A35 m c)]

theorem result0_7 : Pipeline.afterTail₀ cfgs (dats m) 0 (V0 m) [hostOps1] c main_v65 = val_main_v191 (F := Ideal) (A7 m c) (A16 m c) (A25 m c) (A34 m c) := by
  refine (tail0_7 _).trans ?_
  refine (congrArg unpack7 ((Pipeline.withArrays_arr spec0 launch0.win.arr_inj c (V0 m c) (fun w => (dats m 0 c).arrAt w cfg0.N) 4).trans (final4 m c))).trans ?_
  refine Eq.trans ?_ (value0_7 (A7 m c) (A16 m c) (A25 m c) (A34 m c)).symm
  refine Eq.trans (show _ = fun y => step (unpack7 (P0 m c) y) (unpack7 (P1 m c) y) (unpack7 (P2 m c) y) (unpack7 (P3 m c) y) from rfl) ?_
  funext y
  rw [piece7 (A0 m c) (A1 m c) (A2 m c) (A3 m c) (A4 m c) (A5 m c) (A6 m c) (A7 m c) (A8 m c), piece7 (A9 m c) (A10 m c) (A11 m c) (A12 m c) (A13 m c) (A14 m c) (A15 m c) (A16 m c) (A17 m c), piece7 (A18 m c) (A19 m c) (A20 m c) (A21 m c) (A22 m c) (A23 m c) (A24 m c) (A25 m c) (A26 m c), piece7 (A27 m c) (A28 m c) (A29 m c) (A30 m c) (A31 m c) (A32 m c) (A33 m c) (A34 m c) (A35 m c)]

theorem result0_8 : Pipeline.afterTail₀ cfgs (dats m) 0 (V0 m) [hostOps1] c main_v67 = val_main_v215 (F := Ideal) (A8 m c) (A17 m c) (A26 m c) (A35 m c) := by
  refine (tail0_8 _).trans ?_
  refine (congrArg unpack8 ((Pipeline.withArrays_arr spec0 launch0.win.arr_inj c (V0 m c) (fun w => (dats m 0 c).arrAt w cfg0.N) 4).trans (final4 m c))).trans ?_
  refine Eq.trans ?_ (value0_8 (A8 m c) (A17 m c) (A26 m c) (A35 m c)).symm
  refine Eq.trans (show _ = fun y => step (unpack8 (P0 m c) y) (unpack8 (P1 m c) y) (unpack8 (P2 m c) y) (unpack8 (P3 m c) y) from rfl) ?_
  funext y
  rw [piece8 (A0 m c) (A1 m c) (A2 m c) (A3 m c) (A4 m c) (A5 m c) (A6 m c) (A7 m c) (A8 m c), piece8 (A9 m c) (A10 m c) (A11 m c) (A12 m c) (A13 m c) (A14 m c) (A15 m c) (A16 m c) (A17 m c), piece8 (A18 m c) (A19 m c) (A20 m c) (A21 m c) (A22 m c) (A23 m c) (A24 m c) (A25 m c) (A26 m c), piece8 (A27 m c) (A28 m c) (A29 m c) (A30 m c) (A31 m c) (A32 m c) (A33 m c) (A34 m c) (A35 m c)]

theorem result1_0 : Pipeline.afterTail₀ cfgs (dats m) 0 (V0 m) [hostOps1] c main_v70 = val_main_v4 (F := Ideal) (A9 m c) (A18 m c) := by
  refine (tail1_0 _).trans ?_
  refine (congrArg unpack0 ((Pipeline.withArrays_arr spec0 launch0.win.arr_inj c (V0 m c) (fun w => (dats m 0 c).arrAt w cfg0.N) 5).trans (final5 m c))).trans ?_
  refine Eq.trans ?_ (value1_0 (A9 m c) (A18 m c)).symm
  refine Eq.trans (show _ = fun y => first (unpack0 (P1 m c) y) (unpack0 (P2 m c) y) from rfl) ?_
  funext y
  rw [piece0 (A9 m c) (A10 m c) (A11 m c) (A12 m c) (A13 m c) (A14 m c) (A15 m c) (A16 m c) (A17 m c), piece0 (A18 m c) (A19 m c) (A20 m c) (A21 m c) (A22 m c) (A23 m c) (A24 m c) (A25 m c) (A26 m c)]

theorem result1_1 : Pipeline.afterTail₀ cfgs (dats m) 0 (V0 m) [hostOps1] c main_v72 = val_main_v28 (F := Ideal) (A10 m c) (A19 m c) := by
  refine (tail1_1 _).trans ?_
  refine (congrArg unpack1 ((Pipeline.withArrays_arr spec0 launch0.win.arr_inj c (V0 m c) (fun w => (dats m 0 c).arrAt w cfg0.N) 5).trans (final5 m c))).trans ?_
  refine Eq.trans ?_ (value1_1 (A10 m c) (A19 m c)).symm
  refine Eq.trans (show _ = fun y => first (unpack1 (P1 m c) y) (unpack1 (P2 m c) y) from rfl) ?_
  funext y
  rw [piece1 (A9 m c) (A10 m c) (A11 m c) (A12 m c) (A13 m c) (A14 m c) (A15 m c) (A16 m c) (A17 m c), piece1 (A18 m c) (A19 m c) (A20 m c) (A21 m c) (A22 m c) (A23 m c) (A24 m c) (A25 m c) (A26 m c)]

theorem result1_2 : Pipeline.afterTail₀ cfgs (dats m) 0 (V0 m) [hostOps1] c main_v74 = val_main_v52 (F := Ideal) (A11 m c) (A20 m c) := by
  refine (tail1_2 _).trans ?_
  refine (congrArg unpack2 ((Pipeline.withArrays_arr spec0 launch0.win.arr_inj c (V0 m c) (fun w => (dats m 0 c).arrAt w cfg0.N) 5).trans (final5 m c))).trans ?_
  refine Eq.trans ?_ (value1_2 (A11 m c) (A20 m c)).symm
  refine Eq.trans (show _ = fun y => first (unpack2 (P1 m c) y) (unpack2 (P2 m c) y) from rfl) ?_
  funext y
  rw [piece2 (A9 m c) (A10 m c) (A11 m c) (A12 m c) (A13 m c) (A14 m c) (A15 m c) (A16 m c) (A17 m c), piece2 (A18 m c) (A19 m c) (A20 m c) (A21 m c) (A22 m c) (A23 m c) (A24 m c) (A25 m c) (A26 m c)]

theorem result1_3 : Pipeline.afterTail₀ cfgs (dats m) 0 (V0 m) [hostOps1] c main_v76 = val_main_v76 (F := Ideal) (A12 m c) (A21 m c) := by
  refine (tail1_3 _).trans ?_
  refine (congrArg unpack3 ((Pipeline.withArrays_arr spec0 launch0.win.arr_inj c (V0 m c) (fun w => (dats m 0 c).arrAt w cfg0.N) 5).trans (final5 m c))).trans ?_
  refine Eq.trans ?_ (value1_3 (A12 m c) (A21 m c)).symm
  refine Eq.trans (show _ = fun y => first (unpack3 (P1 m c) y) (unpack3 (P2 m c) y) from rfl) ?_
  funext y
  rw [piece3 (A9 m c) (A10 m c) (A11 m c) (A12 m c) (A13 m c) (A14 m c) (A15 m c) (A16 m c) (A17 m c), piece3 (A18 m c) (A19 m c) (A20 m c) (A21 m c) (A22 m c) (A23 m c) (A24 m c) (A25 m c) (A26 m c)]

theorem result1_4 : Pipeline.afterTail₀ cfgs (dats m) 0 (V0 m) [hostOps1] c main_v78 = val_main_v100 (F := Ideal) (A13 m c) (A22 m c) := by
  refine (tail1_4 _).trans ?_
  refine (congrArg unpack4 ((Pipeline.withArrays_arr spec0 launch0.win.arr_inj c (V0 m c) (fun w => (dats m 0 c).arrAt w cfg0.N) 5).trans (final5 m c))).trans ?_
  refine Eq.trans ?_ (value1_4 (A13 m c) (A22 m c)).symm
  refine Eq.trans (show _ = fun y => first (unpack4 (P1 m c) y) (unpack4 (P2 m c) y) from rfl) ?_
  funext y
  rw [piece4 (A9 m c) (A10 m c) (A11 m c) (A12 m c) (A13 m c) (A14 m c) (A15 m c) (A16 m c) (A17 m c), piece4 (A18 m c) (A19 m c) (A20 m c) (A21 m c) (A22 m c) (A23 m c) (A24 m c) (A25 m c) (A26 m c)]

theorem result1_5 : Pipeline.afterTail₀ cfgs (dats m) 0 (V0 m) [hostOps1] c main_v80 = val_main_v124 (F := Ideal) (A14 m c) (A23 m c) := by
  refine (tail1_5 _).trans ?_
  refine (congrArg unpack5 ((Pipeline.withArrays_arr spec0 launch0.win.arr_inj c (V0 m c) (fun w => (dats m 0 c).arrAt w cfg0.N) 5).trans (final5 m c))).trans ?_
  refine Eq.trans ?_ (value1_5 (A14 m c) (A23 m c)).symm
  refine Eq.trans (show _ = fun y => first (unpack5 (P1 m c) y) (unpack5 (P2 m c) y) from rfl) ?_
  funext y
  rw [piece5 (A9 m c) (A10 m c) (A11 m c) (A12 m c) (A13 m c) (A14 m c) (A15 m c) (A16 m c) (A17 m c), piece5 (A18 m c) (A19 m c) (A20 m c) (A21 m c) (A22 m c) (A23 m c) (A24 m c) (A25 m c) (A26 m c)]

theorem result1_6 : Pipeline.afterTail₀ cfgs (dats m) 0 (V0 m) [hostOps1] c main_v82 = val_main_v148 (F := Ideal) (A15 m c) (A24 m c) := by
  refine (tail1_6 _).trans ?_
  refine (congrArg unpack6 ((Pipeline.withArrays_arr spec0 launch0.win.arr_inj c (V0 m c) (fun w => (dats m 0 c).arrAt w cfg0.N) 5).trans (final5 m c))).trans ?_
  refine Eq.trans ?_ (value1_6 (A15 m c) (A24 m c)).symm
  refine Eq.trans (show _ = fun y => first (unpack6 (P1 m c) y) (unpack6 (P2 m c) y) from rfl) ?_
  funext y
  rw [piece6 (A9 m c) (A10 m c) (A11 m c) (A12 m c) (A13 m c) (A14 m c) (A15 m c) (A16 m c) (A17 m c), piece6 (A18 m c) (A19 m c) (A20 m c) (A21 m c) (A22 m c) (A23 m c) (A24 m c) (A25 m c) (A26 m c)]

theorem result1_7 : Pipeline.afterTail₀ cfgs (dats m) 0 (V0 m) [hostOps1] c main_v84 = val_main_v172 (F := Ideal) (A16 m c) (A25 m c) := by
  refine (tail1_7 _).trans ?_
  refine (congrArg unpack7 ((Pipeline.withArrays_arr spec0 launch0.win.arr_inj c (V0 m c) (fun w => (dats m 0 c).arrAt w cfg0.N) 5).trans (final5 m c))).trans ?_
  refine Eq.trans ?_ (value1_7 (A16 m c) (A25 m c)).symm
  refine Eq.trans (show _ = fun y => first (unpack7 (P1 m c) y) (unpack7 (P2 m c) y) from rfl) ?_
  funext y
  rw [piece7 (A9 m c) (A10 m c) (A11 m c) (A12 m c) (A13 m c) (A14 m c) (A15 m c) (A16 m c) (A17 m c), piece7 (A18 m c) (A19 m c) (A20 m c) (A21 m c) (A22 m c) (A23 m c) (A24 m c) (A25 m c) (A26 m c)]

theorem result1_8 : Pipeline.afterTail₀ cfgs (dats m) 0 (V0 m) [hostOps1] c main_v86 = val_main_v196 (F := Ideal) (A17 m c) (A26 m c) := by
  refine (tail1_8 _).trans ?_
  refine (congrArg unpack8 ((Pipeline.withArrays_arr spec0 launch0.win.arr_inj c (V0 m c) (fun w => (dats m 0 c).arrAt w cfg0.N) 5).trans (final5 m c))).trans ?_
  refine Eq.trans ?_ (value1_8 (A17 m c) (A26 m c)).symm
  refine Eq.trans (show _ = fun y => first (unpack8 (P1 m c) y) (unpack8 (P2 m c) y) from rfl) ?_
  funext y
  rw [piece8 (A9 m c) (A10 m c) (A11 m c) (A12 m c) (A13 m c) (A14 m c) (A15 m c) (A16 m c) (A17 m c), piece8 (A18 m c) (A19 m c) (A20 m c) (A21 m c) (A22 m c) (A23 m c) (A24 m c) (A25 m c) (A26 m c)]

theorem result2_0 : Pipeline.afterTail₀ cfgs (dats m) 0 (V0 m) [hostOps1] c main_v89 = val_main_v10 (F := Ideal) (A9 m c) (A27 m c) := by
  refine (tail2_0 _).trans ?_
  refine (congrArg unpack0 ((Pipeline.withArrays_arr spec0 launch0.win.arr_inj c (V0 m c) (fun w => (dats m 0 c).arrAt w cfg0.N) 6).trans (final6 m c))).trans ?_
  refine Eq.trans ?_ (value2_0 (A9 m c) (A27 m c)).symm
  refine Eq.trans (show _ = fun y => second (unpack0 (P1 m c) y) (unpack0 (P3 m c) y) from rfl) ?_
  funext y
  rw [piece0 (A9 m c) (A10 m c) (A11 m c) (A12 m c) (A13 m c) (A14 m c) (A15 m c) (A16 m c) (A17 m c), piece0 (A27 m c) (A28 m c) (A29 m c) (A30 m c) (A31 m c) (A32 m c) (A33 m c) (A34 m c) (A35 m c)]

theorem result2_1 : Pipeline.afterTail₀ cfgs (dats m) 0 (V0 m) [hostOps1] c main_v91 = val_main_v34 (F := Ideal) (A10 m c) (A28 m c) := by
  refine (tail2_1 _).trans ?_
  refine (congrArg unpack1 ((Pipeline.withArrays_arr spec0 launch0.win.arr_inj c (V0 m c) (fun w => (dats m 0 c).arrAt w cfg0.N) 6).trans (final6 m c))).trans ?_
  refine Eq.trans ?_ (value2_1 (A10 m c) (A28 m c)).symm
  refine Eq.trans (show _ = fun y => second (unpack1 (P1 m c) y) (unpack1 (P3 m c) y) from rfl) ?_
  funext y
  rw [piece1 (A9 m c) (A10 m c) (A11 m c) (A12 m c) (A13 m c) (A14 m c) (A15 m c) (A16 m c) (A17 m c), piece1 (A27 m c) (A28 m c) (A29 m c) (A30 m c) (A31 m c) (A32 m c) (A33 m c) (A34 m c) (A35 m c)]

theorem result2_2 : Pipeline.afterTail₀ cfgs (dats m) 0 (V0 m) [hostOps1] c main_v93 = val_main_v58 (F := Ideal) (A11 m c) (A29 m c) := by
  refine (tail2_2 _).trans ?_
  refine (congrArg unpack2 ((Pipeline.withArrays_arr spec0 launch0.win.arr_inj c (V0 m c) (fun w => (dats m 0 c).arrAt w cfg0.N) 6).trans (final6 m c))).trans ?_
  refine Eq.trans ?_ (value2_2 (A11 m c) (A29 m c)).symm
  refine Eq.trans (show _ = fun y => second (unpack2 (P1 m c) y) (unpack2 (P3 m c) y) from rfl) ?_
  funext y
  rw [piece2 (A9 m c) (A10 m c) (A11 m c) (A12 m c) (A13 m c) (A14 m c) (A15 m c) (A16 m c) (A17 m c), piece2 (A27 m c) (A28 m c) (A29 m c) (A30 m c) (A31 m c) (A32 m c) (A33 m c) (A34 m c) (A35 m c)]

theorem result2_3 : Pipeline.afterTail₀ cfgs (dats m) 0 (V0 m) [hostOps1] c main_v95 = val_main_v82 (F := Ideal) (A12 m c) (A30 m c) := by
  refine (tail2_3 _).trans ?_
  refine (congrArg unpack3 ((Pipeline.withArrays_arr spec0 launch0.win.arr_inj c (V0 m c) (fun w => (dats m 0 c).arrAt w cfg0.N) 6).trans (final6 m c))).trans ?_
  refine Eq.trans ?_ (value2_3 (A12 m c) (A30 m c)).symm
  refine Eq.trans (show _ = fun y => second (unpack3 (P1 m c) y) (unpack3 (P3 m c) y) from rfl) ?_
  funext y
  rw [piece3 (A9 m c) (A10 m c) (A11 m c) (A12 m c) (A13 m c) (A14 m c) (A15 m c) (A16 m c) (A17 m c), piece3 (A27 m c) (A28 m c) (A29 m c) (A30 m c) (A31 m c) (A32 m c) (A33 m c) (A34 m c) (A35 m c)]

theorem result2_4 : Pipeline.afterTail₀ cfgs (dats m) 0 (V0 m) [hostOps1] c main_v97 = val_main_v106 (F := Ideal) (A13 m c) (A31 m c) := by
  refine (tail2_4 _).trans ?_
  refine (congrArg unpack4 ((Pipeline.withArrays_arr spec0 launch0.win.arr_inj c (V0 m c) (fun w => (dats m 0 c).arrAt w cfg0.N) 6).trans (final6 m c))).trans ?_
  refine Eq.trans ?_ (value2_4 (A13 m c) (A31 m c)).symm
  refine Eq.trans (show _ = fun y => second (unpack4 (P1 m c) y) (unpack4 (P3 m c) y) from rfl) ?_
  funext y
  rw [piece4 (A9 m c) (A10 m c) (A11 m c) (A12 m c) (A13 m c) (A14 m c) (A15 m c) (A16 m c) (A17 m c), piece4 (A27 m c) (A28 m c) (A29 m c) (A30 m c) (A31 m c) (A32 m c) (A33 m c) (A34 m c) (A35 m c)]

theorem result2_5 : Pipeline.afterTail₀ cfgs (dats m) 0 (V0 m) [hostOps1] c main_v99 = val_main_v130 (F := Ideal) (A14 m c) (A32 m c) := by
  refine (tail2_5 _).trans ?_
  refine (congrArg unpack5 ((Pipeline.withArrays_arr spec0 launch0.win.arr_inj c (V0 m c) (fun w => (dats m 0 c).arrAt w cfg0.N) 6).trans (final6 m c))).trans ?_
  refine Eq.trans ?_ (value2_5 (A14 m c) (A32 m c)).symm
  refine Eq.trans (show _ = fun y => second (unpack5 (P1 m c) y) (unpack5 (P3 m c) y) from rfl) ?_
  funext y
  rw [piece5 (A9 m c) (A10 m c) (A11 m c) (A12 m c) (A13 m c) (A14 m c) (A15 m c) (A16 m c) (A17 m c), piece5 (A27 m c) (A28 m c) (A29 m c) (A30 m c) (A31 m c) (A32 m c) (A33 m c) (A34 m c) (A35 m c)]

theorem result2_6 : Pipeline.afterTail₀ cfgs (dats m) 0 (V0 m) [hostOps1] c main_v101 = val_main_v154 (F := Ideal) (A15 m c) (A33 m c) := by
  refine (tail2_6 _).trans ?_
  refine (congrArg unpack6 ((Pipeline.withArrays_arr spec0 launch0.win.arr_inj c (V0 m c) (fun w => (dats m 0 c).arrAt w cfg0.N) 6).trans (final6 m c))).trans ?_
  refine Eq.trans ?_ (value2_6 (A15 m c) (A33 m c)).symm
  refine Eq.trans (show _ = fun y => second (unpack6 (P1 m c) y) (unpack6 (P3 m c) y) from rfl) ?_
  funext y
  rw [piece6 (A9 m c) (A10 m c) (A11 m c) (A12 m c) (A13 m c) (A14 m c) (A15 m c) (A16 m c) (A17 m c), piece6 (A27 m c) (A28 m c) (A29 m c) (A30 m c) (A31 m c) (A32 m c) (A33 m c) (A34 m c) (A35 m c)]

theorem result2_7 : Pipeline.afterTail₀ cfgs (dats m) 0 (V0 m) [hostOps1] c main_v103 = val_main_v178 (F := Ideal) (A16 m c) (A34 m c) := by
  refine (tail2_7 _).trans ?_
  refine (congrArg unpack7 ((Pipeline.withArrays_arr spec0 launch0.win.arr_inj c (V0 m c) (fun w => (dats m 0 c).arrAt w cfg0.N) 6).trans (final6 m c))).trans ?_
  refine Eq.trans ?_ (value2_7 (A16 m c) (A34 m c)).symm
  refine Eq.trans (show _ = fun y => second (unpack7 (P1 m c) y) (unpack7 (P3 m c) y) from rfl) ?_
  funext y
  rw [piece7 (A9 m c) (A10 m c) (A11 m c) (A12 m c) (A13 m c) (A14 m c) (A15 m c) (A16 m c) (A17 m c), piece7 (A27 m c) (A28 m c) (A29 m c) (A30 m c) (A31 m c) (A32 m c) (A33 m c) (A34 m c) (A35 m c)]

theorem result2_8 : Pipeline.afterTail₀ cfgs (dats m) 0 (V0 m) [hostOps1] c main_v105 = val_main_v202 (F := Ideal) (A17 m c) (A35 m c) := by
  refine (tail2_8 _).trans ?_
  refine (congrArg unpack8 ((Pipeline.withArrays_arr spec0 launch0.win.arr_inj c (V0 m c) (fun w => (dats m 0 c).arrAt w cfg0.N) 6).trans (final6 m c))).trans ?_
  refine Eq.trans ?_ (value2_8 (A17 m c) (A35 m c)).symm
  refine Eq.trans (show _ = fun y => second (unpack8 (P1 m c) y) (unpack8 (P3 m c) y) from rfl) ?_
  funext y
  rw [piece8 (A9 m c) (A10 m c) (A11 m c) (A12 m c) (A13 m c) (A14 m c) (A15 m c) (A16 m c) (A17 m c), piece8 (A27 m c) (A28 m c) (A29 m c) (A30 m c) (A31 m c) (A32 m c) (A33 m c) (A34 m c) (A35 m c)]

end Cert.AdSmallProof

end
-- ==== Proof.AdSmallClaims.lean ====
module

public import proofs.«01_k».proof.Defs
public import proofs.«01_k».proof.Proof.Gen.AdSmall.Frame
public import proofs.«01_k».proof.Proof.Gen.AdSmallRefIdeal.Run
public import proofs.«01_k».proof.Proof.Gen.AdSmallRefIdeal.Read
public import Idealize.ShloMosaic.Lib.Pipeline.ValueKit
public import Idealize.ShloMosaic.Lib.Claim
public import proofs.«01_k».proof.Proof.AdSmallProof

/-! The claims of the step of the small weights. -/

@[expose] public section

set_option maxRecDepth 16384

noncomputable section

namespace Cert.AdSmallClaims

open Cert.AdSmallIdeal Cert.AdSmallIdeal.Gen Idealize.ShloMosaic Idealize.ShloMosaic.TcCoe Idealize.SL.Sem
open Cert.AdSmallRefIdeal.Read

variable (m : (ℓ : Loc nD τ sig) → Buf (Elt Ideal) ℓ) (c : Dev nD)

open Idealize.ShloMosaic Idealize.SL.Sem Cert.AdSmallProof
open Cert.AdSmallRefIdeal.Read

theorem frame_kernel : Cert.quiescent_AdSmall := fun m ρ _ => Cert.AdSmall.Gen.frame m ρ

theorem frame_ideal : Cert.quiescent_AdSmallIdeal := fun m ρ _ => Cert.AdSmallIdeal.Gen.frame m ρ

theorem frame_reference : Cert.quiescent_AdSmallRefIdeal := fun m ρ _ =>
  (θ_run Cert.AdSmallRefIdeal.defs _ _).mono (fun r h => ⟨fun c => (h c).2.2.2.2.2.2.2.2.2.2.2.2.2.2.2.2.2.2.2.2.2.2.2.2.2.2.2, sem_eq_zero_of_no_sems (by decide) r.2⟩)
    (Cert.AdSmallRefIdeal.Value.run (F := Ideal) m ρ)

theorem preserves : Cert.preserves_AdSmall_AdSmallIdeal := trivial

theorem algebraic : Cert.algebraic_AdSmallIdeal_AdSmallRefIdeal := by
  intro m ρ m' ρ' _ hag
  have e0 (c : Dev Cert.AdSmallRefIdeal.nD) : _ = A0 m c := (hag c).1
  have e1 (c : Dev Cert.AdSmallRefIdeal.nD) : _ = A1 m c := (hag c).2.1
  have e2 (c : Dev Cert.AdSmallRefIdeal.nD) : _ = A2 m c := (hag c).2.2.1
  have e3 (c : Dev Cert.AdSmallRefIdeal.nD) : _ = A3 m c := (hag c).2.2.2.1
  have e4 (c : Dev Cert.AdSmallRefIdeal.nD) : _ = A4 m c := (hag c).2.2.2.2.1
  have e5 (c : Dev Cert.AdSmallRefIdeal.nD) : _ = A5 m c := (hag c).2.2.2.2.2.1
  have e6 (c : Dev Cert.AdSmallRefIdeal.nD) : _ = A6 m c := (hag c).2.2.2.2.2.2.1
  have e7 (c : Dev Cert.AdSmallRefIdeal.nD) : _ = A7 m c := (hag c).2.2.2.2.2.2.2.1
  have e8 (c : Dev Cert.AdSmallRefIdeal.nD) : _ = A8 m c := (hag c).2.2.2.2.2.2.2.2.1
  have e9 (c : Dev Cert.AdSmallRefIdeal.nD) : _ = A9 m c := (hag c).2.2.2.2.2.2.2.2.2.1
  have e10 (c : Dev Cert.AdSmallRefIdeal.nD) : _ = A10 m c := (hag c).2.2.2.2.2.2.2.2.2.2.1
  have e11 (c : Dev Cert.AdSmallRefIdeal.nD) : _ = A11 m c := (hag c).2.2.2.2.2.2.2.2.2.2.2.1
  have e12 (c : Dev Cert.AdSmallRefIdeal.nD) : _ = A12 m c := (hag c).2.2.2.2.2.2.2.2.2.2.2.2.1
  have e13 (c : Dev Cert.AdSmallRefIdeal.nD) : _ = A13 m c := (hag c).2.2.2.2.2.2.2.2.2.2.2.2.2.1
  have e14 (c : Dev Cert.AdSmallRefIdeal.nD) : _ = A14 m c := (hag c).2.2.2.2.2.2.2.2.2.2.2.2.2.2.1
  have e15 (c : Dev Cert.AdSmallRefIdeal.nD) : _ = A15 m c := (hag c).2.2.2.2.2.2.2.2.2.2.2.2.2.2.2.1
  have e16 (c : Dev Cert.AdSmallRefIdeal.nD) : _ = A16 m c := (hag c).2.2.2.2.2.2.2.2.2.2.2.2.2.2.2.2.1
  have e17 (c : Dev Cert.AdSmallRefIdeal.nD) : _ = A17 m c := (hag c).2.2.2.2.2.2.2.2.2.2.2.2.2.2.2.2.2.1
  have e18 (c : Dev Cert.AdSmallRefIdeal.nD) : _ = A18 m c := (hag c).2.2.2.2.2.2.2.2.2.2.2.2.2.2.2.2.2.2.1
  have e19 (c : Dev Cert.AdSmallRefIdeal.nD) : _ = A19 m c := (hag c).2.2.2.2.2.2.2.2.2.2.2.2.2.2.2.2.2.2.2.1
  have e20 (c : Dev Cert.AdSmallRefIdeal.nD) : _ = A20 m c := (hag c).2.2.2.2.2.2.2.2.2.2.2.2.2.2.2.2.2.2.2.2.1
  have e21 (c : Dev Cert.AdSmallRefIdeal.nD) : _ = A21 m c := (hag c).2.2.2.2.2.2.2.2.2.2.2.2.2.2.2.2.2.2.2.2.2.1
  have e22 (c : Dev Cert.AdSmallRefIdeal.nD) : _ = A22 m c := (hag c).2.2.2.2.2.2.2.2.2.2.2.2.2.2.2.2.2.2.2.2.2.2.1
  have e23 (c : Dev Cert.AdSmallRefIdeal.nD) : _ = A23 m c := (hag c).2.2.2.2.2.2.2.2.2.2.2.2.2.2.2.2.2.2.2.2.2.2.2.1
  have e24 (c : Dev Cert.AdSmallRefIdeal.nD) : _ = A24 m c := (hag c).2.2.2.2.2.2.2.2.2.2.2.2.2.2.2.2.2.2.2.2.2.2.2.2.1
  have e25 (c : Dev Cert.AdSmallRefIdeal.nD) : _ = A25 m c := (hag c).2.2.2.2.2.2.2.2.2.2.2.2.2.2.2.2.2.2.2.2.2.2.2.2.2.1
  have e26 (c : Dev Cert.AdSmallRefIdeal.nD) : _ = A26 m c := (hag c).2.2.2.2.2.2.2.2.2.2.2.2.2.2.2.2.2.2.2.2.2.2.2.2.2.2.1
  have e27 (c : Dev Cert.AdSmallRefIdeal.nD) : _ = A27 m c := (hag c).2.2.2.2.2.2.2.2.2.2.2.2.2.2.2.2.2.2.2.2.2.2.2.2.2.2.2.1
  have e28 (c : Dev Cert.AdSmallRefIdeal.nD) : _ = A28 m c := (hag c).2.2.2.2.2.2.2.2.2.2.2.2.2.2.2.2.2.2.2.2.2.2.2.2.2.2.2.2.1
  have e29 (c : Dev Cert.AdSmallRefIdeal.nD) : _ = A29 m c := (hag c).2.2.2.2.2.2.2.2.2.2.2.2.2.2.2.2.2.2.2.2.2.2.2.2.2.2.2.2.2.1
  have e30 (c : Dev Cert.AdSmallRefIdeal.nD) : _ = A30 m c := (hag c).2.2.2.2.2.2.2.2.2.2.2.2.2.2.2.2.2.2.2.2.2.2.2.2.2.2.2.2.2.2.1
  have e31 (c : Dev Cert.AdSmallRefIdeal.nD) : _ = A31 m c := (hag c).2.2.2.2.2.2.2.2.2.2.2.2.2.2.2.2.2.2.2.2.2.2.2.2.2.2.2.2.2.2.2.1
  have e32 (c : Dev Cert.AdSmallRefIdeal.nD) : _ = A32 m c := (hag c).2.2.2.2.2.2.2.2.2.2.2.2.2.2.2.2.2.2.2.2.2.2.2.2.2.2.2.2.2.2.2.2.1
  have e33 (c : Dev Cert.AdSmallRefIdeal.nD) : _ = A33 m c := (hag c).2.2.2.2.2.2.2.2.2.2.2.2.2.2.2.2.2.2.2.2.2.2.2.2.2.2.2.2.2.2.2.2.2.1
  have e34 (c : Dev Cert.AdSmallRefIdeal.nD) : _ = A34 m c := (hag c).2.2.2.2.2.2.2.2.2.2.2.2.2.2.2.2.2.2.2.2.2.2.2.2.2.2.2.2.2.2.2.2.2.2.1
  have e35 (c : Dev Cert.AdSmallRefIdeal.nD) : _ = A35 m c := (hag c).2.2.2.2.2.2.2.2.2.2.2.2.2.2.2.2.2.2.2.2.2.2.2.2.2.2.2.2.2.2.2.2.2.2.2
  refine ⟨fun c => val_main_v23 (F := Ideal) (A0 m c) (A9 m c) (A18 m c) (A27 m c), fun c => val_main_v47 (F := Ideal) (A1 m c) (A10 m c) (A19 m c) (A28 m c), fun c => val_main_v71 (F := Ideal) (A2 m c) (A11 m c) (A20 m c) (A29 m c), fun c => val_main_v95 (F := Ideal) (A3 m c) (A12 m c) (A21 m c) (A30 m c), fun c => val_main_v119 (F := Ideal) (A4 m c) (A13 m c) (A22 m c) (A31 m c), fun c => val_main_v143 (F := Ideal) (A5 m c) (A14 m c) (A23 m c) (A32 m c), fun c => val_main_v167 (F := Ideal) (A6 m c) (A15 m c) (A24 m c) (A33 m c), fun c => val_main_v191 (F := Ideal) (A7 m c) (A16 m c) (A25 m c) (A34 m c), fun c => val_main_v215 (F := Ideal) (A8 m c) (A17 m c) (A26 m c) (A35 m c), fun c => val_main_v4 (F := Ideal) (A9 m c) (A18 m c), fun c => val_main_v28 (F := Ideal) (A10 m c) (A19 m c), fun c => val_main_v52 (F := Ideal) (A11 m c) (A20 m c), fun c => val_main_v76 (F := Ideal) (A12 m c) (A21 m c), fun c => val_main_v100 (F := Ideal) (A13 m c) (A22 m c), fun c => val_main_v124 (F := Ideal) (A14 m c) (A23 m c), fun c => val_main_v148 (F := Ideal) (A15 m c) (A24 m c), fun c => val_main_v172 (F := Ideal) (A16 m c) (A25 m c), fun c => val_main_v196 (F := Ideal) (A17 m c) (A26 m c), fun c => val_main_v10 (F := Ideal) (A9 m c) (A27 m c), fun c => val_main_v34 (F := Ideal) (A10 m c) (A28 m c), fun c => val_main_v58 (F := Ideal) (A11 m c) (A29 m c), fun c => val_main_v82 (F := Ideal) (A12 m c) (A30 m c), fun c => val_main_v106 (F := Ideal) (A13 m c) (A31 m c), fun c => val_main_v130 (F := Ideal) (A14 m c) (A32 m c), fun c => val_main_v154 (F := Ideal) (A15 m c) (A33 m c), fun c => val_main_v178 (F := Ideal) (A16 m c) (A34 m c), fun c => val_main_v202 (F := Ideal) (A17 m c) (A35 m c), ?_, ?_⟩
  · exact (θ_run Cert.AdSmallIdeal.defs _ _).mono (fun r h c => ⟨((h.1 c).2 Cert.AdSmallIdeal.main_v51 (by decide)).trans (result0_0 m c), ((h.1 c).2 Cert.AdSmallIdeal.main_v53 (by decide)).trans (result0_1 m c), ((h.1 c).2 Cert.AdSmallIdeal.main_v55 (by decide)).trans (result0_2 m c), ((h.1 c).2 Cert.AdSmallIdeal.main_v57 (by decide)).trans (result0_3 m c), ((h.1 c).2 Cert.AdSmallIdeal.main_v59 (by decide)).trans (result0_4 m c), ((h.1 c).2 Cert.AdSmallIdeal.main_v61 (by decide)).trans (result0_5 m c), ((h.1 c).2 Cert.AdSmallIdeal.main_v63 (by decide)).trans (result0_6 m c), ((h.1 c).2 Cert.AdSmallIdeal.main_v65 (by decide)).trans (result0_7 m c), ((h.1 c).2 Cert.AdSmallIdeal.main_v67 (by decide)).trans (result0_8 m c), ((h.1 c).2 Cert.AdSmallIdeal.main_v70 (by decide)).trans (result1_0 m c), ((h.1 c).2 Cert.AdSmallIdeal.main_v72 (by decide)).trans (result1_1 m c), ((h.1 c).2 Cert.AdSmallIdeal.main_v74 (by decide)).trans (result1_2 m c), ((h.1 c).2 Cert.AdSmallIdeal.main_v76 (by decide)).trans (result1_3 m c), ((h.1 c).2 Cert.AdSmallIdeal.main_v78 (by decide)).trans (result1_4 m c), ((h.1 c).2 Cert.AdSmallIdeal.main_v80 (by decide)).trans (result1_5 m c), ((h.1 c).2 Cert.AdSmallIdeal.main_v82 (by decide)).trans (result1_6 m c), ((h.1 c).2 Cert.AdSmallIdeal.main_v84 (by decide)).trans (result1_7 m c), ((h.1 c).2 Cert.AdSmallIdeal.main_v86 (by decide)).trans (result1_8 m c), ((h.1 c).2 Cert.AdSmallIdeal.main_v89 (by decide)).trans (result2_0 m c), ((h.1 c).2 Cert.AdSmallIdeal.main_v91 (by decide)).trans (result2_1 m c), ((h.1 c).2 Cert.AdSmallIdeal.main_v93 (by decide)).trans (result2_2 m c), ((h.1 c).2 Cert.AdSmallIdeal.main_v95 (by decide)).trans (result2_3 m c), ((h.1 c).2 Cert.AdSmallIdeal.main_v97 (by decide)).trans (result2_4 m c), ((h.1 c).2 Cert.AdSmallIdeal.main_v99 (by decide)).trans (result2_5 m c), ((h.1 c).2 Cert.AdSmallIdeal.main_v101 (by decide)).trans (result2_6 m c), ((h.1 c).2 Cert.AdSmallIdeal.main_v103 (by decide)).trans (result2_7 m c), ((h.1 c).2 Cert.AdSmallIdeal.main_v105 (by decide)).trans (result2_8 m c), h.2 c⟩)
      (θ_run_and (Cert.AdSmallIdeal.Gen.run_main (F := Ideal) m ρ) (Cert.AdSmallIdeal.Gen.unchanged (F := Ideal) m ρ))
  · refine (θ_run Cert.AdSmallRefIdeal.defs _ _).mono (fun r h c => ⟨(h c).1.trans ((val_main_v23_eq _).trans ?_), (h c).2.1.trans ((val_main_v47_eq _).trans ?_), (h c).2.2.1.trans ((val_main_v71_eq _).trans ?_), (h c).2.2.2.1.trans ((val_main_v95_eq _).trans ?_), (h c).2.2.2.2.1.trans ((val_main_v119_eq _).trans ?_), (h c).2.2.2.2.2.1.trans ((val_main_v143_eq _).trans ?_), (h c).2.2.2.2.2.2.1.trans ((val_main_v167_eq _).trans ?_), (h c).2.2.2.2.2.2.2.1.trans ((val_main_v191_eq _).trans ?_), (h c).2.2.2.2.2.2.2.2.1.trans ((val_main_v215_eq _).trans ?_), (h c).2.2.2.2.2.2.2.2.2.1.trans ((val_main_v4_eq _).trans ?_), (h c).2.2.2.2.2.2.2.2.2.2.1.trans ((val_main_v28_eq _).trans ?_), (h c).2.2.2.2.2.2.2.2.2.2.2.1.trans ((val_main_v52_eq _).trans ?_), (h c).2.2.2.2.2.2.2.2.2.2.2.2.1.trans ((val_main_v76_eq _).trans ?_), (h c).2.2.2.2.2.2.2.2.2.2.2.2.2.1.trans ((val_main_v100_eq _).trans ?_), (h c).2.2.2.2.2.2.2.2.2.2.2.2.2.2.1.trans ((val_main_v124_eq _).trans ?_), (h c).2.2.2.2.2.2.2.2.2.2.2.2.2.2.2.1.trans ((val_main_v148_eq _).trans ?_), (h c).2.2.2.2.2.2.2.2.2.2.2.2.2.2.2.2.1.trans ((val_main_v172_eq _).trans ?_), (h c).2.2.2.2.2.2.2.2.2.2.2.2.2.2.2.2.2.1.trans ((val_main_v196_eq _).trans ?_), (h c).2.2.2.2.2.2.2.2.2.2.2.2.2.2.2.2.2.2.1.trans ((val_main_v10_eq _).trans ?_), (h c).2.2.2.2.2.2.2.2.2.2.2.2.2.2.2.2.2.2.2.1.trans ((val_main_v34_eq _).trans ?_), (h c).2.2.2.2.2.2.2.2.2.2.2.2.2.2.2.2.2.2.2.2.1.trans ((val_main_v58_eq _).trans ?_), (h c).2.2.2.2.2.2.2.2.2.2.2.2.2.2.2.2.2.2.2.2.2.1.trans ((val_main_v82_eq _).trans ?_), (h c).2.2.2.2.2.2.2.2.2.2.2.2.2.2.2.2.2.2.2.2.2.2.1.trans ((val_main_v106_eq _).trans ?_), (h c).2.2.2.2.2.2.2.2.2.2.2.2.2.2.2.2.2.2.2.2.2.2.2.1.trans ((val_main_v130_eq _).trans ?_), (h c).2.2.2.2.2.2.2.2.2.2.2.2.2.2.2.2.2.2.2.2.2.2.2.2.1.trans ((val_main_v154_eq _).trans ?_), (h c).2.2.2.2.2.2.2.2.2.2.2.2.2.2.2.2.2.2.2.2.2.2.2.2.2.1.trans ((val_main_v178_eq _).trans ?_), (h c).2.2.2.2.2.2.2.2.2.2.2.2.2.2.2.2.2.2.2.2.2.2.2.2.2.2.1.trans ((val_main_v202_eq _).trans ?_), (h c).2.2.2.2.2.2.2.2.2.2.2.2.2.2.2.2.2.2.2.2.2.2.2.2.2.2.2⟩)
      (Cert.AdSmallRefIdeal.Value.run (F := Ideal) m' ρ')
    · exact congr (congr (congr (congrArg (val_main_v23 (F := Ideal)) (e0 c)) (e9 c)) (e18 c)) (e27 c)
    · exact congr (congr (congr (congrArg (val_main_v47 (F := Ideal)) (e1 c)) (e10 c)) (e19 c)) (e28 c)
    · exact congr (congr (congr (congrArg (val_main_v71 (F := Ideal)) (e2 c)) (e11 c)) (e20 c)) (e29 c)
    · exact congr (congr (congr (congrArg (val_main_v95 (F := Ideal)) (e3 c)) (e12 c)) (e21 c)) (e30 c)
    · exact congr (congr (congr (congrArg (val_main_v119 (F := Ideal)) (e4 c)) (e13 c)) (e22 c)) (e31 c)
    · exact congr (congr (congr (congrArg (val_main_v143 (F := Ideal)) (e5 c)) (e14 c)) (e23 c)) (e32 c)
    · exact congr (congr (congr (congrArg (val_main_v167 (F := Ideal)) (e6 c)) (e15 c)) (e24 c)) (e33 c)
    · exact congr (congr (congr (congrArg (val_main_v191 (F := Ideal)) (e7 c)) (e16 c)) (e25 c)) (e34 c)
    · exact congr (congr (congr (congrArg (val_main_v215 (F := Ideal)) (e8 c)) (e17 c)) (e26 c)) (e35 c)
    · exact congr (congrArg (val_main_v4 (F := Ideal)) (e9 c)) (e18 c)
    · exact congr (congrArg (val_main_v28 (F := Ideal)) (e10 c)) (e19 c)
    · exact congr (congrArg (val_main_v52 (F := Ideal)) (e11 c)) (e20 c)
    · exact congr (congrArg (val_main_v76 (F := Ideal)) (e12 c)) (e21 c)
    · exact congr (congrArg (val_main_v100 (F := Ideal)) (e13 c)) (e22 c)
    · exact congr (congrArg (val_main_v124 (F := Ideal)) (e14 c)) (e23 c)
    · exact congr (congrArg (val_main_v148 (F := Ideal)) (e15 c)) (e24 c)
    · exact congr (congrArg (val_main_v172 (F := Ideal)) (e16 c)) (e25 c)
    · exact congr (congrArg (val_main_v196 (F := Ideal)) (e17 c)) (e26 c)
    · exact congr (congrArg (val_main_v10 (F := Ideal)) (e9 c)) (e27 c)
    · exact congr (congrArg (val_main_v34 (F := Ideal)) (e10 c)) (e28 c)
    · exact congr (congrArg (val_main_v58 (F := Ideal)) (e11 c)) (e29 c)
    · exact congr (congrArg (val_main_v82 (F := Ideal)) (e12 c)) (e30 c)
    · exact congr (congrArg (val_main_v106 (F := Ideal)) (e13 c)) (e31 c)
    · exact congr (congrArg (val_main_v130 (F := Ideal)) (e14 c)) (e32 c)
    · exact congr (congrArg (val_main_v154 (F := Ideal)) (e15 c)) (e33 c)
    · exact congr (congrArg (val_main_v178 (F := Ideal)) (e16 c)) (e34 c)
    · exact congr (congrArg (val_main_v202 (F := Ideal)) (e17 c)) (e35 c)

end Cert.AdSmallClaims

end
-- ==== Proof.SumDevProof.lean ====
module

public import proofs.«01_k».proof.Defs
public import proofs.«01_k».proof.Proof.Gen.SumDev.Frame
public import proofs.«01_k».proof.Proof.Gen.SumDevIdeal.Frame
public import proofs.«01_k».proof.Proof.Gen.SumDevRefIdeal.Run
public import proofs.«01_k».proof.Proof.Gen.SumDevRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The sums of the small gradients over the eight devices: the kernel adds the packed rows, the reference each gradient. -/

@[expose] public section

set_option maxRecDepth 16384

noncomputable section

namespace Cert.SumDevProof

open Cert.SumDevIdeal Cert.SumDevIdeal.Gen Idealize.ShloMosaic Idealize.ShloMosaic.TcCoe Idealize.SL.Sem
open Cert.SumDevRefIdeal.Read

/-- A row of nine flat arrays for each device, padded and cut into rows of 128. -/
def rows (a0 : S8x768.Idx → Elt Ideal .f32) (a1 : S8x4096.Idx → Elt Ideal .f32) (a2 : S8x256.Idx → Elt Ideal .f32) (a3 : S8x256.Idx → Elt Ideal .f32) (a4 : S8x63488.Idx → Elt Ideal .f32) (a5 : S8x2048.Idx → Elt Ideal .f32) (a6 : S8x2048.Idx → Elt Ideal .f32) (a7 : S8x2048.Idx → Elt Ideal .f32) (a8 : S8x4096.Idx → Elt Ideal .f32) : S8x624x128.Idx → Elt Ideal .f32 :=
  shapeCast S8x624x128 (pad S8x79872 ![0, 0] ![0, 768] ![0, 0]
    (concatenate S8x79104 1 [⟨S8x768, a0⟩, ⟨S8x4096, a1⟩, ⟨S8x256, a2⟩, ⟨S8x256, a3⟩, ⟨S8x63488, a4⟩, ⟨S8x2048, a5⟩, ⟨S8x2048, a6⟩, ⟨S8x2048, a7⟩, ⟨S8x4096, a8⟩] concatenates_S8x768_S8x4096_S8x256_S8x256_S8x63488_S8x2048_S8x2048_S8x2048_S8x4096_S8x79104_d1)
    (sitofp (F := Ideal) .f32 (constantI S_ 32 0#32)) pads_S8x79104_S8x79872_000_07680 h_S_) shapeCasts_S8x79872_S8x624x128

theorem rows_congr {a0 b0 : S8x768.Idx → Elt Ideal .f32} {a1 b1 : S8x4096.Idx → Elt Ideal .f32} {a2 b2 : S8x256.Idx → Elt Ideal .f32} {a3 b3 : S8x256.Idx → Elt Ideal .f32} {a4 b4 : S8x63488.Idx → Elt Ideal .f32} {a5 b5 : S8x2048.Idx → Elt Ideal .f32} {a6 b6 : S8x2048.Idx → Elt Ideal .f32} {a7 b7 : S8x2048.Idx → Elt Ideal .f32} {a8 b8 : S8x4096.Idx → Elt Ideal .f32}
    (h0 : a0 = b0) (h1 : a1 = b1) (h2 : a2 = b2) (h3 : a3 = b3) (h4 : a4 = b4) (h5 : a5 = b5) (h6 : a6 = b6) (h7 : a7 = b7) (h8 : a8 = b8) :
    rows a0 a1 a2 a3 a4 a5 a6 a7 a8 = rows b0 b1 b2 b3 b4 b5 b6 b7 b8 := by
  subst h0 h1 h2 h3 h4 h5 h6 h7 h8; rfl

/-- Every device's nine arrays, packed. -/
def pack (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) : S8x624x128.Idx → Elt Ideal .f32 :=
  rows (shapeCast S8x768 a0 shapeCasts_S8x32x24_S8x768) (shapeCast S8x4096 a1 shapeCasts_S8x4x1024_S8x4096) (shapeCast S8x256 a2 shapeCasts_S8x4x64_S8x256) (shapeCast S8x256 a3 shapeCasts_S8x4x64_S8x256) (shapeCast S8x63488 a4 shapeCasts_S8x4x31x512_S8x63488) (shapeCast S8x2048 a5 shapeCasts_S8x4x512_S8x2048) (shapeCast S8x2048 a6 shapeCasts_S8x4x512_S8x2048) (shapeCast S8x2048 a7 shapeCasts_S8x4x512_S8x2048) (shapeCast S8x4096 a8 shapeCasts_S8x4x1024_S8x4096)

abbrev lines : List (HloOp τ sig (Elt Ideal)) := List.flatten [hostOps0, hostOps0_1, hostOps0_2]

section Lines

variable (W : Valuation τ sig (Elt Ideal))

theorem flat0 : StableHlo.upto lines W 9 (Proc.devRef .tc main_v0) = shapeCast S8x768 (W (Proc.devRef .tc main_arg0)) shapeCasts_S8x32x24_S8x768 := by
  after_reads_simp
  rfl
theorem flat1 : StableHlo.upto lines W 9 (Proc.devRef .tc main_v1) = shapeCast S8x4096 (W (Proc.devRef .tc main_arg1)) shapeCasts_S8x4x1024_S8x4096 := by
  after_reads_simp
  rfl
theorem flat2 : StableHlo.upto lines W 9 (Proc.devRef .tc main_v2) = shapeCast S8x256 (W (Proc.devRef .tc main_arg2)) shapeCasts_S8x4x64_S8x256 := by
  after_reads_simp
  rfl
theorem flat3 : StableHlo.upto lines W 9 (Proc.devRef .tc main_v3) = shapeCast S8x256 (W (Proc.devRef .tc main_arg3)) shapeCasts_S8x4x64_S8x256 := by
  after_reads_simp
  rfl
theorem flat4 : StableHlo.upto lines W 9 (Proc.devRef .tc main_v4) = shapeCast S8x63488 (W (Proc.devRef .tc main_arg4)) shapeCasts_S8x4x31x512_S8x63488 := by
  after_reads_simp
  rfl
theorem flat5 : StableHlo.upto lines W 9 (Proc.devRef .tc main_v5) = shapeCast S8x2048 (W (Proc.devRef .tc main_arg5)) shapeCasts_S8x4x512_S8x2048 := by
  after_reads_simp
  rfl
theorem flat6 : StableHlo.upto lines W 9 (Proc.devRef .tc main_v6) = shapeCast S8x2048 (W (Proc.devRef .tc main_arg6)) shapeCasts_S8x4x512_S8x2048 := by
  after_reads_simp
  rfl
theorem flat7 : StableHlo.upto lines W 9 (Proc.devRef .tc main_v7) = shapeCast S8x2048 (W (Proc.devRef .tc main_arg7)) shapeCasts_S8x4x512_S8x2048 := by
  after_reads_simp
  rfl
theorem flat8 : StableHlo.upto lines W 9 (Proc.devRef .tc main_v8) = shapeCast S8x4096 (W (Proc.devRef .tc main_arg8)) shapeCasts_S8x4x1024_S8x4096 := by
  after_reads_simp
  rfl
theorem entry : StableHlo.after lines W (Proc.devRef .tc main_v11) = pack (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_reads_simp
  exact rows_congr (flat0 W) (flat1 W) (flat2 W) (flat3 W) (flat4 W) (flat5 W) (flat6 W) (flat7 W) (flat8 W)

/-- Piece 1 of the rows. -/
def unpack0 (X : S624x128.Idx → Elt Ideal .f32) : S32x24.Idx → Elt Ideal .f32 :=
  shapeCast S32x24 (extractStridedSlice S768 ![0] (shapeCast S79872 X shapeCasts_S624x128_S79872) slices_S79872_S768_0) shapeCasts_S768_S32x24

theorem tail0 : StableHlo.after ([hostOps1].flatten : List (HloOp τ sig (Elt Ideal))) W (Proc.devRef .tc main_v15) = unpack0 (W (Proc.devRef .tc main_v12)) := by
  after_reads_simp
  rfl

/-- Piece 2 of the rows. -/
def unpack1 (X : S624x128.Idx → Elt Ideal .f32) : S4x1024.Idx → Elt Ideal .f32 :=
  shapeCast S4x1024 (extractStridedSlice S4096 ![768] (shapeCast S79872 X shapeCasts_S624x128_S79872) slices_S79872_S4096_768) shapeCasts_S4096_S4x1024

theorem tail1 : StableHlo.after ([hostOps1].flatten : List (HloOp τ sig (Elt Ideal))) W (Proc.devRef .tc main_v17) = unpack1 (W (Proc.devRef .tc main_v12)) := by
  after_reads_simp
  rfl

/-- Piece 3 of the rows. -/
def unpack2 (X : S624x128.Idx → Elt Ideal .f32) : S4x64.Idx → Elt Ideal .f32 :=
  shapeCast S4x64 (extractStridedSlice S256 ![4864] (shapeCast S79872 X shapeCasts_S624x128_S79872) slices_S79872_S256_4864) shapeCasts_S256_S4x64

theorem tail2 : StableHlo.after ([hostOps1].flatten : List (HloOp τ sig (Elt Ideal))) W (Proc.devRef .tc main_v19) = unpack2 (W (Proc.devRef .tc main_v12)) := by
  after_reads_simp
  rfl

/-- Piece 4 of the rows. -/
def unpack3 (X : S624x128.Idx → Elt Ideal .f32) : S4x64.Idx → Elt Ideal .f32 :=
  shapeCast S4x64 (extractStridedSlice S256 ![5120] (shapeCast S79872 X shapeCasts_S624x128_S79872) slices_S79872_S256_5120) shapeCasts_S256_S4x64

theorem tail3 : StableHlo.after ([hostOps1].flatten : List (HloOp τ sig (Elt Ideal))) W (Proc.devRef .tc main_v21) = unpack3 (W (Proc.devRef .tc main_v12)) := by
  after_reads_simp
  rfl

/-- Piece 5 of the rows. -/
def unpack4 (X : S624x128.Idx → Elt Ideal .f32) : S4x31x512.Idx → Elt Ideal .f32 :=
  shapeCast S4x31x512 (extractStridedSlice S63488 ![5376] (shapeCast S79872 X shapeCasts_S624x128_S79872) slices_S79872_S63488_5376) shapeCasts_S63488_S4x31x512

theorem tail4 : StableHlo.after ([hostOps1].flatten : List (HloOp τ sig (Elt Ideal))) W (Proc.devRef .tc main_v23) = unpack4 (W (Proc.devRef .tc main_v12)) := by
  after_reads_simp
  rfl

/-- Piece 6 of the rows. -/
def unpack5 (X : S624x128.Idx → Elt Ideal .f32) : S4x512.Idx → Elt Ideal .f32 :=
  shapeCast S4x512 (extractStridedSlice S2048 ![68864] (shapeCast S79872 X shapeCasts_S624x128_S79872) slices_S79872_S2048_68864) shapeCasts_S2048_S4x512

theorem tail5 : StableHlo.after ([hostOps1].flatten : List (HloOp τ sig (Elt Ideal))) W (Proc.devRef .tc main_v25) = unpack5 (W (Proc.devRef .tc main_v12)) := by
  after_reads_simp
  rfl

/-- Piece 7 of the rows. -/
def unpack6 (X : S624x128.Idx → Elt Ideal .f32) : S4x512.Idx → Elt Ideal .f32 :=
  shapeCast S4x512 (extractStridedSlice S2048 ![70912] (shapeCast S79872 X shapeCasts_S624x128_S79872) slices_S79872_S2048_70912) shapeCasts_S2048_S4x512

theorem tail6 : StableHlo.after ([hostOps1].flatten : List (HloOp τ sig (Elt Ideal))) W (Proc.devRef .tc main_v27) = unpack6 (W (Proc.devRef .tc main_v12)) := by
  after_reads_simp
  rfl

/-- Piece 8 of the rows. -/
def unpack7 (X : S624x128.Idx → Elt Ideal .f32) : S4x512.Idx → Elt Ideal .f32 :=
  shapeCast S4x512 (extractStridedSlice S2048 ![72960] (shapeCast S79872 X shapeCasts_S624x128_S79872) slices_S79872_S2048_72960) shapeCasts_S2048_S4x512

theorem tail7 : StableHlo.after ([hostOps1].flatten : List (HloOp τ sig (Elt Ideal))) W (Proc.devRef .tc main_v29) = unpack7 (W (Proc.devRef .tc main_v12)) := by
  after_reads_simp
  rfl

/-- Piece 9 of the rows. -/
def unpack8 (X : S624x128.Idx → Elt Ideal .f32) : S4x1024.Idx → Elt Ideal .f32 :=
  shapeCast S4x1024 (extractStridedSlice S4096 ![75008] (shapeCast S79872 X shapeCasts_S624x128_S79872) slices_S79872_S4096_75008) shapeCasts_S4096_S4x1024

theorem tail8 : StableHlo.after ([hostOps1].flatten : List (HloOp τ sig (Elt Ideal))) W (Proc.devRef .tc main_v31) = unpack8 (W (Proc.devRef .tc main_v12)) := by
  after_reads_simp
  rfl

end Lines

theorem take0 (X : S624x128.Idx → Elt Ideal .f32) (a : Fin 32) (b : Fin 24) (r : Fin 624) (l : Fin 128) (h : 128 * (r : ℕ) + l = 0 + (24 * (a : ℕ) + b)) :
    unpack0 X (ix2 a b : S32x24.Idx) = X (ix2 r l : S624x128.Idx) := by
  pointwise [unpack0]
  blk_ext []

theorem at0 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 32) (b : Fin 24) (r : Fin 624) (l : Fin 128) (h : 128 * (r : ℕ) + l = 0 + (24 * (a : ℕ) + b)) :
    pack a0 a1 a2 a3 a4 a5 a6 a7 a8 (ix3 d r l : S8x624x128.Idx) = a0 (ix3 d a b : S8x32x24.Idx) := by
  pointwise [pack, rows]
  rw [dif_pos (by omega), dif_pos (by omega)]
  blk_ext []

theorem row0_lt (a : Fin 32) (b : Fin 24) : (0 + (24 * (a : ℕ) + b)) / 128 < 624 := by omega
theorem lane0_lt (a : Fin 32) (b : Fin 24) : (0 + (24 * (a : ℕ) + b)) % 128 < 128 := by omega

theorem piece0 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack0 (fun y => pack a0 a1 a2 a3 a4 a5 a6 a7 a8 (ix3 d (y 0) (y 1) : S8x624x128.Idx)) = fun j => a0 (ix3 d (j 0) (j 1) : S8x32x24.Idx) := by
  funext y
  obtain ⟨a, b, rfl⟩ : ∃ (a : Fin 32) (b : Fin 24), y = (ix2 a b : S32x24.Idx) := ⟨y 0, y 1, eq_ix2 _⟩
  exact (take0 _ a b ⟨_, row0_lt a b⟩ ⟨_, lane0_lt a b⟩ (Nat.div_add_mod _ 128)).trans
    (at0 a0 a1 a2 a3 a4 a5 a6 a7 a8 d a b ⟨_, row0_lt a b⟩ ⟨_, lane0_lt a b⟩ (Nat.div_add_mod _ 128))

theorem value0 (g : S8x32x24.Idx → Elt Ideal .f32) : (val_main_v0 (F := Ideal) g : S32x24.Idx → EReal) = fun j => ∑ d : Fin 8, (g (ix3 d (j 0) (j 1) : S8x32x24.Idx) : EReal) := by
  funext y
  idx_vars y
  pointwise [val_main_v0, val_main_cst]

theorem take1 (X : S624x128.Idx → Elt Ideal .f32) (a : Fin 4) (b : Fin 1024) (r : Fin 624) (l : Fin 128) (h : 128 * (r : ℕ) + l = 768 + (1024 * (a : ℕ) + b)) :
    unpack1 X (ix2 a b : S4x1024.Idx) = X (ix2 r l : S624x128.Idx) := by
  pointwise [unpack1]
  blk_ext []

theorem at1 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 1024) (r : Fin 624) (l : Fin 128) (h : 128 * (r : ℕ) + l = 768 + (1024 * (a : ℕ) + b)) :
    pack a0 a1 a2 a3 a4 a5 a6 a7 a8 (ix3 d r l : S8x624x128.Idx) = a1 (ix3 d a b : S8x4x1024.Idx) := by
  pointwise [pack, rows]
  rw [dif_pos (by omega), dif_neg (by omega), dif_pos (by omega)]
  blk_ext []

theorem row1_lt (a : Fin 4) (b : Fin 1024) : (768 + (1024 * (a : ℕ) + b)) / 128 < 624 := by omega
theorem lane1_lt (a : Fin 4) (b : Fin 1024) : (768 + (1024 * (a : ℕ) + b)) % 128 < 128 := by omega

theorem piece1 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack1 (fun y => pack a0 a1 a2 a3 a4 a5 a6 a7 a8 (ix3 d (y 0) (y 1) : S8x624x128.Idx)) = fun j => a1 (ix3 d (j 0) (j 1) : S8x4x1024.Idx) := by
  funext y
  obtain ⟨a, b, rfl⟩ : ∃ (a : Fin 4) (b : Fin 1024), y = (ix2 a b : S4x1024.Idx) := ⟨y 0, y 1, eq_ix2 _⟩
  exact (take1 _ a b ⟨_, row1_lt a b⟩ ⟨_, lane1_lt a b⟩ (Nat.div_add_mod _ 128)).trans
    (at1 a0 a1 a2 a3 a4 a5 a6 a7 a8 d a b ⟨_, row1_lt a b⟩ ⟨_, lane1_lt a b⟩ (Nat.div_add_mod _ 128))

theorem value1 (g : S8x4x1024.Idx → Elt Ideal .f32) : (val_main_v1 (F := Ideal) g : S4x1024.Idx → EReal) = fun j => ∑ d : Fin 8, (g (ix3 d (j 0) (j 1) : S8x4x1024.Idx) : EReal) := by
  funext y
  idx_vars y
  pointwise [val_main_v1, val_main_cst_0]

theorem take2 (X : S624x128.Idx → Elt Ideal .f32) (a : Fin 4) (b : Fin 64) (r : Fin 624) (l : Fin 128) (h : 128 * (r : ℕ) + l = 4864 + (64 * (a : ℕ) + b)) :
    unpack2 X (ix2 a b : S4x64.Idx) = X (ix2 r l : S624x128.Idx) := by
  pointwise [unpack2]
  blk_ext []

theorem at2 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 64) (r : Fin 624) (l : Fin 128) (h : 128 * (r : ℕ) + l = 4864 + (64 * (a : ℕ) + b)) :
    pack a0 a1 a2 a3 a4 a5 a6 a7 a8 (ix3 d r l : S8x624x128.Idx) = a2 (ix3 d a b : S8x4x64.Idx) := by
  pointwise [pack, rows]
  rw [dif_pos (by omega), dif_neg (by omega), dif_neg (by omega), dif_pos (by omega)]
  blk_ext []

theorem row2_lt (a : Fin 4) (b : Fin 64) : (4864 + (64 * (a : ℕ) + b)) / 128 < 624 := by omega
theorem lane2_lt (a : Fin 4) (b : Fin 64) : (4864 + (64 * (a : ℕ) + b)) % 128 < 128 := by omega

theorem piece2 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack2 (fun y => pack a0 a1 a2 a3 a4 a5 a6 a7 a8 (ix3 d (y 0) (y 1) : S8x624x128.Idx)) = fun j => a2 (ix3 d (j 0) (j 1) : S8x4x64.Idx) := by
  funext y
  obtain ⟨a, b, rfl⟩ : ∃ (a : Fin 4) (b : Fin 64), y = (ix2 a b : S4x64.Idx) := ⟨y 0, y 1, eq_ix2 _⟩
  exact (take2 _ a b ⟨_, row2_lt a b⟩ ⟨_, lane2_lt a b⟩ (Nat.div_add_mod _ 128)).trans
    (at2 a0 a1 a2 a3 a4 a5 a6 a7 a8 d a b ⟨_, row2_lt a b⟩ ⟨_, lane2_lt a b⟩ (Nat.div_add_mod _ 128))

theorem value2 (g : S8x4x64.Idx → Elt Ideal .f32) : (val_main_v2 (F := Ideal) g : S4x64.Idx → EReal) = fun j => ∑ d : Fin 8, (g (ix3 d (j 0) (j 1) : S8x4x64.Idx) : EReal) := by
  funext y
  idx_vars y
  pointwise [val_main_v2, val_main_cst_1]

theorem take3 (X : S624x128.Idx → Elt Ideal .f32) (a : Fin 4) (b : Fin 64) (r : Fin 624) (l : Fin 128) (h : 128 * (r : ℕ) + l = 5120 + (64 * (a : ℕ) + b)) :
    unpack3 X (ix2 a b : S4x64.Idx) = X (ix2 r l : S624x128.Idx) := by
  pointwise [unpack3]
  blk_ext []

theorem at3 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 64) (r : Fin 624) (l : Fin 128) (h : 128 * (r : ℕ) + l = 5120 + (64 * (a : ℕ) + b)) :
    pack a0 a1 a2 a3 a4 a5 a6 a7 a8 (ix3 d r l : S8x624x128.Idx) = a3 (ix3 d a b : S8x4x64.Idx) := by
  pointwise [pack, rows]
  rw [dif_pos (by omega), dif_neg (by omega), dif_neg (by omega), dif_neg (by omega), dif_pos (by omega)]
  blk_ext []

theorem row3_lt (a : Fin 4) (b : Fin 64) : (5120 + (64 * (a : ℕ) + b)) / 128 < 624 := by omega
theorem lane3_lt (a : Fin 4) (b : Fin 64) : (5120 + (64 * (a : ℕ) + b)) % 128 < 128 := by omega

theorem piece3 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack3 (fun y => pack a0 a1 a2 a3 a4 a5 a6 a7 a8 (ix3 d (y 0) (y 1) : S8x624x128.Idx)) = fun j => a3 (ix3 d (j 0) (j 1) : S8x4x64.Idx) := by
  funext y
  obtain ⟨a, b, rfl⟩ : ∃ (a : Fin 4) (b : Fin 64), y = (ix2 a b : S4x64.Idx) := ⟨y 0, y 1, eq_ix2 _⟩
  exact (take3 _ a b ⟨_, row3_lt a b⟩ ⟨_, lane3_lt a b⟩ (Nat.div_add_mod _ 128)).trans
    (at3 a0 a1 a2 a3 a4 a5 a6 a7 a8 d a b ⟨_, row3_lt a b⟩ ⟨_, lane3_lt a b⟩ (Nat.div_add_mod _ 128))

theorem value3 (g : S8x4x64.Idx → Elt Ideal .f32) : (val_main_v3 (F := Ideal) g : S4x64.Idx → EReal) = fun j => ∑ d : Fin 8, (g (ix3 d (j 0) (j 1) : S8x4x64.Idx) : EReal) := by
  funext y
  idx_vars y
  pointwise [val_main_v3, val_main_cst_2]

theorem take4 (X : S624x128.Idx → Elt Ideal .f32) (a : Fin 4) (b : Fin 31) (e : Fin 512) (r : Fin 624) (l : Fin 128) (h : 128 * (r : ℕ) + l = 5376 + (15872 * (a : ℕ) + (512 * (b : ℕ) + e))) :
    unpack4 X (ix3 a b e : S4x31x512.Idx) = X (ix2 r l : S624x128.Idx) := by
  pointwise [unpack4]
  blk_ext []

theorem at4 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 31) (e : Fin 512) (r : Fin 624) (l : Fin 128) (h : 128 * (r : ℕ) + l = 5376 + (15872 * (a : ℕ) + (512 * (b : ℕ) + e))) :
    pack a0 a1 a2 a3 a4 a5 a6 a7 a8 (ix3 d r l : S8x624x128.Idx) = a4 (ix4 d a b e : S8x4x31x512.Idx) := by
  pointwise [pack, rows]
  rw [dif_pos (by omega), dif_neg (by omega), dif_neg (by omega), dif_neg (by omega), dif_neg (by omega), dif_pos (by omega)]
  blk_ext []

theorem row4_lt (a : Fin 4) (b : Fin 31) (e : Fin 512) : (5376 + (15872 * (a : ℕ) + (512 * (b : ℕ) + e))) / 128 < 624 := by omega
theorem lane4_lt (a : Fin 4) (b : Fin 31) (e : Fin 512) : (5376 + (15872 * (a : ℕ) + (512 * (b : ℕ) + e))) % 128 < 128 := by omega

theorem piece4 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack4 (fun y => pack a0 a1 a2 a3 a4 a5 a6 a7 a8 (ix3 d (y 0) (y 1) : S8x624x128.Idx)) = fun j => a4 (ix4 d (j 0) (j 1) (j 2) : S8x4x31x512.Idx) := by
  funext y
  obtain ⟨a, b, e, rfl⟩ : ∃ (a : Fin 4) (b : Fin 31) (e : Fin 512), y = (ix3 a b e : S4x31x512.Idx) := ⟨y 0, y 1, y 2, eq_ix3 _⟩
  exact (take4 _ a b e ⟨_, row4_lt a b e⟩ ⟨_, lane4_lt a b e⟩ (Nat.div_add_mod _ 128)).trans
    (at4 a0 a1 a2 a3 a4 a5 a6 a7 a8 d a b e ⟨_, row4_lt a b e⟩ ⟨_, lane4_lt a b e⟩ (Nat.div_add_mod _ 128))

theorem value4 (g : S8x4x31x512.Idx → Elt Ideal .f32) : (val_main_v4 (F := Ideal) g : S4x31x512.Idx → EReal) = fun j => ∑ d : Fin 8, (g (ix4 d (j 0) (j 1) (j 2) : S8x4x31x512.Idx) : EReal) := by
  funext y
  idx_vars y
  pointwise [val_main_v4, val_main_cst_3]

theorem take5 (X : S624x128.Idx → Elt Ideal .f32) (a : Fin 4) (b : Fin 512) (r : Fin 624) (l : Fin 128) (h : 128 * (r : ℕ) + l = 68864 + (512 * (a : ℕ) + b)) :
    unpack5 X (ix2 a b : S4x512.Idx) = X (ix2 r l : S624x128.Idx) := by
  pointwise [unpack5]
  blk_ext []

theorem at5 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 512) (r : Fin 624) (l : Fin 128) (h : 128 * (r : ℕ) + l = 68864 + (512 * (a : ℕ) + b)) :
    pack a0 a1 a2 a3 a4 a5 a6 a7 a8 (ix3 d r l : S8x624x128.Idx) = a5 (ix3 d a b : S8x4x512.Idx) := by
  pointwise [pack, rows]
  rw [dif_pos (by omega), dif_neg (by omega), dif_neg (by omega), dif_neg (by omega), dif_neg (by omega), dif_neg (by omega), dif_pos (by omega)]
  blk_ext []

theorem row5_lt (a : Fin 4) (b : Fin 512) : (68864 + (512 * (a : ℕ) + b)) / 128 < 624 := by omega
theorem lane5_lt (a : Fin 4) (b : Fin 512) : (68864 + (512 * (a : ℕ) + b)) % 128 < 128 := by omega

theorem piece5 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack5 (fun y => pack a0 a1 a2 a3 a4 a5 a6 a7 a8 (ix3 d (y 0) (y 1) : S8x624x128.Idx)) = fun j => a5 (ix3 d (j 0) (j 1) : S8x4x512.Idx) := by
  funext y
  obtain ⟨a, b, rfl⟩ : ∃ (a : Fin 4) (b : Fin 512), y = (ix2 a b : S4x512.Idx) := ⟨y 0, y 1, eq_ix2 _⟩
  exact (take5 _ a b ⟨_, row5_lt a b⟩ ⟨_, lane5_lt a b⟩ (Nat.div_add_mod _ 128)).trans
    (at5 a0 a1 a2 a3 a4 a5 a6 a7 a8 d a b ⟨_, row5_lt a b⟩ ⟨_, lane5_lt a b⟩ (Nat.div_add_mod _ 128))

theorem value5 (g : S8x4x512.Idx → Elt Ideal .f32) : (val_main_v5 (F := Ideal) g : S4x512.Idx → EReal) = fun j => ∑ d : Fin 8, (g (ix3 d (j 0) (j 1) : S8x4x512.Idx) : EReal) := by
  funext y
  idx_vars y
  pointwise [val_main_v5, val_main_cst_4]

theorem take6 (X : S624x128.Idx → Elt Ideal .f32) (a : Fin 4) (b : Fin 512) (r : Fin 624) (l : Fin 128) (h : 128 * (r : ℕ) + l = 70912 + (512 * (a : ℕ) + b)) :
    unpack6 X (ix2 a b : S4x512.Idx) = X (ix2 r l : S624x128.Idx) := by
  pointwise [unpack6]
  blk_ext []

theorem at6 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 512) (r : Fin 624) (l : Fin 128) (h : 128 * (r : ℕ) + l = 70912 + (512 * (a : ℕ) + b)) :
    pack a0 a1 a2 a3 a4 a5 a6 a7 a8 (ix3 d r l : S8x624x128.Idx) = a6 (ix3 d a b : S8x4x512.Idx) := by
  pointwise [pack, rows]
  rw [dif_pos (by omega), dif_neg (by omega), dif_neg (by omega), dif_neg (by omega), dif_neg (by omega), dif_neg (by omega), dif_neg (by omega), dif_pos (by omega)]
  blk_ext []

theorem row6_lt (a : Fin 4) (b : Fin 512) : (70912 + (512 * (a : ℕ) + b)) / 128 < 624 := by omega
theorem lane6_lt (a : Fin 4) (b : Fin 512) : (70912 + (512 * (a : ℕ) + b)) % 128 < 128 := by omega

theorem piece6 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack6 (fun y => pack a0 a1 a2 a3 a4 a5 a6 a7 a8 (ix3 d (y 0) (y 1) : S8x624x128.Idx)) = fun j => a6 (ix3 d (j 0) (j 1) : S8x4x512.Idx) := by
  funext y
  obtain ⟨a, b, rfl⟩ : ∃ (a : Fin 4) (b : Fin 512), y = (ix2 a b : S4x512.Idx) := ⟨y 0, y 1, eq_ix2 _⟩
  exact (take6 _ a b ⟨_, row6_lt a b⟩ ⟨_, lane6_lt a b⟩ (Nat.div_add_mod _ 128)).trans
    (at6 a0 a1 a2 a3 a4 a5 a6 a7 a8 d a b ⟨_, row6_lt a b⟩ ⟨_, lane6_lt a b⟩ (Nat.div_add_mod _ 128))

theorem value6 (g : S8x4x512.Idx → Elt Ideal .f32) : (val_main_v6 (F := Ideal) g : S4x512.Idx → EReal) = fun j => ∑ d : Fin 8, (g (ix3 d (j 0) (j 1) : S8x4x512.Idx) : EReal) := by
  funext y
  idx_vars y
  pointwise [val_main_v6, val_main_cst_5]

theorem take7 (X : S624x128.Idx → Elt Ideal .f32) (a : Fin 4) (b : Fin 512) (r : Fin 624) (l : Fin 128) (h : 128 * (r : ℕ) + l = 72960 + (512 * (a : ℕ) + b)) :
    unpack7 X (ix2 a b : S4x512.Idx) = X (ix2 r l : S624x128.Idx) := by
  pointwise [unpack7]
  blk_ext []

theorem at7 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 512) (r : Fin 624) (l : Fin 128) (h : 128 * (r : ℕ) + l = 72960 + (512 * (a : ℕ) + b)) :
    pack a0 a1 a2 a3 a4 a5 a6 a7 a8 (ix3 d r l : S8x624x128.Idx) = a7 (ix3 d a b : S8x4x512.Idx) := by
  pointwise [pack, rows]
  rw [dif_pos (by omega), dif_neg (by omega), dif_neg (by omega), dif_neg (by omega), dif_neg (by omega), dif_neg (by omega), dif_neg (by omega), dif_neg (by omega), dif_pos (by omega)]
  blk_ext []

theorem row7_lt (a : Fin 4) (b : Fin 512) : (72960 + (512 * (a : ℕ) + b)) / 128 < 624 := by omega
theorem lane7_lt (a : Fin 4) (b : Fin 512) : (72960 + (512 * (a : ℕ) + b)) % 128 < 128 := by omega

theorem piece7 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack7 (fun y => pack a0 a1 a2 a3 a4 a5 a6 a7 a8 (ix3 d (y 0) (y 1) : S8x624x128.Idx)) = fun j => a7 (ix3 d (j 0) (j 1) : S8x4x512.Idx) := by
  funext y
  obtain ⟨a, b, rfl⟩ : ∃ (a : Fin 4) (b : Fin 512), y = (ix2 a b : S4x512.Idx) := ⟨y 0, y 1, eq_ix2 _⟩
  exact (take7 _ a b ⟨_, row7_lt a b⟩ ⟨_, lane7_lt a b⟩ (Nat.div_add_mod _ 128)).trans
    (at7 a0 a1 a2 a3 a4 a5 a6 a7 a8 d a b ⟨_, row7_lt a b⟩ ⟨_, lane7_lt a b⟩ (Nat.div_add_mod _ 128))

theorem value7 (g : S8x4x512.Idx → Elt Ideal .f32) : (val_main_v7 (F := Ideal) g : S4x512.Idx → EReal) = fun j => ∑ d : Fin 8, (g (ix3 d (j 0) (j 1) : S8x4x512.Idx) : EReal) := by
  funext y
  idx_vars y
  pointwise [val_main_v7, val_main_cst_6]

theorem take8 (X : S624x128.Idx → Elt Ideal .f32) (a : Fin 4) (b : Fin 1024) (r : Fin 624) (l : Fin 128) (h : 128 * (r : ℕ) + l = 75008 + (1024 * (a : ℕ) + b)) :
    unpack8 X (ix2 a b : S4x1024.Idx) = X (ix2 r l : S624x128.Idx) := by
  pointwise [unpack8]
  blk_ext []

theorem at8 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) (a : Fin 4) (b : Fin 1024) (r : Fin 624) (l : Fin 128) (h : 128 * (r : ℕ) + l = 75008 + (1024 * (a : ℕ) + b)) :
    pack a0 a1 a2 a3 a4 a5 a6 a7 a8 (ix3 d r l : S8x624x128.Idx) = a8 (ix3 d a b : S8x4x1024.Idx) := by
  pointwise [pack, rows]
  rw [dif_pos (by omega), dif_neg (by omega), dif_neg (by omega), dif_neg (by omega), dif_neg (by omega), dif_neg (by omega), dif_neg (by omega), dif_neg (by omega), dif_neg (by omega)]
  blk_ext []

theorem row8_lt (a : Fin 4) (b : Fin 1024) : (75008 + (1024 * (a : ℕ) + b)) / 128 < 624 := by omega
theorem lane8_lt (a : Fin 4) (b : Fin 1024) : (75008 + (1024 * (a : ℕ) + b)) % 128 < 128 := by omega

theorem piece8 (a0 : S8x32x24.Idx → Elt Ideal .f32) (a1 : S8x4x1024.Idx → Elt Ideal .f32) (a2 : S8x4x64.Idx → Elt Ideal .f32) (a3 : S8x4x64.Idx → Elt Ideal .f32) (a4 : S8x4x31x512.Idx → Elt Ideal .f32) (a5 : S8x4x512.Idx → Elt Ideal .f32) (a6 : S8x4x512.Idx → Elt Ideal .f32) (a7 : S8x4x512.Idx → Elt Ideal .f32) (a8 : S8x4x1024.Idx → Elt Ideal .f32) (d : Fin 8) :
    unpack8 (fun y => pack a0 a1 a2 a3 a4 a5 a6 a7 a8 (ix3 d (y 0) (y 1) : S8x624x128.Idx)) = fun j => a8 (ix3 d (j 0) (j 1) : S8x4x1024.Idx) := by
  funext y
  obtain ⟨a, b, rfl⟩ : ∃ (a : Fin 4) (b : Fin 1024), y = (ix2 a b : S4x1024.Idx) := ⟨y 0, y 1, eq_ix2 _⟩
  exact (take8 _ a b ⟨_, row8_lt a b⟩ ⟨_, lane8_lt a b⟩ (Nat.div_add_mod _ 128)).trans
    (at8 a0 a1 a2 a3 a4 a5 a6 a7 a8 d a b ⟨_, row8_lt a b⟩ ⟨_, lane8_lt a b⟩ (Nat.div_add_mod _ 128))

theorem value8 (g : S8x4x1024.Idx → Elt Ideal .f32) : (val_main_v8 (F := Ideal) g : S4x1024.Idx → EReal) = fun j => ∑ d : Fin 8, (g (ix3 d (j 0) (j 1) : S8x4x1024.Idx) : EReal) := by
  funext y
  idx_vars y
  pointwise [val_main_v8, val_main_cst_7]

variable (m : (ℓ : Loc nD τ sig) → Buf (Elt Ideal) ℓ) (c : Dev nD)

abbrev A0 : S8x32x24.Idx → Elt Ideal .f32 := m ((c : Thread nD τ).loc main_arg0)
abbrev A1 : S8x4x1024.Idx → Elt Ideal .f32 := m ((c : Thread nD τ).loc main_arg1)
abbrev A2 : S8x4x64.Idx → Elt Ideal .f32 := m ((c : Thread nD τ).loc main_arg2)
abbrev A3 : S8x4x64.Idx → Elt Ideal .f32 := m ((c : Thread nD τ).loc main_arg3)
abbrev A4 : S8x4x31x512.Idx → Elt Ideal .f32 := m ((c : Thread nD τ).loc main_arg4)
abbrev A5 : S8x4x512.Idx → Elt Ideal .f32 := m ((c : Thread nD τ).loc main_arg5)
abbrev A6 : S8x4x512.Idx → Elt Ideal .f32 := m ((c : Thread nD τ).loc main_arg6)
abbrev A7 : S8x4x512.Idx → Elt Ideal .f32 := m ((c : Thread nD τ).loc main_arg7)
abbrev A8 : S8x4x1024.Idx → Elt Ideal .f32 := m ((c : Thread nD τ).loc main_arg8)
abbrev P : S8x624x128.Idx → Elt Ideal .f32 := pack (A0 m c) (A1 m c) (A2 m c) (A3 m c) (A4 m c) (A5 m c) (A6 m c) (A7 m c) (A8 m c)

/-- Device `d`'s rows. -/
abbrev rowsOf (d : Fin 8) : S624x128.Idx → Elt Ideal .f32 := fun y => P m c (ix3 d (y 0) (y 1) : S8x624x128.Idx)

theorem index0 : ∀ t : Fin cfg0.N, win0_0.index t = ![0, 0, 0] := (by decide +kernel : ∀ t : Fin grid0.N, _)
theorem index1 : ∀ t : Fin cfg0.N, win0_1.index t = ![0, 0] := (by decide +kernel : ∀ t : Fin grid0.N, _)

theorem block (t : Fin cfg0.N) (d : Fin 8) (i : Fin 624) (l : Fin 128) : iblk m c 0 t (ix3 d i l : S8x624x128.Idx) = P m c (ix3 d i l) := by
  refine Eq.trans ?_ (congrFun (entry (fun b => m (c, b))) (ix3 d i l))
  blk_ext [iblk, index0]

/-- The kernel's sum. -/
def total : S624x128.Idx → Elt Ideal .f32 := fun y =>
  ((rowsOf m c 0 y + rowsOf m c 1 y + rowsOf m c 2 y + rowsOf m c 3 y + rowsOf m c 4 y + rowsOf m c 5 y + rowsOf m c 6 y + rowsOf m c 7 y : EReal))

theorem final : (dats m 0 c).arrAt 1 cfg0.N = total m c := by
  refine (dats m 0 c).arrAt_eq_of_covers 1 _ (by decide +kernel) fun t hf y => ?_
  obtain ⟨i, l, rfl⟩ : ∃ (i : Fin 624) (l : Fin 128), y = (ix2 i l : S624x128.Idx) := ⟨y 0, y 1, eq_ix2 _⟩
  blk_simp
  rw [after0_1]
  frame_out
  pointwise [k0_pay1]
  have e : ((View.whole main_v12).slice (win0_1.rect t)).emb (ix2 i l : S624x128.Idx) = (ix2 i l : S624x128.Idx) := by
    blk_ext [index1]
  rw [e]
  simp only [block]
  rfl

theorem result0 : Pipeline.afterTail₀ cfgs (dats m) 0 (V0 m) [hostOps1] c main_v15 = val_main_v0 (F := Ideal) (A0 m c) := by
  refine (tail0 _).trans ?_
  refine (congrArg unpack0 ((Pipeline.withArrays_arr spec0 launch0.win.arr_inj c (V0 m c) (fun w => (dats m 0 c).arrAt w cfg0.N) 1).trans (final m c))).trans ?_
  refine Eq.trans ?_ (value0 (A0 m c)).symm
  refine Eq.trans (show _ = fun y => (unpack0 (rowsOf m c 0) y + unpack0 (rowsOf m c 1) y + unpack0 (rowsOf m c 2) y + unpack0 (rowsOf m c 3) y + unpack0 (rowsOf m c 4) y + unpack0 (rowsOf m c 5) y + unpack0 (rowsOf m c 6) y + unpack0 (rowsOf m c 7) y : EReal) from rfl) ?_
  funext y
  rw [piece0 (A0 m c) (A1 m c) (A2 m c) (A3 m c) (A4 m c) (A5 m c) (A6 m c) (A7 m c) (A8 m c) 0, piece0 (A0 m c) (A1 m c) (A2 m c) (A3 m c) (A4 m c) (A5 m c) (A6 m c) (A7 m c) (A8 m c) 1, piece0 (A0 m c) (A1 m c) (A2 m c) (A3 m c) (A4 m c) (A5 m c) (A6 m c) (A7 m c) (A8 m c) 2, piece0 (A0 m c) (A1 m c) (A2 m c) (A3 m c) (A4 m c) (A5 m c) (A6 m c) (A7 m c) (A8 m c) 3, piece0 (A0 m c) (A1 m c) (A2 m c) (A3 m c) (A4 m c) (A5 m c) (A6 m c) (A7 m c) (A8 m c) 4, piece0 (A0 m c) (A1 m c) (A2 m c) (A3 m c) (A4 m c) (A5 m c) (A6 m c) (A7 m c) (A8 m c) 5, piece0 (A0 m c) (A1 m c) (A2 m c) (A3 m c) (A4 m c) (A5 m c) (A6 m c) (A7 m c) (A8 m c) 6, piece0 (A0 m c) (A1 m c) (A2 m c) (A3 m c) (A4 m c) (A5 m c) (A6 m c) (A7 m c) (A8 m c) 7, Fin.sum_univ_eight]

theorem result1 : Pipeline.afterTail₀ cfgs (dats m) 0 (V0 m) [hostOps1] c main_v17 = val_main_v1 (F := Ideal) (A1 m c) := by
  refine (tail1 _).trans ?_
  refine (congrArg unpack1 ((Pipeline.withArrays_arr spec0 launch0.win.arr_inj c (V0 m c) (fun w => (dats m 0 c).arrAt w cfg0.N) 1).trans (final m c))).trans ?_
  refine Eq.trans ?_ (value1 (A1 m c)).symm
  refine Eq.trans (show _ = fun y => (unpack1 (rowsOf m c 0) y + unpack1 (rowsOf m c 1) y + unpack1 (rowsOf m c 2) y + unpack1 (rowsOf m c 3) y + unpack1 (rowsOf m c 4) y + unpack1 (rowsOf m c 5) y + unpack1 (rowsOf m c 6) y + unpack1 (rowsOf m c 7) y : EReal) from rfl) ?_
  funext y
  rw [piece1 (A0 m c) (A1 m c) (A2 m c) (A3 m c) (A4 m c) (A5 m c) (A6 m c) (A7 m c) (A8 m c) 0, piece1 (A0 m c) (A1 m c) (A2 m c) (A3 m c) (A4 m c) (A5 m c) (A6 m c) (A7 m c) (A8 m c) 1, piece1 (A0 m c) (A1 m c) (A2 m c) (A3 m c) (A4 m c) (A5 m c) (A6 m c) (A7 m c) (A8 m c) 2, piece1 (A0 m c) (A1 m c) (A2 m c) (A3 m c) (A4 m c) (A5 m c) (A6 m c) (A7 m c) (A8 m c) 3, piece1 (A0 m c) (A1 m c) (A2 m c) (A3 m c) (A4 m c) (A5 m c) (A6 m c) (A7 m c) (A8 m c) 4, piece1 (A0 m c) (A1 m c) (A2 m c) (A3 m c) (A4 m c) (A5 m c) (A6 m c) (A7 m c) (A8 m c) 5, piece1 (A0 m c) (A1 m c) (A2 m c) (A3 m c) (A4 m c) (A5 m c) (A6 m c) (A7 m c) (A8 m c) 6, piece1 (A0 m c) (A1 m c) (A2 m c) (A3 m c) (A4 m c) (A5 m c) (A6 m c) (A7 m c) (A8 m c) 7, Fin.sum_univ_eight]

theorem result2 : Pipeline.afterTail₀ cfgs (dats m) 0 (V0 m) [hostOps1] c main_v19 = val_main_v2 (F := Ideal) (A2 m c) := by
  refine (tail2 _).trans ?_
  refine (congrArg unpack2 ((Pipeline.withArrays_arr spec0 launch0.win.arr_inj c (V0 m c) (fun w => (dats m 0 c).arrAt w cfg0.N) 1).trans (final m c))).trans ?_
  refine Eq.trans ?_ (value2 (A2 m c)).symm
  refine Eq.trans (show _ = fun y => (unpack2 (rowsOf m c 0) y + unpack2 (rowsOf m c 1) y + unpack2 (rowsOf m c 2) y + unpack2 (rowsOf m c 3) y + unpack2 (rowsOf m c 4) y + unpack2 (rowsOf m c 5) y + unpack2 (rowsOf m c 6) y + unpack2 (rowsOf m c 7) y : EReal) from rfl) ?_
  funext y
  rw [piece2 (A0 m c) (A1 m c) (A2 m c) (A3 m c) (A4 m c) (A5 m c) (A6 m c) (A7 m c) (A8 m c) 0, piece2 (A0 m c) (A1 m c) (A2 m c) (A3 m c) (A4 m c) (A5 m c) (A6 m c) (A7 m c) (A8 m c) 1, piece2 (A0 m c) (A1 m c) (A2 m c) (A3 m c) (A4 m c) (A5 m c) (A6 m c) (A7 m c) (A8 m c) 2, piece2 (A0 m c) (A1 m c) (A2 m c) (A3 m c) (A4 m c) (A5 m c) (A6 m c) (A7 m c) (A8 m c) 3, piece2 (A0 m c) (A1 m c) (A2 m c) (A3 m c) (A4 m c) (A5 m c) (A6 m c) (A7 m c) (A8 m c) 4, piece2 (A0 m c) (A1 m c) (A2 m c) (A3 m c) (A4 m c) (A5 m c) (A6 m c) (A7 m c) (A8 m c) 5, piece2 (A0 m c) (A1 m c) (A2 m c) (A3 m c) (A4 m c) (A5 m c) (A6 m c) (A7 m c) (A8 m c) 6, piece2 (A0 m c) (A1 m c) (A2 m c) (A3 m c) (A4 m c) (A5 m c) (A6 m c) (A7 m c) (A8 m c) 7, Fin.sum_univ_eight]

theorem result3 : Pipeline.afterTail₀ cfgs (dats m) 0 (V0 m) [hostOps1] c main_v21 = val_main_v3 (F := Ideal) (A3 m c) := by
  refine (tail3 _).trans ?_
  refine (congrArg unpack3 ((Pipeline.withArrays_arr spec0 launch0.win.arr_inj c (V0 m c) (fun w => (dats m 0 c).arrAt w cfg0.N) 1).trans (final m c))).trans ?_
  refine Eq.trans ?_ (value3 (A3 m c)).symm
  refine Eq.trans (show _ = fun y => (unpack3 (rowsOf m c 0) y + unpack3 (rowsOf m c 1) y + unpack3 (rowsOf m c 2) y + unpack3 (rowsOf m c 3) y + unpack3 (rowsOf m c 4) y + unpack3 (rowsOf m c 5) y + unpack3 (rowsOf m c 6) y + unpack3 (rowsOf m c 7) y : EReal) from rfl) ?_
  funext y
  rw [piece3 (A0 m c) (A1 m c) (A2 m c) (A3 m c) (A4 m c) (A5 m c) (A6 m c) (A7 m c) (A8 m c) 0, piece3 (A0 m c) (A1 m c) (A2 m c) (A3 m c) (A4 m c) (A5 m c) (A6 m c) (A7 m c) (A8 m c) 1, piece3 (A0 m c) (A1 m c) (A2 m c) (A3 m c) (A4 m c) (A5 m c) (A6 m c) (A7 m c) (A8 m c) 2, piece3 (A0 m c) (A1 m c) (A2 m c) (A3 m c) (A4 m c) (A5 m c) (A6 m c) (A7 m c) (A8 m c) 3, piece3 (A0 m c) (A1 m c) (A2 m c) (A3 m c) (A4 m c) (A5 m c) (A6 m c) (A7 m c) (A8 m c) 4, piece3 (A0 m c) (A1 m c) (A2 m c) (A3 m c) (A4 m c) (A5 m c) (A6 m c) (A7 m c) (A8 m c) 5, piece3 (A0 m c) (A1 m c) (A2 m c) (A3 m c) (A4 m c) (A5 m c) (A6 m c) (A7 m c) (A8 m c) 6, piece3 (A0 m c) (A1 m c) (A2 m c) (A3 m c) (A4 m c) (A5 m c) (A6 m c) (A7 m c) (A8 m c) 7, Fin.sum_univ_eight]

theorem result4 : Pipeline.afterTail₀ cfgs (dats m) 0 (V0 m) [hostOps1] c main_v23 = val_main_v4 (F := Ideal) (A4 m c) := by
  refine (tail4 _).trans ?_
  refine (congrArg unpack4 ((Pipeline.withArrays_arr spec0 launch0.win.arr_inj c (V0 m c) (fun w => (dats m 0 c).arrAt w cfg0.N) 1).trans (final m c))).trans ?_
  refine Eq.trans ?_ (value4 (A4 m c)).symm
  refine Eq.trans (show _ = fun y => (unpack4 (rowsOf m c 0) y + unpack4 (rowsOf m c 1) y + unpack4 (rowsOf m c 2) y + unpack4 (rowsOf m c 3) y + unpack4 (rowsOf m c 4) y + unpack4 (rowsOf m c 5) y + unpack4 (rowsOf m c 6) y + unpack4 (rowsOf m c 7) y : EReal) from rfl) ?_
  funext y
  rw [piece4 (A0 m c) (A1 m c) (A2 m c) (A3 m c) (A4 m c) (A5 m c) (A6 m c) (A7 m c) (A8 m c) 0, piece4 (A0 m c) (A1 m c) (A2 m c) (A3 m c) (A4 m c) (A5 m c) (A6 m c) (A7 m c) (A8 m c) 1, piece4 (A0 m c) (A1 m c) (A2 m c) (A3 m c) (A4 m c) (A5 m c) (A6 m c) (A7 m c) (A8 m c) 2, piece4 (A0 m c) (A1 m c) (A2 m c) (A3 m c) (A4 m c) (A5 m c) (A6 m c) (A7 m c) (A8 m c) 3, piece4 (A0 m c) (A1 m c) (A2 m c) (A3 m c) (A4 m c) (A5 m c) (A6 m c) (A7 m c) (A8 m c) 4, piece4 (A0 m c) (A1 m c) (A2 m c) (A3 m c) (A4 m c) (A5 m c) (A6 m c) (A7 m c) (A8 m c) 5, piece4 (A0 m c) (A1 m c) (A2 m c) (A3 m c) (A4 m c) (A5 m c) (A6 m c) (A7 m c) (A8 m c) 6, piece4 (A0 m c) (A1 m c) (A2 m c) (A3 m c) (A4 m c) (A5 m c) (A6 m c) (A7 m c) (A8 m c) 7, Fin.sum_univ_eight]

theorem result5 : Pipeline.afterTail₀ cfgs (dats m) 0 (V0 m) [hostOps1] c main_v25 = val_main_v5 (F := Ideal) (A5 m c) := by
  refine (tail5 _).trans ?_
  refine (congrArg unpack5 ((Pipeline.withArrays_arr spec0 launch0.win.arr_inj c (V0 m c) (fun w => (dats m 0 c).arrAt w cfg0.N) 1).trans (final m c))).trans ?_
  refine Eq.trans ?_ (value5 (A5 m c)).symm
  refine Eq.trans (show _ = fun y => (unpack5 (rowsOf m c 0) y + unpack5 (rowsOf m c 1) y + unpack5 (rowsOf m c 2) y + unpack5 (rowsOf m c 3) y + unpack5 (rowsOf m c 4) y + unpack5 (rowsOf m c 5) y + unpack5 (rowsOf m c 6) y + unpack5 (rowsOf m c 7) y : EReal) from rfl) ?_
  funext y
  rw [piece5 (A0 m c) (A1 m c) (A2 m c) (A3 m c) (A4 m c) (A5 m c) (A6 m c) (A7 m c) (A8 m c) 0, piece5 (A0 m c) (A1 m c) (A2 m c) (A3 m c) (A4 m c) (A5 m c) (A6 m c) (A7 m c) (A8 m c) 1, piece5 (A0 m c) (A1 m c) (A2 m c) (A3 m c) (A4 m c) (A5 m c) (A6 m c) (A7 m c) (A8 m c) 2, piece5 (A0 m c) (A1 m c) (A2 m c) (A3 m c) (A4 m c) (A5 m c) (A6 m c) (A7 m c) (A8 m c) 3, piece5 (A0 m c) (A1 m c) (A2 m c) (A3 m c) (A4 m c) (A5 m c) (A6 m c) (A7 m c) (A8 m c) 4, piece5 (A0 m c) (A1 m c) (A2 m c) (A3 m c) (A4 m c) (A5 m c) (A6 m c) (A7 m c) (A8 m c) 5, piece5 (A0 m c) (A1 m c) (A2 m c) (A3 m c) (A4 m c) (A5 m c) (A6 m c) (A7 m c) (A8 m c) 6, piece5 (A0 m c) (A1 m c) (A2 m c) (A3 m c) (A4 m c) (A5 m c) (A6 m c) (A7 m c) (A8 m c) 7, Fin.sum_univ_eight]

theorem result6 : Pipeline.afterTail₀ cfgs (dats m) 0 (V0 m) [hostOps1] c main_v27 = val_main_v6 (F := Ideal) (A6 m c) := by
  refine (tail6 _).trans ?_
  refine (congrArg unpack6 ((Pipeline.withArrays_arr spec0 launch0.win.arr_inj c (V0 m c) (fun w => (dats m 0 c).arrAt w cfg0.N) 1).trans (final m c))).trans ?_
  refine Eq.trans ?_ (value6 (A6 m c)).symm
  refine Eq.trans (show _ = fun y => (unpack6 (rowsOf m c 0) y + unpack6 (rowsOf m c 1) y + unpack6 (rowsOf m c 2) y + unpack6 (rowsOf m c 3) y + unpack6 (rowsOf m c 4) y + unpack6 (rowsOf m c 5) y + unpack6 (rowsOf m c 6) y + unpack6 (rowsOf m c 7) y : EReal) from rfl) ?_
  funext y
  rw [piece6 (A0 m c) (A1 m c) (A2 m c) (A3 m c) (A4 m c) (A5 m c) (A6 m c) (A7 m c) (A8 m c) 0, piece6 (A0 m c) (A1 m c) (A2 m c) (A3 m c) (A4 m c) (A5 m c) (A6 m c) (A7 m c) (A8 m c) 1, piece6 (A0 m c) (A1 m c) (A2 m c) (A3 m c) (A4 m c) (A5 m c) (A6 m c) (A7 m c) (A8 m c) 2, piece6 (A0 m c) (A1 m c) (A2 m c) (A3 m c) (A4 m c) (A5 m c) (A6 m c) (A7 m c) (A8 m c) 3, piece6 (A0 m c) (A1 m c) (A2 m c) (A3 m c) (A4 m c) (A5 m c) (A6 m c) (A7 m c) (A8 m c) 4, piece6 (A0 m c) (A1 m c) (A2 m c) (A3 m c) (A4 m c) (A5 m c) (A6 m c) (A7 m c) (A8 m c) 5, piece6 (A0 m c) (A1 m c) (A2 m c) (A3 m c) (A4 m c) (A5 m c) (A6 m c) (A7 m c) (A8 m c) 6, piece6 (A0 m c) (A1 m c) (A2 m c) (A3 m c) (A4 m c) (A5 m c) (A6 m c) (A7 m c) (A8 m c) 7, Fin.sum_univ_eight]

theorem result7 : Pipeline.afterTail₀ cfgs (dats m) 0 (V0 m) [hostOps1] c main_v29 = val_main_v7 (F := Ideal) (A7 m c) := by
  refine (tail7 _).trans ?_
  refine (congrArg unpack7 ((Pipeline.withArrays_arr spec0 launch0.win.arr_inj c (V0 m c) (fun w => (dats m 0 c).arrAt w cfg0.N) 1).trans (final m c))).trans ?_
  refine Eq.trans ?_ (value7 (A7 m c)).symm
  refine Eq.trans (show _ = fun y => (unpack7 (rowsOf m c 0) y + unpack7 (rowsOf m c 1) y + unpack7 (rowsOf m c 2) y + unpack7 (rowsOf m c 3) y + unpack7 (rowsOf m c 4) y + unpack7 (rowsOf m c 5) y + unpack7 (rowsOf m c 6) y + unpack7 (rowsOf m c 7) y : EReal) from rfl) ?_
  funext y
  rw [piece7 (A0 m c) (A1 m c) (A2 m c) (A3 m c) (A4 m c) (A5 m c) (A6 m c) (A7 m c) (A8 m c) 0, piece7 (A0 m c) (A1 m c) (A2 m c) (A3 m c) (A4 m c) (A5 m c) (A6 m c) (A7 m c) (A8 m c) 1, piece7 (A0 m c) (A1 m c) (A2 m c) (A3 m c) (A4 m c) (A5 m c) (A6 m c) (A7 m c) (A8 m c) 2, piece7 (A0 m c) (A1 m c) (A2 m c) (A3 m c) (A4 m c) (A5 m c) (A6 m c) (A7 m c) (A8 m c) 3, piece7 (A0 m c) (A1 m c) (A2 m c) (A3 m c) (A4 m c) (A5 m c) (A6 m c) (A7 m c) (A8 m c) 4, piece7 (A0 m c) (A1 m c) (A2 m c) (A3 m c) (A4 m c) (A5 m c) (A6 m c) (A7 m c) (A8 m c) 5, piece7 (A0 m c) (A1 m c) (A2 m c) (A3 m c) (A4 m c) (A5 m c) (A6 m c) (A7 m c) (A8 m c) 6, piece7 (A0 m c) (A1 m c) (A2 m c) (A3 m c) (A4 m c) (A5 m c) (A6 m c) (A7 m c) (A8 m c) 7, Fin.sum_univ_eight]

theorem result8 : Pipeline.afterTail₀ cfgs (dats m) 0 (V0 m) [hostOps1] c main_v31 = val_main_v8 (F := Ideal) (A8 m c) := by
  refine (tail8 _).trans ?_
  refine (congrArg unpack8 ((Pipeline.withArrays_arr spec0 launch0.win.arr_inj c (V0 m c) (fun w => (dats m 0 c).arrAt w cfg0.N) 1).trans (final m c))).trans ?_
  refine Eq.trans ?_ (value8 (A8 m c)).symm
  refine Eq.trans (show _ = fun y => (unpack8 (rowsOf m c 0) y + unpack8 (rowsOf m c 1) y + unpack8 (rowsOf m c 2) y + unpack8 (rowsOf m c 3) y + unpack8 (rowsOf m c 4) y + unpack8 (rowsOf m c 5) y + unpack8 (rowsOf m c 6) y + unpack8 (rowsOf m c 7) y : EReal) from rfl) ?_
  funext y
  rw [piece8 (A0 m c) (A1 m c) (A2 m c) (A3 m c) (A4 m c) (A5 m c) (A6 m c) (A7 m c) (A8 m c) 0, piece8 (A0 m c) (A1 m c) (A2 m c) (A3 m c) (A4 m c) (A5 m c) (A6 m c) (A7 m c) (A8 m c) 1, piece8 (A0 m c) (A1 m c) (A2 m c) (A3 m c) (A4 m c) (A5 m c) (A6 m c) (A7 m c) (A8 m c) 2, piece8 (A0 m c) (A1 m c) (A2 m c) (A3 m c) (A4 m c) (A5 m c) (A6 m c) (A7 m c) (A8 m c) 3, piece8 (A0 m c) (A1 m c) (A2 m c) (A3 m c) (A4 m c) (A5 m c) (A6 m c) (A7 m c) (A8 m c) 4, piece8 (A0 m c) (A1 m c) (A2 m c) (A3 m c) (A4 m c) (A5 m c) (A6 m c) (A7 m c) (A8 m c) 5, piece8 (A0 m c) (A1 m c) (A2 m c) (A3 m c) (A4 m c) (A5 m c) (A6 m c) (A7 m c) (A8 m c) 6, piece8 (A0 m c) (A1 m c) (A2 m c) (A3 m c) (A4 m c) (A5 m c) (A6 m c) (A7 m c) (A8 m c) 7, Fin.sum_univ_eight]

end Cert.SumDevProof

namespace Cert.SumDevClaims

open Idealize.ShloMosaic Idealize.SL.Sem Cert.SumDevProof
open Cert.SumDevRefIdeal.Read

theorem frame_kernel : Cert.quiescent_SumDev := fun m ρ _ => Cert.SumDev.Gen.frame m ρ

theorem frame_ideal : Cert.quiescent_SumDevIdeal := fun m ρ _ => Cert.SumDevIdeal.Gen.frame m ρ

theorem frame_reference : Cert.quiescent_SumDevRefIdeal := fun m ρ _ =>
  (θ_run Cert.SumDevRefIdeal.defs _ _).mono (fun r h => ⟨fun c => (h c).2.2.2.2.2.2.2.2.2, sem_eq_zero_of_no_sems (by decide) r.2⟩)
    (Cert.SumDevRefIdeal.Value.run (F := Ideal) m ρ)

theorem preserves : Cert.preserves_SumDev_SumDevIdeal := trivial

theorem algebraic : Cert.algebraic_SumDevIdeal_SumDevRefIdeal := by
  intro m ρ m' ρ' _ hag
  have e0 (c : Dev Cert.SumDevRefIdeal.nD) : _ = A0 m c := (hag c).1
  have e1 (c : Dev Cert.SumDevRefIdeal.nD) : _ = A1 m c := (hag c).2.1
  have e2 (c : Dev Cert.SumDevRefIdeal.nD) : _ = A2 m c := (hag c).2.2.1
  have e3 (c : Dev Cert.SumDevRefIdeal.nD) : _ = A3 m c := (hag c).2.2.2.1
  have e4 (c : Dev Cert.SumDevRefIdeal.nD) : _ = A4 m c := (hag c).2.2.2.2.1
  have e5 (c : Dev Cert.SumDevRefIdeal.nD) : _ = A5 m c := (hag c).2.2.2.2.2.1
  have e6 (c : Dev Cert.SumDevRefIdeal.nD) : _ = A6 m c := (hag c).2.2.2.2.2.2.1
  have e7 (c : Dev Cert.SumDevRefIdeal.nD) : _ = A7 m c := (hag c).2.2.2.2.2.2.2.1
  have e8 (c : Dev Cert.SumDevRefIdeal.nD) : _ = A8 m c := (hag c).2.2.2.2.2.2.2.2
  refine ⟨fun c => val_main_v0 (F := Ideal) (A0 m c),
    fun c => val_main_v1 (F := Ideal) (A1 m c),
    fun c => val_main_v2 (F := Ideal) (A2 m c),
    fun c => val_main_v3 (F := Ideal) (A3 m c),
    fun c => val_main_v4 (F := Ideal) (A4 m c),
    fun c => val_main_v5 (F := Ideal) (A5 m c),
    fun c => val_main_v6 (F := Ideal) (A6 m c),
    fun c => val_main_v7 (F := Ideal) (A7 m c),
    fun c => val_main_v8 (F := Ideal) (A8 m c), ?_, ?_⟩
  · exact (θ_run Cert.SumDevIdeal.defs _ _).mono (fun r h c => ⟨((h.1 c).2 Cert.SumDevIdeal.main_v15 (by decide)).trans (result0 m c), ((h.1 c).2 Cert.SumDevIdeal.main_v17 (by decide)).trans (result1 m c), ((h.1 c).2 Cert.SumDevIdeal.main_v19 (by decide)).trans (result2 m c), ((h.1 c).2 Cert.SumDevIdeal.main_v21 (by decide)).trans (result3 m c), ((h.1 c).2 Cert.SumDevIdeal.main_v23 (by decide)).trans (result4 m c), ((h.1 c).2 Cert.SumDevIdeal.main_v25 (by decide)).trans (result5 m c), ((h.1 c).2 Cert.SumDevIdeal.main_v27 (by decide)).trans (result6 m c), ((h.1 c).2 Cert.SumDevIdeal.main_v29 (by decide)).trans (result7 m c), ((h.1 c).2 Cert.SumDevIdeal.main_v31 (by decide)).trans (result8 m c), h.2 c⟩)
      (θ_run_and (Cert.SumDevIdeal.Gen.run_main (F := Ideal) m ρ) (Cert.SumDevIdeal.Gen.unchanged (F := Ideal) m ρ))
  · refine (θ_run Cert.SumDevRefIdeal.defs _ _).mono (fun r h c => ⟨(h c).1.trans ((val_main_v0_eq _).trans ?_), (h c).2.1.trans ((val_main_v1_eq _).trans ?_), (h c).2.2.1.trans ((val_main_v2_eq _).trans ?_), (h c).2.2.2.1.trans ((val_main_v3_eq _).trans ?_), (h c).2.2.2.2.1.trans ((val_main_v4_eq _).trans ?_), (h c).2.2.2.2.2.1.trans ((val_main_v5_eq _).trans ?_), (h c).2.2.2.2.2.2.1.trans ((val_main_v6_eq _).trans ?_), (h c).2.2.2.2.2.2.2.1.trans ((val_main_v7_eq _).trans ?_), (h c).2.2.2.2.2.2.2.2.1.trans ((val_main_v8_eq _).trans ?_), (h c).2.2.2.2.2.2.2.2.2⟩)
      (Cert.SumDevRefIdeal.Value.run (F := Ideal) m' ρ')
    · exact congrArg (val_main_v0 (F := Ideal)) (e0 c)
    · exact congrArg (val_main_v1 (F := Ideal)) (e1 c)
    · exact congrArg (val_main_v2 (F := Ideal)) (e2 c)
    · exact congrArg (val_main_v3 (F := Ideal)) (e3 c)
    · exact congrArg (val_main_v4 (F := Ideal)) (e4 c)
    · exact congrArg (val_main_v5 (F := Ideal)) (e5 c)
    · exact congrArg (val_main_v6 (F := Ideal)) (e6 c)
    · exact congrArg (val_main_v7 (F := Ideal)) (e7 c)
    · exact congrArg (val_main_v8 (F := Ideal)) (e8 c)

end Cert.SumDevClaims

end
-- ==== Proof.RmsMath.lean ====
module

public import Idealize.ShloMosaic.Lib.Pipeline.ValueKit
public import Idealize.ShloMosaic.Lib.IdealHost

/-! The gradient of a vector divided by the root of its mean square: two ways of writing it agree at every extended real. -/

@[expose] public section

noncomputable section

namespace Cert.RmsMath

open Idealize.ShloMosaic

theorem width : Ideal.ofBits .f32 1149239296#32 = ((1024 : ℝ) : EReal) := by
  simp [Ideal.ofBits, Ideal.ieee, -EReal.coe_mul]; norm_num

theorem minus_half : Ideal.ofBits .f32 3204448256#32 = ((-(1 / 2) : ℝ) : EReal) := by
  simp [Ideal.ofBits, Ideal.ieee, -EReal.coe_mul, -EReal.coe_neg]; norm_num

theorem eps_pos : 0 < Ideal.ofBits .f32 897988541#32 := by
  have e : Ideal.ofBits .f32 897988541#32 = ((8796093 / 8796093022208 : ℝ) : EReal) := by
    simp [Ideal.ofBits, Ideal.ieee, -EReal.coe_mul]; norm_num
  rw [e]
  exact EReal.coe_pos.mpr (by norm_num)

theorem square_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

/-- The mean square and the small constant: positive. -/
theorem mean_pos {n : ℕ} (x : Fin n → EReal) :
    0 < Ideal.div (∑ k, x k * x k) (Ideal.ofBits .f32 1149239296#32) + Ideal.ofBits .f32 897988541#32 := by
  rw [width, Ideal.div_coe (by norm_num)]
  refine lt_of_lt_of_le eps_pos (le_add_of_nonneg_left (mul_nonneg (Finset.sum_nonneg fun k _ => square_nonneg _) ?_))
  exact EReal.coe_nonneg.mpr (by norm_num)

/-- A nonnegative real goes into a sum. -/
theorem sum_mul_real {n : ℕ} (f : Fin n → EReal) (p : ℝ) (hp : 0 ≤ p) : (∑ k, f k * (p : EReal)) = (∑ k, f k) * (p : EReal) := by
  induction n with
  | zero => simp
  | succ n ih =>
    rw [Fin.sum_univ_succ, Fin.sum_univ_succ, ih,
      EReal.right_distrib_of_nonneg_of_ne_top (EReal.coe_nonneg.mpr hp) (EReal.coe_ne_top p)]

/-- At one coordinate `d = dy i`, `w = x i`: with the sum of `x * dy` taken out. -/
theorem at_real (p q α : ℝ) (hp : 0 ≤ p) (hq : 0 ≤ q) (hα : α ≠ 0) (h : p * p = 1 / α) (d w S : EReal) :
    (p : EReal) * (d - w * (p : EReal) * (S * (p : EReal) * (q : EReal)))
      = d * (p : EReal) + w * (S * (((-(1 / 2) : ℝ) : EReal) * ((p : EReal) * ((1 / α : ℝ) : EReal))) * (q : EReal))
        + S * (((-(1 / 2) : ℝ) : EReal) * ((p : EReal) * ((1 / α : ℝ) : EReal))) * (q : EReal) * w := by
  have hc : S * (((-(1 / 2) : ℝ) : EReal) * ((p : EReal) * ((1 / α : ℝ) : EReal))) * (q : EReal)
      = -S * ((p * p * p * q / 2 : ℝ) : EReal) := by
    rw [mul_assoc S, ← EReal.coe_mul, ← EReal.coe_mul, ← EReal.coe_mul, ← h,
      show -(1 / 2) * (p * (p * p)) * q = -(p * p * p * q / 2) by ring, EReal.coe_neg, mul_neg, neg_mul]
  have hl : (p : EReal) * (w * (p : EReal) * (S * (p : EReal) * (q : EReal)))
      = w * S * ((p * p * p * q / 2 : ℝ) : EReal) + w * S * ((p * p * p * q / 2 : ℝ) : EReal) := by
    have h0 : (0 : EReal) ≤ ((p * p * p * q / 2 : ℝ) : EReal) := EReal.coe_nonneg.mpr (by positivity)
    rw [← EReal.left_distrib_of_nonneg h0 h0, ← EReal.coe_add]
    rw [show p * p * p * q / 2 + p * p * p * q / 2 = p * p * p * q by ring, EReal.coe_mul, EReal.coe_mul, EReal.coe_mul]
    ac_rfl
  have hn : ∀ u : EReal, -(u + u) = -u + -u := by
    intro u
    induction u <;> simp [← EReal.coe_neg, ← EReal.coe_add]
  rw [hc, sub_eq_add_neg, EReal.left_distrib_of_nonneg_of_ne_top (EReal.coe_nonneg.mpr hp) (EReal.coe_ne_top p), mul_neg, hl, hn,
    add_assoc, mul_comm d]
  congr 1
  have h1 (u : EReal) : w * (-S * u) = -(w * S * u) := by rw [neg_mul, mul_neg, mul_assoc]
  have h2 (u : EReal) : -S * u * w = -(w * S * u) := by rw [mul_comm, h1]
  rw [h1, h2]

/-- The two ways of writing the gradient agree. -/
theorem gradient {n : ℕ} (a : EReal) (ha : 0 < a) (x dy : Fin n → EReal) (i : Fin n) :
    Ideal.rsqrt a * (dy i - x i * Ideal.rsqrt a * Ideal.div (∑ k, dy k * (x k * Ideal.rsqrt a)) (Ideal.ofBits .f32 1149239296#32))
      = dy i * Ideal.rsqrt a
        + x i * Ideal.div ((∑ k, x k * dy k) * (Ideal.ofBits .f32 3204448256#32 * Ideal.div (Ideal.rsqrt a) a)) (Ideal.ofBits .f32 1149239296#32)
        + Ideal.div ((∑ k, x k * dy k) * (Ideal.ofBits .f32 3204448256#32 * Ideal.div (Ideal.rsqrt a) a)) (Ideal.ofBits .f32 1149239296#32) * x i := by
  rw [width, minus_half, Ideal.div_coe (by norm_num), Ideal.div_coe (by norm_num)]
  induction a with
  | bot => exact absurd ha (by simp)
  | top => simp [Ideal.zero_div]
  | coe α =>
    have hα : 0 < α := EReal.coe_pos.mp ha
    have e : Ideal.rsqrt (α : EReal) = (((Real.sqrt α)⁻¹ : ℝ) : EReal) := by
      rw [Ideal.rsqrt_coe, if_neg (not_lt.mpr hα.le), if_neg hα.ne']
    rw [e, Ideal.div_coe hα.ne']
    have hs : (∑ k, dy k * (x k * (((Real.sqrt α)⁻¹ : ℝ) : EReal))) = (∑ k, x k * dy k) * (((Real.sqrt α)⁻¹ : ℝ) : EReal) := by
      rw [← sum_mul_real _ _ (inv_nonneg.mpr (Real.sqrt_nonneg α))]
      exact Finset.sum_congr rfl fun k _ => by ac_rfl
    rw [hs]
    refine at_real _ _ α (inv_nonneg.mpr (Real.sqrt_nonneg α)) (by norm_num) hα.ne' ?_ _ _ _
    rw [← mul_inv, Real.mul_self_sqrt hα.le, one_div]

end Cert.RmsMath

end
-- ==== Proof.RmsBwdProof.lean ====
module

public import proofs.«01_k».proof.Defs
public import proofs.«01_k».proof.Proof.Gen.RmsBwd.Frame
public import proofs.«01_k».proof.Proof.Gen.RmsBwdIdeal.Value
public import proofs.«01_k».proof.Proof.Gen.RmsBwdRefIdeal.Run
public import proofs.«01_k».proof.Proof.Gen.RmsBwdRefIdeal.Read
public import Idealize.ShloMosaic.Lib.Pipeline.ValueKit
public import Idealize.ShloMosaic.Lib.Claim
public import proofs.«01_k».proof.Proof.RmsMath
public import proofs.«01_k».proof.Proof.ProductMath

/-! The gradient of the norm before a branch, and of its scale. -/

@[expose] public section

set_option maxRecDepth 16384

noncomputable section

namespace Cert.RmsBwdProof

open Cert.RmsBwdIdeal Cert.RmsBwdIdeal.Gen Idealize.ShloMosaic Idealize.ShloMosaic.TcCoe Idealize.SL.Sem
open Cert.RmsBwdRefIdeal.Read

variable (m : (ℓ : Loc nD τ sig) → Buf (Elt Ideal) ℓ) (c : Dev nD)

abbrev X : S2048x1024.Idx → Elt Ideal .f32 := m ((c : Thread nD τ).loc main_arg0)
abbrev G : S1x1024.Idx → Elt Ideal .f32 := m ((c : Thread nD τ).loc main_arg1)
abbrev H : S2048x1024.Idx → Elt Ideal .f32 := m ((c : Thread nD τ).loc main_arg2)
abbrev Q : S2048x1024.Idx → Elt Ideal .f32 := m ((c : Thread nD τ).loc main_arg3)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

theorem lt4 (t : Fin cfg0.N) : t.val < 4 := t.isLt

/-- Token `r` of block `t`. -/
abbrev row (t : Fin cfg0.N) (r : Fin 512) : Fin 2048 := ⟨t.val * 512 + r.val, by have := lt4 t; have := r.isLt; omega⟩

/-- The mean square of a token and the small constant. -/
def mean (x : Fin 1024 → EReal) : EReal :=
  Ideal.div (∑ k, x k * x k) (Ideal.ofBits .f32 1149239296#32) + Ideal.ofBits .f32 897988541#32

/-- The gradient of a token's input, as the kernel writes it. -/
def change (x g h : Fin 1024 → EReal) (l : Fin 1024) : EReal :=
  Ideal.rsqrt (mean x) * (h l * g l - x l * Ideal.rsqrt (mean x)
    * Ideal.div (∑ k, h k * g k * (x k * Ideal.rsqrt (mean x))) (Ideal.ofBits .f32 1149239296#32))

theorem reference_apply (x : S2048x1024.Idx → Elt Ideal .f32) (g : S1x1024.Idx → Elt Ideal .f32) (h q : S2048x1024.Idx → Elt Ideal .f32) (i : Fin 2048) (l : Fin 1024) :
    (val_main_v34 (F := Ideal) x g h q : S2048x1024.Idx → EReal) (ix2 i l)
      = HAdd.hAdd (α := EReal) (β := EReal) (γ := EReal) (q (ix2 i l)) (change (fun k => x (ix2 i k)) (fun k => g (ix2 0 k)) (fun k => h (ix2 i k)) l) := by
  unfold change
  rw [RmsMath.gradient (mean fun k => x (ix2 i k)) (RmsMath.mean_pos _) (fun k => x (ix2 i k)) (fun k => h (ix2 i k) * g (ix2 0 k)) l]
  unfold mean
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v34]
  try simp only [Finset.univ_unique, Finset.sum_singleton, Fin.sum_univ_one]

theorem reference_weight (x h : S2048x1024.Idx → Elt Ideal .f32) (l : Fin 1024) :
    (val_main_v17 (F := Ideal) x h : S1x1024.Idx → EReal) (ix2 0 l)
      = ∑ i : Fin 2048, HMul.hMul (α := EReal) (β := EReal) (γ := EReal) (h (ix2 i l)) (x (ix2 i l) * Ideal.rsqrt (mean fun k => x (ix2 i k))) := by
  unfold mean
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v34]
  exact Finset.sum_congr rfl fun k _ => by exact mul_comm (G := EReal) _ _

theorem block0 (t : Fin cfg0.N) (r : Fin 512) (l : Fin 1024) : iblk m c 0 t (ix2 r l : S512x1024.Idx) = X m c (ix2 (row t r) l) := by
  blk_ext [iblk, V_main_arg0, index0]
theorem block1 (t : Fin cfg0.N) (l : Fin 1024) : iblk m c 1 t (ix2 0 l : S1x1024.Idx) = G m c (ix2 0 l) := by
  blk_ext [iblk, V_main_arg1, index1]
theorem block2 (t : Fin cfg0.N) (r : Fin 512) (l : Fin 1024) : iblk m c 2 t (ix2 r l : S512x1024.Idx) = H m c (ix2 (row t r) l) := by
  blk_ext [iblk, V_main_arg2, index2]
theorem block3 (t : Fin cfg0.N) (r : Fin 512) (l : Fin 1024) : iblk m c 3 t (ix2 r l : S512x1024.Idx) = Q m c (ix2 (row t r) l) := by
  blk_ext [iblk, V_main_arg3, index3]

/-- Every point writes its tokens' gradients. -/
theorem written (t : Fin cfg0.N) (r : Fin 512) (l : Fin 1024) :
    ((outsAt0 m c t.val t.isLt).1 (ix2 r l : S512x1024.Idx) : EReal)
      = Q m c (ix2 (row t r) l) + change (fun k => X m c (ix2 (row t r) k)) (fun k => G m c (ix2 0 k)) (fun k => H m c (ix2 (row t r) k)) l := by
  by_cases h0 : t.val % 4 = 0
  · rw [outsAt0_A m c t h0]
    frame_out
    pointwise [k0_pay3, k0_pay2, k0_pay1]
    simp only [block0, block1, block2, block3]
    rfl
  · rw [outsAt0_B m c t h0]
    frame_out
    pointwise [k0_pay3, k0_pay2, k0_pay1]
    simp only [block0, block1, block2, block3]
    rfl

/-- What a point adds to the gradient of the scale. -/
abbrev part (t : Fin cfg0.N) (l : Fin 1024) : EReal :=
  ∑ r : Fin 512, (H m c (ix2 (row t r) l) : EReal) * (X m c (ix2 (row t r) l) * Ideal.rsqrt (mean fun k => X m c (ix2 (row t r) k)))

theorem carried_first (t : Fin cfg0.N) (h0 : t.val % 4 = 0) (l : Fin 1024) :
    ((outsAt0 m c t.val t.isLt).2 (ix2 0 l : S1x1024.Idx) : EReal) = part m c t l := by
  rw [outsAt0_A m c t h0]
  frame_out
  pointwise [k0_pay5, k0_pay4, k0_pay2, k0_pay1]
  simp only [block0, block2]
  rfl

theorem carried_next (t : Fin cfg0.N) (h0 : ¬ t.val % 4 = 0) (l : Fin 1024) :
    ((outsAt0 m c t.val t.isLt).2 (ix2 0 l : S1x1024.Idx) : EReal)
      = (outsAt0 m c (t.val - 1) (Nat.lt_of_le_of_lt (Nat.sub_le _ _) t.isLt)).2 (ix2 0 l : S1x1024.Idx) + part m c t l := by
  rw [outsAt0_B m c t h0]
  frame_out
  try rw [read_unread_whole]
  pointwise [k0_pay5, k0_pay4, k0_pay2, k0_pay1]
  simp only [block0, block2]
  rfl

theorem final4 : (dats m 0 c).arrAt 4 cfg0.N = val_main_v34 (F := Ideal) (X m c) (G m c) (H m c) (Q m c) := by
  refine (dats m 0 c).arrAt_eq_of_covers 4 _ (by decide +kernel) fun t hf y => ?_
  obtain ⟨r, l, rfl⟩ : ∃ (r : Fin 512) (l : Fin 1024), y = (ix2 r l : S512x1024.Idx) := ⟨y 0, y 1, eq_ix2 _⟩
  blk_simp
  rw [after0_4]
  have e : ((View.whole main_v0_0).slice (win0_4.rect t)).emb (ix2 r l : S512x1024.Idx) = (ix2 (row t r) l : S2048x1024.Idx) := by
    blk_ext [index4]
  exact Eq.trans (α := EReal) (written m c t r l) ((congrArg _ e).trans (reference_apply _ _ _ _ _ _)).symm

theorem final5 : (dats m 0 c).arrAt 5 cfg0.N = val_main_v17 (F := Ideal) (X m c) (H m c) := by
  refine (dats m 0 c).arrAt_eq_of_covers 5 _ (by decide +kernel) fun t hf y => ?_
  obtain ⟨z, l, rfl⟩ : ∃ (z : Fin 1) (l : Fin 1024), y = (ix2 z l : S1x1024.Idx) := ⟨y 0, y 1, eq_ix2 _⟩
  obtain rfl : z = 0 := Subsingleton.elim _ _
  have hN := lt4 t
  have hm : t.val % 4 = 3 := (flush0_5 t).mp hf
  have h3 : 3 < cfg0.N := by have := t.isLt; omega
  blk_simp
  rw [after0_5]
  have e : ((View.whole main_v0_1).slice (win0_5.rect t)).emb (ix2 0 l : S1x1024.Idx) = (ix2 0 l : S1x1024.Idx) := by
    blk_ext [index5]
  refine Eq.trans (α := EReal) ?_ ((congrArg _ e).trans (reference_weight _ _ _)).symm
  obtain rfl : t = ⟨3, h3⟩ := Fin.ext (show t.val = 3 by omega)
  refine (carried_next m c ⟨3, h3⟩ (by dsimp only; omega) l).trans ?_
  refine (congrArg (· + _) ((carried_next m c ⟨2, by omega⟩ (by dsimp only; omega) l).trans (congrArg (· + _)
    ((carried_next m c ⟨1, by omega⟩ (by dsimp only; omega) l).trans (congrArg (· + _) (carried_first m c ⟨0, by omega⟩ (Nat.zero_mod _) l)))))).trans ?_
  rw [ProductMath.sum_four 512 2048 (by norm_num)]

end Cert.RmsBwdProof

namespace Cert.RmsBwdClaims

open Idealize.ShloMosaic Idealize.SL.Sem Cert.RmsBwdProof
open Cert.RmsBwdRefIdeal.Read

theorem frame_kernel : Cert.quiescent_RmsBwd := fun m ρ _ => Cert.RmsBwd.Gen.frame m ρ

theorem frame_ideal : Cert.quiescent_RmsBwdIdeal := fun m ρ _ => Cert.RmsBwdIdeal.Gen.frame m ρ

theorem frame_reference : Cert.quiescent_RmsBwdRefIdeal := fun m ρ _ =>
  (θ_run Cert.RmsBwdRefIdeal.defs _ _).mono (fun r h => ⟨fun c => (h c).2.2, sem_eq_zero_of_no_sems (by decide) r.2⟩)
    (Cert.RmsBwdRefIdeal.Value.run (F := Ideal) m ρ)

theorem preserves : Cert.preserves_RmsBwd_RmsBwdIdeal := trivial

theorem algebraic : Cert.algebraic_RmsBwdIdeal_RmsBwdRefIdeal := by
  intro m ρ m' ρ' _ hag
  have e0 (c : Dev Cert.RmsBwdRefIdeal.nD) : _ = X m c := (hag c).1
  have e1 (c : Dev Cert.RmsBwdRefIdeal.nD) : _ = G m c := (hag c).2.1
  have e2 (c : Dev Cert.RmsBwdRefIdeal.nD) : _ = H m c := (hag c).2.2.1
  have e3 (c : Dev Cert.RmsBwdRefIdeal.nD) : _ = Q m c := (hag c).2.2.2
  refine ⟨fun c => val_main_v34 (F := Ideal) (X m c) (G m c) (H m c) (Q m c),
    fun c => val_main_v17 (F := Ideal) (X m c) (H m c), ?_, ?_⟩
  · exact (θ_run Cert.RmsBwdIdeal.defs _ _).mono (fun r h c => ⟨(h c).1.trans (final4 m c), (h c).2.1.trans (final5 m c), (h c).2.2⟩)
      (Cert.RmsBwdIdeal.Value.run_blocks (F := Ideal) m ρ)
  · refine (θ_run Cert.RmsBwdRefIdeal.defs _ _).mono (fun r h c => ⟨(h c).1.trans ((val_main_v34_eq _ _ _ _).trans ?_), (h c).2.1.trans ((val_main_v17_eq _ _).trans ?_), (h c).2.2⟩)
      (Cert.RmsBwdRefIdeal.Value.run (F := Ideal) m' ρ')
    · exact congr (congr (congr (congrArg (val_main_v34 (F := Ideal)) (e0 c)) (e1 c)) (e2 c)) (e3 c)
    · exact congr (congrArg (val_main_v17 (F := Ideal)) (e0 c)) (e2 c)

end Cert.RmsBwdClaims

end
-- ==== Proof.StepMath.lean ====
module

public import Idealize.ShloMosaic.Lib.Pipeline.ValueKit

/-! One element of the optimiser's step: the two moments and the change of the weight. -/

@[expose] public section

noncomputable section

namespace Cert.StepMath

open Idealize.ShloMosaic

/-- The constant of these bits. -/
abbrev bits (n : BitVec 32) : EReal := Ideal.ofBits .f32 n

/-- The first moment after the step: nine tenths of the old one, a tenth of the gradient. -/
def first (g m : EReal) : EReal := bits 1063675494 * m + bits 1036831949 * g

/-- The second moment after the step. -/
def second (g v : EReal) : EReal := bits 1065336439 * v + bits 981668463 * (g * g)

/-- What the step adds to the weight. -/
def delta (w g m v : EReal) : EReal :=
  bits 3129152111 * (Ideal.div (Ideal.div (first g m) (bits 1059503362))
    (Ideal.sqrt (Ideal.div (second g v) (bits 1008933580)) + bits 841731191) + bits 1008981770 * w)

end Cert.StepMath

end
-- ==== Proof.AdIn0Proof.lean ====
module

public import proofs.«01_k».proof.Defs
public import proofs.«01_k».proof.Proof.Gen.AdIn0.Frame
public import proofs.«01_k».proof.Proof.Gen.AdIn0Ideal.Value
public import proofs.«01_k».proof.Proof.Gen.AdIn0RefIdeal.Run
public import proofs.«01_k».proof.Proof.Gen.AdIn0RefIdeal.Read
public import Idealize.ShloMosaic.Lib.Pipeline.ValueKit
public import Idealize.ShloMosaic.Lib.Claim
public import proofs.«01_k».proof.Proof.StepMath

/-! The step of layer 0 of w_in, in place. -/

@[expose] public section

set_option maxRecDepth 16384

noncomputable section

namespace Cert.AdIn0Proof

open Cert.AdIn0Ideal Cert.AdIn0Ideal.Gen Idealize.ShloMosaic Idealize.ShloMosaic.TcCoe Idealize.SL.Sem
open Cert.AdIn0RefIdeal.Read

variable (m : (ℓ : Loc nD τ sig) → Buf (Elt Ideal) ℓ) (c : Dev nD)

/-- An array of the four layers. -/
abbrev Big : Type := S4x1024x1920.Idx → Elt Ideal .f32

/-- An array of one layer. -/
abbrev One : Type := S1024x1920.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val, 0] := (by decide +kernel : ∀ t : Fin grid0.N, _)
theorem index6 : ∀ t : Fin cfg0.N, win0_6.index t = ![0, t.val, 0] := (by decide +kernel : ∀ t : Fin grid0.N, _)
theorem index7 : ∀ t : Fin cfg0.N, win0_7.index t = ![0, t.val, 0] := (by decide +kernel : ∀ t : Fin grid0.N, _)

theorem lt_points (t : Fin cfg0.N) : t.val < 4 := t.isLt

abbrev row (t : Fin cfg0.N) (r : Fin 256) : Fin 1024 := ⟨t.val * 256 + r.val, by have := lt_points t; have := r.isLt; omega⟩

theorem block0 (t : Fin cfg0.N) (r : Fin 256) (e : Fin 1920) :
    iblk m c 0 t (ix3 0 r e : S1x256x1920.Idx) = A0 m c (ix3 0 (row t r) e : S4x1024x1920.Idx) := by
  blk_ext [iblk, V_main_arg0, index0]

theorem block1 (t : Fin cfg0.N) (r : Fin 256) (e : Fin 1920) :
    iblk m c 1 t (ix2 r e : S256x1920.Idx) = A1 m c (ix2 (row t r) e : S1024x1920.Idx) := by
  blk_ext [iblk, V_main_arg1, index1]

theorem block2 (t : Fin cfg0.N) (r : Fin 256) (e : Fin 1920) :
    iblk m c 2 t (ix3 0 r e : S1x256x1920.Idx) = A2 m c (ix3 0 (row t r) e : S4x1024x1920.Idx) := by
  blk_ext [iblk, V_main_arg2, index2]

theorem block3 (t : Fin cfg0.N) (r : Fin 256) (e : Fin 1920) :
    iblk m c 3 t (ix3 0 r e : S1x256x1920.Idx) = A3 m c (ix3 0 (row t r) e : S4x1024x1920.Idx) := by
  blk_ext [iblk, V_main_arg3, index3]

/-- The layer of the step holds the gradient. -/
theorem copied_new (x1 : One) (x4 : Big) (r : Fin 1024) (e : Fin 1920) :
    (val_main_v33 (F := Ideal) x1 x4 : S4x1024x1920.Idx → EReal) (ix3 0 r e) = x1 (ix2 r e) := by
  pointwise [val_main_v30, val_main_v31, val_main_v32, val_main_v33]

/-- The other layers keep what was there. -/
theorem copied_kept (x1 : One) (x4 : Big) (i : Fin 4) (r : Fin 1024) (e : Fin 1920) (h : i.val ≠ 0) :
    (val_main_v33 (F := Ideal) x1 x4 : S4x1024x1920.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 0) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1920.Idx) = (ix3 0 (row t r) e : S4x1024x1920.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 4).arr.view.emb (ix3 i r e : S4x1024x1920.Idx) = (ix3 i r e : S4x1024x1920.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1920) :
    (val_main_v37 (F := Ideal) x0 x1 x2 x3 x5 : S4x1024x1920.Idx → EReal) (ix3 0 r e) = StepMath.delta (x0 (ix3 0 r e)) (x1 (ix2 r e)) (x2 (ix3 0 r e)) (x3 (ix3 0 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1920) (h : i.val ≠ 0) :
    (val_main_v37 (F := Ideal) x0 x1 x2 x3 x5 : S4x1024x1920.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 0) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1920.Idx) = (ix3 0 (row t r) e : S4x1024x1920.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 5).arr.view.emb (ix3 i r e : S4x1024x1920.Idx) = (ix3 i r e : S4x1024x1920.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1920) :
    (val_main_v41 (F := Ideal) x1 x2 x6 : S4x1024x1920.Idx → EReal) (ix3 0 r e) = StepMath.first (x1 (ix2 r e)) (x2 (ix3 0 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1920) (h : i.val ≠ 0) :
    (val_main_v41 (F := Ideal) x1 x2 x6 : S4x1024x1920.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 0) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1920.Idx) = (ix3 0 (row t r) e : S4x1024x1920.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 6).arr.view.emb (ix3 i r e : S4x1024x1920.Idx) = (ix3 i r e : S4x1024x1920.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1920) :
    (val_main_v45 (F := Ideal) x1 x3 x7 : S4x1024x1920.Idx → EReal) (ix3 0 r e) = StepMath.second (x1 (ix2 r e)) (x3 (ix3 0 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1920) (h : i.val ≠ 0) :
    (val_main_v45 (F := Ideal) x1 x3 x7 : S4x1024x1920.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 0) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1920.Idx) = (ix3 0 (row t r) e : S4x1024x1920.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 7).arr.view.emb (ix3 i r e : S4x1024x1920.Idx) = (ix3 i r e : S4x1024x1920.Idx) := by
      blk_ext []
    refine Eq.trans (α := EReal) ?_ ((congrArg _ e2).trans (second_kept _ _ _ i r e (by omega))).symm
    exact congrArg (A7 m c) e2

end Cert.AdIn0Proof

namespace Cert.AdIn0Claims

open Idealize.ShloMosaic Idealize.SL.Sem Cert.AdIn0Proof
open Cert.AdIn0RefIdeal.Read

theorem frame_kernel : Cert.quiescent_AdIn0 := fun m ρ _ => Cert.AdIn0.Gen.frame m ρ

theorem frame_ideal : Cert.quiescent_AdIn0Ideal := fun m ρ _ => Cert.AdIn0Ideal.Gen.frame m ρ

theorem frame_reference : Cert.quiescent_AdIn0RefIdeal := fun m ρ _ =>
  (θ_run Cert.AdIn0RefIdeal.defs _ _).mono (fun r h => ⟨fun c => (h c).2.2.2.2, sem_eq_zero_of_no_sems (by decide) r.2⟩)
    (Cert.AdIn0RefIdeal.Value.run (F := Ideal) m ρ)

theorem preserves : Cert.preserves_AdIn0_AdIn0Ideal := trivial

theorem algebraic : Cert.algebraic_AdIn0Ideal_AdIn0RefIdeal := by
  intro m ρ m' ρ' _ hag
  have e0 (c : Dev Cert.AdIn0RefIdeal.nD) : _ = A0 m c := (hag c).1
  have e1 (c : Dev Cert.AdIn0RefIdeal.nD) : _ = A1 m c := (hag c).2.1
  have e2 (c : Dev Cert.AdIn0RefIdeal.nD) : _ = A2 m c := (hag c).2.2.1
  have e3 (c : Dev Cert.AdIn0RefIdeal.nD) : _ = A3 m c := (hag c).2.2.2.1
  have e4 (c : Dev Cert.AdIn0RefIdeal.nD) : _ = A4 m c := (hag c).2.2.2.2.1
  have e5 (c : Dev Cert.AdIn0RefIdeal.nD) : _ = A5 m c := (hag c).2.2.2.2.2.1
  have e6 (c : Dev Cert.AdIn0RefIdeal.nD) : _ = A6 m c := (hag c).2.2.2.2.2.2.1
  have e7 (c : Dev Cert.AdIn0RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdIn0Ideal.defs _ _).mono (fun r h c => ⟨(h c).1.trans (final4 m c), (h c).2.1.trans (final5 m c), (h c).2.2.1.trans (final6 m c), (h c).2.2.2.1.trans (final7 m c), (h c).2.2.2.2⟩)
      (Cert.AdIn0Ideal.Value.run_blocks (F := Ideal) m ρ)
  · refine (θ_run Cert.AdIn0RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdIn0RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdIn0Claims

end
-- ==== Proof.AdIn1Proof.lean ====
module

public import proofs.«01_k».proof.Defs
public import proofs.«01_k».proof.Proof.Gen.AdIn1.Frame
public import proofs.«01_k».proof.Proof.Gen.AdIn1Ideal.Value
public import proofs.«01_k».proof.Proof.Gen.AdIn1RefIdeal.Run
public import proofs.«01_k».proof.Proof.Gen.AdIn1RefIdeal.Read
public import Idealize.ShloMosaic.Lib.Pipeline.ValueKit
public import Idealize.ShloMosaic.Lib.Claim
public import proofs.«01_k».proof.Proof.StepMath

/-! The step of layer 1 of w_in, in place. -/

@[expose] public section

set_option maxRecDepth 16384

noncomputable section

namespace Cert.AdIn1Proof

open Cert.AdIn1Ideal Cert.AdIn1Ideal.Gen Idealize.ShloMosaic Idealize.ShloMosaic.TcCoe Idealize.SL.Sem
open Cert.AdIn1RefIdeal.Read

variable (m : (ℓ : Loc nD τ sig) → Buf (Elt Ideal) ℓ) (c : Dev nD)

/-- An array of the four layers. -/
abbrev Big : Type := S4x1024x1920.Idx → Elt Ideal .f32

/-- An array of one layer. -/
abbrev One : Type := S1024x1920.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![1, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![1, t.val, 0] := (by decide +kernel : ∀ t : Fin grid0.N, _)
theorem index3 : ∀ t : Fin cfg0.N, win0_3.index t = ![1, t.val, 0] := (by decide +kernel : ∀ t : Fin grid0.N, _)
theorem index4 : ∀ t : Fin cfg0.N, win0_4.index t = ![1, t.val, 0] := (by decide +kernel : ∀ t : Fin grid0.N, _)
theorem index5 : ∀ t : Fin cfg0.N, win0_5.index t = ![1, t.val, 0] := (by decide +kernel : ∀ t : Fin grid0.N, _)
theorem index6 : ∀ t : Fin cfg0.N, win0_6.index t = ![1, t.val, 0] := (by decide +kernel : ∀ t : Fin grid0.N, _)
theorem index7 : ∀ t : Fin cfg0.N, win0_7.index t = ![1, t.val, 0] := (by decide +kernel : ∀ t : Fin grid0.N, _)

theorem lt_points (t : Fin cfg0.N) : t.val < 4 := t.isLt

abbrev row (t : Fin cfg0.N) (r : Fin 256) : Fin 1024 := ⟨t.val * 256 + r.val, by have := lt_points t; have := r.isLt; omega⟩

theorem block0 (t : Fin cfg0.N) (r : Fin 256) (e : Fin 1920) :
    iblk m c 0 t (ix3 0 r e : S1x256x1920.Idx) = A0 m c (ix3 1 (row t r) e : S4x1024x1920.Idx) := by
  blk_ext [iblk, V_main_arg0, index0]

theorem block1 (t : Fin cfg0.N) (r : Fin 256) (e : Fin 1920) :
    iblk m c 1 t (ix2 r e : S256x1920.Idx) = A1 m c (ix2 (row t r) e : S1024x1920.Idx) := by
  blk_ext [iblk, V_main_arg1, index1]

theorem block2 (t : Fin cfg0.N) (r : Fin 256) (e : Fin 1920) :
    iblk m c 2 t (ix3 0 r e : S1x256x1920.Idx) = A2 m c (ix3 1 (row t r) e : S4x1024x1920.Idx) := by
  blk_ext [iblk, V_main_arg2, index2]

theorem block3 (t : Fin cfg0.N) (r : Fin 256) (e : Fin 1920) :
    iblk m c 3 t (ix3 0 r e : S1x256x1920.Idx) = A3 m c (ix3 1 (row t r) e : S4x1024x1920.Idx) := by
  blk_ext [iblk, V_main_arg3, index3]

/-- The layer of the step holds the gradient. -/
theorem copied_new (x1 : One) (x4 : Big) (r : Fin 1024) (e : Fin 1920) :
    (val_main_v33 (F := Ideal) x1 x4 : S4x1024x1920.Idx → EReal) (ix3 1 r e) = x1 (ix2 r e) := by
  pointwise [val_main_v30, val_main_v31, val_main_v32, val_main_v33]

/-- The other layers keep what was there. -/
theorem copied_kept (x1 : One) (x4 : Big) (i : Fin 4) (r : Fin 1024) (e : Fin 1920) (h : i.val ≠ 1) :
    (val_main_v33 (F := Ideal) x1 x4 : S4x1024x1920.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 1) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1920.Idx) = (ix3 1 (row t r) e : S4x1024x1920.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 4).arr.view.emb (ix3 i r e : S4x1024x1920.Idx) = (ix3 i r e : S4x1024x1920.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1920) :
    (val_main_v37 (F := Ideal) x0 x1 x2 x3 x5 : S4x1024x1920.Idx → EReal) (ix3 1 r e) = StepMath.delta (x0 (ix3 1 r e)) (x1 (ix2 r e)) (x2 (ix3 1 r e)) (x3 (ix3 1 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1920) (h : i.val ≠ 1) :
    (val_main_v37 (F := Ideal) x0 x1 x2 x3 x5 : S4x1024x1920.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 1) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1920.Idx) = (ix3 1 (row t r) e : S4x1024x1920.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 5).arr.view.emb (ix3 i r e : S4x1024x1920.Idx) = (ix3 i r e : S4x1024x1920.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1920) :
    (val_main_v41 (F := Ideal) x1 x2 x6 : S4x1024x1920.Idx → EReal) (ix3 1 r e) = StepMath.first (x1 (ix2 r e)) (x2 (ix3 1 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1920) (h : i.val ≠ 1) :
    (val_main_v41 (F := Ideal) x1 x2 x6 : S4x1024x1920.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 1) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1920.Idx) = (ix3 1 (row t r) e : S4x1024x1920.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 6).arr.view.emb (ix3 i r e : S4x1024x1920.Idx) = (ix3 i r e : S4x1024x1920.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1920) :
    (val_main_v45 (F := Ideal) x1 x3 x7 : S4x1024x1920.Idx → EReal) (ix3 1 r e) = StepMath.second (x1 (ix2 r e)) (x3 (ix3 1 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1920) (h : i.val ≠ 1) :
    (val_main_v45 (F := Ideal) x1 x3 x7 : S4x1024x1920.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 1) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1920.Idx) = (ix3 1 (row t r) e : S4x1024x1920.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 7).arr.view.emb (ix3 i r e : S4x1024x1920.Idx) = (ix3 i r e : S4x1024x1920.Idx) := by
      blk_ext []
    refine Eq.trans (α := EReal) ?_ ((congrArg _ e2).trans (second_kept _ _ _ i r e (by omega))).symm
    exact congrArg (A7 m c) e2

end Cert.AdIn1Proof

namespace Cert.AdIn1Claims

open Idealize.ShloMosaic Idealize.SL.Sem Cert.AdIn1Proof
open Cert.AdIn1RefIdeal.Read

theorem frame_kernel : Cert.quiescent_AdIn1 := fun m ρ _ => Cert.AdIn1.Gen.frame m ρ

theorem frame_ideal : Cert.quiescent_AdIn1Ideal := fun m ρ _ => Cert.AdIn1Ideal.Gen.frame m ρ

theorem frame_reference : Cert.quiescent_AdIn1RefIdeal := fun m ρ _ =>
  (θ_run Cert.AdIn1RefIdeal.defs _ _).mono (fun r h => ⟨fun c => (h c).2.2.2.2, sem_eq_zero_of_no_sems (by decide) r.2⟩)
    (Cert.AdIn1RefIdeal.Value.run (F := Ideal) m ρ)

theorem preserves : Cert.preserves_AdIn1_AdIn1Ideal := trivial

theorem algebraic : Cert.algebraic_AdIn1Ideal_AdIn1RefIdeal := by
  intro m ρ m' ρ' _ hag
  have e0 (c : Dev Cert.AdIn1RefIdeal.nD) : _ = A0 m c := (hag c).1
  have e1 (c : Dev Cert.AdIn1RefIdeal.nD) : _ = A1 m c := (hag c).2.1
  have e2 (c : Dev Cert.AdIn1RefIdeal.nD) : _ = A2 m c := (hag c).2.2.1
  have e3 (c : Dev Cert.AdIn1RefIdeal.nD) : _ = A3 m c := (hag c).2.2.2.1
  have e4 (c : Dev Cert.AdIn1RefIdeal.nD) : _ = A4 m c := (hag c).2.2.2.2.1
  have e5 (c : Dev Cert.AdIn1RefIdeal.nD) : _ = A5 m c := (hag c).2.2.2.2.2.1
  have e6 (c : Dev Cert.AdIn1RefIdeal.nD) : _ = A6 m c := (hag c).2.2.2.2.2.2.1
  have e7 (c : Dev Cert.AdIn1RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdIn1Ideal.defs _ _).mono (fun r h c => ⟨(h c).1.trans (final4 m c), (h c).2.1.trans (final5 m c), (h c).2.2.1.trans (final6 m c), (h c).2.2.2.1.trans (final7 m c), (h c).2.2.2.2⟩)
      (Cert.AdIn1Ideal.Value.run_blocks (F := Ideal) m ρ)
  · refine (θ_run Cert.AdIn1RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdIn1RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdIn1Claims

end
-- ==== Proof.AdIn2Proof.lean ====
module

public import proofs.«01_k».proof.Defs
public import proofs.«01_k».proof.Proof.Gen.AdIn2.Frame
public import proofs.«01_k».proof.Proof.Gen.AdIn2Ideal.Value
public import proofs.«01_k».proof.Proof.Gen.AdIn2RefIdeal.Run
public import proofs.«01_k».proof.Proof.Gen.AdIn2RefIdeal.Read
public import Idealize.ShloMosaic.Lib.Pipeline.ValueKit
public import Idealize.ShloMosaic.Lib.Claim
public import proofs.«01_k».proof.Proof.StepMath

/-! The step of layer 2 of w_in, in place. -/

@[expose] public section

set_option maxRecDepth 16384

noncomputable section

namespace Cert.AdIn2Proof

open Cert.AdIn2Ideal Cert.AdIn2Ideal.Gen Idealize.ShloMosaic Idealize.ShloMosaic.TcCoe Idealize.SL.Sem
open Cert.AdIn2RefIdeal.Read

variable (m : (ℓ : Loc nD τ sig) → Buf (Elt Ideal) ℓ) (c : Dev nD)

/-- An array of the four layers. -/
abbrev Big : Type := S4x1024x1920.Idx → Elt Ideal .f32

/-- An array of one layer. -/
abbrev One : Type := S1024x1920.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![2, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![2, t.val, 0] := (by decide +kernel : ∀ t : Fin grid0.N, _)
theorem index3 : ∀ t : Fin cfg0.N, win0_3.index t = ![2, t.val, 0] := (by decide +kernel : ∀ t : Fin grid0.N, _)
theorem index4 : ∀ t : Fin cfg0.N, win0_4.index t = ![2, t.val, 0] := (by decide +kernel : ∀ t : Fin grid0.N, _)
theorem index5 : ∀ t : Fin cfg0.N, win0_5.index t = ![2, t.val, 0] := (by decide +kernel : ∀ t : Fin grid0.N, _)
theorem index6 : ∀ t : Fin cfg0.N, win0_6.index t = ![2, t.val, 0] := (by decide +kernel : ∀ t : Fin grid0.N, _)
theorem index7 : ∀ t : Fin cfg0.N, win0_7.index t = ![2, t.val, 0] := (by decide +kernel : ∀ t : Fin grid0.N, _)

theorem lt_points (t : Fin cfg0.N) : t.val < 4 := t.isLt

abbrev row (t : Fin cfg0.N) (r : Fin 256) : Fin 1024 := ⟨t.val * 256 + r.val, by have := lt_points t; have := r.isLt; omega⟩

theorem block0 (t : Fin cfg0.N) (r : Fin 256) (e : Fin 1920) :
    iblk m c 0 t (ix3 0 r e : S1x256x1920.Idx) = A0 m c (ix3 2 (row t r) e : S4x1024x1920.Idx) := by
  blk_ext [iblk, V_main_arg0, index0]

theorem block1 (t : Fin cfg0.N) (r : Fin 256) (e : Fin 1920) :
    iblk m c 1 t (ix2 r e : S256x1920.Idx) = A1 m c (ix2 (row t r) e : S1024x1920.Idx) := by
  blk_ext [iblk, V_main_arg1, index1]

theorem block2 (t : Fin cfg0.N) (r : Fin 256) (e : Fin 1920) :
    iblk m c 2 t (ix3 0 r e : S1x256x1920.Idx) = A2 m c (ix3 2 (row t r) e : S4x1024x1920.Idx) := by
  blk_ext [iblk, V_main_arg2, index2]

theorem block3 (t : Fin cfg0.N) (r : Fin 256) (e : Fin 1920) :
    iblk m c 3 t (ix3 0 r e : S1x256x1920.Idx) = A3 m c (ix3 2 (row t r) e : S4x1024x1920.Idx) := by
  blk_ext [iblk, V_main_arg3, index3]

/-- The layer of the step holds the gradient. -/
theorem copied_new (x1 : One) (x4 : Big) (r : Fin 1024) (e : Fin 1920) :
    (val_main_v33 (F := Ideal) x1 x4 : S4x1024x1920.Idx → EReal) (ix3 2 r e) = x1 (ix2 r e) := by
  pointwise [val_main_v30, val_main_v31, val_main_v32, val_main_v33]

/-- The other layers keep what was there. -/
theorem copied_kept (x1 : One) (x4 : Big) (i : Fin 4) (r : Fin 1024) (e : Fin 1920) (h : i.val ≠ 2) :
    (val_main_v33 (F := Ideal) x1 x4 : S4x1024x1920.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 2) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1920.Idx) = (ix3 2 (row t r) e : S4x1024x1920.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 4).arr.view.emb (ix3 i r e : S4x1024x1920.Idx) = (ix3 i r e : S4x1024x1920.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1920) :
    (val_main_v37 (F := Ideal) x0 x1 x2 x3 x5 : S4x1024x1920.Idx → EReal) (ix3 2 r e) = StepMath.delta (x0 (ix3 2 r e)) (x1 (ix2 r e)) (x2 (ix3 2 r e)) (x3 (ix3 2 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1920) (h : i.val ≠ 2) :
    (val_main_v37 (F := Ideal) x0 x1 x2 x3 x5 : S4x1024x1920.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 2) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1920.Idx) = (ix3 2 (row t r) e : S4x1024x1920.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 5).arr.view.emb (ix3 i r e : S4x1024x1920.Idx) = (ix3 i r e : S4x1024x1920.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1920) :
    (val_main_v41 (F := Ideal) x1 x2 x6 : S4x1024x1920.Idx → EReal) (ix3 2 r e) = StepMath.first (x1 (ix2 r e)) (x2 (ix3 2 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1920) (h : i.val ≠ 2) :
    (val_main_v41 (F := Ideal) x1 x2 x6 : S4x1024x1920.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 2) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1920.Idx) = (ix3 2 (row t r) e : S4x1024x1920.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 6).arr.view.emb (ix3 i r e : S4x1024x1920.Idx) = (ix3 i r e : S4x1024x1920.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1920) :
    (val_main_v45 (F := Ideal) x1 x3 x7 : S4x1024x1920.Idx → EReal) (ix3 2 r e) = StepMath.second (x1 (ix2 r e)) (x3 (ix3 2 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1920) (h : i.val ≠ 2) :
    (val_main_v45 (F := Ideal) x1 x3 x7 : S4x1024x1920.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 2) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1920.Idx) = (ix3 2 (row t r) e : S4x1024x1920.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 7).arr.view.emb (ix3 i r e : S4x1024x1920.Idx) = (ix3 i r e : S4x1024x1920.Idx) := by
      blk_ext []
    refine Eq.trans (α := EReal) ?_ ((congrArg _ e2).trans (second_kept _ _ _ i r e (by omega))).symm
    exact congrArg (A7 m c) e2

end Cert.AdIn2Proof

namespace Cert.AdIn2Claims

open Idealize.ShloMosaic Idealize.SL.Sem Cert.AdIn2Proof
open Cert.AdIn2RefIdeal.Read

theorem frame_kernel : Cert.quiescent_AdIn2 := fun m ρ _ => Cert.AdIn2.Gen.frame m ρ

theorem frame_ideal : Cert.quiescent_AdIn2Ideal := fun m ρ _ => Cert.AdIn2Ideal.Gen.frame m ρ

theorem frame_reference : Cert.quiescent_AdIn2RefIdeal := fun m ρ _ =>
  (θ_run Cert.AdIn2RefIdeal.defs _ _).mono (fun r h => ⟨fun c => (h c).2.2.2.2, sem_eq_zero_of_no_sems (by decide) r.2⟩)
    (Cert.AdIn2RefIdeal.Value.run (F := Ideal) m ρ)

theorem preserves : Cert.preserves_AdIn2_AdIn2Ideal := trivial

theorem algebraic : Cert.algebraic_AdIn2Ideal_AdIn2RefIdeal := by
  intro m ρ m' ρ' _ hag
  have e0 (c : Dev Cert.AdIn2RefIdeal.nD) : _ = A0 m c := (hag c).1
  have e1 (c : Dev Cert.AdIn2RefIdeal.nD) : _ = A1 m c := (hag c).2.1
  have e2 (c : Dev Cert.AdIn2RefIdeal.nD) : _ = A2 m c := (hag c).2.2.1
  have e3 (c : Dev Cert.AdIn2RefIdeal.nD) : _ = A3 m c := (hag c).2.2.2.1
  have e4 (c : Dev Cert.AdIn2RefIdeal.nD) : _ = A4 m c := (hag c).2.2.2.2.1
  have e5 (c : Dev Cert.AdIn2RefIdeal.nD) : _ = A5 m c := (hag c).2.2.2.2.2.1
  have e6 (c : Dev Cert.AdIn2RefIdeal.nD) : _ = A6 m c := (hag c).2.2.2.2.2.2.1
  have e7 (c : Dev Cert.AdIn2RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdIn2Ideal.defs _ _).mono (fun r h c => ⟨(h c).1.trans (final4 m c), (h c).2.1.trans (final5 m c), (h c).2.2.1.trans (final6 m c), (h c).2.2.2.1.trans (final7 m c), (h c).2.2.2.2⟩)
      (Cert.AdIn2Ideal.Value.run_blocks (F := Ideal) m ρ)
  · refine (θ_run Cert.AdIn2RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdIn2RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdIn2Claims

end
-- ==== Proof.AdIn3Proof.lean ====
module

public import proofs.«01_k».proof.Defs
public import proofs.«01_k».proof.Proof.Gen.AdIn3.Frame
public import proofs.«01_k».proof.Proof.Gen.AdIn3Ideal.Value
public import proofs.«01_k».proof.Proof.Gen.AdIn3RefIdeal.Run
public import proofs.«01_k».proof.Proof.Gen.AdIn3RefIdeal.Read
public import Idealize.ShloMosaic.Lib.Pipeline.ValueKit
public import Idealize.ShloMosaic.Lib.Claim
public import proofs.«01_k».proof.Proof.StepMath

/-! The step of layer 3 of w_in, in place. -/

@[expose] public section

set_option maxRecDepth 16384

noncomputable section

namespace Cert.AdIn3Proof

open Cert.AdIn3Ideal Cert.AdIn3Ideal.Gen Idealize.ShloMosaic Idealize.ShloMosaic.TcCoe Idealize.SL.Sem
open Cert.AdIn3RefIdeal.Read

variable (m : (ℓ : Loc nD τ sig) → Buf (Elt Ideal) ℓ) (c : Dev nD)

/-- An array of the four layers. -/
abbrev Big : Type := S4x1024x1920.Idx → Elt Ideal .f32

/-- An array of one layer. -/
abbrev One : Type := S1024x1920.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![3, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![3, t.val, 0] := (by decide +kernel : ∀ t : Fin grid0.N, _)
theorem index3 : ∀ t : Fin cfg0.N, win0_3.index t = ![3, t.val, 0] := (by decide +kernel : ∀ t : Fin grid0.N, _)
theorem index4 : ∀ t : Fin cfg0.N, win0_4.index t = ![3, t.val, 0] := (by decide +kernel : ∀ t : Fin grid0.N, _)
theorem index5 : ∀ t : Fin cfg0.N, win0_5.index t = ![3, t.val, 0] := (by decide +kernel : ∀ t : Fin grid0.N, _)
theorem index6 : ∀ t : Fin cfg0.N, win0_6.index t = ![3, t.val, 0] := (by decide +kernel : ∀ t : Fin grid0.N, _)
theorem index7 : ∀ t : Fin cfg0.N, win0_7.index t = ![3, t.val, 0] := (by decide +kernel : ∀ t : Fin grid0.N, _)

theorem lt_points (t : Fin cfg0.N) : t.val < 4 := t.isLt

abbrev row (t : Fin cfg0.N) (r : Fin 256) : Fin 1024 := ⟨t.val * 256 + r.val, by have := lt_points t; have := r.isLt; omega⟩

theorem block0 (t : Fin cfg0.N) (r : Fin 256) (e : Fin 1920) :
    iblk m c 0 t (ix3 0 r e : S1x256x1920.Idx) = A0 m c (ix3 3 (row t r) e : S4x1024x1920.Idx) := by
  blk_ext [iblk, V_main_arg0, index0]

theorem block1 (t : Fin cfg0.N) (r : Fin 256) (e : Fin 1920) :
    iblk m c 1 t (ix2 r e : S256x1920.Idx) = A1 m c (ix2 (row t r) e : S1024x1920.Idx) := by
  blk_ext [iblk, V_main_arg1, index1]

theorem block2 (t : Fin cfg0.N) (r : Fin 256) (e : Fin 1920) :
    iblk m c 2 t (ix3 0 r e : S1x256x1920.Idx) = A2 m c (ix3 3 (row t r) e : S4x1024x1920.Idx) := by
  blk_ext [iblk, V_main_arg2, index2]

theorem block3 (t : Fin cfg0.N) (r : Fin 256) (e : Fin 1920) :
    iblk m c 3 t (ix3 0 r e : S1x256x1920.Idx) = A3 m c (ix3 3 (row t r) e : S4x1024x1920.Idx) := by
  blk_ext [iblk, V_main_arg3, index3]

/-- The layer of the step holds the gradient. -/
theorem copied_new (x1 : One) (x4 : Big) (r : Fin 1024) (e : Fin 1920) :
    (val_main_v33 (F := Ideal) x1 x4 : S4x1024x1920.Idx → EReal) (ix3 3 r e) = x1 (ix2 r e) := by
  pointwise [val_main_v30, val_main_v31, val_main_v32, val_main_v33]

/-- The other layers keep what was there. -/
theorem copied_kept (x1 : One) (x4 : Big) (i : Fin 4) (r : Fin 1024) (e : Fin 1920) (h : i.val ≠ 3) :
    (val_main_v33 (F := Ideal) x1 x4 : S4x1024x1920.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 3) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1920.Idx) = (ix3 3 (row t r) e : S4x1024x1920.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 4).arr.view.emb (ix3 i r e : S4x1024x1920.Idx) = (ix3 i r e : S4x1024x1920.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1920) :
    (val_main_v37 (F := Ideal) x0 x1 x2 x3 x5 : S4x1024x1920.Idx → EReal) (ix3 3 r e) = StepMath.delta (x0 (ix3 3 r e)) (x1 (ix2 r e)) (x2 (ix3 3 r e)) (x3 (ix3 3 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1920) (h : i.val ≠ 3) :
    (val_main_v37 (F := Ideal) x0 x1 x2 x3 x5 : S4x1024x1920.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 3) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1920.Idx) = (ix3 3 (row t r) e : S4x1024x1920.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 5).arr.view.emb (ix3 i r e : S4x1024x1920.Idx) = (ix3 i r e : S4x1024x1920.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1920) :
    (val_main_v41 (F := Ideal) x1 x2 x6 : S4x1024x1920.Idx → EReal) (ix3 3 r e) = StepMath.first (x1 (ix2 r e)) (x2 (ix3 3 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1920) (h : i.val ≠ 3) :
    (val_main_v41 (F := Ideal) x1 x2 x6 : S4x1024x1920.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 3) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1920.Idx) = (ix3 3 (row t r) e : S4x1024x1920.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 6).arr.view.emb (ix3 i r e : S4x1024x1920.Idx) = (ix3 i r e : S4x1024x1920.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1920) :
    (val_main_v45 (F := Ideal) x1 x3 x7 : S4x1024x1920.Idx → EReal) (ix3 3 r e) = StepMath.second (x1 (ix2 r e)) (x3 (ix3 3 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1920) (h : i.val ≠ 3) :
    (val_main_v45 (F := Ideal) x1 x3 x7 : S4x1024x1920.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 3) (by decide +kernel) (fun t hf y => ?_) (fun j hj => ?_)
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1920.Idx) = (ix3 3 (row t r) e : S4x1024x1920.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1920), j = (ix3 i r e : S4x1024x1920.Idx) := ⟨j 0, j 1, j 2, eq_ix3 _⟩
    blk_simp [Pipeline.Window.cell_apply] at hj
    have e2 : (cfg0.win 7).arr.view.emb (ix3 i r e : S4x1024x1920.Idx) = (ix3 i r e : S4x1024x1920.Idx) := by
      blk_ext []
    refine Eq.trans (α := EReal) ?_ ((congrArg _ e2).trans (second_kept _ _ _ i r e (by omega))).symm
    exact congrArg (A7 m c) e2

end Cert.AdIn3Proof

namespace Cert.AdIn3Claims

open Idealize.ShloMosaic Idealize.SL.Sem Cert.AdIn3Proof
open Cert.AdIn3RefIdeal.Read

theorem frame_kernel : Cert.quiescent_AdIn3 := fun m ρ _ => Cert.AdIn3.Gen.frame m ρ

theorem frame_ideal : Cert.quiescent_AdIn3Ideal := fun m ρ _ => Cert.AdIn3Ideal.Gen.frame m ρ

theorem frame_reference : Cert.quiescent_AdIn3RefIdeal := fun m ρ _ =>
  (θ_run Cert.AdIn3RefIdeal.defs _ _).mono (fun r h => ⟨fun c => (h c).2.2.2.2, sem_eq_zero_of_no_sems (by decide) r.2⟩)
    (Cert.AdIn3RefIdeal.Value.run (F := Ideal) m ρ)

theorem preserves : Cert.preserves_AdIn3_AdIn3Ideal := trivial

theorem algebraic : Cert.algebraic_AdIn3Ideal_AdIn3RefIdeal := by
  intro m ρ m' ρ' _ hag
  have e0 (c : Dev Cert.AdIn3RefIdeal.nD) : _ = A0 m c := (hag c).1
  have e1 (c : Dev Cert.AdIn3RefIdeal.nD) : _ = A1 m c := (hag c).2.1
  have e2 (c : Dev Cert.AdIn3RefIdeal.nD) : _ = A2 m c := (hag c).2.2.1
  have e3 (c : Dev Cert.AdIn3RefIdeal.nD) : _ = A3 m c := (hag c).2.2.2.1
  have e4 (c : Dev Cert.AdIn3RefIdeal.nD) : _ = A4 m c := (hag c).2.2.2.2.1
  have e5 (c : Dev Cert.AdIn3RefIdeal.nD) : _ = A5 m c := (hag c).2.2.2.2.2.1
  have e6 (c : Dev Cert.AdIn3RefIdeal.nD) : _ = A6 m c := (hag c).2.2.2.2.2.2.1
  have e7 (c : Dev Cert.AdIn3RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdIn3Ideal.defs _ _).mono (fun r h c => ⟨(h c).1.trans (final4 m c), (h c).2.1.trans (final5 m c), (h c).2.2.1.trans (final6 m c), (h c).2.2.2.1.trans (final7 m c), (h c).2.2.2.2⟩)
      (Cert.AdIn3Ideal.Value.run_blocks (F := Ideal) m ρ)
  · refine (θ_run Cert.AdIn3RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdIn3RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdIn3Claims

end
-- ==== Proof.AdCo0Proof.lean ====
module

public import proofs.«01_k».proof.Defs
public import proofs.«01_k».proof.Proof.Gen.AdCo0.Frame
public import proofs.«01_k».proof.Proof.Gen.AdCo0Ideal.Value
public import proofs.«01_k».proof.Proof.Gen.AdCo0RefIdeal.Run
public import proofs.«01_k».proof.Proof.Gen.AdCo0RefIdeal.Read
public import Idealize.ShloMosaic.Lib.Pipeline.ValueKit
public import Idealize.ShloMosaic.Lib.Claim
public import proofs.«01_k».proof.Proof.StepMath

/-! The step of layer 0 of w_conv_out and of w_attn_out, in place. -/

@[expose] public section

set_option maxRecDepth 16384

noncomputable section

namespace Cert.AdCo0Proof

open Cert.AdCo0Ideal Cert.AdCo0Ideal.Gen Idealize.ShloMosaic Idealize.ShloMosaic.TcCoe Idealize.SL.Sem
open Cert.AdCo0RefIdeal.Read

variable (m : (ℓ : Loc nD τ sig) → Buf (Elt Ideal) ℓ) (c : Dev nD)

/-- An array of the four layers. -/
abbrev Big : Type := S4x512x256.Idx → Elt Ideal .f32

/-- An array of one layer. -/
abbrev One : Type := S512x256.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val, 0] := (by decide +kernel : ∀ t : Fin grid0.N, _)
theorem index6 : ∀ t : Fin cfg0.N, win0_6.index t = ![0, t.val, 0] := (by decide +kernel : ∀ t : Fin grid0.N, _)
theorem index7 : ∀ t : Fin cfg0.N, win0_7.index t = ![0, t.val, 0] := (by decide +kernel : ∀ t : Fin grid0.N, _)

theorem lt_points (t : Fin cfg0.N) : t.val < 1 := t.isLt

abbrev row (t : Fin cfg0.N) (r : Fin 512) : Fin 512 := ⟨t.val * 512 + r.val, by have := lt_points t; have := r.isLt; omega⟩

theorem block0 (t : Fin cfg0.N) (r : Fin 512) (e : Fin 256) :
    iblk m c 0 t (ix3 0 r e : S1x512x256.Idx) = A0 m c (ix3 0 (row t r) e : S4x512x256.Idx) := by
  blk_ext [iblk, V_main_arg0, index0]

theorem block1 (t : Fin cfg0.N) (r : Fin 512) (e : Fin 256) :
    iblk m c 1 t (ix2 r e : S512x256.Idx) = A1 m c (ix2 (row t r) e : S512x256.Idx) := by
  blk_ext [iblk, V_main_arg1, index1]

theorem block2 (t : Fin cfg0.N) (r : Fin 512) (e : Fin 256) :
    iblk m c 2 t (ix3 0 r e : S1x512x256.Idx) = A2 m c (ix3 0 (row t r) e : S4x512x256.Idx) := by
  blk_ext [iblk, V_main_arg2, index2]

theorem block3 (t : Fin cfg0.N) (r : Fin 512) (e : Fin 256) :
    iblk m c 3 t (ix3 0 r e : S1x512x256.Idx) = A3 m c (ix3 0 (row t r) e : S4x512x256.Idx) := by
  blk_ext [iblk, V_main_arg3, index3]

/-- The layer of the step holds the gradient. -/
theorem copied_new (x1 : One) (x4 : Big) (r : Fin 512) (e : Fin 256) :
    (val_main_v33 (F := Ideal) x1 x4 : S4x512x256.Idx → EReal) (ix3 0 r e) = x1 (ix2 r e) := by
  pointwise [val_main_v30, val_main_v31, val_main_v32, val_main_v33]

/-- The other layers keep what was there. -/
theorem copied_kept (x1 : One) (x4 : Big) (i : Fin 4) (r : Fin 512) (e : Fin 256) (h : i.val ≠ 0) :
    (val_main_v33 (F := Ideal) x1 x4 : S4x512x256.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 0) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x256.Idx) = (ix3 0 (row t r) e : S4x512x256.Idx) := by
      blk_ext [index4]
    refine Eq.trans (α := EReal) ?_ ((congrArg _ e).trans (copied_new _ _ _ _)).symm
    rw [block1]
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 4).arr.view.emb (ix3 i r e : S4x512x256.Idx) = (ix3 i r e : S4x512x256.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 512) (e : Fin 256) :
    (val_main_v37 (F := Ideal) x0 x1 x2 x3 x5 : S4x512x256.Idx → EReal) (ix3 0 r e) = StepMath.delta (x0 (ix3 0 r e)) (x1 (ix2 r e)) (x2 (ix3 0 r e)) (x3 (ix3 0 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 512) (e : Fin 256) (h : i.val ≠ 0) :
    (val_main_v37 (F := Ideal) x0 x1 x2 x3 x5 : S4x512x256.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 0) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x256.Idx) = (ix3 0 (row t r) e : S4x512x256.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 5).arr.view.emb (ix3 i r e : S4x512x256.Idx) = (ix3 i r e : S4x512x256.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 512) (e : Fin 256) :
    (val_main_v41 (F := Ideal) x1 x2 x6 : S4x512x256.Idx → EReal) (ix3 0 r e) = StepMath.first (x1 (ix2 r e)) (x2 (ix3 0 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 512) (e : Fin 256) (h : i.val ≠ 0) :
    (val_main_v41 (F := Ideal) x1 x2 x6 : S4x512x256.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 0) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x256.Idx) = (ix3 0 (row t r) e : S4x512x256.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 6).arr.view.emb (ix3 i r e : S4x512x256.Idx) = (ix3 i r e : S4x512x256.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 512) (e : Fin 256) :
    (val_main_v45 (F := Ideal) x1 x3 x7 : S4x512x256.Idx → EReal) (ix3 0 r e) = StepMath.second (x1 (ix2 r e)) (x3 (ix3 0 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 512) (e : Fin 256) (h : i.val ≠ 0) :
    (val_main_v45 (F := Ideal) x1 x3 x7 : S4x512x256.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 0) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x256.Idx) = (ix3 0 (row t r) e : S4x512x256.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 7).arr.view.emb (ix3 i r e : S4x512x256.Idx) = (ix3 i r e : S4x512x256.Idx) := by
      blk_ext []
    refine Eq.trans (α := EReal) ?_ ((congrArg _ e2).trans (second_kept _ _ _ i r e (by omega))).symm
    exact congrArg (A7 m c) e2

end Cert.AdCo0Proof

namespace Cert.AdCo0Claims

open Idealize.ShloMosaic Idealize.SL.Sem Cert.AdCo0Proof
open Cert.AdCo0RefIdeal.Read

theorem frame_kernel : Cert.quiescent_AdCo0 := fun m ρ _ => Cert.AdCo0.Gen.frame m ρ

theorem frame_ideal : Cert.quiescent_AdCo0Ideal := fun m ρ _ => Cert.AdCo0Ideal.Gen.frame m ρ

theorem frame_reference : Cert.quiescent_AdCo0RefIdeal := fun m ρ _ =>
  (θ_run Cert.AdCo0RefIdeal.defs _ _).mono (fun r h => ⟨fun c => (h c).2.2.2.2, sem_eq_zero_of_no_sems (by decide) r.2⟩)
    (Cert.AdCo0RefIdeal.Value.run (F := Ideal) m ρ)

theorem preserves : Cert.preserves_AdCo0_AdCo0Ideal := trivial

theorem algebraic : Cert.algebraic_AdCo0Ideal_AdCo0RefIdeal := by
  intro m ρ m' ρ' _ hag
  have e0 (c : Dev Cert.AdCo0RefIdeal.nD) : _ = A0 m c := (hag c).1
  have e1 (c : Dev Cert.AdCo0RefIdeal.nD) : _ = A1 m c := (hag c).2.1
  have e2 (c : Dev Cert.AdCo0RefIdeal.nD) : _ = A2 m c := (hag c).2.2.1
  have e3 (c : Dev Cert.AdCo0RefIdeal.nD) : _ = A3 m c := (hag c).2.2.2.1
  have e4 (c : Dev Cert.AdCo0RefIdeal.nD) : _ = A4 m c := (hag c).2.2.2.2.1
  have e5 (c : Dev Cert.AdCo0RefIdeal.nD) : _ = A5 m c := (hag c).2.2.2.2.2.1
  have e6 (c : Dev Cert.AdCo0RefIdeal.nD) : _ = A6 m c := (hag c).2.2.2.2.2.2.1
  have e7 (c : Dev Cert.AdCo0RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdCo0Ideal.defs _ _).mono (fun r h c => ⟨(h c).1.trans (final4 m c), (h c).2.1.trans (final5 m c), (h c).2.2.1.trans (final6 m c), (h c).2.2.2.1.trans (final7 m c), (h c).2.2.2.2⟩)
      (Cert.AdCo0Ideal.Value.run_blocks (F := Ideal) m ρ)
  · refine (θ_run Cert.AdCo0RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdCo0RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdCo0Claims

end
-- ==== Proof.AdCo1Proof.lean ====
module

public import proofs.«01_k».proof.Defs
public import proofs.«01_k».proof.Proof.Gen.AdCo1.Frame
public import proofs.«01_k».proof.Proof.Gen.AdCo1Ideal.Value
public import proofs.«01_k».proof.Proof.Gen.AdCo1RefIdeal.Run
public import proofs.«01_k».proof.Proof.Gen.AdCo1RefIdeal.Read
public import Idealize.ShloMosaic.Lib.Pipeline.ValueKit
public import Idealize.ShloMosaic.Lib.Claim
public import proofs.«01_k».proof.Proof.StepMath

/-! The step of layer 1 of w_conv_out and of w_attn_out, in place. -/

@[expose] public section

set_option maxRecDepth 16384

noncomputable section

namespace Cert.AdCo1Proof

open Cert.AdCo1Ideal Cert.AdCo1Ideal.Gen Idealize.ShloMosaic Idealize.ShloMosaic.TcCoe Idealize.SL.Sem
open Cert.AdCo1RefIdeal.Read

variable (m : (ℓ : Loc nD τ sig) → Buf (Elt Ideal) ℓ) (c : Dev nD)

/-- An array of the four layers. -/
abbrev Big : Type := S4x512x256.Idx → Elt Ideal .f32

/-- An array of one layer. -/
abbrev One : Type := S512x256.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![1, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![1, t.val, 0] := (by decide +kernel : ∀ t : Fin grid0.N, _)
theorem index3 : ∀ t : Fin cfg0.N, win0_3.index t = ![1, t.val, 0] := (by decide +kernel : ∀ t : Fin grid0.N, _)
theorem index4 : ∀ t : Fin cfg0.N, win0_4.index t = ![1, t.val, 0] := (by decide +kernel : ∀ t : Fin grid0.N, _)
theorem index5 : ∀ t : Fin cfg0.N, win0_5.index t = ![1, t.val, 0] := (by decide +kernel : ∀ t : Fin grid0.N, _)
theorem index6 : ∀ t : Fin cfg0.N, win0_6.index t = ![1, t.val, 0] := (by decide +kernel : ∀ t : Fin grid0.N, _)
theorem index7 : ∀ t : Fin cfg0.N, win0_7.index t = ![1, t.val, 0] := (by decide +kernel : ∀ t : Fin grid0.N, _)

theorem lt_points (t : Fin cfg0.N) : t.val < 1 := t.isLt

abbrev row (t : Fin cfg0.N) (r : Fin 512) : Fin 512 := ⟨t.val * 512 + r.val, by have := lt_points t; have := r.isLt; omega⟩

theorem block0 (t : Fin cfg0.N) (r : Fin 512) (e : Fin 256) :
    iblk m c 0 t (ix3 0 r e : S1x512x256.Idx) = A0 m c (ix3 1 (row t r) e : S4x512x256.Idx) := by
  blk_ext [iblk, V_main_arg0, index0]

theorem block1 (t : Fin cfg0.N) (r : Fin 512) (e : Fin 256) :
    iblk m c 1 t (ix2 r e : S512x256.Idx) = A1 m c (ix2 (row t r) e : S512x256.Idx) := by
  blk_ext [iblk, V_main_arg1, index1]

theorem block2 (t : Fin cfg0.N) (r : Fin 512) (e : Fin 256) :
    iblk m c 2 t (ix3 0 r e : S1x512x256.Idx) = A2 m c (ix3 1 (row t r) e : S4x512x256.Idx) := by
  blk_ext [iblk, V_main_arg2, index2]

theorem block3 (t : Fin cfg0.N) (r : Fin 512) (e : Fin 256) :
    iblk m c 3 t (ix3 0 r e : S1x512x256.Idx) = A3 m c (ix3 1 (row t r) e : S4x512x256.Idx) := by
  blk_ext [iblk, V_main_arg3, index3]

/-- The layer of the step holds the gradient. -/
theorem copied_new (x1 : One) (x4 : Big) (r : Fin 512) (e : Fin 256) :
    (val_main_v33 (F := Ideal) x1 x4 : S4x512x256.Idx → EReal) (ix3 1 r e) = x1 (ix2 r e) := by
  pointwise [val_main_v30, val_main_v31, val_main_v32, val_main_v33]

/-- The other layers keep what was there. -/
theorem copied_kept (x1 : One) (x4 : Big) (i : Fin 4) (r : Fin 512) (e : Fin 256) (h : i.val ≠ 1) :
    (val_main_v33 (F := Ideal) x1 x4 : S4x512x256.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 1) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x256.Idx) = (ix3 1 (row t r) e : S4x512x256.Idx) := by
      blk_ext [index4]
    refine Eq.trans (α := EReal) ?_ ((congrArg _ e).trans (copied_new _ _ _ _)).symm
    rw [block1]
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 4).arr.view.emb (ix3 i r e : S4x512x256.Idx) = (ix3 i r e : S4x512x256.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 512) (e : Fin 256) :
    (val_main_v37 (F := Ideal) x0 x1 x2 x3 x5 : S4x512x256.Idx → EReal) (ix3 1 r e) = StepMath.delta (x0 (ix3 1 r e)) (x1 (ix2 r e)) (x2 (ix3 1 r e)) (x3 (ix3 1 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 512) (e : Fin 256) (h : i.val ≠ 1) :
    (val_main_v37 (F := Ideal) x0 x1 x2 x3 x5 : S4x512x256.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 1) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x256.Idx) = (ix3 1 (row t r) e : S4x512x256.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 5).arr.view.emb (ix3 i r e : S4x512x256.Idx) = (ix3 i r e : S4x512x256.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 512) (e : Fin 256) :
    (val_main_v41 (F := Ideal) x1 x2 x6 : S4x512x256.Idx → EReal) (ix3 1 r e) = StepMath.first (x1 (ix2 r e)) (x2 (ix3 1 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 512) (e : Fin 256) (h : i.val ≠ 1) :
    (val_main_v41 (F := Ideal) x1 x2 x6 : S4x512x256.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 1) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x256.Idx) = (ix3 1 (row t r) e : S4x512x256.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 6).arr.view.emb (ix3 i r e : S4x512x256.Idx) = (ix3 i r e : S4x512x256.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 512) (e : Fin 256) :
    (val_main_v45 (F := Ideal) x1 x3 x7 : S4x512x256.Idx → EReal) (ix3 1 r e) = StepMath.second (x1 (ix2 r e)) (x3 (ix3 1 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 512) (e : Fin 256) (h : i.val ≠ 1) :
    (val_main_v45 (F := Ideal) x1 x3 x7 : S4x512x256.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 1) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x256.Idx) = (ix3 1 (row t r) e : S4x512x256.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 7).arr.view.emb (ix3 i r e : S4x512x256.Idx) = (ix3 i r e : S4x512x256.Idx) := by
      blk_ext []
    refine Eq.trans (α := EReal) ?_ ((congrArg _ e2).trans (second_kept _ _ _ i r e (by omega))).symm
    exact congrArg (A7 m c) e2

end Cert.AdCo1Proof

namespace Cert.AdCo1Claims

open Idealize.ShloMosaic Idealize.SL.Sem Cert.AdCo1Proof
open Cert.AdCo1RefIdeal.Read

theorem frame_kernel : Cert.quiescent_AdCo1 := fun m ρ _ => Cert.AdCo1.Gen.frame m ρ

theorem frame_ideal : Cert.quiescent_AdCo1Ideal := fun m ρ _ => Cert.AdCo1Ideal.Gen.frame m ρ

theorem frame_reference : Cert.quiescent_AdCo1RefIdeal := fun m ρ _ =>
  (θ_run Cert.AdCo1RefIdeal.defs _ _).mono (fun r h => ⟨fun c => (h c).2.2.2.2, sem_eq_zero_of_no_sems (by decide) r.2⟩)
    (Cert.AdCo1RefIdeal.Value.run (F := Ideal) m ρ)

theorem preserves : Cert.preserves_AdCo1_AdCo1Ideal := trivial

theorem algebraic : Cert.algebraic_AdCo1Ideal_AdCo1RefIdeal := by
  intro m ρ m' ρ' _ hag
  have e0 (c : Dev Cert.AdCo1RefIdeal.nD) : _ = A0 m c := (hag c).1
  have e1 (c : Dev Cert.AdCo1RefIdeal.nD) : _ = A1 m c := (hag c).2.1
  have e2 (c : Dev Cert.AdCo1RefIdeal.nD) : _ = A2 m c := (hag c).2.2.1
  have e3 (c : Dev Cert.AdCo1RefIdeal.nD) : _ = A3 m c := (hag c).2.2.2.1
  have e4 (c : Dev Cert.AdCo1RefIdeal.nD) : _ = A4 m c := (hag c).2.2.2.2.1
  have e5 (c : Dev Cert.AdCo1RefIdeal.nD) : _ = A5 m c := (hag c).2.2.2.2.2.1
  have e6 (c : Dev Cert.AdCo1RefIdeal.nD) : _ = A6 m c := (hag c).2.2.2.2.2.2.1
  have e7 (c : Dev Cert.AdCo1RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdCo1Ideal.defs _ _).mono (fun r h c => ⟨(h c).1.trans (final4 m c), (h c).2.1.trans (final5 m c), (h c).2.2.1.trans (final6 m c), (h c).2.2.2.1.trans (final7 m c), (h c).2.2.2.2⟩)
      (Cert.AdCo1Ideal.Value.run_blocks (F := Ideal) m ρ)
  · refine (θ_run Cert.AdCo1RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdCo1RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdCo1Claims

end
-- ==== Proof.AdCo2Proof.lean ====
module

public import proofs.«01_k».proof.Defs
public import proofs.«01_k».proof.Proof.Gen.AdCo2.Frame
public import proofs.«01_k».proof.Proof.Gen.AdCo2Ideal.Value
public import proofs.«01_k».proof.Proof.Gen.AdCo2RefIdeal.Run
public import proofs.«01_k».proof.Proof.Gen.AdCo2RefIdeal.Read
public import Idealize.ShloMosaic.Lib.Pipeline.ValueKit
public import Idealize.ShloMosaic.Lib.Claim
public import proofs.«01_k».proof.Proof.StepMath

/-! The step of layer 2 of w_conv_out and of w_attn_out, in place. -/

@[expose] public section

set_option maxRecDepth 16384

noncomputable section

namespace Cert.AdCo2Proof

open Cert.AdCo2Ideal Cert.AdCo2Ideal.Gen Idealize.ShloMosaic Idealize.ShloMosaic.TcCoe Idealize.SL.Sem
open Cert.AdCo2RefIdeal.Read

variable (m : (ℓ : Loc nD τ sig) → Buf (Elt Ideal) ℓ) (c : Dev nD)

/-- An array of the four layers. -/
abbrev Big : Type := S4x512x256.Idx → Elt Ideal .f32

/-- An array of one layer. -/
abbrev One : Type := S512x256.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![2, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![2, t.val, 0] := (by decide +kernel : ∀ t : Fin grid0.N, _)
theorem index3 : ∀ t : Fin cfg0.N, win0_3.index t = ![2, t.val, 0] := (by decide +kernel : ∀ t : Fin grid0.N, _)
theorem index4 : ∀ t : Fin cfg0.N, win0_4.index t = ![2, t.val, 0] := (by decide +kernel : ∀ t : Fin grid0.N, _)
theorem index5 : ∀ t : Fin cfg0.N, win0_5.index t = ![2, t.val, 0] := (by decide +kernel : ∀ t : Fin grid0.N, _)
theorem index6 : ∀ t : Fin cfg0.N, win0_6.index t = ![2, t.val, 0] := (by decide +kernel : ∀ t : Fin grid0.N, _)
theorem index7 : ∀ t : Fin cfg0.N, win0_7.index t = ![2, t.val, 0] := (by decide +kernel : ∀ t : Fin grid0.N, _)

theorem lt_points (t : Fin cfg0.N) : t.val < 1 := t.isLt

abbrev row (t : Fin cfg0.N) (r : Fin 512) : Fin 512 := ⟨t.val * 512 + r.val, by have := lt_points t; have := r.isLt; omega⟩

theorem block0 (t : Fin cfg0.N) (r : Fin 512) (e : Fin 256) :
    iblk m c 0 t (ix3 0 r e : S1x512x256.Idx) = A0 m c (ix3 2 (row t r) e : S4x512x256.Idx) := by
  blk_ext [iblk, V_main_arg0, index0]

theorem block1 (t : Fin cfg0.N) (r : Fin 512) (e : Fin 256) :
    iblk m c 1 t (ix2 r e : S512x256.Idx) = A1 m c (ix2 (row t r) e : S512x256.Idx) := by
  blk_ext [iblk, V_main_arg1, index1]

theorem block2 (t : Fin cfg0.N) (r : Fin 512) (e : Fin 256) :
    iblk m c 2 t (ix3 0 r e : S1x512x256.Idx) = A2 m c (ix3 2 (row t r) e : S4x512x256.Idx) := by
  blk_ext [iblk, V_main_arg2, index2]

theorem block3 (t : Fin cfg0.N) (r : Fin 512) (e : Fin 256) :
    iblk m c 3 t (ix3 0 r e : S1x512x256.Idx) = A3 m c (ix3 2 (row t r) e : S4x512x256.Idx) := by
  blk_ext [iblk, V_main_arg3, index3]

/-- The layer of the step holds the gradient. -/
theorem copied_new (x1 : One) (x4 : Big) (r : Fin 512) (e : Fin 256) :
    (val_main_v33 (F := Ideal) x1 x4 : S4x512x256.Idx → EReal) (ix3 2 r e) = x1 (ix2 r e) := by
  pointwise [val_main_v30, val_main_v31, val_main_v32, val_main_v33]

/-- The other layers keep what was there. -/
theorem copied_kept (x1 : One) (x4 : Big) (i : Fin 4) (r : Fin 512) (e : Fin 256) (h : i.val ≠ 2) :
    (val_main_v33 (F := Ideal) x1 x4 : S4x512x256.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 2) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x256.Idx) = (ix3 2 (row t r) e : S4x512x256.Idx) := by
      blk_ext [index4]
    refine Eq.trans (α := EReal) ?_ ((congrArg _ e).trans (copied_new _ _ _ _)).symm
    rw [block1]
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 4).arr.view.emb (ix3 i r e : S4x512x256.Idx) = (ix3 i r e : S4x512x256.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 512) (e : Fin 256) :
    (val_main_v37 (F := Ideal) x0 x1 x2 x3 x5 : S4x512x256.Idx → EReal) (ix3 2 r e) = StepMath.delta (x0 (ix3 2 r e)) (x1 (ix2 r e)) (x2 (ix3 2 r e)) (x3 (ix3 2 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 512) (e : Fin 256) (h : i.val ≠ 2) :
    (val_main_v37 (F := Ideal) x0 x1 x2 x3 x5 : S4x512x256.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 2) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x256.Idx) = (ix3 2 (row t r) e : S4x512x256.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 5).arr.view.emb (ix3 i r e : S4x512x256.Idx) = (ix3 i r e : S4x512x256.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 512) (e : Fin 256) :
    (val_main_v41 (F := Ideal) x1 x2 x6 : S4x512x256.Idx → EReal) (ix3 2 r e) = StepMath.first (x1 (ix2 r e)) (x2 (ix3 2 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 512) (e : Fin 256) (h : i.val ≠ 2) :
    (val_main_v41 (F := Ideal) x1 x2 x6 : S4x512x256.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 2) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x256.Idx) = (ix3 2 (row t r) e : S4x512x256.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 6).arr.view.emb (ix3 i r e : S4x512x256.Idx) = (ix3 i r e : S4x512x256.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 512) (e : Fin 256) :
    (val_main_v45 (F := Ideal) x1 x3 x7 : S4x512x256.Idx → EReal) (ix3 2 r e) = StepMath.second (x1 (ix2 r e)) (x3 (ix3 2 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 512) (e : Fin 256) (h : i.val ≠ 2) :
    (val_main_v45 (F := Ideal) x1 x3 x7 : S4x512x256.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 2) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x256.Idx) = (ix3 2 (row t r) e : S4x512x256.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 7).arr.view.emb (ix3 i r e : S4x512x256.Idx) = (ix3 i r e : S4x512x256.Idx) := by
      blk_ext []
    refine Eq.trans (α := EReal) ?_ ((congrArg _ e2).trans (second_kept _ _ _ i r e (by omega))).symm
    exact congrArg (A7 m c) e2

end Cert.AdCo2Proof

namespace Cert.AdCo2Claims

open Idealize.ShloMosaic Idealize.SL.Sem Cert.AdCo2Proof
open Cert.AdCo2RefIdeal.Read

theorem frame_kernel : Cert.quiescent_AdCo2 := fun m ρ _ => Cert.AdCo2.Gen.frame m ρ

theorem frame_ideal : Cert.quiescent_AdCo2Ideal := fun m ρ _ => Cert.AdCo2Ideal.Gen.frame m ρ

theorem frame_reference : Cert.quiescent_AdCo2RefIdeal := fun m ρ _ =>
  (θ_run Cert.AdCo2RefIdeal.defs _ _).mono (fun r h => ⟨fun c => (h c).2.2.2.2, sem_eq_zero_of_no_sems (by decide) r.2⟩)
    (Cert.AdCo2RefIdeal.Value.run (F := Ideal) m ρ)

theorem preserves : Cert.preserves_AdCo2_AdCo2Ideal := trivial

theorem algebraic : Cert.algebraic_AdCo2Ideal_AdCo2RefIdeal := by
  intro m ρ m' ρ' _ hag
  have e0 (c : Dev Cert.AdCo2RefIdeal.nD) : _ = A0 m c := (hag c).1
  have e1 (c : Dev Cert.AdCo2RefIdeal.nD) : _ = A1 m c := (hag c).2.1
  have e2 (c : Dev Cert.AdCo2RefIdeal.nD) : _ = A2 m c := (hag c).2.2.1
  have e3 (c : Dev Cert.AdCo2RefIdeal.nD) : _ = A3 m c := (hag c).2.2.2.1
  have e4 (c : Dev Cert.AdCo2RefIdeal.nD) : _ = A4 m c := (hag c).2.2.2.2.1
  have e5 (c : Dev Cert.AdCo2RefIdeal.nD) : _ = A5 m c := (hag c).2.2.2.2.2.1
  have e6 (c : Dev Cert.AdCo2RefIdeal.nD) : _ = A6 m c := (hag c).2.2.2.2.2.2.1
  have e7 (c : Dev Cert.AdCo2RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdCo2Ideal.defs _ _).mono (fun r h c => ⟨(h c).1.trans (final4 m c), (h c).2.1.trans (final5 m c), (h c).2.2.1.trans (final6 m c), (h c).2.2.2.1.trans (final7 m c), (h c).2.2.2.2⟩)
      (Cert.AdCo2Ideal.Value.run_blocks (F := Ideal) m ρ)
  · refine (θ_run Cert.AdCo2RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdCo2RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdCo2Claims

end
-- ==== Proof.AdCo3Proof.lean ====
module

public import proofs.«01_k».proof.Defs
public import proofs.«01_k».proof.Proof.Gen.AdCo3.Frame
public import proofs.«01_k».proof.Proof.Gen.AdCo3Ideal.Value
public import proofs.«01_k».proof.Proof.Gen.AdCo3RefIdeal.Run
public import proofs.«01_k».proof.Proof.Gen.AdCo3RefIdeal.Read
public import Idealize.ShloMosaic.Lib.Pipeline.ValueKit
public import Idealize.ShloMosaic.Lib.Claim
public import proofs.«01_k».proof.Proof.StepMath

/-! The step of layer 3 of w_conv_out and of w_attn_out, in place. -/

@[expose] public section

set_option maxRecDepth 16384

noncomputable section

namespace Cert.AdCo3Proof

open Cert.AdCo3Ideal Cert.AdCo3Ideal.Gen Idealize.ShloMosaic Idealize.ShloMosaic.TcCoe Idealize.SL.Sem
open Cert.AdCo3RefIdeal.Read

variable (m : (ℓ : Loc nD τ sig) → Buf (Elt Ideal) ℓ) (c : Dev nD)

/-- An array of the four layers. -/
abbrev Big : Type := S4x512x256.Idx → Elt Ideal .f32

/-- An array of one layer. -/
abbrev One : Type := S512x256.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![3, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![3, t.val, 0] := (by decide +kernel : ∀ t : Fin grid0.N, _)
theorem index3 : ∀ t : Fin cfg0.N, win0_3.index t = ![3, t.val, 0] := (by decide +kernel : ∀ t : Fin grid0.N, _)
theorem index4 : ∀ t : Fin cfg0.N, win0_4.index t = ![3, t.val, 0] := (by decide +kernel : ∀ t : Fin grid0.N, _)
theorem index5 : ∀ t : Fin cfg0.N, win0_5.index t = ![3, t.val, 0] := (by decide +kernel : ∀ t : Fin grid0.N, _)
theorem index6 : ∀ t : Fin cfg0.N, win0_6.index t = ![3, t.val, 0] := (by decide +kernel : ∀ t : Fin grid0.N, _)
theorem index7 : ∀ t : Fin cfg0.N, win0_7.index t = ![3, t.val, 0] := (by decide +kernel : ∀ t : Fin grid0.N, _)

theorem lt_points (t : Fin cfg0.N) : t.val < 1 := t.isLt

abbrev row (t : Fin cfg0.N) (r : Fin 512) : Fin 512 := ⟨t.val * 512 + r.val, by have := lt_points t; have := r.isLt; omega⟩

theorem block0 (t : Fin cfg0.N) (r : Fin 512) (e : Fin 256) :
    iblk m c 0 t (ix3 0 r e : S1x512x256.Idx) = A0 m c (ix3 3 (row t r) e : S4x512x256.Idx) := by
  blk_ext [iblk, V_main_arg0, index0]

theorem block1 (t : Fin cfg0.N) (r : Fin 512) (e : Fin 256) :
    iblk m c 1 t (ix2 r e : S512x256.Idx) = A1 m c (ix2 (row t r) e : S512x256.Idx) := by
  blk_ext [iblk, V_main_arg1, index1]

theorem block2 (t : Fin cfg0.N) (r : Fin 512) (e : Fin 256) :
    iblk m c 2 t (ix3 0 r e : S1x512x256.Idx) = A2 m c (ix3 3 (row t r) e : S4x512x256.Idx) := by
  blk_ext [iblk, V_main_arg2, index2]

theorem block3 (t : Fin cfg0.N) (r : Fin 512) (e : Fin 256) :
    iblk m c 3 t (ix3 0 r e : S1x512x256.Idx) = A3 m c (ix3 3 (row t r) e : S4x512x256.Idx) := by
  blk_ext [iblk, V_main_arg3, index3]

/-- The layer of the step holds the gradient. -/
theorem copied_new (x1 : One) (x4 : Big) (r : Fin 512) (e : Fin 256) :
    (val_main_v33 (F := Ideal) x1 x4 : S4x512x256.Idx → EReal) (ix3 3 r e) = x1 (ix2 r e) := by
  pointwise [val_main_v30, val_main_v31, val_main_v32, val_main_v33]

/-- The other layers keep what was there. -/
theorem copied_kept (x1 : One) (x4 : Big) (i : Fin 4) (r : Fin 512) (e : Fin 256) (h : i.val ≠ 3) :
    (val_main_v33 (F := Ideal) x1 x4 : S4x512x256.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 3) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x256.Idx) = (ix3 3 (row t r) e : S4x512x256.Idx) := by
      blk_ext [index4]
    refine Eq.trans (α := EReal) ?_ ((congrArg _ e).trans (copied_new _ _ _ _)).symm
    rw [block1]
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 4).arr.view.emb (ix3 i r e : S4x512x256.Idx) = (ix3 i r e : S4x512x256.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 512) (e : Fin 256) :
    (val_main_v37 (F := Ideal) x0 x1 x2 x3 x5 : S4x512x256.Idx → EReal) (ix3 3 r e) = StepMath.delta (x0 (ix3 3 r e)) (x1 (ix2 r e)) (x2 (ix3 3 r e)) (x3 (ix3 3 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 512) (e : Fin 256) (h : i.val ≠ 3) :
    (val_main_v37 (F := Ideal) x0 x1 x2 x3 x5 : S4x512x256.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 3) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x256.Idx) = (ix3 3 (row t r) e : S4x512x256.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 5).arr.view.emb (ix3 i r e : S4x512x256.Idx) = (ix3 i r e : S4x512x256.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 512) (e : Fin 256) :
    (val_main_v41 (F := Ideal) x1 x2 x6 : S4x512x256.Idx → EReal) (ix3 3 r e) = StepMath.first (x1 (ix2 r e)) (x2 (ix3 3 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 512) (e : Fin 256) (h : i.val ≠ 3) :
    (val_main_v41 (F := Ideal) x1 x2 x6 : S4x512x256.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 3) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x256.Idx) = (ix3 3 (row t r) e : S4x512x256.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 6).arr.view.emb (ix3 i r e : S4x512x256.Idx) = (ix3 i r e : S4x512x256.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 512) (e : Fin 256) :
    (val_main_v45 (F := Ideal) x1 x3 x7 : S4x512x256.Idx → EReal) (ix3 3 r e) = StepMath.second (x1 (ix2 r e)) (x3 (ix3 3 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 512) (e : Fin 256) (h : i.val ≠ 3) :
    (val_main_v45 (F := Ideal) x1 x3 x7 : S4x512x256.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 3) (by decide +kernel) (fun t hf y => ?_) (fun j hj => ?_)
  · obtain ⟨z, r, e, rfl⟩ : ∃ (z : Fin 1) (r : Fin 512) (e : Fin 256), y = (ix3 z r e : S1x512x256.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x256.Idx) = (ix3 3 (row t r) e : S4x512x256.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 512) (e : Fin 256), j = (ix3 i r e : S4x512x256.Idx) := ⟨j 0, j 1, j 2, eq_ix3 _⟩
    blk_simp [Pipeline.Window.cell_apply] at hj
    have e2 : (cfg0.win 7).arr.view.emb (ix3 i r e : S4x512x256.Idx) = (ix3 i r e : S4x512x256.Idx) := by
      blk_ext []
    refine Eq.trans (α := EReal) ?_ ((congrArg _ e2).trans (second_kept _ _ _ i r e (by omega))).symm
    exact congrArg (A7 m c) e2

end Cert.AdCo3Proof

namespace Cert.AdCo3Claims

open Idealize.ShloMosaic Idealize.SL.Sem Cert.AdCo3Proof
open Cert.AdCo3RefIdeal.Read

theorem frame_kernel : Cert.quiescent_AdCo3 := fun m ρ _ => Cert.AdCo3.Gen.frame m ρ

theorem frame_ideal : Cert.quiescent_AdCo3Ideal := fun m ρ _ => Cert.AdCo3Ideal.Gen.frame m ρ

theorem frame_reference : Cert.quiescent_AdCo3RefIdeal := fun m ρ _ =>
  (θ_run Cert.AdCo3RefIdeal.defs _ _).mono (fun r h => ⟨fun c => (h c).2.2.2.2, sem_eq_zero_of_no_sems (by decide) r.2⟩)
    (Cert.AdCo3RefIdeal.Value.run (F := Ideal) m ρ)

theorem preserves : Cert.preserves_AdCo3_AdCo3Ideal := trivial

theorem algebraic : Cert.algebraic_AdCo3Ideal_AdCo3RefIdeal := by
  intro m ρ m' ρ' _ hag
  have e0 (c : Dev Cert.AdCo3RefIdeal.nD) : _ = A0 m c := (hag c).1
  have e1 (c : Dev Cert.AdCo3RefIdeal.nD) : _ = A1 m c := (hag c).2.1
  have e2 (c : Dev Cert.AdCo3RefIdeal.nD) : _ = A2 m c := (hag c).2.2.1
  have e3 (c : Dev Cert.AdCo3RefIdeal.nD) : _ = A3 m c := (hag c).2.2.2.1
  have e4 (c : Dev Cert.AdCo3RefIdeal.nD) : _ = A4 m c := (hag c).2.2.2.2.1
  have e5 (c : Dev Cert.AdCo3RefIdeal.nD) : _ = A5 m c := (hag c).2.2.2.2.2.1
  have e6 (c : Dev Cert.AdCo3RefIdeal.nD) : _ = A6 m c := (hag c).2.2.2.2.2.2.1
  have e7 (c : Dev Cert.AdCo3RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdCo3Ideal.defs _ _).mono (fun r h c => ⟨(h c).1.trans (final4 m c), (h c).2.1.trans (final5 m c), (h c).2.2.1.trans (final6 m c), (h c).2.2.2.1.trans (final7 m c), (h c).2.2.2.2⟩)
      (Cert.AdCo3Ideal.Value.run_blocks (F := Ideal) m ρ)
  · refine (θ_run Cert.AdCo3RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdCo3RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdCo3Claims

end
-- ==== Proof.AdOut0Proof.lean ====
module

public import proofs.«01_k».proof.Defs
public import proofs.«01_k».proof.Proof.Gen.AdOut0.Frame
public import proofs.«01_k».proof.Proof.Gen.AdOut0Ideal.Value
public import proofs.«01_k».proof.Proof.Gen.AdOut0RefIdeal.Run
public import proofs.«01_k».proof.Proof.Gen.AdOut0RefIdeal.Read
public import Idealize.ShloMosaic.Lib.Pipeline.ValueKit
public import Idealize.ShloMosaic.Lib.Claim
public import proofs.«01_k».proof.Proof.StepMath

/-! The step of layer 0 of w_out, in place. -/

@[expose] public section

set_option maxRecDepth 16384

noncomputable section

namespace Cert.AdOut0Proof

open Cert.AdOut0Ideal Cert.AdOut0Ideal.Gen Idealize.ShloMosaic Idealize.ShloMosaic.TcCoe Idealize.SL.Sem
open Cert.AdOut0RefIdeal.Read

variable (m : (ℓ : Loc nD τ sig) → Buf (Elt Ideal) ℓ) (c : Dev nD)

/-- An array of the four layers. -/
abbrev Big : Type := S4x256x1024.Idx → Elt Ideal .f32

/-- An array of one layer. -/
abbrev One : Type := S256x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val, 0] := (by decide +kernel : ∀ t : Fin grid0.N, _)
theorem index6 : ∀ t : Fin cfg0.N, win0_6.index t = ![0, t.val, 0] := (by decide +kernel : ∀ t : Fin grid0.N, _)
theorem index7 : ∀ t : Fin cfg0.N, win0_7.index t = ![0, t.val, 0] := (by decide +kernel : ∀ t : Fin grid0.N, _)

theorem lt_points (t : Fin cfg0.N) : t.val < 1 := t.isLt

abbrev row (t : Fin cfg0.N) (r : Fin 256) : Fin 256 := ⟨t.val * 256 + r.val, by have := lt_points t; have := r.isLt; omega⟩

theorem block0 (t : Fin cfg0.N) (r : Fin 256) (e : Fin 1024) :
    iblk m c 0 t (ix3 0 r e : S1x256x1024.Idx) = A0 m c (ix3 0 (row t r) e : S4x256x1024.Idx) := by
  blk_ext [iblk, V_main_arg0, index0]

theorem block1 (t : Fin cfg0.N) (r : Fin 256) (e : Fin 1024) :
    iblk m c 1 t (ix2 r e : S256x1024.Idx) = A1 m c (ix2 (row t r) e : S256x1024.Idx) := by
  blk_ext [iblk, V_main_arg1, index1]

theorem block2 (t : Fin cfg0.N) (r : Fin 256) (e : Fin 1024) :
    iblk m c 2 t (ix3 0 r e : S1x256x1024.Idx) = A2 m c (ix3 0 (row t r) e : S4x256x1024.Idx) := by
  blk_ext [iblk, V_main_arg2, index2]

theorem block3 (t : Fin cfg0.N) (r : Fin 256) (e : Fin 1024) :
    iblk m c 3 t (ix3 0 r e : S1x256x1024.Idx) = A3 m c (ix3 0 (row t r) e : S4x256x1024.Idx) := by
  blk_ext [iblk, V_main_arg3, index3]

/-- The layer of the step holds the gradient. -/
theorem copied_new (x1 : One) (x4 : Big) (r : Fin 256) (e : Fin 1024) :
    (val_main_v33 (F := Ideal) x1 x4 : S4x256x1024.Idx → EReal) (ix3 0 r e) = x1 (ix2 r e) := by
  pointwise [val_main_v30, val_main_v31, val_main_v32, val_main_v33]

/-- The other layers keep what was there. -/
theorem copied_kept (x1 : One) (x4 : Big) (i : Fin 4) (r : Fin 256) (e : Fin 1024) (h : i.val ≠ 0) :
    (val_main_v33 (F := Ideal) x1 x4 : S4x256x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 0) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1024.Idx) = (ix3 0 (row t r) e : S4x256x1024.Idx) := by
      blk_ext [index4]
    refine Eq.trans (α := EReal) ?_ ((congrArg _ e).trans (copied_new _ _ _ _)).symm
    rw [block1]
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 4).arr.view.emb (ix3 i r e : S4x256x1024.Idx) = (ix3 i r e : S4x256x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 256) (e : Fin 1024) :
    (val_main_v37 (F := Ideal) x0 x1 x2 x3 x5 : S4x256x1024.Idx → EReal) (ix3 0 r e) = StepMath.delta (x0 (ix3 0 r e)) (x1 (ix2 r e)) (x2 (ix3 0 r e)) (x3 (ix3 0 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 256) (e : Fin 1024) (h : i.val ≠ 0) :
    (val_main_v37 (F := Ideal) x0 x1 x2 x3 x5 : S4x256x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 0) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1024.Idx) = (ix3 0 (row t r) e : S4x256x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 5).arr.view.emb (ix3 i r e : S4x256x1024.Idx) = (ix3 i r e : S4x256x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 256) (e : Fin 1024) :
    (val_main_v41 (F := Ideal) x1 x2 x6 : S4x256x1024.Idx → EReal) (ix3 0 r e) = StepMath.first (x1 (ix2 r e)) (x2 (ix3 0 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 256) (e : Fin 1024) (h : i.val ≠ 0) :
    (val_main_v41 (F := Ideal) x1 x2 x6 : S4x256x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 0) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1024.Idx) = (ix3 0 (row t r) e : S4x256x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 6).arr.view.emb (ix3 i r e : S4x256x1024.Idx) = (ix3 i r e : S4x256x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 256) (e : Fin 1024) :
    (val_main_v45 (F := Ideal) x1 x3 x7 : S4x256x1024.Idx → EReal) (ix3 0 r e) = StepMath.second (x1 (ix2 r e)) (x3 (ix3 0 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 256) (e : Fin 1024) (h : i.val ≠ 0) :
    (val_main_v45 (F := Ideal) x1 x3 x7 : S4x256x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 0) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1024.Idx) = (ix3 0 (row t r) e : S4x256x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 7).arr.view.emb (ix3 i r e : S4x256x1024.Idx) = (ix3 i r e : S4x256x1024.Idx) := by
      blk_ext []
    refine Eq.trans (α := EReal) ?_ ((congrArg _ e2).trans (second_kept _ _ _ i r e (by omega))).symm
    exact congrArg (A7 m c) e2

end Cert.AdOut0Proof

namespace Cert.AdOut0Claims

open Idealize.ShloMosaic Idealize.SL.Sem Cert.AdOut0Proof
open Cert.AdOut0RefIdeal.Read

theorem frame_kernel : Cert.quiescent_AdOut0 := fun m ρ _ => Cert.AdOut0.Gen.frame m ρ

theorem frame_ideal : Cert.quiescent_AdOut0Ideal := fun m ρ _ => Cert.AdOut0Ideal.Gen.frame m ρ

theorem frame_reference : Cert.quiescent_AdOut0RefIdeal := fun m ρ _ =>
  (θ_run Cert.AdOut0RefIdeal.defs _ _).mono (fun r h => ⟨fun c => (h c).2.2.2.2, sem_eq_zero_of_no_sems (by decide) r.2⟩)
    (Cert.AdOut0RefIdeal.Value.run (F := Ideal) m ρ)

theorem preserves : Cert.preserves_AdOut0_AdOut0Ideal := trivial

theorem algebraic : Cert.algebraic_AdOut0Ideal_AdOut0RefIdeal := by
  intro m ρ m' ρ' _ hag
  have e0 (c : Dev Cert.AdOut0RefIdeal.nD) : _ = A0 m c := (hag c).1
  have e1 (c : Dev Cert.AdOut0RefIdeal.nD) : _ = A1 m c := (hag c).2.1
  have e2 (c : Dev Cert.AdOut0RefIdeal.nD) : _ = A2 m c := (hag c).2.2.1
  have e3 (c : Dev Cert.AdOut0RefIdeal.nD) : _ = A3 m c := (hag c).2.2.2.1
  have e4 (c : Dev Cert.AdOut0RefIdeal.nD) : _ = A4 m c := (hag c).2.2.2.2.1
  have e5 (c : Dev Cert.AdOut0RefIdeal.nD) : _ = A5 m c := (hag c).2.2.2.2.2.1
  have e6 (c : Dev Cert.AdOut0RefIdeal.nD) : _ = A6 m c := (hag c).2.2.2.2.2.2.1
  have e7 (c : Dev Cert.AdOut0RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdOut0Ideal.defs _ _).mono (fun r h c => ⟨(h c).1.trans (final4 m c), (h c).2.1.trans (final5 m c), (h c).2.2.1.trans (final6 m c), (h c).2.2.2.1.trans (final7 m c), (h c).2.2.2.2⟩)
      (Cert.AdOut0Ideal.Value.run_blocks (F := Ideal) m ρ)
  · refine (θ_run Cert.AdOut0RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdOut0RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdOut0Claims

end
-- ==== Proof.AdOut1Proof.lean ====
module

public import proofs.«01_k».proof.Defs
public import proofs.«01_k».proof.Proof.Gen.AdOut1.Frame
public import proofs.«01_k».proof.Proof.Gen.AdOut1Ideal.Value
public import proofs.«01_k».proof.Proof.Gen.AdOut1RefIdeal.Run
public import proofs.«01_k».proof.Proof.Gen.AdOut1RefIdeal.Read
public import Idealize.ShloMosaic.Lib.Pipeline.ValueKit
public import Idealize.ShloMosaic.Lib.Claim
public import proofs.«01_k».proof.Proof.StepMath

/-! The step of layer 1 of w_out, in place. -/

@[expose] public section

set_option maxRecDepth 16384

noncomputable section

namespace Cert.AdOut1Proof

open Cert.AdOut1Ideal Cert.AdOut1Ideal.Gen Idealize.ShloMosaic Idealize.ShloMosaic.TcCoe Idealize.SL.Sem
open Cert.AdOut1RefIdeal.Read

variable (m : (ℓ : Loc nD τ sig) → Buf (Elt Ideal) ℓ) (c : Dev nD)

/-- An array of the four layers. -/
abbrev Big : Type := S4x256x1024.Idx → Elt Ideal .f32

/-- An array of one layer. -/
abbrev One : Type := S256x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![1, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![1, t.val, 0] := (by decide +kernel : ∀ t : Fin grid0.N, _)
theorem index3 : ∀ t : Fin cfg0.N, win0_3.index t = ![1, t.val, 0] := (by decide +kernel : ∀ t : Fin grid0.N, _)
theorem index4 : ∀ t : Fin cfg0.N, win0_4.index t = ![1, t.val, 0] := (by decide +kernel : ∀ t : Fin grid0.N, _)
theorem index5 : ∀ t : Fin cfg0.N, win0_5.index t = ![1, t.val, 0] := (by decide +kernel : ∀ t : Fin grid0.N, _)
theorem index6 : ∀ t : Fin cfg0.N, win0_6.index t = ![1, t.val, 0] := (by decide +kernel : ∀ t : Fin grid0.N, _)
theorem index7 : ∀ t : Fin cfg0.N, win0_7.index t = ![1, t.val, 0] := (by decide +kernel : ∀ t : Fin grid0.N, _)

theorem lt_points (t : Fin cfg0.N) : t.val < 1 := t.isLt

abbrev row (t : Fin cfg0.N) (r : Fin 256) : Fin 256 := ⟨t.val * 256 + r.val, by have := lt_points t; have := r.isLt; omega⟩

theorem block0 (t : Fin cfg0.N) (r : Fin 256) (e : Fin 1024) :
    iblk m c 0 t (ix3 0 r e : S1x256x1024.Idx) = A0 m c (ix3 1 (row t r) e : S4x256x1024.Idx) := by
  blk_ext [iblk, V_main_arg0, index0]

theorem block1 (t : Fin cfg0.N) (r : Fin 256) (e : Fin 1024) :
    iblk m c 1 t (ix2 r e : S256x1024.Idx) = A1 m c (ix2 (row t r) e : S256x1024.Idx) := by
  blk_ext [iblk, V_main_arg1, index1]

theorem block2 (t : Fin cfg0.N) (r : Fin 256) (e : Fin 1024) :
    iblk m c 2 t (ix3 0 r e : S1x256x1024.Idx) = A2 m c (ix3 1 (row t r) e : S4x256x1024.Idx) := by
  blk_ext [iblk, V_main_arg2, index2]

theorem block3 (t : Fin cfg0.N) (r : Fin 256) (e : Fin 1024) :
    iblk m c 3 t (ix3 0 r e : S1x256x1024.Idx) = A3 m c (ix3 1 (row t r) e : S4x256x1024.Idx) := by
  blk_ext [iblk, V_main_arg3, index3]

/-- The layer of the step holds the gradient. -/
theorem copied_new (x1 : One) (x4 : Big) (r : Fin 256) (e : Fin 1024) :
    (val_main_v33 (F := Ideal) x1 x4 : S4x256x1024.Idx → EReal) (ix3 1 r e) = x1 (ix2 r e) := by
  pointwise [val_main_v30, val_main_v31, val_main_v32, val_main_v33]

/-- The other layers keep what was there. -/
theorem copied_kept (x1 : One) (x4 : Big) (i : Fin 4) (r : Fin 256) (e : Fin 1024) (h : i.val ≠ 1) :
    (val_main_v33 (F := Ideal) x1 x4 : S4x256x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 1) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1024.Idx) = (ix3 1 (row t r) e : S4x256x1024.Idx) := by
      blk_ext [index4]
    refine Eq.trans (α := EReal) ?_ ((congrArg _ e).trans (copied_new _ _ _ _)).symm
    rw [block1]
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 4).arr.view.emb (ix3 i r e : S4x256x1024.Idx) = (ix3 i r e : S4x256x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 256) (e : Fin 1024) :
    (val_main_v37 (F := Ideal) x0 x1 x2 x3 x5 : S4x256x1024.Idx → EReal) (ix3 1 r e) = StepMath.delta (x0 (ix3 1 r e)) (x1 (ix2 r e)) (x2 (ix3 1 r e)) (x3 (ix3 1 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 256) (e : Fin 1024) (h : i.val ≠ 1) :
    (val_main_v37 (F := Ideal) x0 x1 x2 x3 x5 : S4x256x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 1) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1024.Idx) = (ix3 1 (row t r) e : S4x256x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 5).arr.view.emb (ix3 i r e : S4x256x1024.Idx) = (ix3 i r e : S4x256x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 256) (e : Fin 1024) :
    (val_main_v41 (F := Ideal) x1 x2 x6 : S4x256x1024.Idx → EReal) (ix3 1 r e) = StepMath.first (x1 (ix2 r e)) (x2 (ix3 1 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 256) (e : Fin 1024) (h : i.val ≠ 1) :
    (val_main_v41 (F := Ideal) x1 x2 x6 : S4x256x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 1) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1024.Idx) = (ix3 1 (row t r) e : S4x256x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 6).arr.view.emb (ix3 i r e : S4x256x1024.Idx) = (ix3 i r e : S4x256x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 256) (e : Fin 1024) :
    (val_main_v45 (F := Ideal) x1 x3 x7 : S4x256x1024.Idx → EReal) (ix3 1 r e) = StepMath.second (x1 (ix2 r e)) (x3 (ix3 1 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 256) (e : Fin 1024) (h : i.val ≠ 1) :
    (val_main_v45 (F := Ideal) x1 x3 x7 : S4x256x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 1) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1024.Idx) = (ix3 1 (row t r) e : S4x256x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 7).arr.view.emb (ix3 i r e : S4x256x1024.Idx) = (ix3 i r e : S4x256x1024.Idx) := by
      blk_ext []
    refine Eq.trans (α := EReal) ?_ ((congrArg _ e2).trans (second_kept _ _ _ i r e (by omega))).symm
    exact congrArg (A7 m c) e2

end Cert.AdOut1Proof

namespace Cert.AdOut1Claims

open Idealize.ShloMosaic Idealize.SL.Sem Cert.AdOut1Proof
open Cert.AdOut1RefIdeal.Read

theorem frame_kernel : Cert.quiescent_AdOut1 := fun m ρ _ => Cert.AdOut1.Gen.frame m ρ

theorem frame_ideal : Cert.quiescent_AdOut1Ideal := fun m ρ _ => Cert.AdOut1Ideal.Gen.frame m ρ

theorem frame_reference : Cert.quiescent_AdOut1RefIdeal := fun m ρ _ =>
  (θ_run Cert.AdOut1RefIdeal.defs _ _).mono (fun r h => ⟨fun c => (h c).2.2.2.2, sem_eq_zero_of_no_sems (by decide) r.2⟩)
    (Cert.AdOut1RefIdeal.Value.run (F := Ideal) m ρ)

theorem preserves : Cert.preserves_AdOut1_AdOut1Ideal := trivial

theorem algebraic : Cert.algebraic_AdOut1Ideal_AdOut1RefIdeal := by
  intro m ρ m' ρ' _ hag
  have e0 (c : Dev Cert.AdOut1RefIdeal.nD) : _ = A0 m c := (hag c).1
  have e1 (c : Dev Cert.AdOut1RefIdeal.nD) : _ = A1 m c := (hag c).2.1
  have e2 (c : Dev Cert.AdOut1RefIdeal.nD) : _ = A2 m c := (hag c).2.2.1
  have e3 (c : Dev Cert.AdOut1RefIdeal.nD) : _ = A3 m c := (hag c).2.2.2.1
  have e4 (c : Dev Cert.AdOut1RefIdeal.nD) : _ = A4 m c := (hag c).2.2.2.2.1
  have e5 (c : Dev Cert.AdOut1RefIdeal.nD) : _ = A5 m c := (hag c).2.2.2.2.2.1
  have e6 (c : Dev Cert.AdOut1RefIdeal.nD) : _ = A6 m c := (hag c).2.2.2.2.2.2.1
  have e7 (c : Dev Cert.AdOut1RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdOut1Ideal.defs _ _).mono (fun r h c => ⟨(h c).1.trans (final4 m c), (h c).2.1.trans (final5 m c), (h c).2.2.1.trans (final6 m c), (h c).2.2.2.1.trans (final7 m c), (h c).2.2.2.2⟩)
      (Cert.AdOut1Ideal.Value.run_blocks (F := Ideal) m ρ)
  · refine (θ_run Cert.AdOut1RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdOut1RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdOut1Claims

end
-- ==== Proof.AdOut2Proof.lean ====
module

public import proofs.«01_k».proof.Defs
public import proofs.«01_k».proof.Proof.Gen.AdOut2.Frame
public import proofs.«01_k».proof.Proof.Gen.AdOut2Ideal.Value
public import proofs.«01_k».proof.Proof.Gen.AdOut2RefIdeal.Run
public import proofs.«01_k».proof.Proof.Gen.AdOut2RefIdeal.Read
public import Idealize.ShloMosaic.Lib.Pipeline.ValueKit
public import Idealize.ShloMosaic.Lib.Claim
public import proofs.«01_k».proof.Proof.StepMath

/-! The step of layer 2 of w_out, in place. -/

@[expose] public section

set_option maxRecDepth 16384

noncomputable section

namespace Cert.AdOut2Proof

open Cert.AdOut2Ideal Cert.AdOut2Ideal.Gen Idealize.ShloMosaic Idealize.ShloMosaic.TcCoe Idealize.SL.Sem
open Cert.AdOut2RefIdeal.Read

variable (m : (ℓ : Loc nD τ sig) → Buf (Elt Ideal) ℓ) (c : Dev nD)

/-- An array of the four layers. -/
abbrev Big : Type := S4x256x1024.Idx → Elt Ideal .f32

/-- An array of one layer. -/
abbrev One : Type := S256x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![2, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![2, t.val, 0] := (by decide +kernel : ∀ t : Fin grid0.N, _)
theorem index3 : ∀ t : Fin cfg0.N, win0_3.index t = ![2, t.val, 0] := (by decide +kernel : ∀ t : Fin grid0.N, _)
theorem index4 : ∀ t : Fin cfg0.N, win0_4.index t = ![2, t.val, 0] := (by decide +kernel : ∀ t : Fin grid0.N, _)
theorem index5 : ∀ t : Fin cfg0.N, win0_5.index t = ![2, t.val, 0] := (by decide +kernel : ∀ t : Fin grid0.N, _)
theorem index6 : ∀ t : Fin cfg0.N, win0_6.index t = ![2, t.val, 0] := (by decide +kernel : ∀ t : Fin grid0.N, _)
theorem index7 : ∀ t : Fin cfg0.N, win0_7.index t = ![2, t.val, 0] := (by decide +kernel : ∀ t : Fin grid0.N, _)

theorem lt_points (t : Fin cfg0.N) : t.val < 1 := t.isLt

abbrev row (t : Fin cfg0.N) (r : Fin 256) : Fin 256 := ⟨t.val * 256 + r.val, by have := lt_points t; have := r.isLt; omega⟩

theorem block0 (t : Fin cfg0.N) (r : Fin 256) (e : Fin 1024) :
    iblk m c 0 t (ix3 0 r e : S1x256x1024.Idx) = A0 m c (ix3 2 (row t r) e : S4x256x1024.Idx) := by
  blk_ext [iblk, V_main_arg0, index0]

theorem block1 (t : Fin cfg0.N) (r : Fin 256) (e : Fin 1024) :
    iblk m c 1 t (ix2 r e : S256x1024.Idx) = A1 m c (ix2 (row t r) e : S256x1024.Idx) := by
  blk_ext [iblk, V_main_arg1, index1]

theorem block2 (t : Fin cfg0.N) (r : Fin 256) (e : Fin 1024) :
    iblk m c 2 t (ix3 0 r e : S1x256x1024.Idx) = A2 m c (ix3 2 (row t r) e : S4x256x1024.Idx) := by
  blk_ext [iblk, V_main_arg2, index2]

theorem block3 (t : Fin cfg0.N) (r : Fin 256) (e : Fin 1024) :
    iblk m c 3 t (ix3 0 r e : S1x256x1024.Idx) = A3 m c (ix3 2 (row t r) e : S4x256x1024.Idx) := by
  blk_ext [iblk, V_main_arg3, index3]

/-- The layer of the step holds the gradient. -/
theorem copied_new (x1 : One) (x4 : Big) (r : Fin 256) (e : Fin 1024) :
    (val_main_v33 (F := Ideal) x1 x4 : S4x256x1024.Idx → EReal) (ix3 2 r e) = x1 (ix2 r e) := by
  pointwise [val_main_v30, val_main_v31, val_main_v32, val_main_v33]

/-- The other layers keep what was there. -/
theorem copied_kept (x1 : One) (x4 : Big) (i : Fin 4) (r : Fin 256) (e : Fin 1024) (h : i.val ≠ 2) :
    (val_main_v33 (F := Ideal) x1 x4 : S4x256x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 2) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1024.Idx) = (ix3 2 (row t r) e : S4x256x1024.Idx) := by
      blk_ext [index4]
    refine Eq.trans (α := EReal) ?_ ((congrArg _ e).trans (copied_new _ _ _ _)).symm
    rw [block1]
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 4).arr.view.emb (ix3 i r e : S4x256x1024.Idx) = (ix3 i r e : S4x256x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 256) (e : Fin 1024) :
    (val_main_v37 (F := Ideal) x0 x1 x2 x3 x5 : S4x256x1024.Idx → EReal) (ix3 2 r e) = StepMath.delta (x0 (ix3 2 r e)) (x1 (ix2 r e)) (x2 (ix3 2 r e)) (x3 (ix3 2 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 256) (e : Fin 1024) (h : i.val ≠ 2) :
    (val_main_v37 (F := Ideal) x0 x1 x2 x3 x5 : S4x256x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 2) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1024.Idx) = (ix3 2 (row t r) e : S4x256x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 5).arr.view.emb (ix3 i r e : S4x256x1024.Idx) = (ix3 i r e : S4x256x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 256) (e : Fin 1024) :
    (val_main_v41 (F := Ideal) x1 x2 x6 : S4x256x1024.Idx → EReal) (ix3 2 r e) = StepMath.first (x1 (ix2 r e)) (x2 (ix3 2 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 256) (e : Fin 1024) (h : i.val ≠ 2) :
    (val_main_v41 (F := Ideal) x1 x2 x6 : S4x256x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 2) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1024.Idx) = (ix3 2 (row t r) e : S4x256x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 6).arr.view.emb (ix3 i r e : S4x256x1024.Idx) = (ix3 i r e : S4x256x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 256) (e : Fin 1024) :
    (val_main_v45 (F := Ideal) x1 x3 x7 : S4x256x1024.Idx → EReal) (ix3 2 r e) = StepMath.second (x1 (ix2 r e)) (x3 (ix3 2 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 256) (e : Fin 1024) (h : i.val ≠ 2) :
    (val_main_v45 (F := Ideal) x1 x3 x7 : S4x256x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 2) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1024.Idx) = (ix3 2 (row t r) e : S4x256x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 7).arr.view.emb (ix3 i r e : S4x256x1024.Idx) = (ix3 i r e : S4x256x1024.Idx) := by
      blk_ext []
    refine Eq.trans (α := EReal) ?_ ((congrArg _ e2).trans (second_kept _ _ _ i r e (by omega))).symm
    exact congrArg (A7 m c) e2

end Cert.AdOut2Proof

namespace Cert.AdOut2Claims

open Idealize.ShloMosaic Idealize.SL.Sem Cert.AdOut2Proof
open Cert.AdOut2RefIdeal.Read

theorem frame_kernel : Cert.quiescent_AdOut2 := fun m ρ _ => Cert.AdOut2.Gen.frame m ρ

theorem frame_ideal : Cert.quiescent_AdOut2Ideal := fun m ρ _ => Cert.AdOut2Ideal.Gen.frame m ρ

theorem frame_reference : Cert.quiescent_AdOut2RefIdeal := fun m ρ _ =>
  (θ_run Cert.AdOut2RefIdeal.defs _ _).mono (fun r h => ⟨fun c => (h c).2.2.2.2, sem_eq_zero_of_no_sems (by decide) r.2⟩)
    (Cert.AdOut2RefIdeal.Value.run (F := Ideal) m ρ)

theorem preserves : Cert.preserves_AdOut2_AdOut2Ideal := trivial

theorem algebraic : Cert.algebraic_AdOut2Ideal_AdOut2RefIdeal := by
  intro m ρ m' ρ' _ hag
  have e0 (c : Dev Cert.AdOut2RefIdeal.nD) : _ = A0 m c := (hag c).1
  have e1 (c : Dev Cert.AdOut2RefIdeal.nD) : _ = A1 m c := (hag c).2.1
  have e2 (c : Dev Cert.AdOut2RefIdeal.nD) : _ = A2 m c := (hag c).2.2.1
  have e3 (c : Dev Cert.AdOut2RefIdeal.nD) : _ = A3 m c := (hag c).2.2.2.1
  have e4 (c : Dev Cert.AdOut2RefIdeal.nD) : _ = A4 m c := (hag c).2.2.2.2.1
  have e5 (c : Dev Cert.AdOut2RefIdeal.nD) : _ = A5 m c := (hag c).2.2.2.2.2.1
  have e6 (c : Dev Cert.AdOut2RefIdeal.nD) : _ = A6 m c := (hag c).2.2.2.2.2.2.1
  have e7 (c : Dev Cert.AdOut2RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdOut2Ideal.defs _ _).mono (fun r h c => ⟨(h c).1.trans (final4 m c), (h c).2.1.trans (final5 m c), (h c).2.2.1.trans (final6 m c), (h c).2.2.2.1.trans (final7 m c), (h c).2.2.2.2⟩)
      (Cert.AdOut2Ideal.Value.run_blocks (F := Ideal) m ρ)
  · refine (θ_run Cert.AdOut2RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdOut2RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdOut2Claims

end
-- ==== Proof.AdOut3Proof.lean ====
module

public import proofs.«01_k».proof.Defs
public import proofs.«01_k».proof.Proof.Gen.AdOut3.Frame
public import proofs.«01_k».proof.Proof.Gen.AdOut3Ideal.Value
public import proofs.«01_k».proof.Proof.Gen.AdOut3RefIdeal.Run
public import proofs.«01_k».proof.Proof.Gen.AdOut3RefIdeal.Read
public import Idealize.ShloMosaic.Lib.Pipeline.ValueKit
public import Idealize.ShloMosaic.Lib.Claim
public import proofs.«01_k».proof.Proof.StepMath

/-! The step of layer 3 of w_out, in place. -/

@[expose] public section

set_option maxRecDepth 16384

noncomputable section

namespace Cert.AdOut3Proof

open Cert.AdOut3Ideal Cert.AdOut3Ideal.Gen Idealize.ShloMosaic Idealize.ShloMosaic.TcCoe Idealize.SL.Sem
open Cert.AdOut3RefIdeal.Read

variable (m : (ℓ : Loc nD τ sig) → Buf (Elt Ideal) ℓ) (c : Dev nD)

/-- An array of the four layers. -/
abbrev Big : Type := S4x256x1024.Idx → Elt Ideal .f32

/-- An array of one layer. -/
abbrev One : Type := S256x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![3, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![3, t.val, 0] := (by decide +kernel : ∀ t : Fin grid0.N, _)
theorem index3 : ∀ t : Fin cfg0.N, win0_3.index t = ![3, t.val, 0] := (by decide +kernel : ∀ t : Fin grid0.N, _)
theorem index4 : ∀ t : Fin cfg0.N, win0_4.index t = ![3, t.val, 0] := (by decide +kernel : ∀ t : Fin grid0.N, _)
theorem index5 : ∀ t : Fin cfg0.N, win0_5.index t = ![3, t.val, 0] := (by decide +kernel : ∀ t : Fin grid0.N, _)
theorem index6 : ∀ t : Fin cfg0.N, win0_6.index t = ![3, t.val, 0] := (by decide +kernel : ∀ t : Fin grid0.N, _)
theorem index7 : ∀ t : Fin cfg0.N, win0_7.index t = ![3, t.val, 0] := (by decide +kernel : ∀ t : Fin grid0.N, _)

theorem lt_points (t : Fin cfg0.N) : t.val < 1 := t.isLt

abbrev row (t : Fin cfg0.N) (r : Fin 256) : Fin 256 := ⟨t.val * 256 + r.val, by have := lt_points t; have := r.isLt; omega⟩

theorem block0 (t : Fin cfg0.N) (r : Fin 256) (e : Fin 1024) :
    iblk m c 0 t (ix3 0 r e : S1x256x1024.Idx) = A0 m c (ix3 3 (row t r) e : S4x256x1024.Idx) := by
  blk_ext [iblk, V_main_arg0, index0]

theorem block1 (t : Fin cfg0.N) (r : Fin 256) (e : Fin 1024) :
    iblk m c 1 t (ix2 r e : S256x1024.Idx) = A1 m c (ix2 (row t r) e : S256x1024.Idx) := by
  blk_ext [iblk, V_main_arg1, index1]

theorem block2 (t : Fin cfg0.N) (r : Fin 256) (e : Fin 1024) :
    iblk m c 2 t (ix3 0 r e : S1x256x1024.Idx) = A2 m c (ix3 3 (row t r) e : S4x256x1024.Idx) := by
  blk_ext [iblk, V_main_arg2, index2]

theorem block3 (t : Fin cfg0.N) (r : Fin 256) (e : Fin 1024) :
    iblk m c 3 t (ix3 0 r e : S1x256x1024.Idx) = A3 m c (ix3 3 (row t r) e : S4x256x1024.Idx) := by
  blk_ext [iblk, V_main_arg3, index3]

/-- The layer of the step holds the gradient. -/
theorem copied_new (x1 : One) (x4 : Big) (r : Fin 256) (e : Fin 1024) :
    (val_main_v33 (F := Ideal) x1 x4 : S4x256x1024.Idx → EReal) (ix3 3 r e) = x1 (ix2 r e) := by
  pointwise [val_main_v30, val_main_v31, val_main_v32, val_main_v33]

/-- The other layers keep what was there. -/
theorem copied_kept (x1 : One) (x4 : Big) (i : Fin 4) (r : Fin 256) (e : Fin 1024) (h : i.val ≠ 3) :
    (val_main_v33 (F := Ideal) x1 x4 : S4x256x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 3) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x256x1024.Idx) = (ix3 3 (row t r) e : S4x256x1024.Idx) := by
      blk_ext [index4]
    refine Eq.trans (α := EReal) ?_ ((congrArg _ e).trans (copied_new _ _ _ _)).symm
    rw [block1]
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 4).arr.view.emb (ix3 i r e : S4x256x1024.Idx) = (ix3 i r e : S4x256x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 256) (e : Fin 1024) :
    (val_main_v37 (F := Ideal) x0 x1 x2 x3 x5 : S4x256x1024.Idx → EReal) (ix3 3 r e) = StepMath.delta (x0 (ix3 3 r e)) (x1 (ix2 r e)) (x2 (ix3 3 r e)) (x3 (ix3 3 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 256) (e : Fin 1024) (h : i.val ≠ 3) :
    (val_main_v37 (F := Ideal) x0 x1 x2 x3 x5 : S4x256x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 3) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x256x1024.Idx) = (ix3 3 (row t r) e : S4x256x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 5).arr.view.emb (ix3 i r e : S4x256x1024.Idx) = (ix3 i r e : S4x256x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 256) (e : Fin 1024) :
    (val_main_v41 (F := Ideal) x1 x2 x6 : S4x256x1024.Idx → EReal) (ix3 3 r e) = StepMath.first (x1 (ix2 r e)) (x2 (ix3 3 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 256) (e : Fin 1024) (h : i.val ≠ 3) :
    (val_main_v41 (F := Ideal) x1 x2 x6 : S4x256x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 3) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x256x1024.Idx) = (ix3 3 (row t r) e : S4x256x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 6).arr.view.emb (ix3 i r e : S4x256x1024.Idx) = (ix3 i r e : S4x256x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 256) (e : Fin 1024) :
    (val_main_v45 (F := Ideal) x1 x3 x7 : S4x256x1024.Idx → EReal) (ix3 3 r e) = StepMath.second (x1 (ix2 r e)) (x3 (ix3 3 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 256) (e : Fin 1024) (h : i.val ≠ 3) :
    (val_main_v45 (F := Ideal) x1 x3 x7 : S4x256x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 3) (by decide +kernel) (fun t hf y => ?_) (fun j hj => ?_)
  · obtain ⟨z, r, e, rfl⟩ : ∃ (z : Fin 1) (r : Fin 256) (e : Fin 1024), y = (ix3 z r e : S1x256x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x256x1024.Idx) = (ix3 3 (row t r) e : S4x256x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 256) (e : Fin 1024), j = (ix3 i r e : S4x256x1024.Idx) := ⟨j 0, j 1, j 2, eq_ix3 _⟩
    blk_simp [Pipeline.Window.cell_apply] at hj
    have e2 : (cfg0.win 7).arr.view.emb (ix3 i r e : S4x256x1024.Idx) = (ix3 i r e : S4x256x1024.Idx) := by
      blk_ext []
    refine Eq.trans (α := EReal) ?_ ((congrArg _ e2).trans (second_kept _ _ _ i r e (by omega))).symm
    exact congrArg (A7 m c) e2

end Cert.AdOut3Proof

namespace Cert.AdOut3Claims

open Idealize.ShloMosaic Idealize.SL.Sem Cert.AdOut3Proof
open Cert.AdOut3RefIdeal.Read

theorem frame_kernel : Cert.quiescent_AdOut3 := fun m ρ _ => Cert.AdOut3.Gen.frame m ρ

theorem frame_ideal : Cert.quiescent_AdOut3Ideal := fun m ρ _ => Cert.AdOut3Ideal.Gen.frame m ρ

theorem frame_reference : Cert.quiescent_AdOut3RefIdeal := fun m ρ _ =>
  (θ_run Cert.AdOut3RefIdeal.defs _ _).mono (fun r h => ⟨fun c => (h c).2.2.2.2, sem_eq_zero_of_no_sems (by decide) r.2⟩)
    (Cert.AdOut3RefIdeal.Value.run (F := Ideal) m ρ)

theorem preserves : Cert.preserves_AdOut3_AdOut3Ideal := trivial

theorem algebraic : Cert.algebraic_AdOut3Ideal_AdOut3RefIdeal := by
  intro m ρ m' ρ' _ hag
  have e0 (c : Dev Cert.AdOut3RefIdeal.nD) : _ = A0 m c := (hag c).1
  have e1 (c : Dev Cert.AdOut3RefIdeal.nD) : _ = A1 m c := (hag c).2.1
  have e2 (c : Dev Cert.AdOut3RefIdeal.nD) : _ = A2 m c := (hag c).2.2.1
  have e3 (c : Dev Cert.AdOut3RefIdeal.nD) : _ = A3 m c := (hag c).2.2.2.1
  have e4 (c : Dev Cert.AdOut3RefIdeal.nD) : _ = A4 m c := (hag c).2.2.2.2.1
  have e5 (c : Dev Cert.AdOut3RefIdeal.nD) : _ = A5 m c := (hag c).2.2.2.2.2.1
  have e6 (c : Dev Cert.AdOut3RefIdeal.nD) : _ = A6 m c := (hag c).2.2.2.2.2.2.1
  have e7 (c : Dev Cert.AdOut3RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdOut3Ideal.defs _ _).mono (fun r h c => ⟨(h c).1.trans (final4 m c), (h c).2.1.trans (final5 m c), (h c).2.2.1.trans (final6 m c), (h c).2.2.2.1.trans (final7 m c), (h c).2.2.2.2⟩)
      (Cert.AdOut3Ideal.Value.run_blocks (F := Ideal) m ρ)
  · refine (θ_run Cert.AdOut3RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdOut3RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdOut3Claims

end
-- ==== Proof.AdFf0Proof.lean ====
module

public import proofs.«01_k».proof.Defs
public import proofs.«01_k».proof.Proof.Gen.AdFf0.Frame
public import proofs.«01_k».proof.Proof.Gen.AdFf0Ideal.Value
public import proofs.«01_k».proof.Proof.Gen.AdFf0RefIdeal.Run
public import proofs.«01_k».proof.Proof.Gen.AdFf0RefIdeal.Read
public import Idealize.ShloMosaic.Lib.Pipeline.ValueKit
public import Idealize.ShloMosaic.Lib.Claim
public import proofs.«01_k».proof.Proof.StepMath

/-! The step of layer 0 of w_ff1 and of w_ff2, in place. -/

@[expose] public section

set_option maxRecDepth 16384

noncomputable section

namespace Cert.AdFf0Proof

open Cert.AdFf0Ideal Cert.AdFf0Ideal.Gen Idealize.ShloMosaic Idealize.ShloMosaic.TcCoe Idealize.SL.Sem
open Cert.AdFf0RefIdeal.Read

variable (m : (ℓ : Loc nD τ sig) → Buf (Elt Ideal) ℓ) (c : Dev nD)

/-- An array of the four layers. -/
abbrev Big : Type := S4x1024x1024.Idx → Elt Ideal .f32

/-- An array of one layer. -/
abbrev One : Type := S1024x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val, 0] := (by decide +kernel : ∀ t : Fin grid0.N, _)
theorem index6 : ∀ t : Fin cfg0.N, win0_6.index t = ![0, t.val, 0] := (by decide +kernel : ∀ t : Fin grid0.N, _)
theorem index7 : ∀ t : Fin cfg0.N, win0_7.index t = ![0, t.val, 0] := (by decide +kernel : ∀ t : Fin grid0.N, _)

theorem lt_points (t : Fin cfg0.N) : t.val < 2 := t.isLt

abbrev row (t : Fin cfg0.N) (r : Fin 512) : Fin 1024 := ⟨t.val * 512 + r.val, by have := lt_points t; have := r.isLt; omega⟩

theorem block0 (t : Fin cfg0.N) (r : Fin 512) (e : Fin 1024) :
    iblk m c 0 t (ix3 0 r e : S1x512x1024.Idx) = A0 m c (ix3 0 (row t r) e : S4x1024x1024.Idx) := by
  blk_ext [iblk, V_main_arg0, index0]

theorem block1 (t : Fin cfg0.N) (r : Fin 512) (e : Fin 1024) :
    iblk m c 1 t (ix2 r e : S512x1024.Idx) = A1 m c (ix2 (row t r) e : S1024x1024.Idx) := by
  blk_ext [iblk, V_main_arg1, index1]

theorem block2 (t : Fin cfg0.N) (r : Fin 512) (e : Fin 1024) :
    iblk m c 2 t (ix3 0 r e : S1x512x1024.Idx) = A2 m c (ix3 0 (row t r) e : S4x1024x1024.Idx) := by
  blk_ext [iblk, V_main_arg2, index2]

theorem block3 (t : Fin cfg0.N) (r : Fin 512) (e : Fin 1024) :
    iblk m c 3 t (ix3 0 r e : S1x512x1024.Idx) = A3 m c (ix3 0 (row t r) e : S4x1024x1024.Idx) := by
  blk_ext [iblk, V_main_arg3, index3]

/-- The layer of the step holds the gradient. -/
theorem copied_new (x1 : One) (x4 : Big) (r : Fin 1024) (e : Fin 1024) :
    (val_main_v33 (F := Ideal) x1 x4 : S4x1024x1024.Idx → EReal) (ix3 0 r e) = x1 (ix2 r e) := by
  pointwise [val_main_v30, val_main_v31, val_main_v32, val_main_v33]

/-- The other layers keep what was there. -/
theorem copied_kept (x1 : One) (x4 : Big) (i : Fin 4) (r : Fin 1024) (e : Fin 1024) (h : i.val ≠ 0) :
    (val_main_v33 (F := Ideal) x1 x4 : S4x1024x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 0) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x1024.Idx) = (ix3 0 (row t r) e : S4x1024x1024.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 4).arr.view.emb (ix3 i r e : S4x1024x1024.Idx) = (ix3 i r e : S4x1024x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1024) :
    (val_main_v37 (F := Ideal) x0 x1 x2 x3 x5 : S4x1024x1024.Idx → EReal) (ix3 0 r e) = StepMath.delta (x0 (ix3 0 r e)) (x1 (ix2 r e)) (x2 (ix3 0 r e)) (x3 (ix3 0 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1024) (h : i.val ≠ 0) :
    (val_main_v37 (F := Ideal) x0 x1 x2 x3 x5 : S4x1024x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 0) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x1024.Idx) = (ix3 0 (row t r) e : S4x1024x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 5).arr.view.emb (ix3 i r e : S4x1024x1024.Idx) = (ix3 i r e : S4x1024x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1024) :
    (val_main_v41 (F := Ideal) x1 x2 x6 : S4x1024x1024.Idx → EReal) (ix3 0 r e) = StepMath.first (x1 (ix2 r e)) (x2 (ix3 0 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1024) (h : i.val ≠ 0) :
    (val_main_v41 (F := Ideal) x1 x2 x6 : S4x1024x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 0) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x1024.Idx) = (ix3 0 (row t r) e : S4x1024x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 6).arr.view.emb (ix3 i r e : S4x1024x1024.Idx) = (ix3 i r e : S4x1024x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1024) :
    (val_main_v45 (F := Ideal) x1 x3 x7 : S4x1024x1024.Idx → EReal) (ix3 0 r e) = StepMath.second (x1 (ix2 r e)) (x3 (ix3 0 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1024) (h : i.val ≠ 0) :
    (val_main_v45 (F := Ideal) x1 x3 x7 : S4x1024x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 0) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x1024.Idx) = (ix3 0 (row t r) e : S4x1024x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 7).arr.view.emb (ix3 i r e : S4x1024x1024.Idx) = (ix3 i r e : S4x1024x1024.Idx) := by
      blk_ext []
    refine Eq.trans (α := EReal) ?_ ((congrArg _ e2).trans (second_kept _ _ _ i r e (by omega))).symm
    exact congrArg (A7 m c) e2

end Cert.AdFf0Proof

namespace Cert.AdFf0Claims

open Idealize.ShloMosaic Idealize.SL.Sem Cert.AdFf0Proof
open Cert.AdFf0RefIdeal.Read

theorem frame_kernel : Cert.quiescent_AdFf0 := fun m ρ _ => Cert.AdFf0.Gen.frame m ρ

theorem frame_ideal : Cert.quiescent_AdFf0Ideal := fun m ρ _ => Cert.AdFf0Ideal.Gen.frame m ρ

theorem frame_reference : Cert.quiescent_AdFf0RefIdeal := fun m ρ _ =>
  (θ_run Cert.AdFf0RefIdeal.defs _ _).mono (fun r h => ⟨fun c => (h c).2.2.2.2, sem_eq_zero_of_no_sems (by decide) r.2⟩)
    (Cert.AdFf0RefIdeal.Value.run (F := Ideal) m ρ)

theorem preserves : Cert.preserves_AdFf0_AdFf0Ideal := trivial

theorem algebraic : Cert.algebraic_AdFf0Ideal_AdFf0RefIdeal := by
  intro m ρ m' ρ' _ hag
  have e0 (c : Dev Cert.AdFf0RefIdeal.nD) : _ = A0 m c := (hag c).1
  have e1 (c : Dev Cert.AdFf0RefIdeal.nD) : _ = A1 m c := (hag c).2.1
  have e2 (c : Dev Cert.AdFf0RefIdeal.nD) : _ = A2 m c := (hag c).2.2.1
  have e3 (c : Dev Cert.AdFf0RefIdeal.nD) : _ = A3 m c := (hag c).2.2.2.1
  have e4 (c : Dev Cert.AdFf0RefIdeal.nD) : _ = A4 m c := (hag c).2.2.2.2.1
  have e5 (c : Dev Cert.AdFf0RefIdeal.nD) : _ = A5 m c := (hag c).2.2.2.2.2.1
  have e6 (c : Dev Cert.AdFf0RefIdeal.nD) : _ = A6 m c := (hag c).2.2.2.2.2.2.1
  have e7 (c : Dev Cert.AdFf0RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdFf0Ideal.defs _ _).mono (fun r h c => ⟨(h c).1.trans (final4 m c), (h c).2.1.trans (final5 m c), (h c).2.2.1.trans (final6 m c), (h c).2.2.2.1.trans (final7 m c), (h c).2.2.2.2⟩)
      (Cert.AdFf0Ideal.Value.run_blocks (F := Ideal) m ρ)
  · refine (θ_run Cert.AdFf0RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdFf0RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdFf0Claims

end
-- ==== Proof.AdFf1Proof.lean ====
module

public import proofs.«01_k».proof.Defs
public import proofs.«01_k».proof.Proof.Gen.AdFf1.Frame
public import proofs.«01_k».proof.Proof.Gen.AdFf1Ideal.Value
public import proofs.«01_k».proof.Proof.Gen.AdFf1RefIdeal.Run
public import proofs.«01_k».proof.Proof.Gen.AdFf1RefIdeal.Read
public import Idealize.ShloMosaic.Lib.Pipeline.ValueKit
public import Idealize.ShloMosaic.Lib.Claim
public import proofs.«01_k».proof.Proof.StepMath

/-! The step of layer 1 of w_ff1 and of w_ff2, in place. -/

@[expose] public section

set_option maxRecDepth 16384

noncomputable section

namespace Cert.AdFf1Proof

open Cert.AdFf1Ideal Cert.AdFf1Ideal.Gen Idealize.ShloMosaic Idealize.ShloMosaic.TcCoe Idealize.SL.Sem
open Cert.AdFf1RefIdeal.Read

variable (m : (ℓ : Loc nD τ sig) → Buf (Elt Ideal) ℓ) (c : Dev nD)

/-- An array of the four layers. -/
abbrev Big : Type := S4x1024x1024.Idx → Elt Ideal .f32

/-- An array of one layer. -/
abbrev One : Type := S1024x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![1, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![1, t.val, 0] := (by decide +kernel : ∀ t : Fin grid0.N, _)
theorem index3 : ∀ t : Fin cfg0.N, win0_3.index t = ![1, t.val, 0] := (by decide +kernel : ∀ t : Fin grid0.N, _)
theorem index4 : ∀ t : Fin cfg0.N, win0_4.index t = ![1, t.val, 0] := (by decide +kernel : ∀ t : Fin grid0.N, _)
theorem index5 : ∀ t : Fin cfg0.N, win0_5.index t = ![1, t.val, 0] := (by decide +kernel : ∀ t : Fin grid0.N, _)
theorem index6 : ∀ t : Fin cfg0.N, win0_6.index t = ![1, t.val, 0] := (by decide +kernel : ∀ t : Fin grid0.N, _)
theorem index7 : ∀ t : Fin cfg0.N, win0_7.index t = ![1, t.val, 0] := (by decide +kernel : ∀ t : Fin grid0.N, _)

theorem lt_points (t : Fin cfg0.N) : t.val < 2 := t.isLt

abbrev row (t : Fin cfg0.N) (r : Fin 512) : Fin 1024 := ⟨t.val * 512 + r.val, by have := lt_points t; have := r.isLt; omega⟩

theorem block0 (t : Fin cfg0.N) (r : Fin 512) (e : Fin 1024) :
    iblk m c 0 t (ix3 0 r e : S1x512x1024.Idx) = A0 m c (ix3 1 (row t r) e : S4x1024x1024.Idx) := by
  blk_ext [iblk, V_main_arg0, index0]

theorem block1 (t : Fin cfg0.N) (r : Fin 512) (e : Fin 1024) :
    iblk m c 1 t (ix2 r e : S512x1024.Idx) = A1 m c (ix2 (row t r) e : S1024x1024.Idx) := by
  blk_ext [iblk, V_main_arg1, index1]

theorem block2 (t : Fin cfg0.N) (r : Fin 512) (e : Fin 1024) :
    iblk m c 2 t (ix3 0 r e : S1x512x1024.Idx) = A2 m c (ix3 1 (row t r) e : S4x1024x1024.Idx) := by
  blk_ext [iblk, V_main_arg2, index2]

theorem block3 (t : Fin cfg0.N) (r : Fin 512) (e : Fin 1024) :
    iblk m c 3 t (ix3 0 r e : S1x512x1024.Idx) = A3 m c (ix3 1 (row t r) e : S4x1024x1024.Idx) := by
  blk_ext [iblk, V_main_arg3, index3]

/-- The layer of the step holds the gradient. -/
theorem copied_new (x1 : One) (x4 : Big) (r : Fin 1024) (e : Fin 1024) :
    (val_main_v33 (F := Ideal) x1 x4 : S4x1024x1024.Idx → EReal) (ix3 1 r e) = x1 (ix2 r e) := by
  pointwise [val_main_v30, val_main_v31, val_main_v32, val_main_v33]

/-- The other layers keep what was there. -/
theorem copied_kept (x1 : One) (x4 : Big) (i : Fin 4) (r : Fin 1024) (e : Fin 1024) (h : i.val ≠ 1) :
    (val_main_v33 (F := Ideal) x1 x4 : S4x1024x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 1) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x1024.Idx) = (ix3 1 (row t r) e : S4x1024x1024.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 4).arr.view.emb (ix3 i r e : S4x1024x1024.Idx) = (ix3 i r e : S4x1024x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1024) :
    (val_main_v37 (F := Ideal) x0 x1 x2 x3 x5 : S4x1024x1024.Idx → EReal) (ix3 1 r e) = StepMath.delta (x0 (ix3 1 r e)) (x1 (ix2 r e)) (x2 (ix3 1 r e)) (x3 (ix3 1 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1024) (h : i.val ≠ 1) :
    (val_main_v37 (F := Ideal) x0 x1 x2 x3 x5 : S4x1024x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 1) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x1024.Idx) = (ix3 1 (row t r) e : S4x1024x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 5).arr.view.emb (ix3 i r e : S4x1024x1024.Idx) = (ix3 i r e : S4x1024x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1024) :
    (val_main_v41 (F := Ideal) x1 x2 x6 : S4x1024x1024.Idx → EReal) (ix3 1 r e) = StepMath.first (x1 (ix2 r e)) (x2 (ix3 1 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1024) (h : i.val ≠ 1) :
    (val_main_v41 (F := Ideal) x1 x2 x6 : S4x1024x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 1) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x1024.Idx) = (ix3 1 (row t r) e : S4x1024x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 6).arr.view.emb (ix3 i r e : S4x1024x1024.Idx) = (ix3 i r e : S4x1024x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1024) :
    (val_main_v45 (F := Ideal) x1 x3 x7 : S4x1024x1024.Idx → EReal) (ix3 1 r e) = StepMath.second (x1 (ix2 r e)) (x3 (ix3 1 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1024) (h : i.val ≠ 1) :
    (val_main_v45 (F := Ideal) x1 x3 x7 : S4x1024x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 1) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x1024.Idx) = (ix3 1 (row t r) e : S4x1024x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 7).arr.view.emb (ix3 i r e : S4x1024x1024.Idx) = (ix3 i r e : S4x1024x1024.Idx) := by
      blk_ext []
    refine Eq.trans (α := EReal) ?_ ((congrArg _ e2).trans (second_kept _ _ _ i r e (by omega))).symm
    exact congrArg (A7 m c) e2

end Cert.AdFf1Proof

namespace Cert.AdFf1Claims

open Idealize.ShloMosaic Idealize.SL.Sem Cert.AdFf1Proof
open Cert.AdFf1RefIdeal.Read

theorem frame_kernel : Cert.quiescent_AdFf1 := fun m ρ _ => Cert.AdFf1.Gen.frame m ρ

theorem frame_ideal : Cert.quiescent_AdFf1Ideal := fun m ρ _ => Cert.AdFf1Ideal.Gen.frame m ρ

theorem frame_reference : Cert.quiescent_AdFf1RefIdeal := fun m ρ _ =>
  (θ_run Cert.AdFf1RefIdeal.defs _ _).mono (fun r h => ⟨fun c => (h c).2.2.2.2, sem_eq_zero_of_no_sems (by decide) r.2⟩)
    (Cert.AdFf1RefIdeal.Value.run (F := Ideal) m ρ)

theorem preserves : Cert.preserves_AdFf1_AdFf1Ideal := trivial

theorem algebraic : Cert.algebraic_AdFf1Ideal_AdFf1RefIdeal := by
  intro m ρ m' ρ' _ hag
  have e0 (c : Dev Cert.AdFf1RefIdeal.nD) : _ = A0 m c := (hag c).1
  have e1 (c : Dev Cert.AdFf1RefIdeal.nD) : _ = A1 m c := (hag c).2.1
  have e2 (c : Dev Cert.AdFf1RefIdeal.nD) : _ = A2 m c := (hag c).2.2.1
  have e3 (c : Dev Cert.AdFf1RefIdeal.nD) : _ = A3 m c := (hag c).2.2.2.1
  have e4 (c : Dev Cert.AdFf1RefIdeal.nD) : _ = A4 m c := (hag c).2.2.2.2.1
  have e5 (c : Dev Cert.AdFf1RefIdeal.nD) : _ = A5 m c := (hag c).2.2.2.2.2.1
  have e6 (c : Dev Cert.AdFf1RefIdeal.nD) : _ = A6 m c := (hag c).2.2.2.2.2.2.1
  have e7 (c : Dev Cert.AdFf1RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdFf1Ideal.defs _ _).mono (fun r h c => ⟨(h c).1.trans (final4 m c), (h c).2.1.trans (final5 m c), (h c).2.2.1.trans (final6 m c), (h c).2.2.2.1.trans (final7 m c), (h c).2.2.2.2⟩)
      (Cert.AdFf1Ideal.Value.run_blocks (F := Ideal) m ρ)
  · refine (θ_run Cert.AdFf1RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdFf1RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdFf1Claims

end
-- ==== Proof.AdFf2Proof.lean ====
module

public import proofs.«01_k».proof.Defs
public import proofs.«01_k».proof.Proof.Gen.AdFf2.Frame
public import proofs.«01_k».proof.Proof.Gen.AdFf2Ideal.Value
public import proofs.«01_k».proof.Proof.Gen.AdFf2RefIdeal.Run
public import proofs.«01_k».proof.Proof.Gen.AdFf2RefIdeal.Read
public import Idealize.ShloMosaic.Lib.Pipeline.ValueKit
public import Idealize.ShloMosaic.Lib.Claim
public import proofs.«01_k».proof.Proof.StepMath

/-! The step of layer 2 of w_ff1 and of w_ff2, in place. -/

@[expose] public section

set_option maxRecDepth 16384

noncomputable section

namespace Cert.AdFf2Proof

open Cert.AdFf2Ideal Cert.AdFf2Ideal.Gen Idealize.ShloMosaic Idealize.ShloMosaic.TcCoe Idealize.SL.Sem
open Cert.AdFf2RefIdeal.Read

variable (m : (ℓ : Loc nD τ sig) → Buf (Elt Ideal) ℓ) (c : Dev nD)

/-- An array of the four layers. -/
abbrev Big : Type := S4x1024x1024.Idx → Elt Ideal .f32

/-- An array of one layer. -/
abbrev One : Type := S1024x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![2, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![2, t.val, 0] := (by decide +kernel : ∀ t : Fin grid0.N, _)
theorem index3 : ∀ t : Fin cfg0.N, win0_3.index t = ![2, t.val, 0] := (by decide +kernel : ∀ t : Fin grid0.N, _)
theorem index4 : ∀ t : Fin cfg0.N, win0_4.index t = ![2, t.val, 0] := (by decide +kernel : ∀ t : Fin grid0.N, _)
theorem index5 : ∀ t : Fin cfg0.N, win0_5.index t = ![2, t.val, 0] := (by decide +kernel : ∀ t : Fin grid0.N, _)
theorem index6 : ∀ t : Fin cfg0.N, win0_6.index t = ![2, t.val, 0] := (by decide +kernel : ∀ t : Fin grid0.N, _)
theorem index7 : ∀ t : Fin cfg0.N, win0_7.index t = ![2, t.val, 0] := (by decide +kernel : ∀ t : Fin grid0.N, _)

theorem lt_points (t : Fin cfg0.N) : t.val < 2 := t.isLt

abbrev row (t : Fin cfg0.N) (r : Fin 512) : Fin 1024 := ⟨t.val * 512 + r.val, by have := lt_points t; have := r.isLt; omega⟩

theorem block0 (t : Fin cfg0.N) (r : Fin 512) (e : Fin 1024) :
    iblk m c 0 t (ix3 0 r e : S1x512x1024.Idx) = A0 m c (ix3 2 (row t r) e : S4x1024x1024.Idx) := by
  blk_ext [iblk, V_main_arg0, index0]

theorem block1 (t : Fin cfg0.N) (r : Fin 512) (e : Fin 1024) :
    iblk m c 1 t (ix2 r e : S512x1024.Idx) = A1 m c (ix2 (row t r) e : S1024x1024.Idx) := by
  blk_ext [iblk, V_main_arg1, index1]

theorem block2 (t : Fin cfg0.N) (r : Fin 512) (e : Fin 1024) :
    iblk m c 2 t (ix3 0 r e : S1x512x1024.Idx) = A2 m c (ix3 2 (row t r) e : S4x1024x1024.Idx) := by
  blk_ext [iblk, V_main_arg2, index2]

theorem block3 (t : Fin cfg0.N) (r : Fin 512) (e : Fin 1024) :
    iblk m c 3 t (ix3 0 r e : S1x512x1024.Idx) = A3 m c (ix3 2 (row t r) e : S4x1024x1024.Idx) := by
  blk_ext [iblk, V_main_arg3, index3]

/-- The layer of the step holds the gradient. -/
theorem copied_new (x1 : One) (x4 : Big) (r : Fin 1024) (e : Fin 1024) :
    (val_main_v33 (F := Ideal) x1 x4 : S4x1024x1024.Idx → EReal) (ix3 2 r e) = x1 (ix2 r e) := by
  pointwise [val_main_v30, val_main_v31, val_main_v32, val_main_v33]

/-- The other layers keep what was there. -/
theorem copied_kept (x1 : One) (x4 : Big) (i : Fin 4) (r : Fin 1024) (e : Fin 1024) (h : i.val ≠ 2) :
    (val_main_v33 (F := Ideal) x1 x4 : S4x1024x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 2) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x1024.Idx) = (ix3 2 (row t r) e : S4x1024x1024.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 4).arr.view.emb (ix3 i r e : S4x1024x1024.Idx) = (ix3 i r e : S4x1024x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1024) :
    (val_main_v37 (F := Ideal) x0 x1 x2 x3 x5 : S4x1024x1024.Idx → EReal) (ix3 2 r e) = StepMath.delta (x0 (ix3 2 r e)) (x1 (ix2 r e)) (x2 (ix3 2 r e)) (x3 (ix3 2 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1024) (h : i.val ≠ 2) :
    (val_main_v37 (F := Ideal) x0 x1 x2 x3 x5 : S4x1024x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 2) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x1024.Idx) = (ix3 2 (row t r) e : S4x1024x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 5).arr.view.emb (ix3 i r e : S4x1024x1024.Idx) = (ix3 i r e : S4x1024x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1024) :
    (val_main_v41 (F := Ideal) x1 x2 x6 : S4x1024x1024.Idx → EReal) (ix3 2 r e) = StepMath.first (x1 (ix2 r e)) (x2 (ix3 2 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1024) (h : i.val ≠ 2) :
    (val_main_v41 (F := Ideal) x1 x2 x6 : S4x1024x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 2) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x1024.Idx) = (ix3 2 (row t r) e : S4x1024x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 6).arr.view.emb (ix3 i r e : S4x1024x1024.Idx) = (ix3 i r e : S4x1024x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1024) :
    (val_main_v45 (F := Ideal) x1 x3 x7 : S4x1024x1024.Idx → EReal) (ix3 2 r e) = StepMath.second (x1 (ix2 r e)) (x3 (ix3 2 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1024) (h : i.val ≠ 2) :
    (val_main_v45 (F := Ideal) x1 x3 x7 : S4x1024x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 2) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x1024.Idx) = (ix3 2 (row t r) e : S4x1024x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 7).arr.view.emb (ix3 i r e : S4x1024x1024.Idx) = (ix3 i r e : S4x1024x1024.Idx) := by
      blk_ext []
    refine Eq.trans (α := EReal) ?_ ((congrArg _ e2).trans (second_kept _ _ _ i r e (by omega))).symm
    exact congrArg (A7 m c) e2

end Cert.AdFf2Proof

namespace Cert.AdFf2Claims

open Idealize.ShloMosaic Idealize.SL.Sem Cert.AdFf2Proof
open Cert.AdFf2RefIdeal.Read

theorem frame_kernel : Cert.quiescent_AdFf2 := fun m ρ _ => Cert.AdFf2.Gen.frame m ρ

theorem frame_ideal : Cert.quiescent_AdFf2Ideal := fun m ρ _ => Cert.AdFf2Ideal.Gen.frame m ρ

theorem frame_reference : Cert.quiescent_AdFf2RefIdeal := fun m ρ _ =>
  (θ_run Cert.AdFf2RefIdeal.defs _ _).mono (fun r h => ⟨fun c => (h c).2.2.2.2, sem_eq_zero_of_no_sems (by decide) r.2⟩)
    (Cert.AdFf2RefIdeal.Value.run (F := Ideal) m ρ)

theorem preserves : Cert.preserves_AdFf2_AdFf2Ideal := trivial

theorem algebraic : Cert.algebraic_AdFf2Ideal_AdFf2RefIdeal := by
  intro m ρ m' ρ' _ hag
  have e0 (c : Dev Cert.AdFf2RefIdeal.nD) : _ = A0 m c := (hag c).1
  have e1 (c : Dev Cert.AdFf2RefIdeal.nD) : _ = A1 m c := (hag c).2.1
  have e2 (c : Dev Cert.AdFf2RefIdeal.nD) : _ = A2 m c := (hag c).2.2.1
  have e3 (c : Dev Cert.AdFf2RefIdeal.nD) : _ = A3 m c := (hag c).2.2.2.1
  have e4 (c : Dev Cert.AdFf2RefIdeal.nD) : _ = A4 m c := (hag c).2.2.2.2.1
  have e5 (c : Dev Cert.AdFf2RefIdeal.nD) : _ = A5 m c := (hag c).2.2.2.2.2.1
  have e6 (c : Dev Cert.AdFf2RefIdeal.nD) : _ = A6 m c := (hag c).2.2.2.2.2.2.1
  have e7 (c : Dev Cert.AdFf2RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdFf2Ideal.defs _ _).mono (fun r h c => ⟨(h c).1.trans (final4 m c), (h c).2.1.trans (final5 m c), (h c).2.2.1.trans (final6 m c), (h c).2.2.2.1.trans (final7 m c), (h c).2.2.2.2⟩)
      (Cert.AdFf2Ideal.Value.run_blocks (F := Ideal) m ρ)
  · refine (θ_run Cert.AdFf2RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdFf2RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdFf2Claims

end
-- ==== Proof.AdFf3Proof.lean ====
module

public import proofs.«01_k».proof.Defs
public import proofs.«01_k».proof.Proof.Gen.AdFf3.Frame
public import proofs.«01_k».proof.Proof.Gen.AdFf3Ideal.Value
public import proofs.«01_k».proof.Proof.Gen.AdFf3RefIdeal.Run
public import proofs.«01_k».proof.Proof.Gen.AdFf3RefIdeal.Read
public import Idealize.ShloMosaic.Lib.Pipeline.ValueKit
public import Idealize.ShloMosaic.Lib.Claim
public import proofs.«01_k».proof.Proof.StepMath

/-! The step of layer 3 of w_ff1 and of w_ff2, in place. -/

@[expose] public section

set_option maxRecDepth 16384

noncomputable section

namespace Cert.AdFf3Proof

open Cert.AdFf3Ideal Cert.AdFf3Ideal.Gen Idealize.ShloMosaic Idealize.ShloMosaic.TcCoe Idealize.SL.Sem
open Cert.AdFf3RefIdeal.Read

variable (m : (ℓ : Loc nD τ sig) → Buf (Elt Ideal) ℓ) (c : Dev nD)

/-- An array of the four layers. -/
abbrev Big : Type := S4x1024x1024.Idx → Elt Ideal .f32

/-- An array of one layer. -/
abbrev One : Type := S1024x1024.Idx → Elt Ideal .f32

abbrev A0 : Big := m ((c : Thread nD τ).loc main_arg0)
abbrev A1 : One := m ((c : Thread nD τ).loc main_arg1)
abbrev A2 : Big := m ((c : Thread nD τ).loc main_arg2)
abbrev A3 : Big := m ((c : Thread nD τ).loc main_arg3)
abbrev A4 : Big := m ((c : Thread nD τ).loc main_arg4)
abbrev A5 : Big := m ((c : Thread nD τ).loc main_arg5)
abbrev A6 : Big := m ((c : Thread nD τ).loc main_arg6)
abbrev A7 : Big := m ((c : Thread nD τ).loc main_arg7)

theorem index0 : ∀ t : Fin cfg0.N, win0_0.index t = ![3, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![3, t.val, 0] := (by decide +kernel : ∀ t : Fin grid0.N, _)
theorem index3 : ∀ t : Fin cfg0.N, win0_3.index t = ![3, t.val, 0] := (by decide +kernel : ∀ t : Fin grid0.N, _)
theorem index4 : ∀ t : Fin cfg0.N, win0_4.index t = ![3, t.val, 0] := (by decide +kernel : ∀ t : Fin grid0.N, _)
theorem index5 : ∀ t : Fin cfg0.N, win0_5.index t = ![3, t.val, 0] := (by decide +kernel : ∀ t : Fin grid0.N, _)
theorem index6 : ∀ t : Fin cfg0.N, win0_6.index t = ![3, t.val, 0] := (by decide +kernel : ∀ t : Fin grid0.N, _)
theorem index7 : ∀ t : Fin cfg0.N, win0_7.index t = ![3, t.val, 0] := (by decide +kernel : ∀ t : Fin grid0.N, _)

theorem lt_points (t : Fin cfg0.N) : t.val < 2 := t.isLt

abbrev row (t : Fin cfg0.N) (r : Fin 512) : Fin 1024 := ⟨t.val * 512 + r.val, by have := lt_points t; have := r.isLt; omega⟩

theorem block0 (t : Fin cfg0.N) (r : Fin 512) (e : Fin 1024) :
    iblk m c 0 t (ix3 0 r e : S1x512x1024.Idx) = A0 m c (ix3 3 (row t r) e : S4x1024x1024.Idx) := by
  blk_ext [iblk, V_main_arg0, index0]

theorem block1 (t : Fin cfg0.N) (r : Fin 512) (e : Fin 1024) :
    iblk m c 1 t (ix2 r e : S512x1024.Idx) = A1 m c (ix2 (row t r) e : S1024x1024.Idx) := by
  blk_ext [iblk, V_main_arg1, index1]

theorem block2 (t : Fin cfg0.N) (r : Fin 512) (e : Fin 1024) :
    iblk m c 2 t (ix3 0 r e : S1x512x1024.Idx) = A2 m c (ix3 3 (row t r) e : S4x1024x1024.Idx) := by
  blk_ext [iblk, V_main_arg2, index2]

theorem block3 (t : Fin cfg0.N) (r : Fin 512) (e : Fin 1024) :
    iblk m c 3 t (ix3 0 r e : S1x512x1024.Idx) = A3 m c (ix3 3 (row t r) e : S4x1024x1024.Idx) := by
  blk_ext [iblk, V_main_arg3, index3]

/-- The layer of the step holds the gradient. -/
theorem copied_new (x1 : One) (x4 : Big) (r : Fin 1024) (e : Fin 1024) :
    (val_main_v33 (F := Ideal) x1 x4 : S4x1024x1024.Idx → EReal) (ix3 3 r e) = x1 (ix2 r e) := by
  pointwise [val_main_v30, val_main_v31, val_main_v32, val_main_v33]

/-- The other layers keep what was there. -/
theorem copied_kept (x1 : One) (x4 : Big) (i : Fin 4) (r : Fin 1024) (e : Fin 1024) (h : i.val ≠ 3) :
    (val_main_v33 (F := Ideal) x1 x4 : S4x1024x1024.Idx → EReal) (ix3 i r e) = x4 (ix3 i r e) := by
  fin_cases i <;> first | exact absurd rfl h | pointwise [val_main_v33, val_main_v30, val_main_v31, val_main_v32]

theorem final4 : (dats m 0 c).arrAt 4 cfg0.N = val_main_v33 (F := Ideal) (A1 m c) (A4 m c) := by
  refine (dats m 0 c).arrAt_eq_of_coversWhere_of_agree 4 _ (fun β => β (0 : Fin _) = 3) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_4]
    simp only [outsAt0]
    frame_out
    pointwise [k0_pay1, k0_pay2, k0_pay3, k0_pay4, k0_pay5, k0_pay6, k0_pay7]
    have e : ((View.whole main_v0_0).slice (win0_4.rect t)).emb (ix3 0 r e : S1x512x1024.Idx) = (ix3 3 (row t r) e : S4x1024x1024.Idx) := by
      blk_ext [index4]
    refine Eq.trans (α := EReal) ?_ ((congrArg _ e).trans (copied_new _ _ _ _)).symm
    rw [block1]
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 4).arr.view.emb (ix3 i r e : S4x1024x1024.Idx) = (ix3 i r e : S4x1024x1024.Idx) := by
      blk_ext []
    refine Eq.trans (α := EReal) ?_ ((congrArg _ e2).trans (copied_kept _ _ i r e (by omega))).symm
    exact congrArg (A4 m c) e2

/-- The layer of the step holds the change of the weight. -/
theorem delta_new (x0 : Big) (x1 : One) (x2 x3 x5 : Big) (r : Fin 1024) (e : Fin 1024) :
    (val_main_v37 (F := Ideal) x0 x1 x2 x3 x5 : S4x1024x1024.Idx → EReal) (ix3 3 r e) = StepMath.delta (x0 (ix3 3 r e)) (x1 (ix2 r e)) (x2 (ix3 3 r e)) (x3 (ix3 3 r e)) := by
  pointwise [val_main_v0, val_main_v1, val_main_v2, val_main_v3, val_main_v4, val_main_v5, val_main_cst, val_main_v6, val_main_v7, val_main_cst_0, val_main_v8, val_main_v9, val_main_v10, val_main_cst_1, val_main_v11, val_main_v12, val_main_v13, val_main_cst_2, val_main_v14, val_main_v15, val_main_v16, val_main_cst_3, val_main_v17, val_main_v18, val_main_cst_4, val_main_v19, val_main_v20, val_main_v21, val_main_cst_5, val_main_v22, val_main_v23, val_main_v24, val_main_cst_6, val_main_v25, val_main_v26, val_main_v27, val_main_cst_7, val_main_v28, val_main_v29, val_main_v34, val_main_v35, val_main_v36, val_main_v37]
  rfl

/-- The other layers keep what was there. -/
theorem delta_kept (x0 : Big) (x1 : One) (x2 x3 x5 : Big) (i : Fin 4) (r : Fin 1024) (e : Fin 1024) (h : i.val ≠ 3) :
    (val_main_v37 (F := Ideal) x0 x1 x2 x3 x5 : S4x1024x1024.Idx → EReal) (ix3 i r e) = x5 (ix3 i r e) := by
  fin_cases i <;> first | exact absurd rfl h | pointwise [val_main_v37, val_main_v34, val_main_v36]

theorem final5 : (dats m 0 c).arrAt 5 cfg0.N = val_main_v37 (F := Ideal) (A0 m c) (A1 m c) (A2 m c) (A3 m c) (A5 m c) := by
  refine (dats m 0 c).arrAt_eq_of_coversWhere_of_agree 5 _ (fun β => β (0 : Fin _) = 3) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_5]
    simp only [outsAt0]
    frame_out
    pointwise [k0_pay1, k0_pay2, k0_pay3, k0_pay4, k0_pay5, k0_pay6, k0_pay7]
    have e : ((View.whole main_v0_1).slice (win0_5.rect t)).emb (ix3 0 r e : S1x512x1024.Idx) = (ix3 3 (row t r) e : S4x1024x1024.Idx) := by
      blk_ext [index5]
    refine Eq.trans (α := EReal) ?_ ((congrArg _ e).trans (delta_new _ _ _ _ _ _ _)).symm
    rw [block0, block1, block2, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 5).arr.view.emb (ix3 i r e : S4x1024x1024.Idx) = (ix3 i r e : S4x1024x1024.Idx) := by
      blk_ext []
    refine Eq.trans (α := EReal) ?_ ((congrArg _ e2).trans (delta_kept _ _ _ _ _ i r e (by omega))).symm
    exact congrArg (A5 m c) e2

/-- The layer of the step holds the new first moment. -/
theorem first_new (x1 : One) (x2 x6 : Big) (r : Fin 1024) (e : Fin 1024) :
    (val_main_v41 (F := Ideal) x1 x2 x6 : S4x1024x1024.Idx → EReal) (ix3 3 r e) = StepMath.first (x1 (ix2 r e)) (x2 (ix3 3 r e)) := by
  pointwise [val_main_v2, val_main_v3, val_main_cst, val_main_v6, val_main_v7, val_main_cst_0, val_main_v8, val_main_v9, val_main_v10, val_main_v38, val_main_v39, val_main_v40, val_main_v41]
  rfl

/-- The other layers keep what was there. -/
theorem first_kept (x1 : One) (x2 x6 : Big) (i : Fin 4) (r : Fin 1024) (e : Fin 1024) (h : i.val ≠ 3) :
    (val_main_v41 (F := Ideal) x1 x2 x6 : S4x1024x1024.Idx → EReal) (ix3 i r e) = x6 (ix3 i r e) := by
  fin_cases i <;> first | exact absurd rfl h | pointwise [val_main_v41, val_main_v38, val_main_v40]

theorem final6 : (dats m 0 c).arrAt 6 cfg0.N = val_main_v41 (F := Ideal) (A1 m c) (A2 m c) (A6 m c) := by
  refine (dats m 0 c).arrAt_eq_of_coversWhere_of_agree 6 _ (fun β => β (0 : Fin _) = 3) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_6]
    simp only [outsAt0]
    frame_out
    pointwise [k0_pay1, k0_pay2, k0_pay3, k0_pay4, k0_pay5, k0_pay6, k0_pay7]
    have e : ((View.whole main_v0_2).slice (win0_6.rect t)).emb (ix3 0 r e : S1x512x1024.Idx) = (ix3 3 (row t r) e : S4x1024x1024.Idx) := by
      blk_ext [index6]
    refine Eq.trans (α := EReal) ?_ ((congrArg _ e).trans (first_new _ _ _ _ _)).symm
    rw [block1, block2]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 6).arr.view.emb (ix3 i r e : S4x1024x1024.Idx) = (ix3 i r e : S4x1024x1024.Idx) := by
      blk_ext []
    refine Eq.trans (α := EReal) ?_ ((congrArg _ e2).trans (first_kept _ _ _ i r e (by omega))).symm
    exact congrArg (A6 m c) e2

/-- The layer of the step holds the new second moment. -/
theorem second_new (x1 : One) (x3 x7 : Big) (r : Fin 1024) (e : Fin 1024) :
    (val_main_v45 (F := Ideal) x1 x3 x7 : S4x1024x1024.Idx → EReal) (ix3 3 r e) = StepMath.second (x1 (ix2 r e)) (x3 (ix3 3 r e)) := by
  pointwise [val_main_v4, val_main_v5, val_main_cst_1, val_main_v11, val_main_v12, val_main_v13, val_main_cst_2, val_main_v14, val_main_v15, val_main_v16, val_main_v42, val_main_v43, val_main_v44, val_main_v45]
  rfl

/-- The other layers keep what was there. -/
theorem second_kept (x1 : One) (x3 x7 : Big) (i : Fin 4) (r : Fin 1024) (e : Fin 1024) (h : i.val ≠ 3) :
    (val_main_v45 (F := Ideal) x1 x3 x7 : S4x1024x1024.Idx → EReal) (ix3 i r e) = x7 (ix3 i r e) := by
  fin_cases i <;> first | exact absurd rfl h | pointwise [val_main_v45, val_main_v42, val_main_v44]

theorem final7 : (dats m 0 c).arrAt 7 cfg0.N = val_main_v45 (F := Ideal) (A1 m c) (A3 m c) (A7 m c) := by
  refine (dats m 0 c).arrAt_eq_of_coversWhere_of_agree 7 _ (fun β => β (0 : Fin _) = 3) (by decide +kernel) (fun t hf y => ?_) (fun j hj => ?_)
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_7]
    simp only [outsAt0]
    frame_out
    pointwise [k0_pay1, k0_pay2, k0_pay3, k0_pay4, k0_pay5, k0_pay6, k0_pay7]
    have e : ((View.whole main_v0_3).slice (win0_7.rect t)).emb (ix3 0 r e : S1x512x1024.Idx) = (ix3 3 (row t r) e : S4x1024x1024.Idx) := by
      blk_ext [index7]
    refine Eq.trans (α := EReal) ?_ ((congrArg _ e).trans (second_new _ _ _ _ _)).symm
    rw [block1, block3]
    rfl
  · obtain ⟨i, r, e, rfl⟩ : ∃ (i : Fin 4) (r : Fin 1024) (e : Fin 1024), j = (ix3 i r e : S4x1024x1024.Idx) := ⟨j 0, j 1, j 2, eq_ix3 _⟩
    blk_simp [Pipeline.Window.cell_apply] at hj
    have e2 : (cfg0.win 7).arr.view.emb (ix3 i r e : S4x1024x1024.Idx) = (ix3 i r e : S4x1024x1024.Idx) := by
      blk_ext []
    refine Eq.trans (α := EReal) ?_ ((congrArg _ e2).trans (second_kept _ _ _ i r e (by omega))).symm
    exact congrArg (A7 m c) e2

end Cert.AdFf3Proof

namespace Cert.AdFf3Claims

open Idealize.ShloMosaic Idealize.SL.Sem Cert.AdFf3Proof
open Cert.AdFf3RefIdeal.Read

theorem frame_kernel : Cert.quiescent_AdFf3 := fun m ρ _ => Cert.AdFf3.Gen.frame m ρ

theorem frame_ideal : Cert.quiescent_AdFf3Ideal := fun m ρ _ => Cert.AdFf3Ideal.Gen.frame m ρ

theorem frame_reference : Cert.quiescent_AdFf3RefIdeal := fun m ρ _ =>
  (θ_run Cert.AdFf3RefIdeal.defs _ _).mono (fun r h => ⟨fun c => (h c).2.2.2.2, sem_eq_zero_of_no_sems (by decide) r.2⟩)
    (Cert.AdFf3RefIdeal.Value.run (F := Ideal) m ρ)

theorem preserves : Cert.preserves_AdFf3_AdFf3Ideal := trivial

theorem algebraic : Cert.algebraic_AdFf3Ideal_AdFf3RefIdeal := by
  intro m ρ m' ρ' _ hag
  have e0 (c : Dev Cert.AdFf3RefIdeal.nD) : _ = A0 m c := (hag c).1
  have e1 (c : Dev Cert.AdFf3RefIdeal.nD) : _ = A1 m c := (hag c).2.1
  have e2 (c : Dev Cert.AdFf3RefIdeal.nD) : _ = A2 m c := (hag c).2.2.1
  have e3 (c : Dev Cert.AdFf3RefIdeal.nD) : _ = A3 m c := (hag c).2.2.2.1
  have e4 (c : Dev Cert.AdFf3RefIdeal.nD) : _ = A4 m c := (hag c).2.2.2.2.1
  have e5 (c : Dev Cert.AdFf3RefIdeal.nD) : _ = A5 m c := (hag c).2.2.2.2.2.1
  have e6 (c : Dev Cert.AdFf3RefIdeal.nD) : _ = A6 m c := (hag c).2.2.2.2.2.2.1
  have e7 (c : Dev Cert.AdFf3RefIdeal.nD) : _ = A7 m c := (hag c).2.2.2.2.2.2.2
  refine ⟨fun c => val_main_v33 (F := Ideal) (A1 m c) (A4 m c),
    fun c => val_main_v37 (F := Ideal) (A0 m c) (A1 m c) (A2 m c) (A3 m c) (A5 m c),
    fun c => val_main_v41 (F := Ideal) (A1 m c) (A2 m c) (A6 m c),
    fun c => val_main_v45 (F := Ideal) (A1 m c) (A3 m c) (A7 m c), ?_, ?_⟩
  · exact (θ_run Cert.AdFf3Ideal.defs _ _).mono (fun r h c => ⟨(h c).1.trans (final4 m c), (h c).2.1.trans (final5 m c), (h c).2.2.1.trans (final6 m c), (h c).2.2.2.1.trans (final7 m c), (h c).2.2.2.2⟩)
      (Cert.AdFf3Ideal.Value.run_blocks (F := Ideal) m ρ)
  · refine (θ_run Cert.AdFf3RefIdeal.defs _ _).mono (fun r h c => ⟨(h c).1.trans ((val_main_v33_eq _ _).trans ?_), (h c).2.1.trans ((val_main_v37_eq _ _ _ _ _).trans ?_), (h c).2.2.1.trans ((val_main_v41_eq _ _ _).trans ?_), (h c).2.2.2.1.trans ((val_main_v45_eq _ _ _).trans ?_), (h c).2.2.2.2⟩)
      (Cert.AdFf3RefIdeal.Value.run (F := Ideal) m' ρ')
    · exact congr (congrArg (val_main_v33 (F := Ideal)) (e1 c)) (e4 c)
    · exact congr (congr (congr (congr (congrArg (val_main_v37 (F := Ideal)) (e0 c)) (e1 c)) (e2 c)) (e3 c)) (e5 c)
    · exact congr (congr (congrArg (val_main_v41 (F := Ideal)) (e1 c)) (e2 c)) (e6 c)
    · exact congr (congr (congrArg (val_main_v45 (F := Ideal)) (e1 c)) (e3 c)) (e7 c)

end Cert.AdFf3Claims

end
-- ==== Proof.LossHeadProof.lean ====
module

public import proofs.«01_k».proof.Defs
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix
public import proofs.«01_k».proof.Proof.RmsMath
public import proofs.«01_k».proof.Proof.ProductMath

/-! The loss and its gradient. -/

@[expose] public section

set_option maxRecDepth 16384

noncomputable section

namespace Cert.LossHeadProof

open Cert.LossHeadIdeal Cert.LossHeadIdeal.Gen Idealize.ShloMosaic Idealize.ShloMosaic.TcCoe Idealize.SL.Sem
open Cert.LossHeadRefIdeal.Read

variable (m : (ℓ : Loc nD τ sig) → Buf (Elt Ideal) ℓ) (c : Dev nD)

abbrev Y : S2048x1024.Idx → Elt Ideal .f32 := m ((c : Thread nD τ).loc main_arg0)
abbrev T : S2048x1024.Idx → Elt Ideal .f32 := m ((c : Thread nD τ).loc main_arg1)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

theorem lt4 (t : Fin cfg0.N) : t.val < 4 := t.isLt

/-- Token `r` of block `t`. -/
abbrev row (t : Fin cfg0.N) (r : Fin 512) : Fin 2048 := ⟨t.val * 512 + r.val, by have := lt4 t; have := r.isLt; omega⟩

theorem half : Ideal.ofBits .f32 1056964608#32 = ((1 / 2 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem one : Ideal.ofBits .f32 1065353216#32 = ((1 : ℝ) : EReal) := by
  simp [Ideal.ofBits, Ideal.ieee, -EReal.coe_mul]; norm_num
theorem small : Ideal.ofBits .f32 981467136#32 = ((1 / 1024 : ℝ) : EReal) := by
  simp [Ideal.ofBits, Ideal.ieee, -EReal.coe_mul]; norm_num

/-- Half of two over the width is one over the width. -/
theorem factor (e : EReal) :
    e * Ideal.ofBits .f32 981467136#32
      = Ideal.div (Ideal.ofBits .f32 1056964608#32 * Ideal.ofBits .f32 1065353216#32) (Ideal.ofBits .f32 1149239296#32) * (Ideal.ofBits .f32 1073741824#32 * e) := by
  rw [half, two, one, small, RmsMath.width, Ideal.div_coe (by norm_num), ← mul_assoc, ← EReal.coe_mul, ← EReal.coe_mul, ← EReal.coe_mul, mul_comm]
  norm_num

/-- The mean square error of a token. -/
def mean (x t : Fin 1024 → EReal) : EReal :=
  Ideal.div (∑ k, (x k - t k) * (x k - t k)) (Ideal.ofBits .f32 1149239296#32)

theorem reference_change (x t : S2048x1024.Idx → Elt Ideal .f32) (i : Fin 2048) (l : Fin 1024) :
    (val_main_v14 (F := Ideal) x t : S2048x1024.Idx → EReal) (ix2 i l) = HMul.hMul (α := EReal) (β := EReal) (γ := EReal) (x (ix2 i l) - t (ix2 i l)) (Ideal.ofBits .f32 981467136#32) := by
  rw [factor]
  pointwise [val_main_v0, val_main_cst, val_main_v2, val_main_v3, val_main_cst_4, val_main_cst_5, val_main_v9, val_main_v10, val_main_cst_6, val_main_v11, val_main_v12, val_main_v13, val_main_v14]

theorem reference_loss (x t : S2048x1024.Idx → Elt Ideal .f32) (j : S_.Idx) :
    (val_main_v8 (F := Ideal) x t : S_.Idx → EReal) j
      = Ideal.ofBits .f32 1056964608#32 * ∑ i : Fin 2048, mean (fun k => x (ix2 i k)) (fun k => t (ix2 i k)) := by
  unfold mean
  pointwise [val_main_v0, val_main_v1, val_main_cst_0, val_main_v4, val_main_cst_1, val_main_v5, val_main_v6, val_main_cst_2, val_main_v7, val_main_cst_3, val_main_v8]

theorem block0 (t : Fin cfg0.N) (r : Fin 512) (l : Fin 1024) : iblk m c 0 t (ix2 r l : S512x1024.Idx) = Y m c (ix2 (row t r) l) := by
  blk_ext [iblk, V_main_arg0, index0]
theorem block1 (t : Fin cfg0.N) (r : Fin 512) (l : Fin 1024) : iblk m c 1 t (ix2 r l : S512x1024.Idx) = T m c (ix2 (row t r) l) := by
  blk_ext [iblk, V_main_arg1, index1]

/-- Every point writes its tokens' gradients. -/
theorem written (t : Fin cfg0.N) (r : Fin 512) (l : Fin 1024) :
    ((outsAt0 m c t.val t.isLt).2 (ix2 r l : S512x1024.Idx) : EReal)
      = HMul.hMul (α := EReal) (β := EReal) (γ := EReal) (Y m c (ix2 (row t r) l) - T m c (ix2 (row t r) l)) (Ideal.ofBits .f32 981467136#32) := by
  by_cases h0 : t.val % 4 = 0
  · rw [outsAt0_A m c t h0]
    frame_out
    pointwise [k0_pay2, k0_pay1]
    simp only [block0, block1]
  · rw [outsAt0_B m c t h0]
    frame_out
    pointwise [k0_pay2, k0_pay1]
    simp only [block0, block1]

/-- What a point adds to the loss. -/
abbrev part (t : Fin cfg0.N) : EReal :=
  Ideal.ofBits .f32 1056964608#32 * ∑ r : Fin 512, mean (fun k => Y m c (ix2 (row t r) k)) (fun k => T m c (ix2 (row t r) k))

theorem carried_first (t : Fin cfg0.N) (h0 : t.val % 4 = 0) (a : Fin 8) (l : Fin 128) :
    ((outsAt0 m c t.val t.isLt).1 (ix2 a l : S8x128.Idx) : EReal) = part m c t := by
  rw [outsAt0_A m c t h0]
  frame_out
  pointwise [k0_pay4, k0_pay3, k0_pay1]
  simp only [block0, block1, Finset.univ_unique, Finset.sum_singleton]
  rfl

theorem carried_next (t : Fin cfg0.N) (h0 : ¬ t.val % 4 = 0) (a : Fin 8) (l : Fin 128) :
    ((outsAt0 m c t.val t.isLt).1 (ix2 a l : S8x128.Idx) : EReal)
      = (outsAt0 m c (t.val - 1) (Nat.lt_of_le_of_lt (Nat.sub_le _ _) t.isLt)).1 (ix2 a l : S8x128.Idx) + part m c t := by
  rw [outsAt0_B m c t h0]
  frame_out
  pointwise [k0_pay4, k0_pay1]
  simp only [block0, block1, Finset.univ_unique, Finset.sum_singleton]
  rfl

theorem final3 : (dats m 0 c).arrAt 3 cfg0.N = val_main_v14 (F := Ideal) (Y m c) (T m c) := by
  refine (dats m 0 c).arrAt_eq_of_covers 3 _ (by decide +kernel) fun t hf y => ?_
  obtain ⟨r, l, rfl⟩ : ∃ (r : Fin 512) (l : Fin 1024), y = (ix2 r l : S512x1024.Idx) := ⟨y 0, y 1, eq_ix2 _⟩
  blk_simp
  rw [after0_3]
  have e : ((View.whole main_v0_1).slice (win0_3.rect t)).emb (ix2 r l : S512x1024.Idx) = (ix2 (row t r) l : S2048x1024.Idx) := by
    blk_ext [index3]
  exact Eq.trans (α := EReal) (written m c t r l) ((congrArg _ e).trans (reference_change _ _ _ _)).symm

theorem halves (f : Fin 2048 → EReal) :
    Ideal.ofBits .f32 1056964608#32 * (∑ k : Fin 512, f ⟨0 * 512 + k.val, by have := k.isLt; omega⟩) + Ideal.ofBits .f32 1056964608#32 * (∑ k : Fin 512, f ⟨1 * 512 + k.val, by have := k.isLt; omega⟩)
      + Ideal.ofBits .f32 1056964608#32 * (∑ k : Fin 512, f ⟨2 * 512 + k.val, by have := k.isLt; omega⟩) + Ideal.ofBits .f32 1056964608#32 * (∑ k : Fin 512, f ⟨3 * 512 + k.val, by have := k.isLt; omega⟩)
      = Ideal.ofBits .f32 1056964608#32 * ∑ k, f k := by
  rw [ProductMath.sum_four 512 2048 (by norm_num), half]
  have hn : (0 : EReal) ≤ ((1 / 2 : ℝ) : EReal) := EReal.coe_nonneg.mpr (by norm_num)
  rw [EReal.left_distrib_of_nonneg_of_ne_top hn (EReal.coe_ne_top _), EReal.left_distrib_of_nonneg_of_ne_top hn (EReal.coe_ne_top _),
    EReal.left_distrib_of_nonneg_of_ne_top hn (EReal.coe_ne_top _)]

theorem final2 : (dats m 0 c).arrAt 2 cfg0.N = fun _ : S8x128.Idx => (val_main_v8 (F := Ideal) (Y m c) (T m c) : S_.Idx → EReal) (fun a => a.elim0) := by
  refine (dats m 0 c).arrAt_eq_of_covers 2 _ (by decide +kernel) fun t hf y => ?_
  obtain ⟨a, l, rfl⟩ : ∃ (a : Fin 8) (l : Fin 128), y = (ix2 a l : S8x128.Idx) := ⟨y 0, y 1, eq_ix2 _⟩
  have hN := lt4 t
  have hm : t.val % 4 = 3 := (flush0_2 t).mp hf
  have h3 : 3 < cfg0.N := by have := t.isLt; omega
  blk_simp
  rw [after0_2]
  refine Eq.trans (α := EReal) ?_ (reference_loss _ _ _).symm
  obtain rfl : t = ⟨3, h3⟩ := Fin.ext (show t.val = 3 by omega)
  refine (carried_next m c ⟨3, h3⟩ (by dsimp only; omega) a l).trans ?_
  refine (congrArg (· + _) ((carried_next m c ⟨2, by omega⟩ (by dsimp only; omega) a l).trans (congrArg (· + _)
    ((carried_next m c ⟨1, by omega⟩ (by dsimp only; omega) a l).trans (congrArg (· + _) (carried_first m c ⟨0, by omega⟩ (Nat.zero_mod _) a l)))))).trans ?_
  exact halves fun i => mean (fun k => Y m c (ix2 i k)) (fun k => T m c (ix2 i k))

theorem corner (W : Valuation τ sig (Elt Ideal)) : StableHlo.after ([hostOps1].flatten : List (HloOp τ sig (Elt Ideal))) W (Proc.devRef .tc main_v2) =
    fun _ => W (Proc.devRef .tc main_v0_0) (ix2 0 0 : S8x128.Idx) := by
  after_reads_simp
  funext y
  pointwise []

theorem result2 : Pipeline.afterTail₀ cfgs (dats m) 0 (V0 m) [hostOps1] c main_v2 = val_main_v8 (F := Ideal) (Y m c) (T m c) := by
  refine (corner _).trans ?_
  funext y
  obtain rfl : y = fun a => a.elim0 := funext fun a => a.elim0
  exact congrFun ((Pipeline.withArrays_arr spec0 launch0.win.arr_inj c (V0 m c) (fun w => (dats m 0 c).arrAt w cfg0.N) 2).trans (final2 m c)) (ix2 0 0 : S8x128.Idx)

end Cert.LossHeadProof

namespace Cert.LossHeadClaims

open Idealize.ShloMosaic Idealize.SL.Sem Cert.LossHeadProof
open Cert.LossHeadRefIdeal.Read

theorem frame_kernel : Cert.quiescent_LossHead := fun m ρ _ => Cert.LossHead.Gen.frame m ρ

theorem frame_ideal : Cert.quiescent_LossHeadIdeal := fun m ρ _ => Cert.LossHeadIdeal.Gen.frame m ρ

theorem frame_reference : Cert.quiescent_LossHeadRefIdeal := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

theorem preserves : Cert.preserves_LossHead_LossHeadIdeal := trivial

theorem algebraic : Cert.algebraic_LossHeadIdeal_LossHeadRefIdeal := by
  intro m ρ m' ρ' _ hag
  have e0 (c : Dev Cert.LossHeadRefIdeal.nD) : _ = Y m c := (hag c).1
  have e1 (c : Dev Cert.LossHeadRefIdeal.nD) : _ = T m c := (hag c).2
  refine ⟨fun c => val_main_v8 (F := Ideal) (Y m c) (T m c), fun c => val_main_v14 (F := Ideal) (Y m c) (T m c), ?_, ?_⟩
  · exact (θ_run Cert.LossHeadIdeal.defs _ _).mono (fun r h c => ⟨((h.1 c).2 Cert.LossHeadIdeal.main_v2 (by decide)).trans (result2 m c), ((h.1 c).1 3).trans (final3 m c), h.2 c⟩)
      (θ_run_and (Cert.LossHeadIdeal.Gen.run_main (F := Ideal) m ρ) (Cert.LossHeadIdeal.Gen.unchanged (F := Ideal) m ρ))
  · refine (θ_run Cert.LossHeadRefIdeal.defs _ _).mono (fun r h c => ⟨(h c).1.trans ((val_main_v8_eq _ _).trans ?_), (h c).2.1.trans ((val_main_v14_eq _ _).trans ?_), (h c).2.2⟩)
      (Cert.LossHeadRefIdeal.Value.run (F := Ideal) m' ρ')
    · exact congrArg₂ (val_main_v8 (F := Ideal)) (e0 c) (e1 c)
    · exact congrArg₂ (val_main_v14 (F := Ideal)) (e0 c) (e1 c)

end Cert.LossHeadClaims

end
-- ==== Proof.RecvInProof.lean ====
module

public import proofs.«01_k».proof.Defs
public import proofs.«01_k».proof.Proof.Gen.RecvIn.Frame
public import proofs.«01_k».proof.Proof.Gen.RecvInIdeal.Frame
public import proofs.«01_k».proof.Proof.Gen.RecvInRefIdeal.Run
public import proofs.«01_k».proof.Proof.Gen.RecvInRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The sum over the chips of the gradient of w_in: a device adds what it received from three chips to its own part. -/

@[expose] public section

set_option maxRecDepth 16384

noncomputable section

namespace Cert.RecvInTable

open Cert.RecvIn Cert.RecvIn.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 2 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 2 := (i 0).isLt
  fin_cases a
  · exact (by decide : (0 + 1) * 1 ≤ 2)
  · show ((i 0).val + 1) * 256 ≤ 512
    omega
  · exact (by decide : (0 + 1) * 1920 ≤ 1920)

end Cert.RecvInTable

namespace Cert.RecvInIdealTable

open Cert.RecvInIdeal Cert.RecvInIdeal.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 2 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 2 := (i 0).isLt
  fin_cases a
  · exact (by decide : (0 + 1) * 1 ≤ 2)
  · show ((i 0).val + 1) * 256 ≤ 512
    omega
  · exact (by decide : (0 + 1) * 1920 ≤ 1920)

end Cert.RecvInIdealTable

namespace Cert.RecvInProof

open Cert.RecvInIdeal Cert.RecvInIdeal.Gen Idealize.ShloMosaic Idealize.ShloMosaic.TcCoe Idealize.SL.Sem
open Cert.RecvInRefIdeal.Read

variable (m : (ℓ : Loc nD τ sig) → Buf (Elt Ideal) ℓ) (c : Dev nD)

abbrev hO : Ok m := Cert.RecvInIdealTable.ok m

abbrev A0 : S512x1920.Idx → Elt Ideal .f32 := m ((c : Thread nD τ).loc main_arg0)
abbrev A1 : S3x512x1920.Idx → Elt Ideal .bf16 := m ((c : Thread nD τ).loc main_arg1)

theorem lt_points (t : Fin grid0.N) : t.val < 2 := t.isLt

theorem points0 : ∀ t : Fin grid0.N, cc0_transform_0 (grid0.coords t) = ![t.val, 0] := by decide +kernel
theorem points1 : ∀ t : Fin grid0.N, cc0_transform_1 (grid0.coords t) = ![0, t.val, 0] := by decide +kernel
theorem coord : ∀ t : Fin grid0.N, (grid0.coords t 0).val = t.val := by decide +kernel

theorem index0 (t : Fin grid0.N) : (Pipeline.PCfg.win (pcfg0 (F := Ideal)) (adm m (hO m)) 0).index t = ![t.val, 0] := points0 t
theorem index1 (t : Fin grid0.N) : (Pipeline.PCfg.win (pcfg0 (F := Ideal)) (adm m (hO m)) 1).index t = ![0, t.val, 0] := points1 t
theorem index2 (t : Fin grid0.N) : (Pipeline.PCfg.win (pcfg0 (F := Ideal)) (adm m (hO m)) 2).index t = ![0, t.val, 0] :=
  (Cert.RecvInIdealTable.index m (grid0.coords t)).trans (by rw [coord])

/-- The table of zeros. -/
def Z : pre0.Contents (Elt Ideal) := fun | 0 => fun _ => 0#32

theorem tbl_eq : tbl m = Z := funext fun j => by
  obtain rfl : j = 0 := Subsingleton.elim _ _
  exact Cert.RecvInIdealTable.zeros m

theorem ok_zeros (h : tbl m = Z) : ok0 Z := h ▸ hO m

theorem covers_zeros : ((cfg0 ⟨Z, ok_zeros (fun _ => default) (tbl_eq _)⟩).win 2).CoversWhere (fun β : Fin 3 → Nat => β 0 = 0) := by decide +kernel

theorem covers : ((cfgM m (hO m)).win 2).CoversWhere (fun β : Fin 3 → Nat => β 0 = 0) := by
  have h : ∀ a : (pcfg0 (F := Ideal)).Adm, a.1 = Z → ((cfg0 a).win 2).CoversWhere (fun β : Fin 3 → Nat => β 0 = 0) := by
    rintro ⟨_, h⟩ rfl
    exact covers_zeros
  exact h _ (tbl_eq m)

abbrev row (t : Fin grid0.N) (r : Fin 256) : Fin 512 := ⟨t.val * 256 + r.val, by have := lt_points t; have := r.isLt; omega⟩

theorem block0 (t : Fin grid0.N) (r : Fin 256) (e : Fin 1920) :
    iblk m (hO m) c 0 t (ix2 r e : S256x1920.Idx) = A0 m c (ix2 (row t r) e : S512x1920.Idx) := by
  blk_ext [iblk, V_main_arg0]
  · exact congrArg (· * 256 + r.val) (congrFun (index0 m t) 0)
  · exact (congrArg (· * 1920 + e.val) (congrFun (index0 m t) 1)).trans (by show 0 * 1920 + e.val = e.val; omega)

theorem block1 (t : Fin grid0.N) (k : Fin 3) (r : Fin 256) (e : Fin 1920) :
    iblk m (hO m) c 1 t (ix3 k r e : S3x256x1920.Idx) = A1 m c (ix3 k (row t r) e : S3x512x1920.Idx) := by
  blk_ext [iblk, V_main_arg1]
  · exact (congrArg (· * 3 + k.val) (congrFun (index1 m t) 0)).trans (by show 0 * 3 + k.val = k.val; omega)
  · exact congrArg (· * 256 + r.val) (congrFun (index1 m t) 1)
  · exact (congrArg (· * 1920 + e.val) (congrFun (index1 m t) 2)).trans (by show 0 * 1920 + e.val = e.val; omega)

/-- The half of the result that this device sums. -/
theorem half (W : Valuation τ sig (Elt Ideal)) : StableHlo.after ([hostOps1].flatten : List (HloOp τ sig (Elt Ideal))) W (Proc.devRef .tc main_v3) =
    fun j => W (Proc.devRef .tc main_v1) (ix3 0 (j 0) (j 1) : S2x512x1920.Idx) := by
  after_reads_simp
  funext y
  idx_vars y
  pointwise []

/-- The sum, in both halves. -/
def total : S2x512x1920.Idx → Elt Ideal .f32 := fun y => val_main_v2 (F := Ideal) (A0 m c) (A1 m c) (ix2 (y 1) (y 2) : S512x1920.Idx)

theorem summed (x0 : S512x1920.Idx → Elt Ideal .f32) (x1 : S3x512x1920.Idx → Elt Ideal .bf16) (r : Fin 512) (e : Fin 1920) :
    (val_main_v2 (F := Ideal) x0 x1 : S512x1920.Idx → EReal) (ix2 r e) = x0 (ix2 r e) + x1 (ix3 0 r e) + x1 (ix3 1 r e) + x1 (ix3 2 r e) := by
  pointwise [val_main_v0, val_main_v1, val_main_v2, val_main_cst]
  rw [Fin.sum_univ_three, ← add_assoc, ← add_assoc]

theorem place (t : Fin grid0.N) (r : Fin 256) (e : Fin 1920) :
    ((((spec0 2).arr.view.slice ((pcfg0.win (adm m (hO m)) 2).rect t)).emb (ix3 0 r e : S1x256x1920.Idx) : S2x512x1920.Idx)) = ix3 0 (row t r) e := by
  blk_ext []
  · exact congrArg (· + 0) (congrArg (· * 1) (congrFun (index2 m t) 0))
  · exact congrArg (· * 256 + r.val) (congrFun (index2 m t) 1)
  · exact (congrArg (· * 1920 + e.val) (congrFun (index2 m t) 2)).trans (by show 0 * 1920 + e.val = e.val; omega)

theorem read0 (t : Fin grid0.N) (r : Fin 256) (e : Fin 1920) :
    View.read (Elt Ideal) (ms0_0 m (hO m) t).view ((hs0_0 m (hO m) t).unread (iblk m (hO m) c 0 t)) (ix2 r e : S256x1920.Idx) = A0 m c (ix2 (row t r) e : S512x1920.Idx) :=
  (congrFun ((hs0_0 m (hO m) t).read_unread _) _).trans (block0 m c t r e)

theorem read1 (t : Fin grid0.N) (k : Fin 3) (r : Fin 256) (e : Fin 1920) :
    View.read (Elt Ideal) (ms0_1 m (hO m) t).view ((hs0_1 m (hO m) t).unread (iblk m (hO m) c 1 t)) (ix3 k r e : S3x256x1920.Idx) = A1 m c (ix3 k (row t r) e : S3x512x1920.Idx) :=
  (congrFun ((hs0_1 m (hO m) t).read_unread _) _).trans (block1 m c t k r e)

theorem covered (r : Fin 512) (e : Fin 1920) :
    (dats m (hO m) 0 c).arrAt 2 (cfgM m (hO m)).N (ix3 0 r e : S2x512x1920.Idx) = val_main_v2 (F := Ideal) (A0 m c) (A1 m c) (ix2 r e : S512x1920.Idx) := by
  refine ((dats m (hO m) 0 c).arrAt_emb_eq_of_coversWhere 2 (total m c) _ (covers m) (fun t hf (y : S1x256x1920.Idx) => ?_) (ix3 0 r e : S2x512x1920.Idx)).trans ?_
  · obtain ⟨z, r, e, rfl⟩ : ∃ (z : Fin 1) (r : Fin 256) (e : Fin 1920), y = (ix3 z r e : S1x256x1920.Idx) := ⟨y 0, y 1, y 2, eq_ix3 _⟩
    obtain rfl : z = 0 := Subsingleton.elim _ _
    blk_simp
    rw [after0_2]
    simp only [outsAt0]
    frame_out
    pointwise [k0_pay1]
    refine (congrArg₂ (fun x y : EReal => x + y) (congrArg₂ (fun x y : EReal => x + y) (congrArg₂ (fun x y : EReal => x + y) (read0 m c t r e) (read1 m c t 0 r e)) (read1 m c t 1 r e)) (read1 m c t 2 r e)).trans ?_
    exact (summed _ _ _ _).symm.trans (congrArg (total m c) (place m t r e).symm)
  · exact if_pos (Nat.zero_div _)

theorem result : Pipeline.afterTail pcfgs (fun _ => adm m (hO m)) (dats m (hO m)) 0 (V0 m) [hostOps1] c main_v3 = val_main_v2 (F := Ideal) (A0 m c) (A1 m c) := by
  unfold Pipeline.afterTail
  refine (half _).trans ?_
  funext y
  obtain ⟨r, e, rfl⟩ : ∃ (r : Fin 512) (e : Fin 1920), y = (ix2 r e : S512x1920.Idx) := ⟨y 0, y 1, eq_ix2 _⟩
  refine Eq.trans ?_ (covered m c r e)
  exact congrFun (Pipeline.withArrays_arr spec0 (launch0 (F := Ideal)).win.arr_inj c (V0 m c) (fun w => (dats m (hO m) 0 c).arrAt w (cfgM m (hO m)).N) 2) (ix3 0 r e : S2x512x1920.Idx)

end Cert.RecvInProof

namespace Cert.RecvInClaims

open Idealize.ShloMosaic Idealize.SL.Sem Cert.RecvInProof
open Cert.RecvInRefIdeal.Read

theorem frame_kernel : Cert.quiescent_RecvIn := fun m ρ _ => Cert.RecvIn.Gen.frame m ρ (Cert.RecvInTable.ok m)

theorem frame_ideal : Cert.quiescent_RecvInIdeal := fun m ρ _ => Cert.RecvInIdeal.Gen.frame m ρ (hO m)

theorem frame_reference : Cert.quiescent_RecvInRefIdeal := fun m ρ _ =>
  (θ_run Cert.RecvInRefIdeal.defs _ _).mono (fun r h => ⟨fun c => (h c).2, sem_eq_zero_of_no_sems (by decide) r.2⟩)
    (Cert.RecvInRefIdeal.Value.run (F := Ideal) m ρ)

theorem preserves : Cert.preserves_RecvIn_RecvInIdeal := trivial

theorem algebraic : Cert.algebraic_RecvInIdeal_RecvInRefIdeal := by
  intro m ρ m' ρ' _ hag
  have e0 (c : Dev Cert.RecvInRefIdeal.nD) : _ = A0 m c := (hag c).1
  have e1 (c : Dev Cert.RecvInRefIdeal.nD) : _ = A1 m c := (hag c).2
  refine ⟨fun c => val_main_v2 (F := Ideal) (A0 m c) (A1 m c), ?_, ?_⟩
  · exact (θ_run Cert.RecvInIdeal.defs _ _).mono (fun r h c => ⟨((h.1 c).2 Cert.RecvInIdeal.main_v3 (show Cert.RecvInIdeal.main_v3 ∈ Pipeline.restRefs Cert.RecvInIdeal.sig Cert.RecvInIdeal.spec0 from by decide)).trans (result m c), h.2 c⟩)
      (θ_run_and (Cert.RecvInIdeal.Gen.run_main (F := Ideal) m ρ (hO m)) (Cert.RecvInIdeal.Gen.unchanged (F := Ideal) m ρ (hO m)))
  · refine (θ_run Cert.RecvInRefIdeal.defs _ _).mono (fun r h c => ⟨(h c).1.trans ((val_main_v2_eq _ _).trans ?_), (h c).2⟩)
      (Cert.RecvInRefIdeal.Value.run (F := Ideal) m' ρ')
    exact congrArg₂ (val_main_v2 (F := Ideal)) (e0 c) (e1 c)

end Cert.RecvInClaims

end
-- ==== Proof.RecvCoProof.lean ====
module

public import proofs.«01_k».proof.Defs
public import proofs.«01_k».proof.Proof.Gen.RecvCo.Frame
public import proofs.«01_k».proof.Proof.Gen.RecvCoIdeal.Frame
public import proofs.«01_k».proof.Proof.Gen.RecvCoRefIdeal.Run
public import proofs.«01_k».proof.Proof.Gen.RecvCoRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The sum over the chips of the gradient of w_conv_out: a device adds what it received from three chips to its own part. -/

@[expose] public section

set_option maxRecDepth 16384

noncomputable section

namespace Cert.RecvCoTable

open Cert.RecvCo Cert.RecvCo.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 1 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 1 := (i 0).isLt
  fin_cases a
  · exact (by decide : (0 + 1) * 1 ≤ 2)
  · show ((i 0).val + 1) * 256 ≤ 256
    omega
  · exact (by decide : (0 + 1) * 256 ≤ 256)

end Cert.RecvCoTable

namespace Cert.RecvCoIdealTable

open Cert.RecvCoIdeal Cert.RecvCoIdeal.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 1 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 1 := (i 0).isLt
  fin_cases a
  · exact (by decide : (0 + 1) * 1 ≤ 2)
  · show ((i 0).val + 1) * 256 ≤ 256
    omega
  · exact (by decide : (0 + 1) * 256 ≤ 256)

end Cert.RecvCoIdealTable

namespace Cert.RecvCoProof

open Cert.RecvCoIdeal Cert.RecvCoIdeal.Gen Idealize.ShloMosaic Idealize.ShloMosaic.TcCoe Idealize.SL.Sem
open Cert.RecvCoRefIdeal.Read

variable (m : (ℓ : Loc nD τ sig) → Buf (Elt Ideal) ℓ) (c : Dev nD)

abbrev hO : Ok m := Cert.RecvCoIdealTable.ok m

abbrev A0 : S256x256.Idx → Elt Ideal .f32 := m ((c : Thread nD τ).loc main_arg0)
abbrev A1 : S3x256x256.Idx → Elt Ideal .bf16 := m ((c : Thread nD τ).loc main_arg1)

theorem lt_points (t : Fin grid0.N) : t.val < 1 := t.isLt

theorem points0 : ∀ t : Fin grid0.N, cc0_transform_0 (grid0.coords t) = ![t.val, 0] := by decide +kernel
theorem points1 : ∀ t : Fin grid0.N, cc0_transform_1 (grid0.coords t) = ![0, t.val, 0] := by decide +kernel
theorem coord : ∀ t : Fin grid0.N, (grid0.coords t 0).val = t.val := by decide +kernel

theorem index0 (t : Fin grid0.N) : (Pipeline.PCfg.win (pcfg0 (F := Ideal)) (adm m (hO m)) 0).index t = ![t.val, 0] := points0 t
theorem index1 (t : Fin grid0.N) : (Pipeline.PCfg.win (pcfg0 (F := Ideal)) (adm m (hO m)) 1).index t = ![0, t.val, 0] := points1 t
theorem index2 (t : Fin grid0.N) : (Pipeline.PCfg.win (pcfg0 (F := Ideal)) (adm m (hO m)) 2).index t = ![0, t.val, 0] :=
  (Cert.RecvCoIdealTable.index m (grid0.coords t)).trans (by rw [coord])

/-- The table of zeros. -/
def Z : pre0.Contents (Elt Ideal) := fun | 0 => fun _ => 0#32

theorem tbl_eq : tbl m = Z := funext fun j => by
  obtain rfl : j = 0 := Subsingleton.elim _ _
  exact Cert.RecvCoIdealTable.zeros m

theorem ok_zeros (h : tbl m = Z) : ok0 Z := h ▸ hO m

theorem covers_zeros : ((cfg0 ⟨Z, ok_zeros (fun _ => default) (tbl_eq _)⟩).win 2).CoversWhere (fun β : Fin 3 → Nat => β 0 = 0) := by decide +kernel

theorem covers : ((cfgM m (hO m)).win 2).CoversWhere (fun β : Fin 3 → Nat => β 0 = 0) := by
  have h : ∀ a : (pcfg0 (F := Ideal)).Adm, a.1 = Z → ((cfg0 a).win 2).CoversWhere (fun β : Fin 3 → Nat => β 0 = 0) := by
    rintro ⟨_, h⟩ rfl
    exact covers_zeros
  exact h _ (tbl_eq m)

abbrev row (t : Fin grid0.N) (r : Fin 256) : Fin 256 := ⟨t.val * 256 + r.val, by have := lt_points t; have := r.isLt; omega⟩

theorem block0 (t : Fin grid0.N) (r : Fin 256) (e : Fin 256) :
    iblk m (hO m) c 0 t (ix2 r e : S256x256.Idx) = A0 m c (ix2 (row t r) e : S256x256.Idx) := by
  blk_ext [iblk, V_main_arg0]
  · exact congrArg (· * 256 + r.val) (congrFun (index0 m t) 0)
  · exact (congrArg (· * 256 + e.val) (congrFun (index0 m t) 1)).trans (by show 0 * 256 + e.val = e.val; omega)

theorem block1 (t : Fin grid0.N) (k : Fin 3) (r : Fin 256) (e : Fin 256) :
    iblk m (hO m) c 1 t (ix3 k r e : S3x256x256.Idx) = A1 m c (ix3 k (row t r) e : S3x256x256.Idx) := by
  blk_ext [iblk, V_main_arg1]
  · exact (congrArg (· * 3 + k.val) (congrFun (index1 m t) 0)).trans (by show 0 * 3 + k.val = k.val; omega)
  · exact congrArg (· * 256 + r.val) (congrFun (index1 m t) 1)
  · exact (congrArg (· * 256 + e.val) (congrFun (index1 m t) 2)).trans (by show 0 * 256 + e.val = e.val; omega)

/-- The half of the result that this device sums. -/
theorem half (W : Valuation τ sig (Elt Ideal)) : StableHlo.after ([hostOps1].flatten : List (HloOp τ sig (Elt Ideal))) W (Proc.devRef .tc main_v3) =
    fun j => W (Proc.devRef .tc main_v1) (ix3 0 (j 0) (j 1) : S2x256x256.Idx) := by
  after_reads_simp
  funext y
  idx_vars y
  pointwise []

/-- The sum, in both halves. -/
def total : S2x256x256.Idx → Elt Ideal .f32 := fun y => val_main_v2 (F := Ideal) (A0 m c) (A1 m c) (ix2 (y 1) (y 2) : S256x256.Idx)

theorem summed (x0 : S256x256.Idx → Elt Ideal .f32) (x1 : S3x256x256.Idx → Elt Ideal .bf16) (r : Fin 256) (e : Fin 256) :
    (val_main_v2 (F := Ideal) x0 x1 : S256x256.Idx → EReal) (ix2 r e) = x0 (ix2 r e) + x1 (ix3 0 r e) + x1 (ix3 1 r e) + x1 (ix3 2 r e) := by
  pointwise [val_main_v0, val_main_v1, val_main_v2, val_main_cst]
  rw [Fin.sum_univ_three, ← add_assoc, ← add_assoc]

theorem place (t : Fin grid0.N) (r : Fin 256) (e : Fin 256) :
    ((((spec0 2).arr.view.slice ((pcfg0.win (adm m (hO m)) 2).rect t)).emb (ix3 0 r e : S1x256x256.Idx) : S2x256x256.Idx)) = ix3 0 (row t r) e := by
  blk_ext []
  · exact congrArg (· + 0) (congrArg (· * 1) (congrFun (index2 m t) 0))
  · exact congrArg (· * 256 + r.val) (congrFun (index2 m t) 1)
  · exact (congrArg (· * 256 + e.val) (congrFun (index2 m t) 2)).trans (by show 0 * 256 + e.val = e.val; omega)

theorem read0 (t : Fin grid0.N) (r : Fin 256) (e : Fin 256) :
    View.read (Elt Ideal) (ms0_0 m (hO m) t).view ((hs0_0 m (hO m) t).unread (iblk m (hO m) c 0 t)) (ix2 r e : S256x256.Idx) = A0 m c (ix2 (row t r) e : S256x256.Idx) :=
  (congrFun ((hs0_0 m (hO m) t).read_unread _) _).trans (block0 m c t r e)

theorem read1 (t : Fin grid0.N) (k : Fin 3) (r : Fin 256) (e : Fin 256) :
    View.read (Elt Ideal) (ms0_1 m (hO m) t).view ((hs0_1 m (hO m) t).unread (iblk m (hO m) c 1 t)) (ix3 k r e : S3x256x256.Idx) = A1 m c (ix3 k (row t r) e : S3x256x256.Idx) :=
  (congrFun ((hs0_1 m (hO m) t).read_unread _) _).trans (block1 m c t k r e)

theorem covered (r : Fin 256) (e : Fin 256) :
    (dats m (hO m) 0 c).arrAt 2 (cfgM m (hO m)).N (ix3 0 r e : S2x256x256.Idx) = val_main_v2 (F := Ideal) (A0 m c) (A1 m c) (ix2 r e : S256x256.Idx) := by
  refine ((dats m (hO m) 0 c).arrAt_emb_eq_of_coversWhere 2 (total m c) _ (covers m) (fun t hf (y : S1x256x256.Idx) => ?_) (ix3 0 r e : S2x256x256.Idx)).trans ?_
  · obtain ⟨z, r, e, rfl⟩ : ∃ (z : Fin 1) (r : Fin 256) (e : Fin 256), y = (ix3 z r e : S1x256x256.Idx) := ⟨y 0, y 1, y 2, eq_ix3 _⟩
    obtain rfl : z = 0 := Subsingleton.elim _ _
    blk_simp
    rw [after0_2]
    simp only [outsAt0]
    frame_out
    pointwise [k0_pay1]
    refine (congrArg₂ (fun x y : EReal => x + y) (congrArg₂ (fun x y : EReal => x + y) (congrArg₂ (fun x y : EReal => x + y) (read0 m c t r e) (read1 m c t 0 r e)) (read1 m c t 1 r e)) (read1 m c t 2 r e)).trans ?_
    exact (summed _ _ _ _).symm.trans (congrArg (total m c) (place m t r e).symm)
  · exact if_pos (Nat.zero_div _)

theorem result : Pipeline.afterTail pcfgs (fun _ => adm m (hO m)) (dats m (hO m)) 0 (V0 m) [hostOps1] c main_v3 = val_main_v2 (F := Ideal) (A0 m c) (A1 m c) := by
  unfold Pipeline.afterTail
  refine (half _).trans ?_
  funext y
  obtain ⟨r, e, rfl⟩ : ∃ (r : Fin 256) (e : Fin 256), y = (ix2 r e : S256x256.Idx) := ⟨y 0, y 1, eq_ix2 _⟩
  refine Eq.trans ?_ (covered m c r e)
  exact congrFun (Pipeline.withArrays_arr spec0 (launch0 (F := Ideal)).win.arr_inj c (V0 m c) (fun w => (dats m (hO m) 0 c).arrAt w (cfgM m (hO m)).N) 2) (ix3 0 r e : S2x256x256.Idx)

end Cert.RecvCoProof

namespace Cert.RecvCoClaims

open Idealize.ShloMosaic Idealize.SL.Sem Cert.RecvCoProof
open Cert.RecvCoRefIdeal.Read

theorem frame_kernel : Cert.quiescent_RecvCo := fun m ρ _ => Cert.RecvCo.Gen.frame m ρ (Cert.RecvCoTable.ok m)

theorem frame_ideal : Cert.quiescent_RecvCoIdeal := fun m ρ _ => Cert.RecvCoIdeal.Gen.frame m ρ (hO m)

theorem frame_reference : Cert.quiescent_RecvCoRefIdeal := fun m ρ _ =>
  (θ_run Cert.RecvCoRefIdeal.defs _ _).mono (fun r h => ⟨fun c => (h c).2, sem_eq_zero_of_no_sems (by decide) r.2⟩)
    (Cert.RecvCoRefIdeal.Value.run (F := Ideal) m ρ)

theorem preserves : Cert.preserves_RecvCo_RecvCoIdeal := trivial

theorem algebraic : Cert.algebraic_RecvCoIdeal_RecvCoRefIdeal := by
  intro m ρ m' ρ' _ hag
  have e0 (c : Dev Cert.RecvCoRefIdeal.nD) : _ = A0 m c := (hag c).1
  have e1 (c : Dev Cert.RecvCoRefIdeal.nD) : _ = A1 m c := (hag c).2
  refine ⟨fun c => val_main_v2 (F := Ideal) (A0 m c) (A1 m c), ?_, ?_⟩
  · exact (θ_run Cert.RecvCoIdeal.defs _ _).mono (fun r h c => ⟨((h.1 c).2 Cert.RecvCoIdeal.main_v3 (show Cert.RecvCoIdeal.main_v3 ∈ Pipeline.restRefs Cert.RecvCoIdeal.sig Cert.RecvCoIdeal.spec0 from by decide)).trans (result m c), h.2 c⟩)
      (θ_run_and (Cert.RecvCoIdeal.Gen.run_main (F := Ideal) m ρ (hO m)) (Cert.RecvCoIdeal.Gen.unchanged (F := Ideal) m ρ (hO m)))
  · refine (θ_run Cert.RecvCoRefIdeal.defs _ _).mono (fun r h c => ⟨(h c).1.trans ((val_main_v2_eq _ _).trans ?_), (h c).2⟩)
      (Cert.RecvCoRefIdeal.Value.run (F := Ideal) m' ρ')
    exact congrArg₂ (val_main_v2 (F := Ideal)) (e0 c) (e1 c)

end Cert.RecvCoClaims

end
-- ==== Proof.RecvOutProof.lean ====
module

public import proofs.«01_k».proof.Defs
public import proofs.«01_k».proof.Proof.Gen.RecvOut.Frame
public import proofs.«01_k».proof.Proof.Gen.RecvOutIdeal.Frame
public import proofs.«01_k».proof.Proof.Gen.RecvOutRefIdeal.Run
public import proofs.«01_k».proof.Proof.Gen.RecvOutRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The sum over the chips of the gradient of w_out: a device adds what it received from three chips to its own part. -/

@[expose] public section

set_option maxRecDepth 16384

noncomputable section

namespace Cert.RecvOutTable

open Cert.RecvOut Cert.RecvOut.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 1 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 1 := (i 0).isLt
  fin_cases a
  · exact (by decide : (0 + 1) * 1 ≤ 2)
  · show ((i 0).val + 1) * 128 ≤ 128
    omega
  · exact (by decide : (0 + 1) * 1024 ≤ 1024)

end Cert.RecvOutTable

namespace Cert.RecvOutIdealTable

open Cert.RecvOutIdeal Cert.RecvOutIdeal.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 1 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 1 := (i 0).isLt
  fin_cases a
  · exact (by decide : (0 + 1) * 1 ≤ 2)
  · show ((i 0).val + 1) * 128 ≤ 128
    omega
  · exact (by decide : (0 + 1) * 1024 ≤ 1024)

end Cert.RecvOutIdealTable

namespace Cert.RecvOutProof

open Cert.RecvOutIdeal Cert.RecvOutIdeal.Gen Idealize.ShloMosaic Idealize.ShloMosaic.TcCoe Idealize.SL.Sem
open Cert.RecvOutRefIdeal.Read

variable (m : (ℓ : Loc nD τ sig) → Buf (Elt Ideal) ℓ) (c : Dev nD)

abbrev hO : Ok m := Cert.RecvOutIdealTable.ok m

abbrev A0 : S128x1024.Idx → Elt Ideal .f32 := m ((c : Thread nD τ).loc main_arg0)
abbrev A1 : S3x128x1024.Idx → Elt Ideal .bf16 := m ((c : Thread nD τ).loc main_arg1)

theorem lt_points (t : Fin grid0.N) : t.val < 1 := t.isLt

theorem points0 : ∀ t : Fin grid0.N, cc0_transform_0 (grid0.coords t) = ![t.val, 0] := by decide +kernel
theorem points1 : ∀ t : Fin grid0.N, cc0_transform_1 (grid0.coords t) = ![0, t.val, 0] := by decide +kernel
theorem coord : ∀ t : Fin grid0.N, (grid0.coords t 0).val = t.val := by decide +kernel

theorem index0 (t : Fin grid0.N) : (Pipeline.PCfg.win (pcfg0 (F := Ideal)) (adm m (hO m)) 0).index t = ![t.val, 0] := points0 t
theorem index1 (t : Fin grid0.N) : (Pipeline.PCfg.win (pcfg0 (F := Ideal)) (adm m (hO m)) 1).index t = ![0, t.val, 0] := points1 t
theorem index2 (t : Fin grid0.N) : (Pipeline.PCfg.win (pcfg0 (F := Ideal)) (adm m (hO m)) 2).index t = ![0, t.val, 0] :=
  (Cert.RecvOutIdealTable.index m (grid0.coords t)).trans (by rw [coord])

/-- The table of zeros. -/
def Z : pre0.Contents (Elt Ideal) := fun | 0 => fun _ => 0#32

theorem tbl_eq : tbl m = Z := funext fun j => by
  obtain rfl : j = 0 := Subsingleton.elim _ _
  exact Cert.RecvOutIdealTable.zeros m

theorem ok_zeros (h : tbl m = Z) : ok0 Z := h ▸ hO m

theorem covers_zeros : ((cfg0 ⟨Z, ok_zeros (fun _ => default) (tbl_eq _)⟩).win 2).CoversWhere (fun β : Fin 3 → Nat => β 0 = 0) := by decide +kernel

theorem covers : ((cfgM m (hO m)).win 2).CoversWhere (fun β : Fin 3 → Nat => β 0 = 0) := by
  have h : ∀ a : (pcfg0 (F := Ideal)).Adm, a.1 = Z → ((cfg0 a).win 2).CoversWhere (fun β : Fin 3 → Nat => β 0 = 0) := by
    rintro ⟨_, h⟩ rfl
    exact covers_zeros
  exact h _ (tbl_eq m)

abbrev row (t : Fin grid0.N) (r : Fin 128) : Fin 128 := ⟨t.val * 128 + r.val, by have := lt_points t; have := r.isLt; omega⟩

theorem block0 (t : Fin grid0.N) (r : Fin 128) (e : Fin 1024) :
    iblk m (hO m) c 0 t (ix2 r e : S128x1024.Idx) = A0 m c (ix2 (row t r) e : S128x1024.Idx) := by
  blk_ext [iblk, V_main_arg0]
  · exact congrArg (· * 128 + r.val) (congrFun (index0 m t) 0)
  · exact (congrArg (· * 1024 + e.val) (congrFun (index0 m t) 1)).trans (by show 0 * 1024 + e.val = e.val; omega)

theorem block1 (t : Fin grid0.N) (k : Fin 3) (r : Fin 128) (e : Fin 1024) :
    iblk m (hO m) c 1 t (ix3 k r e : S3x128x1024.Idx) = A1 m c (ix3 k (row t r) e : S3x128x1024.Idx) := by
  blk_ext [iblk, V_main_arg1]
  · exact (congrArg (· * 3 + k.val) (congrFun (index1 m t) 0)).trans (by show 0 * 3 + k.val = k.val; omega)
  · exact congrArg (· * 128 + r.val) (congrFun (index1 m t) 1)
  · exact (congrArg (· * 1024 + e.val) (congrFun (index1 m t) 2)).trans (by show 0 * 1024 + e.val = e.val; omega)

/-- The half of the result that this device sums. -/
theorem half (W : Valuation τ sig (Elt Ideal)) : StableHlo.after ([hostOps1].flatten : List (HloOp τ sig (Elt Ideal))) W (Proc.devRef .tc main_v3) =
    fun j => W (Proc.devRef .tc main_v1) (ix3 0 (j 0) (j 1) : S2x128x1024.Idx) := by
  after_reads_simp
  funext y
  idx_vars y
  pointwise []

/-- The sum, in both halves. -/
def total : S2x128x1024.Idx → Elt Ideal .f32 := fun y => val_main_v2 (F := Ideal) (A0 m c) (A1 m c) (ix2 (y 1) (y 2) : S128x1024.Idx)

theorem summed (x0 : S128x1024.Idx → Elt Ideal .f32) (x1 : S3x128x1024.Idx → Elt Ideal .bf16) (r : Fin 128) (e : Fin 1024) :
    (val_main_v2 (F := Ideal) x0 x1 : S128x1024.Idx → EReal) (ix2 r e) = x0 (ix2 r e) + x1 (ix3 0 r e) + x1 (ix3 1 r e) + x1 (ix3 2 r e) := by
  pointwise [val_main_v0, val_main_v1, val_main_v2, val_main_cst]
  rw [Fin.sum_univ_three, ← add_assoc, ← add_assoc]

theorem place (t : Fin grid0.N) (r : Fin 128) (e : Fin 1024) :
    ((((spec0 2).arr.view.slice ((pcfg0.win (adm m (hO m)) 2).rect t)).emb (ix3 0 r e : S1x128x1024.Idx) : S2x128x1024.Idx)) = ix3 0 (row t r) e := by
  blk_ext []
  · exact congrArg (· + 0) (congrArg (· * 1) (congrFun (index2 m t) 0))
  · exact congrArg (· * 128 + r.val) (congrFun (index2 m t) 1)
  · exact (congrArg (· * 1024 + e.val) (congrFun (index2 m t) 2)).trans (by show 0 * 1024 + e.val = e.val; omega)

theorem read0 (t : Fin grid0.N) (r : Fin 128) (e : Fin 1024) :
    View.read (Elt Ideal) (ms0_0 m (hO m) t).view ((hs0_0 m (hO m) t).unread (iblk m (hO m) c 0 t)) (ix2 r e : S128x1024.Idx) = A0 m c (ix2 (row t r) e : S128x1024.Idx) :=
  (congrFun ((hs0_0 m (hO m) t).read_unread _) _).trans (block0 m c t r e)

theorem read1 (t : Fin grid0.N) (k : Fin 3) (r : Fin 128) (e : Fin 1024) :
    View.read (Elt Ideal) (ms0_1 m (hO m) t).view ((hs0_1 m (hO m) t).unread (iblk m (hO m) c 1 t)) (ix3 k r e : S3x128x1024.Idx) = A1 m c (ix3 k (row t r) e : S3x128x1024.Idx) :=
  (congrFun ((hs0_1 m (hO m) t).read_unread _) _).trans (block1 m c t k r e)

theorem covered (r : Fin 128) (e : Fin 1024) :
    (dats m (hO m) 0 c).arrAt 2 (cfgM m (hO m)).N (ix3 0 r e : S2x128x1024.Idx) = val_main_v2 (F := Ideal) (A0 m c) (A1 m c) (ix2 r e : S128x1024.Idx) := by
  refine ((dats m (hO m) 0 c).arrAt_emb_eq_of_coversWhere 2 (total m c) _ (covers m) (fun t hf (y : S1x128x1024.Idx) => ?_) (ix3 0 r e : S2x128x1024.Idx)).trans ?_
  · obtain ⟨z, r, e, rfl⟩ : ∃ (z : Fin 1) (r : Fin 128) (e : Fin 1024), y = (ix3 z r e : S1x128x1024.Idx) := ⟨y 0, y 1, y 2, eq_ix3 _⟩
    obtain rfl : z = 0 := Subsingleton.elim _ _
    blk_simp
    rw [after0_2]
    simp only [outsAt0]
    frame_out
    pointwise [k0_pay1]
    refine (congrArg₂ (fun x y : EReal => x + y) (congrArg₂ (fun x y : EReal => x + y) (congrArg₂ (fun x y : EReal => x + y) (read0 m c t r e) (read1 m c t 0 r e)) (read1 m c t 1 r e)) (read1 m c t 2 r e)).trans ?_
    exact (summed _ _ _ _).symm.trans (congrArg (total m c) (place m t r e).symm)
  · exact if_pos (Nat.zero_div _)

theorem result : Pipeline.afterTail pcfgs (fun _ => adm m (hO m)) (dats m (hO m)) 0 (V0 m) [hostOps1] c main_v3 = val_main_v2 (F := Ideal) (A0 m c) (A1 m c) := by
  unfold Pipeline.afterTail
  refine (half _).trans ?_
  funext y
  obtain ⟨r, e, rfl⟩ : ∃ (r : Fin 128) (e : Fin 1024), y = (ix2 r e : S128x1024.Idx) := ⟨y 0, y 1, eq_ix2 _⟩
  refine Eq.trans ?_ (covered m c r e)
  exact congrFun (Pipeline.withArrays_arr spec0 (launch0 (F := Ideal)).win.arr_inj c (V0 m c) (fun w => (dats m (hO m) 0 c).arrAt w (cfgM m (hO m)).N) 2) (ix3 0 r e : S2x128x1024.Idx)

end Cert.RecvOutProof

namespace Cert.RecvOutClaims

open Idealize.ShloMosaic Idealize.SL.Sem Cert.RecvOutProof
open Cert.RecvOutRefIdeal.Read

theorem frame_kernel : Cert.quiescent_RecvOut := fun m ρ _ => Cert.RecvOut.Gen.frame m ρ (Cert.RecvOutTable.ok m)

theorem frame_ideal : Cert.quiescent_RecvOutIdeal := fun m ρ _ => Cert.RecvOutIdeal.Gen.frame m ρ (hO m)

theorem frame_reference : Cert.quiescent_RecvOutRefIdeal := fun m ρ _ =>
  (θ_run Cert.RecvOutRefIdeal.defs _ _).mono (fun r h => ⟨fun c => (h c).2, sem_eq_zero_of_no_sems (by decide) r.2⟩)
    (Cert.RecvOutRefIdeal.Value.run (F := Ideal) m ρ)

theorem preserves : Cert.preserves_RecvOut_RecvOutIdeal := trivial

theorem algebraic : Cert.algebraic_RecvOutIdeal_RecvOutRefIdeal := by
  intro m ρ m' ρ' _ hag
  have e0 (c : Dev Cert.RecvOutRefIdeal.nD) : _ = A0 m c := (hag c).1
  have e1 (c : Dev Cert.RecvOutRefIdeal.nD) : _ = A1 m c := (hag c).2
  refine ⟨fun c => val_main_v2 (F := Ideal) (A0 m c) (A1 m c), ?_, ?_⟩
  · exact (θ_run Cert.RecvOutIdeal.defs _ _).mono (fun r h c => ⟨((h.1 c).2 Cert.RecvOutIdeal.main_v3 (show Cert.RecvOutIdeal.main_v3 ∈ Pipeline.restRefs Cert.RecvOutIdeal.sig Cert.RecvOutIdeal.spec0 from by decide)).trans (result m c), h.2 c⟩)
      (θ_run_and (Cert.RecvOutIdeal.Gen.run_main (F := Ideal) m ρ (hO m)) (Cert.RecvOutIdeal.Gen.unchanged (F := Ideal) m ρ (hO m)))
  · refine (θ_run Cert.RecvOutRefIdeal.defs _ _).mono (fun r h c => ⟨(h c).1.trans ((val_main_v2_eq _ _).trans ?_), (h c).2⟩)
      (Cert.RecvOutRefIdeal.Value.run (F := Ideal) m' ρ')
    exact congrArg₂ (val_main_v2 (F := Ideal)) (e0 c) (e1 c)

end Cert.RecvOutClaims

end
-- ==== Proof.RecvFfProof.lean ====
module

public import proofs.«01_k».proof.Defs
public import proofs.«01_k».proof.Proof.Gen.RecvFf.Frame
public import proofs.«01_k».proof.Proof.Gen.RecvFfIdeal.Frame
public import proofs.«01_k».proof.Proof.Gen.RecvFfRefIdeal.Run
public import proofs.«01_k».proof.Proof.Gen.RecvFfRefIdeal.Read
public import Idealize.ShloMosaic.Lib.Pipeline.ValueKit
public import Idealize.ShloMosaic.Lib.Claim
public import Idealize.ShloMosaic.Lib.StableHlo.RunRead
public import Idealize.ShloMosaic.Lib.Pipeline.FrameSuffix

/-! The sum over the chips of the gradient of w_ff1: a device adds what it received from three chips to its own part. -/

@[expose] public section

set_option maxRecDepth 16384

noncomputable section

namespace Cert.RecvFfTable

open Cert.RecvFf Cert.RecvFf.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 1 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 1 := (i 0).isLt
  fin_cases a
  · exact (by decide : (0 + 1) * 1 ≤ 2)
  · show ((i 0).val + 1) * 512 ≤ 512
    omega
  · exact (by decide : (0 + 1) * 1024 ≤ 1024)

end Cert.RecvFfTable

namespace Cert.RecvFfIdealTable

open Cert.RecvFfIdeal Cert.RecvFfIdeal.Gen Idealize.ShloMosaic Idealize.ShloMosaic.TcCoe Idealize.SL.Sem

variable {F : FTy → Type} [FloatOps F] (m : (ℓ : Loc nD τ sig) → Buf (Elt F) ℓ)

/-- The table holds zeros. -/
theorem zeros : tbl m 0 = fun _ => 0#32 := by
  refine Eq.trans (show tbl m 0 = StableHlo.after (List.flatten [hostOps0]) (fun b => m ((0 : Dev nD), b)) (Proc.devRef .tc main_v0) from rfl) ?_
  after_reads_simp
  rfl

theorem index (i : grid0.Coords) : cc0_transform_2 inb_S2_S1_1 numel1_S1 (tbl m) i = ![0, (i 0).val, 0] := by
  have e : (tbl m).at 0 (Rect.unit (s := S2) ![1] S1.size inb_S2_S1_1) numel1_S1 = 0#32 := congrFun (zeros m) _
  unfold cc0_transform_2
  rw [e]
  have h : (i 0).val < 1 := (i 0).isLt
  have h2 : (BitVec.ofNat 32 (i 0).val).toNat = (i 0).val := Nat.mod_eq_of_lt (by omega)
  simp only [h2]
  rfl

/-- The block that the table names is inside the array. -/
theorem ok : Ok m := by
  intro i
  refine ⟨fun a => ?_, .inl rfl⟩
  rw [index]
  have h : (i 0).val < 1 := (i 0).isLt
  fin_cases a
  · exact (by decide : (0 + 1) * 1 ≤ 2)
  · show ((i 0).val + 1) * 512 ≤ 512
    omega
  · exact (by decide : (0 + 1) * 1024 ≤ 1024)

end Cert.RecvFfIdealTable

namespace Cert.RecvFfProof

open Cert.RecvFfIdeal Cert.RecvFfIdeal.Gen Idealize.ShloMosaic Idealize.ShloMosaic.TcCoe Idealize.SL.Sem
open Cert.RecvFfRefIdeal.Read

variable (m : (ℓ : Loc nD τ sig) → Buf (Elt Ideal) ℓ) (c : Dev nD)

abbrev hO : Ok m := Cert.RecvFfIdealTable.ok m

abbrev A0 : S512x1024.Idx → Elt Ideal .f32 := m ((c : Thread nD τ).loc main_arg0)
abbrev A1 : S3x512x1024.Idx → Elt Ideal .bf16 := m ((c : Thread nD τ).loc main_arg1)

theorem lt_points (t : Fin grid0.N) : t.val < 1 := t.isLt

theorem points0 : ∀ t : Fin grid0.N, cc0_transform_0 (grid0.coords t) = ![t.val, 0] := by decide +kernel
theorem points1 : ∀ t : Fin grid0.N, cc0_transform_1 (grid0.coords t) = ![0, t.val, 0] := by decide +kernel
theorem coord : ∀ t : Fin grid0.N, (grid0.coords t 0).val = t.val := by decide +kernel

theorem index0 (t : Fin grid0.N) : (Pipeline.PCfg.win (pcfg0 (F := Ideal)) (adm m (hO m)) 0).index t = ![t.val, 0] := points0 t
theorem index1 (t : Fin grid0.N) : (Pipeline.PCfg.win (pcfg0 (F := Ideal)) (adm m (hO m)) 1).index t = ![0, t.val, 0] := points1 t
theorem index2 (t : Fin grid0.N) : (Pipeline.PCfg.win (pcfg0 (F := Ideal)) (adm m (hO m)) 2).index t = ![0, t.val, 0] :=
  (Cert.RecvFfIdealTable.index m (grid0.coords t)).trans (by rw [coord])

/-- The table of zeros. -/
def Z : pre0.Contents (Elt Ideal) := fun | 0 => fun _ => 0#32

theorem tbl_eq : tbl m = Z := funext fun j => by
  obtain rfl : j = 0 := Subsingleton.elim _ _
  exact Cert.RecvFfIdealTable.zeros m

theorem ok_zeros (h : tbl m = Z) : ok0 Z := h ▸ hO m

theorem covers_zeros : ((cfg0 ⟨Z, ok_zeros (fun _ => default) (tbl_eq _)⟩).win 2).CoversWhere (fun β : Fin 3 → Nat => β 0 = 0) := by decide +kernel

theorem covers : ((cfgM m (hO m)).win 2).CoversWhere (fun β : Fin 3 → Nat => β 0 = 0) := by
  have h : ∀ a : (pcfg0 (F := Ideal)).Adm, a.1 = Z → ((cfg0 a).win 2).CoversWhere (fun β : Fin 3 → Nat => β 0 = 0) := by
    rintro ⟨_, h⟩ rfl
    exact covers_zeros
  exact h _ (tbl_eq m)

abbrev row (t : Fin grid0.N) (r : Fin 512) : Fin 512 := ⟨t.val * 512 + r.val, by have := lt_points t; have := r.isLt; omega⟩

theorem block0 (t : Fin grid0.N) (r : Fin 512) (e : Fin 1024) :
    iblk m (hO m) c 0 t (ix2 r e : S512x1024.Idx) = A0 m c (ix2 (row t r) e : S512x1024.Idx) := by
  blk_ext [iblk, V_main_arg0]
  · exact congrArg (· * 512 + r.val) (congrFun (index0 m t) 0)
  · exact (congrArg (· * 1024 + e.val) (congrFun (index0 m t) 1)).trans (by show 0 * 1024 + e.val = e.val; omega)

theorem block1 (t : Fin grid0.N) (k : Fin 3) (r : Fin 512) (e : Fin 1024) :
    iblk m (hO m) c 1 t (ix3 k r e : S3x512x1024.Idx) = A1 m c (ix3 k (row t r) e : S3x512x1024.Idx) := by
  blk_ext [iblk, V_main_arg1]
  · exact (congrArg (· * 3 + k.val) (congrFun (index1 m t) 0)).trans (by show 0 * 3 + k.val = k.val; omega)
  · exact congrArg (· * 512 + r.val) (congrFun (index1 m t) 1)
  · exact (congrArg (· * 1024 + e.val) (congrFun (index1 m t) 2)).trans (by show 0 * 1024 + e.val = e.val; omega)

/-- The half of the result that this device sums. -/
theorem half (W : Valuation τ sig (Elt Ideal)) : StableHlo.after ([hostOps1].flatten : List (HloOp τ sig (Elt Ideal))) W (Proc.devRef .tc main_v3) =
    fun j => W (Proc.devRef .tc main_v1) (ix3 0 (j 0) (j 1) : S2x512x1024.Idx) := by
  after_reads_simp
  funext y
  idx_vars y
  pointwise []

/-- The sum, in both halves. -/
def total : S2x512x1024.Idx → Elt Ideal .f32 := fun y => val_main_v2 (F := Ideal) (A0 m c) (A1 m c) (ix2 (y 1) (y 2) : S512x1024.Idx)

theorem summed (x0 : S512x1024.Idx → Elt Ideal .f32) (x1 : S3x512x1024.Idx → Elt Ideal .bf16) (r : Fin 512) (e : Fin 1024) :
    (val_main_v2 (F := Ideal) x0 x1 : S512x1024.Idx → EReal) (ix2 r e) = x0 (ix2 r e) + x1 (ix3 0 r e) + x1 (ix3 1 r e) + x1 (ix3 2 r e) := by
  pointwise [val_main_v0, val_main_v1, val_main_v2, val_main_cst]
  rw [Fin.sum_univ_three, ← add_assoc, ← add_assoc]

theorem place (t : Fin grid0.N) (r : Fin 512) (e : Fin 1024) :
    ((((spec0 2).arr.view.slice ((pcfg0.win (adm m (hO m)) 2).rect t)).emb (ix3 0 r e : S1x512x1024.Idx) : S2x512x1024.Idx)) = ix3 0 (row t r) e := by
  blk_ext []
  · exact congrArg (· + 0) (congrArg (· * 1) (congrFun (index2 m t) 0))
  · exact congrArg (· * 512 + r.val) (congrFun (index2 m t) 1)
  · exact (congrArg (· * 1024 + e.val) (congrFun (index2 m t) 2)).trans (by show 0 * 1024 + e.val = e.val; omega)

theorem read0 (t : Fin grid0.N) (r : Fin 512) (e : Fin 1024) :
    View.read (Elt Ideal) (ms0_0 m (hO m) t).view ((hs0_0 m (hO m) t).unread (iblk m (hO m) c 0 t)) (ix2 r e : S512x1024.Idx) = A0 m c (ix2 (row t r) e : S512x1024.Idx) :=
  (congrFun ((hs0_0 m (hO m) t).read_unread _) _).trans (block0 m c t r e)

theorem read1 (t : Fin grid0.N) (k : Fin 3) (r : Fin 512) (e : Fin 1024) :
    View.read (Elt Ideal) (ms0_1 m (hO m) t).view ((hs0_1 m (hO m) t).unread (iblk m (hO m) c 1 t)) (ix3 k r e : S3x512x1024.Idx) = A1 m c (ix3 k (row t r) e : S3x512x1024.Idx) :=
  (congrFun ((hs0_1 m (hO m) t).read_unread _) _).trans (block1 m c t k r e)

theorem covered (r : Fin 512) (e : Fin 1024) :
    (dats m (hO m) 0 c).arrAt 2 (cfgM m (hO m)).N (ix3 0 r e : S2x512x1024.Idx) = val_main_v2 (F := Ideal) (A0 m c) (A1 m c) (ix2 r e : S512x1024.Idx) := by
  refine ((dats m (hO m) 0 c).arrAt_emb_eq_of_coversWhere 2 (total m c) _ (covers m) (fun t hf (y : S1x512x1024.Idx) => ?_) (ix3 0 r e : S2x512x1024.Idx)).trans ?_
  · obtain ⟨z, r, e, rfl⟩ : ∃ (z : Fin 1) (r : Fin 512) (e : Fin 1024), y = (ix3 z r e : S1x512x1024.Idx) := ⟨y 0, y 1, y 2, eq_ix3 _⟩
    obtain rfl : z = 0 := Subsingleton.elim _ _
    blk_simp
    rw [after0_2]
    simp only [outsAt0]
    frame_out
    pointwise [k0_pay1]
    refine (congrArg₂ (fun x y : EReal => x + y) (congrArg₂ (fun x y : EReal => x + y) (congrArg₂ (fun x y : EReal => x + y) (read0 m c t r e) (read1 m c t 0 r e)) (read1 m c t 1 r e)) (read1 m c t 2 r e)).trans ?_
    exact (summed _ _ _ _).symm.trans (congrArg (total m c) (place m t r e).symm)
  · exact if_pos (Nat.zero_div _)

theorem result : Pipeline.afterTail pcfgs (fun _ => adm m (hO m)) (dats m (hO m)) 0 (V0 m) [hostOps1] c main_v3 = val_main_v2 (F := Ideal) (A0 m c) (A1 m c) := by
  unfold Pipeline.afterTail
  refine (half _).trans ?_
  funext y
  obtain ⟨r, e, rfl⟩ : ∃ (r : Fin 512) (e : Fin 1024), y = (ix2 r e : S512x1024.Idx) := ⟨y 0, y 1, eq_ix2 _⟩
  refine Eq.trans ?_ (covered m c r e)
  exact congrFun (Pipeline.withArrays_arr spec0 (launch0 (F := Ideal)).win.arr_inj c (V0 m c) (fun w => (dats m (hO m) 0 c).arrAt w (cfgM m (hO m)).N) 2) (ix3 0 r e : S2x512x1024.Idx)

end Cert.RecvFfProof

namespace Cert.RecvFfClaims

open Idealize.ShloMosaic Idealize.SL.Sem Cert.RecvFfProof
open Cert.RecvFfRefIdeal.Read

theorem frame_kernel : Cert.quiescent_RecvFf := fun m ρ _ => Cert.RecvFf.Gen.frame m ρ (Cert.RecvFfTable.ok m)

theorem frame_ideal : Cert.quiescent_RecvFfIdeal := fun m ρ _ => Cert.RecvFfIdeal.Gen.frame m ρ (hO m)

theorem frame_reference : Cert.quiescent_RecvFfRefIdeal := fun m ρ _ =>
  (θ_run Cert.RecvFfRefIdeal.defs _ _).mono (fun r h => ⟨fun c => (h c).2, sem_eq_zero_of_no_sems (by decide) r.2⟩)
    (Cert.RecvFfRefIdeal.Value.run (F := Ideal) m ρ)

theorem preserves : Cert.preserves_RecvFf_RecvFfIdeal := trivial

theorem algebraic : Cert.algebraic_RecvFfIdeal_RecvFfRefIdeal := by
  intro m ρ m' ρ' _ hag
  have e0 (c : Dev Cert.RecvFfRefIdeal.nD) : _ = A0 m c := (hag c).1
  have e1 (c : Dev Cert.RecvFfRefIdeal.nD) : _ = A1 m c := (hag c).2
  refine ⟨fun c => val_main_v2 (F := Ideal) (A0 m c) (A1 m c), ?_, ?_⟩
  · exact (θ_run Cert.RecvFfIdeal.defs _ _).mono (fun r h c => ⟨((h.1 c).2 Cert.RecvFfIdeal.main_v3 (show Cert.RecvFfIdeal.main_v3 ∈ Pipeline.restRefs Cert.RecvFfIdeal.sig Cert.RecvFfIdeal.spec0 from by decide)).trans (result m c), h.2 c⟩)
      (θ_run_and (Cert.RecvFfIdeal.Gen.run_main (F := Ideal) m ρ (hO m)) (Cert.RecvFfIdeal.Gen.unchanged (F := Ideal) m ρ (hO m)))
  · refine (θ_run Cert.RecvFfRefIdeal.defs _ _).mono (fun r h c => ⟨(h c).1.trans ((val_main_v2_eq _ _).trans ?_), (h c).2⟩)
      (Cert.RecvFfRefIdeal.Value.run (F := Ideal) m' ρ')
    exact congrArg₂ (val_main_v2 (F := Ideal)) (e0 c) (e1 c)

end Cert.RecvFfClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.ConvClaims
public import proofs.«01_k».proof.Proof.Gen.Dff
public import proofs.«01_k».proof.Proof.Gen.Dff.Skeleton
public import proofs.«01_k».proof.Proof.Gen.Dff.Launch
public import proofs.«01_k».proof.Proof.Gen.Dff.Points
public import proofs.«01_k».proof.Proof.Gen.Dff.Frame
public import proofs.«01_k».proof.Proof.Gen.DffIdeal
public import proofs.«01_k».proof.Proof.Gen.DffIdeal.Skeleton
public import proofs.«01_k».proof.Proof.Gen.DffIdeal.Launch
public import proofs.«01_k».proof.Proof.Gen.DffIdeal.Points
public import proofs.«01_k».proof.Proof.Gen.DffIdeal.Frame
public import proofs.«01_k».proof.Proof.Gen.DffRefIdeal
public import proofs.«01_k».proof.Proof.Gen.DffRefIdeal.Run
public import proofs.«01_k».proof.Proof.Gen.DffRefIdeal.Read
public import proofs.«01_k».proof.Proof.Gen.DffIdeal.Value
public import proofs.«01_k».proof.Proof.DffProof
public import proofs.«01_k».proof.Proof.Gen.DwFf2
public import proofs.«01_k».proof.Proof.Gen.DwFf2.Skeleton
public import proofs.«01_k».proof.Proof.Gen.DwFf2.Launch
public import proofs.«01_k».proof.Proof.Gen.DwFf2.Points
public import proofs.«01_k».proof.Proof.Gen.DwFf2.Frame
public import proofs.«01_k».proof.Proof.Gen.DwFf2Ideal
public import proofs.«01_k».proof.Proof.Gen.DwFf2Ideal.Skeleton
public import proofs.«01_k».proof.Proof.Gen.DwFf2Ideal.Launch
public import proofs.«01_k».proof.Proof.Gen.DwFf2Ideal.Points
public import proofs.«01_k».proof.Proof.Gen.DwFf2Ideal.Frame
public import proofs.«01_k».proof.Proof.Gen.DwFf2RefIdeal
public import proofs.«01_k».proof.Proof.Gen.DwFf2RefIdeal.Run
public import proofs.«01_k».proof.Proof.Gen.DwFf2RefIdeal.Read
public import proofs.«01_k».proof.Proof.Gen.DwFf2Ideal.Value
public import proofs.«01_k».proof.Proof.DwFf2Proof
public import proofs.«01_k».proof.Proof.Gen.DwFf1
public import proofs.«01_k».proof.Proof.Gen.DwFf1.Skeleton
public import proofs.«01_k».proof.Proof.Gen.DwFf1.Launch
public import proofs.«01_k».proof.Proof.Gen.DwFf1.Points
public import proofs.«01_k».proof.Proof.Gen.DwFf1.Frame
public import proofs.«01_k».proof.Proof.Gen.DwFf1Ideal
public import proofs.«01_k».proof.Proof.Gen.DwFf1Ideal.Skeleton
public import proofs.«01_k».proof.Proof.Gen.DwFf1Ideal.Launch
public import proofs.«01_k».proof.Proof.Gen.DwFf1Ideal.Points
public import proofs.«01_k».proof.Proof.Gen.DwFf1Ideal.Frame
public import proofs.«01_k».proof.Proof.Gen.DwFf1RefIdeal
public import proofs.«01_k».proof.Proof.Gen.DwFf1RefIdeal.Run
public import proofs.«01_k».proof.Proof.Gen.DwFf1RefIdeal.Read
public import proofs.«01_k».proof.Proof.Gen.DwFf1Ideal.Value
public import proofs.«01_k».proof.Proof.DwFf1Proof
public import proofs.«01_k».proof.Proof.Gen.DhMlp
public import proofs.«01_k».proof.Proof.Gen.DhMlp.Skeleton
public import proofs.«01_k».proof.Proof.Gen.DhMlp.Launch
public import proofs.«01_k».proof.Proof.Gen.DhMlp.Points
public import proofs.«01_k».proof.Proof.Gen.DhMlp.Frame
public import proofs.«01_k».proof.Proof.Gen.DhMlpIdeal
public import proofs.«01_k».proof.Proof.Gen.DhMlpIdeal.Skeleton
public import proofs.«01_k».proof.Proof.Gen.DhMlpIdeal.Launch
public import proofs.«01_k».proof.Proof.Gen.DhMlpIdeal.Points
public import proofs.«01_k».proof.Proof.Gen.DhMlpIdeal.Frame
public import proofs.«01_k».proof.Proof.Gen.DhMlpRefIdeal
public import proofs.«01_k».proof.Proof.Gen.DhMlpRefIdeal.Run
public import proofs.«01_k».proof.Proof.Gen.DhMlpRefIdeal.Read
public import proofs.«01_k».proof.Proof.Gen.DhMlpIdeal.Value
public import proofs.«01_k».proof.Proof.DhMlpProof
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwInIdeal.Value
public import proofs.«01_k».proof.Proof.DwInProof
public import proofs.«01_k».proof.Proof.Gen.DhMix
public import proofs.«01_k».proof.Proof.Gen.DhMix.Skeleton
public import proofs.«01_k».proof.Proof.Gen.DhMix.Launch
public import proofs.«01_k».proof.Proof.Gen.DhMix.Points
public import proofs.«01_k».proof.Proof.Gen.DhMix.Frame
public import proofs.«01_k».proof.Proof.Gen.DhMixIdeal
public import proofs.«01_k».proof.Proof.Gen.DhMixIdeal.Skeleton
public import proofs.«01_k».proof.Proof.Gen.DhMixIdeal.Launch
public import proofs.«01_k».proof.Proof.Gen.DhMixIdeal.Points
public import proofs.«01_k».proof.Proof.Gen.DhMixIdeal.Frame
public import proofs.«01_k».proof.Proof.Gen.DhMixRefIdeal
public import proofs.«01_k».proof.Proof.Gen.DhMixRefIdeal.Run
public import proofs.«01_k».proof.Proof.Gen.DhMixRefIdeal.Read
public import proofs.«01_k».proof.Proof.Gen.DhMixIdeal.Value
public import proofs.«01_k».proof.Proof.DhMixProof
public import proofs.«01_k».proof.Proof.Gen.MmU
public import proofs.«01_k».proof.Proof.Gen.MmU.Skeleton
public import proofs.«01_k».proof.Proof.Gen.MmU.Launch
public import proofs.«01_k».proof.Proof.Gen.MmU.Points
public import proofs.«01_k».proof.Proof.Gen.MmU.Frame
public import proofs.«01_k».proof.Proof.Gen.MmUIdeal
public import proofs.«01_k».proof.Proof.Gen.MmUIdeal.Skeleton
public import proofs.«01_k».proof.Proof.Gen.MmUIdeal.Launch
public import proofs.«01_k».proof.Proof.Gen.MmUIdeal.Points
public import proofs.«01_k».proof.Proof.Gen.MmUIdeal.Frame
public import proofs.«01_k».proof.Proof.Gen.MmURefIdeal
public import proofs.«01_k».proof.Proof.Gen.MmURefIdeal.Run
public import proofs.«01_k».proof.Proof.Gen.MmURefIdeal.Read
public import proofs.«01_k».proof.Proof.Gen.MmUIdeal.Value
public import proofs.«01_k».proof.Proof.MmUProof
public import proofs.«01_k».proof.Proof.Gen.MmF
public import proofs.«01_k».proof.Proof.Gen.MmF.Skeleton
public import proofs.«01_k».proof.Proof.Gen.MmF.Launch
public import proofs.«01_k».proof.Proof.Gen.MmF.Points
public import proofs.«01_k».proof.Proof.Gen.MmF.Frame
public import proofs.«01_k».proof.Proof.Gen.MmFIdeal
public import proofs.«01_k».proof.Proof.Gen.MmFIdeal.Skeleton
public import proofs.«01_k».proof.Proof.Gen.MmFIdeal.Launch
public import proofs.«01_k».proof.Proof.Gen.MmFIdeal.Points
public import proofs.«01_k».proof.Proof.Gen.MmFIdeal.Frame
public import proofs.«01_k».proof.Proof.Gen.MmFRefIdeal
public import proofs.«01_k».proof.Proof.Gen.MmFRefIdeal.Run
public import proofs.«01_k».proof.Proof.Gen.MmFRefIdeal.Read
public import proofs.«01_k».proof.Proof.Gen.MmFIdeal.Value
public import proofs.«01_k».proof.Proof.MmFProof
public import proofs.«01_k».proof.Proof.Gen.MmOut
public import proofs.«01_k».proof.Proof.Gen.MmOut.Skeleton
public import proofs.«01_k».proof.Proof.Gen.MmOut.Launch
public import proofs.«01_k».proof.Proof.Gen.MmOut.Points
public import proofs.«01_k».proof.Proof.Gen.MmOut.Frame
public import proofs.«01_k».proof.Proof.Gen.MmOutIdeal
public import proofs.«01_k».proof.Proof.Gen.MmOutIdeal.Skeleton
public import proofs.«01_k».proof.Proof.Gen.MmOutIdeal.Launch
public import proofs.«01_k».proof.Proof.Gen.MmOutIdeal.Points
public import proofs.«01_k».proof.Proof.Gen.MmOutIdeal.Frame
public import proofs.«01_k».proof.Proof.Gen.MmOutRefIdeal
public import proofs.«01_k».proof.Proof.Gen.MmOutRefIdeal.Run
public import proofs.«01_k».proof.Proof.Gen.MmOutRefIdeal.Read
public import proofs.«01_k».proof.Proof.Gen.MmOutIdeal.Value
public import proofs.«01_k».proof.Proof.MmOutProof
public import proofs.«01_k».proof.Proof.Gen.AdSmall
public import proofs.«01_k».proof.Proof.Gen.AdSmall.Skeleton
public import proofs.«01_k».proof.Proof.Gen.AdSmall.Launch
public import proofs.«01_k».proof.Proof.Gen.AdSmall.Points
public import proofs.«01_k».proof.Proof.Gen.AdSmall.Frame
public import proofs.«01_k».proof.Proof.Gen.AdSmallIdeal
public import proofs.«01_k».proof.Proof.Gen.AdSmallIdeal.Skeleton
public import proofs.«01_k».proof.Proof.Gen.AdSmallIdeal.Launch
public import proofs.«01_k».proof.Proof.Gen.AdSmallIdeal.Points
public import proofs.«01_k».proof.Proof.Gen.AdSmallIdeal.Frame
public import proofs.«01_k».proof.Proof.Gen.AdSmallRefIdeal
public import proofs.«01_k».proof.Proof.Gen.AdSmallRefIdeal.Run
public import proofs.«01_k».proof.Proof.Gen.AdSmallRefIdeal.Read
public import proofs.«01_k».proof.Proof.AdSmallClaims
public import proofs.«01_k».proof.Proof.Gen.SumDev
public import proofs.«01_k».proof.Proof.Gen.SumDev.Skeleton
public import proofs.«01_k».proof.Proof.Gen.SumDev.Launch
public import proofs.«01_k».proof.Proof.Gen.SumDev.Points
public import proofs.«01_k».proof.Proof.Gen.SumDev.Frame
public import proofs.«01_k».proof.Proof.Gen.SumDevIdeal
public import proofs.«01_k».proof.Proof.Gen.SumDevIdeal.Skeleton
public import proofs.«01_k».proof.Proof.Gen.SumDevIdeal.Launch
public import proofs.«01_k».proof.Proof.Gen.SumDevIdeal.Points
public import proofs.«01_k».proof.Proof.Gen.SumDevIdeal.Frame
public import proofs.«01_k».proof.Proof.Gen.SumDevRefIdeal
public import proofs.«01_k».proof.Proof.Gen.SumDevRefIdeal.Run
public import proofs.«01_k».proof.Proof.Gen.SumDevRefIdeal.Read
public import proofs.«01_k».proof.Proof.SumDevProof
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.RmsBwdIdeal.Value
public import proofs.«01_k».proof.Proof.RmsBwdProof
public import proofs.«01_k».proof.Proof.Gen.AdIn0
public import proofs.«01_k».proof.Proof.Gen.AdIn0.Skeleton
public import proofs.«01_k».proof.Proof.Gen.AdIn0.Launch
public import proofs.«01_k».proof.Proof.Gen.AdIn0.Points
public import proofs.«01_k».proof.Proof.Gen.AdIn0.Frame
public import proofs.«01_k».proof.Proof.Gen.AdIn0Ideal
public import proofs.«01_k».proof.Proof.Gen.AdIn0Ideal.Skeleton
public import proofs.«01_k».proof.Proof.Gen.AdIn0Ideal.Launch
public import proofs.«01_k».proof.Proof.Gen.AdIn0Ideal.Points
public import proofs.«01_k».proof.Proof.Gen.AdIn0Ideal.Frame
public import proofs.«01_k».proof.Proof.Gen.AdIn0RefIdeal
public import proofs.«01_k».proof.Proof.Gen.AdIn0RefIdeal.Run
public import proofs.«01_k».proof.Proof.Gen.AdIn0RefIdeal.Read
public import proofs.«01_k».proof.Proof.Gen.AdIn0Ideal.Value
public import proofs.«01_k».proof.Proof.AdIn0Proof
public import proofs.«01_k».proof.Proof.Gen.AdIn1
public import proofs.«01_k».proof.Proof.Gen.AdIn1.Skeleton
public import proofs.«01_k».proof.Proof.Gen.AdIn1.Launch
public import proofs.«01_k».proof.Proof.Gen.AdIn1.Points
public import proofs.«01_k».proof.Proof.Gen.AdIn1.Frame
public import proofs.«01_k».proof.Proof.Gen.AdIn1Ideal
public import proofs.«01_k».proof.Proof.Gen.AdIn1Ideal.Skeleton
public import proofs.«01_k».proof.Proof.Gen.AdIn1Ideal.Launch
public import proofs.«01_k».proof.Proof.Gen.AdIn1Ideal.Points
public import proofs.«01_k».proof.Proof.Gen.AdIn1Ideal.Frame
public import proofs.«01_k».proof.Proof.Gen.AdIn1RefIdeal
public import proofs.«01_k».proof.Proof.Gen.AdIn1RefIdeal.Run
public import proofs.«01_k».proof.Proof.Gen.AdIn1RefIdeal.Read
public import proofs.«01_k».proof.Proof.Gen.AdIn1Ideal.Value
public import proofs.«01_k».proof.Proof.AdIn1Proof
public import proofs.«01_k».proof.Proof.Gen.AdIn2
public import proofs.«01_k».proof.Proof.Gen.AdIn2.Skeleton
public import proofs.«01_k».proof.Proof.Gen.AdIn2.Launch
public import proofs.«01_k».proof.Proof.Gen.AdIn2.Points
public import proofs.«01_k».proof.Proof.Gen.AdIn2.Frame
public import proofs.«01_k».proof.Proof.Gen.AdIn2Ideal
public import proofs.«01_k».proof.Proof.Gen.AdIn2Ideal.Skeleton
public import proofs.«01_k».proof.Proof.Gen.AdIn2Ideal.Launch
public import proofs.«01_k».proof.Proof.Gen.AdIn2Ideal.Points
public import proofs.«01_k».proof.Proof.Gen.AdIn2Ideal.Frame
public import proofs.«01_k».proof.Proof.Gen.AdIn2RefIdeal
public import proofs.«01_k».proof.Proof.Gen.AdIn2RefIdeal.Run
public import proofs.«01_k».proof.Proof.Gen.AdIn2RefIdeal.Read
public import proofs.«01_k».proof.Proof.Gen.AdIn2Ideal.Value
public import proofs.«01_k».proof.Proof.AdIn2Proof
public import proofs.«01_k».proof.Proof.Gen.AdIn3
public import proofs.«01_k».proof.Proof.Gen.AdIn3.Skeleton
public import proofs.«01_k».proof.Proof.Gen.AdIn3.Launch
public import proofs.«01_k».proof.Proof.Gen.AdIn3.Points
public import proofs.«01_k».proof.Proof.Gen.AdIn3.Frame
public import proofs.«01_k».proof.Proof.Gen.AdIn3Ideal
public import proofs.«01_k».proof.Proof.Gen.AdIn3Ideal.Skeleton
public import proofs.«01_k».proof.Proof.Gen.AdIn3Ideal.Launch
public import proofs.«01_k».proof.Proof.Gen.AdIn3Ideal.Points
public import proofs.«01_k».proof.Proof.Gen.AdIn3Ideal.Frame
public import proofs.«01_k».proof.Proof.Gen.AdIn3RefIdeal
public import proofs.«01_k».proof.Proof.Gen.AdIn3RefIdeal.Run
public import proofs.«01_k».proof.Proof.Gen.AdIn3RefIdeal.Read
public import proofs.«01_k».proof.Proof.Gen.AdIn3Ideal.Value
public import proofs.«01_k».proof.Proof.AdIn3Proof
public import proofs.«01_k».proof.Proof.Gen.AdCo0
public import proofs.«01_k».proof.Proof.Gen.AdCo0.Skeleton
public import proofs.«01_k».proof.Proof.Gen.AdCo0.Launch
public import proofs.«01_k».proof.Proof.Gen.AdCo0.Points
public import proofs.«01_k».proof.Proof.Gen.AdCo0.Frame
public import proofs.«01_k».proof.Proof.Gen.AdCo0Ideal
public import proofs.«01_k».proof.Proof.Gen.AdCo0Ideal.Skeleton
public import proofs.«01_k».proof.Proof.Gen.AdCo0Ideal.Launch
public import proofs.«01_k».proof.Proof.Gen.AdCo0Ideal.Points
public import proofs.«01_k».proof.Proof.Gen.AdCo0Ideal.Frame
public import proofs.«01_k».proof.Proof.Gen.AdCo0RefIdeal
public import proofs.«01_k».proof.Proof.Gen.AdCo0RefIdeal.Run
public import proofs.«01_k».proof.Proof.Gen.AdCo0RefIdeal.Read
public import proofs.«01_k».proof.Proof.Gen.AdCo0Ideal.Value
public import proofs.«01_k».proof.Proof.AdCo0Proof
public import proofs.«01_k».proof.Proof.Gen.AdCo1
public import proofs.«01_k».proof.Proof.Gen.AdCo1.Skeleton
public import proofs.«01_k».proof.Proof.Gen.AdCo1.Launch
public import proofs.«01_k».proof.Proof.Gen.AdCo1.Points
public import proofs.«01_k».proof.Proof.Gen.AdCo1.Frame
public import proofs.«01_k».proof.Proof.Gen.AdCo1Ideal
public import proofs.«01_k».proof.Proof.Gen.AdCo1Ideal.Skeleton
public import proofs.«01_k».proof.Proof.Gen.AdCo1Ideal.Launch
public import proofs.«01_k».proof.Proof.Gen.AdCo1Ideal.Points
public import proofs.«01_k».proof.Proof.Gen.AdCo1Ideal.Frame
public import proofs.«01_k».proof.Proof.Gen.AdCo1RefIdeal
public import proofs.«01_k».proof.Proof.Gen.AdCo1RefIdeal.Run
public import proofs.«01_k».proof.Proof.Gen.AdCo1RefIdeal.Read
public import proofs.«01_k».proof.Proof.Gen.AdCo1Ideal.Value
public import proofs.«01_k».proof.Proof.AdCo1Proof
public import proofs.«01_k».proof.Proof.Gen.AdCo2
public import proofs.«01_k».proof.Proof.Gen.AdCo2.Skeleton
public import proofs.«01_k».proof.Proof.Gen.AdCo2.Launch
public import proofs.«01_k».proof.Proof.Gen.AdCo2.Points
public import proofs.«01_k».proof.Proof.Gen.AdCo2.Frame
public import proofs.«01_k».proof.Proof.Gen.AdCo2Ideal
public import proofs.«01_k».proof.Proof.Gen.AdCo2Ideal.Skeleton
public import proofs.«01_k».proof.Proof.Gen.AdCo2Ideal.Launch
public import proofs.«01_k».proof.Proof.Gen.AdCo2Ideal.Points
public import proofs.«01_k».proof.Proof.Gen.AdCo2Ideal.Frame
public import proofs.«01_k».proof.Proof.Gen.AdCo2RefIdeal
public import proofs.«01_k».proof.Proof.Gen.AdCo2RefIdeal.Run
public import proofs.«01_k».proof.Proof.Gen.AdCo2RefIdeal.Read
public import proofs.«01_k».proof.Proof.Gen.AdCo2Ideal.Value
public import proofs.«01_k».proof.Proof.AdCo2Proof
public import proofs.«01_k».proof.Proof.Gen.AdCo3
public import proofs.«01_k».proof.Proof.Gen.AdCo3.Skeleton
public import proofs.«01_k».proof.Proof.Gen.AdCo3.Launch
public import proofs.«01_k».proof.Proof.Gen.AdCo3.Points
public import proofs.«01_k».proof.Proof.Gen.AdCo3.Frame
public import proofs.«01_k».proof.Proof.Gen.AdCo3Ideal
public import proofs.«01_k».proof.Proof.Gen.AdCo3Ideal.Skeleton
public import proofs.«01_k».proof.Proof.Gen.AdCo3Ideal.Launch
public import proofs.«01_k».proof.Proof.Gen.AdCo3Ideal.Points
public import proofs.«01_k».proof.Proof.Gen.AdCo3Ideal.Frame
public import proofs.«01_k».proof.Proof.Gen.AdCo3RefIdeal
public import proofs.«01_k».proof.Proof.Gen.AdCo3RefIdeal.Run
public import proofs.«01_k».proof.Proof.Gen.AdCo3RefIdeal.Read
public import proofs.«01_k».proof.Proof.Gen.AdCo3Ideal.Value
public import proofs.«01_k».proof.Proof.AdCo3Proof
public import proofs.«01_k».proof.Proof.Gen.AdOut0
public import proofs.«01_k».proof.Proof.Gen.AdOut0.Skeleton
public import proofs.«01_k».proof.Proof.Gen.AdOut0.Launch
public import proofs.«01_k».proof.Proof.Gen.AdOut0.Points
public import proofs.«01_k».proof.Proof.Gen.AdOut0.Frame
public import proofs.«01_k».proof.Proof.Gen.AdOut0Ideal
public import proofs.«01_k».proof.Proof.Gen.AdOut0Ideal.Skeleton
public import proofs.«01_k».proof.Proof.Gen.AdOut0Ideal.Launch
public import proofs.«01_k».proof.Proof.Gen.AdOut0Ideal.Points
public import proofs.«01_k».proof.Proof.Gen.AdOut0Ideal.Frame
public import proofs.«01_k».proof.Proof.Gen.AdOut0RefIdeal
public import proofs.«01_k».proof.Proof.Gen.AdOut0RefIdeal.Run
public import proofs.«01_k».proof.Proof.Gen.AdOut0RefIdeal.Read
public import proofs.«01_k».proof.Proof.Gen.AdOut0Ideal.Value
public import proofs.«01_k».proof.Proof.AdOut0Proof
public import proofs.«01_k».proof.Proof.Gen.AdOut1
public import proofs.«01_k».proof.Proof.Gen.AdOut1.Skeleton
public import proofs.«01_k».proof.Proof.Gen.AdOut1.Launch
public import proofs.«01_k».proof.Proof.Gen.AdOut1.Points
public import proofs.«01_k».proof.Proof.Gen.AdOut1.Frame
public import proofs.«01_k».proof.Proof.Gen.AdOut1Ideal
public import proofs.«01_k».proof.Proof.Gen.AdOut1Ideal.Skeleton
public import proofs.«01_k».proof.Proof.Gen.AdOut1Ideal.Launch
public import proofs.«01_k».proof.Proof.Gen.AdOut1Ideal.Points
public import proofs.«01_k».proof.Proof.Gen.AdOut1Ideal.Frame
public import proofs.«01_k».proof.Proof.Gen.AdOut1RefIdeal
public import proofs.«01_k».proof.Proof.Gen.AdOut1RefIdeal.Run
public import proofs.«01_k».proof.Proof.Gen.AdOut1RefIdeal.Read
public import proofs.«01_k».proof.Proof.Gen.AdOut1Ideal.Value
public import proofs.«01_k».proof.Proof.AdOut1Proof
public import proofs.«01_k».proof.Proof.Gen.AdOut2
public import proofs.«01_k».proof.Proof.Gen.AdOut2.Skeleton
public import proofs.«01_k».proof.Proof.Gen.AdOut2.Launch
public import proofs.«01_k».proof.Proof.Gen.AdOut2.Points
public import proofs.«01_k».proof.Proof.Gen.AdOut2.Frame
public import proofs.«01_k».proof.Proof.Gen.AdOut2Ideal
public import proofs.«01_k».proof.Proof.Gen.AdOut2Ideal.Skeleton
public import proofs.«01_k».proof.Proof.Gen.AdOut2Ideal.Launch
public import proofs.«01_k».proof.Proof.Gen.AdOut2Ideal.Points
public import proofs.«01_k».proof.Proof.Gen.AdOut2Ideal.Frame
public import proofs.«01_k».proof.Proof.Gen.AdOut2RefIdeal
public import proofs.«01_k».proof.Proof.Gen.AdOut2RefIdeal.Run
public import proofs.«01_k».proof.Proof.Gen.AdOut2RefIdeal.Read
public import proofs.«01_k».proof.Proof.Gen.AdOut2Ideal.Value
public import proofs.«01_k».proof.Proof.AdOut2Proof
public import proofs.«01_k».proof.Proof.Gen.AdOut3
public import proofs.«01_k».proof.Proof.Gen.AdOut3.Skeleton
public import proofs.«01_k».proof.Proof.Gen.AdOut3.Launch
public import proofs.«01_k».proof.Proof.Gen.AdOut3.Points
public import proofs.«01_k».proof.Proof.Gen.AdOut3.Frame
public import proofs.«01_k».proof.Proof.Gen.AdOut3Ideal
public import proofs.«01_k».proof.Proof.Gen.AdOut3Ideal.Skeleton
public import proofs.«01_k».proof.Proof.Gen.AdOut3Ideal.Launch
public import proofs.«01_k».proof.Proof.Gen.AdOut3Ideal.Points
public import proofs.«01_k».proof.Proof.Gen.AdOut3Ideal.Frame
public import proofs.«01_k».proof.Proof.Gen.AdOut3RefIdeal
public import proofs.«01_k».proof.Proof.Gen.AdOut3RefIdeal.Run
public import proofs.«01_k».proof.Proof.Gen.AdOut3RefIdeal.Read
public import proofs.«01_k».proof.Proof.Gen.AdOut3Ideal.Value
public import proofs.«01_k».proof.Proof.AdOut3Proof
public import proofs.«01_k».proof.Proof.Gen.AdFf0
public import proofs.«01_k».proof.Proof.Gen.AdFf0.Skeleton
public import proofs.«01_k».proof.Proof.Gen.AdFf0.Launch
public import proofs.«01_k».proof.Proof.Gen.AdFf0.Points
public import proofs.«01_k».proof.Proof.Gen.AdFf0.Frame
public import proofs.«01_k».proof.Proof.Gen.AdFf0Ideal
public import proofs.«01_k».proof.Proof.Gen.AdFf0Ideal.Skeleton
public import proofs.«01_k».proof.Proof.Gen.AdFf0Ideal.Launch
public import proofs.«01_k».proof.Proof.Gen.AdFf0Ideal.Points
public import proofs.«01_k».proof.Proof.Gen.AdFf0Ideal.Frame
public import proofs.«01_k».proof.Proof.Gen.AdFf0RefIdeal
public import proofs.«01_k».proof.Proof.Gen.AdFf0RefIdeal.Run
public import proofs.«01_k».proof.Proof.Gen.AdFf0RefIdeal.Read
public import proofs.«01_k».proof.Proof.Gen.AdFf0Ideal.Value
public import proofs.«01_k».proof.Proof.AdFf0Proof
public import proofs.«01_k».proof.Proof.Gen.AdFf1
public import proofs.«01_k».proof.Proof.Gen.AdFf1.Skeleton
public import proofs.«01_k».proof.Proof.Gen.AdFf1.Launch
public import proofs.«01_k».proof.Proof.Gen.AdFf1.Points
public import proofs.«01_k».proof.Proof.Gen.AdFf1.Frame
public import proofs.«01_k».proof.Proof.Gen.AdFf1Ideal
public import proofs.«01_k».proof.Proof.Gen.AdFf1Ideal.Skeleton
public import proofs.«01_k».proof.Proof.Gen.AdFf1Ideal.Launch
public import proofs.«01_k».proof.Proof.Gen.AdFf1Ideal.Points
public import proofs.«01_k».proof.Proof.Gen.AdFf1Ideal.Frame
public import proofs.«01_k».proof.Proof.Gen.AdFf1RefIdeal
public import proofs.«01_k».proof.Proof.Gen.AdFf1RefIdeal.Run
public import proofs.«01_k».proof.Proof.Gen.AdFf1RefIdeal.Read
public import proofs.«01_k».proof.Proof.Gen.AdFf1Ideal.Value
public import proofs.«01_k».proof.Proof.AdFf1Proof
public import proofs.«01_k».proof.Proof.Gen.AdFf2
public import proofs.«01_k».proof.Proof.Gen.AdFf2.Skeleton
public import proofs.«01_k».proof.Proof.Gen.AdFf2.Launch
public import proofs.«01_k».proof.Proof.Gen.AdFf2.Points
public import proofs.«01_k».proof.Proof.Gen.AdFf2.Frame
public import proofs.«01_k».proof.Proof.Gen.AdFf2Ideal
public import proofs.«01_k».proof.Proof.Gen.AdFf2Ideal.Skeleton
public import proofs.«01_k».proof.Proof.Gen.AdFf2Ideal.Launch
public import proofs.«01_k».proof.Proof.Gen.AdFf2Ideal.Points
public import proofs.«01_k».proof.Proof.Gen.AdFf2Ideal.Frame
public import proofs.«01_k».proof.Proof.Gen.AdFf2RefIdeal
public import proofs.«01_k».proof.Proof.Gen.AdFf2RefIdeal.Run
public import proofs.«01_k».proof.Proof.Gen.AdFf2RefIdeal.Read
public import proofs.«01_k».proof.Proof.Gen.AdFf2Ideal.Value
public import proofs.«01_k».proof.Proof.AdFf2Proof
public import proofs.«01_k».proof.Proof.Gen.AdFf3
public import proofs.«01_k».proof.Proof.Gen.AdFf3.Skeleton
public import proofs.«01_k».proof.Proof.Gen.AdFf3.Launch
public import proofs.«01_k».proof.Proof.Gen.AdFf3.Points
public import proofs.«01_k».proof.Proof.Gen.AdFf3.Frame
public import proofs.«01_k».proof.Proof.Gen.AdFf3Ideal
public import proofs.«01_k».proof.Proof.Gen.AdFf3Ideal.Skeleton
public import proofs.«01_k».proof.Proof.Gen.AdFf3Ideal.Launch
public import proofs.«01_k».proof.Proof.Gen.AdFf3Ideal.Points
public import proofs.«01_k».proof.Proof.Gen.AdFf3Ideal.Frame
public import proofs.«01_k».proof.Proof.Gen.AdFf3RefIdeal
public import proofs.«01_k».proof.Proof.Gen.AdFf3RefIdeal.Run
public import proofs.«01_k».proof.Proof.Gen.AdFf3RefIdeal.Read
public import proofs.«01_k».proof.Proof.Gen.AdFf3Ideal.Value
public import proofs.«01_k».proof.Proof.AdFf3Proof
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.LossHeadProof
public import proofs.«01_k».proof.Proof.Gen.RecvIn
public import proofs.«01_k».proof.Proof.Gen.RecvIn.Skeleton
public import proofs.«01_k».proof.Proof.Gen.RecvIn.Launch
public import proofs.«01_k».proof.Proof.Gen.RecvIn.Points
public import proofs.«01_k».proof.Proof.Gen.RecvIn.Frame
public import proofs.«01_k».proof.Proof.Gen.RecvInIdeal
public import proofs.«01_k».proof.Proof.Gen.RecvInIdeal.Skeleton
public import proofs.«01_k».proof.Proof.Gen.RecvInIdeal.Launch
public import proofs.«01_k».proof.Proof.Gen.RecvInIdeal.Points
public import proofs.«01_k».proof.Proof.Gen.RecvInIdeal.Frame
public import proofs.«01_k».proof.Proof.Gen.RecvInRefIdeal
public import proofs.«01_k».proof.Proof.Gen.RecvInRefIdeal.Run
public import proofs.«01_k».proof.Proof.Gen.RecvInRefIdeal.Read
public import proofs.«01_k».proof.Proof.RecvInProof
public import proofs.«01_k».proof.Proof.Gen.RecvCo
public import proofs.«01_k».proof.Proof.Gen.RecvCo.Skeleton
public import proofs.«01_k».proof.Proof.Gen.RecvCo.Launch
public import proofs.«01_k».proof.Proof.Gen.RecvCo.Points
public import proofs.«01_k».proof.Proof.Gen.RecvCo.Frame
public import proofs.«01_k».proof.Proof.Gen.RecvCoIdeal
public import proofs.«01_k».proof.Proof.Gen.RecvCoIdeal.Skeleton
public import proofs.«01_k».proof.Proof.Gen.RecvCoIdeal.Launch
public import proofs.«01_k».proof.Proof.Gen.RecvCoIdeal.Points
public import proofs.«01_k».proof.Proof.Gen.RecvCoIdeal.Frame
public import proofs.«01_k».proof.Proof.Gen.RecvCoRefIdeal
public import proofs.«01_k».proof.Proof.Gen.RecvCoRefIdeal.Run
public import proofs.«01_k».proof.Proof.Gen.RecvCoRefIdeal.Read
public import proofs.«01_k».proof.Proof.RecvCoProof
public import proofs.«01_k».proof.Proof.Gen.RecvOut
public import proofs.«01_k».proof.Proof.Gen.RecvOut.Skeleton
public import proofs.«01_k».proof.Proof.Gen.RecvOut.Launch
public import proofs.«01_k».proof.Proof.Gen.RecvOut.Points
public import proofs.«01_k».proof.Proof.Gen.RecvOut.Frame
public import proofs.«01_k».proof.Proof.Gen.RecvOutIdeal
public import proofs.«01_k».proof.Proof.Gen.RecvOutIdeal.Skeleton
public import proofs.«01_k».proof.Proof.Gen.RecvOutIdeal.Launch
public import proofs.«01_k».proof.Proof.Gen.RecvOutIdeal.Points
public import proofs.«01_k».proof.Proof.Gen.RecvOutIdeal.Frame
public import proofs.«01_k».proof.Proof.Gen.RecvOutRefIdeal
public import proofs.«01_k».proof.Proof.Gen.RecvOutRefIdeal.Run
public import proofs.«01_k».proof.Proof.Gen.RecvOutRefIdeal.Read
public import proofs.«01_k».proof.Proof.RecvOutProof
public import proofs.«01_k».proof.Proof.Gen.RecvFf
public import proofs.«01_k».proof.Proof.Gen.RecvFf.Skeleton
public import proofs.«01_k».proof.Proof.Gen.RecvFf.Launch
public import proofs.«01_k».proof.Proof.Gen.RecvFf.Points
public import proofs.«01_k».proof.Proof.Gen.RecvFf.Frame
public import proofs.«01_k».proof.Proof.Gen.RecvFfIdeal
public import proofs.«01_k».proof.Proof.Gen.RecvFfIdeal.Skeleton
public import proofs.«01_k».proof.Proof.Gen.RecvFfIdeal.Launch
public import proofs.«01_k».proof.Proof.Gen.RecvFfIdeal.Points
public import proofs.«01_k».proof.Proof.Gen.RecvFfIdeal.Frame
public import proofs.«01_k».proof.Proof.Gen.RecvFfRefIdeal
public import proofs.«01_k».proof.Proof.Gen.RecvFfRefIdeal.Run
public import proofs.«01_k».proof.Proof.Gen.RecvFfRefIdeal.Read
public import proofs.«01_k».proof.Proof.RecvFfProof
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Dff.Gen.facts, Cert.DffIdeal.Gen.facts, Cert.DffRefIdeal.Gen.facts,
  Cert.DwFf2.Gen.facts, Cert.DwFf2Ideal.Gen.facts, Cert.DwFf2RefIdeal.Gen.facts,
  Cert.DwFf1.Gen.facts, Cert.DwFf1Ideal.Gen.facts, Cert.DwFf1RefIdeal.Gen.facts,
  Cert.DhMlp.Gen.facts, Cert.DhMlpIdeal.Gen.facts, Cert.DhMlpRefIdeal.Gen.facts,
  Cert.DwIn.Gen.facts, Cert.DwInIdeal.Gen.facts, Cert.DwInRefIdeal.Gen.facts,
  Cert.DhMix.Gen.facts, Cert.DhMixIdeal.Gen.facts, Cert.DhMixRefIdeal.Gen.facts,
  Cert.MmU.Gen.facts, Cert.MmUIdeal.Gen.facts, Cert.MmURefIdeal.Gen.facts,
  Cert.MmF.Gen.facts, Cert.MmFIdeal.Gen.facts, Cert.MmFRefIdeal.Gen.facts,
  Cert.MmOut.Gen.facts, Cert.MmOutIdeal.Gen.facts, Cert.MmOutRefIdeal.Gen.facts,
  Cert.AdSmall.Gen.facts, Cert.AdSmallIdeal.Gen.facts, Cert.AdSmallRefIdeal.Gen.facts,
  Cert.SumDev.Gen.facts, Cert.SumDevIdeal.Gen.facts, Cert.SumDevRefIdeal.Gen.facts,
  Cert.RmsBwd.Gen.facts, Cert.RmsBwdIdeal.Gen.facts, Cert.RmsBwdRefIdeal.Gen.facts,
  Cert.AdIn0.Gen.facts, Cert.AdIn0Ideal.Gen.facts, Cert.AdIn0RefIdeal.Gen.facts,
  Cert.AdIn1.Gen.facts, Cert.AdIn1Ideal.Gen.facts, Cert.AdIn1RefIdeal.Gen.facts,
  Cert.AdIn2.Gen.facts, Cert.AdIn2Ideal.Gen.facts, Cert.AdIn2RefIdeal.Gen.facts,
  Cert.AdIn3.Gen.facts, Cert.AdIn3Ideal.Gen.facts, Cert.AdIn3RefIdeal.Gen.facts,
  Cert.AdCo0.Gen.facts, Cert.AdCo0Ideal.Gen.facts, Cert.AdCo0RefIdeal.Gen.facts,
  Cert.AdCo1.Gen.facts, Cert.AdCo1Ideal.Gen.facts, Cert.AdCo1RefIdeal.Gen.facts,
  Cert.AdCo2.Gen.facts, Cert.AdCo2Ideal.Gen.facts, Cert.AdCo2RefIdeal.Gen.facts,
  Cert.AdCo3.Gen.facts, Cert.AdCo3Ideal.Gen.facts, Cert.AdCo3RefIdeal.Gen.facts,
  Cert.AdOut0.Gen.facts, Cert.AdOut0Ideal.Gen.facts, Cert.AdOut0RefIdeal.Gen.facts,
  Cert.AdOut1.Gen.facts, Cert.AdOut1Ideal.Gen.facts, Cert.AdOut1RefIdeal.Gen.facts,
  Cert.AdOut2.Gen.facts, Cert.AdOut2Ideal.Gen.facts, Cert.AdOut2RefIdeal.Gen.facts,
  Cert.AdOut3.Gen.facts, Cert.AdOut3Ideal.Gen.facts, Cert.AdOut3RefIdeal.Gen.facts,
  Cert.AdFf0.Gen.facts, Cert.AdFf0Ideal.Gen.facts, Cert.AdFf0RefIdeal.Gen.facts,
  Cert.AdFf1.Gen.facts, Cert.AdFf1Ideal.Gen.facts, Cert.AdFf1RefIdeal.Gen.facts,
  Cert.AdFf2.Gen.facts, Cert.AdFf2Ideal.Gen.facts, Cert.AdFf2RefIdeal.Gen.facts,
  Cert.AdFf3.Gen.facts, Cert.AdFf3Ideal.Gen.facts, Cert.AdFf3RefIdeal.Gen.facts,
  Cert.LossHead.Gen.facts, Cert.LossHeadIdeal.Gen.facts, Cert.LossHeadRefIdeal.Gen.facts,
  Cert.RecvIn.Gen.facts, Cert.RecvInIdeal.Gen.facts, Cert.RecvInRefIdeal.Gen.facts,
  Cert.RecvCo.Gen.facts, Cert.RecvCoIdeal.Gen.facts, Cert.RecvCoRefIdeal.Gen.facts,
  Cert.RecvOut.Gen.facts, Cert.RecvOutIdeal.Gen.facts, Cert.RecvOutRefIdeal.Gen.facts,
  Cert.RecvFf.Gen.facts, Cert.RecvFfIdeal.Gen.facts, Cert.RecvFfRefIdeal.Gen.facts,
  ConvClaims.frame_kernel, ConvClaims.frame_ideal, ConvClaims.frame_reference,
  DffClaims.frame_kernel, DffClaims.frame_ideal, DffClaims.frame_reference,
  DwFf2Claims.frame_kernel, DwFf2Claims.frame_ideal, DwFf2Claims.frame_reference,
  DwFf1Claims.frame_kernel, DwFf1Claims.frame_ideal, DwFf1Claims.frame_reference,
  DhMlpClaims.frame_kernel, DhMlpClaims.frame_ideal, DhMlpClaims.frame_reference,
  DwInClaims.frame_kernel, DwInClaims.frame_ideal, DwInClaims.frame_reference,
  DhMixClaims.frame_kernel, DhMixClaims.frame_ideal, DhMixClaims.frame_reference,
  MmUClaims.frame_kernel, MmUClaims.frame_ideal, MmUClaims.frame_reference,
  MmFClaims.frame_kernel, MmFClaims.frame_ideal, MmFClaims.frame_reference,
  MmOutClaims.frame_kernel, MmOutClaims.frame_ideal, MmOutClaims.frame_reference,
  AdSmallClaims.frame_kernel, AdSmallClaims.frame_ideal, AdSmallClaims.frame_reference,
  SumDevClaims.frame_kernel, SumDevClaims.frame_ideal, SumDevClaims.frame_reference,
  RmsBwdClaims.frame_kernel, RmsBwdClaims.frame_ideal, RmsBwdClaims.frame_reference,
  AdIn0Claims.frame_kernel, AdIn0Claims.frame_ideal, AdIn0Claims.frame_reference,
  AdIn1Claims.frame_kernel, AdIn1Claims.frame_ideal, AdIn1Claims.frame_reference,
  AdIn2Claims.frame_kernel, AdIn2Claims.frame_ideal, AdIn2Claims.frame_reference,
  AdIn3Claims.frame_kernel, AdIn3Claims.frame_ideal, AdIn3Claims.frame_reference,
  AdCo0Claims.frame_kernel, AdCo0Claims.frame_ideal, AdCo0Claims.frame_reference,
  AdCo1Claims.frame_kernel, AdCo1Claims.frame_ideal, AdCo1Claims.frame_reference,
  AdCo2Claims.frame_kernel, AdCo2Claims.frame_ideal, AdCo2Claims.frame_reference,
  AdCo3Claims.frame_kernel, AdCo3Claims.frame_ideal, AdCo3Claims.frame_reference,
  AdOut0Claims.frame_kernel, AdOut0Claims.frame_ideal, AdOut0Claims.frame_reference,
  AdOut1Claims.frame_kernel, AdOut1Claims.frame_ideal, AdOut1Claims.frame_reference,
  AdOut2Claims.frame_kernel, AdOut2Claims.frame_ideal, AdOut2Claims.frame_reference,
  AdOut3Claims.frame_kernel, AdOut3Claims.frame_ideal, AdOut3Claims.frame_reference,
  AdFf0Claims.frame_kernel, AdFf0Claims.frame_ideal, AdFf0Claims.frame_reference,
  AdFf1Claims.frame_kernel, AdFf1Claims.frame_ideal, AdFf1Claims.frame_reference,
  AdFf2Claims.frame_kernel, AdFf2Claims.frame_ideal, AdFf2Claims.frame_reference,
  AdFf3Claims.frame_kernel, AdFf3Claims.frame_ideal, AdFf3Claims.frame_reference,
  LossHeadClaims.frame_kernel, LossHeadClaims.frame_ideal, LossHeadClaims.frame_reference,
  RecvInClaims.frame_kernel, RecvInClaims.frame_ideal, RecvInClaims.frame_reference,
  RecvCoClaims.frame_kernel, RecvCoClaims.frame_ideal, RecvCoClaims.frame_reference,
  RecvOutClaims.frame_kernel, RecvOutClaims.frame_ideal, RecvOutClaims.frame_reference,
  RecvFfClaims.frame_kernel, RecvFfClaims.frame_ideal, RecvFfClaims.frame_reference,
  ConvClaims.preserves, ConvClaims.algebraic,
  DffClaims.preserves, DffClaims.algebraic,
  DwFf2Claims.preserves, DwFf2Claims.algebraic,
  DwFf1Claims.preserves, DwFf1Claims.algebraic,
  DhMlpClaims.preserves, DhMlpClaims.algebraic,
  DwInClaims.preserves, DwInClaims.algebraic,
  DhMixClaims.preserves, DhMixClaims.algebraic,
  MmUClaims.preserves, MmUClaims.algebraic,
  MmFClaims.preserves, MmFClaims.algebraic,
  MmOutClaims.preserves, MmOutClaims.algebraic,
  AdSmallClaims.preserves, AdSmallClaims.algebraic,
  SumDevClaims.preserves, SumDevClaims.algebraic,
  RmsBwdClaims.preserves, RmsBwdClaims.algebraic,
  AdIn0Claims.preserves, AdIn0Claims.algebraic,
  AdIn1Claims.preserves, AdIn1Claims.algebraic,
  AdIn2Claims.preserves, AdIn2Claims.algebraic,
  AdIn3Claims.preserves, AdIn3Claims.algebraic,
  AdCo0Claims.preserves, AdCo0Claims.algebraic,
  AdCo1Claims.preserves, AdCo1Claims.algebraic,
  AdCo2Claims.preserves, AdCo2Claims.algebraic,
  AdCo3Claims.preserves, AdCo3Claims.algebraic,
  AdOut0Claims.preserves, AdOut0Claims.algebraic,
  AdOut1Claims.preserves, AdOut1Claims.algebraic,
  AdOut2Claims.preserves, AdOut2Claims.algebraic,
  AdOut3Claims.preserves, AdOut3Claims.algebraic,
  AdFf0Claims.preserves, AdFf0Claims.algebraic,
  AdFf1Claims.preserves, AdFf1Claims.algebraic,
  AdFf2Claims.preserves, AdFf2Claims.algebraic,
  AdFf3Claims.preserves, AdFf3Claims.algebraic,
  LossHeadClaims.preserves, LossHeadClaims.algebraic,
  RecvInClaims.preserves, RecvInClaims.algebraic,
  RecvCoClaims.preserves, RecvCoClaims.algebraic,
  RecvOutClaims.preserves, RecvOutClaims.algebraic,
  RecvFfClaims.preserves, RecvFfClaims.algebraic⟩

end Cert.Proof

end
